-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_v222) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v27) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10_3)) (v1 : (c : Dev Cert.Kernel2Ideal.nD) → Buf (Elt Ideal) ((c.tc : Thread Cert.Kernel2Ideal.nD Cert.Kernel2Ideal.τ).loc Cert.Kernel2Ideal.main_v10_0)) (v2 : (c : Dev Cert.Kernel2Ideal.nD) → Buf (Elt Ideal) ((c.tc : Thread Cert.Kernel2Ideal.nD Cert.Kernel2Ideal.τ).loc Cert.Kernel2Ideal.main_v10_1)) (v3 : (c : Dev Cert.Kernel2Ideal.nD) → Buf (Elt Ideal) ((c.tc : Thread Cert.Kernel2Ideal.nD Cert.Kernel2Ideal.τ).loc Cert.Kernel2Ideal.main_v10_2)) (v4 : (c : Dev Cert.Kernel2Ideal.nD) → Buf (Elt Ideal) ((c.tc : Thread Cert.Kernel2Ideal.nD Cert.Kernel2Ideal.τ).loc Cert.Kernel2Ideal.main_v10_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_3) = v0 c
          ∧ r.2.mem ((c.tc : Thread Cert.Kernel2Ideal.nD Cert.Kernel2Ideal.τ).loc Cert.Kernel2Ideal.main_v10_0) = v1 c
          ∧ r.2.mem ((c.tc : Thread Cert.Kernel2Ideal.nD Cert.Kernel2Ideal.τ).loc Cert.Kernel2Ideal.main_v10_1) = v2 c
          ∧ r.2.mem ((c.tc : Thread Cert.Kernel2Ideal.nD Cert.Kernel2Ideal.τ).loc Cert.Kernel2Ideal.main_v10_2) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v41) = v3 c
          ∧ r.2.mem ((c.tc : Thread Cert.Reference2Ideal.nD Cert.Reference2Ideal.τ).loc Cert.Reference2Ideal.main_v42) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v10_3)) (v1 : (c : Dev Cert.Kernel8Ideal.nD) → Buf (Elt Ideal) ((c.tc : Thread Cert.Kernel8Ideal.nD Cert.Kernel8Ideal.τ).loc Cert.Kernel8Ideal.main_v10_0)) (v2 : (c : Dev Cert.Kernel8Ideal.nD) → Buf (Elt Ideal) ((c.tc : Thread Cert.Kernel8Ideal.nD Cert.Kernel8Ideal.τ).loc Cert.Kernel8Ideal.main_v10_1)) (v3 : (c : Dev Cert.Kernel8Ideal.nD) → Buf (Elt Ideal) ((c.tc : Thread Cert.Kernel8Ideal.nD Cert.Kernel8Ideal.τ).loc Cert.Kernel8Ideal.main_v10_2)) (v4 : (c : Dev Cert.Kernel8Ideal.nD) → Buf (Elt Ideal) ((c.tc : Thread Cert.Kernel8Ideal.nD Cert.Kernel8Ideal.τ).loc Cert.Kernel8Ideal.main_v10_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_3) = v0 c
          ∧ r.2.mem ((c.tc : Thread Cert.Kernel8Ideal.nD Cert.Kernel8Ideal.τ).loc Cert.Kernel8Ideal.main_v10_0) = v1 c
          ∧ r.2.mem ((c.tc : Thread Cert.Kernel8Ideal.nD Cert.Kernel8Ideal.τ).loc Cert.Kernel8Ideal.main_v10_1) = v2 c
          ∧ r.2.mem ((c.tc : Thread Cert.Kernel8Ideal.nD Cert.Kernel8Ideal.τ).loc Cert.Kernel8Ideal.main_v10_2) = v3 c
          ∧ r.2.mem ((c.tc : Thread Cert.Kernel8Ideal.nD Cert.Kernel8Ideal.τ).loc Cert.Kernel8Ideal.main_v10_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_v38) = v2 c
          ∧ r.2.mem ((c.tc : Thread Cert.Reference8Ideal.nD Cert.Reference8Ideal.τ).loc Cert.Reference8Ideal.main_v41) = v3 c
          ∧ r.2.mem ((c.tc : Thread Cert.Reference8Ideal.nD Cert.Reference8Ideal.τ).loc Cert.Reference8Ideal.main_v42) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v10_3)) (v1 : (c : Dev Cert.Kernel9Ideal.nD) → Buf (Elt Ideal) ((c.tc : Thread Cert.Kernel9Ideal.nD Cert.Kernel9Ideal.τ).loc Cert.Kernel9Ideal.main_v10_0)) (v2 : (c : Dev Cert.Kernel9Ideal.nD) → Buf (Elt Ideal) ((c.tc : Thread Cert.Kernel9Ideal.nD Cert.Kernel9Ideal.τ).loc Cert.Kernel9Ideal.main_v10_1)) (v3 : (c : Dev Cert.Kernel9Ideal.nD) → Buf (Elt Ideal) ((c.tc : Thread Cert.Kernel9Ideal.nD Cert.Kernel9Ideal.τ).loc Cert.Kernel9Ideal.main_v10_2)) (v4 : (c : Dev Cert.Kernel9Ideal.nD) → Buf (Elt Ideal) ((c.tc : Thread Cert.Kernel9Ideal.nD Cert.Kernel9Ideal.τ).loc Cert.Kernel9Ideal.main_v10_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_3) = v0 c
          ∧ r.2.mem ((c.tc : Thread Cert.Kernel9Ideal.nD Cert.Kernel9Ideal.τ).loc Cert.Kernel9Ideal.main_v10_0) = v1 c
          ∧ r.2.mem ((c.tc : Thread Cert.Kernel9Ideal.nD Cert.Kernel9Ideal.τ).loc Cert.Kernel9Ideal.main_v10_1) = v2 c
          ∧ r.2.mem ((c.tc : Thread Cert.Kernel9Ideal.nD Cert.Kernel9Ideal.τ).loc Cert.Kernel9Ideal.main_v10_2) = v3 c
          ∧ r.2.mem ((c.tc : Thread Cert.Kernel9Ideal.nD Cert.Kernel9Ideal.τ).loc Cert.Kernel9Ideal.main_v10_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_v38) = v2 c
          ∧ r.2.mem ((c.tc : Thread Cert.Reference9Ideal.nD Cert.Reference9Ideal.τ).loc Cert.Reference9Ideal.main_v41) = v3 c
          ∧ r.2.mem ((c.tc : Thread Cert.Reference9Ideal.nD Cert.Reference9Ideal.τ).loc Cert.Reference9Ideal.main_v42) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v10_3)) (v1 : (c : Dev Cert.Kernel10Ideal.nD) → Buf (Elt Ideal) ((c.tc : Thread Cert.Kernel10Ideal.nD Cert.Kernel10Ideal.τ).loc Cert.Kernel10Ideal.main_v10_0)) (v2 : (c : Dev Cert.Kernel10Ideal.nD) → Buf (Elt Ideal) ((c.tc : Thread Cert.Kernel10Ideal.nD Cert.Kernel10Ideal.τ).loc Cert.Kernel10Ideal.main_v10_1)) (v3 : (c : Dev Cert.Kernel10Ideal.nD) → Buf (Elt Ideal) ((c.tc : Thread Cert.Kernel10Ideal.nD Cert.Kernel10Ideal.τ).loc Cert.Kernel10Ideal.main_v10_2)) (v4 : (c : Dev Cert.Kernel10Ideal.nD) → Buf (Elt Ideal) ((c.tc : Thread Cert.Kernel10Ideal.nD Cert.Kernel10Ideal.τ).loc Cert.Kernel10Ideal.main_v10_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_3) = v0 c
          ∧ r.2.mem ((c.tc : Thread Cert.Kernel10Ideal.nD Cert.Kernel10Ideal.τ).loc Cert.Kernel10Ideal.main_v10_0) = v1 c
          ∧ r.2.mem ((c.tc : Thread Cert.Kernel10Ideal.nD Cert.Kernel10Ideal.τ).loc Cert.Kernel10Ideal.main_v10_1) = v2 c
          ∧ r.2.mem ((c.tc : Thread Cert.Kernel10Ideal.nD Cert.Kernel10Ideal.τ).loc Cert.Kernel10Ideal.main_v10_2) = v3 c
          ∧ r.2.mem ((c.tc : Thread Cert.Kernel10Ideal.nD Cert.Kernel10Ideal.τ).loc Cert.Kernel10Ideal.main_v10_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v35) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_v41) = v3 c
          ∧ r.2.mem ((c.tc : Thread Cert.Reference10Ideal.nD Cert.Reference10Ideal.τ).loc Cert.Reference10Ideal.main_v42) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg1) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg1) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg1) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg1) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg1) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_arg1) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_v4) = v2 c
          ∧ r.2.mem ((c.tc : Thread Cert.Reference29Ideal.nD Cert.Reference29Ideal.τ).loc Cert.Reference29Ideal.main_v10) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v6) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v1_0)) (v1 : (c : Dev Cert.Kernel33Ideal.nD) → Buf (Elt Ideal) ((c.tc : Thread Cert.Kernel33Ideal.nD Cert.Kernel33Ideal.τ).loc Cert.Kernel33Ideal.main_v1_1)) (v2 : (c : Dev Cert.Kernel33Ideal.nD) → Buf (Elt Ideal) ((c.tc : Thread Cert.Kernel33Ideal.nD Cert.Kernel33Ideal.τ).loc Cert.Kernel33Ideal.main_v1_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0 c
          ∧ r.2.mem ((c.tc : Thread Cert.Kernel33Ideal.nD Cert.Kernel33Ideal.τ).loc Cert.Kernel33Ideal.main_v1_1) = v1 c
          ∧ r.2.mem ((c.tc : Thread Cert.Kernel33Ideal.nD Cert.Kernel33Ideal.τ).loc Cert.Kernel33Ideal.main_v1_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v50) = v0 c
          ∧ r.2.mem ((c.tc : Thread Cert.Reference33Ideal.nD Cert.Reference33Ideal.τ).loc Cert.Reference33Ideal.main_v51) = v1 c
          ∧ r.2.mem ((c.tc : Thread Cert.Reference33Ideal.nD Cert.Reference33Ideal.τ).loc Cert.Reference33Ideal.main_v72) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def Claim : Prop :=
  ∃ (hKernel : Cert.Kernel.Facts) (hKernelIdeal : Cert.KernelIdeal.Facts) (hReferenceIdeal : Cert.ReferenceIdeal.Facts) (hKernel5 : Cert.Kernel5.Facts) (hKernel5Ideal : Cert.Kernel5Ideal.Facts) (hReference5Ideal : Cert.Reference5Ideal.Facts) (hKernel2 : Cert.Kernel2.Facts) (hKernel2Ideal : Cert.Kernel2Ideal.Facts) (hReference2Ideal : Cert.Reference2Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel3 : Cert.Kernel3.Facts) (hKernel3Ideal : Cert.Kernel3Ideal.Facts) (hReference3Ideal : Cert.Reference3Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel4 : Cert.Kernel4.Facts) (hKernel4Ideal : Cert.Kernel4Ideal.Facts) (hReference4Ideal : Cert.Reference4Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel2_Kernel2Ideal
    ∧ algebraic_Kernel2Ideal_Reference2Ideal (hKernel2Ideal := hKernel2Ideal) (hReference2Ideal := hReference2Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel3_Kernel3Ideal
    ∧ algebraic_Kernel3Ideal_Reference3Ideal (hKernel3Ideal := hKernel3Ideal) (hReference3Ideal := hReference3Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel4_Kernel4Ideal
    ∧ algebraic_Kernel4Ideal_Reference4Ideal (hKernel4Ideal := hKernel4Ideal) (hReference4Ideal := hReference4Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S16384x4x64 : Shape := ⟨3, ![16384, 4, 64]⟩
abbrev S16384x4 : Shape := ⟨2, ![16384, 4]⟩
abbrev S_ : Shape := ⟨0, ![]⟩

class Facts : Prop where
  bcast_S_S16384x4x64 : S_.BroadcastsInDim S16384x4x64 (![] : Fin 0 → Fin S16384x4x64.rank)
  reducesTo_S16384x4x64_S_d0_1_2 : S16384x4x64.ReducesTo [0, 1, 2] S_
  h_S_ : 0 < S_.numel
  bcast_S_S16384x4 : S_.BroadcastsInDim S16384x4 (![] : Fin 0 → Fin S16384x4.rank)
  reducesTo_S16384x4_S_d0_1 : S16384x4.ReducesTo [0, 1] S_

variable [Facts]

def fn_part2 {F : FTy → Type} [FloatOps F] (main_arg7 : FVec F S16384x4x64 .f32) (main_v33 : IVec S_ 1) : IVec S_ 1 :=
  let main_v34 : FVec F S16384x4x64 .f32 := Host.absf main_arg7
  let main_cst_12 : FVec F S_ .f32 := constant S_ .f32 0x7F800000#32
  let main_v35 : FVec F S16384x4x64 .f32 := broadcastInDim S16384x4x64 ![] bcast_S_S16384x4x64 main_cst_12
  let main_v36 : IVec S16384x4x64 1 := cmpf .olt main_v34 main_v35
  let main_c_13 : IVec S_ 1 := constantI S_ 1 1#1
  let main_v37 : IVec S_ 1 := (fun x v => Host.reduce IntOp.andi x v reducesTo_S16384x4x64_S_d0_1_2 h_S_) main_v36 main_c_13
  let main_v38 : IVec S_ 1 := andi main_v33 main_v37
  main_v38

def fn_part1 {F : FTy → Type} [FloatOps F] (main_arg4 : FVec F S16384x4 .f32) (main_arg5 : FVec F S16384x4x64 .f32) (main_arg6 : FVec F S16384x4 .f32) (main_arg7 : FVec F S16384x4x64 .f32) (main_v13 : IVec S_ 1) (main_v16 : IVec S16384x4x64 1) : IVec S_ 1 :=
  let main_c_5 : IVec S_ 1 := constantI S_ 1 1#1
  let main_v17 : IVec S_ 1 := (fun x v => Host.reduce IntOp.andi x v reducesTo_S16384x4x64_S_d0_1_2 h_S_) main_v16 main_c_5
  let main_v18 : IVec S_ 1 := andi main_v13 main_v17
  let main_v19 : FVec F S16384x4 .f32 := Host.absf main_arg4
  let main_cst_6 : FVec F S_ .f32 := constant S_ .f32 0x7F800000#32
  let main_v20 : FVec F S16384x4 .f32 := broadcastInDim S16384x4 ![] bcast_S_S16384x4 main_cst_6
  let main_v21 : IVec S16384x4 1 := cmpf .olt main_v19 main_v20
  let main_c_7 : IVec S_ 1 := constantI S_ 1 1#1
  let main_v22 : IVec S_ 1 := (fun x v => Host.reduce IntOp.andi x v reducesTo_S16384x4_S_d0_1 h_S_) main_v21 main_c_7
  let main_v23 : IVec S_ 1 := andi main_v18 main_v22
  let main_v24 : FVec F S16384x4x64 .f32 := Host.absf main_arg5
  let main_cst_8 : FVec F S_ .f32 := constant S_ .f32 0x7F800000#32
  let main_v25 : FVec F S16384x4x64 .f32 := broadcastInDim S16384x4x64 ![] bcast_S_S16384x4x64 main_cst_8
  let main_v26 : IVec S16384x4x64 1 := cmpf .olt main_v24 main_v25
  let main_c_9 : IVec S_ 1 := constantI S_ 1 1#1
  let main_v27 : IVec S_ 1 := (fun x v => Host.reduce IntOp.andi x v reducesTo_S16384x4x64_S_d0_1_2 h_S_) main_v26 main_c_9
  let main_v28 : IVec S_ 1 := andi main_v23 main_v27
  let main_v29 : FVec F S16384x4 .f32 := Host.absf main_arg6
  let main_cst_10 : FVec F S_ .f32 := constant S_ .f32 0x7F800000#32
  let main_v30 : FVec F S16384x4 .f32 := broadcastInDim S16384x4 ![] bcast_S_S16384x4 main_cst_10
  let main_v31 : IVec S16384x4 1 := cmpf .olt main_v29 main_v30
  let main_c_11 : IVec S_ 1 := constantI S_ 1 1#1
  let main_v32 : IVec S_ 1 := (fun x v => Host.reduce IntOp.andi x v reducesTo_S16384x4_S_d0_1 h_S_) main_v31 main_c_11
  let main_v33 : IVec S_ 1 := andi main_v28 main_v32
  fn_part2 (F := F) main_arg7 main_v33

def fn {F : FTy → Type} [FloatOps F] (main_arg0 : FVec F S16384x4x64 .f32) (main_arg1 : FVec F S16384x4x64 .f32) (main_arg2 : FVec F S16384x4x64 .f32) (main_arg3 : FVec F S16384x4x64 .f32) (main_arg4 : FVec F S16384x4 .f32) (main_arg5 : FVec F S16384x4x64 .f32) (main_arg6 : FVec F S16384x4 .f32) (main_arg7 : FVec F S16384x4x64 .f32) : IVec S_ 1 :=
  let main_v0 : FVec F S16384x4x64 .f32 := Host.absf main_arg0
  let main_cst : FVec F S_ .f32 := constant S_ .f32 0x7F800000#32
  let main_v1 : FVec F S16384x4x64 .f32 := broadcastInDim S16384x4x64 ![] bcast_S_S16384x4x64 main_cst
  let main_v2 : IVec S16384x4x64 1 := cmpf .olt main_v0 main_v1
  let main_c : IVec S_ 1 := constantI S_ 1 1#1
  let main_v3 : IVec S_ 1 := (fun x v => Host.reduce IntOp.andi x v reducesTo_S16384x4x64_S_d0_1_2 h_S_) main_v2 main_c
  let main_v4 : FVec F S16384x4x64 .f32 := Host.absf main_arg1
  let main_cst_0 : FVec F S_ .f32 := constant S_ .f32 0x7F800000#32
  let main_v5 : FVec F S16384x4x64 .f32 := broadcastInDim S16384x4x64 ![] bcast_S_S16384x4x64 main_cst_0
  let main_v6 : IVec S16384x4x64 1 := cmpf .olt main_v4 main_v5
  let main_c_1 : IVec S_ 1 := constantI S_ 1 1#1
  let main_v7 : IVec S_ 1 := (fun x v => Host.reduce IntOp.andi x v reducesTo_S16384x4x64_S_d0_1_2 h_S_) main_v6 main_c_1
  let main_v8 : IVec S_ 1 := andi main_v3 main_v7
  let main_v9 : FVec F S16384x4x64 .f32 := Host.absf main_arg2
  let main_cst_2 : FVec F S_ .f32 := constant S_ .f32 0x7F800000#32
  let main_v10 : FVec F S16384x4x64 .f32 := broadcastInDim S16384x4x64 ![] bcast_S_S16384x4x64 main_cst_2
  let main_v11 : IVec S16384x4x64 1 := cmpf .olt main_v9 main_v10
  let main_c_3 : IVec S_ 1 := constantI S_ 1 1#1
  let main_v12 : IVec S_ 1 := (fun x v => Host.reduce IntOp.andi x v reducesTo_S16384x4x64_S_d0_1_2 h_S_) main_v11 main_c_3
  let main_v13 : IVec S_ 1 := andi main_v8 main_v12
  let main_v14 : FVec F S16384x4x64 .f32 := Host.absf main_arg3
  let main_cst_4 : FVec F S_ .f32 := constant S_ .f32 0x7F800000#32
  let main_v15 : FVec F S16384x4x64 .f32 := broadcastInDim S16384x4x64 ![] bcast_S_S16384x4x64 main_cst_4
  let main_v16 : IVec S16384x4x64 1 := cmpf .olt main_v14 main_v15
  fn_part1 (F := F) main_arg4 main_arg5 main_arg6 main_arg7 main_v13 main_v16
-- ==== Pre_finite5.lean ====
abbrev S16384x1024 : Shape := ⟨2, ![16384, 1024]⟩
abbrev S1024 : Shape := ⟨1, ![1024]⟩
abbrev S1x1024 : Shape := ⟨2, ![1, 1024]⟩
abbrev S2x1024x6400 : Shape := ⟨3, ![2, 1024, 6400]⟩
abbrev S16384x6400 : Shape := ⟨2, ![16384, 6400]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S2x1024x6400 : S_.BroadcastsInDim S2x1024x6400 (![] : Fin 0 → Fin S2x1024x6400.rank)
  reducesTo_S2x1024x6400_S_d0_1_2 : S2x1024x6400.ReducesTo [0, 1, 2] S_
  bcast_S_S16384x6400 : S_.BroadcastsInDim S16384x6400 (![] : Fin 0 → Fin S16384x6400.rank)
  reducesTo_S16384x6400_S_d0_1 : S16384x6400.ReducesTo [0, 1] S_

variable [Facts]

def fn_part1 {F : FTy → Type} [FloatOps F] (main_arg4 : FVec F S2x1024x6400 .f32) (main_arg5 : FVec F S16384x1024 .f32) (main_arg6 : FVec F S16384x6400 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S2x1024x6400 .f32 := Host.absf main_arg4
  let main_cst_6 : FVec F S_ .f32 := constant S_ .f32 0x7F800000#32
  let main_v20 : FVec F S2x1024x6400 .f32 := broadcastInDim S2x1024x6400 ![] bcast_S_S2x1024x6400 main_cst_6
  let main_v21 : IVec S2x1024x6400 1 := cmpf .olt main_v19 main_v20
  let main_c_7 : IVec S_ 1 := constantI S_ 1 1#1
  let main_v22 : IVec S_ 1 := (fun x v => Host.reduce IntOp.andi x v reducesTo_S2x1024x6400_S_d0_1_2 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  let main_v29 : FVec F S16384x6400 .f32 := Host.absf main_arg6
  let main_cst_10 : FVec F S_ .f32 := constant S_ .f32 0x7F800000#32
  let main_v30 : FVec F S16384x6400 .f32 := broadcastInDim S16384x6400 ![] bcast_S_S16384x6400 main_cst_10
  let main_v31 : IVec S16384x6400 1 := cmpf .olt main_v29 main_v30
  let main_c_11 : IVec S_ 1 := constantI S_ 1 1#1
  let main_v32 : IVec S_ 1 := (fun x v => Host.reduce IntOp.andi x v reducesTo_S16384x6400_S_d0_1 h_S_) main_v31 main_c_11
  let main_v33 : IVec S_ 1 := andi main_v28 main_v32
  main_v33

def fn {F : FTy → Type} [FloatOps F] (main_arg0 : FVec F S16384x1024 .f32) (main_arg1 : FVec F S1024 .f32) (main_arg2 : FVec F S1x1024 .f32) (main_arg3 : FVec F S1x1024 .f32) (main_arg4 : FVec F S2x1024x6400 .f32) (main_arg5 : FVec F S16384x1024 .f32) (main_arg6 : FVec F S16384x6400 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Kernel.lean ====
abbrev S16384x4x64 : Shape := ⟨3, ![16384, 4, 64]⟩
abbrev S16384x4 : Shape := ⟨2, ![16384, 4]⟩
abbrev S4096x1024 : Shape := ⟨2, ![4096, 1024]⟩
abbrev S512x256 : Shape := ⟨2, ![512, 256]⟩
abbrev S128x256 : Shape := ⟨2, ![128, 256]⟩
abbrev S640x256 : Shape := ⟨2, ![640, 256]⟩
abbrev S256x256 : Shape := ⟨2, ![256, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S16384x4x1 : Shape := ⟨3, ![16384, 4, 1]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1024x256 : Shape := ⟨2, ![1024, 256]⟩
abbrev S1152x256 : Shape := ⟨2, ![1152, 256]⟩

abbrev nBuf : Space → Nat
  | .hbm => 57
  | .vmem => 44
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S16384x4x64, .f32⟩
  | .hbm, ⟨4, _⟩ => ⟨S16384x4, .f32⟩
  | .hbm, ⟨5, _⟩ => ⟨S16384x4x64, .f32⟩
  | .hbm, ⟨6, _⟩ => ⟨S16384x4, .f32⟩
  | .hbm, ⟨7, _⟩ => ⟨S16384x4x64, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S16384x4x1, .f32⟩
  | .hbm, ⟨17, _⟩ => ⟨S16384x4x64, .f32⟩
  | .hbm, ⟨18, _⟩ => ⟨S4096x1024, .f32⟩
  | .hbm, ⟨19, _⟩ => ⟨S16384x4x1, .f32⟩
  | .hbm, ⟨20, _⟩ => ⟨S16384x4x64, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x16x64, .f32⟩
  | .hbm, ⟨47, _⟩ => ⟨S_, .f32⟩
  | .hbm, ⟨48, _⟩ => ⟨S4096x16, .f32⟩
  | .hbm, ⟨49, _⟩ => ⟨S4096x16x1, .f32⟩
  | .hbm, ⟨50, _⟩ => ⟨S4096x16x64, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x1024, .f32⟩
  | .hbm, ⟨55, _⟩ => ⟨S4096x1024, .f32⟩
  | .hbm, ⟨56, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1024x256, .bf16⟩
  | .local _ .vmem, ⟨15, _⟩ => ⟨S1024x256, .bf16⟩
  | .local _ .vmem, ⟨16, _⟩ => ⟨S128x256, .bf16⟩
  | .local _ .vmem, ⟨17, _⟩ => ⟨S128x256, .bf16⟩
  | .local _ .vmem, ⟨18, _⟩ => ⟨S1024x256, .bf16⟩
  | .local _ .vmem, ⟨19, _⟩ => ⟨S1024x256, .bf16⟩
  | .local _ .vmem, ⟨20, _⟩ => ⟨S128x256, .bf16⟩
  | .local _ .vmem, ⟨21, _⟩ => ⟨S128x256, .bf16⟩
  | .local _ .vmem, ⟨22, _⟩ => ⟨S1024x256, .bf16⟩
  | .local _ .vmem, ⟨23, _⟩ => ⟨S1024x256, .bf16⟩
  | .local _ .vmem, ⟨24, _⟩ => ⟨S128x256, .bf16⟩
  | .local _ .vmem, ⟨25, _⟩ => ⟨S128x256, .bf16⟩
  | .local _ .vmem, ⟨26, _⟩ => ⟨S1024x256, .bf16⟩
  | .local _ .vmem, ⟨27, _⟩ => ⟨S1024x256, .bf16⟩
  | .local _ .vmem, ⟨28, _⟩ => ⟨S128x256, .bf16⟩
  | .local _ .vmem, ⟨29, _⟩ => ⟨S128x256, .bf16⟩
  | .local _ .vmem, ⟨30, _⟩ => ⟨S1024x256, .f32⟩
  | .local _ .vmem, ⟨31, _⟩ => ⟨S1024x256, .f32⟩
  | .local _ .vmem, ⟨32, _⟩ => ⟨S128x256, .f32⟩
  | .local _ .vmem, ⟨33, _⟩ => ⟨S128x256, .f32⟩
  | .local _ .vmem, ⟨34, _⟩ => ⟨S1024x256, .f32⟩
  | .local _ .vmem, ⟨35, _⟩ => ⟨S1024x256, .f32⟩
  | .local _ .vmem, ⟨36, _⟩ => ⟨S128x256, .f32⟩
  | .local _ .vmem, ⟨37, _⟩ => ⟨S128x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | .local _ .vmem, ⟨41, _⟩ => ⟨S1024x256, .f32⟩
  | .local _ .vmem, ⟨42, _⟩ => ⟨S1024x256, .bf16⟩
  | .local _ .vmem, ⟨43, _⟩ => ⟨S1024x256, .bf16⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  ![v2.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  ![v2.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  ![v2.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  ![v2.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1024x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1024x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1024x256 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S16384x4x64 : Shape := ⟨3, ![16384, 4, 64]⟩
abbrev S16384x4 : Shape := ⟨2, ![16384, 4]⟩
abbrev S4096x4x4x64 : Shape := ⟨4, ![4096, 4, 4, 64]⟩
abbrev S4x4096x4x64 : Shape := ⟨4, ![4, 4096, 4, 64]⟩
abbrev S4x32x128x4x64 : Shape := ⟨5, ![4, 32, 128, 4, 64]⟩
abbrev S4x1x128x4x64 : Shape := ⟨5, ![4, 1, 128, 4, 64]⟩
abbrev S_ : Shape := ⟨0, ![]⟩
abbrev S4x31x128x4x64 : Shape := ⟨5, ![4, 31, 128, 4, 64]⟩
abbrev S4x32x256x4x64 : Shape := ⟨5, ![4, 32, 256, 4, 64]⟩
abbrev S4x32x4x128x256 : Shape := ⟨5, ![4, 32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x128x256 : Shape := ⟨4, ![32, 1, 128, 256]⟩
abbrev S4x32x4x128 : Shape := ⟨4, ![4, 32, 4, 128]⟩
abbrev S4x32x4x128x1 : Shape := ⟨5, ![4, 32, 4, 128, 1]⟩
abbrev S4x32x4x64x128 : Shape := ⟨5, ![4, 32, 4, 64, 128]⟩
abbrev S4x32x128x4 : Shape := ⟨4, ![4, 32, 128, 4]⟩
abbrev S4x32x128x4x1 : Shape := ⟨5, ![4, 32, 128, 4, 1]⟩
abbrev S4x4096x4 : Shape := ⟨3, ![4, 4096, 4]⟩
abbrev S4096x4x4 : Shape := ⟨3, ![4096, 4, 4]⟩
abbrev S1x16384x4 : Shape := ⟨3, ![1, 16384, 4]⟩
abbrev S3x16384x4 : Shape := ⟨3, ![3, 16384, 4]⟩
abbrev S3x16384x4x1 : Shape := ⟨4, ![3, 16384, 4, 1]⟩
abbrev S1x16384x4x64 : Shape := ⟨4, ![1, 16384, 4, 64]⟩
abbrev S3x16384x4x64 : Shape := ⟨4, ![3, 16384, 4, 64]⟩
abbrev S4x32x4x64x256 : Shape := ⟨5, ![4, 32, 4, 64, 256]⟩
abbrev S4x32x4x256x64 : Shape := ⟨5, ![4, 32, 4, 256, 64]⟩
abbrev S4x32x4x128x64 : Shape := ⟨5, ![4, 32, 4, 128, 64]⟩
abbrev S4096x1024 : Shape := ⟨2, ![4096, 1024]⟩

abbrev nBuf : Space → Nat
  | .hbm => 277
  | .vmem => 0
  | .smem => 0
  | _ => 0

abbrev hbmTy0_0 (i : Nat) : BufTy := match i % 128 with
  | 0 => ⟨S16384x4x64, .f32⟩
  | 1 => ⟨S16384x4x64, .f32⟩
  | 2 => ⟨S16384x4x64, .f32⟩
  | 3 => ⟨S16384x4x64, .f32⟩
  | 4 => ⟨S16384x4, .f32⟩
  | 5 => ⟨S16384x4x64, .f32⟩
  | 6 => ⟨S16384x4, .f32⟩
  | 7 => ⟨S16384x4x64, .f32⟩
  | 8 => ⟨S4096x4x4x64, .f32⟩
  | 9 => ⟨S4x4096x4x64, .f32⟩
  | 10 => ⟨S4x32x128x4x64, .f32⟩
  | 11 => ⟨S4096x4x4x64, .f32⟩
  | 12 => ⟨S4x4096x4x64, .f32⟩
  | 13 => ⟨S4x32x128x4x64, .f32⟩
  | 14 => ⟨S4x1x128x4x64, .f32⟩
  | 15 => ⟨S_, .f32⟩
  | 16 => ⟨S4x1x128x4x64, .f32⟩
  | 17 => ⟨S4x31x128x4x64, .f32⟩
  | 18 => ⟨S4x32x128x4x64, .f32⟩
  | 19 => ⟨S_, .f32⟩
  | 20 => ⟨S4x1x128x4x64, .f32⟩
  | 21 => ⟨S4x32x256x4x64, .f32⟩
  | 22 => ⟨S4096x4x4x64, .f32⟩
  | 23 => ⟨S4x4096x4x64, .f32⟩
  | 24 => ⟨S4x32x128x4x64, .f32⟩
  | 25 => ⟨S4x1x128x4x64, .f32⟩
  | 26 => ⟨S_, .f32⟩
  | 27 => ⟨S4x1x128x4x64, .f32⟩
  | 28 => ⟨S4x31x128x4x64, .f32⟩
  | 29 => ⟨S4x32x128x4x64, .f32⟩
  | 30 => ⟨S_, .f32⟩
  | 31 => ⟨S4x1x128x4x64, .f32⟩
  | 32 => ⟨S4x32x256x4x64, .f32⟩
  | 33 => ⟨S4x32x4x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S128x256, .i32⟩
  | 49 => ⟨S128x256, .i1⟩
  | 50 => ⟨S128x256, .i1⟩
  | 51 => ⟨S32, .i32⟩
  | 52 => ⟨S32x1x1, .i32⟩
  | 53 => ⟨S_, .i32⟩
  | 54 => ⟨S32x1x1, .i32⟩
  | 55 => ⟨S32x1x1, .i1⟩
  | 56 => ⟨S1x1x256, .i32⟩
  | 57 => ⟨S_, .i32⟩
  | 58 => ⟨S1x1x256, .i32⟩
  | 59 => ⟨S1x1x256, .i1⟩
  | 60 => ⟨S32x1x256, .i1⟩
  | 61 => ⟨S32x1x256, .i1⟩
  | 62 => ⟨S32x1x256, .i1⟩
  | 63 => ⟨S1x128x256, .i1⟩
  | 64 => ⟨S32x128x256, .i1⟩
  | 65 => ⟨S32x128x256, .i1⟩
  | 66 => ⟨S32x128x256, .i1⟩
  | 67 => ⟨S32x1x128x256, .i1⟩
  | 68 => ⟨S_, .f32⟩
  | 69 => ⟨S_, .f32⟩
  | 70 => ⟨S4x32x4x128x256, .i1⟩
  | 71 => ⟨S4x32x4x128x256, .f32⟩
  | 72 => ⟨S4x32x4x128x256, .f32⟩
  | 73 => ⟨S_, .f32⟩
  | 74 => ⟨S4x32x4x128x256, .f32⟩
  | 75 => ⟨S_, .f32⟩
  | 76 => ⟨S4x32x4x128, .f32⟩
  | 77 => ⟨S4x32x4x128x1, .f32⟩
  | 78 => ⟨S4x32x4x128x256, .f32⟩
  | 79 => ⟨S4x32x4x128x256, .i1⟩
  | 80 => ⟨S4x32x4x128x256, .f32⟩
  | 81 => ⟨S_, .f32⟩
  | 82 => ⟨S4x32x4x128, .f32⟩
  | 83 => ⟨S4x32x4x128x1, .f32⟩
  | 84 => ⟨S4x32x4x128x256, .f32⟩
  | 85 => ⟨S4x32x4x128x256, .f32⟩
  | 86 => ⟨S4x32x4x128x256, .f32⟩
  | 87 => ⟨S_, .f32⟩
  | 88 => ⟨S4x32x4x128, .f32⟩
  | 89 => ⟨S4x32x4x64x128, .f32⟩
  | 90 => ⟨S4x32x128x4x64, .f32⟩
  | 91 => ⟨S4x32x128x4, .f32⟩
  | 92 => ⟨S4x32x128x4x1, .f32⟩
  | 93 => ⟨S4x32x128x4x64, .f32⟩
  | 94 => ⟨S4x32x128x4x64, .f32⟩
  | 95 => ⟨S4x32x128x4x1, .f32⟩
  | 96 => ⟨S_, .f32⟩
  | 97 => ⟨S4x32x128x4x1, .f32⟩
  | 98 => ⟨S4x32x128x4x1, .f32⟩
  | 99 => ⟨S4x32x4x128, .f32⟩
  | 100 => ⟨S4x32x4x128, .f32⟩
  | 101 => ⟨S4x32x4x128, .f32⟩
  | 102 => ⟨S4x4096x4x64, .f32⟩
  | 103 => ⟨S4096x4x4x64, .f32⟩
  | 104 => ⟨S16384x4x64, .f32⟩
  | 105 => ⟨S4x32x128x4, .f32⟩
  | 106 => ⟨S4x4096x4, .f32⟩
  | 107 => ⟨S4096x4x4, .f32⟩
  | 108 => ⟨S16384x4, .f32⟩
  | 109 => ⟨S1x16384x4, .f32⟩
  | 110 => ⟨S1x16384x4, .f32⟩
  | 111 => ⟨S1x16384x4, .f32⟩
  | 112 => ⟨S3x16384x4, .f32⟩
  | 113 => ⟨S_, .f32⟩
  | 114 => ⟨S16384x4, .f32⟩
  | 115 => ⟨S_, .f32⟩
  | 116 => ⟨S16384x4, .f32⟩
  | 117 => ⟨S_, .f32⟩
  | 118 => ⟨S16384x4, .f32⟩
  | 119 => ⟨S1x16384x4, .f32⟩
  | 120 => ⟨S3x16384x4, .f32⟩
  | 121 => ⟨S3x16384x4, .i1⟩
  | 122 => ⟨S3x16384x4, .f32⟩
  | 123 => ⟨S_, .f32⟩
  | 124 => ⟨S16384x4, .f32⟩
  | 125 => ⟨S_, .f32⟩
  | 126 => ⟨S16384x4, .f32⟩
  | 127 => ⟨S16384x4, .f32⟩
  | _ => ⟨S16384x4x64, .f32⟩

abbrev hbmTy0_1 (i : Nat) : BufTy := match i % 128 with
  | 0 => ⟨S_, .f32⟩
  | 1 => ⟨S16384x4, .f32⟩
  | 2 => ⟨S16384x4, .i1⟩
  | 3 => ⟨S_, .f32⟩
  | 4 => ⟨S16384x4, .f32⟩
  | 5 => ⟨S16384x4, .i1⟩
  | 6 => ⟨S_, .f32⟩
  | 7 => ⟨S16384x4, .f32⟩
  | 8 => ⟨S_, .f32⟩
  | 9 => ⟨S16384x4, .f32⟩
  | 10 => ⟨S_, .f32⟩
  | 11 => ⟨S16384x4, .f32⟩
  | 12 => ⟨S16384x4, .f32⟩
  | 13 => ⟨S16384x4, .f32⟩
  | 14 => ⟨S1x16384x4, .f32⟩
  | 15 => ⟨S3x16384x4, .f32⟩
  | 16 => ⟨S3x16384x4, .f32⟩
  | 17 => ⟨S3x16384x4, .f32⟩
  | 18 => ⟨S_, .f32⟩
  | 19 => ⟨S16384x4, .f32⟩
  | 20 => ⟨S1x16384x4, .f32⟩
  | 21 => ⟨S3x16384x4, .f32⟩
  | 22 => ⟨S3x16384x4, .f32⟩
  | 23 => ⟨S1x16384x4, .f32⟩
  | 24 => ⟨S_, .f32⟩
  | 25 => ⟨S1x16384x4, .f32⟩
  | 26 => ⟨S1x16384x4, .f32⟩
  | 27 => ⟨S3x16384x4x1, .f32⟩
  | 28 => ⟨S1x16384x4x64, .f32⟩
  | 29 => ⟨S1x16384x4x64, .f32⟩
  | 30 => ⟨S1x16384x4x64, .f32⟩
  | 31 => ⟨S3x16384x4x64, .f32⟩
  | 32 => ⟨S_, .f32⟩
  | 33 => ⟨S16384x4x64, .f32⟩
  | 34 => ⟨S_, .f32⟩
  | 35 => ⟨S16384x4x64, .f32⟩
  | 36 => ⟨S3x16384x4x64, .f32⟩
  | 37 => ⟨S3x16384x4x64, .f32⟩
  | 38 => ⟨S_, .f32⟩
  | 39 => ⟨S16384x4x64, .f32⟩
  | 40 => ⟨S3x16384x4x64, .f32⟩
  | 41 => ⟨S3x16384x4x64, .f32⟩
  | 42 => ⟨S3x16384x4x64, .f32⟩
  | 43 => ⟨S3x16384x4x64, .f32⟩
  | 44 => ⟨S_, .f32⟩
  | 45 => ⟨S3x16384x4, .f32⟩
  | 46 => ⟨S3x16384x4x1, .f32⟩
  | 47 => ⟨S1x16384x4x64, .f32⟩
  | 48 => ⟨S16384x4x64, .f32⟩
  | 49 => ⟨S1x16384x4x64, .f32⟩
  | 50 => ⟨S16384x4x64, .f32⟩
  | 51 => ⟨S1x16384x4x64, .f32⟩
  | 52 => ⟨S16384x4x64, .f32⟩
  | 53 => ⟨S_, .f32⟩
  | 54 => ⟨S3x16384x4, .f32⟩
  | 55 => ⟨S3x16384x4, .f32⟩
  | 56 => ⟨S3x16384x4, .f32⟩
  | 57 => ⟨S3x16384x4, .f32⟩
  | 58 => ⟨S_, .f32⟩
  | 59 => ⟨S16384x4, .f32⟩
  | 60 => ⟨S1x16384x4, .f32⟩
  | 61 => ⟨S1x16384x4, .f32⟩
  | 62 => ⟨S3x16384x4, .f32⟩
  | 63 => ⟨S3x16384x4, .f32⟩
  | 64 => ⟨S_, .f32⟩
  | 65 => ⟨S16384x4, .f32⟩
  | 66 => ⟨S3x16384x4, .f32⟩
  | 67 => ⟨S3x16384x4, .f32⟩
  | 68 => ⟨S3x16384x4, .f32⟩
  | 69 => ⟨S1x16384x4, .f32⟩
  | 70 => ⟨S16384x4, .f32⟩
  | 71 => ⟨S1x16384x4, .f32⟩
  | 72 => ⟨S16384x4, .f32⟩
  | 73 => ⟨S1x16384x4, .f32⟩
  | 74 => ⟨S16384x4, .f32⟩
  | 75 => ⟨S4096x4x4, .f32⟩
  | 76 => ⟨S4x4096x4, .f32⟩
  | 77 => ⟨S4x32x128x4, .f32⟩
  | 78 => ⟨S4x32x4x128, .f32⟩
  | 79 => ⟨S4096x4x4x64, .f32⟩
  | 80 => ⟨S4x4096x4x64, .f32⟩
  | 81 => ⟨S4x32x128x4x64, .f32⟩
  | 82 => ⟨S4x32x4x128, .f32⟩
  | 83 => ⟨S4x32x4x128x1, .f32⟩
  | 84 => ⟨S4x32x128x4x64, .f32⟩
  | 85 => ⟨S4x32x128x4x64, .f32⟩
  | 86 => ⟨S4x32x128x4x64, .f32⟩
  | 87 => ⟨S_, .f32⟩
  | 88 => ⟨S4x32x128x4, .f32⟩
  | 89 => ⟨S4x32x128x4x1, .f32⟩
  | 90 => ⟨S4x32x128x4x1, .f32⟩
  | 91 => ⟨S4x32x128x4x64, .f32⟩
  | 92 => ⟨S4x32x128x4x64, .f32⟩
  | 93 => ⟨S_, .f32⟩
  | 94 => ⟨S4x32x128x4, .f32⟩
  | 95 => ⟨S4x32x4x128, .f32⟩
  | 96 => ⟨S4x32x4x128, .f32⟩
  | 97 => ⟨S4x32x4x64x128, .f32⟩
  | 98 => ⟨S4x32x4x128x256, .f32⟩
  | 99 => ⟨S4x32x4x64x256, .f32⟩
  | 100 => ⟨S4x32x256x4x64, .f32⟩
  | 101 => ⟨S4x32x4x128x256, .f32⟩
  | 102 => ⟨S4x32x4x128x256, .f32⟩
  | 103 => ⟨S4x32x4x128x256, .f32⟩
  | 104 => ⟨S4x32x4x128x256, .f32⟩
  | 105 => ⟨S_, .f32⟩
  | 106 => ⟨S4x32x4x128, .f32⟩
  | 107 => ⟨S4x32x4x128x1, .f32⟩
  | 108 => ⟨S4x32x4x128x1, .f32⟩
  | 109 => ⟨S_, .f32⟩
  | 110 => ⟨S4x32x4x128, .f32⟩
  | 111 => ⟨S4x32x4x128, .f32⟩
  | 112 => ⟨S4x32x4x128x256, .f32⟩
  | 113 => ⟨S4x32x4x128x256, .f32⟩
  | 114 => ⟨S4x32x4x128x256, .f32⟩
  | 115 => ⟨S_, .f32⟩
  | 116 => ⟨S4x32x4x128x256, .f32⟩
  | 117 => ⟨S4x32x4x128x256, .f32⟩
  | 118 => ⟨S4x32x4x256x64, .f32⟩
  | 119 => ⟨S4x32x256x4x64, .f32⟩
  | 120 => ⟨S4x32x4x128x64, .f32⟩
  | 121 => ⟨S4x32x128x4x64, .f32⟩
  | 122 => ⟨S4x32x128x4x64, .f32⟩
  | 123 => ⟨S4x32x128x4x64, .f32⟩
  | 124 => ⟨S4x1x128x4x64, .f32⟩
  | 125 => ⟨S4x31x128x4x64, .f32⟩
  | 126 => ⟨S_, .f32⟩
  | 127 => ⟨S4x32x128x4x64, .f32⟩
  | _ => ⟨S16384x4x64, .f32⟩

abbrev hbmTy0_2 (i : Nat) : BufTy := match i % 128 with
  | 0 => ⟨S4x32x128x4x64, .f32⟩
  | 1 => ⟨S4x4096x4x64, .f32⟩
  | 2 => ⟨S4096x4x4x64, .f32⟩
  | 3 => ⟨S16384x4x64, .f32⟩
  | 4 => ⟨S4x32x128x4x64, .f32⟩
  | 5 => ⟨S4x32x128x4x64, .f32⟩
  | 6 => ⟨S4x1x128x4x64, .f32⟩
  | 7 => ⟨S4x31x128x4x64, .f32⟩
  | 8 => ⟨S_, .f32⟩
  | 9 => ⟨S4x32x128x4x64, .f32⟩
  | 10 => ⟨S4x32x128x4x64, .f32⟩
  | 11 => ⟨S4x4096x4x64, .f32⟩
  | 12 => ⟨S4096x4x4x64, .f32⟩
  | 13 => ⟨S16384x4x64, .f32⟩
  | 14 => ⟨S4x4096x4x64, .f32⟩
  | 15 => ⟨S4096x4x4x64, .f32⟩
  | 16 => ⟨S16384x4x64, .f32⟩
  | 17 => ⟨S4096x1024, .f32⟩
  | 18 => ⟨S4096x1024, .f32⟩
  | 19 => ⟨S4096x1024, .f32⟩
  | 20 => ⟨S4096x1024, .bf16⟩
  | _ => ⟨S16384x4x64, .f32⟩

abbrev hbmTy (i : Nat) : BufTy := match i / 128 with
  | 0 => hbmTy0_0 i
  | 1 => hbmTy0_1 i
  | 2 => hbmTy0_2 i
  | _ => ⟨S16384x4x64, .f32⟩

abbrev bufTy : (tb : Table) → Fin (tcTables nBuf tb) → BufTy
  | .hbm, ⟨i, _⟩ => hbmTy i
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_call0_v0 : Ref sig .tc := ⟨.hbm, 69, rfl⟩
abbrev main_v51_1 : Ref sig .tc := ⟨.hbm, 70, rfl⟩
abbrev main_call0_v2 : Ref sig .tc := ⟨.hbm, 71, rfl⟩
abbrev main_v51_0 : Ref sig .tc := ⟨.hbm, 72, rfl⟩
abbrev main_call0_cst : Ref sig .tc := ⟨.hbm, 73, rfl⟩
abbrev main_v51_2 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_12 : Ref sig .tc := ⟨.hbm, 113, rfl⟩
abbrev main_v86 : Ref sig .tc := ⟨.hbm, 114, rfl⟩
abbrev main_cst_13 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_15 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_cst_18 : Ref sig .tc := ⟨.hbm, 131, rfl⟩
abbrev main_v98 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_cst_20 : Ref sig .tc := ⟨.hbm, 136, rfl⟩
abbrev main_v101 : Ref sig .tc := ⟨.hbm, 137, rfl⟩
abbrev main_cst_21 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_22 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_24 : Ref sig .tc := ⟨.hbm, 160, rfl⟩
abbrev main_v121 : Ref sig .tc := ⟨.hbm, 161, rfl⟩
abbrev main_cst_25 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_26 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_27 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_28 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_29 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_30 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_31 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_32 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_33 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_cst_34 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_call1_cst : Ref sig .tc := ⟨.hbm, 243, rfl⟩
abbrev main_call1_v0 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_35 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_cst_36 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1x1024 : Shape := ⟨2, ![1, 1024]⟩
abbrev S2x1024x6400 : Shape := ⟨3, ![2, 1024, 6400]⟩
abbrev S16384x6400 : Shape := ⟨2, ![16384, 6400]⟩
abbrev S16384x2304 : Shape := ⟨2, ![16384, 2304]⟩
abbrev S16384x2048 : Shape := ⟨2, ![16384, 2048]⟩
abbrev S1x1024x6400 : Shape := ⟨3, ![1, 1024, 6400]⟩
abbrev S1024x6400 : Shape := ⟨2, ![1024, 6400]⟩
abbrev S1024x2304 : Shape := ⟨2, ![1024, 2304]⟩
abbrev S1024x2048 : Shape := ⟨2, ![1024, 2048]⟩
abbrev S256x2304 : Shape := ⟨2, ![256, 2304]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S2x1024x6400, .f32⟩
  | .hbm, ⟨5, _⟩ => ⟨S16384x1024, .f32⟩
  | .hbm, ⟨6, _⟩ => ⟨S16384x6400, .f32⟩
  | .hbm, ⟨7, _⟩ => ⟨S16384x6400, .bf16⟩
  | .hbm, ⟨8, _⟩ => ⟨S16384x2304, .bf16⟩
  | .hbm, ⟨9, _⟩ => ⟨S16384x2048, .bf16⟩
  | .hbm, ⟨10, _⟩ => ⟨S16384x2048, .bf16⟩
  | .hbm, ⟨11, _⟩ => ⟨S1x1024x6400, .f32⟩
  | .hbm, ⟨12, _⟩ => ⟨S1024x6400, .f32⟩
  | .hbm, ⟨13, _⟩ => ⟨S1024x6400, .bf16⟩
  | .hbm, ⟨14, _⟩ => ⟨S1024x2304, .bf16⟩
  | .hbm, ⟨15, _⟩ => ⟨S1024x2048, .bf16⟩
  | .hbm, ⟨16, _⟩ => ⟨S1024x2048, .bf16⟩
  | .hbm, ⟨17, _⟩ => ⟨S1x1024, .f32⟩
  | .hbm, ⟨18, _⟩ => ⟨S16384x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S256x2304, .bf16⟩
  | .local _ .vmem, ⟨1, _⟩ => ⟨S256x2304, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1024x2304, .bf16⟩
  | .local _ .vmem, ⟨7, _⟩ => ⟨S1024x2048, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v65 : BitVec 1 := Scalar.cmpi .eq arg0 c63_i32
  let v66 : BitVec 32 := Scalar.extui v65
  let c0_i32_40 : BitVec 32 := 0#32
  let v67 : BitVec 1 := Scalar.cmpi .ne v66 c0_i32_40
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S16384x1024 : Shape := ⟨2, ![16384, 1024]⟩
abbrev S1024 : Shape := ⟨1, ![1024]⟩
abbrev S1x1024 : Shape := ⟨2, ![1, 1024]⟩
abbrev S2x1024x6400 : Shape := ⟨3, ![2, 1024, 6400]⟩
abbrev S16384x6400 : Shape := ⟨2, ![16384, 6400]⟩
abbrev S_ : Shape := ⟨0, ![]⟩
abbrev S16384 : Shape := ⟨1, ![16384]⟩
abbrev S16384x1 : Shape := ⟨2, ![16384, 1]⟩
abbrev S1x1024x6400 : Shape := ⟨3, ![1, 1024, 6400]⟩
abbrev S1024x6400 : Shape := ⟨2, ![1024, 6400]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S2x1024x6400, .f32⟩
  | .hbm, ⟨5, _⟩ => ⟨S16384x1024, .f32⟩
  | .hbm, ⟨6, _⟩ => ⟨S16384x6400, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1x1024x6400, .f32⟩
  | .hbm, ⟨35, _⟩ => ⟨S1024x6400, .f32⟩
  | .hbm, ⟨36, _⟩ => ⟨S16384x6400, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S2x2x1024x4x704 : Shape := ⟨5, ![2, 2, 1024, 4, 704]⟩
abbrev S4x2x2x1024x704 : Shape := ⟨5, ![4, 2, 2, 1024, 704]⟩
abbrev S2x2x4x704x1024 : Shape := ⟨5, ![2, 2, 4, 704, 1024]⟩
abbrev S4x2x2x704x1024 : Shape := ⟨5, ![4, 2, 2, 704, 1024]⟩
abbrev S4x16384x704 : Shape := ⟨3, ![4, 16384, 704]⟩
abbrev S512x1024 : Shape := ⟨2, ![512, 1024]⟩
abbrev S1x1x1x1024x704 : Shape := ⟨5, ![1, 1, 1, 1024, 704]⟩
abbrev S1x1x1x704x1024 : Shape := ⟨5, ![1, 1, 1, 704, 1024]⟩
abbrev S4x512x704 : Shape := ⟨3, ![4, 512, 704]⟩
abbrev S256x1024 : Shape := ⟨2, ![256, 1024]⟩
abbrev S256 : Shape := ⟨1, ![256]⟩
abbrev S256x1 : Shape := ⟨2, ![256, 1]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S2x2x1024x4x704, .f32⟩
  | .hbm, ⟨9, _⟩ => ⟨S4x2x2x1024x704, .f32⟩
  | .hbm, ⟨10, _⟩ => ⟨S4x2x2x1024x704, .bf16⟩
  | .hbm, ⟨11, _⟩ => ⟨S2x2x1024x4x704, .f32⟩
  | .hbm, ⟨12, _⟩ => ⟨S4x2x2x1024x704, .f32⟩
  | .hbm, ⟨13, _⟩ => ⟨S4x2x2x1024x704, .bf16⟩
  | .hbm, ⟨14, _⟩ => ⟨S2x2x4x704x1024, .f32⟩
  | .hbm, ⟨15, _⟩ => ⟨S4x2x2x704x1024, .f32⟩
  | .hbm, ⟨16, _⟩ => ⟨S4x2x2x704x1024, .bf16⟩
  | .hbm, ⟨17, _⟩ => ⟨S1x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1x1024x704, .bf16⟩
  | .local _ .vmem, ⟨7, _⟩ => ⟨S1x1x1x1024x704, .bf16⟩
  | .local _ .vmem, ⟨8, _⟩ => ⟨S1x1x1x1024x704, .bf16⟩
  | .local _ .vmem, ⟨9, _⟩ => ⟨S1x1x1x1024x704, .bf16⟩
  | .local _ .vmem, ⟨10, _⟩ => ⟨S1x1x1x1024x704, .bf16⟩
  | .local _ .vmem, ⟨11, _⟩ => ⟨S1x1x1x1024x704, .bf16⟩
  | .local _ .vmem, ⟨12, _⟩ => ⟨S1x1x1x1024x704, .bf16⟩
  | .local _ .vmem, ⟨13, _⟩ => ⟨S1x1x1x1024x704, .bf16⟩
  | .local _ .vmem, ⟨14, _⟩ => ⟨S1x1x1x704x1024, .bf16⟩
  | .local _ .vmem, ⟨15, _⟩ => ⟨S1x1x1x704x1024, .bf16⟩
  | .local _ .vmem, ⟨16, _⟩ => ⟨S1x1x1x704x1024, .bf16⟩
  | .local _ .vmem, ⟨17, _⟩ => ⟨S1x1x1x704x1024, .bf16⟩
  | .local _ .vmem, ⟨18, _⟩ => ⟨S512x1024, .bf16⟩
  | .local _ .vmem, ⟨19, _⟩ => ⟨S512x1024, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S4x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_7 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c2_i32.toNat, c0_i32.toNat, c0_i32_0.toNat, c0_i32_1.toNat, c0_i32_2.toNat]

def cc0_transform_8 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c3_i32.toNat, c0_i32.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_10 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_11 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c2_i32.toNat, c0_i32.toNat, c0_i32_0.toNat, c0_i32_1.toNat, c0_i32_2.toNat]

def cc0_transform_12 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c3_i32.toNat, c0_i32.toNat, c0_i32_0.toNat, c0_i32_1.toNat, c0_i32_2.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_14 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_15 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c2_i32.toNat, c0_i32.toNat, c0_i32_0.toNat, c0_i32_1.toNat, c0_i32_2.toNat]

def cc0_transform_16 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c3_i32.toNat, c0_i32.toNat, c0_i32_0.toNat, c0_i32_1.toNat, c0_i32_2.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024x704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1x704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x704 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel2Ideal.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S2x2x1024x4x704 : Shape := ⟨5, ![2, 2, 1024, 4, 704]⟩
abbrev S4x2x2x1024x704 : Shape := ⟨5, ![4, 2, 2, 1024, 704]⟩
abbrev S2x2x4x704x1024 : Shape := ⟨5, ![2, 2, 4, 704, 1024]⟩
abbrev S4x2x2x704x1024 : Shape := ⟨5, ![4, 2, 2, 704, 1024]⟩
abbrev S4x16384x704 : Shape := ⟨3, ![4, 16384, 704]⟩
abbrev S512x1024 : Shape := ⟨2, ![512, 1024]⟩
abbrev S1x1x1x1024x704 : Shape := ⟨5, ![1, 1, 1, 1024, 704]⟩
abbrev S1x1x1x704x1024 : Shape := ⟨5, ![1, 1, 1, 704, 1024]⟩
abbrev S4x512x704 : Shape := ⟨3, ![4, 512, 704]⟩
abbrev S256x1024 : Shape := ⟨2, ![256, 1024]⟩
abbrev S256 : Shape := ⟨1, ![256]⟩
abbrev S256x1 : Shape := ⟨2, ![256, 1]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S2x2x1024x4x704, .f32⟩
  | .hbm, ⟨9, _⟩ => ⟨S4x2x2x1024x704, .f32⟩
  | .hbm, ⟨10, _⟩ => ⟨S4x2x2x1024x704, .bf16⟩
  | .hbm, ⟨11, _⟩ => ⟨S2x2x1024x4x704, .f32⟩
  | .hbm, ⟨12, _⟩ => ⟨S4x2x2x1024x704, .f32⟩
  | .hbm, ⟨13, _⟩ => ⟨S4x2x2x1024x704, .bf16⟩
  | .hbm, ⟨14, _⟩ => ⟨S2x2x4x704x1024, .f32⟩
  | .hbm, ⟨15, _⟩ => ⟨S4x2x2x704x1024, .f32⟩
  | .hbm, ⟨16, _⟩ => ⟨S4x2x2x704x1024, .bf16⟩
  | .hbm, ⟨17, _⟩ => ⟨S1x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1x1024x704, .bf16⟩
  | .local _ .vmem, ⟨7, _⟩ => ⟨S1x1x1x1024x704, .bf16⟩
  | .local _ .vmem, ⟨8, _⟩ => ⟨S1x1x1x1024x704, .bf16⟩
  | .local _ .vmem, ⟨9, _⟩ => ⟨S1x1x1x1024x704, .bf16⟩
  | .local _ .vmem, ⟨10, _⟩ => ⟨S1x1x1x1024x704, .bf16⟩
  | .local _ .vmem, ⟨11, _⟩ => ⟨S1x1x1x1024x704, .bf16⟩
  | .local _ .vmem, ⟨12, _⟩ => ⟨S1x1x1x1024x704, .bf16⟩
  | .local _ .vmem, ⟨13, _⟩ => ⟨S1x1x1x1024x704, .bf16⟩
  | .local _ .vmem, ⟨14, _⟩ => ⟨S1x1x1x704x1024, .bf16⟩
  | .local _ .vmem, ⟨15, _⟩ => ⟨S1x1x1x704x1024, .bf16⟩
  | .local _ .vmem, ⟨16, _⟩ => ⟨S1x1x1x704x1024, .bf16⟩
  | .local _ .vmem, ⟨17, _⟩ => ⟨S1x1x1x704x1024, .bf16⟩
  | .local _ .vmem, ⟨18, _⟩ => ⟨S512x1024, .bf16⟩
  | .local _ .vmem, ⟨19, _⟩ => ⟨S512x1024, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S4x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_7 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c2_i32.toNat, c0_i32.toNat, c0_i32_0.toNat, c0_i32_1.toNat, c0_i32_2.toNat]

def cc0_transform_8 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c3_i32.toNat, c0_i32.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_10 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_11 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c2_i32.toNat, c0_i32.toNat, c0_i32_0.toNat, c0_i32_1.toNat, c0_i32_2.toNat]

def cc0_transform_12 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c3_i32.toNat, c0_i32.toNat, c0_i32_0.toNat, c0_i32_1.toNat, c0_i32_2.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_14 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_15 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c2_i32.toNat, c0_i32.toNat, c0_i32_0.toNat, c0_i32_1.toNat, c0_i32_2.toNat]

def cc0_transform_16 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c3_i32.toNat, c0_i32.toNat, c0_i32_0.toNat, c0_i32_1.toNat, c0_i32_2.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024x704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1x704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x704 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x1x2816x1024 : Shape := ⟨4, ![1, 1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2816, .f32⟩
  | .hbm, ⟨36, _⟩ => ⟨S16384x2816, .f32⟩
  | .hbm, ⟨37, _⟩ => ⟨S1x1x2816x1024, .f32⟩
  | .hbm, ⟨38, _⟩ => ⟨S2816x1024, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | .hbm, ⟨57, _⟩ => ⟨S16384x4x704, .f32⟩
  | .hbm, ⟨58, _⟩ => ⟨S4x16384x704, .f32⟩
  | .hbm, ⟨59, _⟩ => ⟨S4x16384x704, .bf16⟩
  | .hbm, ⟨60, _⟩ => ⟨S16384x4x704, .f32⟩
  | .hbm, ⟨61, _⟩ => ⟨S4x16384x704, .f32⟩
  | .hbm, ⟨62, _⟩ => ⟨S4x16384x704, .bf16⟩
  | .hbm, ⟨63, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S2x2x1024x4x704 : Shape := ⟨5, ![2, 2, 1024, 4, 704]⟩
abbrev S4x2x2x1024x704 : Shape := ⟨5, ![4, 2, 2, 1024, 704]⟩
abbrev S2x2x4x704x1024 : Shape := ⟨5, ![2, 2, 4, 704, 1024]⟩
abbrev S4x2x2x704x1024 : Shape := ⟨5, ![4, 2, 2, 704, 1024]⟩
abbrev S4x16384x704 : Shape := ⟨3, ![4, 16384, 704]⟩
abbrev S512x1024 : Shape := ⟨2, ![512, 1024]⟩
abbrev S1x1x1x1024x704 : Shape := ⟨5, ![1, 1, 1, 1024, 704]⟩
abbrev S1x1x1x704x1024 : Shape := ⟨5, ![1, 1, 1, 704, 1024]⟩
abbrev S4x512x704 : Shape := ⟨3, ![4, 512, 704]⟩
abbrev S256x1024 : Shape := ⟨2, ![256, 1024]⟩
abbrev S256 : Shape := ⟨1, ![256]⟩
abbrev S256x1 : Shape := ⟨2, ![256, 1]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S2x2x1024x4x704, .f32⟩
  | .hbm, ⟨9, _⟩ => ⟨S4x2x2x1024x704, .f32⟩
  | .hbm, ⟨10, _⟩ => ⟨S4x2x2x1024x704, .bf16⟩
  | .hbm, ⟨11, _⟩ => ⟨S2x2x1024x4x704, .f32⟩
  | .hbm, ⟨12, _⟩ => ⟨S4x2x2x1024x704, .f32⟩
  | .hbm, ⟨13, _⟩ => ⟨S4x2x2x1024x704, .bf16⟩
  | .hbm, ⟨14, _⟩ => ⟨S2x2x4x704x1024, .f32⟩
  | .hbm, ⟨15, _⟩ => ⟨S4x2x2x704x1024, .f32⟩
  | .hbm, ⟨16, _⟩ => ⟨S4x2x2x704x1024, .bf16⟩
  | .hbm, ⟨17, _⟩ => ⟨S1x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1x1024x704, .bf16⟩
  | .local _ .vmem, ⟨7, _⟩ => ⟨S1x1x1x1024x704, .bf16⟩
  | .local _ .vmem, ⟨8, _⟩ => ⟨S1x1x1x1024x704, .bf16⟩
  | .local _ .vmem, ⟨9, _⟩ => ⟨S1x1x1x1024x704, .bf16⟩
  | .local _ .vmem, ⟨10, _⟩ => ⟨S1x1x1x1024x704, .bf16⟩
  | .local _ .vmem, ⟨11, _⟩ => ⟨S1x1x1x1024x704, .bf16⟩
  | .local _ .vmem, ⟨12, _⟩ => ⟨S1x1x1x1024x704, .bf16⟩
  | .local _ .vmem, ⟨13, _⟩ => ⟨S1x1x1x1024x704, .bf16⟩
  | .local _ .vmem, ⟨14, _⟩ => ⟨S1x1x1x704x1024, .bf16⟩
  | .local _ .vmem, ⟨15, _⟩ => ⟨S1x1x1x704x1024, .bf16⟩
  | .local _ .vmem, ⟨16, _⟩ => ⟨S1x1x1x704x1024, .bf16⟩
  | .local _ .vmem, ⟨17, _⟩ => ⟨S1x1x1x704x1024, .bf16⟩
  | .local _ .vmem, ⟨18, _⟩ => ⟨S512x1024, .bf16⟩
  | .local _ .vmem, ⟨19, _⟩ => ⟨S512x1024, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S4x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_6 (i : grid0.Coords) : Fin 5 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  let c0_i32_2 : BitVec 32 := 0#32
  let c0_i32_3 : BitVec 32 := 0#32
  ![c1_i32.toNat, c0_i32.toNat, c1_i32_0.toNat, c0_i32_1.toNat, c0_i32_2.toNat]

def cc0_transform_7 (i : grid0.Coords) : Fin 5 → Nat :=
  let arg0 : BitVec 32 := BitVec.ofNat 32 (i 0).val
  let c2_i32 : BitVec 32 := 2#32
  let c0_i32 : BitVec 32 := 0#32
  let c1_i32 : BitVec 32 := 1#32
  let c0_i32_0 : BitVec 32 := 0#32
  let c0_i32_1 : BitVec 32 := 0#32
  let c0_i32_2 : BitVec 32 := 0#32
  ![c2_i32.toNat, c0_i32.toNat, c1_i32.toNat, c0_i32_0.toNat, c0_i32_1.toNat]

def cc0_transform_8 (i : grid0.Coords) : Fin 5 → Nat :=
  let arg0 : BitVec 32 := BitVec.ofNat 32 (i 0).val
  let c3_i32 : BitVec 32 := 3#32
  let c0_i32 : BitVec 32 := 0#32
  let c1_i32 : BitVec 32 := 1#32
  let c0_i32_0 : BitVec 32 := 0#32
  let c0_i32_1 : BitVec 32 := 0#32
  let c0_i32_2 : BitVec 32 := 0#32
  ![c3_i32.toNat, c0_i32.toNat, c1_i32.toNat, c0_i32_0.toNat, c0_i32_1.toNat]

def cc0_transform_9 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_10 (i : grid0.Coords) : Fin 5 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  let c0_i32_2 : BitVec 32 := 0#32
  let c0_i32_3 : BitVec 32 := 0#32
  ![c1_i32.toNat, c0_i32.toNat, c1_i32_0.toNat, c0_i32_1.toNat, c0_i32_2.toNat]

def cc0_transform_11 (i : grid0.Coords) : Fin 5 → Nat :=
  let arg0 : BitVec 32 := BitVec.ofNat 32 (i 0).val
  let c2_i32 : BitVec 32 := 2#32
  let c0_i32 : BitVec 32 := 0#32
  let c1_i32 : BitVec 32 := 1#32
  let c0_i32_0 : BitVec 32 := 0#32
  let c0_i32_1 : BitVec 32 := 0#32
  let c0_i32_2 : BitVec 32 := 0#32
  ![c2_i32.toNat, c0_i32.toNat, c1_i32.toNat, c0_i32_0.toNat, c0_i32_1.toNat]

def cc0_transform_12 (i : grid0.Coords) : Fin 5 → Nat :=
  let arg0 : BitVec 32 := BitVec.ofNat 32 (i 0).val
  let c3_i32 : BitVec 32 := 3#32
  let c0_i32 : BitVec 32 := 0#32
  let c1_i32 : BitVec 32 := 1#32
  let c0_i32_0 : BitVec 32 := 0#32
  let c0_i32_1 : BitVec 32 := 0#32
  let c0_i32_2 : BitVec 32 := 0#32
  ![c3_i32.toNat, c0_i32.toNat, c1_i32.toNat, c0_i32_0.toNat, c0_i32_1.toNat]

def cc0_transform_13 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_14 (i : grid0.Coords) : Fin 5 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  let c0_i32_2 : BitVec 32 := 0#32
  let c0_i32_3 : BitVec 32 := 0#32
  ![c1_i32.toNat, c0_i32.toNat, c1_i32_0.toNat, c0_i32_1.toNat, c0_i32_2.toNat]

def cc0_transform_15 (i : grid0.Coords) : Fin 5 → Nat :=
  let arg0 : BitVec 32 := BitVec.ofNat 32 (i 0).val
  let c2_i32 : BitVec 32 := 2#32
  let c0_i32 : BitVec 32 := 0#32
  let c1_i32 : BitVec 32 := 1#32
  let c0_i32_0 : BitVec 32 := 0#32
  let c0_i32_1 : BitVec 32 := 0#32
  let c0_i32_2 : BitVec 32 := 0#32
  ![c2_i32.toNat, c0_i32.toNat, c1_i32.toNat, c0_i32_0.toNat, c0_i32_1.toNat]

def cc0_transform_16 (i : grid0.Coords) : Fin 5 → Nat :=
  let arg0 : BitVec 32 := BitVec.ofNat 32 (i 0).val
  let c3_i32 : BitVec 32 := 3#32
  let c0_i32 : BitVec 32 := 0#32
  let c1_i32 : BitVec 32 := 1#32
  let c0_i32_0 : BitVec 32 := 0#32
  let c0_i32_1 : BitVec 32 := 0#32
  let c0_i32_2 : BitVec 32 := 0#32
  ![c3_i32.toNat, c0_i32.toNat, c1_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024x704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1x704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x704 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel8Ideal.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S2x2x1024x4x704 : Shape := ⟨5, ![2, 2, 1024, 4, 704]⟩
abbrev S4x2x2x1024x704 : Shape := ⟨5, ![4, 2, 2, 1024, 704]⟩
abbrev S2x2x4x704x1024 : Shape := ⟨5, ![2, 2, 4, 704, 1024]⟩
abbrev S4x2x2x704x1024 : Shape := ⟨5, ![4, 2, 2, 704, 1024]⟩
abbrev S4x16384x704 : Shape := ⟨3, ![4, 16384, 704]⟩
abbrev S512x1024 : Shape := ⟨2, ![512, 1024]⟩
abbrev S1x1x1x1024x704 : Shape := ⟨5, ![1, 1, 1, 1024, 704]⟩
abbrev S1x1x1x704x1024 : Shape := ⟨5, ![1, 1, 1, 704, 1024]⟩
abbrev S4x512x704 : Shape := ⟨3, ![4, 512, 704]⟩
abbrev S256x1024 : Shape := ⟨2, ![256, 1024]⟩
abbrev S256 : Shape := ⟨1, ![256]⟩
abbrev S256x1 : Shape := ⟨2, ![256, 1]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S2x2x1024x4x704, .f32⟩
  | .hbm, ⟨9, _⟩ => ⟨S4x2x2x1024x704, .f32⟩
  | .hbm, ⟨10, _⟩ => ⟨S4x2x2x1024x704, .bf16⟩
  | .hbm, ⟨11, _⟩ => ⟨S2x2x1024x4x704, .f32⟩
  | .hbm, ⟨12, _⟩ => ⟨S4x2x2x1024x704, .f32⟩
  | .hbm, ⟨13, _⟩ => ⟨S4x2x2x1024x704, .bf16⟩
  | .hbm, ⟨14, _⟩ => ⟨S2x2x4x704x1024, .f32⟩
  | .hbm, ⟨15, _⟩ => ⟨S4x2x2x704x1024, .f32⟩
  | .hbm, ⟨16, _⟩ => ⟨S4x2x2x704x1024, .bf16⟩
  | .hbm, ⟨17, _⟩ => ⟨S1x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1x1024x704, .bf16⟩
  | .local _ .vmem, ⟨7, _⟩ => ⟨S1x1x1x1024x704, .bf16⟩
  | .local _ .vmem, ⟨8, _⟩ => ⟨S1x1x1x1024x704, .bf16⟩
  | .local _ .vmem, ⟨9, _⟩ => ⟨S1x1x1x1024x704, .bf16⟩
  | .local _ .vmem, ⟨10, _⟩ => ⟨S1x1x1x1024x704, .bf16⟩
  | .local _ .vmem, ⟨11, _⟩ => ⟨S1x1x1x1024x704, .bf16⟩
  | .local _ .vmem, ⟨12, _⟩ => ⟨S1x1x1x1024x704, .bf16⟩
  | .local _ .vmem, ⟨13, _⟩ => ⟨S1x1x1x1024x704, .bf16⟩
  | .local _ .vmem, ⟨14, _⟩ => ⟨S1x1x1x704x1024, .bf16⟩
  | .local _ .vmem, ⟨15, _⟩ => ⟨S1x1x1x704x1024, .bf16⟩
  | .local _ .vmem, ⟨16, _⟩ => ⟨S1x1x1x704x1024, .bf16⟩
  | .local _ .vmem, ⟨17, _⟩ => ⟨S1x1x1x704x1024, .bf16⟩
  | .local _ .vmem, ⟨18, _⟩ => ⟨S512x1024, .bf16⟩
  | .local _ .vmem, ⟨19, _⟩ => ⟨S512x1024, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S4x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_6 (i : grid0.Coords) : Fin 5 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  let c0_i32_2 : BitVec 32 := 0#32
  let c0_i32_3 : BitVec 32 := 0#32
  ![c1_i32.toNat, c0_i32.toNat, c1_i32_0.toNat, c0_i32_1.toNat, c0_i32_2.toNat]

def cc0_transform_7 (i : grid0.Coords) : Fin 5 → Nat :=
  let arg0 : BitVec 32 := BitVec.ofNat 32 (i 0).val
  let c2_i32 : BitVec 32 := 2#32
  let c0_i32 : BitVec 32 := 0#32
  let c1_i32 : BitVec 32 := 1#32
  let c0_i32_0 : BitVec 32 := 0#32
  let c0_i32_1 : BitVec 32 := 0#32
  let c0_i32_2 : BitVec 32 := 0#32
  ![c2_i32.toNat, c0_i32.toNat, c1_i32.toNat, c0_i32_0.toNat, c0_i32_1.toNat]

def cc0_transform_8 (i : grid0.Coords) : Fin 5 → Nat :=
  let arg0 : BitVec 32 := BitVec.ofNat 32 (i 0).val
  let c3_i32 : BitVec 32 := 3#32
  let c0_i32 : BitVec 32 := 0#32
  let c1_i32 : BitVec 32 := 1#32
  let c0_i32_0 : BitVec 32 := 0#32
  let c0_i32_1 : BitVec 32 := 0#32
  let c0_i32_2 : BitVec 32 := 0#32
  ![c3_i32.toNat, c0_i32.toNat, c1_i32.toNat, c0_i32_0.toNat, c0_i32_1.toNat]

def cc0_transform_9 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_10 (i : grid0.Coords) : Fin 5 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  let c0_i32_2 : BitVec 32 := 0#32
  let c0_i32_3 : BitVec 32 := 0#32
  ![c1_i32.toNat, c0_i32.toNat, c1_i32_0.toNat, c0_i32_1.toNat, c0_i32_2.toNat]

def cc0_transform_11 (i : grid0.Coords) : Fin 5 → Nat :=
  let arg0 : BitVec 32 := BitVec.ofNat 32 (i 0).val
  let c2_i32 : BitVec 32 := 2#32
  let c0_i32 : BitVec 32 := 0#32
  let c1_i32 : BitVec 32 := 1#32
  let c0_i32_0 : BitVec 32 := 0#32
  let c0_i32_1 : BitVec 32 := 0#32
  let c0_i32_2 : BitVec 32 := 0#32
  ![c2_i32.toNat, c0_i32.toNat, c1_i32.toNat, c0_i32_0.toNat, c0_i32_1.toNat]

def cc0_transform_12 (i : grid0.Coords) : Fin 5 → Nat :=
  let arg0 : BitVec 32 := BitVec.ofNat 32 (i 0).val
  let c3_i32 : BitVec 32 := 3#32
  let c0_i32 : BitVec 32 := 0#32
  let c1_i32 : BitVec 32 := 1#32
  let c0_i32_0 : BitVec 32 := 0#32
  let c0_i32_1 : BitVec 32 := 0#32
  let c0_i32_2 : BitVec 32 := 0#32
  ![c3_i32.toNat, c0_i32.toNat, c1_i32.toNat, c0_i32_0.toNat, c0_i32_1.toNat]

def cc0_transform_13 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_14 (i : grid0.Coords) : Fin 5 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  let c0_i32_2 : BitVec 32 := 0#32
  let c0_i32_3 : BitVec 32 := 0#32
  ![c1_i32.toNat, c0_i32.toNat, c1_i32_0.toNat, c0_i32_1.toNat, c0_i32_2.toNat]

def cc0_transform_15 (i : grid0.Coords) : Fin 5 → Nat :=
  let arg0 : BitVec 32 := BitVec.ofNat 32 (i 0).val
  let c2_i32 : BitVec 32 := 2#32
  let c0_i32 : BitVec 32 := 0#32
  let c1_i32 : BitVec 32 := 1#32
  let c0_i32_0 : BitVec 32 := 0#32
  let c0_i32_1 : BitVec 32 := 0#32
  let c0_i32_2 : BitVec 32 := 0#32
  ![c2_i32.toNat, c0_i32.toNat, c1_i32.toNat, c0_i32_0.toNat, c0_i32_1.toNat]

def cc0_transform_16 (i : grid0.Coords) : Fin 5 → Nat :=
  let arg0 : BitVec 32 := BitVec.ofNat 32 (i 0).val
  let c3_i32 : BitVec 32 := 3#32
  let c0_i32 : BitVec 32 := 0#32
  let c1_i32 : BitVec 32 := 1#32
  let c0_i32_0 : BitVec 32 := 0#32
  let c0_i32_1 : BitVec 32 := 0#32
  let c0_i32_2 : BitVec 32 := 0#32
  ![c3_i32.toNat, c0_i32.toNat, c1_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024x704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1x704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x704 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference8Ideal.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x1x2816x1024 : Shape := ⟨4, ![1, 1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2816, .f32⟩
  | .hbm, ⟨36, _⟩ => ⟨S16384x2816, .f32⟩
  | .hbm, ⟨37, _⟩ => ⟨S1x1x2816x1024, .f32⟩
  | .hbm, ⟨38, _⟩ => ⟨S2816x1024, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | .hbm, ⟨57, _⟩ => ⟨S16384x4x704, .f32⟩
  | .hbm, ⟨58, _⟩ => ⟨S4x16384x704, .f32⟩
  | .hbm, ⟨59, _⟩ => ⟨S4x16384x704, .bf16⟩
  | .hbm, ⟨60, _⟩ => ⟨S16384x4x704, .f32⟩
  | .hbm, ⟨61, _⟩ => ⟨S4x16384x704, .f32⟩
  | .hbm, ⟨62, _⟩ => ⟨S4x16384x704, .bf16⟩
  | .hbm, ⟨63, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel9.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S2x2x1024x4x704 : Shape := ⟨5, ![2, 2, 1024, 4, 704]⟩
abbrev S4x2x2x1024x704 : Shape := ⟨5, ![4, 2, 2, 1024, 704]⟩
abbrev S2x2x4x704x1024 : Shape := ⟨5, ![2, 2, 4, 704, 1024]⟩
abbrev S4x2x2x704x1024 : Shape := ⟨5, ![4, 2, 2, 704, 1024]⟩
abbrev S4x16384x704 : Shape := ⟨3, ![4, 16384, 704]⟩
abbrev S512x1024 : Shape := ⟨2, ![512, 1024]⟩
abbrev S1x1x1x1024x704 : Shape := ⟨5, ![1, 1, 1, 1024, 704]⟩
abbrev S1x1x1x704x1024 : Shape := ⟨5, ![1, 1, 1, 704, 1024]⟩
abbrev S4x512x704 : Shape := ⟨3, ![4, 512, 704]⟩
abbrev S256x1024 : Shape := ⟨2, ![256, 1024]⟩
abbrev S256 : Shape := ⟨1, ![256]⟩
abbrev S256x1 : Shape := ⟨2, ![256, 1]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S2x2x1024x4x704, .f32⟩
  | .hbm, ⟨9, _⟩ => ⟨S4x2x2x1024x704, .f32⟩
  | .hbm, ⟨10, _⟩ => ⟨S4x2x2x1024x704, .bf16⟩
  | .hbm, ⟨11, _⟩ => ⟨S2x2x1024x4x704, .f32⟩
  | .hbm, ⟨12, _⟩ => ⟨S4x2x2x1024x704, .f32⟩
  | .hbm, ⟨13, _⟩ => ⟨S4x2x2x1024x704, .bf16⟩
  | .hbm, ⟨14, _⟩ => ⟨S2x2x4x704x1024, .f32⟩
  | .hbm, ⟨15, _⟩ => ⟨S4x2x2x704x1024, .f32⟩
  | .hbm, ⟨16, _⟩ => ⟨S4x2x2x704x1024, .bf16⟩
  | .hbm, ⟨17, _⟩ => ⟨S1x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1x1024x704, .bf16⟩
  | .local _ .vmem, ⟨7, _⟩ => ⟨S1x1x1x1024x704, .bf16⟩
  | .local _ .vmem, ⟨8, _⟩ => ⟨S1x1x1x1024x704, .bf16⟩
  | .local _ .vmem, ⟨9, _⟩ => ⟨S1x1x1x1024x704, .bf16⟩
  | .local _ .vmem, ⟨10, _⟩ => ⟨S1x1x1x1024x704, .bf16⟩
  | .local _ .vmem, ⟨11, _⟩ => ⟨S1x1x1x1024x704, .bf16⟩
  | .local _ .vmem, ⟨12, _⟩ => ⟨S1x1x1x1024x704, .bf16⟩
  | .local _ .vmem, ⟨13, _⟩ => ⟨S1x1x1x1024x704, .bf16⟩
  | .local _ .vmem, ⟨14, _⟩ => ⟨S1x1x1x704x1024, .bf16⟩
  | .local _ .vmem, ⟨15, _⟩ => ⟨S1x1x1x704x1024, .bf16⟩
  | .local _ .vmem, ⟨16, _⟩ => ⟨S1x1x1x704x1024, .bf16⟩
  | .local _ .vmem, ⟨17, _⟩ => ⟨S1x1x1x704x1024, .bf16⟩
  | .local _ .vmem, ⟨18, _⟩ => ⟨S512x1024, .bf16⟩
  | .local _ .vmem, ⟨19, _⟩ => ⟨S512x1024, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S4x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, c1_i32.toNat, c0_i32_0.toNat, c0_i32_1.toNat, c0_i32_2.toNat]

def cc0_transform_6 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_7 (i : grid0.Coords) : Fin 5 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  let c0_i32_2 : BitVec 32 := 0#32
  ![c2_i32.toNat, c1_i32.toNat, c0_i32.toNat, c0_i32_0.toNat, c0_i32_1.toNat]

def cc0_transform_8 (i : grid0.Coords) : Fin 5 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  let c0_i32_2 : BitVec 32 := 0#32
  ![c3_i32.toNat, c1_i32.toNat, c0_i32.toNat, c0_i32_0.toNat, c0_i32_1.toNat]

def cc0_transform_9 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, c1_i32.toNat, c0_i32_0.toNat, c0_i32_1.toNat, c0_i32_2.toNat]

def cc0_transform_10 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_11 (i : grid0.Coords) : Fin 5 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  let c0_i32_2 : BitVec 32 := 0#32
  ![c2_i32.toNat, c1_i32.toNat, c0_i32.toNat, c0_i32_0.toNat, c0_i32_1.toNat]

def cc0_transform_12 (i : grid0.Coords) : Fin 5 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  let c0_i32_2 : BitVec 32 := 0#32
  ![c3_i32.toNat, c1_i32.toNat, c0_i32.toNat, c0_i32_0.toNat, c0_i32_1.toNat]

def cc0_transform_13 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, c1_i32.toNat, c0_i32_0.toNat, c0_i32_1.toNat, c0_i32_2.toNat]

def cc0_transform_14 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_15 (i : grid0.Coords) : Fin 5 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  let c0_i32_2 : BitVec 32 := 0#32
  ![c2_i32.toNat, c1_i32.toNat, c0_i32.toNat, c0_i32_0.toNat, c0_i32_1.toNat]

def cc0_transform_16 (i : grid0.Coords) : Fin 5 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  let c0_i32_2 : BitVec 32 := 0#32
  ![c3_i32.toNat, c1_i32.toNat, c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024x704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1x704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x704 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel9Ideal.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S2x2x1024x4x704 : Shape := ⟨5, ![2, 2, 1024, 4, 704]⟩
abbrev S4x2x2x1024x704 : Shape := ⟨5, ![4, 2, 2, 1024, 704]⟩
abbrev S2x2x4x704x1024 : Shape := ⟨5, ![2, 2, 4, 704, 1024]⟩
abbrev S4x2x2x704x1024 : Shape := ⟨5, ![4, 2, 2, 704, 1024]⟩
abbrev S4x16384x704 : Shape := ⟨3, ![4, 16384, 704]⟩
abbrev S512x1024 : Shape := ⟨2, ![512, 1024]⟩
abbrev S1x1x1x1024x704 : Shape := ⟨5, ![1, 1, 1, 1024, 704]⟩
abbrev S1x1x1x704x1024 : Shape := ⟨5, ![1, 1, 1, 704, 1024]⟩
abbrev S4x512x704 : Shape := ⟨3, ![4, 512, 704]⟩
abbrev S256x1024 : Shape := ⟨2, ![256, 1024]⟩
abbrev S256 : Shape := ⟨1, ![256]⟩
abbrev S256x1 : Shape := ⟨2, ![256, 1]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S2x2x1024x4x704, .f32⟩
  | .hbm, ⟨9, _⟩ => ⟨S4x2x2x1024x704, .f32⟩
  | .hbm, ⟨10, _⟩ => ⟨S4x2x2x1024x704, .bf16⟩
  | .hbm, ⟨11, _⟩ => ⟨S2x2x1024x4x704, .f32⟩
  | .hbm, ⟨12, _⟩ => ⟨S4x2x2x1024x704, .f32⟩
  | .hbm, ⟨13, _⟩ => ⟨S4x2x2x1024x704, .bf16⟩
  | .hbm, ⟨14, _⟩ => ⟨S2x2x4x704x1024, .f32⟩
  | .hbm, ⟨15, _⟩ => ⟨S4x2x2x704x1024, .f32⟩
  | .hbm, ⟨16, _⟩ => ⟨S4x2x2x704x1024, .bf16⟩
  | .hbm, ⟨17, _⟩ => ⟨S1x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1x1024x704, .bf16⟩
  | .local _ .vmem, ⟨7, _⟩ => ⟨S1x1x1x1024x704, .bf16⟩
  | .local _ .vmem, ⟨8, _⟩ => ⟨S1x1x1x1024x704, .bf16⟩
  | .local _ .vmem, ⟨9, _⟩ => ⟨S1x1x1x1024x704, .bf16⟩
  | .local _ .vmem, ⟨10, _⟩ => ⟨S1x1x1x1024x704, .bf16⟩
  | .local _ .vmem, ⟨11, _⟩ => ⟨S1x1x1x1024x704, .bf16⟩
  | .local _ .vmem, ⟨12, _⟩ => ⟨S1x1x1x1024x704, .bf16⟩
  | .local _ .vmem, ⟨13, _⟩ => ⟨S1x1x1x1024x704, .bf16⟩
  | .local _ .vmem, ⟨14, _⟩ => ⟨S1x1x1x704x1024, .bf16⟩
  | .local _ .vmem, ⟨15, _⟩ => ⟨S1x1x1x704x1024, .bf16⟩
  | .local _ .vmem, ⟨16, _⟩ => ⟨S1x1x1x704x1024, .bf16⟩
  | .local _ .vmem, ⟨17, _⟩ => ⟨S1x1x1x704x1024, .bf16⟩
  | .local _ .vmem, ⟨18, _⟩ => ⟨S512x1024, .bf16⟩
  | .local _ .vmem, ⟨19, _⟩ => ⟨S512x1024, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S4x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, c1_i32.toNat, c0_i32_0.toNat, c0_i32_1.toNat, c0_i32_2.toNat]

def cc0_transform_6 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_7 (i : grid0.Coords) : Fin 5 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  let c0_i32_2 : BitVec 32 := 0#32
  ![c2_i32.toNat, c1_i32.toNat, c0_i32.toNat, c0_i32_0.toNat, c0_i32_1.toNat]

def cc0_transform_8 (i : grid0.Coords) : Fin 5 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  let c0_i32_2 : BitVec 32 := 0#32
  ![c3_i32.toNat, c1_i32.toNat, c0_i32.toNat, c0_i32_0.toNat, c0_i32_1.toNat]

def cc0_transform_9 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, c1_i32.toNat, c0_i32_0.toNat, c0_i32_1.toNat, c0_i32_2.toNat]

def cc0_transform_10 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_11 (i : grid0.Coords) : Fin 5 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  let c0_i32_2 : BitVec 32 := 0#32
  ![c2_i32.toNat, c1_i32.toNat, c0_i32.toNat, c0_i32_0.toNat, c0_i32_1.toNat]

def cc0_transform_12 (i : grid0.Coords) : Fin 5 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  let c0_i32_2 : BitVec 32 := 0#32
  ![c3_i32.toNat, c1_i32.toNat, c0_i32.toNat, c0_i32_0.toNat, c0_i32_1.toNat]

def cc0_transform_13 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, c1_i32.toNat, c0_i32_0.toNat, c0_i32_1.toNat, c0_i32_2.toNat]

def cc0_transform_14 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_15 (i : grid0.Coords) : Fin 5 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  let c0_i32_2 : BitVec 32 := 0#32
  ![c2_i32.toNat, c1_i32.toNat, c0_i32.toNat, c0_i32_0.toNat, c0_i32_1.toNat]

def cc0_transform_16 (i : grid0.Coords) : Fin 5 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  let c0_i32_2 : BitVec 32 := 0#32
  ![c3_i32.toNat, c1_i32.toNat, c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024x704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1x704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x704 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference9Ideal.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x1x2816x1024 : Shape := ⟨4, ![1, 1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2816, .f32⟩
  | .hbm, ⟨36, _⟩ => ⟨S16384x2816, .f32⟩
  | .hbm, ⟨37, _⟩ => ⟨S1x1x2816x1024, .f32⟩
  | .hbm, ⟨38, _⟩ => ⟨S2816x1024, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | .hbm, ⟨57, _⟩ => ⟨S16384x4x704, .f32⟩
  | .hbm, ⟨58, _⟩ => ⟨S4x16384x704, .f32⟩
  | .hbm, ⟨59, _⟩ => ⟨S4x16384x704, .bf16⟩
  | .hbm, ⟨60, _⟩ => ⟨S16384x4x704, .f32⟩
  | .hbm, ⟨61, _⟩ => ⟨S4x16384x704, .f32⟩
  | .hbm, ⟨62, _⟩ => ⟨S4x16384x704, .bf16⟩
  | .hbm, ⟨63, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel10.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S2x2x1024x4x704 : Shape := ⟨5, ![2, 2, 1024, 4, 704]⟩
abbrev S4x2x2x1024x704 : Shape := ⟨5, ![4, 2, 2, 1024, 704]⟩
abbrev S2x2x4x704x1024 : Shape := ⟨5, ![2, 2, 4, 704, 1024]⟩
abbrev S4x2x2x704x1024 : Shape := ⟨5, ![4, 2, 2, 704, 1024]⟩
abbrev S4x16384x704 : Shape := ⟨3, ![4, 16384, 704]⟩
abbrev S512x1024 : Shape := ⟨2, ![512, 1024]⟩
abbrev S1x1x1x1024x704 : Shape := ⟨5, ![1, 1, 1, 1024, 704]⟩
abbrev S1x1x1x704x1024 : Shape := ⟨5, ![1, 1, 1, 704, 1024]⟩
abbrev S4x512x704 : Shape := ⟨3, ![4, 512, 704]⟩
abbrev S256x1024 : Shape := ⟨2, ![256, 1024]⟩
abbrev S256 : Shape := ⟨1, ![256]⟩
abbrev S256x1 : Shape := ⟨2, ![256, 1]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 23
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S2x2x1024x4x704, .f32⟩
  | .hbm, ⟨9, _⟩ => ⟨S4x2x2x1024x704, .f32⟩
  | .hbm, ⟨10, _⟩ => ⟨S4x2x2x1024x704, .bf16⟩
  | .hbm, ⟨11, _⟩ => ⟨S2x2x1024x4x704, .f32⟩
  | .hbm, ⟨12, _⟩ => ⟨S4x2x2x1024x704, .f32⟩
  | .hbm, ⟨13, _⟩ => ⟨S4x2x2x1024x704, .bf16⟩
  | .hbm, ⟨14, _⟩ => ⟨S2x2x4x704x1024, .f32⟩
  | .hbm, ⟨15, _⟩ => ⟨S4x2x2x704x1024, .f32⟩
  | .hbm, ⟨16, _⟩ => ⟨S4x2x2x704x1024, .bf16⟩
  | .hbm, ⟨17, _⟩ => ⟨S1x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .hbm, ⟨21, _⟩ => ⟨S16384x1024, .f32⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1x1024x704, .bf16⟩
  | .local _ .vmem, ⟨7, _⟩ => ⟨S1x1x1x1024x704, .bf16⟩
  | .local _ .vmem, ⟨8, _⟩ => ⟨S1x1x1x1024x704, .bf16⟩
  | .local _ .vmem, ⟨9, _⟩ => ⟨S1x1x1x1024x704, .bf16⟩
  | .local _ .vmem, ⟨10, _⟩ => ⟨S1x1x1x1024x704, .bf16⟩
  | .local _ .vmem, ⟨11, _⟩ => ⟨S1x1x1x1024x704, .bf16⟩
  | .local _ .vmem, ⟨12, _⟩ => ⟨S1x1x1x1024x704, .bf16⟩
  | .local _ .vmem, ⟨13, _⟩ => ⟨S1x1x1x1024x704, .bf16⟩
  | .local _ .vmem, ⟨14, _⟩ => ⟨S1x1x1x704x1024, .bf16⟩
  | .local _ .vmem, ⟨15, _⟩ => ⟨S1x1x1x704x1024, .bf16⟩
  | .local _ .vmem, ⟨16, _⟩ => ⟨S1x1x1x704x1024, .bf16⟩
  | .local _ .vmem, ⟨17, _⟩ => ⟨S1x1x1x704x1024, .bf16⟩
  | .local _ .vmem, ⟨18, _⟩ => ⟨S512x1024, .bf16⟩
  | .local _ .vmem, ⟨19, _⟩ => ⟨S512x1024, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S4x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c1_i32 : BitVec 32 := 1#32
  let c1_i32_0 : BitVec 32 := 1#32
  let c0_i32_1 : BitVec 32 := 0#32
  let c0_i32_2 : BitVec 32 := 0#32
  let c0_i32_3 : BitVec 32 := 0#32
  ![c0_i32.toNat, c1_i32.toNat, c1_i32_0.toNat, c0_i32_1.toNat, c0_i32_2.toNat]

def cc0_transform_6 (i : grid0.Coords) : Fin 5 → Nat :=
  let arg0 : BitVec 32 := BitVec.ofNat 32 (i 0).val
  let c1_i32 : BitVec 32 := 1#32
  let c1_i32_0 : BitVec 32 := 1#32
  let c1_i32_1 : BitVec 32 := 1#32
  let c0_i32 : BitVec 32 := 0#32
  let c0_i32_2 : BitVec 32 := 0#32
  let c0_i32_3 : BitVec 32 := 0#32
  ![c1_i32.toNat, c1_i32_0.toNat, c1_i32_1.toNat, c0_i32.toNat, c0_i32_2.toNat]

def cc0_transform_7 (i : grid0.Coords) : Fin 5 → Nat :=
  let arg0 : BitVec 32 := BitVec.ofNat 32 (i 0).val
  let c2_i32 : BitVec 32 := 2#32
  let c1_i32 : BitVec 32 := 1#32
  let c1_i32_0 : BitVec 32 := 1#32
  let c0_i32 : BitVec 32 := 0#32
  let c0_i32_1 : BitVec 32 := 0#32
  let c0_i32_2 : BitVec 32 := 0#32
  ![c2_i32.toNat, c1_i32.toNat, c1_i32_0.toNat, c0_i32.toNat, c0_i32_1.toNat]

def cc0_transform_8 (i : grid0.Coords) : Fin 5 → Nat :=
  let arg0 : BitVec 32 := BitVec.ofNat 32 (i 0).val
  let c3_i32 : BitVec 32 := 3#32
  let c1_i32 : BitVec 32 := 1#32
  let c1_i32_0 : BitVec 32 := 1#32
  let c0_i32 : BitVec 32 := 0#32
  let c0_i32_1 : BitVec 32 := 0#32
  let c0_i32_2 : BitVec 32 := 0#32
  ![c3_i32.toNat, c1_i32.toNat, c1_i32_0.toNat, c0_i32.toNat, c0_i32_1.toNat]

def cc0_transform_9 (i : grid0.Coords) : Fin 5 → Nat :=
  let arg0 : BitVec 32 := BitVec.ofNat 32 (i 0).val
  let c0_i32 : BitVec 32 := 0#32
  let c1_i32 : BitVec 32 := 1#32
  let c1_i32_0 : BitVec 32 := 1#32
  let c0_i32_1 : BitVec 32 := 0#32
  let c0_i32_2 : BitVec 32 := 0#32
  let c0_i32_3 : BitVec 32 := 0#32
  ![c0_i32.toNat, c1_i32.toNat, c1_i32_0.toNat, c0_i32_1.toNat, c0_i32_2.toNat]

def cc0_transform_10 (i : grid0.Coords) : Fin 5 → Nat :=
  let arg0 : BitVec 32 := BitVec.ofNat 32 (i 0).val
  let c1_i32 : BitVec 32 := 1#32
  let c1_i32_0 : BitVec 32 := 1#32
  let c1_i32_1 : BitVec 32 := 1#32
  let c0_i32 : BitVec 32 := 0#32
  let c0_i32_2 : BitVec 32 := 0#32
  let c0_i32_3 : BitVec 32 := 0#32
  ![c1_i32.toNat, c1_i32_0.toNat, c1_i32_1.toNat, c0_i32.toNat, c0_i32_2.toNat]

def cc0_transform_11 (i : grid0.Coords) : Fin 5 → Nat :=
  let arg0 : BitVec 32 := BitVec.ofNat 32 (i 0).val
  let c2_i32 : BitVec 32 := 2#32
  let c1_i32 : BitVec 32 := 1#32
  let c1_i32_0 : BitVec 32 := 1#32
  let c0_i32 : BitVec 32 := 0#32
  let c0_i32_1 : BitVec 32 := 0#32
  let c0_i32_2 : BitVec 32 := 0#32
  ![c2_i32.toNat, c1_i32.toNat, c1_i32_0.toNat, c0_i32.toNat, c0_i32_1.toNat]

def cc0_transform_12 (i : grid0.Coords) : Fin 5 → Nat :=
  let arg0 : BitVec 32 := BitVec.ofNat 32 (i 0).val
  let c3_i32 : BitVec 32 := 3#32
  let c1_i32 : BitVec 32 := 1#32
  let c1_i32_0 : BitVec 32 := 1#32
  let c0_i32 : BitVec 32 := 0#32
  let c0_i32_1 : BitVec 32 := 0#32
  let c0_i32_2 : BitVec 32 := 0#32
  ![c3_i32.toNat, c1_i32.toNat, c1_i32_0.toNat, c0_i32.toNat, c0_i32_1.toNat]

def cc0_transform_13 (i : grid0.Coords) : Fin 5 → Nat :=
  let arg0 : BitVec 32 := BitVec.ofNat 32 (i 0).val
  let c0_i32 : BitVec 32 := 0#32
  let c1_i32 : BitVec 32 := 1#32
  let c1_i32_0 : BitVec 32 := 1#32
  let c0_i32_1 : BitVec 32 := 0#32
  let c0_i32_2 : BitVec 32 := 0#32
  let c0_i32_3 : BitVec 32 := 0#32
  ![c0_i32.toNat, c1_i32.toNat, c1_i32_0.toNat, c0_i32_1.toNat, c0_i32_2.toNat]

def cc0_transform_14 (i : grid0.Coords) : Fin 5 → Nat :=
  let arg0 : BitVec 32 := BitVec.ofNat 32 (i 0).val
  let c1_i32 : BitVec 32 := 1#32
  let c1_i32_0 : BitVec 32 := 1#32
  let c1_i32_1 : BitVec 32 := 1#32
  let c0_i32 : BitVec 32 := 0#32
  let c0_i32_2 : BitVec 32 := 0#32
  let c0_i32_3 : BitVec 32 := 0#32
  ![c1_i32.toNat, c1_i32_0.toNat, c1_i32_1.toNat, c0_i32.toNat, c0_i32_2.toNat]

def cc0_transform_15 (i : grid0.Coords) : Fin 5 → Nat :=
  let arg0 : BitVec 32 := BitVec.ofNat 32 (i 0).val
  let c2_i32 : BitVec 32 := 2#32
  let c1_i32 : BitVec 32 := 1#32
  let c1_i32_0 : BitVec 32 := 1#32
  let c0_i32 : BitVec 32 := 0#32
  let c0_i32_1 : BitVec 32 := 0#32
  let c0_i32_2 : BitVec 32 := 0#32
  ![c2_i32.toNat, c1_i32.toNat, c1_i32_0.toNat, c0_i32.toNat, c0_i32_1.toNat]

def cc0_transform_16 (i : grid0.Coords) : Fin 5 → Nat :=
  let arg0 : BitVec 32 := BitVec.ofNat 32 (i 0).val
  let c3_i32 : BitVec 32 := 3#32
  let c1_i32 : BitVec 32 := 1#32
  let c1_i32_0 : BitVec 32 := 1#32
  let c0_i32 : BitVec 32 := 0#32
  let c0_i32_1 : BitVec 32 := 0#32
  let c0_i32_2 : BitVec 32 := 0#32
  ![c3_i32.toNat, c1_i32.toNat, c1_i32_0.toNat, c0_i32.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024x704 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1024x704 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1x1024x704 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024x704 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024x704 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x704x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1x704x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512x704 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference10Ideal.lean ====
abbrev S16384x1024 : Shape := ⟨2, ![16384, 1024]⟩
abbrev S1024 : Shape := ⟨1, ![1024]⟩
abbrev S1x1024 : Shape := ⟨2, ![1, 1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x1x2816x1024 : Shape := ⟨4, ![1, 1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S1x1x1024x2816, .f32⟩
  | .hbm, ⟨9, _⟩ => ⟨S1024x2816, .f32⟩
  | .hbm, ⟨10, _⟩ => ⟨S1x1x1024x2816, .f32⟩
  | .hbm, ⟨11, _⟩ => ⟨S1024x2816, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2816, .f32⟩
  | .hbm, ⟨36, _⟩ => ⟨S16384x2816, .f32⟩
  | .hbm, ⟨37, _⟩ => ⟨S1x1x2816x1024, .f32⟩
  | .hbm, ⟨38, _⟩ => ⟨S2816x1024, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | .hbm, ⟨57, _⟩ => ⟨S16384x4x704, .f32⟩
  | .hbm, ⟨58, _⟩ => ⟨S4x16384x704, .f32⟩
  | .hbm, ⟨59, _⟩ => ⟨S4x16384x704, .bf16⟩
  | .hbm, ⟨60, _⟩ => ⟨S16384x4x704, .f32⟩
  | .hbm, ⟨61, _⟩ => ⟨S4x16384x704, .f32⟩
  | .hbm, ⟨62, _⟩ => ⟨S4x16384x704, .bf16⟩
  | .hbm, ⟨63, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel3.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S1x4096x704 : Shape := ⟨3, ![1, 4096, 704]⟩
abbrev S4096x1024 : Shape := ⟨2, ![4096, 1024]⟩
abbrev S1x1x1x704x1024 : Shape := ⟨5, ![1, 1, 1, 704, 1024]⟩
abbrev S704x1024 : Shape := ⟨2, ![704, 1024]⟩
abbrev S4096x704 : Shape := ⟨2, ![4096, 704]⟩

abbrev nBuf : Space → Nat
  | .hbm => 8
  | .vmem => 9
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S4x16384x704, .bf16⟩
  | .hbm, ⟨5, _⟩ => ⟨S4x16384x704, .bf16⟩
  | .hbm, ⟨6, _⟩ => ⟨S16384x1024, .bf16⟩
  | .hbm, ⟨7, _⟩ => ⟨S4x2x2x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S4096x1024, .bf16⟩
  | .local _ .vmem, ⟨5, _⟩ => ⟨S4096x1024, .bf16⟩
  | .local _ .vmem, ⟨6, _⟩ => ⟨S1x1x1x704x1024, .f32⟩
  | .local _ .vmem, ⟨7, _⟩ => ⟨S1x1x1x704x1024, .f32⟩
  | .local _ .vmem, ⟨8, _⟩ => ⟨S704x1024, .f32⟩
  | _, _ => ⟨S4x2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_12 : BitVec 32 := 0#32
  let v23 : BitVec 1 := Scalar.cmpi .ne v22 c0_i32_12
  v23

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel3Ideal.lean ====
  let c0_i32_0 : BitVec 32 := 0#32
  let c0_i32_2 : BitVec 32 := 0#32
  ![arg0.toNat, c0_i32.toNat, c0_i32_0.toNat, c0_i32_1.toNat, arg1.toNat]
-- ==== Reference3Ideal.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S_ : Shape := ⟨0, ![]⟩
abbrev S4x704x1024 : Shape := ⟨3, ![4, 704, 1024]⟩
abbrev S1024x4x704 : Shape := ⟨3, ![1024, 4, 704]⟩
abbrev S4x1x1x704x1024 : Shape := ⟨5, ![4, 1, 1, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S_, .f32⟩
  | .hbm, ⟨5, _⟩ => ⟨S4x704x1024, .f32⟩
  | .hbm, ⟨6, _⟩ => ⟨S4x16384x704, .f32⟩
  | .hbm, ⟨7, _⟩ => ⟨S4x16384x704, .f32⟩
  | .hbm, ⟨8, _⟩ => ⟨S_, .f32⟩
  | .hbm, ⟨9, _⟩ => ⟨S4x16384x704, .f32⟩
  | .hbm, ⟨10, _⟩ => ⟨S4x16384x704, .f32⟩
  | .hbm, ⟨11, _⟩ => ⟨S_, .f32⟩
  | .hbm, ⟨12, _⟩ => ⟨S4x16384x704, .f32⟩
  | .hbm, ⟨13, _⟩ => ⟨S4x16384x704, .f32⟩
  | .hbm, ⟨14, _⟩ => ⟨S4x16384x704, .f32⟩
  | .hbm, ⟨15, _⟩ => ⟨S4x16384x704, .f32⟩
  | .hbm, ⟨16, _⟩ => ⟨S16384x1024, .f32⟩
  | .hbm, ⟨17, _⟩ => ⟨S1024x4x704, .f32⟩
  | .hbm, ⟨18, _⟩ => ⟨S4x704x1024, .f32⟩
  | .hbm, ⟨19, _⟩ => ⟨S4x1x1x704x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x2x2x704x1024, .f32⟩
  | _, _ => ⟨S4x2x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel11.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S1x4096x704 : Shape := ⟨3, ![1, 4096, 704]⟩
abbrev S4096x1024 : Shape := ⟨2, ![4096, 1024]⟩
abbrev S1x1x1x704x1024 : Shape := ⟨5, ![1, 1, 1, 704, 1024]⟩
abbrev S704x1024 : Shape := ⟨2, ![704, 1024]⟩
abbrev S4096x704 : Shape := ⟨2, ![4096, 704]⟩

abbrev nBuf : Space → Nat
  | .hbm => 8
  | .vmem => 9
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S4x16384x704, .bf16⟩
  | .hbm, ⟨5, _⟩ => ⟨S4x16384x704, .bf16⟩
  | .hbm, ⟨6, _⟩ => ⟨S16384x1024, .bf16⟩
  | .hbm, ⟨7, _⟩ => ⟨S4x2x2x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S4096x1024, .bf16⟩
  | .local _ .vmem, ⟨5, _⟩ => ⟨S4096x1024, .bf16⟩
  | .local _ .vmem, ⟨6, _⟩ => ⟨S1x1x1x704x1024, .f32⟩
  | .local _ .vmem, ⟨7, _⟩ => ⟨S1x1x1x704x1024, .f32⟩
  | .local _ .vmem, ⟨8, _⟩ => ⟨S704x1024, .f32⟩
  | _, _ => ⟨S4x2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_12 : BitVec 32 := 0#32
  let v23 : BitVec 1 := Scalar.cmpi .ne v22 c0_i32_12
  v23

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![arg0.toNat, c0_i32.toNat, c1_i32.toNat, c0_i32_0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel11Ideal.lean ====
  let c0_i32_0 : BitVec 32 := 0#32
  ![arg0.toNat, c0_i32.toNat, c1_i32.toNat, c0_i32_0.toNat, arg1.toNat]
-- ==== Reference11Ideal.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S_ : Shape := ⟨0, ![]⟩
abbrev S4x704x1024 : Shape := ⟨3, ![4, 704, 1024]⟩
abbrev S1024x4x704 : Shape := ⟨3, ![1024, 4, 704]⟩
abbrev S4x1x1x704x1024 : Shape := ⟨5, ![4, 1, 1, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S_, .f32⟩
  | .hbm, ⟨5, _⟩ => ⟨S4x704x1024, .f32⟩
  | .hbm, ⟨6, _⟩ => ⟨S4x16384x704, .f32⟩
  | .hbm, ⟨7, _⟩ => ⟨S4x16384x704, .f32⟩
  | .hbm, ⟨8, _⟩ => ⟨S_, .f32⟩
  | .hbm, ⟨9, _⟩ => ⟨S4x16384x704, .f32⟩
  | .hbm, ⟨10, _⟩ => ⟨S4x16384x704, .f32⟩
  | .hbm, ⟨11, _⟩ => ⟨S_, .f32⟩
  | .hbm, ⟨12, _⟩ => ⟨S4x16384x704, .f32⟩
  | .hbm, ⟨13, _⟩ => ⟨S4x16384x704, .f32⟩
  | .hbm, ⟨14, _⟩ => ⟨S4x16384x704, .f32⟩
  | .hbm, ⟨15, _⟩ => ⟨S4x16384x704, .f32⟩
  | .hbm, ⟨16, _⟩ => ⟨S16384x1024, .f32⟩
  | .hbm, ⟨17, _⟩ => ⟨S1024x4x704, .f32⟩
  | .hbm, ⟨18, _⟩ => ⟨S4x704x1024, .f32⟩
  | .hbm, ⟨19, _⟩ => ⟨S4x1x1x704x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x2x2x704x1024, .f32⟩
  | _, _ => ⟨S4x2x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel12.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S1x4096x704 : Shape := ⟨3, ![1, 4096, 704]⟩
abbrev S4096x1024 : Shape := ⟨2, ![4096, 1024]⟩
abbrev S1x1x1x704x1024 : Shape := ⟨5, ![1, 1, 1, 704, 1024]⟩
abbrev S704x1024 : Shape := ⟨2, ![704, 1024]⟩
abbrev S4096x704 : Shape := ⟨2, ![4096, 704]⟩

abbrev nBuf : Space → Nat
  | .hbm => 8
  | .vmem => 9
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S4x16384x704, .bf16⟩
  | .hbm, ⟨5, _⟩ => ⟨S4x16384x704, .bf16⟩
  | .hbm, ⟨6, _⟩ => ⟨S16384x1024, .bf16⟩
  | .hbm, ⟨7, _⟩ => ⟨S4x2x2x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S4096x1024, .bf16⟩
  | .local _ .vmem, ⟨5, _⟩ => ⟨S4096x1024, .bf16⟩
  | .local _ .vmem, ⟨6, _⟩ => ⟨S1x1x1x704x1024, .f32⟩
  | .local _ .vmem, ⟨7, _⟩ => ⟨S1x1x1x704x1024, .f32⟩
  | .local _ .vmem, ⟨8, _⟩ => ⟨S704x1024, .f32⟩
  | _, _ => ⟨S4x2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_12 : BitVec 32 := 0#32
  let v23 : BitVec 1 := Scalar.cmpi .ne v22 c0_i32_12
  v23

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel12Ideal.lean ====
  let c0_i32_0 : BitVec 32 := 0#32
  ![arg0.toNat, c1_i32.toNat, c0_i32.toNat, c0_i32_0.toNat, arg1.toNat]
-- ==== Reference12Ideal.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S_ : Shape := ⟨0, ![]⟩
abbrev S4x704x1024 : Shape := ⟨3, ![4, 704, 1024]⟩
abbrev S1024x4x704 : Shape := ⟨3, ![1024, 4, 704]⟩
abbrev S4x1x1x704x1024 : Shape := ⟨5, ![4, 1, 1, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S_, .f32⟩
  | .hbm, ⟨5, _⟩ => ⟨S4x704x1024, .f32⟩
  | .hbm, ⟨6, _⟩ => ⟨S4x16384x704, .f32⟩
  | .hbm, ⟨7, _⟩ => ⟨S4x16384x704, .f32⟩
  | .hbm, ⟨8, _⟩ => ⟨S_, .f32⟩
  | .hbm, ⟨9, _⟩ => ⟨S4x16384x704, .f32⟩
  | .hbm, ⟨10, _⟩ => ⟨S4x16384x704, .f32⟩
  | .hbm, ⟨11, _⟩ => ⟨S_, .f32⟩
  | .hbm, ⟨12, _⟩ => ⟨S4x16384x704, .f32⟩
  | .hbm, ⟨13, _⟩ => ⟨S4x16384x704, .f32⟩
  | .hbm, ⟨14, _⟩ => ⟨S4x16384x704, .f32⟩
  | .hbm, ⟨15, _⟩ => ⟨S4x16384x704, .f32⟩
  | .hbm, ⟨16, _⟩ => ⟨S16384x1024, .f32⟩
  | .hbm, ⟨17, _⟩ => ⟨S1024x4x704, .f32⟩
  | .hbm, ⟨18, _⟩ => ⟨S4x704x1024, .f32⟩
  | .hbm, ⟨19, _⟩ => ⟨S4x1x1x704x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x2x2x704x1024, .f32⟩
  | _, _ => ⟨S4x2x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel13.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S1x4096x704 : Shape := ⟨3, ![1, 4096, 704]⟩
abbrev S4096x1024 : Shape := ⟨2, ![4096, 1024]⟩
abbrev S1x1x1x704x1024 : Shape := ⟨5, ![1, 1, 1, 704, 1024]⟩
abbrev S704x1024 : Shape := ⟨2, ![704, 1024]⟩
abbrev S4096x704 : Shape := ⟨2, ![4096, 704]⟩

abbrev nBuf : Space → Nat
  | .hbm => 8
  | .vmem => 9
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S4x16384x704, .bf16⟩
  | .hbm, ⟨5, _⟩ => ⟨S4x16384x704, .bf16⟩
  | .hbm, ⟨6, _⟩ => ⟨S16384x1024, .bf16⟩
  | .hbm, ⟨7, _⟩ => ⟨S4x2x2x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S4096x1024, .bf16⟩
  | .local _ .vmem, ⟨5, _⟩ => ⟨S4096x1024, .bf16⟩
  | .local _ .vmem, ⟨6, _⟩ => ⟨S1x1x1x704x1024, .f32⟩
  | .local _ .vmem, ⟨7, _⟩ => ⟨S1x1x1x704x1024, .f32⟩
  | .local _ .vmem, ⟨8, _⟩ => ⟨S704x1024, .f32⟩
  | _, _ => ⟨S4x2x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_12 : BitVec 32 := 0#32
  let v23 : BitVec 1 := Scalar.cmpi .ne v22 c0_i32_12
  v23

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c1_i32_0 : BitVec 32 := 1#32
  let c0_i32 : BitVec 32 := 0#32
  let c0_i32_1 : BitVec 32 := 0#32
  ![arg0.toNat, c1_i32.toNat, c1_i32_0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4x2x2x704x1024 : Shape := ⟨5, ![4, 2, 2, 704, 1024]⟩
abbrev S4x16384x704 : Shape := ⟨3, ![4, 16384, 704]⟩
abbrev S16384x1024 : Shape := ⟨2, ![16384, 1024]⟩
abbrev S_ : Shape := ⟨0, ![]⟩
abbrev S4x704x1024 : Shape := ⟨3, ![4, 704, 1024]⟩
abbrev S1024x4x704 : Shape := ⟨3, ![1024, 4, 704]⟩
abbrev S4x1x1x704x1024 : Shape := ⟨5, ![4, 1, 1, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2x2x704x1024, .f32⟩
  | .hbm, ⟨1, _⟩ => ⟨S4x16384x704, .f32⟩
  | .hbm, ⟨2, _⟩ => ⟨S4x16384x704, .f32⟩
  | .hbm, ⟨3, _⟩ => ⟨S16384x1024, .f32⟩
  | .hbm, ⟨4, _⟩ => ⟨S_, .f32⟩
  | .hbm, ⟨5, _⟩ => ⟨S4x704x1024, .f32⟩
  | .hbm, ⟨6, _⟩ => ⟨S4x16384x704, .f32⟩
  | .hbm, ⟨7, _⟩ => ⟨S4x16384x704, .f32⟩
  | .hbm, ⟨8, _⟩ => ⟨S_, .f32⟩
  | .hbm, ⟨9, _⟩ => ⟨S4x16384x704, .f32⟩
  | .hbm, ⟨10, _⟩ => ⟨S4x16384x704, .f32⟩
  | .hbm, ⟨11, _⟩ => ⟨S_, .f32⟩
  | .hbm, ⟨12, _⟩ => ⟨S4x16384x704, .f32⟩
  | .hbm, ⟨13, _⟩ => ⟨S4x16384x704, .f32⟩
  | .hbm, ⟨14, _⟩ => ⟨S4x16384x704, .f32⟩
  | .hbm, ⟨15, _⟩ => ⟨S4x16384x704, .f32⟩
  | .hbm, ⟨16, _⟩ => ⟨S16384x1024, .f32⟩
  | .hbm, ⟨17, _⟩ => ⟨S1024x4x704, .f32⟩
  | .hbm, ⟨18, _⟩ => ⟨S4x704x1024, .f32⟩
  | .hbm, ⟨19, _⟩ => ⟨S4x1x1x704x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x2x2x704x1024, .f32⟩
  | _, _ => ⟨S4x2x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel4.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S4096x1024 : Shape := ⟨2, ![4096, 1024]⟩
abbrev S1x4096x704 : Shape := ⟨3, ![1, 4096, 704]⟩
abbrev S1x1x1x1024x704 : Shape := ⟨5, ![1, 1, 1, 1024, 704]⟩
abbrev S1024x704 : Shape := ⟨2, ![1024, 704]⟩
abbrev S4096x704 : Shape := ⟨2, ![4096, 704]⟩

abbrev nBuf : Space → Nat
  | .hbm => 6
  | .vmem => 7
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S16384x1024, .bf16⟩
  | .hbm, ⟨4, _⟩ => ⟨S4x16384x704, .bf16⟩
  | .hbm, ⟨5, _⟩ => ⟨S4x2x2x1024x704, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1x1x1024x704, .f32⟩
  | .local _ .vmem, ⟨5, _⟩ => ⟨S1x1x1x1024x704, .f32⟩
  | .local _ .vmem, ⟨6, _⟩ => ⟨S1024x704, .f32⟩
  | _, _ => ⟨S4x2x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, arg0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
  let c0_i32_0 : BitVec 32 := 0#32
  let c0_i32_2 : BitVec 32 := 0#32
  ![arg1.toNat, c0_i32.toNat, c0_i32_0.toNat, arg0.toNat, c0_i32_1.toNat]
-- ==== Reference4Ideal.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S_ : Shape := ⟨0, ![]⟩
abbrev S4x1024x704 : Shape := ⟨3, ![4, 1024, 704]⟩
abbrev S4x704x16384 : Shape := ⟨3, ![4, 704, 16384]⟩
abbrev S4x704x1024 : Shape := ⟨3, ![4, 704, 1024]⟩
abbrev S4x1x1x1024x704 : Shape := ⟨5, ![4, 1, 1, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S_, .f32⟩
  | .hbm, ⟨4, _⟩ => ⟨S4x1024x704, .f32⟩
  | .hbm, ⟨5, _⟩ => ⟨S4x704x16384, .f32⟩
  | .hbm, ⟨6, _⟩ => ⟨S4x16384x704, .f32⟩
  | .hbm, ⟨7, _⟩ => ⟨S4x704x16384, .f32⟩
  | .hbm, ⟨8, _⟩ => ⟨S4x704x1024, .f32⟩
  | .hbm, ⟨9, _⟩ => ⟨S4x1024x704, .f32⟩
  | .hbm, ⟨10, _⟩ => ⟨S4x1x1x1024x704, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x2x2x1024x704, .f32⟩
  | _, _ => ⟨S4x2x2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== Kernel14.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S4096x1024 : Shape := ⟨2, ![4096, 1024]⟩
abbrev S1x4096x704 : Shape := ⟨3, ![1, 4096, 704]⟩
abbrev S1x1x1x1024x704 : Shape := ⟨5, ![1, 1, 1, 1024, 704]⟩
abbrev S1024x704 : Shape := ⟨2, ![1024, 704]⟩
abbrev S4096x704 : Shape := ⟨2, ![4096, 704]⟩

abbrev nBuf : Space → Nat
  | .hbm => 6
  | .vmem => 7
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S16384x1024, .bf16⟩
  | .hbm, ⟨4, _⟩ => ⟨S4x16384x704, .bf16⟩
  | .hbm, ⟨5, _⟩ => ⟨S4x2x2x1024x704, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1x1x1024x704, .f32⟩
  | .local _ .vmem, ⟨5, _⟩ => ⟨S1x1x1x1024x704, .f32⟩
  | .local _ .vmem, ⟨6, _⟩ => ⟨S1024x704, .f32⟩
  | _, _ => ⟨S4x2x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![arg1.toNat, c0_i32.toNat, c1_i32.toNat, arg0.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
  let c0_i32_0 : BitVec 32 := 0#32
  ![arg1.toNat, c0_i32.toNat, c1_i32.toNat, arg0.toNat, c0_i32_0.toNat]
-- ==== Reference14Ideal.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S_ : Shape := ⟨0, ![]⟩
abbrev S4x1024x704 : Shape := ⟨3, ![4, 1024, 704]⟩
abbrev S4x704x16384 : Shape := ⟨3, ![4, 704, 16384]⟩
abbrev S4x704x1024 : Shape := ⟨3, ![4, 704, 1024]⟩
abbrev S4x1x1x1024x704 : Shape := ⟨5, ![4, 1, 1, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S_, .f32⟩
  | .hbm, ⟨4, _⟩ => ⟨S4x1024x704, .f32⟩
  | .hbm, ⟨5, _⟩ => ⟨S4x704x16384, .f32⟩
  | .hbm, ⟨6, _⟩ => ⟨S4x16384x704, .f32⟩
  | .hbm, ⟨7, _⟩ => ⟨S4x704x16384, .f32⟩
  | .hbm, ⟨8, _⟩ => ⟨S4x704x1024, .f32⟩
  | .hbm, ⟨9, _⟩ => ⟨S4x1024x704, .f32⟩
  | .hbm, ⟨10, _⟩ => ⟨S4x1x1x1024x704, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x2x2x1024x704, .f32⟩
  | _, _ => ⟨S4x2x2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== Kernel15.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S4096x1024 : Shape := ⟨2, ![4096, 1024]⟩
abbrev S1x4096x704 : Shape := ⟨3, ![1, 4096, 704]⟩
abbrev S1x1x1x1024x704 : Shape := ⟨5, ![1, 1, 1, 1024, 704]⟩
abbrev S1024x704 : Shape := ⟨2, ![1024, 704]⟩
abbrev S4096x704 : Shape := ⟨2, ![4096, 704]⟩

abbrev nBuf : Space → Nat
  | .hbm => 6
  | .vmem => 7
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S16384x1024, .bf16⟩
  | .hbm, ⟨4, _⟩ => ⟨S4x16384x704, .bf16⟩
  | .hbm, ⟨5, _⟩ => ⟨S4x2x2x1024x704, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1x1x1024x704, .f32⟩
  | .local _ .vmem, ⟨5, _⟩ => ⟨S1x1x1x1024x704, .f32⟩
  | .local _ .vmem, ⟨6, _⟩ => ⟨S1024x704, .f32⟩
  | _, _ => ⟨S4x2x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, arg0.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
  let c0_i32_0 : BitVec 32 := 0#32
  ![arg1.toNat, c1_i32.toNat, c0_i32.toNat, arg0.toNat, c0_i32_0.toNat]
-- ==== Reference15Ideal.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S_ : Shape := ⟨0, ![]⟩
abbrev S4x1024x704 : Shape := ⟨3, ![4, 1024, 704]⟩
abbrev S4x704x16384 : Shape := ⟨3, ![4, 704, 16384]⟩
abbrev S4x704x1024 : Shape := ⟨3, ![4, 704, 1024]⟩
abbrev S4x1x1x1024x704 : Shape := ⟨5, ![4, 1, 1, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S_, .f32⟩
  | .hbm, ⟨4, _⟩ => ⟨S4x1024x704, .f32⟩
  | .hbm, ⟨5, _⟩ => ⟨S4x704x16384, .f32⟩
  | .hbm, ⟨6, _⟩ => ⟨S4x16384x704, .f32⟩
  | .hbm, ⟨7, _⟩ => ⟨S4x704x16384, .f32⟩
  | .hbm, ⟨8, _⟩ => ⟨S4x704x1024, .f32⟩
  | .hbm, ⟨9, _⟩ => ⟨S4x1024x704, .f32⟩
  | .hbm, ⟨10, _⟩ => ⟨S4x1x1x1024x704, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x2x2x1024x704, .f32⟩
  | _, _ => ⟨S4x2x2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== Kernel16.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S4096x1024 : Shape := ⟨2, ![4096, 1024]⟩
abbrev S1x4096x704 : Shape := ⟨3, ![1, 4096, 704]⟩
abbrev S1x1x1x1024x704 : Shape := ⟨5, ![1, 1, 1, 1024, 704]⟩
abbrev S1024x704 : Shape := ⟨2, ![1024, 704]⟩
abbrev S4096x704 : Shape := ⟨2, ![4096, 704]⟩

abbrev nBuf : Space → Nat
  | .hbm => 6
  | .vmem => 7
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S16384x1024, .bf16⟩
  | .hbm, ⟨4, _⟩ => ⟨S4x16384x704, .bf16⟩
  | .hbm, ⟨5, _⟩ => ⟨S4x2x2x1024x704, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1x1x1024x704, .f32⟩
  | .local _ .vmem, ⟨5, _⟩ => ⟨S1x1x1x1024x704, .f32⟩
  | .local _ .vmem, ⟨6, _⟩ => ⟨S1024x704, .f32⟩
  | _, _ => ⟨S4x2x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c1_i32_0 : BitVec 32 := 1#32
  let c0_i32 : BitVec 32 := 0#32
  let c0_i32_1 : BitVec 32 := 0#32
  ![arg1.toNat, c1_i32.toNat, c1_i32_0.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4x2x2x1024x704 : Shape := ⟨5, ![4, 2, 2, 1024, 704]⟩
abbrev S16384x1024 : Shape := ⟨2, ![16384, 1024]⟩
abbrev S4x16384x704 : Shape := ⟨3, ![4, 16384, 704]⟩
abbrev S_ : Shape := ⟨0, ![]⟩
abbrev S4x1024x704 : Shape := ⟨3, ![4, 1024, 704]⟩
abbrev S4x704x16384 : Shape := ⟨3, ![4, 704, 16384]⟩
abbrev S4x704x1024 : Shape := ⟨3, ![4, 704, 1024]⟩
abbrev S4x1x1x1024x704 : Shape := ⟨5, ![4, 1, 1, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S4x2x2x1024x704, .f32⟩
  | .hbm, ⟨1, _⟩ => ⟨S16384x1024, .f32⟩
  | .hbm, ⟨2, _⟩ => ⟨S4x16384x704, .f32⟩
  | .hbm, ⟨3, _⟩ => ⟨S_, .f32⟩
  | .hbm, ⟨4, _⟩ => ⟨S4x1024x704, .f32⟩
  | .hbm, ⟨5, _⟩ => ⟨S4x704x16384, .f32⟩
  | .hbm, ⟨6, _⟩ => ⟨S4x16384x704, .f32⟩
  | .hbm, ⟨7, _⟩ => ⟨S4x704x16384, .f32⟩
  | .hbm, ⟨8, _⟩ => ⟨S4x704x1024, .f32⟩
  | .hbm, ⟨9, _⟩ => ⟨S4x1024x704, .f32⟩
  | .hbm, ⟨10, _⟩ => ⟨S4x1x1x1024x704, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x2x2x1024x704, .f32⟩
  | _, _ => ⟨S4x2x2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== Kernel6.lean ====
abbrev S16384x1024 : Shape := ⟨2, ![16384, 1024]⟩
abbrev S16384x2304 : Shape := ⟨2, ![16384, 2304]⟩
abbrev S1024x2304 : Shape := ⟨2, ![1024, 2304]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2304, .f32⟩
  | .hbm, ⟨2, _⟩ => ⟨S16384x1024, .bf16⟩
  | .hbm, ⟨3, _⟩ => ⟨S16384x2304, .bf16⟩
  | .hbm, ⟨4, _⟩ => ⟨S1024x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S16384x2304 : Shape := ⟨2, ![16384, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2304, .f32⟩
  | .hbm, ⟨2, _⟩ => ⟨S_, .f32⟩
  | .hbm, ⟨3, _⟩ => ⟨S1024x2304, .f32⟩
  | .hbm, ⟨4, _⟩ => ⟨S16384x2304, .f32⟩
  | .hbm, ⟨5, _⟩ => ⟨S2304x1024, .f32⟩
  | .hbm, ⟨6, _⟩ => ⟨S1024x2304, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x1024 : Shape := ⟨2, ![16384, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .bf16⟩
  | .hbm, ⟨3, _⟩ => ⟨S16384x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S_, .f32⟩
  | .hbm, ⟨3, _⟩ => ⟨S1024x2048, .f32⟩
  | .hbm, ⟨4, _⟩ => ⟨S16384x2048, .f32⟩
  | .hbm, ⟨5, _⟩ => ⟨S2048x1024, .f32⟩
  | .hbm, ⟨6, _⟩ => ⟨S1024x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S16384x1024 : Shape := ⟨2, ![16384, 1024]⟩
abbrev S1024x1024 : Shape := ⟨2, ![1024, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S16384x256 : Shape := ⟨2, ![16384, 256]⟩
abbrev S16384x1024 : Shape := ⟨2, ![16384, 1024]⟩
abbrev S256x1024 : Shape := ⟨2, ![256, 1024]⟩
abbrev S4096x256 : Shape := ⟨2, ![4096, 256]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x256, .bf16⟩
  | .hbm, ⟨3, _⟩ => ⟨S16384x1024, .bf16⟩
  | .hbm, ⟨4, _⟩ => ⟨S256x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S1024x256, .f32⟩
  | .hbm, ⟨6, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x704 : Shape := ⟨2, ![4096, 704]⟩
abbrev S512x704 : Shape := ⟨2, ![512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
abbrev S4096x704 : Shape := ⟨2, ![4096, 704]⟩
abbrev S512x704 : Shape := ⟨2, ![512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2816x1024 : Shape := ⟨2, ![2816, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S2816x1024 : Shape := ⟨2, ![2816, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2048x1600 : Shape := ⟨2, ![2048, 1600]⟩
abbrev S256x1600 : Shape := ⟨2, ![256, 1600]⟩

abbrev nBuf : Space → Nat
  | .hbm => 8
  | .vmem => 16
  | .smem => 0
  | _ => 0

abbrev bufTy : (tb : Table) → Fin (tcTables nBuf tb) → BufTy
  | .hbm, ⟨0, _⟩ => ⟨S2048x1600, .f32⟩
  | .hbm, ⟨1, _⟩ => ⟨S2048x1600, .f32⟩
  | .hbm, ⟨2, _⟩ => ⟨S2048x1600, .f32⟩
  | .hbm, ⟨3, _⟩ => ⟨S2048x1600, .f32⟩
  | .hbm, ⟨4, _⟩ => ⟨S2048x1600, .f32⟩
  | .hbm, ⟨5, _⟩ => ⟨S2048x1600, .f32⟩
  | .hbm, ⟨6, _⟩ => ⟨S2048x1600, .f32⟩
  | .hbm, ⟨7, _⟩ => ⟨S2048x1600, .f32⟩
  | .local _ .vmem, ⟨0, _⟩ => ⟨S256x1600, .f32⟩
  | .local _ .vmem, ⟨1, _⟩ => ⟨S256x1600, .f32⟩
  | .local _ .vmem, ⟨2, _⟩ => ⟨S256x1600, .f32⟩
  | .local _ .vmem, ⟨3, _⟩ => ⟨S256x1600, .f32⟩
  | .local _ .vmem, ⟨4, _⟩ => ⟨S256x1600, .f32⟩
  | .local _ .vmem, ⟨5, _⟩ => ⟨S256x1600, .f32⟩
  | .local _ .vmem, ⟨6, _⟩ => ⟨S256x1600, .f32⟩
  | .local _ .vmem, ⟨7, _⟩ => ⟨S256x1600, .f32⟩
  | .local _ .vmem, ⟨8, _⟩ => ⟨S256x1600, .f32⟩
  | .local _ .vmem, ⟨9, _⟩ => ⟨S256x1600, .f32⟩
  | .local _ .vmem, ⟨10, _⟩ => ⟨S256x1600, .f32⟩
  | .local _ .vmem, ⟨11, _⟩ => ⟨S256x1600, .f32⟩
  | .local _ .vmem, ⟨12, _⟩ => ⟨S256x1600, .f32⟩
  | .local _ .vmem, ⟨13, _⟩ => ⟨S256x1600, .f32⟩
  | .local _ .vmem, ⟨14, _⟩ => ⟨S256x1600, .f32⟩
  | .local _ .vmem, ⟨15, _⟩ => ⟨S256x1600, .f32⟩
  | _, _ => ⟨S2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel21Ideal.lean ====
abbrev S2048x1600 : Shape := ⟨2, ![2048, 1600]⟩
abbrev S256x1600 : Shape := ⟨2, ![256, 1600]⟩

abbrev nBuf : Space → Nat
  | .hbm => 8
  | .vmem => 16
  | .smem => 0
  | _ => 0

abbrev bufTy : (tb : Table) → Fin (tcTables nBuf tb) → BufTy
  | .hbm, ⟨0, _⟩ => ⟨S2048x1600, .f32⟩
  | .hbm, ⟨1, _⟩ => ⟨S2048x1600, .f32⟩
  | .hbm, ⟨2, _⟩ => ⟨S2048x1600, .f32⟩
  | .hbm, ⟨3, _⟩ => ⟨S2048x1600, .f32⟩
  | .hbm, ⟨4, _⟩ => ⟨S2048x1600, .f32⟩
  | .hbm, ⟨5, _⟩ => ⟨S2048x1600, .f32⟩
  | .hbm, ⟨6, _⟩ => ⟨S2048x1600, .f32⟩
  | .hbm, ⟨7, _⟩ => ⟨S2048x1600, .f32⟩
  | .local _ .vmem, ⟨0, _⟩ => ⟨S256x1600, .f32⟩
  | .local _ .vmem, ⟨1, _⟩ => ⟨S256x1600, .f32⟩
  | .local _ .vmem, ⟨2, _⟩ => ⟨S256x1600, .f32⟩
  | .local _ .vmem, ⟨3, _⟩ => ⟨S256x1600, .f32⟩
  | .local _ .vmem, ⟨4, _⟩ => ⟨S256x1600, .f32⟩
  | .local _ .vmem, ⟨5, _⟩ => ⟨S256x1600, .f32⟩
  | .local _ .vmem, ⟨6, _⟩ => ⟨S256x1600, .f32⟩
  | .local _ .vmem, ⟨7, _⟩ => ⟨S256x1600, .f32⟩
  | .local _ .vmem, ⟨8, _⟩ => ⟨S256x1600, .f32⟩
  | .local _ .vmem, ⟨9, _⟩ => ⟨S256x1600, .f32⟩
  | .local _ .vmem, ⟨10, _⟩ => ⟨S256x1600, .f32⟩
  | .local _ .vmem, ⟨11, _⟩ => ⟨S256x1600, .f32⟩
  | .local _ .vmem, ⟨12, _⟩ => ⟨S256x1600, .f32⟩
  | .local _ .vmem, ⟨13, _⟩ => ⟨S256x1600, .f32⟩
  | .local _ .vmem, ⟨14, _⟩ => ⟨S256x1600, .f32⟩
  | .local _ .vmem, ⟨15, _⟩ => ⟨S256x1600, .f32⟩
  | _, _ => ⟨S2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2048x1600 : Shape := ⟨2, ![2048, 1600]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1600, .f32⟩
  | .hbm, ⟨1, _⟩ => ⟨S2048x1600, .f32⟩
  | .hbm, ⟨2, _⟩ => ⟨S2048x1600, .f32⟩
  | .hbm, ⟨3, _⟩ => ⟨S2048x1600, .f32⟩
  | .hbm, ⟨4, _⟩ => ⟨S_, .f32⟩
  | .hbm, ⟨5, _⟩ => ⟨S2048x1600, .f32⟩
  | .hbm, ⟨6, _⟩ => ⟨S2048x1600, .f32⟩
  | .hbm, ⟨7, _⟩ => ⟨S_, .f32⟩
  | .hbm, ⟨8, _⟩ => ⟨S2048x1600, .f32⟩
  | .hbm, ⟨9, _⟩ => ⟨S2048x1600, .f32⟩
  | .hbm, ⟨10, _⟩ => ⟨S2048x1600, .f32⟩
  | .hbm, ⟨11, _⟩ => ⟨S_, .f32⟩
  | .hbm, ⟨12, _⟩ => ⟨S2048x1600, .f32⟩
  | .hbm, ⟨13, _⟩ => ⟨S2048x1600, .f32⟩
  | .hbm, ⟨14, _⟩ => ⟨S2048x1600, .f32⟩
  | .hbm, ⟨15, _⟩ => ⟨S_, .f32⟩
  | .hbm, ⟨16, _⟩ => ⟨S2048x1600, .f32⟩
  | .hbm, ⟨17, _⟩ => ⟨S2048x1600, .f32⟩
  | .hbm, ⟨18, _⟩ => ⟨S2048x1600, .f32⟩
  | .hbm, ⟨19, _⟩ => ⟨S_, .f32⟩
  | .hbm, ⟨20, _⟩ => ⟨S2048x1600, .f32⟩
  | .hbm, ⟨21, _⟩ => ⟨S2048x1600, .f32⟩
  | .hbm, ⟨22, _⟩ => ⟨S_, .f32⟩
  | .hbm, ⟨23, _⟩ => ⟨S2048x1600, .f32⟩
  | .hbm, ⟨24, _⟩ => ⟨S2048x1600, .f32⟩
  | .hbm, ⟨25, _⟩ => ⟨S2048x1600, .f32⟩
  | .hbm, ⟨26, _⟩ => ⟨S_, .f32⟩
  | .hbm, ⟨27, _⟩ => ⟨S2048x1600, .f32⟩
  | .hbm, ⟨28, _⟩ => ⟨S2048x1600, .f32⟩
  | .hbm, ⟨29, _⟩ => ⟨S2048x1600, .f32⟩
  | .hbm, ⟨30, _⟩ => ⟨S_, .f32⟩
  | .hbm, ⟨31, _⟩ => ⟨S2048x1600, .f32⟩
  | .hbm, ⟨32, _⟩ => ⟨S2048x1600, .f32⟩
  | .hbm, ⟨33, _⟩ => ⟨S2048x1600, .f32⟩
  | .hbm, ⟨34, _⟩ => ⟨S_, .f32⟩
  | .hbm, ⟨35, _⟩ => ⟨S2048x1600, .f32⟩
  | .hbm, ⟨36, _⟩ => ⟨S2048x1600, .f32⟩
  | _, _ => ⟨S2048x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel22Ideal.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x2304 : Shape := ⟨2, ![2048, 2304]⟩
abbrev S128x2304 : Shape := ⟨2, ![128, 2304]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | .local _ .vmem, ⟨15, _⟩ => ⟨S128x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel23Ideal.lean ====
abbrev S2048x2304 : Shape := ⟨2, ![2048, 2304]⟩
abbrev S128x2304 : Shape := ⟨2, ![128, 2304]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | .local _ .vmem, ⟨15, _⟩ => ⟨S128x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel24Ideal.lean ====
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S62x256 : Shape := ⟨2, ![62, 256]⟩

abbrev nBuf : Space → Nat
  | .hbm => 8
  | .vmem => 8
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | .local _ .vmem, ⟨7, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel25Ideal.lean ====
abbrev S62x256 : Shape := ⟨2, ![62, 256]⟩

abbrev nBuf : Space → Nat
  | .hbm => 8
  | .vmem => 8
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | .local _ .vmem, ⟨7, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S62x256 : Shape := ⟨2, ![62, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S_, .f32⟩
  | .hbm, ⟨5, _⟩ => ⟨S62x256, .f32⟩
  | .hbm, ⟨6, _⟩ => ⟨S62x256, .f32⟩
  | .hbm, ⟨7, _⟩ => ⟨S_, .f32⟩
  | .hbm, ⟨8, _⟩ => ⟨S62x256, .f32⟩
  | .hbm, ⟨9, _⟩ => ⟨S62x256, .f32⟩
  | .hbm, ⟨10, _⟩ => ⟨S62x256, .f32⟩
  | .hbm, ⟨11, _⟩ => ⟨S_, .f32⟩
  | .hbm, ⟨12, _⟩ => ⟨S62x256, .f32⟩
  | .hbm, ⟨13, _⟩ => ⟨S62x256, .f32⟩
  | .hbm, ⟨14, _⟩ => ⟨S62x256, .f32⟩
  | .hbm, ⟨15, _⟩ => ⟨S_, .f32⟩
  | .hbm, ⟨16, _⟩ => ⟨S62x256, .f32⟩
  | .hbm, ⟨17, _⟩ => ⟨S62x256, .f32⟩
  | .hbm, ⟨18, _⟩ => ⟨S62x256, .f32⟩
  | .hbm, ⟨19, _⟩ => ⟨S_, .f32⟩
  | .hbm, ⟨20, _⟩ => ⟨S62x256, .f32⟩
  | .hbm, ⟨21, _⟩ => ⟨S62x256, .f32⟩
  | .hbm, ⟨22, _⟩ => ⟨S_, .f32⟩
  | .hbm, ⟨23, _⟩ => ⟨S62x256, .f32⟩
  | .hbm, ⟨24, _⟩ => ⟨S62x256, .f32⟩
  | .hbm, ⟨25, _⟩ => ⟨S62x256, .f32⟩
  | .hbm, ⟨26, _⟩ => ⟨S_, .f32⟩
  | .hbm, ⟨27, _⟩ => ⟨S62x256, .f32⟩
  | .hbm, ⟨28, _⟩ => ⟨S62x256, .f32⟩
  | .hbm, ⟨29, _⟩ => ⟨S62x256, .f32⟩
  | .hbm, ⟨30, _⟩ => ⟨S_, .f32⟩
  | .hbm, ⟨31, _⟩ => ⟨S62x256, .f32⟩
  | .hbm, ⟨32, _⟩ => ⟨S62x256, .f32⟩
  | .hbm, ⟨33, _⟩ => ⟨S62x256, .f32⟩
  | .hbm, ⟨34, _⟩ => ⟨S_, .f32⟩
  | .hbm, ⟨35, _⟩ => ⟨S62x256, .f32⟩
  | .hbm, ⟨36, _⟩ => ⟨S62x256, .f32⟩
  | _, _ => ⟨S62x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel26Ideal.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S6x256 : Shape := ⟨2, ![6, 256]⟩

abbrev nBuf : Space → Nat
  | .hbm => 8
  | .vmem => 8
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | .local _ .vmem, ⟨7, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel27Ideal.lean ====
abbrev S6x256 : Shape := ⟨2, ![6, 256]⟩

abbrev nBuf : Space → Nat
  | .hbm => 8
  | .vmem => 8
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | .local _ .vmem, ⟨7, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S6x256 : Shape := ⟨2, ![6, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S_, .f32⟩
  | .hbm, ⟨5, _⟩ => ⟨S6x256, .f32⟩
  | .hbm, ⟨6, _⟩ => ⟨S6x256, .f32⟩
  | .hbm, ⟨7, _⟩ => ⟨S_, .f32⟩
  | .hbm, ⟨8, _⟩ => ⟨S6x256, .f32⟩
  | .hbm, ⟨9, _⟩ => ⟨S6x256, .f32⟩
  | .hbm, ⟨10, _⟩ => ⟨S6x256, .f32⟩
  | .hbm, ⟨11, _⟩ => ⟨S_, .f32⟩
  | .hbm, ⟨12, _⟩ => ⟨S6x256, .f32⟩
  | .hbm, ⟨13, _⟩ => ⟨S6x256, .f32⟩
  | .hbm, ⟨14, _⟩ => ⟨S6x256, .f32⟩
  | .hbm, ⟨15, _⟩ => ⟨S_, .f32⟩
  | .hbm, ⟨16, _⟩ => ⟨S6x256, .f32⟩
  | .hbm, ⟨17, _⟩ => ⟨S6x256, .f32⟩
  | .hbm, ⟨18, _⟩ => ⟨S6x256, .f32⟩
  | .hbm, ⟨19, _⟩ => ⟨S_, .f32⟩
  | .hbm, ⟨20, _⟩ => ⟨S6x256, .f32⟩
  | .hbm, ⟨21, _⟩ => ⟨S6x256, .f32⟩
  | .hbm, ⟨22, _⟩ => ⟨S_, .f32⟩
  | .hbm, ⟨23, _⟩ => ⟨S6x256, .f32⟩
  | .hbm, ⟨24, _⟩ => ⟨S6x256, .f32⟩
  | .hbm, ⟨25, _⟩ => ⟨S6x256, .f32⟩
  | .hbm, ⟨26, _⟩ => ⟨S_, .f32⟩
  | .hbm, ⟨27, _⟩ => ⟨S6x256, .f32⟩
  | .hbm, ⟨28, _⟩ => ⟨S6x256, .f32⟩
  | .hbm, ⟨29, _⟩ => ⟨S6x256, .f32⟩
  | .hbm, ⟨30, _⟩ => ⟨S_, .f32⟩
  | .hbm, ⟨31, _⟩ => ⟨S6x256, .f32⟩
  | .hbm, ⟨32, _⟩ => ⟨S6x256, .f32⟩
  | .hbm, ⟨33, _⟩ => ⟨S6x256, .f32⟩
  | .hbm, ⟨34, _⟩ => ⟨S_, .f32⟩
  | .hbm, ⟨35, _⟩ => ⟨S6x256, .f32⟩
  | .hbm, ⟨36, _⟩ => ⟨S6x256, .f32⟩
  | _, _ => ⟨S6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel28Ideal.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x9216 : Shape := ⟨2, ![2, 9216]⟩

abbrev nBuf : Space → Nat
  | .hbm => 8
  | .vmem => 8
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .hbm, ⟨7, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | .local _ .vmem, ⟨7, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S2x9216 : Shape := ⟨2, ![2, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S_, .f32⟩
  | .hbm, ⟨5, _⟩ => ⟨S2x9216, .f32⟩
  | .hbm, ⟨6, _⟩ => ⟨S2x9216, .f32⟩
  | .hbm, ⟨7, _⟩ => ⟨S_, .f32⟩
  | .hbm, ⟨8, _⟩ => ⟨S2x9216, .f32⟩
  | .hbm, ⟨9, _⟩ => ⟨S2x9216, .f32⟩
  | .hbm, ⟨10, _⟩ => ⟨S2x9216, .f32⟩
  | .hbm, ⟨11, _⟩ => ⟨S_, .f32⟩
  | .hbm, ⟨12, _⟩ => ⟨S2x9216, .f32⟩
  | .hbm, ⟨13, _⟩ => ⟨S2x9216, .f32⟩
  | .hbm, ⟨14, _⟩ => ⟨S2x9216, .f32⟩
  | .hbm, ⟨15, _⟩ => ⟨S_, .f32⟩
  | .hbm, ⟨16, _⟩ => ⟨S2x9216, .f32⟩
  | .hbm, ⟨17, _⟩ => ⟨S2x9216, .f32⟩
  | .hbm, ⟨18, _⟩ => ⟨S2x9216, .f32⟩
  | .hbm, ⟨19, _⟩ => ⟨S_, .f32⟩
  | .hbm, ⟨20, _⟩ => ⟨S2x9216, .f32⟩
  | .hbm, ⟨21, _⟩ => ⟨S2x9216, .f32⟩
  | .hbm, ⟨22, _⟩ => ⟨S_, .f32⟩
  | .hbm, ⟨23, _⟩ => ⟨S2x9216, .f32⟩
  | .hbm, ⟨24, _⟩ => ⟨S2x9216, .f32⟩
  | .hbm, ⟨25, _⟩ => ⟨S2x9216, .f32⟩
  | .hbm, ⟨26, _⟩ => ⟨S_, .f32⟩
  | .hbm, ⟨27, _⟩ => ⟨S2x9216, .f32⟩
  | .hbm, ⟨28, _⟩ => ⟨S2x9216, .f32⟩
  | .hbm, ⟨29, _⟩ => ⟨S2x9216, .f32⟩
  | .hbm, ⟨30, _⟩ => ⟨S_, .f32⟩
  | .hbm, ⟨31, _⟩ => ⟨S2x9216, .f32⟩
  | .hbm, ⟨32, _⟩ => ⟨S2x9216, .f32⟩
  | .hbm, ⟨33, _⟩ => ⟨S2x9216, .f32⟩
  | .hbm, ⟨34, _⟩ => ⟨S_, .f32⟩
  | .hbm, ⟨35, _⟩ => ⟨S2x9216, .f32⟩
  | .hbm, ⟨36, _⟩ => ⟨S2x9216, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8x1024 : Shape := ⟨2, ![8, 1024]⟩
abbrev S2x8x2304 : Shape := ⟨3, ![2, 8, 2304]⟩
abbrev S1024x8 : Shape := ⟨2, ![1024, 8]⟩
abbrev S2x1024x2304 : Shape := ⟨3, ![2, 1024, 2304]⟩
abbrev S256x8 : Shape := ⟨2, ![256, 8]⟩
abbrev S1x8x2304 : Shape := ⟨3, ![1, 8, 2304]⟩
abbrev S1x256x2304 : Shape := ⟨3, ![1, 256, 2304]⟩
abbrev S256x1 : Shape := ⟨2, ![256, 1]⟩
abbrev S1x1x2304 : Shape := ⟨3, ![1, 1, 2304]⟩
abbrev S1x2304 : Shape := ⟨2, ![1, 2304]⟩
abbrev S256x2304 : Shape := ⟨2, ![256, 2304]⟩

abbrev nBuf : Space → Nat
  | .hbm => 4
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S2x8x2304, .f32⟩
  | .hbm, ⟨2, _⟩ => ⟨S1024x8, .f32⟩
  | .hbm, ⟨3, _⟩ => ⟨S2x1024x2304, .f32⟩
  | .local _ .vmem, ⟨0, _⟩ => ⟨S256x8, .f32⟩
  | .local _ .vmem, ⟨1, _⟩ => ⟨S256x8, .f32⟩
  | .local _ .vmem, ⟨2, _⟩ => ⟨S1x8x2304, .f32⟩
  | .local _ .vmem, ⟨3, _⟩ => ⟨S1x8x2304, .f32⟩
  | .local _ .vmem, ⟨4, _⟩ => ⟨S1x256x2304, .f32⟩
  | .local _ .vmem, ⟨5, _⟩ => ⟨S1x256x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S8x1024 : Shape := ⟨2, ![8, 1024]⟩
abbrev S2x8x2304 : Shape := ⟨3, ![2, 8, 2304]⟩
abbrev S_ : Shape := ⟨0, ![]⟩
abbrev S2x1024x2304 : Shape := ⟨3, ![2, 1024, 2304]⟩
abbrev S2x2304x8 : Shape := ⟨3, ![2, 2304, 8]⟩
abbrev S2x2304x1024 : Shape := ⟨3, ![2, 2304, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x2304, .f32⟩
  | .hbm, ⟨2, _⟩ => ⟨S_, .f32⟩
  | .hbm, ⟨3, _⟩ => ⟨S2x1024x2304, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S2x2304x8, .f32⟩
  | .hbm, ⟨14, _⟩ => ⟨S2x8x2304, .f32⟩
  | .hbm, ⟨15, _⟩ => ⟨S2x2304x8, .f32⟩
  | .hbm, ⟨16, _⟩ => ⟨S2x2304x1024, .f32⟩
  | .hbm, ⟨17, _⟩ => ⟨S2x1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel31.lean ====
abbrev S8x18432 : Shape := ⟨2, ![8, 18432]⟩
abbrev S1x18432 : Shape := ⟨2, ![1, 18432]⟩

abbrev nBuf : Space → Nat
  | .hbm => 2
  | .vmem => 2
  | .smem => 0
  | _ => 0

abbrev bufTy : (tb : Table) → Fin (tcTables nBuf tb) → BufTy
  | .hbm, ⟨0, _⟩ => ⟨S8x18432, .f32⟩
  | .hbm, ⟨1, _⟩ => ⟨S1x18432, .f32⟩
  | .local _ .vmem, ⟨0, _⟩ => ⟨S8x18432, .f32⟩
  | .local _ .vmem, ⟨1, _⟩ => ⟨S1x18432, .f32⟩
  | _, _ => ⟨S8x18432, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference31Ideal.lean ====
abbrev S8x18432 : Shape := ⟨2, ![8, 18432]⟩
abbrev S_ : Shape := ⟨0, ![]⟩
abbrev S1x18432 : Shape := ⟨2, ![1, 18432]⟩
abbrev S18432 : Shape := ⟨1, ![18432]⟩

abbrev nBuf : Space → Nat
  | .hbm => 10
  | .vmem => 0
  | .smem => 0
  | _ => 0

abbrev bufTy : (tb : Table) → Fin (tcTables nBuf tb) → BufTy
  | .hbm, ⟨0, _⟩ => ⟨S8x18432, .f32⟩
  | .hbm, ⟨1, _⟩ => ⟨S_, .f32⟩
  | .hbm, ⟨2, _⟩ => ⟨S1x18432, .f32⟩
  | .hbm, ⟨3, _⟩ => ⟨S_, .f32⟩
  | .hbm, ⟨4, _⟩ => ⟨S8x18432, .f32⟩
  | .hbm, ⟨5, _⟩ => ⟨S8x18432, .f32⟩
  | .hbm, ⟨6, _⟩ => ⟨S8x18432, .f32⟩
  | .hbm, ⟨7, _⟩ => ⟨S_, .f32⟩
  | .hbm, ⟨8, _⟩ => ⟨S18432, .f32⟩
  | .hbm, ⟨9, _⟩ => ⟨S1x18432, .f32⟩
  | _, _ => ⟨S8x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel32.lean ====
abbrev S8x1024 : Shape := ⟨2, ![8, 1024]⟩
abbrev S2x1024x2304 : Shape := ⟨3, ![2, 1024, 2304]⟩
abbrev S8x4608 : Shape := ⟨2, ![8, 4608]⟩
abbrev S1x1024x2304 : Shape := ⟨3, ![1, 1024, 2304]⟩
abbrev S8x2304 : Shape := ⟨2, ![8, 2304]⟩
abbrev S1024x2304 : Shape := ⟨2, ![1024, 2304]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x2304, .f32⟩
  | .hbm, ⟨2, _⟩ => ⟨S2x1024x2304, .bf16⟩
  | .hbm, ⟨3, _⟩ => ⟨S8x4608, .f32⟩
  | .local _ .vmem, ⟨0, _⟩ => ⟨S8x1024, .f32⟩
  | .local _ .vmem, ⟨1, _⟩ => ⟨S1x1024x2304, .bf16⟩
  | .local _ .vmem, ⟨2, _⟩ => ⟨S1x1024x2304, .bf16⟩
  | .local _ .vmem, ⟨3, _⟩ => ⟨S8x2304, .f32⟩
  | .local _ .vmem, ⟨4, _⟩ => ⟨S8x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S8x1024 : Shape := ⟨2, ![8, 1024]⟩
abbrev S2x1024x2304 : Shape := ⟨3, ![2, 1024, 2304]⟩
abbrev S_ : Shape := ⟨0, ![]⟩
abbrev S1x1024x2304 : Shape := ⟨3, ![1, 1024, 2304]⟩
abbrev S1024x2304 : Shape := ⟨2, ![1024, 2304]⟩
abbrev S8x2304 : Shape := ⟨2, ![8, 2304]⟩
abbrev S8x4608 : Shape := ⟨2, ![8, 4608]⟩

abbrev nBuf : Space → Nat
  | .hbm => 27
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x2304, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1x1024x2304, .f32⟩
  | .hbm, ⟨12, _⟩ => ⟨S1024x2304, .f32⟩
  | .hbm, ⟨13, _⟩ => ⟨S8x2304, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S1x1024x2304, .f32⟩
  | .hbm, ⟨24, _⟩ => ⟨S1024x2304, .f32⟩
  | .hbm, ⟨25, _⟩ => ⟨S8x2304, .f32⟩
  | .hbm, ⟨26, _⟩ => ⟨S8x4608, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== Kernel33.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference33Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩
abbrev main_v56 : Ref sig .tc := ⟨.hbm, 78, rfl⟩
abbrev main_cst_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_v68 : Ref sig .tc := ⟨.hbm, 92, rfl⟩
abbrev main_cst_20 : Ref sig .tc := ⟨.hbm, 93, rfl⟩
abbrev main_v69 : Ref sig .tc := ⟨.hbm, 94, rfl⟩
abbrev main_v70 : Ref sig .tc := ⟨.hbm, 95, rfl⟩
abbrev main_cst_21 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Proof.KernelRun.lean ====
/- The kernel's run: its three results and its arguments in every final state. -/
module

public import proofs.«01_k».proof.Proof.Gen.KernelIdeal.Frame

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with every buffer of the TensorCores at the contents that the boundaries' fold reaches. -/
theorem kernel_run : θ_run defs (onTc (τ := τ) (main (F := Ideal))) ⟨m, fun _ => 0, ρ⟩ (fun r => ∀ c : Dev nD,
      r.2.mem ((c.tc : Thread nD τ).loc main_v44_0) = W4 m ρ c (Proc.devRef .tc main_v44_0)
      ∧ r.2.mem ((c.tc : Thread nD τ).loc main_v44_1) = W4 m ρ c (Proc.devRef .tc main_v44_1)
      ∧ r.2.mem ((c.tc : Thread nD τ).loc main_v44_2) = W4 m ρ c (Proc.devRef .tc main_v44_2)
      ∧ ∀ a ∈ argRefs, r.2.mem ((c.tc : Thread nD τ).loc a) = m ((c.tc : Thread nD τ).loc a)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c => ⟨h c _ (mem_uc main_v44_0 (by decide)), h c _ (mem_uc main_v44_1 (by decide)),
      h c _ (mem_uc main_v44_2 (by decide)), fun a ha => (h c _ (mem_uc a (by
        revert a; decide))).trans (W4_args m ρ c a ha)⟩)

end Cert.Attn

end
-- ==== Proof.Attn.lean ====
/- The mathematics of the attention's gradient over the reals: the quantities both programs compute, as functions of a
   row and a column of the 4096 x 1024 arrays (row `l` is a token of one dilation phase, column `64 * g + e` is lane `e`
   of head column `g`, a phase and a head together), and the equations between the two ways of writing the gradient. -/
module

public import Mathlib.Analysis.SpecialFunctions.Log.Basic
public import Mathlib.Data.EReal.Operations
public import Mathlib.Data.Finset.Fold
public import Mathlib.Algebra.BigOperators.Fin
public import Mathlib.Tactic.Ring
public import Mathlib.Tactic.FieldSimp
public import Mathlib.Tactic.Positivity
public import Mathlib.Tactic.Linarith

@[expose] public section

noncomputable section

namespace Cert.Attn

/-- A real array by row and column. -/
abbrev Arr := ℕ → ℕ → ℝ

/-- The row of key `b` of block `n`'s 256 keys: the 128 of the block before and the 128 of the block itself. Block 0 has no
    block before; its first 128 keys are never kept. -/
def krow (n b : ℕ) : ℕ := if n = 0 ∧ b < 128 then b else n * 128 + b - 128

/-- Query `a` of block `n` attends to key `b`: at most 128 rows back, and to rows there are. -/
def keep (n a b : ℕ) : Prop := (a ≤ b ∧ b ≤ a + 128) ∧ (128 ≤ b ∨ 0 < n) ∧ n < 32

instance (n a b : ℕ) : Decidable (keep n a b) := by unfold keep; infer_instance

variable (Q K V D LA LB OA OB : Arr)

/-- The score of query `a` and key `b` of block `n` in head column `g`. -/
def sc (g n a b : ℕ) : ℝ := ∑ e : Fin 64, Q (n * 128 + a) (64 * g + e.val) * K (krow n b) (64 * g + e.val)

/-- The scores with the dropped ones at minus infinity. -/
def msc (g n a b : ℕ) : EReal := if keep n a b then (sc Q K g n a b : EReal) else ⊥

/-- The largest kept score. -/
def mx (g n a : ℕ) : ℝ := ((Finset.univ : Finset (Fin 256)).fold max ⊥ fun b => msc Q K g n a b.val).toReal

/-- The unnormalised weight. -/
def pw (g n a b : ℕ) : ℝ := if keep n a b then Real.exp (sc Q K g n a b - mx Q K g n a) else 0

/-- Their sum. -/
def den (g n a : ℕ) : ℝ := ∑ b : Fin 256, pw Q K g n a b.val

/-- The weighted sum of the values. -/
def num (g n a e : ℕ) : ℝ := ∑ b : Fin 256, pw Q K g n a b.val * V (krow n b.val) (64 * g + e)

/-- The group's attention output, as an array. -/
def og : Arr := fun l c => num Q K V (c / 64) (l / 128) (l % 128) (c % 64) / den Q K (c / 64) (l / 128) (l % 128)

/-- The group's logarithm of the softmax denominator, as an array (the same in every lane of a head). -/
def lse : Arr := fun l c => mx Q K (c / 64) (l / 128) (l % 128) + Real.log (den Q K (c / 64) (l / 128) (l % 128))

/-- The largest of three arrays. -/
def top (A B C : Arr) : Arr := fun l c => max (max (A l c) (B l c)) (C l c)

/-- The sum of the three exponentials over it. -/
def tot (A B C : Arr) : Arr := fun l c =>
  Real.exp (A l c - top A B C l c) + Real.exp (B l c - top A B C l c) + Real.exp (C l c - top A B C l c)

/-- The merge of three groups' outputs by their denominators. -/
def mix (A B C X Y Z : Arr) : Arr := fun l c =>
  Real.exp (A l c - top A B C l c) / tot A B C l c * X l c + Real.exp (B l c - top A B C l c) / tot A B C l c * Y l c
    + Real.exp (C l c - top A B C l c) / tot A B C l c * Z l c

/-- The joint logarithm of the denominators. -/
def joint (A B C : Arr) : Arr := fun l c => top A B C l c + Real.log (tot A B C l c)

/-- The product of two arrays summed over the lanes of a head. -/
def hsum (X Y : Arr) : Arr := fun l c => ∑ e : Fin 64, X l (64 * (c / 64) + e.val) * Y l (64 * (c / 64) + e.val)

section Backward
variable (LJ DS : Arr)

/-- The normalised weight, from the joint logarithm. -/
def P (g n a b : ℕ) : ℝ := if keep n a b then Real.exp (sc Q K g n a b - LJ (n * 128 + a) (64 * g)) else 0

/-- The output's gradient against the value rows. -/
def dP (g n a b : ℕ) : ℝ := ∑ e : Fin 64, D (n * 128 + a) (64 * g + e.val) * V (krow n b) (64 * g + e.val)

/-- The score's gradient. -/
def dS (g n a b : ℕ) : ℝ := P Q K LJ g n a b * (dP V D g n a b - DS (n * 128 + a) (64 * g))

/-- The gradient of the queries. -/
def dQ : Arr := fun l c => ∑ b : Fin 256, dS Q K V D LJ DS (c / 64) (l / 128) (l % 128) b.val * K (krow (l / 128) b.val) c

/-- The gradient of the keys: from the row's own block and from the next. -/
def dK : Arr := fun l c =>
  (∑ a : Fin 128, dS Q K V D LJ DS (c / 64) (l / 128) a.val (128 + l % 128) * Q (l / 128 * 128 + a.val) c)
    + ∑ a : Fin 128, dS Q K V D LJ DS (c / 64) (l / 128 + 1) a.val (l % 128) * Q ((l / 128 + 1) * 128 + a.val) c

/-- The gradient of the values: from the row's own block and from the next. -/
def dV : Arr := fun l c =>
  (∑ a : Fin 128, P Q K LJ (c / 64) (l / 128) a.val (128 + l % 128) * D (l / 128 * 128 + a.val) c)
    + ∑ a : Fin 128, P Q K LJ (c / 64) (l / 128 + 1) a.val (l % 128) * D ((l / 128 + 1) * 128 + a.val) c

end Backward

/-! ## The softmax's parts -/

theorem keep_self {n a : ℕ} (hn : n < 32) (ha : a < 128) : keep n a 128 :=
  ⟨⟨by omega, by omega⟩, Or.inl le_rfl, hn⟩

/-- The largest score is a real number. -/
theorem fold_msc {g n a : ℕ} (hn : n < 32) (ha : a < 128) :
    ((Finset.univ : Finset (Fin 256)).fold max ⊥ fun b => msc Q K g n a b.val) = (mx Q K g n a : EReal) := by
  unfold mx
  have hlt : ((Finset.univ : Finset (Fin 256)).fold max ⊥ fun b => msc Q K g n a b.val) ≠ ⊤ := by
    refine ne_of_lt ?_
    rw [Finset.fold_max_lt]
    refine ⟨bot_lt_top, fun b _ => ?_⟩
    unfold msc; split
    · exact EReal.coe_lt_top _
    · exact bot_lt_top
  have hgt : ((Finset.univ : Finset (Fin 256)).fold max ⊥ fun b => msc Q K g n a b.val) ≠ ⊥ := by
    refine ne_of_gt ?_
    refine (Finset.lt_fold_max _).2 ?_
    refine Or.inr ⟨⟨128, by omega⟩, Finset.mem_univ _, ?_⟩
    unfold msc; rw [if_pos (keep_self hn ha)]
    exact EReal.bot_lt_coe _
  exact (EReal.coe_toReal hlt hgt).symm

theorem pw_nonneg (g n a b : ℕ) : 0 ≤ pw Q K g n a b := by
  unfold pw; split
  · exact (Real.exp_pos _).le
  · exact le_rfl

theorem den_pos {g n a : ℕ} (hn : n < 32) (ha : a < 128) : 0 < den Q K g n a := by
  unfold den
  refine Finset.sum_pos' (fun b _ => pw_nonneg Q K g n a b.val) ⟨⟨128, by omega⟩, Finset.mem_univ _, ?_⟩
  unfold pw; rw [if_pos (keep_self hn ha)]
  exact Real.exp_pos _

theorem tot_pos (A B C : Arr) (l c : ℕ) : 0 < tot A B C l c := by
  unfold tot; positivity

/-! ## The gradient as the differentiated softmax writes it -/

section Vjp
variable (l c : ℕ)

/-- The part of the group's weights in the merge. -/
def wg (A B C : Arr) : Arr := fun l c => Real.exp (B l c - top A B C l c) / tot A B C l c

/-- The weight of a key, normalised in the group and weighted in the merge, is the weight from the joint logarithm. -/
theorem wg_pw {g n a : ℕ} (hn : n < 32) (ha : a < 128) (b : ℕ) :
    wg LA (lse Q K) LB (n * 128 + a) (64 * g) / den Q K g n a * pw Q K g n a b
      = P Q K (joint LA (lse Q K) LB) g n a b := by
  have hd := den_pos Q K (g := g) hn ha
  have ht := tot_pos LA (lse Q K) LB (n * 128 + a) (64 * g)
  have hl : lse Q K (n * 128 + a) (64 * g) = mx Q K g n a + Real.log (den Q K g n a) := by
    unfold lse
    rw [show 64 * g / 64 = g by omega, show (n * 128 + a) / 128 = n by omega, show (n * 128 + a) % 128 = a by omega]
  unfold wg pw P
  split
  · unfold joint
    rw [show sc Q K g n a b - (top LA (lse Q K) LB (n * 128 + a) (64 * g) + Real.log (tot LA (lse Q K) LB (n * 128 + a) (64 * g)))
        = (sc Q K g n a b - mx Q K g n a) + (mx Q K g n a - top LA (lse Q K) LB (n * 128 + a) (64 * g))
          - Real.log (tot LA (lse Q K) LB (n * 128 + a) (64 * g)) by ring,
      Real.exp_sub (_ + _) (Real.log _), Real.exp_log ht, Real.exp_add,
      show lse Q K (n * 128 + a) (64 * g) - top LA (lse Q K) LB (n * 128 + a) (64 * g)
        = (mx Q K g n a - top LA (lse Q K) LB (n * 128 + a) (64 * g)) + Real.log (den Q K g n a) by rw [hl]; ring,
      Real.exp_add, Real.exp_log hd]
    field_simp
  · simp

end Vjp

end Cert.Attn

end
-- ==== Proof.FwdTile.lean ====
/- The forward call's tile: what one step of the grid stores for one block of 128 queries and one pair of heads, as a
   function of the tile's operands; and the two output blocks as those tiles. -/
module

public import proofs.«01_k».proof.Proof.Gen.KernelIdeal.Frame.Region0

@[expose] public section

set_option maxRecDepth 16384

noncomputable section

namespace Cert.Attn

open Cert.KernelIdeal Cert.KernelIdeal.Gen Idealize.ShloMosaic

/-- The lanes of the pair's first head. -/
def lanes0 : IVec S128x128 1 := cmpi .slt (iota .tc S128x128 32 [1] iota_S128x128_d1_w32) (broadcast S128x128 64#32)

/-- The lanes of the pair's second head. -/
def lanes1 : IVec S128x128 1 := xori lanes0 (constantI S128x128 1 1#1)

/-- The kept scores of a block, `p` telling whether there is a block before it. -/
def bandMask (p : BitVec 1) : IVec S128x256 1 :=
  andi (andi (cmpi .sge (subi (addi (iota .tc S128x256 32 [0] iota_S128x256_d0_w32) (broadcast S128x256 128#32))
        (iota .tc S128x256 32 [1] iota_S128x256_d1_w32)) (broadcast S128x256 0#32))
      (cmpi .sle (subi (addi (iota .tc S128x256 32 [0] iota_S128x256_d0_w32) (broadcast S128x256 128#32))
        (iota .tc S128x256 32 [1] iota_S128x256_d1_w32)) (broadcast S128x256 128#32)))
    (ori (cmpi .sge (iota .tc S128x256 32 [1] iota_S128x256_d1_w32) (broadcast S128x256 128#32)) (broadcast S128x256 p))

/-- Whether block `c * n + j` has a block before it, as the call computes it from the grid's coordinate `c`. -/
def hasPrev (c : ℕ) (n j : BitVec 32) : BitVec 1 := Scalar.cmpi .sgt (Scalar.addi (Scalar.muli (BitVec.ofNat 32 c) n) j) 0#32

/-- The operand with the other head's lanes cleared. -/
def own (o : IVec S128x128 1) (q : FVec Ideal S128x128 .bf16) : FVec Ideal S128x128 .bf16 :=
  select o q (broadcast S128x128 (Scalar.ofBits .bf16 0x0000#16))

/-- The scores of one head against the block's 256 keys. -/
def scores (o : IVec S128x128 1) (q : FVec Ideal S128x128 .bf16) (k : FVec Ideal S256x128 .bf16) : FVec Ideal S128x256 .f32 :=
  matmul dot_S128x128_S256x128_S128x256_1_1_0_0_n_n none (own o q) k (constant S128x256 .f32 0x00000000#32)

/-- The scores with the dropped ones at minus infinity. -/
def fScore (m : IVec S128x256 1) (o : IVec S128x128 1) (q : FVec Ideal S128x128 .bf16) (k : FVec Ideal S256x128 .bf16) :
    FVec Ideal S128x256 .f32 :=
  select m (scores o q k) (broadcast S128x256 (Named.named κ "mask" 0xF149F2CA#32))

/-- Their maximum by row. -/
def fMax (m : IVec S128x256 1) (o : IVec S128x128 1) (q : FVec Ideal S128x128 .bf16) (k : FVec Ideal S256x128 .bf16) :
    FVec Ideal S128x1 .f32 :=
  shapeCast S128x1 (multiReduction .maximumf [1] S128 (fScore m o q k) 0xFF800000#32 reduces_S128x256_S128 (.inl rfl) rfl)
    shapeCasts_S128_S128x1

/-- The unnormalised weights. -/
def fExp (m : IVec S128x256 1) (o : IVec S128x128 1) (q : FVec Ideal S128x128 .bf16) (k : FVec Ideal S256x128 .bf16) :
    FVec Ideal S128x256 .f32 :=
  exp (subf (fScore m o q k) (broadcastTo S128x256 (fMax m o q k) broadcasts_S128x1_S128x256))

/-- Their sum by row. -/
def fDen (m : IVec S128x256 1) (o : IVec S128x128 1) (q : FVec Ideal S128x128 .bf16) (k : FVec Ideal S256x128 .bf16) :
    FVec Ideal S128x1 .f32 :=
  shapeCast S128x1 (multiReduction .add [1] S128 (fExp m o q k) 0x00000000#32 reduces_S128x256_S128 (.inl rfl) rfl)
    shapeCasts_S128_S128x1

/-- One head's output over the pair's lanes. -/
def fOut1 (m : IVec S128x256 1) (o : IVec S128x128 1) (q : FVec Ideal S128x128 .bf16) (k v : FVec Ideal S256x128 .bf16) :
    FVec Ideal S128x128 .f32 :=
  divf (matmul dot_S128x256_S256x128_S128x128_1_0_0_1_n_n none (truncf .bf16 (fExp m o q k) bitsLt_bf16_f32) v
      (constant S128x128 .f32 0x00000000#32)) (broadcastTo S128x128 (fDen m o q k) broadcasts_S128x1_S128x128)

/-- One head's logarithm of the denominator over the pair's lanes. -/
def fLse1 (m : IVec S128x256 1) (o : IVec S128x128 1) (q : FVec Ideal S128x128 .bf16) (k : FVec Ideal S256x128 .bf16) :
    FVec Ideal S128x128 .f32 :=
  broadcastTo S128x128 (shapeCast S128x1 (addf (fMax m o q k) (log (fDen m o q k))) shapeCasts_S128x1_S128x1)
    broadcasts_S128x1_S128x128

/-- The pair's outputs. -/
def fOut (m : IVec S128x256 1) (q : FVec Ideal S128x128 .bf16) (k v : FVec Ideal S256x128 .bf16) : FVec Ideal S128x128 .f32 :=
  select lanes0 (fOut1 m lanes0 q k v) (fOut1 m lanes1 q k v)

/-- The pair's logarithms. -/
def fLse (m : IVec S128x256 1) (q : FVec Ideal S128x128 .bf16) (k : FVec Ideal S256x128 .bf16) : FVec Ideal S128x128 .f32 :=
  select lanes0 (fLse1 m lanes0 q k) (fLse1 m lanes1 q k)

/-- The keys (or values) of the step: the 128 rows before its own and its own 512. -/
def fExt (p : Vec Ideal S128x256 .bf16) (x : Vec Ideal S512x256 .bf16) : FVec Ideal S640x256 .bf16 :=
  concatenate S640x256 0 [⟨S128x256, shapeCast S128x256 (View.ld p r0_0) shapeCasts_S128x256_S128x256⟩,
    ⟨S512x256, shapeCast S512x256 (View.ld x r0_1) shapeCasts_S512x256_S512x256⟩] concatenates_S128x256_S512x256_S640x256_d0

/-- Block `j`'s 256 keys: lanes of pair `s`. -/
def fKeys (j : Fin 4) (s : Fin 2) (e : FVec Ideal S640x256 .bf16) : FVec Ideal S256x128 .bf16 :=
  extractStridedSlice S256x128 ![0, 128 * s.val] (extractStridedSlice S256x256 ![128 * j.val, 0] e
    ⟨rfl, fun a => by fin_cases a <;> simp <;> omega⟩) ⟨rfl, fun a => by fin_cases a <;> simp <;> omega⟩

/-- The rectangle of block `j`'s rows. -/
abbrev fRows (j : Fin 4) : Rect S512x256 :=
  Rect.unit (s := S512x256) ![128 * j.val, 0] S128x256.size (fun a => by fin_cases a <;> simp <;> omega)

/-- The rectangle of block `j`'s rows and pair `s`'s lanes. -/
abbrev fRect (j : Fin 4) (s : Fin 2) : Rect S512x256 :=
  Rect.unit (s := S512x256) ![128 * j.val, 128 * s.val] S128x128.size (fun a => by fin_cases a <;> simp <;> omega)

/-- Block `j`'s queries: lanes of pair `s`. -/
def fQ (j : Fin 4) (s : Fin 2) (x : Vec Ideal S512x256 .bf16) : FVec Ideal S128x128 .bf16 :=
  extractStridedSlice S128x128 ![0, 128 * s.val] (shapeCast S128x256 (View.ld x (fRows j)) shapeCasts_S128x256_S128x256)
    ⟨rfl, fun a => by fin_cases a <;> simp <;> omega⟩

section
variable (i : grid0.Coords) (x0 x1 : Vec Ideal S512x256 .bf16) (x2 : Vec Ideal S128x256 .bf16)
  (x3 : Vec Ideal S512x256 .bf16) (x4 : Vec Ideal S128x256 .bf16)

/-- Block `j`'s mask. -/
def fMask (j : Fin 4) : IVec S128x256 1 := bandMask (hasPrev (i 1).val 4#32 (BitVec.ofNat 32 j.val))

/-- What the step stores of block `j` and pair `s`: the outputs. -/
def fPieceO (j : Fin 4) (s : Fin 2) : View.Piece (Elt Ideal) S512x256 .f32 :=
  ⟨fRect j s, fOut (fMask i j) (fQ j s x0) (fKeys j s (fExt x2 x1)) (fKeys j s (fExt x4 x3))⟩

/-- What the step stores of block `j` and pair `s`: the logarithms. -/
def fPieceL (j : Fin 4) (s : Fin 2) : View.Piece (Elt Ideal) S512x256 .f32 :=
  ⟨fRect j s, fLse (fMask i j) (fQ j s x0) (fKeys j s (fExt x2 x1))⟩

/-- The blocks and pairs, last first. -/
def tiles4 : List (Fin 4 × Fin 2) := [(3, 1), (3, 0), (2, 1), (2, 0), (1, 1), (1, 0), (0, 1), (0, 0)]

/-- The first output's block is the pairs' outputs. -/
theorem out0_5_tiles : out0_5 (F := Ideal) i x0 x1 x2 x3 x4
    = View.canon (tiles4.map fun t => fPieceO i x0 x1 x2 x3 x4 t.1 t.2) := rfl

/-- The second output's block is the pairs' logarithms. -/
theorem out0_6_tiles : out0_6 (F := Ideal) i x0 x1 x2 x3 x4
    = View.canon (tiles4.map fun t => fPieceL i x0 x1 x2 t.1 t.2) := rfl
end

end Cert.Attn

end
-- ==== Proof.BwdTile.lean ====
/- The backward call's tile: what one step of the grid stores for one block of 128 rows and one pair of heads, as a
   function of the tile's operands; and the three output blocks as those tiles. -/
module

public import proofs.«01_k».proof.Proof.Gen.KernelIdeal.Frame.Region1
public import proofs.«01_k».proof.Proof.FwdTile

@[expose] public section

set_option maxRecDepth 16384

noncomputable section

namespace Cert.Attn

open Cert.KernelIdeal Cert.KernelIdeal.Gen Idealize.ShloMosaic

/-! ## A block of queries against its 256 keys -/

/-- One head's normalised weights. -/
def bP (m : IVec S128x256 1) (o : IVec S128x128 1) (q : FVec Ideal S128x128 .bf16) (k : FVec Ideal S256x128 .bf16)
    (lj : FVec Ideal S128x1 .f32) : FVec Ideal S128x256 .f32 :=
  select m (exp (subf (scores o q k) (broadcastTo S128x256 lj broadcasts_S128x1_S128x256)))
    (broadcast S128x256 (Scalar.ofBits .f32 0x00000000#32))

/-- One head's gradient of the scores. -/
def bDs (m : IVec S128x256 1) (o : IVec S128x128 1) (q d : FVec Ideal S128x128 .bf16) (k v : FVec Ideal S256x128 .bf16)
    (lj ds : FVec Ideal S128x1 .f32) : FVec Ideal S128x256 .bf16 :=
  truncf .bf16 (mulf (bP m o q k lj) (subf (scores o d v) (broadcastTo S128x256 ds broadcasts_S128x1_S128x256)))
    bitsLt_bf16_f32

/-- The pair's gradient of the queries. -/
def bDq (m : IVec S128x256 1) (q d : FVec Ideal S128x128 .bf16) (k v : FVec Ideal S256x128 .bf16)
    (lj ds lj' ds' : FVec Ideal S128x1 .f32) : FVec Ideal S128x128 .f32 :=
  select lanes0
    (matmul dot_S128x256_S256x128_S128x128_1_0_0_1_n_n none (bDs m lanes0 q d k v lj ds) k (constant S128x128 .f32 0x00000000#32))
    (matmul dot_S128x256_S256x128_S128x128_1_0_0_1_n_n none (bDs m lanes1 q d k v lj' ds') k (constant S128x128 .f32 0x00000000#32))

/-- The pair's gradient of the 256 keys. -/
def bDk (m : IVec S128x256 1) (q d : FVec Ideal S128x128 .bf16) (k v : FVec Ideal S256x128 .bf16)
    (lj ds lj' ds' : FVec Ideal S128x1 .f32) : FVec Ideal S256x128 .f32 :=
  addf
    (matmul dot_S128x256_S128x128_S256x128_0_0_1_1_n_n none (bDs m lanes0 q d k v lj ds) (own lanes0 q)
      (constant S256x128 .f32 0x00000000#32))
    (matmul dot_S128x256_S128x128_S256x128_0_0_1_1_n_n none (bDs m lanes1 q d k v lj' ds') (own lanes1 q)
      (constant S256x128 .f32 0x00000000#32))

/-- The pair's gradient of the 256 values. -/
def bDv (m : IVec S128x256 1) (q d : FVec Ideal S128x128 .bf16) (k : FVec Ideal S256x128 .bf16)
    (lj lj' : FVec Ideal S128x1 .f32) : FVec Ideal S256x128 .f32 :=
  addf
    (matmul dot_S128x256_S128x128_S256x128_0_0_1_1_n_n none (truncf .bf16 (bP m lanes0 q k lj) bitsLt_bf16_f32) (own lanes0 d)
      (constant S256x128 .f32 0x00000000#32))
    (matmul dot_S128x256_S128x128_S256x128_0_0_1_1_n_n none (truncf .bf16 (bP m lanes1 q k lj') bitsLt_bf16_f32) (own lanes1 d)
      (constant S256x128 .f32 0x00000000#32))

/-! ## The next block's queries against the last 128 keys -/

/-- The kept scores of the next block's queries against the step's last block: `p` tells whether there is a next block. -/
def nextMask (p : BitVec 1) : IVec S128x128 1 :=
  andi (cmpi .sge (iota .tc S128x128 32 [1] iota_S128x128_d1_w32) (iota .tc S128x128 32 [0] iota_S128x128_d0_w32))
    (broadcast S128x128 p)

/-- Whether the step at the grid's coordinate `c` has a next block. -/
def hasNext (c : ℕ) : BitVec 1 := Scalar.cmpi .slt (Scalar.muli (Scalar.addi (BitVec.ofNat 32 c) 1#32) 8#32) 32#32

/-- The scores of one head against 128 keys. -/
def scoresN (o : IVec S128x128 1) (q k : FVec Ideal S128x128 .bf16) : FVec Ideal S128x128 .f32 :=
  matmul dot_S128x128_S128x128_S128x128_1_1_0_0_n_n none (own o q) k (constant S128x128 .f32 0x00000000#32)

/-- One head's normalised weights. -/
def nP (m o : IVec S128x128 1) (q k : FVec Ideal S128x128 .bf16) (lj : FVec Ideal S128x1 .f32) : FVec Ideal S128x128 .f32 :=
  select m (exp (subf (scoresN o q k) (broadcastTo S128x128 lj broadcasts_S128x1_S128x128)))
    (broadcast S128x128 (Scalar.ofBits .f32 0x00000000#32))

/-- One head's gradient of the scores. -/
def nDs (m o : IVec S128x128 1) (q d k v : FVec Ideal S128x128 .bf16) (lj ds : FVec Ideal S128x1 .f32) :
    FVec Ideal S128x128 .bf16 :=
  truncf .bf16 (mulf (nP m o q k lj) (subf (scoresN o d v) (broadcastTo S128x128 ds broadcasts_S128x1_S128x128)))
    bitsLt_bf16_f32

/-- The pair's gradient of the 128 keys. -/
def nDk (m : IVec S128x128 1) (q d k v : FVec Ideal S128x128 .bf16) (lj ds lj' ds' : FVec Ideal S128x1 .f32) :
    FVec Ideal S128x128 .f32 :=
  addf
    (matmul dot_S128x128_S128x128_S128x128_0_0_1_1_n_n none (nDs m lanes0 q d k v lj ds) (own lanes0 q)
      (constant S128x128 .f32 0x00000000#32))
    (matmul dot_S128x128_S128x128_S128x128_0_0_1_1_n_n none (nDs m lanes1 q d k v lj' ds') (own lanes1 q)
      (constant S128x128 .f32 0x00000000#32))

/-- The pair's gradient of the 128 values. -/
def nDv (m : IVec S128x128 1) (q d k : FVec Ideal S128x128 .bf16) (lj lj' : FVec Ideal S128x1 .f32) :
    FVec Ideal S128x128 .f32 :=
  addf
    (matmul dot_S128x128_S128x128_S128x128_0_0_1_1_n_n none (truncf .bf16 (nP m lanes0 q k lj) bitsLt_bf16_f32) (own lanes0 d)
      (constant S128x128 .f32 0x00000000#32))
    (matmul dot_S128x128_S128x128_S128x128_0_0_1_1_n_n none (truncf .bf16 (nP m lanes1 q k lj') bitsLt_bf16_f32) (own lanes1 d)
      (constant S128x128 .f32 0x00000000#32))

/-! ## The step's operands and stores -/

/-- The rectangle of block `j`'s rows and pair `s`'s lanes. -/
abbrev bRect (j : Fin 8) (s : Fin 2) : Rect S1024x256 :=
  Rect.unit (s := S1024x256) ![128 * j.val, 128 * s.val] S128x128.size (fun a => by fin_cases a <;> simp <;> omega)

/-- The rectangle of block `j`'s rows and head `h`'s first lane. -/
abbrev bCol (j : Fin 8) (h : Fin 4) : Rect S1024x256 :=
  Rect.unit (s := S1024x256) ![128 * j.val, 64 * h.val] S128x1.size (fun a => by fin_cases a <;> simp <;> omega)

/-- Pair `s`'s lanes of the next block. -/
abbrev nRect (s : Fin 2) : Rect S128x256 :=
  Rect.unit (s := S128x256) ![0, 128 * s.val] S128x128.size (fun a => by fin_cases a <;> simp <;> omega)

/-- Head `h`'s first lane of the next block. -/
abbrev nCol (h : Fin 4) : Rect S128x256 :=
  Rect.unit (s := S128x256) ![0, 64 * h.val] S128x1.size (fun a => by fin_cases a <;> simp <;> omega)

/-- The pair's first head. -/
def hd0 (s : Fin 2) : Fin 4 := ⟨2 * s.val, by omega⟩

/-- The pair's second head. -/
def hd1 (s : Fin 2) : Fin 4 := ⟨2 * s.val + 1, by omega⟩

/-- A block's tile of a bf16 operand. -/
def bTile (j : Fin 8) (s : Fin 2) (x : Vec Ideal S1024x256 .bf16) : FVec Ideal S128x128 .bf16 :=
  shapeCast S128x128 (View.ld x (bRect j s)) shapeCasts_S128x128_S128x128

/-- A block's column of an f32 operand. -/
def bColumn (j : Fin 8) (h : Fin 4) (x : Vec Ideal S1024x256 .f32) : FVec Ideal S128x1 .f32 :=
  shapeCast S128x1 (View.ld x (bCol j h)) shapeCasts_S128x1_S128x1

/-- The next block's tile of a bf16 operand. -/
def nTile (s : Fin 2) (x : Vec Ideal S128x256 .bf16) : FVec Ideal S128x128 .bf16 :=
  shapeCast S128x128 (View.ld x (nRect s)) shapeCasts_S128x128_S128x128

/-- The next block's column of an f32 operand. -/
def nColumn (h : Fin 4) (x : Vec Ideal S128x256 .f32) : FVec Ideal S128x1 .f32 :=
  shapeCast S128x1 (View.ld x (nCol h)) shapeCasts_S128x1_S128x1

/-- The keys (or values) of the step: the 128 rows before its own and its own 1024. -/
def bExt (p : Vec Ideal S128x256 .bf16) (x : Vec Ideal S1024x256 .bf16) : FVec Ideal S1152x256 .bf16 :=
  concatenate S1152x256 0 [⟨S128x256, shapeCast S128x256 (View.ld p r1_0) shapeCasts_S128x256_S128x256⟩,
    ⟨S1024x256, shapeCast S1024x256 (View.ld x r1_1) shapeCasts_S1024x256_S1024x256⟩]
    concatenates_S128x256_S1024x256_S1152x256_d0

/-- Block `j`'s 256 keys: lanes of pair `s`. -/
def bKeys (j : Fin 8) (s : Fin 2) (e : FVec Ideal S1152x256 .bf16) : FVec Ideal S256x128 .bf16 :=
  extractStridedSlice S256x128 ![128 * j.val, 128 * s.val] e ⟨rfl, fun a => by fin_cases a <;> simp <;> omega⟩

/-- The first 128 of 256 rows. -/
def top128 (x : FVec Ideal S256x128 .f32) : FVec Ideal S128x128 .f32 :=
  extractStridedSlice S128x128 ![0, 0] x slices_S256x128_o0_0_S128x128

/-- The last 128 of 256 rows. -/
def bot128 (x : FVec Ideal S256x128 .f32) : FVec Ideal S128x128 .f32 :=
  extractStridedSlice S128x128 ![128, 0] x slices_S256x128_o128_0_S128x128

section
variable (i : grid1.Coords) (x0 : Vec Ideal S1024x256 .bf16) (x1 : Vec Ideal S128x256 .bf16)
  (x2 : Vec Ideal S1024x256 .bf16) (x3 : Vec Ideal S128x256 .bf16) (x4 : Vec Ideal S1024x256 .bf16)
  (x5 : Vec Ideal S128x256 .bf16) (x6 : Vec Ideal S1024x256 .bf16) (x7 : Vec Ideal S128x256 .bf16)
  (x8 : Vec Ideal S1024x256 .f32) (x9 : Vec Ideal S128x256 .f32) (x10 : Vec Ideal S1024x256 .f32)
  (x11 : Vec Ideal S128x256 .f32)

/-- Block `j`'s mask. -/
def bMask (j : Fin 8) : IVec S128x256 1 := bandMask (hasPrev (i 1).val 8#32 (BitVec.ofNat 32 j.val))

/-- Block `j`'s gradient of its queries. -/
def tDq (j : Fin 8) (s : Fin 2) : FVec Ideal S128x128 .f32 :=
  bDq (bMask i j) (bTile j s x0) (bTile j s x6) (bKeys j s (bExt x3 x2)) (bKeys j s (bExt x5 x4))
    (bColumn j (hd0 s) x8) (bColumn j (hd0 s) x10) (bColumn j (hd1 s) x8) (bColumn j (hd1 s) x10)

/-- Block `j`'s gradient of its 256 keys. -/
def tDk (j : Fin 8) (s : Fin 2) : FVec Ideal S256x128 .f32 :=
  bDk (bMask i j) (bTile j s x0) (bTile j s x6) (bKeys j s (bExt x3 x2)) (bKeys j s (bExt x5 x4))
    (bColumn j (hd0 s) x8) (bColumn j (hd0 s) x10) (bColumn j (hd1 s) x8) (bColumn j (hd1 s) x10)

/-- Block `j`'s gradient of its 256 values. -/
def tDv (j : Fin 8) (s : Fin 2) : FVec Ideal S256x128 .f32 :=
  bDv (bMask i j) (bTile j s x0) (bTile j s x6) (bKeys j s (bExt x3 x2)) (bColumn j (hd0 s) x8) (bColumn j (hd1 s) x8)

/-- The next step's first block's gradient of the step's last 128 keys. -/
def tDkN (s : Fin 2) : FVec Ideal S128x128 .f32 :=
  nDk (nextMask (hasNext (i 1).val)) (nTile s x1) (nTile s x7) (bTile 7 s x2) (bTile 7 s x4)
    (nColumn (hd0 s) x9) (nColumn (hd0 s) x11) (nColumn (hd1 s) x9) (nColumn (hd1 s) x11)

/-- The next step's first block's gradient of the step's last 128 values. -/
def tDvN (s : Fin 2) : FVec Ideal S128x128 .f32 :=
  nDv (nextMask (hasNext (i 1).val)) (nTile s x1) (nTile s x7) (bTile 7 s x2) (nColumn (hd0 s) x9) (nColumn (hd1 s) x9)

/-- What the block after block `j` adds to the gradient of block `j`'s keys. -/
def aftK (j : Fin 8) (s : Fin 2) : FVec Ideal S128x128 .f32 :=
  if h : j.val + 1 < 8 then top128 (tDk i x0 x2 x3 x4 x5 x6 x8 x10 ⟨j.val + 1, h⟩ s) else tDkN i x1 x2 x4 x7 x9 x11 s

/-- What the block after block `j` adds to the gradient of block `j`'s values. -/
def aftV (j : Fin 8) (s : Fin 2) : FVec Ideal S128x128 .f32 :=
  if h : j.val + 1 < 8 then top128 (tDv i x0 x2 x3 x6 x8 ⟨j.val + 1, h⟩ s) else tDvN i x1 x2 x7 x9 s

/-- The blocks and pairs, last first. -/
def tiles8 : List (Fin 8 × Fin 2) := [(7, 1), (7, 0), (6, 1), (6, 0), (5, 1), (5, 0), (4, 1), (4, 0), (3, 1), (3, 0),
  (2, 1), (2, 0), (1, 1), (1, 0), (0, 1), (0, 0)]

/-- The first output's block is the blocks' gradients of the queries. -/
theorem out1_12_tiles : out1_12 (F := Ideal) i x0 x1 x2 x3 x4 x5 x6 x7 x8 x9 x10 x11
    = View.canon (tiles8.map fun t => ⟨bRect t.1 t.2, tDq i x0 x2 x3 x4 x5 x6 x8 x10 t.1 t.2⟩) := rfl

/-- The second output's block is the blocks' gradients of the keys, from their own rows and the next block's. -/
theorem out1_13_tiles : out1_13 (F := Ideal) i x0 x1 x2 x3 x4 x5 x6 x7 x8 x9 x10 x11
    = View.canon (tiles8.map fun t => ⟨bRect t.1 t.2, addf (bot128 (tDk i x0 x2 x3 x4 x5 x6 x8 x10 t.1 t.2))
        (aftK i x0 x1 x2 x3 x4 x5 x6 x7 x8 x9 x10 x11 t.1 t.2)⟩) := rfl

/-- The third output's block is the blocks' gradients of the values, from their own rows and the next block's. -/
theorem out1_14_tiles : out1_14 (F := Ideal) i x0 x1 x2 x3 x4 x5 x6 x7 x8 x9 x10 x11
    = View.canon (tiles8.map fun t => ⟨bRect t.1 t.2, truncf .bf16 (addf (bot128 (tDv i x0 x2 x3 x6 x8 t.1 t.2))
        (aftV i x0 x1 x2 x3 x6 x7 x8 x9 t.1 t.2)) bitsLt_bf16_f32⟩) := rfl
end

end Cert.Attn

end
-- ==== Proof.TileReal.lean ====
/- The tiles at real operands: each entry of what a tile stores, as a real number of Attn.lean. -/
module

public import proofs.«01_k».proof.Proof.Attn
public import proofs.«01_k».proof.Proof.BwdTile
public import Idealize.ShloMosaic.Lib.WordCmp
public import Idealize.ShloMosaic.Lib.ValueLayout
public import Idealize.ShloMosaic.PureOps.Ideal.Laws
public import Idealize.ShloMosaic.Lib.ValueIdx
public import Idealize.ShloMosaic.Lib.IdealHost
public import Idealize.ShloMosaic.Lib.Pointwise.Reshape

@[expose] public section

set_option maxRecDepth 16384

noncomputable section

namespace Cert.Attn

open Cert.KernelIdeal Cert.KernelIdeal.Gen
open Idealize.ShloMosaic hiding ix1 ix2
open Idealize.ShloMosaic.ValueIdx
open Idealize.ShloMosaic.WordCmp hiding select_one select_zero

/-! ## Sums of real numbers -/

/-- A sum of real numbers is a real number. -/
theorem sum_coe {ι : Type} [Fintype ι] (f : ι → ℝ) : (∑ k, (f k : EReal)) = ((∑ k, f k : ℝ) : EReal) := by
  classical
  have h : ∀ s : Finset ι, (∑ k ∈ s, (f k : EReal)) = ((∑ k ∈ s, f k : ℝ) : EReal) := fun s => by
    induction s using Finset.induction_on with
    | empty => simp
    | insert a s ha ih => rw [Finset.sum_insert ha, Finset.sum_insert ha, ih, EReal.coe_add]
  exact h _

/-- A sum of real numbers, the summands given one by one. -/
theorem sum_eq_coe {ι : Type} [Fintype ι] {f : ι → EReal} (g : ι → ℝ) (h : ∀ k, f k = (g k : EReal)) :
    (∑ k, f k) = ((∑ k, g k : ℝ) : EReal) := by
  rw [← sum_coe]; exact Finset.sum_congr rfl fun k _ => h k

/-- The sum over the 128 lanes of a product whose first factor is cleared off head `h` is the sum over the head's lanes. -/
theorem sum_head (f g : ℕ → ℝ) {h : ℕ} (hh : h < 2) :
    (∑ l : Fin 128, (if l.val / 64 = h then f l.val else 0) * g l.val)
      = ∑ e : Fin 64, f (64 * h + e.val) * g (64 * h + e.val) := by
  rw [Finset.sum_congr rfl (g := fun l : Fin 128 => if l.val / 64 = h then f l.val * g l.val else 0)
    fun l _ => by split <;> simp]
  rw [← Finset.sum_filter]
  symm
  refine Finset.sum_bij (fun (e : Fin 64) _ => (⟨64 * h + e.val, by omega⟩ : Fin 128)) (fun e _ => ?_) (fun e _ e' _ he => ?_)
    (fun l hl => ?_) (fun e _ => rfl)
  · simp only [Finset.mem_filter, Finset.mem_univ, true_and]; omega
  · have := congrArg Fin.val he; simp only at this; exact Fin.ext (by omega)
  · simp only [Finset.mem_filter, Finset.mem_univ, true_and] at hl
    exact ⟨⟨l.val - 64 * h, by omega⟩, Finset.mem_univ _, Fin.ext (by simp only; omega)⟩

/-! ## The products -/

theorem dotA_apply {φ₁ φ₂ : FTy} (x : FVec Ideal S128x128 φ₁) (y : FVec Ideal S256x128 φ₂) (a : Fin 128) (b : Fin 256) :
    matmul dot_S128x128_S256x128_S128x256_1_1_0_0_n_n none x y (constant S128x256 .f32 0x00000000#32) (ix2 a b)
      = ∑ l : Fin 128, x (ix2 a l) * y (ix2 b l) := by
  simp only [matmul]
  rw [Ideal.matmul_constant_zero_apply, ← Equiv.sum_comp (contrEquiv1 _ 128 rfl rfl).symm]
  refine Finset.sum_congr rfl fun l _ => ?_
  have c := contrEquiv1_symm_val dot_S128x128_S256x128_S128x256_1_1_0_0_n_n 128 rfl rfl l
  congr 1
  · congr 1; funext ax; fin_cases ax
    · rfl
    · exact Fin.ext c
  · congr 1; funext ax; fin_cases ax
    · rfl
    · exact Fin.ext c

theorem dotB_apply {φ₁ φ₂ : FTy} (x : FVec Ideal S128x256 φ₁) (y : FVec Ideal S256x128 φ₂) (a : Fin 128) (l : Fin 128) :
    matmul dot_S128x256_S256x128_S128x128_1_0_0_1_n_n none x y (constant S128x128 .f32 0x00000000#32) (ix2 a l)
      = ∑ b : Fin 256, x (ix2 a b) * y (ix2 b l) := by
  simp only [matmul]
  rw [Ideal.matmul_constant_zero_apply, ← Equiv.sum_comp (contrEquiv1 _ 256 rfl rfl).symm]
  refine Finset.sum_congr rfl fun b _ => ?_
  have c := contrEquiv1_symm_val dot_S128x256_S256x128_S128x128_1_0_0_1_n_n 256 rfl rfl b
  congr 1
  · congr 1; funext ax; fin_cases ax
    · rfl
    · exact Fin.ext c
  · congr 1; funext ax; fin_cases ax
    · exact Fin.ext c
    · rfl

theorem dotC_apply {φ₁ φ₂ : FTy} (x : FVec Ideal S128x256 φ₁) (y : FVec Ideal S128x128 φ₂) (b : Fin 256) (l : Fin 128) :
    matmul dot_S128x256_S128x128_S256x128_0_0_1_1_n_n none x y (constant S256x128 .f32 0x00000000#32) (ix2 b l)
      = ∑ a : Fin 128, x (ix2 a b) * y (ix2 a l) := by
  simp only [matmul]
  rw [Ideal.matmul_constant_zero_apply, ← Equiv.sum_comp (contrEquiv1 _ 128 rfl rfl).symm]
  refine Finset.sum_congr rfl fun a _ => ?_
  have c := contrEquiv1_symm_val dot_S128x256_S128x128_S256x128_0_0_1_1_n_n 128 rfl rfl a
  congr 1
  · congr 1; funext ax; fin_cases ax
    · exact Fin.ext c
    · rfl
  · congr 1; funext ax; fin_cases ax
    · exact Fin.ext c
    · rfl

theorem dotD_apply {φ₁ φ₂ : FTy} (x : FVec Ideal S128x128 φ₁) (y : FVec Ideal S128x128 φ₂) (a : Fin 128) (b : Fin 128) :
    matmul dot_S128x128_S128x128_S128x128_1_1_0_0_n_n none x y (constant S128x128 .f32 0x00000000#32) (ix2 a b)
      = ∑ l : Fin 128, x (ix2 a l) * y (ix2 b l) := by
  simp only [matmul]
  rw [Ideal.matmul_constant_zero_apply, ← Equiv.sum_comp (contrEquiv1 _ 128 rfl rfl).symm]
  refine Finset.sum_congr rfl fun l _ => ?_
  have c := contrEquiv1_symm_val dot_S128x128_S128x128_S128x128_1_1_0_0_n_n 128 rfl rfl l
  congr 1
  · congr 1; funext ax; fin_cases ax
    · rfl
    · exact Fin.ext c
  · congr 1; funext ax; fin_cases ax
    · rfl
    · exact Fin.ext c

theorem dotE_apply {φ₁ φ₂ : FTy} (x : FVec Ideal S128x128 φ₁) (y : FVec Ideal S128x128 φ₂) (b : Fin 128) (l : Fin 128) :
    matmul dot_S128x128_S128x128_S128x128_0_0_1_1_n_n none x y (constant S128x128 .f32 0x00000000#32) (ix2 b l)
      = ∑ a : Fin 128, x (ix2 a b) * y (ix2 a l) := by
  simp only [matmul]
  rw [Ideal.matmul_constant_zero_apply, ← Equiv.sum_comp (contrEquiv1 _ 128 rfl rfl).symm]
  refine Finset.sum_congr rfl fun a _ => ?_
  have c := contrEquiv1_symm_val dot_S128x128_S128x128_S128x128_0_0_1_1_n_n 128 rfl rfl a
  congr 1
  · congr 1; funext ax; fin_cases ax
    · exact Fin.ext c
    · rfl
  · congr 1; funext ax; fin_cases ax
    · exact Fin.ext c
    · rfl

/-! ## The masks -/

/-- The mask `o` keeps the lanes of head `h` of the pair. -/
def isHead (o : IVec S128x128 1) (h : ℕ) : Prop := ∀ a l : Fin 128, o (ix2 a l) = 1#1 ↔ l.val / 64 = h

theorem lanes0_head : isHead lanes0 0 := fun a l => by
  have hl := l.isLt
  have e : lanes0 (ix2 a l) = IntOp.cmpi .slt (BitVec.ofNat 32 (0 * 128 + l.val)) 64#32 := rfl
  rw [e]; word_cmp

theorem lanes1_head : isHead lanes1 1 := fun a l => by
  have hl := l.isLt
  have h0 := lanes0_head a l
  have e : lanes1 (ix2 a l) = IntOp.xori (lanes0 (ix2 a l)) 1#1 := rfl
  rw [e]
  by_cases h : lanes0 (ix2 a l) = 1#1
  · rw [h]; have := h0.1 h
    exact ⟨fun hx => absurd hx (by decide), fun hx => by omega⟩
  · have hz := eq_zero_of_ne_one h
    rw [hz]
    refine ⟨fun _ => ?_, fun _ => by decide⟩
    have : ¬ l.val / 64 = 0 := fun hx => h (h0.2 hx)
    omega

theorem bandMask_apply (p : BitVec 1) (a : Fin 128) (b : Fin 256) :
    bandMask p (ix2 a b) = 1#1 ↔ (a.val ≤ b.val ∧ b.val ≤ a.val + 128) ∧ (128 ≤ b.val ∨ p = 1#1) := by
  have ha := a.isLt
  have hb := b.isLt
  have e : bandMask p (ix2 a b) = IntOp.andi (IntOp.andi
      (IntOp.cmpi .sge (BitVec.ofNat 32 (0 * 128 + a.val) + 128#32 - BitVec.ofNat 32 (0 * 256 + b.val)) 0#32)
      (IntOp.cmpi .sle (BitVec.ofNat 32 (0 * 128 + a.val) + 128#32 - BitVec.ofNat 32 (0 * 256 + b.val)) 128#32))
      (IntOp.ori (IntOp.cmpi .sge (BitVec.ofNat 32 (0 * 256 + b.val)) 128#32) p) := rfl
  have hd : (BitVec.ofNat 32 (0 * 128 + a.val) + 128#32 - BitVec.ofNat 32 (0 * 256 + b.val)).toInt
      = (a.val : ℤ) + 128 - b.val := by
    rw [← BitVec.ofNat_add, BitVec.toInt_sub, toInt_ofNat_of_lt (by omega), toInt_ofNat_of_lt (by omega),
      Int.bmod_eq_of_le (by omega) (by omega)]
    push_cast; omega
  have hp : p = BitVec.ofBool (decide (p = 1#1)) := by
    by_cases h : p = 1#1
    · rw [h]; decide
    · rw [eq_zero_of_ne_one h]; decide
  rw [e, cmpi_sge_eq _ 0#32, cmpi_sle_eq _ 128#32, hd, cmpi_sge_ofNat (by omega) (by omega), hp]
  simp only [andi_ofBool, ori_ofBool, ofBool_eq_one_iff, Bool.and_eq_true, Bool.or_eq_true, decide_eq_true_eq]
  have h0 : (0#32).toInt = 0 := by decide
  have h1 : (128#32).toInt = 128 := by decide
  rw [h0, h1]
  refine and_congr (and_comm.trans (and_congr ⟨fun h => by omega, fun h => by omega⟩ ⟨fun h => by omega, fun h => by omega⟩))
    (or_congr ⟨fun h => by omega, fun h => by omega⟩ Iff.rfl)

theorem nextMask_apply (p : BitVec 1) (a b : Fin 128) :
    nextMask p (ix2 a b) = 1#1 ↔ a.val ≤ b.val ∧ p = 1#1 := by
  have ha := a.isLt
  have hb := b.isLt
  have e : nextMask p (ix2 a b) = IntOp.andi
      (IntOp.cmpi .sge (BitVec.ofNat 32 (0 * 128 + b.val)) (BitVec.ofNat 32 (0 * 128 + a.val))) p := rfl
  have hp : p = BitVec.ofBool (decide (p = 1#1)) := by
    by_cases h : p = 1#1
    · rw [h]; decide
    · rw [eq_zero_of_ne_one h]; decide
  rw [e, cmpi_sge_ofNat (by omega) (by omega), hp]
  simp only [andi_ofBool, ofBool_eq_one_iff, Bool.and_eq_true, decide_eq_true_eq]
  refine and_congr ⟨fun h => by omega, fun h => by omega⟩ Iff.rfl

theorem hasPrev_apply {c n j : ℕ} (hc : c < 8) (hn : n < 9) (hj : j < 8) :
    hasPrev c (BitVec.ofNat 32 n) (BitVec.ofNat 32 j) = 1#1 ↔ 0 < c * n + j := by
  have e : hasPrev c (BitVec.ofNat 32 n) (BitVec.ofNat 32 j) = IntOp.cmpi .sgt
      (IntOp.addi (IntOp.muli (BitVec.ofNat 32 c) (BitVec.ofNat 32 n)) (BitVec.ofNat 32 j)) (BitVec.ofNat 32 0) := rfl
  have hm : c * n ≤ 7 * 8 := Nat.mul_le_mul (by omega) (by omega)
  rw [e, cmpi_sgt_mul_add_ofNat c n j 0 (by omega) (by omega)]
  by_cases h : 0 < c * n + j
  · simp [h]
  · simp [h]

theorem hasNext_apply {c : ℕ} (hc : c < 4) : hasNext c = 1#1 ↔ c < 3 := by
  have h : ∀ c : Fin 4, hasNext c.val = 1#1 ↔ c.val < 3 := by decide
  exact h ⟨c, hc⟩

/-! ## A pair's head against the block's 256 keys -/

variable (Q K V D LJ DS : Arr)

/-- The mask `m` keeps the pairs of query and key the attention keeps in block `n`. -/
def isKeep (m : IVec S128x256 1) (n : ℕ) : Prop := ∀ (a : Fin 128) (b : Fin 256), m (ix2 a b) = 1#1 ↔ keep n a.val b.val

/-- The tile holds block `n`'s rows of the array `A`, lanes of pair `t`. -/
def isRows {φ : FTy} (q : FVec Ideal S128x128 φ) (A : Arr) (n t : ℕ) : Prop :=
  ∀ a l : Fin 128, q (ix2 a l) = (A (n * 128 + a.val) (128 * t + l.val) : EReal)

/-- The tile holds block `n`'s 256 keys from the array `A`, lanes of pair `t`. -/
def isKeys {φ : FTy} (k : FVec Ideal S256x128 φ) (A : Arr) (n t : ℕ) : Prop :=
  ∀ (b : Fin 256) (l : Fin 128), k (ix2 b l) = (A (krow n b.val) (128 * t + l.val) : EReal)

/-- The column holds block `n`'s rows of the array `A`, the first lane of head column `g`. -/
def isCol (x : FVec Ideal S128x1 .f32) (A : Arr) (n g : ℕ) : Prop :=
  ∀ a : Fin 128, x (ix2 a 0) = (A (n * 128 + a.val) (64 * g) : EReal)

theorem own_apply {o : IVec S128x128 1} {h : ℕ} (ho : isHead o h) {q : FVec Ideal S128x128 .bf16} {n t : ℕ}
    (hq : isRows q Q n t) (a l : Fin 128) :
    own o q (ix2 a l) = ((if l.val / 64 = h then Q (n * 128 + a.val) (128 * t + l.val) else 0 : ℝ) : EReal) := by
  unfold own
  rw [select_apply]
  split
  · rename_i hl; rw [(ho a l).2 hl, select_one]; exact hq a l
  · rename_i hl
    rw [eq_zero_of_ne_one fun hx => hl ((ho a l).1 hx), select_zero]
    exact Ideal.ofBits_zero_bf16.trans EReal.coe_zero.symm

theorem scores_apply {o : IVec S128x128 1} {h : ℕ} (ho : isHead o h) (hh : h < 2) {q : FVec Ideal S128x128 .bf16}
    {k : FVec Ideal S256x128 .bf16} {n t : ℕ} (hq : isRows q Q n t) (hk : isKeys k K n t) (a : Fin 128) (b : Fin 256) :
    scores o q k (ix2 a b) = (sc Q K (2 * t + h) n a.val b.val : EReal) := by
  unfold scores
  rw [dotA_apply, sum_eq_coe (fun l : Fin 128 => (if l.val / 64 = h then Q (n * 128 + a.val) (128 * t + l.val) else 0)
    * K (krow n b.val) (128 * t + l.val)) fun l => by rw [own_apply Q ho hq, hk b l, EReal.coe_mul]]
  rw [sum_head (fun l => Q (n * 128 + a.val) (128 * t + l)) (fun l => K (krow n b.val) (128 * t + l)) hh]
  unfold sc
  congr 1
  refine Finset.sum_congr rfl fun e _ => ?_
  rw [show 64 * (2 * t + h) + e.val = 128 * t + (64 * h + e.val) by ring]

section Forward
variable {m : IVec S128x256 1} {o : IVec S128x128 1} {h : ℕ} {q : FVec Ideal S128x128 .bf16}
  {k v : FVec Ideal S256x128 .bf16} {n t : ℕ}

theorem fScore_apply (hm : isKeep m n) (ho : isHead o h) (hh : h < 2) (hq : isRows q Q n t) (hk : isKeys k K n t)
    (a : Fin 128) (b : Fin 256) : fScore m o q k (ix2 a b) = msc Q K (2 * t + h) n a.val b.val := by
  unfold fScore msc
  rw [select_apply]
  split
  · rename_i hx; rw [(hm a b).2 hx, select_one]; exact scores_apply Q K ho hh hq hk a b
  · rename_i hx
    rw [eq_zero_of_ne_one fun hy => hx ((hm a b).1 hy), select_zero]
    rfl

/-- The score a row's reduction reads. -/
theorem lift_row (a : Fin 128) (b : Fin 256) : reduces_S128x256_S128.lift (ix1 a) b = ix2 a b := by
  funext d; fin_cases d <;> rfl

theorem fMax_apply (hn : n < 32) (hm : isKeep m n) (ho : isHead o h) (hh : h < 2) (hq : isRows q Q n t) (hk : isKeys k K n t)
    (a : Fin 128) : fMax m o q k (ix2 a 0) = (mx Q K (2 * t + h) n a.val : EReal) := by
  unfold fMax
  rw [shapeCast_apply _ shapeCasts_S128_S128x1 (ix2 a 0) (ix1 a) (by
    rw [Shape.rowMajor_val_two]; simp [Shape.rowMajor_val_one])]
  refine (Ideal.multiReduction_maximumf_single _ _ _ _ _ _).trans ?_
  rw [← fold_msc Q K hn a.isLt]
  have e0 : FloatOps.ofBits (F := Ideal) .f32 0xFF800000#32 = (⊥ : EReal) := by
    rw [Ideal.ofBits_def]; simp [Ideal.ofBits, Ideal.ieee]
  rw [e0]
  congr 1
  funext b
  exact (congrArg _ (lift_row a b)).trans (fScore_apply Q K hm ho hh hq hk a b)

theorem fExp_apply (hn : n < 32) (hm : isKeep m n) (ho : isHead o h) (hh : h < 2) (hq : isRows q Q n t) (hk : isKeys k K n t)
    (a : Fin 128) (b : Fin 256) : fExp m o q k (ix2 a b) = (pw Q K (2 * t + h) n a.val b.val : EReal) := by
  have e : fExp m o q k (ix2 a b) = Ideal.exp (fScore m o q k (ix2 a b) - fMax m o q k (ix2 a 0)) := by
    unfold fExp
    show Ideal.exp (_ - broadcastTo S128x256 (fMax m o q k) broadcasts_S128x1_S128x256 (ix2 a b)) = _
    rw [broadcastTo_apply _ broadcasts_S128x1_S128x256 (ix2 a b) (ix2 a 0) (fun d => by fin_cases d <;> rfl)]
  rw [e, fMax_apply Q K hn hm ho hh hq hk, fScore_apply Q K hm ho hh hq hk]
  unfold msc pw
  split
  · rw [← EReal.coe_sub, Ideal.exp_coe]
  · rw [EReal.bot_sub, Ideal.exp_bot]; rfl

theorem fDen_apply (hn : n < 32) (hm : isKeep m n) (ho : isHead o h) (hh : h < 2) (hq : isRows q Q n t) (hk : isKeys k K n t)
    (a : Fin 128) : fDen m o q k (ix2 a 0) = (den Q K (2 * t + h) n a.val : EReal) := by
  unfold fDen
  rw [shapeCast_apply _ shapeCasts_S128_S128x1 (ix2 a 0) (ix1 a) (by
    rw [Shape.rowMajor_val_two]; simp [Shape.rowMajor_val_one])]
  refine (Ideal.multiReduction_add_single _ _ _ _ _ _).trans ?_
  exact sum_eq_coe (fun b : Fin 256 => pw Q K (2 * t + h) n a.val b.val) fun b =>
    (congrArg _ (lift_row a b)).trans (fExp_apply Q K hn hm ho hh hq hk a b)

theorem fOut1_apply (hn : n < 32) (hm : isKeep m n) (ho : isHead o h) (hh : h < 2) (hq : isRows q Q n t) (hk : isKeys k K n t)
    (hv : isKeys v V n t) (a l : Fin 128) (hl : l.val / 64 = h) :
    fOut1 m o q k v (ix2 a l) = (og Q K V (n * 128 + a.val) (128 * t + l.val) : EReal) := by
  have hd := den_pos Q K (g := 2 * t + h) hn a.isLt
  unfold fOut1
  rw [divf_apply, dotB_apply, broadcastTo_apply _ broadcasts_S128x1_S128x128 (ix2 a l) (ix2 a 0) (fun d => by fin_cases d <;> rfl),
    fDen_apply Q K hn hm ho hh hq hk, Ideal.div_coe hd.ne',
    sum_eq_coe (fun b : Fin 256 => pw Q K (2 * t + h) n a.val b.val * V (krow n b.val) (128 * t + l.val)) fun b => by
      rw [truncf_apply, fExp_apply Q K hn hm ho hh hq hk, hv b l, EReal.coe_mul], ← EReal.coe_mul]
  congr 1
  unfold og num
  rw [show (128 * t + l.val) / 64 = 2 * t + h by omega, show (n * 128 + a.val) / 128 = n by omega,
    show (n * 128 + a.val) % 128 = a.val by omega,
    show 64 * (2 * t + h) + (128 * t + l.val) % 64 = 128 * t + l.val by omega]
  ring

theorem fLse1_apply (hn : n < 32) (hm : isKeep m n) (ho : isHead o h) (hh : h < 2) (hq : isRows q Q n t) (hk : isKeys k K n t)
    (a l : Fin 128) (hl : l.val / 64 = h) :
    fLse1 m o q k (ix2 a l) = (lse Q K (n * 128 + a.val) (128 * t + l.val) : EReal) := by
  have hd := den_pos Q K (g := 2 * t + h) hn a.isLt
  unfold fLse1
  rw [shapeCast_id, broadcastTo_apply _ broadcasts_S128x1_S128x128 (ix2 a l) (ix2 a 0) (fun d => by fin_cases d <;> rfl),
    addf_apply, fMax_apply Q K hn hm ho hh hq hk]
  have e : log (fDen m o q k) (ix2 a 0) = Ideal.log (fDen m o q k (ix2 a 0)) := rfl
  rw [e, fDen_apply Q K hn hm ho hh hq hk, Ideal.log_coe, if_neg (not_le.2 hd), ← EReal.coe_add]
  congr 1
  unfold lse
  rw [show (128 * t + l.val) / 64 = 2 * t + h by omega, show (n * 128 + a.val) / 128 = n by omega,
    show (n * 128 + a.val) % 128 = a.val by omega]

/-- The lane's bit in the first head's mask. -/
theorem lanes0_cases (a l : Fin 128) :
    (lanes0 (ix2 a l) = 1#1 ∧ l.val / 64 = 0) ∨ (lanes0 (ix2 a l) = 0#1 ∧ l.val / 64 = 1) := by
  have hl := l.isLt
  by_cases hx : l.val / 64 = 0
  · exact Or.inl ⟨(lanes0_head a l).2 hx, hx⟩
  · exact Or.inr ⟨eq_zero_of_ne_one fun hy => hx ((lanes0_head a l).1 hy), by omega⟩

/-- The forward tile's outputs are the attention's. -/
theorem fOut_apply (hn : n < 32) (hm : isKeep m n) (hq : isRows q Q n t) (hk : isKeys k K n t) (hv : isKeys v V n t)
    (a l : Fin 128) : fOut m q k v (ix2 a l) = (og Q K V (n * 128 + a.val) (128 * t + l.val) : EReal) := by
  unfold fOut
  rw [select_apply]
  rcases lanes0_cases a l with ⟨h1, h2⟩ | ⟨h1, h2⟩
  · rw [h1, select_one]; exact fOut1_apply Q K V hn hm lanes0_head (by omega) hq hk hv a l h2
  · rw [h1, select_zero]; exact fOut1_apply Q K V hn hm lanes1_head (by omega) hq hk hv a l h2

/-- The forward tile's logarithms are the attention's. -/
theorem fLse_apply (hn : n < 32) (hm : isKeep m n) (hq : isRows q Q n t) (hk : isKeys k K n t)
    (a l : Fin 128) : fLse m q k (ix2 a l) = (lse Q K (n * 128 + a.val) (128 * t + l.val) : EReal) := by
  unfold fLse
  rw [select_apply]
  rcases lanes0_cases a l with ⟨h1, h2⟩ | ⟨h1, h2⟩
  · rw [h1, select_one]; exact fLse1_apply Q K hn hm lanes0_head (by omega) hq hk a l h2
  · rw [h1, select_zero]; exact fLse1_apply Q K hn hm lanes1_head (by omega) hq hk a l h2
end Forward

section Backward
variable {m : IVec S128x256 1} {o : IVec S128x128 1} {h : ℕ} {q d : FVec Ideal S128x128 .bf16}
  {k v : FVec Ideal S256x128 .bf16} {lj ds lj' ds' : FVec Ideal S128x1 .f32} {n t : ℕ}

theorem bP_apply (hm : isKeep m n) (ho : isHead o h) (hh : h < 2) (hq : isRows q Q n t) (hk : isKeys k K n t)
    (hlj : isCol lj LJ n (2 * t + h)) (a : Fin 128) (b : Fin 256) :
    bP m o q k lj (ix2 a b) = (P Q K LJ (2 * t + h) n a.val b.val : EReal) := by
  unfold bP P
  rw [select_apply]
  split
  · rename_i hx; rw [(hm a b).2 hx, select_one]
    show Ideal.exp (_ - broadcastTo S128x256 lj broadcasts_S128x1_S128x256 (ix2 a b)) = _
    rw [broadcastTo_apply _ broadcasts_S128x1_S128x256 (ix2 a b) (ix2 a 0) (fun d => by fin_cases d <;> rfl),
      hlj a, scores_apply Q K ho hh hq hk, ← EReal.coe_sub, Ideal.exp_coe]
  · rename_i hx
    rw [eq_zero_of_ne_one fun hy => hx ((hm a b).1 hy), select_zero]
    exact Ideal.ofBits_zero_f32.trans EReal.coe_zero.symm

theorem bDs_apply (hm : isKeep m n) (ho : isHead o h) (hh : h < 2) (hq : isRows q Q n t) (hd : isRows d D n t)
    (hk : isKeys k K n t) (hv : isKeys v V n t) (hlj : isCol lj LJ n (2 * t + h)) (hds : isCol ds DS n (2 * t + h))
    (a : Fin 128) (b : Fin 256) :
    bDs m o q d k v lj ds (ix2 a b) = (dS Q K V D LJ DS (2 * t + h) n a.val b.val : EReal) := by
  unfold bDs dS
  rw [truncf_apply, mulf_apply, subf_apply, bP_apply Q K LJ hm ho hh hq hk hlj, scores_apply D V ho hh hd hv,
    broadcastTo_apply _ broadcasts_S128x1_S128x256 (ix2 a b) (ix2 a 0) (fun d => by fin_cases d <;> rfl), hds a,
    ← EReal.coe_sub, ← EReal.coe_mul]
  rfl

/-- The backward tile's gradient of the queries. -/
theorem bDq_apply (hm : isKeep m n) (hq : isRows q Q n t) (hd : isRows d D n t) (hk : isKeys k K n t) (hv : isKeys v V n t)
    (hlj : isCol lj LJ n (2 * t)) (hds : isCol ds DS n (2 * t)) (hlj' : isCol lj' LJ n (2 * t + 1))
    (hds' : isCol ds' DS n (2 * t + 1)) (a l : Fin 128) :
    bDq m q d k v lj ds lj' ds' (ix2 a l) = (dQ Q K V D LJ DS (n * 128 + a.val) (128 * t + l.val) : EReal) := by
  unfold bDq dQ
  rw [select_apply, show (n * 128 + a.val) / 128 = n by omega, show (n * 128 + a.val) % 128 = a.val by omega]
  rcases lanes0_cases a l with ⟨h1, h2⟩ | ⟨h1, h2⟩
  · rw [h1, select_one, dotB_apply, show (128 * t + l.val) / 64 = 2 * t + 0 by omega]
    exact sum_eq_coe (fun b : Fin 256 => dS Q K V D LJ DS (2 * t + 0) n a.val b.val * K (krow n b.val) (128 * t + l.val))
      fun b => by rw [bDs_apply Q K V D LJ DS hm lanes0_head (by omega) hq hd hk hv hlj hds, hk b l, EReal.coe_mul]
  · rw [h1, select_zero, dotB_apply, show (128 * t + l.val) / 64 = 2 * t + 1 by omega]
    exact sum_eq_coe (fun b : Fin 256 => dS Q K V D LJ DS (2 * t + 1) n a.val b.val * K (krow n b.val) (128 * t + l.val))
      fun b => by rw [bDs_apply Q K V D LJ DS hm lanes1_head (by omega) hq hd hk hv hlj' hds', hk b l, EReal.coe_mul]

/-- What block `n` adds to the gradient of its key `b`. -/
def partK (n b c : ℕ) : ℝ := ∑ a : Fin 128, dS Q K V D LJ DS (c / 64) n a.val b * Q (n * 128 + a.val) c

/-- What block `n` adds to the gradient of its value `b`. -/
def partV (n b c : ℕ) : ℝ := ∑ a : Fin 128, P Q K LJ (c / 64) n a.val b * D (n * 128 + a.val) c

/-- Two heads' products, each with the other head's lanes cleared, add to the one of the lane's own head. -/
theorem pair_sum (f : ℕ → ℕ → ℝ) (g : ℕ → ℝ) (t l : ℕ) (hl : l < 128) :
    (∑ a : Fin 128, f (2 * t + 0) a.val * (if l / 64 = 0 then g a.val else 0))
        + (∑ a : Fin 128, f (2 * t + 1) a.val * (if l / 64 = 1 then g a.val else 0))
      = ∑ a : Fin 128, f ((128 * t + l) / 64) a.val * g a.val := by
  rw [← Finset.sum_add_distrib]
  refine Finset.sum_congr rfl fun a _ => ?_
  by_cases hx : l / 64 = 0
  · rw [if_pos hx, if_neg (by omega), show (128 * t + l) / 64 = 2 * t + 0 by omega]; ring
  · rw [if_neg hx, if_pos (by omega), show (128 * t + l) / 64 = 2 * t + 1 by omega]; ring

/-- The backward tile's gradient of the keys. -/
theorem bDk_apply (hm : isKeep m n) (hq : isRows q Q n t) (hd : isRows d D n t) (hk : isKeys k K n t) (hv : isKeys v V n t)
    (hlj : isCol lj LJ n (2 * t)) (hds : isCol ds DS n (2 * t)) (hlj' : isCol lj' LJ n (2 * t + 1))
    (hds' : isCol ds' DS n (2 * t + 1)) (b : Fin 256) (l : Fin 128) :
    bDk m q d k v lj ds lj' ds' (ix2 b l) = (partK Q K V D LJ DS n b.val (128 * t + l.val) : EReal) := by
  unfold bDk partK
  rw [addf_apply, dotC_apply, dotC_apply,
    sum_eq_coe (fun a : Fin 128 => dS Q K V D LJ DS (2 * t + 0) n a.val b.val
        * (if l.val / 64 = 0 then Q (n * 128 + a.val) (128 * t + l.val) else 0)) fun a => by
      rw [bDs_apply Q K V D LJ DS hm lanes0_head (by omega) hq hd hk hv hlj hds, own_apply Q lanes0_head hq, EReal.coe_mul],
    sum_eq_coe (fun a : Fin 128 => dS Q K V D LJ DS (2 * t + 1) n a.val b.val
        * (if l.val / 64 = 1 then Q (n * 128 + a.val) (128 * t + l.val) else 0)) fun a => by
      rw [bDs_apply Q K V D LJ DS hm lanes1_head (by omega) hq hd hk hv hlj' hds', own_apply Q lanes1_head hq, EReal.coe_mul],
    ← EReal.coe_add,
    pair_sum (fun g a => dS Q K V D LJ DS g n a b.val) (fun a => Q (n * 128 + a) (128 * t + l.val)) t l.val l.isLt]

/-- The backward tile's gradient of the values. -/
theorem bDv_apply (hm : isKeep m n) (hq : isRows q Q n t) (hd : isRows d D n t) (hk : isKeys k K n t)
    (hlj : isCol lj LJ n (2 * t)) (hlj' : isCol lj' LJ n (2 * t + 1)) (b : Fin 256) (l : Fin 128) :
    bDv m q d k lj lj' (ix2 b l) = (partV Q K D LJ n b.val (128 * t + l.val) : EReal) := by
  unfold bDv partV
  rw [addf_apply, dotC_apply, dotC_apply,
    sum_eq_coe (fun a : Fin 128 => P Q K LJ (2 * t + 0) n a.val b.val
        * (if l.val / 64 = 0 then D (n * 128 + a.val) (128 * t + l.val) else 0)) fun a => by
      rw [truncf_apply, bP_apply Q K LJ hm lanes0_head (by omega) hq hk hlj, own_apply D lanes0_head hd, EReal.coe_mul],
    sum_eq_coe (fun a : Fin 128 => P Q K LJ (2 * t + 1) n a.val b.val
        * (if l.val / 64 = 1 then D (n * 128 + a.val) (128 * t + l.val) else 0)) fun a => by
      rw [truncf_apply, bP_apply Q K LJ hm lanes1_head (by omega) hq hk hlj', own_apply D lanes1_head hd, EReal.coe_mul],
    ← EReal.coe_add,
    pair_sum (fun g a => P Q K LJ g n a b.val) (fun a => D (n * 128 + a) (128 * t + l.val)) t l.val l.isLt]
end Backward

/-! ## The next block's queries against the last 128 keys -/

section Next
variable {m o : IVec S128x128 1} {h : ℕ} {q d k v : FVec Ideal S128x128 .bf16}
  {lj ds lj' ds' : FVec Ideal S128x1 .f32} {n t : ℕ}

/-- The mask `m` keeps the pairs of query of block `n + 1` and key of block `n` that the attention keeps. -/
def isNext (m : IVec S128x128 1) (n : ℕ) : Prop := ∀ a b : Fin 128, m (ix2 a b) = 1#1 ↔ keep (n + 1) a.val b.val

/-- The block whose rows stand in for block `n + 1`'s: itself, or the last one where there is none. -/
def nextBlock (n : ℕ) : ℕ := if n + 1 < 32 then n + 1 else 31

theorem scoresN_apply {o : IVec S128x128 1} {h : ℕ} (ho : isHead o h) (hh : h < 2) {q k : FVec Ideal S128x128 .bf16} {n t : ℕ}
    (hq : isRows q Q (nextBlock n) t) (hk : isRows k K n t) (hn : n + 1 < 32) (a b : Fin 128) :
    scoresN o q k (ix2 a b) = (sc Q K (2 * t + h) (n + 1) a.val b.val : EReal) := by
  have hx : nextBlock n = n + 1 := if_pos hn
  rw [hx] at hq
  unfold scoresN
  rw [dotD_apply, sum_eq_coe (fun l : Fin 128 => (if l.val / 64 = h then Q ((n + 1) * 128 + a.val) (128 * t + l.val) else 0)
    * K (n * 128 + b.val) (128 * t + l.val)) fun l => by rw [own_apply Q ho hq, hk b l, EReal.coe_mul]]
  rw [sum_head (fun l => Q ((n + 1) * 128 + a.val) (128 * t + l)) (fun l => K (n * 128 + b.val) (128 * t + l)) hh]
  unfold sc
  congr 1
  refine Finset.sum_congr rfl fun e _ => ?_
  have hr : krow (n + 1) b.val = n * 128 + b.val := by
    unfold krow; rw [if_neg (by omega)]; omega
  rw [show 64 * (2 * t + h) + e.val = 128 * t + (64 * h + e.val) by ring, hr]

/-- The scores are real numbers, whether there is a next block or not. -/
theorem scoresN_real {o : IVec S128x128 1} {h : ℕ} (ho : isHead o h) {q k : FVec Ideal S128x128 .bf16} {n n' t : ℕ}
    (hq : isRows q Q n' t) (hk : isRows k K n t) (a b : Fin 128) : ∃ r : ℝ, scoresN o q k (ix2 a b) = (r : EReal) := by
  unfold scoresN
  rw [dotD_apply]
  exact ⟨_, sum_eq_coe (fun l : Fin 128 => (if l.val / 64 = h then Q (n' * 128 + a.val) (128 * t + l.val) else 0)
    * K (n * 128 + b.val) (128 * t + l.val)) fun l => by rw [own_apply Q ho hq, hk b l, EReal.coe_mul]⟩

theorem nP_apply (hm : isNext m n) (ho : isHead o h) (hh : h < 2) (hq : isRows q Q (nextBlock n) t) (hk : isRows k K n t)
    (hlj : isCol lj LJ (nextBlock n) (2 * t + h)) (a b : Fin 128) :
    nP m o q k lj (ix2 a b) = (P Q K LJ (2 * t + h) (n + 1) a.val b.val : EReal) := by
  unfold nP P
  rw [select_apply]
  split
  · rename_i hx; rw [(hm a b).2 hx, select_one]
    have hn : n + 1 < 32 := hx.2.2
    have hl := hlj a
    rw [show nextBlock n = n + 1 from if_pos hn] at hl
    show Ideal.exp (_ - broadcastTo S128x128 lj broadcasts_S128x1_S128x128 (ix2 a b)) = _
    rw [broadcastTo_apply _ broadcasts_S128x1_S128x128 (ix2 a b) (ix2 a 0) (fun d => by fin_cases d <;> rfl),
      hl, scoresN_apply Q K ho hh hq hk hn, ← EReal.coe_sub, Ideal.exp_coe]
  · rename_i hx
    rw [eq_zero_of_ne_one fun hy => hx ((hm a b).1 hy), select_zero]
    exact Ideal.ofBits_zero_f32.trans EReal.coe_zero.symm

theorem nDs_apply (hm : isNext m n) (ho : isHead o h) (hh : h < 2) (hq : isRows q Q (nextBlock n) t)
    (hd : isRows d D (nextBlock n) t) (hk : isRows k K n t) (hv : isRows v V n t)
    (hlj : isCol lj LJ (nextBlock n) (2 * t + h)) (hds : isCol ds DS (nextBlock n) (2 * t + h)) (a b : Fin 128) :
    nDs m o q d k v lj ds (ix2 a b) = (dS Q K V D LJ DS (2 * t + h) (n + 1) a.val b.val : EReal) := by
  unfold nDs dS
  rw [truncf_apply, mulf_apply, subf_apply, nP_apply Q K LJ hm ho hh hq hk hlj,
    broadcastTo_apply _ broadcasts_S128x1_S128x128 (ix2 a b) (ix2 a 0) (fun d => by fin_cases d <;> rfl), hds a]
  by_cases hn : n + 1 < 32
  · rw [scoresN_apply D V ho hh hd hv hn, show nextBlock n = n + 1 from if_pos hn, ← EReal.coe_sub, ← EReal.coe_mul]
    rfl
  · obtain ⟨r, hr⟩ := scoresN_real D V ho hd hv a b
    have hp : P Q K LJ (2 * t + h) (n + 1) a.val b.val = 0 := if_neg fun hx => hn hx.2.2
    rw [hr, hp, ← EReal.coe_sub, ← EReal.coe_mul, zero_mul, zero_mul]

/-- The next block's gradient of the last 128 keys. -/
theorem nDk_apply (hm : isNext m n) (hq : isRows q Q (nextBlock n) t) (hd : isRows d D (nextBlock n) t)
    (hk : isRows k K n t) (hv : isRows v V n t)
    (hlj : isCol lj LJ (nextBlock n) (2 * t)) (hds : isCol ds DS (nextBlock n) (2 * t))
    (hlj' : isCol lj' LJ (nextBlock n) (2 * t + 1)) (hds' : isCol ds' DS (nextBlock n) (2 * t + 1)) (b l : Fin 128) :
    nDk m q d k v lj ds lj' ds' (ix2 b l) = (partK Q K V D LJ DS (n + 1) b.val (128 * t + l.val) : EReal) := by
  unfold nDk partK
  rw [addf_apply, dotE_apply, dotE_apply,
    sum_eq_coe (fun a : Fin 128 => dS Q K V D LJ DS (2 * t + 0) (n + 1) a.val b.val
        * (if l.val / 64 = 0 then Q (nextBlock n * 128 + a.val) (128 * t + l.val) else 0)) fun a => by
      rw [nDs_apply Q K V D LJ DS hm lanes0_head (by omega) hq hd hk hv hlj hds, own_apply Q lanes0_head hq, EReal.coe_mul],
    sum_eq_coe (fun a : Fin 128 => dS Q K V D LJ DS (2 * t + 1) (n + 1) a.val b.val
        * (if l.val / 64 = 1 then Q (nextBlock n * 128 + a.val) (128 * t + l.val) else 0)) fun a => by
      rw [nDs_apply Q K V D LJ DS hm lanes1_head (by omega) hq hd hk hv hlj' hds', own_apply Q lanes1_head hq, EReal.coe_mul],
    ← EReal.coe_add, pair_sum (fun g a => dS Q K V D LJ DS g (n + 1) a b.val)
      (fun a => Q (nextBlock n * 128 + a) (128 * t + l.val)) t l.val l.isLt]
  congr 1
  refine Finset.sum_congr rfl fun a _ => ?_
  by_cases hn : n + 1 < 32
  · rw [show nextBlock n = n + 1 from if_pos hn]
  · have hp : ∀ g, dS Q K V D LJ DS g (n + 1) a.val b.val = 0 := fun g => by
      unfold dS P; rw [if_neg fun hx => hn hx.2.2, zero_mul]
    rw [hp, zero_mul, zero_mul]

/-- The next block's gradient of the last 128 values. -/
theorem nDv_apply (hm : isNext m n) (hq : isRows q Q (nextBlock n) t) (hd : isRows d D (nextBlock n) t)
    (hk : isRows k K n t) (hlj : isCol lj LJ (nextBlock n) (2 * t)) (hlj' : isCol lj' LJ (nextBlock n) (2 * t + 1))
    (b l : Fin 128) :
    nDv m q d k lj lj' (ix2 b l) = (partV Q K D LJ (n + 1) b.val (128 * t + l.val) : EReal) := by
  unfold nDv partV
  rw [addf_apply, dotE_apply, dotE_apply,
    sum_eq_coe (fun a : Fin 128 => P Q K LJ (2 * t + 0) (n + 1) a.val b.val
        * (if l.val / 64 = 0 then D (nextBlock n * 128 + a.val) (128 * t + l.val) else 0)) fun a => by
      rw [truncf_apply, nP_apply Q K LJ hm lanes0_head (by omega) hq hk hlj, own_apply D lanes0_head hd, EReal.coe_mul],
    sum_eq_coe (fun a : Fin 128 => P Q K LJ (2 * t + 1) (n + 1) a.val b.val
        * (if l.val / 64 = 1 then D (nextBlock n * 128 + a.val) (128 * t + l.val) else 0)) fun a => by
      rw [truncf_apply, nP_apply Q K LJ hm lanes1_head (by omega) hq hk hlj', own_apply D lanes1_head hd, EReal.coe_mul],
    ← EReal.coe_add, pair_sum (fun g a => P Q K LJ g (n + 1) a b.val)
      (fun a => D (nextBlock n * 128 + a) (128 * t + l.val)) t l.val l.isLt]
  congr 1
  refine Finset.sum_congr rfl fun a _ => ?_
  by_cases hn : n + 1 < 32
  · rw [show nextBlock n = n + 1 from if_pos hn]
  · have hp : ∀ g, P Q K LJ g (n + 1) a.val b.val = 0 := fun g => if_neg fun hx => hn hx.2.2
    rw [hp, zero_mul, zero_mul]
end Next

/-- The gradient of the keys is what the row's own block and the next one add. -/
theorem dK_eq (l c : ℕ) : dK Q K V D LJ DS l c
    = partK Q K V D LJ DS (l / 128) (128 + l % 128) c + partK Q K V D LJ DS (l / 128 + 1) (l % 128) c := rfl

/-- The gradient of the values is what the row's own block and the next one add. -/
theorem dV_eq (l c : ℕ) : dV Q K D LJ l c
    = partV Q K D LJ (l / 128) (128 + l % 128) c + partV Q K D LJ (l / 128 + 1) (l % 128) c := rfl

end Cert.Attn

end
-- ==== Proof.FwdArr.lean ====
/- The forward call's two result arrays as functions of its three operand arrays: each window's block read off its array,
   the tiles' operands read off the blocks, and the tiles put together into the arrays. -/
module

public import proofs.«01_k».proof.Proof.TileReal
public import Idealize.ShloMosaic.Lib.Pipeline.ValueKit

@[expose] public section

set_option maxRecDepth 16384

noncomputable section

namespace Cert.Attn

open Cert.KernelIdeal Cert.KernelIdeal.Gen
open Idealize.ShloMosaic hiding ix1 ix2
open Idealize.ShloMosaic.ValueIdx Idealize.ShloMosaic.TcCoe Idealize.SL.Sem
open Idealize.ShloMosaic.WordCmp hiding select_one select_zero

/-- The whole array holds the real array `A`. -/
def isArr (x : S4096x1024.Idx → EReal) (A : Arr) : Prop :=
  ∀ i : S4096x1024.Idx, x i = (A (i 0).val (i 1).val : EReal)

/-- The block holds the rows from `R` and the columns from `C` of the array `A`. -/
def isWin {n₀ n₁ : ℕ} (x : (⟨2, ![n₀, n₁]⟩ : Shape).Idx → EReal) (A : Arr) (R C : ℕ) : Prop :=
  ∀ i : (⟨2, ![n₀, n₁]⟩ : Shape).Idx, x i = (A (R + (i 0).val) (C + (i 1).val) : EReal)

/-! ## The tiles' operands off the blocks -/

section
variable {A : Arr} {c r : ℕ}

theorem fQ_rows {x : Vec Ideal S512x256 .bf16} (hx : isWin (n₀ := 512) (n₁ := 256) x A (c * 512) (r * 256))
    (j : Fin 4) (s : Fin 2) : isRows (fQ j s x) A (c * 4 + j.val) (r * 2 + s.val) := by
  intro a l
  have hj := j.isLt
  have hs := s.isLt
  unfold fQ
  refine (extractStridedSlice_apply (s := S128x256) (t := S128x128) _ _ _ (ix2 a l) (ix2 a ⟨128 * s.val + l.val, by omega⟩)
    (fun d => by fin_cases d <;> simp)).trans ?_
  refine (congrFun (shapeCast_id (s := S128x256) _ _) _).trans ?_
  refine (View.ld_unit_apply_of x _ _ _ _ (ix2 ⟨128 * j.val + a.val, by omega⟩ ⟨128 * s.val + l.val, by omega⟩ : S512x256.Idx)
    (fun d => by fin_cases d <;> simp)).trans ((hx _).trans ?_)
  show ((A (c * 512 + (128 * j.val + a.val)) (r * 256 + (128 * s.val + l.val)) : ℝ) : EReal) = _
  rw [show c * 512 + (128 * j.val + a.val) = (c * 4 + j.val) * 128 + a.val by omega,
    show r * 256 + (128 * s.val + l.val) = 128 * (r * 2 + s.val) + l.val by omega]

theorem fExt_apply {p : Vec Ideal S128x256 .bf16} {x : Vec Ideal S512x256 .bf16}
    (hp : isWin (n₀ := 128) (n₁ := 256) p A ((c * 4 - 1) * 128) (r * 256))
    (hx : isWin (n₀ := 512) (n₁ := 256) x A (c * 512) (r * 256)) (j : Fin 4) (b : Fin 256) (l : Fin 256) :
    fExt p x (ix2 ⟨128 * j.val + b.val, by omega⟩ l) = (A (krow (c * 4 + j.val) b.val) (r * 256 + l.val) : EReal) := by
  have hj := j.isLt
  have hb := b.isLt
  unfold fExt
  by_cases h : 128 * j.val + b.val < 128
  · rw [concatenate_pair_apply_left (t := S640x256) (s₁ := S128x256) (s₂ := S512x256) 0 _ _ _
      (ix2 ⟨128 * j.val + b.val, by omega⟩ l) rfl (ix2 ⟨128 * j.val + b.val, h⟩ l)
      (fun d => by fin_cases d <;> rfl)]
    refine (congrFun (shapeCast_id (s := S128x256) _ _) _).trans ?_
    refine (congrFun (View.ld_unit_zero (funext fun a => by fin_cases a <;> rfl) _ p) _).trans ((hp _).trans ?_)
    show ((A ((c * 4 - 1) * 128 + (128 * j.val + b.val)) (r * 256 + l.val) : ℝ) : EReal) = _
    have e : (c * 4 - 1) * 128 + (128 * j.val + b.val) = krow (c * 4 + j.val) b.val := by unfold krow; split <;> omega
    rw [e]
  · rw [concatenate_pair_apply_right (t := S640x256) (s₁ := S128x256) (s₂ := S512x256) 0 _ _ _
      (ix2 ⟨128 * j.val + b.val, by omega⟩ l) rfl rfl (ix2 ⟨128 * j.val + b.val - 128, by omega⟩ l)
      (fun d hd => by fin_cases d <;> first | rfl | exact absurd rfl hd) (by simp; omega)]
    refine (congrFun (shapeCast_id (s := S512x256) _ _) _).trans ?_
    refine (congrFun (View.ld_unit_zero (funext fun a => by fin_cases a <;> rfl) _ x) _).trans ((hx _).trans ?_)
    show ((A (c * 512 + (128 * j.val + b.val - 128)) (r * 256 + l.val) : ℝ) : EReal) = _
    have e : c * 512 + (128 * j.val + b.val - 128) = krow (c * 4 + j.val) b.val := by unfold krow; split <;> omega
    rw [e]

theorem fKeys_keys {p : Vec Ideal S128x256 .bf16} {x : Vec Ideal S512x256 .bf16}
    (hp : isWin (n₀ := 128) (n₁ := 256) p A ((c * 4 - 1) * 128) (r * 256))
    (hx : isWin (n₀ := 512) (n₁ := 256) x A (c * 512) (r * 256)) (j : Fin 4) (s : Fin 2) :
    isKeys (fKeys j s (fExt p x)) A (c * 4 + j.val) (r * 2 + s.val) := by
  intro b l
  have hj := j.isLt
  have hs := s.isLt
  unfold fKeys
  refine (extractStridedSlice_apply (s := S256x256) (t := S256x128) _ _ _ (ix2 b l) (ix2 b ⟨128 * s.val + l.val, by omega⟩)
    (fun d => by fin_cases d <;> simp)).trans ?_
  refine (extractStridedSlice_apply (s := S640x256) (t := S256x256) _ _ _ _
    (ix2 ⟨128 * j.val + b.val, by omega⟩ ⟨128 * s.val + l.val, by omega⟩) (fun d => by fin_cases d <;> simp)).trans ?_
  rw [fExt_apply hp hx,
    show r * 256 + (128 * s.val + l.val) = 128 * (r * 2 + s.val) + l.val by omega]
end

theorem fMask_keep (i : grid0.Coords) (j : Fin 4) : isKeep (fMask i j) ((i 1).val * 4 + j.val) := by
  intro a b
  have hc : (i 1).val < 8 := (i 1).isLt
  have hj := j.isLt
  unfold fMask keep
  rw [bandMask_apply, show (4#32 : BitVec 32) = BitVec.ofNat 32 4 from rfl, hasPrev_apply hc (by omega) (by omega)]
  have : (i 1).val * 4 + j.val < 32 := by omega
  tauto

/-! ## The blocks the step stores -/

section
variable (Q K V : Arr) (i : grid0.Coords) {x0 x1 : Vec Ideal S512x256 .bf16} {x2 : Vec Ideal S128x256 .bf16}
  {x3 : Vec Ideal S512x256 .bf16} {x4 : Vec Ideal S128x256 .bf16}

theorem out0_5_apply (h0 : isWin (n₀ := 512) (n₁ := 256) x0 Q ((i 1).val * 512) ((i 0).val * 256))
    (h1 : isWin (n₀ := 512) (n₁ := 256) x1 K ((i 1).val * 512) ((i 0).val * 256))
    (h2 : isWin (n₀ := 128) (n₁ := 256) x2 K (((i 1).val * 4 - 1) * 128) ((i 0).val * 256))
    (h3 : isWin (n₀ := 512) (n₁ := 256) x3 V ((i 1).val * 512) ((i 0).val * 256))
    (h4 : isWin (n₀ := 128) (n₁ := 256) x4 V (((i 1).val * 4 - 1) * 128) ((i 0).val * 256)) :
    isWin (n₀ := 512) (n₁ := 256) (out0_5 (F := Ideal) i x0 x1 x2 x3 x4) (og Q K V) ((i 1).val * 512) ((i 0).val * 256) := by
  intro y
  have hc : (i 1).val < 8 := (i 1).isLt
  rw [out0_5_tiles]
  refine View.canon_apply_of_pieces (Val := Elt Ideal) (S := S512x256) (e := .f32) (fun y : S512x256.Idx =>
    (og Q K V ((i 1).val * 512 + (y 0).val) ((i 0).val * 256 + (y 1).val) : EReal)) _ (fun p hp x => ?_) y ?_
  · obtain ⟨⟨j, s⟩, -, rfl⟩ := List.mem_map.1 hp
    have hj := j.isLt
    obtain ⟨a, l, rfl⟩ : ∃ a l : Fin 128, x = ix2 a l := ⟨x 0, x 1, funext fun d => by fin_cases d <;> rfl⟩
    refine (fOut_apply Q K V (by omega) (fMask_keep i j) (fQ_rows h0 j s) (fKeys_keys h2 h1 j s) (fKeys_keys h4 h3 j s)
      a l).trans ?_
    have e0 : (((fRect j s).emb (ix2 a l)) 0).val = 128 * j.val + a.val := ValueKit.rect_emb_unit_val _ _ _ _ _
    have e1 : (((fRect j s).emb (ix2 a l)) 1).val = 128 * s.val + l.val := ValueKit.rect_emb_unit_val _ _ _ _ _
    show _ = ((og Q K V ((i 1).val * 512 + (((fRect j s).emb (ix2 a l)) 0).val)
      ((i 0).val * 256 + (((fRect j s).emb (ix2 a l)) 1).val) : ℝ) : EReal)
    rw [e0, e1, show (i 1).val * 512 + (128 * j.val + a.val) = ((i 1).val * 4 + j.val) * 128 + a.val by omega,
      show (i 0).val * 256 + (128 * s.val + l.val) = 128 * ((i 0).val * 2 + s.val) + l.val by omega]
  · exact cover0_5 _ _ _ _ _ _ _ _ y

theorem out0_6_apply (h0 : isWin (n₀ := 512) (n₁ := 256) x0 Q ((i 1).val * 512) ((i 0).val * 256))
    (h1 : isWin (n₀ := 512) (n₁ := 256) x1 K ((i 1).val * 512) ((i 0).val * 256))
    (h2 : isWin (n₀ := 128) (n₁ := 256) x2 K (((i 1).val * 4 - 1) * 128) ((i 0).val * 256)) :
    isWin (n₀ := 512) (n₁ := 256) (out0_6 (F := Ideal) i x0 x1 x2 x3 x4) (lse Q K) ((i 1).val * 512) ((i 0).val * 256) := by
  intro y
  have hc : (i 1).val < 8 := (i 1).isLt
  rw [out0_6_tiles]
  refine View.canon_apply_of_pieces (Val := Elt Ideal) (S := S512x256) (e := .f32) (fun y : S512x256.Idx =>
    (lse Q K ((i 1).val * 512 + (y 0).val) ((i 0).val * 256 + (y 1).val) : EReal)) _ (fun p hp x => ?_) y ?_
  · obtain ⟨⟨j, s⟩, -, rfl⟩ := List.mem_map.1 hp
    have hj := j.isLt
    obtain ⟨a, l, rfl⟩ : ∃ a l : Fin 128, x = ix2 a l := ⟨x 0, x 1, funext fun d => by fin_cases d <;> rfl⟩
    refine (fLse_apply Q K (by omega) (fMask_keep i j) (fQ_rows h0 j s) (fKeys_keys h2 h1 j s) a l).trans ?_
    have e0 : (((fRect j s).emb (ix2 a l)) 0).val = 128 * j.val + a.val := ValueKit.rect_emb_unit_val _ _ _ _ _
    have e1 : (((fRect j s).emb (ix2 a l)) 1).val = 128 * s.val + l.val := ValueKit.rect_emb_unit_val _ _ _ _ _
    show _ = ((lse Q K ((i 1).val * 512 + (((fRect j s).emb (ix2 a l)) 0).val)
      ((i 0).val * 256 + (((fRect j s).emb (ix2 a l)) 1).val) : ℝ) : EReal)
    rw [e0, e1, show (i 1).val * 512 + (128 * j.val + a.val) = ((i 1).val * 4 + j.val) * 128 + a.val by omega,
      show (i 0).val * 256 + (128 * s.val + l.val) = 128 * ((i 0).val * 2 + s.val) + l.val by omega]
  · exact cover0_6 _ _ _ _ _ _ _ _ y
end

/-! ## The windows' blocks off their arrays -/

theorem index0 : ∀ t : Fin grid0.N,
    (win0_0.index t = ![(grid0.coords t 1).val, (grid0.coords t 0).val]
      ∧ win0_1.index t = ![(grid0.coords t 1).val, (grid0.coords t 0).val]
      ∧ win0_2.index t = ![(grid0.coords t 1).val * 4 - 1, (grid0.coords t 0).val])
    ∧ win0_3.index t = ![(grid0.coords t 1).val, (grid0.coords t 0).val]
      ∧ win0_4.index t = ![(grid0.coords t 1).val * 4 - 1, (grid0.coords t 0).val]
      ∧ win0_5.index t = ![(grid0.coords t 1).val, (grid0.coords t 0).val]
      ∧ win0_6.index t = ![(grid0.coords t 1).val, (grid0.coords t 0).val] := by decide +kernel

section
variable (V : (c : Dev nD) → (b : Ref sig .tc) → Buf (Elt Ideal) ((c : Thread nD τ).loc b)) (c : Dev nD) (t : Fin cfg0.N)

theorem iblk0_0 {A : Arr} (h : isArr (V c main_v1) A) :
    isWin (n₀ := 512) (n₁ := 256) (iblk0 V c 0 t) A ((grid0.coords t 1).val * 512) ((grid0.coords t 0).val * 256) := by
  intro y
  have e := (index0 t).1.1
  refine (h _).trans ?_
  blk_simp [e]

theorem iblk0_1 {A : Arr} (h : isArr (V c main_v3) A) :
    isWin (n₀ := 512) (n₁ := 256) (iblk0 V c 1 t) A ((grid0.coords t 1).val * 512) ((grid0.coords t 0).val * 256) := by
  intro y
  have e := (index0 t).1.2.1
  refine (h _).trans ?_
  blk_simp [e]

theorem iblk0_2 {A : Arr} (h : isArr (V c main_v3) A) :
    isWin (n₀ := 128) (n₁ := 256) (iblk0 V c 2 t) A (((grid0.coords t 1).val * 4 - 1) * 128) ((grid0.coords t 0).val * 256) := by
  intro y
  have e := (index0 t).1.2.2
  refine (h _).trans ?_
  blk_simp [e]

theorem iblk0_3 {A : Arr} (h : isArr (V c main_v5) A) :
    isWin (n₀ := 512) (n₁ := 256) (iblk0 V c 3 t) A ((grid0.coords t 1).val * 512) ((grid0.coords t 0).val * 256) := by
  intro y
  have e := (index0 t).2.1
  refine (h _).trans ?_
  blk_simp [e]

theorem iblk0_4 {A : Arr} (h : isArr (V c main_v5) A) :
    isWin (n₀ := 128) (n₁ := 256) (iblk0 V c 4 t) A (((grid0.coords t 1).val * 4 - 1) * 128) ((grid0.coords t 0).val * 256) := by
  intro y
  have e := (index0 t).2.2.1
  refine (h _).trans ?_
  blk_simp [e]

variable {V c} {Q K W : Arr} (hq : isArr (V c main_v1) Q) (hk : isArr (V c main_v3) K) (hv : isArr (V c main_v5) W)

include hq hk hv in
/-- The first result array is the attention's output. -/
theorem arr0_5 : isArr ((dat0 V c).arrAt 5 cfg0.N) (og Q K W) := by
  have h : (dat0 V c).arrAt 5 cfg0.N = fun i : S4096x1024.Idx => ((og Q K W (i 0).val (i 1).val : ℝ) : EReal) := by
    refine (dat0 V c).arrAt_eq_of_covers 5 _ (by decide +kernel) fun t hf y => ?_
    have e := (index0 t).2.2.2.1
    blk_simp [e]
    rw [after0_5]
    exact out0_5_apply Q K W (grid0.coords t) (iblk0_0 V c t hq) (iblk0_1 V c t hk) (iblk0_2 V c t hk) (iblk0_3 V c t hv)
      (iblk0_4 V c t hv) y
  intro i
  rw [h]

include hq hk in
/-- The second result array is the logarithm of its denominator. -/
theorem arr0_6 : isArr ((dat0 V c).arrAt 6 cfg0.N) (lse Q K) := by
  have h : (dat0 V c).arrAt 6 cfg0.N = fun i : S4096x1024.Idx => ((lse Q K (i 0).val (i 1).val : ℝ) : EReal) := by
    refine (dat0 V c).arrAt_eq_of_covers 6 _ (by decide +kernel) fun t hf y => ?_
    have e := (index0 t).2.2.2.2
    blk_simp [e]
    rw [after0_6]
    exact out0_6_apply Q K (grid0.coords t) (iblk0_0 V c t hq) (iblk0_1 V c t hk) (iblk0_2 V c t hk) y
  intro i
  rw [h]
end

end Cert.Attn

end
-- ==== Proof.BwdArr.lean ====
/- The backward call's three result arrays as functions of its operand arrays: each window's block read off its array, the
   tiles' operands read off the blocks, and the tiles put together into the arrays. -/
module

public import proofs.«01_k».proof.Proof.FwdArr

@[expose] public section

set_option maxRecDepth 16384

noncomputable section

namespace Cert.Attn

open Cert.KernelIdeal Cert.KernelIdeal.Gen
open Idealize.ShloMosaic hiding ix1 ix2
open Idealize.ShloMosaic.ValueIdx Idealize.ShloMosaic.TcCoe Idealize.SL.Sem
open Idealize.ShloMosaic.WordCmp hiding select_one select_zero

/-! ## The tiles' operands off the blocks -/

section
variable {A : Arr} {c r n : ℕ}

theorem bTile_rows {x : Vec Ideal S1024x256 .bf16} (hx : isWin (n₀ := 1024) (n₁ := 256) x A (c * 1024) (r * 256))
    (j : Fin 8) (s : Fin 2) : isRows (bTile j s x) A (c * 8 + j.val) (r * 2 + s.val) := by
  intro a l
  have hj := j.isLt
  have hs := s.isLt
  unfold bTile
  refine (congrFun (shapeCast_id (s := S128x128) _ _) _).trans ?_
  refine (View.ld_unit_apply_of x _ _ _ _ (ix2 ⟨128 * j.val + a.val, by omega⟩ ⟨128 * s.val + l.val, by omega⟩ : S1024x256.Idx)
    (fun d => by fin_cases d <;> simp)).trans ((hx _).trans ?_)
  show ((A (c * 1024 + (128 * j.val + a.val)) (r * 256 + (128 * s.val + l.val)) : ℝ) : EReal) = _
  rw [show c * 1024 + (128 * j.val + a.val) = (c * 8 + j.val) * 128 + a.val by omega,
    show r * 256 + (128 * s.val + l.val) = 128 * (r * 2 + s.val) + l.val by omega]

theorem bColumn_col {x : Vec Ideal S1024x256 .f32} (hx : isWin (n₀ := 1024) (n₁ := 256) x A (c * 1024) (r * 256))
    (j : Fin 8) (h : Fin 4) {g : ℕ} (hg : g = r * 4 + h.val) : isCol (bColumn j h x) A (c * 8 + j.val) g := by
  intro a
  have hj := j.isLt
  have hh := h.isLt
  unfold bColumn
  refine (congrFun (shapeCast_id (s := S128x1) _ _) _).trans ?_
  refine (View.ld_unit_apply_of x _ _ _ _ (ix2 ⟨128 * j.val + a.val, by omega⟩ ⟨64 * h.val, by omega⟩ : S1024x256.Idx)
    (fun d => by fin_cases d <;> simp)).trans ((hx _).trans ?_)
  show ((A (c * 1024 + (128 * j.val + a.val)) (r * 256 + 64 * h.val) : ℝ) : EReal) = _
  rw [show c * 1024 + (128 * j.val + a.val) = (c * 8 + j.val) * 128 + a.val by omega,
    show r * 256 + 64 * h.val = 64 * g by omega]

theorem nTile_rows {x : Vec Ideal S128x256 .bf16} (hx : isWin (n₀ := 128) (n₁ := 256) x A (n * 128) (r * 256))
    (s : Fin 2) : isRows (nTile s x) A n (r * 2 + s.val) := by
  intro a l
  have hs := s.isLt
  unfold nTile
  refine (congrFun (shapeCast_id (s := S128x128) _ _) _).trans ?_
  refine (View.ld_unit_apply_of x _ _ _ _ (ix2 a ⟨128 * s.val + l.val, by omega⟩ : S128x256.Idx)
    (fun d => by fin_cases d <;> simp)).trans ((hx _).trans ?_)
  show ((A (n * 128 + a.val) (r * 256 + (128 * s.val + l.val)) : ℝ) : EReal) = _
  rw [show r * 256 + (128 * s.val + l.val) = 128 * (r * 2 + s.val) + l.val by omega]

theorem nColumn_col {x : Vec Ideal S128x256 .f32} (hx : isWin (n₀ := 128) (n₁ := 256) x A (n * 128) (r * 256))
    (h : Fin 4) {g : ℕ} (hg : g = r * 4 + h.val) : isCol (nColumn h x) A n g := by
  intro a
  have hh := h.isLt
  unfold nColumn
  refine (congrFun (shapeCast_id (s := S128x1) _ _) _).trans ?_
  refine (View.ld_unit_apply_of x _ _ _ _ (ix2 a ⟨64 * h.val, by omega⟩ : S128x256.Idx)
    (fun d => by fin_cases d <;> simp)).trans ((hx _).trans ?_)
  show ((A (n * 128 + a.val) (r * 256 + 64 * h.val) : ℝ) : EReal) = _
  rw [show r * 256 + 64 * h.val = 64 * g by omega]

theorem bExt_apply {p : Vec Ideal S128x256 .bf16} {x : Vec Ideal S1024x256 .bf16}
    (hp : isWin (n₀ := 128) (n₁ := 256) p A ((c * 8 - 1) * 128) (r * 256))
    (hx : isWin (n₀ := 1024) (n₁ := 256) x A (c * 1024) (r * 256)) (j : Fin 8) (b : Fin 256) (l : Fin 256) :
    bExt p x (ix2 ⟨128 * j.val + b.val, by omega⟩ l) = (A (krow (c * 8 + j.val) b.val) (r * 256 + l.val) : EReal) := by
  have hj := j.isLt
  have hb := b.isLt
  unfold bExt
  by_cases h : 128 * j.val + b.val < 128
  · rw [concatenate_pair_apply_left (t := S1152x256) (s₁ := S128x256) (s₂ := S1024x256) 0 _ _ _
      (ix2 ⟨128 * j.val + b.val, by omega⟩ l) rfl (ix2 ⟨128 * j.val + b.val, h⟩ l)
      (fun d => by fin_cases d <;> rfl)]
    refine (congrFun (shapeCast_id (s := S128x256) _ _) _).trans ?_
    refine (congrFun (View.ld_unit_zero (funext fun a => by fin_cases a <;> rfl) _ p) _).trans ((hp _).trans ?_)
    show ((A ((c * 8 - 1) * 128 + (128 * j.val + b.val)) (r * 256 + l.val) : ℝ) : EReal) = _
    have e : (c * 8 - 1) * 128 + (128 * j.val + b.val) = krow (c * 8 + j.val) b.val := by unfold krow; split <;> omega
    rw [e]
  · rw [concatenate_pair_apply_right (t := S1152x256) (s₁ := S128x256) (s₂ := S1024x256) 0 _ _ _
      (ix2 ⟨128 * j.val + b.val, by omega⟩ l) rfl rfl (ix2 ⟨128 * j.val + b.val - 128, by omega⟩ l)
      (fun d hd => by fin_cases d <;> first | rfl | exact absurd rfl hd) (by simp; omega)]
    refine (congrFun (shapeCast_id (s := S1024x256) _ _) _).trans ?_
    refine (congrFun (View.ld_unit_zero (funext fun a => by fin_cases a <;> rfl) _ x) _).trans ((hx _).trans ?_)
    show ((A (c * 1024 + (128 * j.val + b.val - 128)) (r * 256 + l.val) : ℝ) : EReal) = _
    have e : c * 1024 + (128 * j.val + b.val - 128) = krow (c * 8 + j.val) b.val := by unfold krow; split <;> omega
    rw [e]

theorem bKeys_keys {p : Vec Ideal S128x256 .bf16} {x : Vec Ideal S1024x256 .bf16}
    (hp : isWin (n₀ := 128) (n₁ := 256) p A ((c * 8 - 1) * 128) (r * 256))
    (hx : isWin (n₀ := 1024) (n₁ := 256) x A (c * 1024) (r * 256)) (j : Fin 8) (s : Fin 2) :
    isKeys (bKeys j s (bExt p x)) A (c * 8 + j.val) (r * 2 + s.val) := by
  intro b l
  have hj := j.isLt
  have hs := s.isLt
  unfold bKeys
  refine (extractStridedSlice_apply (s := S1152x256) (t := S256x128) _ _ _ (ix2 b l)
    (ix2 ⟨128 * j.val + b.val, by omega⟩ ⟨128 * s.val + l.val, by omega⟩) (fun d => by fin_cases d <;> simp)).trans ?_
  rw [bExt_apply hp hx, show r * 256 + (128 * s.val + l.val) = 128 * (r * 2 + s.val) + l.val by omega]
end

theorem bMask_keep (i : grid1.Coords) (j : Fin 8) : isKeep (bMask i j) ((i 1).val * 8 + j.val) := by
  intro a b
  have hc : (i 1).val < 4 := (i 1).isLt
  have hj := j.isLt
  unfold bMask keep
  rw [bandMask_apply, show (8#32 : BitVec 32) = BitVec.ofNat 32 8 from rfl, hasPrev_apply (by omega) (by omega) (by omega)]
  have : (i 1).val * 8 + j.val < 32 := by omega
  tauto

theorem nextMask_next (i : grid1.Coords) : isNext (nextMask (hasNext (i 1).val)) ((i 1).val * 8 + 7) := by
  intro a b
  have hc : (i 1).val < 4 := (i 1).isLt
  have ha := a.isLt
  have hb := b.isLt
  unfold keep
  rw [nextMask_apply, hasNext_apply hc]
  omega

theorem top128_apply (x : FVec Ideal S256x128 .f32) (b l : Fin 128) : top128 x (ix2 b l) = x (ix2 ⟨b.val, by omega⟩ l) :=
  extractStridedSlice_apply (s := S256x128) (t := S128x128) _ _ _ _ _ (fun d => by fin_cases d <;> simp)

theorem bot128_apply (x : FVec Ideal S256x128 .f32) (b l : Fin 128) : bot128 x (ix2 b l) = x (ix2 ⟨128 + b.val, by omega⟩ l) :=
  extractStridedSlice_apply (s := S256x128) (t := S128x128) _ _ _ _ _ (fun d => by fin_cases d <;> simp)

/-! ## The blocks the step stores -/

/-- What the step's twelve operand blocks hold. -/
structure Blocks (Q K V D LJ DS : Arr) (i : grid1.Coords) (x0 : Vec Ideal S1024x256 .bf16) (x1 : Vec Ideal S128x256 .bf16)
    (x2 : Vec Ideal S1024x256 .bf16) (x3 : Vec Ideal S128x256 .bf16) (x4 : Vec Ideal S1024x256 .bf16)
    (x5 : Vec Ideal S128x256 .bf16) (x6 : Vec Ideal S1024x256 .bf16) (x7 : Vec Ideal S128x256 .bf16)
    (x8 : Vec Ideal S1024x256 .f32) (x9 : Vec Ideal S128x256 .f32) (x10 : Vec Ideal S1024x256 .f32)
    (x11 : Vec Ideal S128x256 .f32) : Prop where
  q : isWin (n₀ := 1024) (n₁ := 256) x0 Q ((i 1).val * 1024) ((i 0).val * 256)
  qn : isWin (n₀ := 128) (n₁ := 256) x1 Q (nextBlock ((i 1).val * 8 + 7) * 128) ((i 0).val * 256)
  k : isWin (n₀ := 1024) (n₁ := 256) x2 K ((i 1).val * 1024) ((i 0).val * 256)
  kp : isWin (n₀ := 128) (n₁ := 256) x3 K (((i 1).val * 8 - 1) * 128) ((i 0).val * 256)
  v : isWin (n₀ := 1024) (n₁ := 256) x4 V ((i 1).val * 1024) ((i 0).val * 256)
  vp : isWin (n₀ := 128) (n₁ := 256) x5 V (((i 1).val * 8 - 1) * 128) ((i 0).val * 256)
  d : isWin (n₀ := 1024) (n₁ := 256) x6 D ((i 1).val * 1024) ((i 0).val * 256)
  dn : isWin (n₀ := 128) (n₁ := 256) x7 D (nextBlock ((i 1).val * 8 + 7) * 128) ((i 0).val * 256)
  lj : isWin (n₀ := 1024) (n₁ := 256) x8 LJ ((i 1).val * 1024) ((i 0).val * 256)
  ljn : isWin (n₀ := 128) (n₁ := 256) x9 LJ (nextBlock ((i 1).val * 8 + 7) * 128) ((i 0).val * 256)
  ds : isWin (n₀ := 1024) (n₁ := 256) x10 DS ((i 1).val * 1024) ((i 0).val * 256)
  dsn : isWin (n₀ := 128) (n₁ := 256) x11 DS (nextBlock ((i 1).val * 8 + 7) * 128) ((i 0).val * 256)

section
variable {Q K V D LJ DS : Arr} {i : grid1.Coords} {x0 : Vec Ideal S1024x256 .bf16} {x1 : Vec Ideal S128x256 .bf16}
  {x2 : Vec Ideal S1024x256 .bf16} {x3 : Vec Ideal S128x256 .bf16} {x4 : Vec Ideal S1024x256 .bf16}
  {x5 : Vec Ideal S128x256 .bf16} {x6 : Vec Ideal S1024x256 .bf16} {x7 : Vec Ideal S128x256 .bf16}
  {x8 : Vec Ideal S1024x256 .f32} {x9 : Vec Ideal S128x256 .f32} {x10 : Vec Ideal S1024x256 .f32}
  {x11 : Vec Ideal S128x256 .f32} (H : Blocks Q K V D LJ DS i x0 x1 x2 x3 x4 x5 x6 x7 x8 x9 x10 x11)
include H

theorem tDq_apply (j : Fin 8) (s : Fin 2) (a l : Fin 128) : tDq i x0 x2 x3 x4 x5 x6 x8 x10 j s (ix2 a l)
    = (dQ Q K V D LJ DS (((i 1).val * 8 + j.val) * 128 + a.val) (128 * ((i 0).val * 2 + s.val) + l.val) : EReal) :=
  bDq_apply Q K V D LJ DS (bMask_keep i j) (bTile_rows H.q j s) (bTile_rows H.d j s) (bKeys_keys H.kp H.k j s)
    (bKeys_keys H.vp H.v j s) (bColumn_col H.lj j _ (by simp [hd0]; omega)) (bColumn_col H.ds j _ (by simp [hd0]; omega))
    (bColumn_col H.lj j _ (by simp [hd1]; omega)) (bColumn_col H.ds j _ (by simp [hd1]; omega)) a l

theorem tDk_apply (j : Fin 8) (s : Fin 2) (b : Fin 256) (l : Fin 128) : tDk i x0 x2 x3 x4 x5 x6 x8 x10 j s (ix2 b l)
    = (partK Q K V D LJ DS ((i 1).val * 8 + j.val) b.val (128 * ((i 0).val * 2 + s.val) + l.val) : EReal) :=
  bDk_apply Q K V D LJ DS (bMask_keep i j) (bTile_rows H.q j s) (bTile_rows H.d j s) (bKeys_keys H.kp H.k j s)
    (bKeys_keys H.vp H.v j s) (bColumn_col H.lj j _ (by simp [hd0]; omega)) (bColumn_col H.ds j _ (by simp [hd0]; omega))
    (bColumn_col H.lj j _ (by simp [hd1]; omega)) (bColumn_col H.ds j _ (by simp [hd1]; omega)) b l

theorem tDv_apply (j : Fin 8) (s : Fin 2) (b : Fin 256) (l : Fin 128) : tDv i x0 x2 x3 x6 x8 j s (ix2 b l)
    = (partV Q K D LJ ((i 1).val * 8 + j.val) b.val (128 * ((i 0).val * 2 + s.val) + l.val) : EReal) :=
  bDv_apply Q K D LJ (bMask_keep i j) (bTile_rows H.q j s) (bTile_rows H.d j s) (bKeys_keys H.kp H.k j s)
    (bColumn_col H.lj j _ (by simp [hd0]; omega)) (bColumn_col H.lj j _ (by simp [hd1]; omega)) b l

theorem tDkN_apply (s : Fin 2) (b l : Fin 128) : tDkN i x1 x2 x4 x7 x9 x11 s (ix2 b l)
    = (partK Q K V D LJ DS ((i 1).val * 8 + 7 + 1) b.val (128 * ((i 0).val * 2 + s.val) + l.val) : EReal) :=
  nDk_apply Q K V D LJ DS (nextMask_next i) (nTile_rows H.qn s) (nTile_rows H.dn s) (bTile_rows H.k 7 s)
    (bTile_rows H.v 7 s) (nColumn_col H.ljn _ (by simp [hd0]; omega)) (nColumn_col H.dsn _ (by simp [hd0]; omega))
    (nColumn_col H.ljn _ (by simp [hd1]; omega)) (nColumn_col H.dsn _ (by simp [hd1]; omega)) b l

theorem tDvN_apply (s : Fin 2) (b l : Fin 128) : tDvN i x1 x2 x7 x9 s (ix2 b l)
    = (partV Q K D LJ ((i 1).val * 8 + 7 + 1) b.val (128 * ((i 0).val * 2 + s.val) + l.val) : EReal) :=
  nDv_apply Q K D LJ (nextMask_next i) (nTile_rows H.qn s) (nTile_rows H.dn s) (bTile_rows H.k 7 s)
    (nColumn_col H.ljn _ (by simp [hd0]; omega)) (nColumn_col H.ljn _ (by simp [hd1]; omega)) b l

theorem aftK_apply (j : Fin 8) (s : Fin 2) (b l : Fin 128) : aftK i x0 x1 x2 x3 x4 x5 x6 x7 x8 x9 x10 x11 j s (ix2 b l)
    = (partK Q K V D LJ DS ((i 1).val * 8 + j.val + 1) b.val (128 * ((i 0).val * 2 + s.val) + l.val) : EReal) := by
  unfold aftK
  split
  · rw [top128_apply, tDk_apply H]; rfl
  · have hj : j.val = 7 := by omega
    rw [tDkN_apply H, hj]

theorem aftV_apply (j : Fin 8) (s : Fin 2) (b l : Fin 128) : aftV i x0 x1 x2 x3 x6 x7 x8 x9 j s (ix2 b l)
    = (partV Q K D LJ ((i 1).val * 8 + j.val + 1) b.val (128 * ((i 0).val * 2 + s.val) + l.val) : EReal) := by
  unfold aftV
  split
  · rw [top128_apply, tDv_apply H]; rfl
  · have hj : j.val = 7 := by omega
    rw [tDvN_apply H, hj]

omit H in
/-- A block of tiles holds the array that each tile holds. -/
theorem tiles8_apply {e : EltTy} (p : Fin 8 → Fin 2 → S128x128.Idx → Elt Ideal e) (co : ℝ → Elt Ideal e) (B : Arr)
    (hp : ∀ j s (a l : Fin 128), p j s (ix2 a l)
      = co (B (((i 1).val * 8 + j.val) * 128 + a.val) (128 * ((i 0).val * 2 + s.val) + l.val)))
    (y : S1024x256.Idx) (hy : ∃ q ∈ (tiles8.map fun t => (⟨bRect t.1 t.2, p t.1 t.2⟩ : View.Piece (Elt Ideal) S1024x256 e)),
      y ∈ q.1.set) :
    View.canon (tiles8.map fun t => (⟨bRect t.1 t.2, p t.1 t.2⟩ : View.Piece (Elt Ideal) S1024x256 e)) y
      = co (B ((i 1).val * 1024 + (y 0).val) ((i 0).val * 256 + (y 1).val)) := by
  refine View.canon_apply_of_pieces (Val := Elt Ideal) (S := S1024x256) (e := e) (fun y : S1024x256.Idx =>
    co (B ((i 1).val * 1024 + (y 0).val) ((i 0).val * 256 + (y 1).val))) _ (fun q hq x => ?_) y hy
  obtain ⟨⟨j, s⟩, -, rfl⟩ := List.mem_map.1 hq
  obtain ⟨a, l, rfl⟩ : ∃ a l : Fin 128, x = ix2 a l := ⟨x 0, x 1, funext fun d => by fin_cases d <;> rfl⟩
  refine (hp j s a l).trans ?_
  have e0 : (((bRect j s).emb (ix2 a l)) 0).val = 128 * j.val + a.val := ValueKit.rect_emb_unit_val _ _ _ _ _
  have e1 : (((bRect j s).emb (ix2 a l)) 1).val = 128 * s.val + l.val := ValueKit.rect_emb_unit_val _ _ _ _ _
  show _ = co (B ((i 1).val * 1024 + (((bRect j s).emb (ix2 a l)) 0).val)
    ((i 0).val * 256 + (((bRect j s).emb (ix2 a l)) 1).val))
  rw [e0, e1, show (i 1).val * 1024 + (128 * j.val + a.val) = ((i 1).val * 8 + j.val) * 128 + a.val by omega,
    show (i 0).val * 256 + (128 * s.val + l.val) = 128 * ((i 0).val * 2 + s.val) + l.val by omega]

theorem out1_12_apply : isWin (n₀ := 1024) (n₁ := 256) (out1_12 (F := Ideal) i x0 x1 x2 x3 x4 x5 x6 x7 x8 x9 x10 x11)
    (dQ Q K V D LJ DS) ((i 1).val * 1024) ((i 0).val * 256) := by
  intro y
  rw [out1_12_tiles]
  exact tiles8_apply (e := .f32) (fun j s => tDq i x0 x2 x3 x4 x5 x6 x8 x10 j s) (fun x => (x : EReal)) _ (tDq_apply H) y
    (cover1_12 _ _ _ _ _ _ _ _ _ _ _ _ _ _ _ _ y)

theorem out1_13_apply : isWin (n₀ := 1024) (n₁ := 256) (out1_13 (F := Ideal) i x0 x1 x2 x3 x4 x5 x6 x7 x8 x9 x10 x11)
    (dK Q K V D LJ DS) ((i 1).val * 1024) ((i 0).val * 256) := by
  intro y
  rw [out1_13_tiles]
  refine tiles8_apply (e := .f32) (fun j s => addf (bot128 (tDk i x0 x2 x3 x4 x5 x6 x8 x10 j s))
    (aftK i x0 x1 x2 x3 x4 x5 x6 x7 x8 x9 x10 x11 j s)) (fun x => (x : EReal)) _ (fun j s a l => ?_) y
    (cover1_13 _ _ _ _ _ _ _ _ _ _ _ _ _ _ _ _ y)
  rw [addf_apply, bot128_apply, tDk_apply H, aftK_apply H, dK_eq, ← EReal.coe_add,
    show (((i 1).val * 8 + j.val) * 128 + a.val) / 128 = (i 1).val * 8 + j.val by omega,
    show (((i 1).val * 8 + j.val) * 128 + a.val) % 128 = a.val by omega]

theorem out1_14_apply : isWin (n₀ := 1024) (n₁ := 256) (out1_14 (F := Ideal) i x0 x1 x2 x3 x4 x5 x6 x7 x8 x9 x10 x11)
    (dV Q K D LJ) ((i 1).val * 1024) ((i 0).val * 256) := by
  intro y
  rw [out1_14_tiles]
  refine tiles8_apply (e := .bf16) (fun j s => truncf .bf16 (addf (bot128 (tDv i x0 x2 x3 x6 x8 j s))
    (aftV i x0 x1 x2 x3 x6 x7 x8 x9 j s)) bitsLt_bf16_f32) (fun x => (x : EReal)) _ (fun j s a l => ?_) y
    (cover1_14 _ _ _ _ _ _ _ _ _ _ _ _ _ _ _ _ y)
  rw [truncf_apply, addf_apply, bot128_apply, tDv_apply H, aftV_apply H, dV_eq, ← EReal.coe_add,
    show (((i 1).val * 8 + j.val) * 128 + a.val) / 128 = (i 1).val * 8 + j.val by omega,
    show (((i 1).val * 8 + j.val) * 128 + a.val) % 128 = a.val by omega]
end

/-! ## The windows' blocks off their arrays -/

theorem index1 : ∀ t : Fin grid1.N,
    (win1_0.index t = ![(grid1.coords t 1).val, (grid1.coords t 0).val]
      ∧ win1_1.index t = ![nextBlock ((grid1.coords t 1).val * 8 + 7), (grid1.coords t 0).val]
      ∧ win1_2.index t = ![(grid1.coords t 1).val, (grid1.coords t 0).val]
      ∧ win1_3.index t = ![(grid1.coords t 1).val * 8 - 1, (grid1.coords t 0).val])
    ∧ (win1_4.index t = ![(grid1.coords t 1).val, (grid1.coords t 0).val]
      ∧ win1_5.index t = ![(grid1.coords t 1).val * 8 - 1, (grid1.coords t 0).val]
      ∧ win1_6.index t = ![(grid1.coords t 1).val, (grid1.coords t 0).val]
      ∧ win1_7.index t = ![nextBlock ((grid1.coords t 1).val * 8 + 7), (grid1.coords t 0).val])
    ∧ (win1_8.index t = ![(grid1.coords t 1).val, (grid1.coords t 0).val]
      ∧ win1_9.index t = ![nextBlock ((grid1.coords t 1).val * 8 + 7), (grid1.coords t 0).val]
      ∧ win1_10.index t = ![(grid1.coords t 1).val, (grid1.coords t 0).val]
      ∧ win1_11.index t = ![nextBlock ((grid1.coords t 1).val * 8 + 7), (grid1.coords t 0).val])
    ∧ (win1_12.index t = ![(grid1.coords t 1).val, (grid1.coords t 0).val]
      ∧ win1_13.index t = ![(grid1.coords t 1).val, (grid1.coords t 0).val]
      ∧ win1_14.index t = ![(grid1.coords t 1).val, (grid1.coords t 0).val]) := by decide +kernel

section
variable (V : (c : Dev nD) → (b : Ref sig .tc) → Buf (Elt Ideal) ((c : Thread nD τ).loc b)) (c : Dev nD) (t : Fin cfg1.N)

theorem iblk1_0 {A : Arr} (h : isArr (V c main_v1) A) :
    isWin (n₀ := 1024) (n₁ := 256) (iblk1 V c 0 t) A ((grid1.coords t 1).val * 1024) ((grid1.coords t 0).val * 256) := by
  intro y
  have e := (index1 t).1.1
  refine (h _).trans ?_
  blk_simp [e]

theorem iblk1_1 {A : Arr} (h : isArr (V c main_v1) A) :
    isWin (n₀ := 128) (n₁ := 256) (iblk1 V c 1 t) A (nextBlock ((grid1.coords t 1).val * 8 + 7) * 128) ((grid1.coords t 0).val * 256) := by
  intro y
  have e := (index1 t).1.2.1
  refine (h _).trans ?_
  blk_simp [e]

theorem iblk1_2 {A : Arr} (h : isArr (V c main_v3) A) :
    isWin (n₀ := 1024) (n₁ := 256) (iblk1 V c 2 t) A ((grid1.coords t 1).val * 1024) ((grid1.coords t 0).val * 256) := by
  intro y
  have e := (index1 t).1.2.2.1
  refine (h _).trans ?_
  blk_simp [e]

theorem iblk1_3 {A : Arr} (h : isArr (V c main_v3) A) :
    isWin (n₀ := 128) (n₁ := 256) (iblk1 V c 3 t) A (((grid1.coords t 1).val * 8 - 1) * 128) ((grid1.coords t 0).val * 256) := by
  intro y
  have e := (index1 t).1.2.2.2
  refine (h _).trans ?_
  blk_simp [e]

theorem iblk1_4 {A : Arr} (h : isArr (V c main_v5) A) :
    isWin (n₀ := 1024) (n₁ := 256) (iblk1 V c 4 t) A ((grid1.coords t 1).val * 1024) ((grid1.coords t 0).val * 256) := by
  intro y
  have e := (index1 t).2.1.1
  refine (h _).trans ?_
  blk_simp [e]

theorem iblk1_5 {A : Arr} (h : isArr (V c main_v5) A) :
    isWin (n₀ := 128) (n₁ := 256) (iblk1 V c 5 t) A (((grid1.coords t 1).val * 8 - 1) * 128) ((grid1.coords t 0).val * 256) := by
  intro y
  have e := (index1 t).2.1.2.1
  refine (h _).trans ?_
  blk_simp [e]

theorem iblk1_6 {A : Arr} (h : isArr (V c main_v43) A) :
    isWin (n₀ := 1024) (n₁ := 256) (iblk1 V c 6 t) A ((grid1.coords t 1).val * 1024) ((grid1.coords t 0).val * 256) := by
  intro y
  have e := (index1 t).2.1.2.2.1
  refine (h _).trans ?_
  blk_simp [e]

theorem iblk1_7 {A : Arr} (h : isArr (V c main_v43) A) :
    isWin (n₀ := 128) (n₁ := 256) (iblk1 V c 7 t) A (nextBlock ((grid1.coords t 1).val * 8 + 7) * 128) ((grid1.coords t 0).val * 256) := by
  intro y
  have e := (index1 t).2.1.2.2.2
  refine (h _).trans ?_
  blk_simp [e]

theorem iblk1_8 {A : Arr} (h : isArr (V c main_v34) A) :
    isWin (n₀ := 1024) (n₁ := 256) (iblk1 V c 8 t) A ((grid1.coords t 1).val * 1024) ((grid1.coords t 0).val * 256) := by
  intro y
  have e := (index1 t).2.2.1.1
  refine (h _).trans ?_
  blk_simp [e]

theorem iblk1_9 {A : Arr} (h : isArr (V c main_v34) A) :
    isWin (n₀ := 128) (n₁ := 256) (iblk1 V c 9 t) A (nextBlock ((grid1.coords t 1).val * 8 + 7) * 128) ((grid1.coords t 0).val * 256) := by
  intro y
  have e := (index1 t).2.2.1.2.1
  refine (h _).trans ?_
  blk_simp [e]

theorem iblk1_10 {A : Arr} (h : isArr (V c main_v41) A) :
    isWin (n₀ := 1024) (n₁ := 256) (iblk1 V c 10 t) A ((grid1.coords t 1).val * 1024) ((grid1.coords t 0).val * 256) := by
  intro y
  have e := (index1 t).2.2.1.2.2.1
  refine (h _).trans ?_
  blk_simp [e]

theorem iblk1_11 {A : Arr} (h : isArr (V c main_v41) A) :
    isWin (n₀ := 128) (n₁ := 256) (iblk1 V c 11 t) A (nextBlock ((grid1.coords t 1).val * 8 + 7) * 128) ((grid1.coords t 0).val * 256) := by
  intro y
  have e := (index1 t).2.2.1.2.2.2
  refine (h _).trans ?_
  blk_simp [e]

variable {V c} {Q K W D LJ DS : Arr} (hq : isArr (V c main_v1) Q) (hk : isArr (V c main_v3) K) (hv : isArr (V c main_v5) W)
  (hd : isArr (V c main_v43) D) (hlj : isArr (V c main_v34) LJ) (hds : isArr (V c main_v41) DS)
include hq hk hv hd hlj hds

theorem blocks1 : Blocks Q K W D LJ DS (grid1.coords t) (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t)
    (iblk1 V c 11 t) :=
  ⟨iblk1_0 V c t hq, iblk1_1 V c t hq, iblk1_2 V c t hk, iblk1_3 V c t hk, iblk1_4 V c t hv, iblk1_5 V c t hv,
    iblk1_6 V c t hd, iblk1_7 V c t hd, iblk1_8 V c t hlj, iblk1_9 V c t hlj, iblk1_10 V c t hds, iblk1_11 V c t hds⟩

/-- The gradient of the queries. -/
theorem arr1_12 : isArr ((dat1 V c).arrAt 12 cfg1.N) (dQ Q K W D LJ DS) := by
  have h : (dat1 V c).arrAt 12 cfg1.N = fun i : S4096x1024.Idx => ((dQ Q K W D LJ DS (i 0).val (i 1).val : ℝ) : EReal) := by
    refine (dat1 V c).arrAt_eq_of_covers 12 _ (by decide +kernel) fun t hf y => ?_
    have e := (index1 t).2.2.2.1
    blk_simp [e]
    rw [after1_12]
    exact out1_12_apply (blocks1 t hq hk hv hd hlj hds) y
  intro i
  rw [h]

/-- The gradient of the keys. -/
theorem arr1_13 : isArr ((dat1 V c).arrAt 13 cfg1.N) (dK Q K W D LJ DS) := by
  have h : (dat1 V c).arrAt 13 cfg1.N = fun i : S4096x1024.Idx => ((dK Q K W D LJ DS (i 0).val (i 1).val : ℝ) : EReal) := by
    refine (dat1 V c).arrAt_eq_of_covers 13 _ (by decide +kernel) fun t hf y => ?_
    have e := (index1 t).2.2.2.2.1
    blk_simp [e]
    rw [after1_13]
    exact out1_13_apply (blocks1 t hq hk hv hd hlj hds) y
  intro i
  rw [h]

/-- The gradient of the values. -/
theorem arr1_14 : isArr ((dat1 V c).arrAt 14 cfg1.N) (dV Q K D LJ) := by
  have h : (dat1 V c).arrAt 14 cfg1.N = fun i : S4096x1024.Idx => ((dV Q K D LJ (i 0).val (i 1).val : ℝ) : EReal) := by
    refine (dat1 V c).arrAt_eq_of_covers 14 _ (by decide +kernel) fun t hf y => ?_
    have e := (index1 t).2.2.2.2.2
    blk_simp [e]
    rw [after1_14]
    exact out1_14_apply (blocks1 t hq hk hv hd hlj hds) y
  intro i
  rw [h]

end

end Cert.Attn

end
-- ==== Proof.Host.lean ====
/- The host operations around the two calls, and the kernel's three results as functions of its arguments. -/
module

public import proofs.«01_k».proof.Proof.BwdArr
public import proofs.«01_k».proof.Proof.Gen.KernelIdeal.Frame.Fold0
public import Idealize.ShloMosaic.Lib.StableHlo.ReadAt

@[expose] public section

set_option maxRecDepth 16384

noncomputable section

namespace Cert.Attn

open Cert.KernelIdeal Cert.KernelIdeal.Gen
open Idealize.ShloMosaic hiding ix1 ix2 ix3
open Idealize.ShloMosaic.ValueIdx Idealize.ShloMosaic.TcCoe Idealize.SL.Sem

/-- The argument by token, head and lane holds the array `A`: token `4 * l + r` of head `h` is row `l`, columns from
    `256 * r + 64 * h`. -/
def isArg3 (x : S16384x4x64.Idx → EReal) (A : Arr) : Prop := ∀ (l k : ℕ) (p : l * 4 + k / 256 < 16384) (q : k / 64 % 4 < 4)
  (r : k % 64 < 64), x (Idealize.ShloMosaic.ix3 ⟨l * 4 + k / 256, p⟩ ⟨k / 64 % 4, q⟩ ⟨k % 64, r⟩) = (A l k : EReal)

/-- The argument by token and head holds the array `A`, the same in every lane of a head. -/
def isArg2 (x : S16384x4.Idx → EReal) (A : Arr) : Prop := ∀ (l k : ℕ) (p : l * 4 + k / 256 < 16384) (q : k / 64 % 4 < 4),
  x (Idealize.ShloMosaic.ix2 ⟨l * 4 + k / 256, p⟩ ⟨k / 64 % 4, q⟩) = (A l k : EReal)

theorem isArr.at {x : S4096x1024.Idx → EReal} {A : Arr} (h : isArr x A) (a : Fin 4096) (b : Fin 1024) :
    x (Idealize.ShloMosaic.ix2 a b) = (A a.val b.val : EReal) := h _

theorem tot_pos' (A B C : Arr) (l c : ℕ) : 0 < tot A B C l c := by unfold tot; positivity

theorem coe_max' (a b : ℝ) : max (a : EReal) (b : EReal) = ((max a b : ℝ) : EReal) := (EReal.coe_strictMono.monotone.map_max).symm

theorem log_tot (A B C : Arr) (l c : ℕ) : Ideal.log (tot A B C l c : EReal) = (Real.log (tot A B C l c) : EReal) := by
  rw [Ideal.log_coe, if_neg (not_le.2 (tot_pos' A B C l c))]

theorem div_tot (A B C : Arr) (l c : ℕ) (x : ℝ) :
    Ideal.div (x : EReal) (tot A B C l c : EReal) = ((x / tot A B C l c : ℝ) : EReal) := by
  rw [Ideal.div_coe (tot_pos' A B C l c).ne', ← EReal.coe_mul]; congr 1; ring

section
variable (m : (ℓ : Loc nD τ sig) → Buf (Elt Ideal) ℓ) (ρ : Dev nD → PrngReg) (c : Dev nD)
variable {Q K V D LA LB OA OB : Arr}

theorem v1_arr (h : isArg3 (m ((c : Thread nD τ).loc main_arg0)) Q) : isArr (V1 m ρ c main_v1) Q := by
  intro i
  show StableHlo.after hostOps0 (W0 m ρ c) (Proc.devRef .tc main_v1) i = ((Q (i 0).val (i 1).val : ℝ) : EReal)
  after_reads_at
  exact h _ _ _ _ _

theorem v3_arr (h : isArg3 (m ((c : Thread nD τ).loc main_arg1)) K) : isArr (V1 m ρ c main_v3) K := by
  intro i
  show StableHlo.after hostOps0 (W0 m ρ c) (Proc.devRef .tc main_v3) i = ((K (i 0).val (i 1).val : ℝ) : EReal)
  after_reads_at
  exact h _ _ _ _ _

theorem v5_arr (h : isArg3 (m ((c : Thread nD τ).loc main_arg2)) V) : isArr (V1 m ρ c main_v5) V := by
  intro i
  show StableHlo.after hostOps0 (W0 m ρ c) (Proc.devRef .tc main_v5) i = ((V (i 0).val (i 1).val : ℝ) : EReal)
  after_reads_at
  exact h _ _ _ _ _

theorem v43_arr (h : isArg3 (W2 m ρ c (Proc.devRef .tc main_arg7)) D) : isArr (V3 m ρ c main_v43) D := by
  intro i
  show StableHlo.after hostOps1 (W2 m ρ c) (Proc.devRef .tc main_v43) i = ((D (i 0).val (i 1).val : ℝ) : EReal)
  after_reads_at
  exact h _ _ _ _ _

variable {L O : Arr} (hl : isArr (W2 m ρ c (Proc.devRef .tc main_v6_1)) L)
  (ha : isArg2 (W2 m ρ c (Proc.devRef .tc main_arg4)) LA) (hb : isArg2 (W2 m ρ c (Proc.devRef .tc main_arg6)) LB)
include hl ha hb

theorem v34_arr : isArr (V3 m ρ c main_v34) (joint LA L LB) := by
  intro i
  show StableHlo.after hostOps1 (W2 m ρ c) (Proc.devRef .tc main_v34) i = ((joint LA L LB (i 0).val (i 1).val : ℝ) : EReal)
  after_reads_at
  simp only [ha _ _ _ _, hb _ _ _ _, hl i, coe_max', ← EReal.coe_sub, Ideal.exp_coe, ← EReal.coe_add]
  exact (congrArg _ (log_tot LA L LB (i 0).val (i 1).val)).trans (EReal.coe_add _ _).symm

theorem v41_arr (ho : isArr (W2 m ρ c (Proc.devRef .tc main_v6_0)) O)
    (hx : isArg3 (W2 m ρ c (Proc.devRef .tc main_arg3)) OA) (hy : isArg3 (W2 m ρ c (Proc.devRef .tc main_arg5)) OB)
    (hd : isArg3 (W2 m ρ c (Proc.devRef .tc main_arg7)) D) :
    isArr (V3 m ρ c main_v41) (hsum D (mix LA L LB OA O OB)) := by
  intro i
  show StableHlo.after hostOps1 (W2 m ρ c) (Proc.devRef .tc main_v41) i
    = ((hsum D (mix LA L LB OA O OB) (i 0).val (i 1).val : ℝ) : EReal)
  after_reads_at
  have hl' : ∀ (k : ℕ) (p : k < 1024), W2 m ρ c (Proc.devRef .tc main_v6_1) (Idealize.ShloMosaic.ix2 (i 0) ⟨k, p⟩)
      = ((L (i 0).val k : ℝ) : EReal) := fun k p => hl _
  have ho' : ∀ (k : ℕ) (p : k < 1024), W2 m ρ c (Proc.devRef .tc main_v6_0) (Idealize.ShloMosaic.ix2 (i 0) ⟨k, p⟩)
      = ((O (i 0).val k : ℝ) : EReal) := fun k p => ho _
  simp only [ha _ _ _ _, hb _ _ _ _, hx _ _ _ _ _, hy _ _ _ _ _, hd _ _ _ _ _, hl', ho', coe_max', ← EReal.coe_sub,
    Ideal.exp_coe, ← EReal.coe_add]
  have hv : ∀ (x : ℝ) (k : ℕ), _ := fun x k => div_tot LA L LB (i 0).val k x
  simp only [tot, top] at hv
  simp only [hv, ← EReal.coe_mul, ← EReal.coe_add, sum_coe]
  unfold hsum mix tot top
  simp only [Nat.mul_comm 64]
end

/-! ## The results -/

/-- The joint logarithm of the three groups' denominators. -/
def lj (Q K LA LB : Arr) : Arr := joint LA (lse Q K) LB

/-- The sum over a head's lanes of the output's gradient times the merged output. -/
def dsum (Q K V D LA LB OA OB : Arr) : Arr := hsum D (mix LA (lse Q K) LB OA (og Q K V) OB)

section
variable (m : (ℓ : Loc nD τ sig) → Buf (Elt Ideal) ℓ) (ρ : Dev nD → PrngReg) (c : Dev nD)
variable {Q K V D LA LB OA OB : Arr}

/-- What the eight arguments hold. -/
structure Args (Q K V D LA LB OA OB : Arr) : Prop where
  q : isArg3 (m ((c : Thread nD τ).loc main_arg0)) Q
  k : isArg3 (m ((c : Thread nD τ).loc main_arg1)) K
  v : isArg3 (m ((c : Thread nD τ).loc main_arg2)) V
  oa : isArg3 (m ((c : Thread nD τ).loc main_arg3)) OA
  la : isArg2 (m ((c : Thread nD τ).loc main_arg4)) LA
  ob : isArg3 (m ((c : Thread nD τ).loc main_arg5)) OB
  lb : isArg2 (m ((c : Thread nD τ).loc main_arg6)) LB
  d : isArg3 (m ((c : Thread nD τ).loc main_arg7)) D

variable {m c} (H : Args m c Q K V D LA LB OA OB)
include H

theorem w2_o : isArr (W2 m ρ c (Proc.devRef .tc main_v6_0)) (og Q K V) := by
  have e : W2 m ρ c (Proc.devRef .tc main_v6_0) = _ := W2_arr m ρ c 5
  rw [e]; exact arr0_5 (v1_arr m ρ c H.q) (v3_arr m ρ c H.k) (v5_arr m ρ c H.v)

theorem w2_l : isArr (W2 m ρ c (Proc.devRef .tc main_v6_1)) (lse Q K) := by
  have e : W2 m ρ c (Proc.devRef .tc main_v6_1) = _ := W2_arr m ρ c 6
  rw [e]; exact arr0_6 (v1_arr m ρ c H.q) (v3_arr m ρ c H.k)

theorem v3_q : isArr (V3 m ρ c main_v1) Q := by
  have e : V3 m ρ c main_v1 = V1 m ρ c main_v1 :=
    (W3_of m ρ c main_v1 (by decide)).trans (W2_of m ρ c main_v1 (by decide))
  rw [e]; exact v1_arr m ρ c H.q

theorem v3_k : isArr (V3 m ρ c main_v3) K := by
  have e : V3 m ρ c main_v3 = V1 m ρ c main_v3 :=
    (W3_of m ρ c main_v3 (by decide)).trans (W2_of m ρ c main_v3 (by decide))
  rw [e]; exact v3_arr m ρ c H.k

theorem v3_v : isArr (V3 m ρ c main_v5) V := by
  have e : V3 m ρ c main_v5 = V1 m ρ c main_v5 :=
    (W3_of m ρ c main_v5 (by decide)).trans (W2_of m ρ c main_v5 (by decide))
  rw [e]; exact v5_arr m ρ c H.v

theorem w2_d : isArg3 (W2 m ρ c (Proc.devRef .tc main_arg7)) D := by
  rw [W2_args m ρ c main_arg7 (by decide)]; exact H.d

theorem w2_la : isArg2 (W2 m ρ c (Proc.devRef .tc main_arg4)) LA := by
  rw [W2_args m ρ c main_arg4 (by decide)]; exact H.la

theorem w2_lb : isArg2 (W2 m ρ c (Proc.devRef .tc main_arg6)) LB := by
  rw [W2_args m ρ c main_arg6 (by decide)]; exact H.lb

theorem w2_oa : isArg3 (W2 m ρ c (Proc.devRef .tc main_arg3)) OA := by
  rw [W2_args m ρ c main_arg3 (by decide)]; exact H.oa

theorem w2_ob : isArg3 (W2 m ρ c (Proc.devRef .tc main_arg5)) OB := by
  rw [W2_args m ρ c main_arg5 (by decide)]; exact H.ob

theorem v3_lj : isArr (V3 m ρ c main_v34) (lj Q K LA LB) := v34_arr m ρ c (w2_l ρ H) (w2_la ρ H) (w2_lb ρ H)

theorem v3_ds : isArr (V3 m ρ c main_v41) (dsum Q K V D LA LB OA OB) :=
  v41_arr m ρ c (w2_l ρ H) (w2_la ρ H) (w2_lb ρ H) (w2_o ρ H) (w2_oa ρ H) (w2_ob ρ H) (w2_d ρ H)

/-- The first result is the gradient of the queries. -/
theorem w4_dq : isArr (W4 m ρ c (Proc.devRef .tc main_v44_0))
    (dQ Q K V D (lj Q K LA LB) (dsum Q K V D LA LB OA OB)) := by
  have e : W4 m ρ c (Proc.devRef .tc main_v44_0) = _ := W4_arr m ρ c 12
  rw [e]; exact arr1_12 (v3_q ρ H) (v3_k ρ H) (v3_v ρ H) (v43_arr m ρ c (w2_d ρ H)) (v3_lj ρ H) (v3_ds ρ H)

/-- The second result is the gradient of the keys. -/
theorem w4_dk : isArr (W4 m ρ c (Proc.devRef .tc main_v44_1))
    (dK Q K V D (lj Q K LA LB) (dsum Q K V D LA LB OA OB)) := by
  have e : W4 m ρ c (Proc.devRef .tc main_v44_1) = _ := W4_arr m ρ c 13
  rw [e]; exact arr1_13 (v3_q ρ H) (v3_k ρ H) (v3_v ρ H) (v43_arr m ρ c (w2_d ρ H)) (v3_lj ρ H) (v3_ds ρ H)

/-- The third result is the gradient of the values. -/
theorem w4_dv : isArr (W4 m ρ c (Proc.devRef .tc main_v44_2)) (dV Q K D (lj Q K LA LB)) := by
  have e : W4 m ρ c (Proc.devRef .tc main_v44_2) = _ := W4_arr m ρ c 14
  rw [e]; exact arr1_14 (v3_q ρ H) (v3_k ρ H) (v3_v ρ H) (v43_arr m ρ c (w2_d ρ H)) (v3_lj ρ H) (v3_ds ρ H)
end

end Cert.Attn

end
-- ==== Proof.RefFwd.lean ====
/- The reference's stages at arguments that hold real arrays, forward: the blocks, the scores, the softmax of the group and
   the group's output and log-sum. A stage in block form is read at a phase, a block, a row of the block, a head and a
   lane; head column `64 * (phase * 4 + head) + lane`. -/
module

public import proofs.«01_k».proof.Proof.Gen.ReferenceIdeal.Read
public import proofs.«01_k».proof.Proof.TileReal
public import Idealize.ShloMosaic.Lib.KernelVsHost

@[expose] public section

set_option maxRecDepth 16384

noncomputable section

namespace Cert.Attn

open Cert.ReferenceIdeal Cert.ReferenceIdeal.Gen Cert.ReferenceIdeal.Read Idealize.ShloMosaic Idealize.ShloMosaic.StableHlo
open Idealize.ShloMosaic.ValueIdx hiding ix1 ix2 ix3 ix4 ix5
open Idealize.ShloMosaic.WordCmp hiding select_one select_zero

/-- The argument by token, head and lane holds the array `A`. -/
def isTok3 (x : S16384x4x64.Idx → EReal) (A : Arr) : Prop := ∀ i : S16384x4x64.Idx,
  x i = (A ((i 0).val / 4) (64 * ((i 0).val % 4 * 4 + (i 1).val) + (i 2).val) : EReal)

/-- The argument by token and head holds the array `A`, read at a head's first lane. -/
def isTok2 (x : S16384x4.Idx → EReal) (A : Arr) : Prop := ∀ i : S16384x4.Idx,
  x i = (A ((i 0).val / 4) (64 * ((i 0).val % 4 * 4 + (i 1).val)) : EReal)

theorem at_eq (A : Arr) {a a' b b' : ℕ} (h : a = a') (h' : b = b') : (A a b : EReal) = (A a' b' : EReal) := by rw [h, h']

/-! ## Bounds of an index's coordinates -/

theorem bq (i : S4x32x128x4x64.Idx) :
    (i 0).val < 4 ∧ (i 1).val < 32 ∧ (i 2).val < 128 ∧ (i 3).val < 4 ∧ (i 4).val < 64 :=
  ⟨(i 0).isLt, (i 1).isLt, (i 2).isLt, (i 3).isLt, (i 4).isLt⟩

theorem bk (i : S4x32x256x4x64.Idx) :
    (i 0).val < 4 ∧ (i 1).val < 32 ∧ (i 2).val < 256 ∧ (i 3).val < 4 ∧ (i 4).val < 64 :=
  ⟨(i 0).isLt, (i 1).isLt, (i 2).isLt, (i 3).isLt, (i 4).isLt⟩

theorem bs (i : S4x32x4x128x256.Idx) :
    (i 0).val < 4 ∧ (i 1).val < 32 ∧ (i 2).val < 4 ∧ (i 3).val < 128 ∧ (i 4).val < 256 :=
  ⟨(i 0).isLt, (i 1).isLt, (i 2).isLt, (i 3).isLt, (i 4).isLt⟩

theorem bd (i : S4x32x4x128.Idx) : (i 0).val < 4 ∧ (i 1).val < 32 ∧ (i 2).val < 4 ∧ (i 3).val < 128 :=
  ⟨(i 0).isLt, (i 1).isLt, (i 2).isLt, (i 3).isLt⟩

/-! ## The keys with the block before -/

/-- Row `b` of block `n`'s 256 key rows, zero where there is no block before. -/
def KZ (K : Arr) (n b c : ℕ) : ℝ := if n = 0 ∧ b < 128 then 0 else K (krow n b) c

theorem KZ_keep (K : Arr) {n a b : ℕ} (c : ℕ) (h : keep n a b) : KZ K n b c = K (krow n b) c := by
  unfold KZ; rw [if_neg]; unfold keep at h; omega

section
variable {x0 x1 x2 : (⟨S16384x4x64, .f32⟩ : BufTy).Contents (Elt Ideal)} {Q K V : Arr}

theorem v0_at (h : isTok3 x0 Q) (i : S4096x4x4x64.Idx) : val_main_v0 (F := Ideal) x0 i
    = (Q (i 0).val (64 * ((i 1).val * 4 + (i 2).val) + (i 3).val) : EReal) := by
  have h0 : (i 0).val < 4096 := (i 0).isLt
  have h1 : (i 1).val < 4 := (i 1).isLt
  have h2 : (i 2).val < 4 := (i 2).isLt
  have h3 : (i 3).val < 64 := (i 3).isLt
  rw [val_main_v0_apply]
  refine (h _).trans (at_eq Q ?_ ?_)
  · show ((((i 0).val * 4 + (i 1).val) * 4 + (i 2).val) * 64 + (i 3).val) / 256 / 4 = _
    omega
  · show 64 * (((((i 0).val * 4 + (i 1).val) * 4 + (i 2).val) * 64 + (i 3).val) / 256 % 4 * 4
      + ((((i 0).val * 4 + (i 1).val) * 4 + (i 2).val) * 64 + (i 3).val) / 64 % 4)
      + ((((i 0).val * 4 + (i 1).val) * 4 + (i 2).val) * 64 + (i 3).val) % 64 = _
    omega

theorem v2_at (h : isTok3 x0 Q) (i : S4x32x128x4x64.Idx) : val_main_v2 (F := Ideal) x0 i
    = (Q ((i 1).val * 128 + (i 2).val) (64 * ((i 0).val * 4 + (i 3).val) + (i 4).val) : EReal) := by
  have b := bq i
  rw [val_main_v2_apply, val_main_v1_apply]
  refine (v0_at h _).trans (at_eq Q ?_ ?_)
  · show (((((i 0).val * 32 + (i 1).val) * 128 + (i 2).val) * 4 + (i 3).val) * 64 + (i 4).val) / 256 % 4096 = _
    omega
  · show 64 * ((((((i 0).val * 32 + (i 1).val) * 128 + (i 2).val) * 4 + (i 3).val) * 64 + (i 4).val) / 1048576 * 4
      + (((((i 0).val * 32 + (i 1).val) * 128 + (i 2).val) * 4 + (i 3).val) * 64 + (i 4).val) / 64 % 4)
      + (((((i 0).val * 32 + (i 1).val) * 128 + (i 2).val) * 4 + (i 3).val) * 64 + (i 4).val) % 64 = _
    omega

theorem v9_at (h : isTok3 x1 K) (i : S4x32x128x4x64.Idx) : val_main_v9 (F := Ideal) x1 i
    = ((if (i 1).val = 0 then 0 else K (((i 1).val - 1) * 128 + (i 2).val) (64 * ((i 0).val * 4 + (i 3).val) + (i 4).val) : ℝ) : EReal) := by
  have b := bq i
  unfold val_main_v9
  by_cases hn : (i 1).val = 0
  · rw [if_pos hn]
    refine (concatenate_pair_apply_left (s₁ := S4x1x128x4x64) (s₂ := S4x31x128x4x64) 1 _ _ _ i rfl
      (fun a => match a with
        | ⟨0, _⟩ => ⟨(i 0).val, b.1⟩ | ⟨1, _⟩ => ⟨0, Nat.one_pos⟩ | ⟨2, _⟩ => ⟨(i 2).val, b.2.2.1⟩
        | ⟨3, _⟩ => ⟨(i 3).val, b.2.2.2.1⟩ | ⟨4, _⟩ => ⟨(i 4).val, b.2.2.2.2⟩)
      (fun a => match a with
        | ⟨0, _⟩ => rfl | ⟨1, _⟩ => hn.symm | ⟨2, _⟩ => rfl | ⟨3, _⟩ => rfl | ⟨4, _⟩ => rfl)).trans ?_
    rw [val_main_v7_apply, val_main_cst_apply]
    exact Ideal.ofBits_zero_f32
  · rw [if_neg hn]
    refine (concatenate_pair_apply_right (s₁ := S4x1x128x4x64) (s₂ := S4x31x128x4x64) 1 _ _ _ i rfl rfl
      (fun a => match a with
        | ⟨0, _⟩ => ⟨(i 0).val, b.1⟩ | ⟨1, _⟩ => ⟨(i 1).val - 1, by show _ < 31; omega⟩ | ⟨2, _⟩ => ⟨(i 2).val, b.2.2.1⟩
        | ⟨3, _⟩ => ⟨(i 3).val, b.2.2.2.1⟩ | ⟨4, _⟩ => ⟨(i 4).val, b.2.2.2.2⟩)
      (fun a => match a with
        | ⟨0, _⟩ => fun _ => rfl | ⟨1, _⟩ => fun e => absurd rfl e | ⟨2, _⟩ => fun _ => rfl | ⟨3, _⟩ => fun _ => rfl
        | ⟨4, _⟩ => fun _ => rfl)
      (by show (i 1).val - 1 + 1 = (i 1).val; omega)).trans ?_
    rw [val_main_v8_apply]
    refine (v2_at h _).trans (at_eq K ?_ ?_)
    · rfl
    · rfl

theorem v11_at (h : isTok3 x1 K) (i : S4x32x256x4x64.Idx) : val_main_v11 (F := Ideal) x1 i
    = (KZ K (i 1).val (i 2).val (64 * ((i 0).val * 4 + (i 3).val) + (i 4).val) : EReal) := by
  have b := bk i
  unfold val_main_v11 KZ krow
  by_cases hb : (i 2).val < 128
  · refine (concatenate_pair_apply_left (s₁ := S4x32x128x4x64) (s₂ := S4x32x128x4x64) 2 _ _ _ i rfl
      (fun a => match a with
        | ⟨0, _⟩ => ⟨(i 0).val, b.1⟩ | ⟨1, _⟩ => ⟨(i 1).val, b.2.1⟩ | ⟨2, _⟩ => ⟨(i 2).val, hb⟩
        | ⟨3, _⟩ => ⟨(i 3).val, b.2.2.2.1⟩ | ⟨4, _⟩ => ⟨(i 4).val, b.2.2.2.2⟩)
      (fun a => match a with
        | ⟨0, _⟩ => rfl | ⟨1, _⟩ => rfl | ⟨2, _⟩ => rfl | ⟨3, _⟩ => rfl | ⟨4, _⟩ => rfl)).trans ?_
    refine (v9_at h _).trans ?_
    by_cases hn : (i 1).val = 0
    · refine (congrArg _ (if_pos hn)).trans (congrArg _ (if_pos ?_).symm)
      exact ⟨hn, hb⟩
    · refine (congrArg _ (if_neg hn)).trans ?_
      rw [if_neg (fun e : (i 1).val = 0 ∧ (i 2).val < 128 => hn e.1), if_neg (fun e : (i 1).val = 0 ∧ (i 2).val < 128 => hn e.1)]
      refine at_eq K ?_ rfl
      show ((i 1).val - 1) * 128 + (i 2).val = _
      omega
  · rw [if_neg (fun e => hb e.2), if_neg (fun e => hb e.2)]
    refine (concatenate_pair_apply_right (s₁ := S4x32x128x4x64) (s₂ := S4x32x128x4x64) 2 _ _ _ i rfl rfl
      (fun a => match a with
        | ⟨0, _⟩ => ⟨(i 0).val, b.1⟩ | ⟨1, _⟩ => ⟨(i 1).val, b.2.1⟩ | ⟨2, _⟩ => ⟨(i 2).val - 128, by show _ < 128; omega⟩
        | ⟨3, _⟩ => ⟨(i 3).val, b.2.2.2.1⟩ | ⟨4, _⟩ => ⟨(i 4).val, b.2.2.2.2⟩)
      (fun a => match a with
        | ⟨0, _⟩ => fun _ => rfl | ⟨1, _⟩ => fun _ => rfl | ⟨2, _⟩ => fun e => absurd rfl e | ⟨3, _⟩ => fun _ => rfl
        | ⟨4, _⟩ => fun _ => rfl)
      (by show (i 2).val - 128 + 128 = (i 2).val; omega)).trans ?_
    refine (v2_at h _).trans (at_eq K ?_ rfl)
    show (i 1).val * 128 + ((i 2).val - 128) = _
    omega

theorem v20_at (h : isTok3 x2 V) (i : S4x32x256x4x64.Idx) : val_main_v20 (F := Ideal) x2 i
    = (KZ V (i 1).val (i 2).val (64 * ((i 0).val * 4 + (i 3).val) + (i 4).val) : EReal) := v11_at h i

/-! ## The mask and the scores -/

theorem mask_at (i : S4x32x4x128x256.Idx) :
    val_main_v51_1 (F := Ideal) i = if keep (i 1).val (i 3).val (i 4).val then 1#1 else 0#1 := by
  have b := bs i
  have e : val_main_v51_1 (F := Ideal) i = IntOp.andi (IntOp.andi
      (IntOp.cmpi .sge (BitVec.ofNat 32 (i 3).val + 128#32 - BitVec.ofNat 32 (i 4).val) 0#32)
      (IntOp.cmpi .sle (BitVec.ofNat 32 (i 3).val + 128#32 - BitVec.ofNat 32 (i 4).val) 128#32))
      (IntOp.ori (IntOp.cmpi .sgt (BitVec.ofNat 32 (i 1).val) 0#32) (IntOp.cmpi .sge (BitVec.ofNat 32 (i 4).val) 128#32)) := by
    simp only [val_main_v51_1_apply, val_main_v50_apply, val_main_v49_apply, val_main_v48_apply, val_main_v47_apply,
      val_main_v46_apply, val_main_v45_apply, val_main_v44_apply, val_main_v43_apply, val_main_v42_apply, val_main_v41_apply,
      val_main_v40_apply, val_main_v39_apply, val_main_v38_apply, val_main_v37_apply, val_main_v36_apply, val_main_v35_apply,
      val_main_v34_apply, val_main_v33_apply, val_main_v32_apply, val_main_v31_apply, val_main_v30_apply, val_main_v29_apply,
      val_main_v28_apply, val_main_v27_apply, val_main_v26_apply, val_main_v25_apply, val_main_v24_apply, val_main_v23_apply,
      val_main_v22_apply, val_main_c_apply, val_main_c_3_apply, val_main_c_4_apply, val_main_c_5_apply, val_main_c_6_apply]
    rfl
  have hd : (BitVec.ofNat 32 (i 3).val + 128#32 - BitVec.ofNat 32 (i 4).val).toInt = ((i 3).val : ℤ) + 128 - (i 4).val := by
    rw [← BitVec.ofNat_add, BitVec.toInt_sub, toInt_ofNat_of_lt (by omega), toInt_ofNat_of_lt (by omega),
      Int.bmod_eq_of_le (by omega) (by omega)]
    push_cast; omega
  rw [e, cmpi_sge_eq _ 0#32, cmpi_sle_eq _ 128#32, hd, cmpi_sge_ofNat (by omega) (by omega), cmpi_sgt_ofNat (by omega) (by omega)]
  simp only [andi_ofBool, ori_ofBool]
  have h0 : (0#32).toInt = 0 := by decide
  have h1 : (128#32).toInt = 128 := by decide
  rw [h0, h1]
  by_cases hk : keep (i 1).val (i 3).val (i 4).val
  · rw [if_pos hk]
    unfold keep at hk
    refine (ofBool_eq_one_iff _).2 ?_
    simp only [Bool.and_eq_true, Bool.or_eq_true, decide_eq_true_eq]
    omega
  · rw [if_neg hk]
    refine eq_zero_of_ne_one fun hx => hk ?_
    have := (ofBool_eq_one_iff _).1 hx
    simp only [Bool.and_eq_true, Bool.or_eq_true, decide_eq_true_eq] at this
    unfold keep; omega

variable (hq : isTok3 x0 Q) (hk : isTok3 x1 K) (hv : isTok3 x2 V)

include hq hk in
theorem v51_at (i : S4x32x4x128x256.Idx) : val_main_v51_0 (F := Ideal) x0 x1 i
    = msc Q K ((i 0).val * 4 + (i 2).val) (i 1).val (i 3).val (i 4).val := by
  rw [val_main_v51_0_apply, mask_at]
  unfold msc
  by_cases h : keep (i 1).val (i 3).val (i 4).val
  · rw [if_pos h, if_pos h]
    refine (if_pos rfl).trans ?_
    simp only [val_main_v21_apply, v2_at hq, v11_at hk, ← EReal.coe_mul, sum_coe, KZ_keep K _ h]
    rfl
  · rw [if_neg h, if_neg h]
    refine (if_neg (by decide)).trans ?_
    rw [val_main_call0_v2_apply, val_main_call0_v0_apply, val_main_cst_7_apply]
    simp [Ideal.ofBits, Ideal.ieee]

include hq hk in
theorem v52_at (i : S4x32x4x128.Idx) : val_main_v52 (F := Ideal) x0 x1 i
    = (mx Q K ((i 0).val * 4 + (i 2).val) (i 1).val (i 3).val : EReal) := by
  have b := bd i
  unfold val_main_v52 val_main_cst_8
  refine (congrFun (hostReduce_maximumf_eq_multiReduction (F := Ideal) (s := S4x32x4x128x256) (t := S4x32x4x128) (φ := .f32)
    (val_main_v51_0 (F := Ideal) x0 x1) 0xFF800000#32 reducesTo_S4x32x4x128x256_S4x32x4x128_d4 h_S_ (by decide) (Or.inl rfl) rfl) i).trans ?_
  refine (Ideal.multiReduction_maximumf_single (s := S4x32x4x128x256) (t := S4x32x4x128) _ _ _ _ _ i).trans ?_
  rw [← fold_msc Q K b.2.1 b.2.2.2]
  have hb : (FloatOps.ofBits .f32 0xFF800000#32 : Ideal .f32) = (⊥ : EReal) := by simp [Ideal.ofBits, Ideal.ieee]
  rw [hb]
  refine congrArg (Finset.fold max ⊥ · Finset.univ) (funext fun k => ?_)
  exact v51_at hq hk _

include hq hk in
/-- The unnormalised weights. -/
theorem v61_at (i : S4x32x4x128x256.Idx) : val_main_v61 (F := Ideal) x0 x1 i
    = (pw Q K ((i 0).val * 4 + (i 2).val) (i 1).val (i 3).val (i 4).val : EReal) := by
  simp only [val_main_v61_apply, val_main_v60_apply, val_main_v59_apply, val_main_v58_apply, v51_at hq hk, v52_at hq hk]
  unfold msc pw
  split
  · simp [← EReal.coe_sub, Ideal.exp_coe]
  · simp [Ideal.exp_bot]

include hq hk in
theorem v62_at (i : S4x32x4x128.Idx) : val_main_v62 (F := Ideal) x0 x1 i
    = (den Q K ((i 0).val * 4 + (i 2).val) (i 1).val (i 3).val : EReal) := by
  simp only [val_main_v62_apply, v61_at hq hk, sum_coe, val_main_cst_10_apply, Ideal.ofBits_def, Ideal.ofBits_zero_f32, zero_add]
  rfl

include hq hk hv in
theorem v64_at (i : S4x32x128x4x64.Idx) : val_main_v64 (F := Ideal) x0 x1 x2 i
    = (num Q K V ((i 0).val * 4 + (i 3).val) (i 1).val (i 2).val (i 4).val : EReal) := by
  simp only [val_main_v64_apply, val_main_v63_apply, v20_at hv, v61_at hq hk, ← EReal.coe_mul, sum_coe]
  unfold num
  refine congrArg _ (Finset.sum_congr rfl fun k _ => ?_)
  by_cases h : keep (i 1).val (i 2).val k.val
  · rw [KZ_keep V _ h, mul_comm]
  · unfold pw; rw [if_neg h, zero_mul, mul_zero]
end

end Cert.Attn

end
-- ==== Proof.RefMerge.lean ====
/- The reference's merge of the three groups at arguments that hold real arrays, and its gradient: what the merge passes
   back to the group's output and to its log-sum. -/
module

public import proofs.«01_k».proof.Proof.RefFwd

@[expose] public section

set_option maxRecDepth 16384

noncomputable section

namespace Cert.Attn

open Cert.ReferenceIdeal Cert.ReferenceIdeal.Gen Cert.ReferenceIdeal.Read Idealize.ShloMosaic Idealize.ShloMosaic.StableHlo
open Idealize.ShloMosaic.ValueIdx hiding ix1 ix2 ix3 ix4 ix5

theorem at3 (f : ℕ → ℕ → ℕ → ℝ) {a a' b b' c c' : ℕ} (h : a = a') (h' : b = b') (h'' : c = c') :
    (f a b c : EReal) = (f a' b' c' : EReal) := by rw [h, h', h'']

theorem bt3 (i : S16384x4x64.Idx) : (i 0).val < 16384 ∧ (i 1).val < 4 ∧ (i 2).val < 64 :=
  ⟨(i 0).isLt, (i 1).isLt, (i 2).isLt⟩

theorem bt2 (i : S16384x4.Idx) : (i 0).val < 16384 ∧ (i 1).val < 4 := ⟨(i 0).isLt, (i 1).isLt⟩

theorem bm (i : S3x16384x4.Idx) : (i 0).val < 3 ∧ (i 1).val < 16384 ∧ (i 2).val < 4 :=
  ⟨(i 0).isLt, (i 1).isLt, (i 2).isLt⟩

theorem bm4 (i : S3x16384x4x64.Idx) : (i 0).val < 3 ∧ (i 1).val < 16384 ∧ (i 2).val < 4 ∧ (i 3).val < 64 :=
  ⟨(i 0).isLt, (i 1).isLt, (i 2).isLt, (i 3).isLt⟩

/-! ## Real quotients, exponentials and logarithms -/

theorem div_real (x : ℝ) {y : ℝ} (h : y ≠ 0) : Ideal.div (x : EReal) (y : EReal) = ((x / y : ℝ) : EReal) := by
  rw [Ideal.div_coe h, ← EReal.coe_mul]; congr 1; ring

theorem log_real {y : ℝ} (h : 0 < y) : Ideal.log (y : EReal) = (Real.log y : EReal) := by
  rw [Ideal.log_coe, if_neg (not_le.2 h)]

theorem max_real (a b : ℝ) : max (a : EReal) (b : EReal) = ((max a b : ℝ) : EReal) := (EReal.coe_strictMono.monotone.map_max).symm

/-! ## From blocks to tokens and back -/

/-- The stage by block holds the array `A`. -/
def isBlk (x : S4x32x128x4x64.Idx → EReal) (A : Arr) : Prop := ∀ i : S4x32x128x4x64.Idx,
  x i = (A ((i 1).val * 128 + (i 2).val) (64 * ((i 0).val * 4 + (i 3).val) + (i 4).val) : EReal)

/-- A stage by block written back to rows of a phase, phases and heads. -/
theorem rows_at {x : S4x32x128x4x64.Idx → EReal} {A : Arr} (h : isBlk x A) (i : S4x4096x4x64.Idx) :
    x (idx_main_v75 i) = (A (i 1).val (64 * ((i 0).val * 4 + (i 2).val) + (i 3).val) : EReal) := by
  have h0 : (i 0).val < 4 := (i 0).isLt
  have h1 : (i 1).val < 4096 := (i 1).isLt
  have h2 : (i 2).val < 4 := (i 2).isLt
  have h3 : (i 3).val < 64 := (i 3).isLt
  refine (h _).trans (at_eq A ?_ ?_)
  · show ((((i 0).val * 4096 + (i 1).val) * 4 + (i 2).val) * 64 + (i 3).val) / 32768 % 32 * 128
      + ((((i 0).val * 4096 + (i 1).val) * 4 + (i 2).val) * 64 + (i 3).val) / 256 % 128 = _
    omega
  · show 64 * (((((i 0).val * 4096 + (i 1).val) * 4 + (i 2).val) * 64 + (i 3).val) / 1048576 * 4
      + ((((i 0).val * 4096 + (i 1).val) * 4 + (i 2).val) * 64 + (i 3).val) / 64 % 4)
      + ((((i 0).val * 4096 + (i 1).val) * 4 + (i 2).val) * 64 + (i 3).val) % 64 = _
    omega

/-- And from there to tokens. -/
theorem tokens_at {x : S4x32x128x4x64.Idx → EReal} {A : Arr} (h : isBlk x A) (i : S16384x4x64.Idx) :
    x (idx_main_v75 (idx_main_v76 (idx_main_v77 i)))
      = (A ((i 0).val / 4) (64 * ((i 0).val % 4 * 4 + (i 1).val) + (i 2).val) : EReal) := by
  have b := bt3 i
  refine (rows_at h _).trans (at_eq A ?_ ?_)
  · show (((i 0).val * 4 + (i 1).val) * 64 + (i 2).val) / 1024 = _
    omega
  · show 64 * ((((i 0).val * 4 + (i 1).val) * 64 + (i 2).val) / 256 % 4 * 4 + (((i 0).val * 4 + (i 1).val) * 64 + (i 2).val) / 64 % 4)
      + (((i 0).val * 4 + (i 1).val) * 64 + (i 2).val) % 64 = _
    omega

section
variable {x0 x1 x2 x3 x5 x7 : (⟨S16384x4x64, .f32⟩ : BufTy).Contents (Elt Ideal)}
variable {x4 x6 : (⟨S16384x4, .f32⟩ : BufTy).Contents (Elt Ideal)} {Q K V D LA LB OA OB : Arr}
variable (hq : isTok3 x0 Q) (hk : isTok3 x1 K) (hv : isTok3 x2 V) (hoa : isTok3 x3 OA) (hla : isTok2 x4 LA)
  (hob : isTok3 x5 OB) (hlb : isTok2 x6 LB) (hd : isTok3 x7 D)

/-! ## The group's output and log-sum by token -/

include hq hk hv in
theorem v68_at : isBlk (val_main_v68 (F := Ideal) x0 x1 x2) (og Q K V) := by
  intro i
  have b := bq i
  simp only [val_main_v68_apply, val_main_v67_apply, val_main_v66_apply, val_main_v65_apply, v64_at hq hk hv, v62_at hq hk]
  refine (div_real _ (den_pos Q K b.2.1 b.2.2.1).ne').trans ?_
  unfold og
  rw [show (64 * ((i 0).val * 4 + (i 3).val) + (i 4).val) / 64 = (i 0).val * 4 + (i 3).val by omega,
    show ((i 1).val * 128 + (i 2).val) / 128 = (i 1).val by omega, show ((i 1).val * 128 + (i 2).val) % 128 = (i 2).val by omega,
    show (64 * ((i 0).val * 4 + (i 3).val) + (i 4).val) % 64 = (i 4).val by omega]

include hq hk hv in
theorem v77_at : isTok3 (val_main_v77 (F := Ideal) x0 x1 x2) (og Q K V) := by
  intro i
  rw [val_main_v77_apply, val_main_v76_apply, val_main_v75_apply]
  exact tokens_at (v68_at hq hk hv) i

include hq hk in
theorem v74_at (i : S4x32x4x128.Idx) : val_main_v74 (F := Ideal) x0 x1 i
    = (lse Q K ((i 1).val * 128 + (i 3).val) (64 * ((i 0).val * 4 + (i 2).val)) : EReal) := by
  have b := bd i
  have hm : val_main_v72 (F := Ideal) x0 x1 i = (mx Q K ((i 0).val * 4 + (i 2).val) (i 1).val (i 3).val : EReal) := by
    rw [val_main_v72_apply, val_main_v58_apply]
    refine (v52_at hq hk _).trans (at3 (mx Q K) ?_ ?_ ?_)
    · show ((((i 0).val * 32 + (i 1).val) * 4 + (i 2).val) * 128 + (i 3).val) / 16384 * 4
        + ((((i 0).val * 32 + (i 1).val) * 4 + (i 2).val) * 128 + (i 3).val) / 128 % 4 = _
      omega
    · show ((((i 0).val * 32 + (i 1).val) * 4 + (i 2).val) * 128 + (i 3).val) / 512 % 32 = _
      omega
    · show ((((i 0).val * 32 + (i 1).val) * 4 + (i 2).val) * 128 + (i 3).val) / 1 % 128 = _
      omega
  rw [val_main_v74_apply, val_main_v73_apply, hm, v62_at hq hk, Ideal.addf_def, Ideal.hostUnary_log_def, log_real (den_pos Q K b.2.1 b.2.2.2),
    ← EReal.coe_add]
  unfold lse
  rw [show 64 * ((i 0).val * 4 + (i 2).val) / 64 = (i 0).val * 4 + (i 2).val by omega,
    show ((i 1).val * 128 + (i 3).val) / 128 = (i 1).val by omega, show ((i 1).val * 128 + (i 3).val) % 128 = (i 3).val by omega]

include hq hk in
theorem v80_at (i : S4096x4x4.Idx) : val_main_v80 (F := Ideal) x0 x1 i
    = (lse Q K (i 0).val (64 * ((i 1).val * 4 + (i 2).val)) : EReal) := by
  have h0 : (i 0).val < 4096 := (i 0).isLt
  have h1 : (i 1).val < 4 := (i 1).isLt
  have h2 : (i 2).val < 4 := (i 2).isLt
  rw [val_main_v80_apply, val_main_v79_apply, val_main_v78_apply]
  refine (v74_at hq hk _).trans (at_eq (lse Q K) ?_ ?_)
  · show (((i 1).val * 4096 + (i 0).val) * 4 + (i 2).val) / 512 % 32 * 128 + (((i 1).val * 4096 + (i 0).val) * 4 + (i 2).val) / 4 % 128 = _
    omega
  · show 64 * ((((i 1).val * 4096 + (i 0).val) * 4 + (i 2).val) / 16384 * 4 + (((i 1).val * 4096 + (i 0).val) * 4 + (i 2).val) % 4) = _
    omega

include hq hk in
theorem v81_at : isTok2 (val_main_v81 (F := Ideal) x0 x1) (lse Q K) := by
  intro i
  have b := bt2 i
  rw [val_main_v81_apply]
  refine (v80_at hq hk _).trans (at_eq (lse Q K) ?_ ?_)
  · show ((i 0).val * 4 + (i 1).val) / 16 = _
    omega
  · show 64 * (((i 0).val * 4 + (i 1).val) / 4 % 4 * 4 + ((i 0).val * 4 + (i 1).val) % 4) = _
    omega

/-! ## The three groups side by side -/

/-- One of three arrays. -/
def three (A B C : Arr) (i : ℕ) : Arr := if i = 0 then A else if i = 1 then B else C

include hq hk hla hlb in
theorem v85_at (i : S3x16384x4.Idx) : val_main_v85 (F := Ideal) x0 x1 x4 x6 i
    = (three LA (lse Q K) LB (i 0).val ((i 1).val / 4) (64 * ((i 1).val % 4 * 4 + (i 2).val)) : EReal) := by
  have b := bm i
  let j : S1x16384x4.Idx := fun a => match a with
    | ⟨0, _⟩ => ⟨0, Nat.one_pos⟩ | ⟨1, _⟩ => ⟨(i 1).val, b.2.1⟩ | ⟨2, _⟩ => ⟨(i 2).val, b.2.2⟩
  have hj : ∀ a : Fin 3, a ≠ 0 → (j a).val = (i a).val := fun a => match a with
    | ⟨0, _⟩ => fun e => absurd rfl e | ⟨1, _⟩ => fun _ => rfl | ⟨2, _⟩ => fun _ => rfl
  unfold val_main_v85
  obtain h | h | h : (i 0).val = 0 ∨ (i 0).val = 1 ∨ (i 0).val = 2 := by omega
  · refine (concatenate_apply_piece (t := S3x16384x4) 0 _ _ i 0 (by show 0 < 3; omega) S1x16384x4 (val_main_v82 (F := Ideal) x4) rfl rfl 0 rfl j
      hj (by show 0 + 0 = (i 0).val; omega)).trans ?_
    rw [val_main_v82_apply, h]
    exact hla _
  · refine (concatenate_apply_piece (t := S3x16384x4) 0 _ _ i 1 (by show 1 < 3; omega) S1x16384x4 (val_main_v83 (F := Ideal) x0 x1) rfl rfl 1 rfl j
      hj (by show 1 + 0 = (i 0).val; omega)).trans ?_
    rw [val_main_v83_apply, h]
    exact v81_at hq hk _
  · refine (concatenate_apply_piece (t := S3x16384x4) 0 _ _ i 2 (by show 2 < 3; omega) S1x16384x4 (val_main_v84 (F := Ideal) x6) rfl rfl 2 rfl j
      hj (by show 2 + 0 = (i 0).val; omega)).trans ?_
    rw [val_main_v84_apply, h]
    exact hlb _

include hq hk hla hlb in
theorem v88_at (i : S16384x4.Idx) : val_main_v88 (F := Ideal) x0 x1 x4 x6 i
    = (top LA (lse Q K) LB ((i 0).val / 4) (64 * ((i 0).val % 4 * 4 + (i 1).val)) : EReal) := by
  unfold val_main_v88 val_main_cst_14
  refine (congrFun (hostReduce_maximumf_eq_multiReduction (F := Ideal) (s := S3x16384x4) (t := S16384x4) (φ := .f32)
    (val_main_v85 (F := Ideal) x0 x1 x4 x6) 0xFF800000#32 reducesTo_S3x16384x4_S16384x4_d0 h_S_ (by decide) (Or.inl rfl) rfl) i).trans ?_
  refine (Ideal.multiReduction_maximumf_single (s := S3x16384x4) (t := S16384x4) _ _ _ _ _ i).trans ?_
  have hb : (FloatOps.ofBits .f32 0xFF800000#32 : Ideal .f32) = (⊥ : EReal) := by simp [Ideal.ofBits, Ideal.ieee]
  rw [hb]
  refine (congrArg (Finset.fold max ⊥ · Finset.univ) (funext fun k => v85_at hq hk hla hlb _)).trans ?_
  have hf : ∀ f : Fin 3 → ℝ, (Finset.univ : Finset (Fin 3)).fold max ⊥ (fun k => (f k : EReal)) = ((max (max (f 0) (f 1)) (f 2) : ℝ) : EReal) := by
    intro f
    rw [show (Finset.univ : Finset (Fin 3)) = {0, 1, 2} from by decide, Finset.fold_insert (by decide), Finset.fold_insert (by decide),
      Finset.fold_singleton, max_eq_left bot_le, max_real, max_real, max_assoc]
  exact hf fun k => three LA (lse Q K) LB k.val ((i 0).val / 4) (64 * ((i 0).val % 4 * 4 + (i 1).val))

/-- The three exponentials over the largest log-sum. -/
def ex (A B C : Arr) (i : ℕ) : Arr := fun l c => Real.exp (three A B C i l c - top A B C l c)

theorem sum_ex (A B C : Arr) (l c : ℕ) : ∑ k : Fin 3, ex A B C k.val l c = tot A B C l c := by
  rw [Fin.sum_univ_three]; rfl

include hq hk hla hlb in
theorem v108_at (i : S3x16384x4.Idx) : val_main_v108 (F := Ideal) x0 x1 x4 x6 i
    = (ex LA (lse Q K) LB (i 0).val ((i 1).val / 4) (64 * ((i 1).val % 4 * 4 + (i 2).val)) : EReal) := by
  have hb : (FloatOps.ofBits .f32 0xFF800000#32 : Ideal .f32) = (⊥ : EReal) := by simp [Ideal.ofBits, Ideal.ieee]
  simp only [val_main_v108_apply, val_main_v107_apply, val_main_v106_apply, val_main_v105_apply, val_main_v95_apply,
    val_main_v94_apply, val_main_cst_16_apply, v85_at hq hk hla hlb, v88_at hq hk hla hlb, hb, Ideal.maximumf_def,
    max_eq_right bot_le, Ideal.subf_def, ← EReal.coe_sub, Ideal.exp_def, Ideal.exp_coe]
  rfl

include hq hk hla hlb in
theorem v109_at (i : S16384x4.Idx) : val_main_v109 (F := Ideal) x0 x1 x4 x6 i
    = (tot LA (lse Q K) LB ((i 0).val / 4) (64 * ((i 0).val % 4 * 4 + (i 1).val)) : EReal) := by
  simp only [val_main_v109_apply, v108_at hq hk hla hlb, sum_coe, val_main_cst_22_apply, Ideal.ofBits_def, Ideal.ofBits_zero_f32, zero_add]
  exact congrArg _ (sum_ex LA (lse Q K) LB _ _)

/-- The three weights of the merge. -/
def wt (A B C : Arr) (i : ℕ) : Arr := fun l c => ex A B C i l c / tot A B C l c

include hq hk hla hlb in
theorem v112_at (i : S3x16384x4.Idx) : val_main_v112 (F := Ideal) x0 x1 x4 x6 i
    = (wt LA (lse Q K) LB (i 0).val ((i 1).val / 4) (64 * ((i 1).val % 4 * 4 + (i 2).val)) : EReal) := by
  simp only [val_main_v112_apply, val_main_v111_apply, val_main_v110_apply, v108_at hq hk hla hlb, v109_at hq hk hla hlb]
  exact div_real _ (tot_pos LA (lse Q K) LB _ _).ne'

include hq hk hv hoa hob in
theorem v120_at (i : S3x16384x4x64.Idx) : val_main_v120 (F := Ideal) x0 x1 x2 x3 x5 i
    = (three OA (og Q K V) OB (i 0).val ((i 1).val / 4) (64 * ((i 1).val % 4 * 4 + (i 2).val) + (i 3).val) : EReal) := by
  have b := bm4 i
  let j : S1x16384x4x64.Idx := fun a => match a with
    | ⟨0, _⟩ => ⟨0, Nat.one_pos⟩ | ⟨1, _⟩ => ⟨(i 1).val, b.2.1⟩ | ⟨2, _⟩ => ⟨(i 2).val, b.2.2.1⟩ | ⟨3, _⟩ => ⟨(i 3).val, b.2.2.2⟩
  have hj : ∀ a : Fin 4, a ≠ 0 → (j a).val = (i a).val := fun a => match a with
    | ⟨0, _⟩ => fun e => absurd rfl e | ⟨1, _⟩ => fun _ => rfl | ⟨2, _⟩ => fun _ => rfl | ⟨3, _⟩ => fun _ => rfl
  unfold val_main_v120
  obtain h | h | h : (i 0).val = 0 ∨ (i 0).val = 1 ∨ (i 0).val = 2 := by omega
  · refine (concatenate_apply_piece (t := S3x16384x4x64) 0 _ _ i 0 (by show 0 < 3; omega) S1x16384x4x64 (val_main_v117 (F := Ideal) x3) rfl rfl 0 rfl j
      hj (by show 0 + 0 = (i 0).val; omega)).trans ?_
    rw [val_main_v117_apply, h]
    exact hoa _
  · refine (concatenate_apply_piece (t := S3x16384x4x64) 0 _ _ i 1 (by show 1 < 3; omega) S1x16384x4x64 (val_main_v118 (F := Ideal) x0 x1 x2) rfl rfl 1 rfl j
      hj (by show 1 + 0 = (i 0).val; omega)).trans ?_
    rw [val_main_v118_apply, h]
    exact v77_at hq hk hv _
  · refine (concatenate_apply_piece (t := S3x16384x4x64) 0 _ _ i 2 (by show 2 < 3; omega) S1x16384x4x64 (val_main_v119 (F := Ideal) x5) rfl rfl 2 rfl j
      hj (by show 2 + 0 = (i 0).val; omega)).trans ?_
    rw [val_main_v119_apply, h]
    exact hob _

/-! ## The gradient through the merge -/

/-- The gradient of the merged output times the group's output, summed over a head's lanes. -/
def dot (D O : Arr) : Arr := fun l c => ∑ e : Fin 64, D l (c + e.val) * O l (c + e.val)

include hq hk hv hoa hob hd in
theorem v138_at (i : S3x16384x4.Idx) : val_main_v138 (F := Ideal) x0 x1 x2 x3 x5 x7 i
    = (dot D (three OA (og Q K V) OB (i 0).val) ((i 1).val / 4) (64 * ((i 1).val % 4 * 4 + (i 2).val)) : EReal) := by
  have b := bm i
  have h130 : ∀ j : S3x16384x4.Idx, val_main_v130 (F := Ideal) x0 x1 x2 x3 x5 x7 j
      = (dot D (three OA (og Q K V) OB (j 0).val) ((j 1).val / 4) (64 * ((j 1).val % 4 * 4 + (j 2).val)) : EReal) := by
    intro j
    simp only [val_main_v130_apply, val_main_v129_apply, val_main_v126_apply, v120_at hq hk hv hoa hob, hd _, Ideal.mulf_def,
      ← EReal.coe_mul, sum_coe, val_main_cst_27_apply, Ideal.ofBits_def, Ideal.ofBits_zero_f32, zero_add]
    rfl
  simp only [val_main_v138_apply, val_main_v131_apply, val_main_cst_28_apply, Ideal.ofBits_def, Ideal.ofBits_zero_f32, zero_add,
    Fin.sum_univ_one]
  refine (h130 _).trans ?_
  have e : idx_main_v131 (idx_main_v138 i 0) = i := by
    funext a
    refine Fin.ext ?_
    match a with
    | ⟨0, _⟩ => show ((((i 0).val * 16384 + (i 1).val) * 4 + (i 2).val) * 1 + 0) / 65536 = (i 0).val; omega
    | ⟨1, _⟩ => show ((((i 0).val * 16384 + (i 1).val) * 4 + (i 2).val) * 1 + 0) / 4 % 16384 = (i 1).val; omega
    | ⟨2, _⟩ => show ((((i 0).val * 16384 + (i 1).val) * 4 + (i 2).val) * 1 + 0) % 4 = (i 2).val; omega
  rw [e]

/-- The merge's gradient in a log-sum, before its exponential's derivative: the group's own part less the part of the
    denominator all three share. -/
def gm (A B C X Y Z D : Arr) (i : ℕ) : Arr := fun l c =>
  (dot D (three X Y Z i) l c / tot A B C l c
    + -∑ k : Fin 3, dot D (three X Y Z k.val) l c * (1 / (tot A B C l c * tot A B C l c)) * ex A B C k.val l c) * ex A B C i l c

include hq hk hv hoa hob hd hla hlb in
theorem v142_at (i : S16384x4.Idx) : val_main_v142 (F := Ideal) x0 x1 x2 x3 x4 x5 x6 x7 i
    = ((∑ k : Fin 3, dot D (three OA (og Q K V) OB k.val) ((i 0).val / 4) (64 * ((i 0).val % 4 * 4 + (i 1).val))
        * (1 / (tot LA (lse Q K) LB ((i 0).val / 4) (64 * ((i 0).val % 4 * 4 + (i 1).val))
          * tot LA (lse Q K) LB ((i 0).val / 4) (64 * ((i 0).val % 4 * 4 + (i 1).val))))
        * ex LA (lse Q K) LB k.val ((i 0).val / 4) (64 * ((i 0).val % 4 * 4 + (i 1).val)) : ℝ) : EReal) := by
  have h115 : ∀ j : S1x16384x4.Idx, val_main_v115 (F := Ideal) x0 x1 x4 x6 j
      = ((1 / (tot LA (lse Q K) LB ((j 1).val / 4) (64 * ((j 1).val % 4 * 4 + (j 2).val))
          * tot LA (lse Q K) LB ((j 1).val / 4) (64 * ((j 1).val % 4 * 4 + (j 2).val))) : ℝ) : EReal) := by
    intro j
    have h1 : (FloatOps.ofBits .f32 0x3F800000#32 : Ideal .f32) = ((1 : ℝ) : EReal) := Ideal.ofBits_one_f32
    simp only [val_main_v115_apply, val_main_v114_apply, val_main_v113_apply, val_main_v110_apply, val_main_cst_23_apply,
      v109_at hq hk hla hlb, Ideal.mulf_def, ← EReal.coe_mul, h1]
    exact div_real _ (mul_pos (tot_pos LA (lse Q K) LB _ _) (tot_pos LA (lse Q K) LB _ _)).ne'
  simp only [val_main_v142_apply, val_main_v141_apply, val_main_v140_apply, val_main_v139_apply, h115,
    v138_at hq hk hv hoa hob hd, v108_at hq hk hla hlb, Ideal.mulf_def, ← EReal.coe_mul, sum_coe, val_main_cst_29_apply,
    Ideal.ofBits_def, Ideal.ofBits_zero_f32, zero_add]

include hq hk hv hoa hob hd hla hlb in
theorem v150_at (i : S3x16384x4.Idx) : val_main_v150 (F := Ideal) x0 x1 x2 x3 x4 x5 x6 x7 i
    = (gm LA (lse Q K) LB OA (og Q K V) OB D (i 0).val ((i 1).val / 4) (64 * ((i 1).val % 4 * 4 + (i 2).val)) : EReal) := by
  have b := bm i
  have e : idx_main_v143 (idx_main_v147 (idx_main_v148 i) 0) = idx_main_v148 i := by
    funext a
    refine Fin.ext ?_
    match a with
    | ⟨0, _⟩ => show ((0 * 16384 + (i 1).val) * 4 + (i 2).val) / 4 = (i 1).val; omega
    | ⟨1, _⟩ => show ((0 * 16384 + (i 1).val) * 4 + (i 2).val) % 4 = (i 2).val; omega
  have h148 : val_main_v148 (F := Ideal) x0 x1 x2 x3 x4 x5 x6 x7 i
      = -val_main_v142 (F := Ideal) x0 x1 x2 x3 x4 x5 x6 x7 (idx_main_v148 i) := by
    simp only [val_main_v148_apply, val_main_v147_apply, val_main_v144_apply, val_main_v143_apply, Fin.sum_univ_one,
      val_main_cst_30_apply, Ideal.ofBits_def, Ideal.ofBits_zero_f32, zero_add, Ideal.hostNegf_def, Ideal.negf_def]
    rw [e]
  have h146 : val_main_v146 (F := Ideal) x0 x1 x2 x3 x4 x5 x6 x7 i
      = ((dot D (three OA (og Q K V) OB (i 0).val) ((i 1).val / 4) (64 * ((i 1).val % 4 * 4 + (i 2).val))
        / tot LA (lse Q K) LB ((i 1).val / 4) (64 * ((i 1).val % 4 * 4 + (i 2).val)) : ℝ) : EReal) := by
    simp only [val_main_v146_apply, val_main_v145_apply, val_main_v110_apply, v138_at hq hk hv hoa hob hd, v109_at hq hk hla hlb]
    exact div_real _ (tot_pos LA (lse Q K) LB _ _).ne'
  rw [val_main_v150_apply, val_main_v149_apply, h146, h148, v142_at hq hk hv hoa hla hob hlb hd, v108_at hq hk hla hlb,
    Ideal.mulf_def, Ideal.addf_def, ← EReal.coe_neg, ← EReal.coe_add, ← EReal.coe_mul]
  rfl

/-- An array the same in every lane of a head. -/
def flat (A : Arr) : Prop := ∀ l c, A l c = A l (64 * (c / 64))

theorem flat_lse (Q K : Arr) : flat (lse Q K) := by
  intro l c
  unfold lse
  rw [show 64 * (c / 64) / 64 = c / 64 by omega]

/-- The row sum of the output's gradient times the merged output, group by group. -/
theorem hsum_mix {A B C : Arr} (hA : flat A) (hB : flat B) (hC : flat C) (X Y Z D : Arr) (l g : ℕ) :
    hsum D (mix A B C X Y Z) l (64 * g) = ∑ k : Fin 3, wt A B C k.val l (64 * g) * dot D (three X Y Z k.val) l (64 * g) := by
  rw [Fin.sum_univ_three]
  unfold hsum dot
  rw [show 64 * g / 64 = g by omega, Finset.mul_sum, Finset.mul_sum, Finset.mul_sum, ← Finset.sum_add_distrib,
    ← Finset.sum_add_distrib]
  refine Finset.sum_congr rfl fun e _ => ?_
  have hf : ∀ {T : Arr}, flat T → T l (64 * g + e.val) = T l (64 * g) := fun h => by
    rw [h]; congr 1; have := e.isLt; omega
  unfold mix tot top
  rw [hf hA, hf hB, hf hC]
  show _ = Real.exp (A l (64 * g) - _) / _ * (D l _ * X l _) + Real.exp (B l (64 * g) - _) / _ * (D l _ * Y l _)
    + Real.exp (C l (64 * g) - _) / _ * (D l _ * Z l _)
  unfold tot top
  ring

/-- The merge's gradient in the group's log-sum: its weight times its own row sum less the merged one. -/
theorem gm_eq {A B C : Arr} (hA : flat A) (hB : flat B) (hC : flat C) (X Y Z D : Arr) (l g : ℕ) :
    gm A B C X Y Z D 1 l (64 * g)
      = wg A B C l (64 * g) * (dot D Y l (64 * g) - hsum D (mix A B C X Y Z) l (64 * g)) := by
  have ht := (tot_pos A B C l (64 * g)).ne'
  rw [hsum_mix hA hB hC, Fin.sum_univ_three]
  unfold gm
  rw [Fin.sum_univ_three]
  show (dot D Y l (64 * g) / _ + -(dot D X l (64 * g) * _ * ex A B C 0 l (64 * g) + dot D Y l (64 * g) * _ * ex A B C 1 l (64 * g)
    + dot D Z l (64 * g) * _ * ex A B C 2 l (64 * g))) * ex A B C 1 l (64 * g)
    = ex A B C 1 l (64 * g) / _ * (dot D Y l (64 * g) - (ex A B C 0 l (64 * g) / _ * dot D X l (64 * g)
      + ex A B C 1 l (64 * g) / _ * dot D Y l (64 * g) + ex A B C 2 l (64 * g) / _ * dot D Z l (64 * g)))
  field_simp
  ring

include hq hk hd hla hlb in
/-- The gradient of the group's output, by token. -/
theorem v135_at : isTok3 (val_main_v135 (F := Ideal) x0 x1 x4 x6 x7)
    (fun l c => wg LA (lse Q K) LB l (64 * (c / 64)) * D l c) := by
  intro i
  have b := bt3 i
  simp only [val_main_v135_apply, val_main_v134_apply, val_main_v128_apply, val_main_v127_apply, val_main_v126_apply,
    val_main_v116_apply, v112_at hq hk hla hlb, hd _, Ideal.mulf_def, ← EReal.coe_mul]
  have e1 : (((i 0).val * 4 + (i 1).val) * 64 + (i 2).val) / 256 % 16384 = (i 0).val := by omega
  have e2 : (((i 0).val * 4 + (i 1).val) * 64 + (i 2).val) / 64 % 4 = (i 1).val := by omega
  have e3 : (((i 0).val * 4 + (i 1).val) * 64 + (i 2).val) % 64 = (i 2).val := by omega
  rw [e1, e2, e3, show (64 * ((i 0).val % 4 * 4 + (i 1).val) + (i 2).val) / 64 = (i 0).val % 4 * 4 + (i 1).val by omega]
  rfl

include hq hk hv hoa hob hd hla hlb in
/-- The gradient of the group's log-sum, by token. -/
theorem v154_at (fA : flat LA) (fB : flat LB) : isTok2 (val_main_v154 (F := Ideal) x0 x1 x2 x3 x4 x5 x6 x7)
    (fun l c => wg LA (lse Q K) LB l c * (dot D (og Q K V) l c - hsum D (mix LA (lse Q K) LB OA (og Q K V) OB) l c)) := by
  intro i
  have b := bt2 i
  rw [val_main_v154_apply, val_main_v153_apply, v150_at hq hk hv hoa hla hob hlb hd]
  refine Eq.trans ?_ (congrArg _ (gm_eq fA (flat_lse Q K) fB OA (og Q K V) OB D _ _))
  refine at_eq (gm LA (lse Q K) LB OA (og Q K V) OB D 1) ?_ ?_
  · show ((i 0).val * 4 + (i 1).val) / 4 % 16384 / 4 = _
    omega
  · show 64 * (((i 0).val * 4 + (i 1).val) / 4 % 16384 % 4 * 4 + ((i 0).val * 4 + (i 1).val) % 4) = _
    omega

end

end Cert.Attn

end
-- ==== Proof.RefBwd.lean ====
/- The reference's gradient at arguments that hold real arrays: the scores' gradient, the gradients of the queries, the keys
   and the values, and the reference's three results. -/
module

public import proofs.«01_k».proof.Proof.RefMerge

@[expose] public section

set_option maxRecDepth 16384

noncomputable section

namespace Cert.Attn

open Cert.ReferenceIdeal Cert.ReferenceIdeal.Gen Cert.ReferenceIdeal.Read Idealize.ShloMosaic Idealize.ShloMosaic.StableHlo
open Idealize.ShloMosaic.ValueIdx hiding ix1 ix2 ix3 ix4 ix5

/-! ## The differentiated softmax over the reals -/

section Reals
variable (Q K V D : Arr)

/-- The row sum of the output's gradient times the group's output, by keys. -/
theorem dot_og {n a : ℕ} (ha : a < 128) (g : ℕ) :
    dot D (og Q K V) (n * 128 + a) (64 * g)
      = ∑ e : Fin 64, D (n * 128 + a) (64 * g + e.val) * (num Q K V g n a e.val / den Q K g n a) := by
  unfold dot og
  refine Finset.sum_congr rfl fun e _ => ?_
  have := e.isLt
  rw [show (64 * g + e.val) / 64 = g by omega, show (64 * g + e.val) % 64 = e.val by omega,
    show (n * 128 + a) / 128 = n by omega, show (n * 128 + a) % 128 = a by omega]

/-- The output's gradient times the unnormalised output is the keys' weights times the gradient against the values. -/
theorem sum_num (g n a : ℕ) : ∑ e : Fin 64, D (n * 128 + a) (64 * g + e.val) * num Q K V g n a e.val
    = ∑ b : Fin 256, pw Q K g n a b.val * dP V D g n a b.val := by
  unfold num dP
  simp only [Finset.mul_sum]
  rw [Finset.sum_comm]
  exact Finset.sum_congr rfl fun b _ => Finset.sum_congr rfl fun e _ => by ring

variable {Q K V D} {LA LB : Arr} (OA OB : Arr)

/-- The gradient of a key's score before the largest score's part, as the differentiated quotient writes it. -/
theorem ds_eq {g n a : ℕ} (hn : n < 32) (ha : a < 128) (b : ℕ) (w s : ℝ)
    (hw : w = wg LA (lse Q K) LB (n * 128 + a) (64 * g)) :
    ((∑ e : Fin 64, w * D (n * 128 + a) (64 * g + e.val) / den Q K g n a * KZ V n b (64 * g + e.val))
      + (w * (dot D (og Q K V) (n * 128 + a) (64 * g) - s) / den Q K g n a
        + -∑ e : Fin 64, w * D (n * 128 + a) (64 * g + e.val) * (1 / (den Q K g n a * den Q K g n a)) * num Q K V g n a e.val))
      * pw Q K g n a b
      = P Q K (joint LA (lse Q K) LB) g n a b * (dP V D g n a b - s) := by
  by_cases hk : keep n a b
  · rw [← wg_pw (LA := LA) (LB := LB) Q K hn ha b, ← hw, dot_og Q K V D ha]
    have hd := (den_pos Q K (g := g) hn ha).ne'
    have e1 : ∑ e : Fin 64, w * D (n * 128 + a) (64 * g + e.val) / den Q K g n a * KZ V n b (64 * g + e.val)
        = w / den Q K g n a * dP V D g n a b := by
      unfold dP
      rw [Finset.mul_sum]
      refine Finset.sum_congr rfl fun e _ => ?_
      rw [KZ_keep V _ hk]; ring
    have e2 : ∑ e : Fin 64, w * D (n * 128 + a) (64 * g + e.val) * (1 / (den Q K g n a * den Q K g n a)) * num Q K V g n a e.val
        = w / den Q K g n a * ∑ e : Fin 64, D (n * 128 + a) (64 * g + e.val) * (num Q K V g n a e.val / den Q K g n a) := by
      rw [Finset.mul_sum]
      refine Finset.sum_congr rfl fun e _ => ?_
      field_simp
    rw [e1, e2]
    ring
  · unfold pw P; rw [if_neg hk, if_neg hk, mul_zero, zero_mul]

/-- The weights sum to the group's weight. -/
theorem sum_P {g n a : ℕ} (hn : n < 32) (ha : a < 128) :
    ∑ b : Fin 256, P Q K (joint LA (lse Q K) LB) g n a b.val = wg LA (lse Q K) LB (n * 128 + a) (64 * g) := by
  have hd := (den_pos Q K (g := g) hn ha).ne'
  simp only [← wg_pw (LA := LA) (LB := LB) Q K hn ha]
  rw [← Finset.mul_sum]
  show _ * den Q K g n a = _
  field_simp

/-- The scores' gradients sum to the log-sum's gradient, so the largest score passes nothing on. -/
theorem sum_ds {g n a : ℕ} (hn : n < 32) (ha : a < 128) (s : ℝ) :
    ∑ b : Fin 256, P Q K (joint LA (lse Q K) LB) g n a b.val * (dP V D g n a b.val - s)
      = wg LA (lse Q K) LB (n * 128 + a) (64 * g) * (dot D (og Q K V) (n * 128 + a) (64 * g) - s) := by
  have hd := (den_pos Q K (g := g) hn ha).ne'
  simp only [mul_sub, Finset.sum_sub_distrib]
  rw [← Finset.sum_mul, sum_P hn ha]
  congr 1
  simp only [← wg_pw (LA := LA) (LB := LB) Q K hn ha, mul_assoc]
  rw [← Finset.mul_sum, ← sum_num, dot_og Q K V D ha, Finset.mul_sum, Finset.mul_sum]
  refine Finset.sum_congr rfl fun e _ => ?_
  field_simp

end Reals

section
variable {x0 x1 x2 x3 x5 x7 : (⟨S16384x4x64, .f32⟩ : BufTy).Contents (Elt Ideal)}
variable {x4 x6 : (⟨S16384x4, .f32⟩ : BufTy).Contents (Elt Ideal)} {Q K V D LA LB OA OB : Arr}
variable (hq : isTok3 x0 Q) (hk : isTok3 x1 K) (hv : isTok3 x2 V) (hoa : isTok3 x3 OA) (hla : isTok2 x4 LA)
  (hob : isTok3 x5 OB) (hlb : isTok2 x6 LB) (hd : isTok3 x7 D) (fA : flat LA) (fB : flat LB)

/-! ## What the merge passes back, by block -/

include hq hk hd hla hlb in
theorem v163_at (i : S4x32x128x4x64.Idx) : val_main_v163 (F := Ideal) x0 x1 x4 x6 x7 i
    = ((wg LA (lse Q K) LB ((i 1).val * 128 + (i 2).val) (64 * ((i 0).val * 4 + (i 3).val))
      * D ((i 1).val * 128 + (i 2).val) (64 * ((i 0).val * 4 + (i 3).val) + (i 4).val) : ℝ) : EReal) := by
  have b := bq i
  refine (v2_at (x0 := val_main_v135 (F := Ideal) x0 x1 x4 x6 x7) (v135_at hq hk hla hlb hd) i).trans ?_
  show ((wg LA (lse Q K) LB _ (64 * ((64 * ((i 0).val * 4 + (i 3).val) + (i 4).val) / 64)) * _ : ℝ) : EReal) = _
  rw [show (64 * ((i 0).val * 4 + (i 3).val) + (i 4).val) / 64 = (i 0).val * 4 + (i 3).val by omega]

include hq hk hv hoa hob hd hla hlb fA fB in
theorem v160_at (i : S4x32x4x128.Idx) : val_main_v160 (F := Ideal) x0 x1 x2 x3 x4 x5 x6 x7 i
    = ((wg LA (lse Q K) LB ((i 1).val * 128 + (i 3).val) (64 * ((i 0).val * 4 + (i 2).val))
      * (dot D (og Q K V) ((i 1).val * 128 + (i 3).val) (64 * ((i 0).val * 4 + (i 2).val))
        - hsum D (mix LA (lse Q K) LB OA (og Q K V) OB) ((i 1).val * 128 + (i 3).val) (64 * ((i 0).val * 4 + (i 2).val))) : ℝ) : EReal) := by
  have b := bd i
  rw [val_main_v160_apply, val_main_v159_apply, val_main_v158_apply, val_main_v157_apply]
  refine (v154_at hq hk hv hoa hla hob hlb hd fA fB _).trans (at_eq (fun l c => wg LA (lse Q K) LB l c
    * (dot D (og Q K V) l c - hsum D (mix LA (lse Q K) LB OA (og Q K V) OB) l c)) ?_ ?_)
  · show (((((((i 0).val * 32 + (i 1).val) * 128 + (i 3).val) * 4 + (i 2).val) / 4 % 4096) * 4
      + ((((i 0).val * 32 + (i 1).val) * 128 + (i 3).val) * 4 + (i 2).val) / 16384) * 4
      + ((((i 0).val * 32 + (i 1).val) * 128 + (i 3).val) * 4 + (i 2).val) % 4) / 4 / 4 = _
    have e1 : ((((i 0).val * 32 + (i 1).val) * 128 + (i 3).val) * 4 + (i 2).val) / 4 % 4096 = (i 1).val * 128 + (i 3).val := by omega
    have e2 : ((((i 0).val * 32 + (i 1).val) * 128 + (i 3).val) * 4 + (i 2).val) / 16384 = (i 0).val := by omega
    have e3 : ((((i 0).val * 32 + (i 1).val) * 128 + (i 3).val) * 4 + (i 2).val) % 4 = (i 2).val := by omega
    rw [e1, e2, e3]; omega
  · show 64 * ((((((((i 0).val * 32 + (i 1).val) * 128 + (i 3).val) * 4 + (i 2).val) / 4 % 4096) * 4
      + ((((i 0).val * 32 + (i 1).val) * 128 + (i 3).val) * 4 + (i 2).val) / 16384) * 4
      + ((((i 0).val * 32 + (i 1).val) * 128 + (i 3).val) * 4 + (i 2).val) % 4) / 4 % 4 * 4
      + (((((((i 0).val * 32 + (i 1).val) * 128 + (i 3).val) * 4 + (i 2).val) / 4 % 4096) * 4
      + ((((i 0).val * 32 + (i 1).val) * 128 + (i 3).val) * 4 + (i 2).val) / 16384) * 4
      + ((((i 0).val * 32 + (i 1).val) * 128 + (i 3).val) * 4 + (i 2).val) % 4) % 4) = _
    have e1 : ((((i 0).val * 32 + (i 1).val) * 128 + (i 3).val) * 4 + (i 2).val) / 4 % 4096 = (i 1).val * 128 + (i 3).val := by omega
    have e2 : ((((i 0).val * 32 + (i 1).val) * 128 + (i 3).val) * 4 + (i 2).val) / 16384 = (i 0).val := by omega
    have e3 : ((((i 0).val * 32 + (i 1).val) * 128 + (i 3).val) * 4 + (i 2).val) % 4 = (i 2).val := by omega
    rw [e1, e2, e3]; omega

/-! ## The scores' gradient -/

include hq hk hd hla hlb in
theorem v177_at (i : S4x32x4x64x128.Idx) : val_main_v177 (F := Ideal) x0 x1 x4 x6 x7 i
    = ((wg LA (lse Q K) LB ((i 1).val * 128 + (i 4).val) (64 * ((i 0).val * 4 + (i 2).val))
      * D ((i 1).val * 128 + (i 4).val) (64 * ((i 0).val * 4 + (i 2).val) + (i 3).val)
      / den Q K ((i 0).val * 4 + (i 2).val) (i 1).val (i 4).val : ℝ) : EReal) := by
  simp only [val_main_v177_apply, val_main_v173_apply, val_main_v172_apply, val_main_v66_apply, val_main_v65_apply,
    v163_at hq hk hla hlb hd, v62_at hq hk]
  exact div_real _ (den_pos Q K (i 1).isLt (i 4).isLt).ne'

include hq hk hv hd hla hlb in
theorem v175_at (i : S4x32x4x128.Idx) : val_main_v175 (F := Ideal) x0 x1 x2 x4 x6 x7 i
    = ((-∑ e : Fin 64, wg LA (lse Q K) LB ((i 1).val * 128 + (i 3).val) (64 * ((i 0).val * 4 + (i 2).val))
      * D ((i 1).val * 128 + (i 3).val) (64 * ((i 0).val * 4 + (i 2).val) + e.val)
      * (1 / (den Q K ((i 0).val * 4 + (i 2).val) (i 1).val (i 3).val * den Q K ((i 0).val * 4 + (i 2).val) (i 1).val (i 3).val))
      * num Q K V ((i 0).val * 4 + (i 2).val) (i 1).val (i 3).val e.val : ℝ) : EReal) := by
  have b := bd i
  have h71 : ∀ j : S4x32x128x4x1.Idx, val_main_v71 (F := Ideal) x0 x1 j
      = ((1 / (den Q K ((j 0).val * 4 + (j 3).val) (j 1).val (j 2).val * den Q K ((j 0).val * 4 + (j 3).val) (j 1).val (j 2).val) : ℝ) : EReal) := by
    intro j
    have h1 : (FloatOps.ofBits .f32 0x3F800000#32 : Ideal .f32) = ((1 : ℝ) : EReal) := Ideal.ofBits_one_f32
    simp only [val_main_v71_apply, val_main_v70_apply, val_main_v69_apply, val_main_v66_apply, val_main_v65_apply,
      val_main_cst_11_apply, v62_at hq hk, Ideal.mulf_def, ← EReal.coe_mul, h1]
    have hp := den_pos Q K (g := (j 0).val * 4 + (j 3).val) (j 1).isLt (j 2).isLt
    exact div_real _ (mul_pos hp hp).ne'
  have h169 : ∀ j : S4x32x128x4.Idx, val_main_v169 (F := Ideal) x0 x1 x2 x4 x6 x7 j
      = ((∑ e : Fin 64, wg LA (lse Q K) LB ((j 1).val * 128 + (j 2).val) (64 * ((j 0).val * 4 + (j 3).val))
      * D ((j 1).val * 128 + (j 2).val) (64 * ((j 0).val * 4 + (j 3).val) + e.val)
      * (1 / (den Q K ((j 0).val * 4 + (j 3).val) (j 1).val (j 2).val * den Q K ((j 0).val * 4 + (j 3).val) (j 1).val (j 2).val))
      * num Q K V ((j 0).val * 4 + (j 3).val) (j 1).val (j 2).val e.val : ℝ) : EReal) := by
    intro j
    simp only [val_main_v169_apply, val_main_v168_apply, val_main_v167_apply, val_main_v166_apply, h71, v163_at hq hk hla hlb hd,
      v64_at hq hk hv, Ideal.mulf_def, ← EReal.coe_mul, sum_coe, val_main_cst_31_apply, Ideal.ofBits_def, Ideal.ofBits_zero_f32, zero_add]
  have e : idx_main_v170 (idx_main_v174 (idx_main_v175 i) 0) = idx_main_v175 i := by
    funext a
    refine Fin.ext ?_
    match a with
    | ⟨0, _⟩ => show (((((i 0).val * 32 + (i 1).val) * 128 + (i 3).val) * 4 + (i 2).val) * 1 + 0) / 16384 = (i 0).val; omega
    | ⟨1, _⟩ => show (((((i 0).val * 32 + (i 1).val) * 128 + (i 3).val) * 4 + (i 2).val) * 1 + 0) / 512 % 32 = (i 1).val; omega
    | ⟨2, _⟩ => show (((((i 0).val * 32 + (i 1).val) * 128 + (i 3).val) * 4 + (i 2).val) * 1 + 0) / 4 % 128 = (i 3).val; omega
    | ⟨3, _⟩ => show (((((i 0).val * 32 + (i 1).val) * 128 + (i 3).val) * 4 + (i 2).val) * 1 + 0) % 4 = (i 2).val; omega
  simp only [val_main_v175_apply, val_main_v174_apply, val_main_v171_apply, val_main_v170_apply, Fin.sum_univ_one,
    val_main_cst_32_apply, Ideal.ofBits_def, Ideal.ofBits_zero_f32, zero_add, Ideal.hostNegf_def, Ideal.negf_def]
  rw [e, h169, ← EReal.coe_neg]

/-- The gradient of the score through the exponential. -/
def dsc (Q K V D LA LB OA OB : Arr) (g n a b : ℕ) : ℝ :=
  dS Q K V D (joint LA (lse Q K) LB) (hsum D (mix LA (lse Q K) LB OA (og Q K V) OB)) g n a b

include hq hk hv hoa hob hd hla hlb fA fB in
theorem v183_at (i : S4x32x4x128x256.Idx) : val_main_v183 (F := Ideal) x0 x1 x2 x3 x4 x5 x6 x7 i
    = (dsc Q K V D LA LB OA OB ((i 0).val * 4 + (i 2).val) (i 1).val (i 3).val (i 4).val : EReal) := by
  have b := bs i
  have h164 : ∀ j : S4x32x4x128.Idx, val_main_v164 (F := Ideal) x0 x1 x2 x3 x4 x5 x6 x7 j
      = ((wg LA (lse Q K) LB ((j 1).val * 128 + (j 3).val) (64 * ((j 0).val * 4 + (j 2).val))
      * (dot D (og Q K V) ((j 1).val * 128 + (j 3).val) (64 * ((j 0).val * 4 + (j 2).val))
        - hsum D (mix LA (lse Q K) LB OA (og Q K V) OB) ((j 1).val * 128 + (j 3).val) (64 * ((j 0).val * 4 + (j 2).val)))
      / den Q K ((j 0).val * 4 + (j 2).val) (j 1).val (j 3).val : ℝ) : EReal) := by
    intro j
    rw [val_main_v164_apply, v160_at hq hk hv hoa hla hob hlb hd fA fB, v62_at hq hk]
    exact div_real _ (den_pos Q K (j 1).isLt (j 3).isLt).ne'
  simp only [val_main_v183_apply, val_main_v182_apply, val_main_v181_apply, val_main_v176_apply, val_main_v178_apply,
    v177_at hq hk hla hlb hd, v20_at hv, v175_at hq hk hv hla hlb hd, h164, v61_at hq hk, Ideal.mulf_def, Ideal.addf_def,
    ← EReal.coe_mul, ← EReal.coe_add, sum_coe]
  exact congrArg _ (ds_eq (V := V) (D := D) (LA := LA) (LB := LB) b.2.1 b.2.2.2.1 _ _ _ rfl)

/-- The cotangent through the largest score is zero. -/
theorem zero_count (c z : EReal) (hc : c ≠ 0 ∨ z = 0) : Ideal.div 0 c * z = 0 := by
  rcases hc with h | h
  · unfold Ideal.div; rw [if_neg h, zero_mul, zero_mul]
  · rw [h, mul_zero]

theorem count_at (i : S4x32x4x128x256.Idx) :
    val_main_v57 (F := Ideal) x0 x1 (idx_main_v190 i) ≠ 0 ∨ val_main_v56 (F := Ideal) x0 x1 i = 0 := by
  by_cases h : val_main_v56 (F := Ideal) x0 x1 i = 0
  · exact Or.inr h
  · refine Or.inl ?_
    have hn : ∀ j, 0 ≤ val_main_v56 (F := Ideal) x0 x1 j := fun j => by
      rw [val_main_v56_apply]
      exact EReal.coe_nonneg.2 (Nat.cast_nonneg _)
    rw [val_main_v57_apply, val_main_cst_9_apply, Ideal.ofBits_def, Ideal.ofBits_zero_f32, zero_add]
    intro hs
    have := (Finset.sum_eq_zero_iff_of_nonneg (fun k _ => hn _)).1 hs (i 4) (Finset.mem_univ _)
    refine h ((congrArg _ ?_).trans this)
    funext a
    match a with
    | ⟨0, _⟩ => rfl
    | ⟨1, _⟩ => rfl
    | ⟨2, _⟩ => rfl
    | ⟨3, _⟩ => rfl
    | ⟨4, _⟩ => rfl

include hq hk hv hoa hob hd hla hlb fA fB in
theorem v191_at (i : S4x32x4x128x256.Idx) : val_main_v191 (F := Ideal) x0 x1 x2 x3 x4 x5 x6 x7 i = 0 := by
  have b := bs i
  have h185 : ∀ j : S4x32x4x128.Idx, val_main_v185 (F := Ideal) x0 x1 x2 x3 x4 x5 x6 x7 j
      = ((-(wg LA (lse Q K) LB ((j 1).val * 128 + (j 3).val) (64 * ((j 0).val * 4 + (j 2).val))
      * (dot D (og Q K V) ((j 1).val * 128 + (j 3).val) (64 * ((j 0).val * 4 + (j 2).val))
        - hsum D (mix LA (lse Q K) LB OA (og Q K V) OB) ((j 1).val * 128 + (j 3).val) (64 * ((j 0).val * 4 + (j 2).val)))) : ℝ) : EReal) := by
    intro j
    simp only [val_main_v185_apply, val_main_v184_apply, v183_at hq hk hv hoa hla hob hlb hd fA fB, Ideal.hostNegf_def, Ideal.negf_def, ← EReal.coe_neg,
      sum_coe, val_main_cst_33_apply, Ideal.ofBits_def, Ideal.ofBits_zero_f32, zero_add]
    refine congrArg _ ?_
    rw [Finset.sum_neg_distrib]
    exact congrArg _ (sum_ds (V := V) (D := D) (LA := LA) (LB := LB) (j 1).isLt (j 3).isLt _)
  have h187 : ∀ j : S4x32x4x128x1.Idx, val_main_v187 (F := Ideal) x0 x1 x2 x3 x4 x5 x6 x7 j = 0 := by
    intro j
    have h0 : (j 0).val < 4 := (j 0).isLt
    have h1 : (j 1).val < 32 := (j 1).isLt
    have h2 : (j 2).val < 4 := (j 2).isLt
    have h3 : (j 3).val < 128 := (j 3).isLt
    have h4 : (j 4).val < 1 := (j 4).isLt
    have e : idx_main_v186 j = idx_main_v165 j := by
      funext a
      refine Fin.ext ?_
      match a with
      | ⟨0, _⟩ => show (((((j 0).val * 32 + (j 1).val) * 4 + (j 2).val) * 128 + (j 3).val) * 1 + (j 4).val) / 16384 = (j 0).val; omega
      | ⟨1, _⟩ => show (((((j 0).val * 32 + (j 1).val) * 4 + (j 2).val) * 128 + (j 3).val) * 1 + (j 4).val) / 512 % 32 = (j 1).val; omega
      | ⟨2, _⟩ => show (((((j 0).val * 32 + (j 1).val) * 4 + (j 2).val) * 128 + (j 3).val) * 1 + (j 4).val) / 128 % 4 = (j 2).val; omega
      | ⟨3, _⟩ => show (((((j 0).val * 32 + (j 1).val) * 4 + (j 2).val) * 128 + (j 3).val) * 1 + (j 4).val) % 128 = (j 3).val; omega
    rw [val_main_v187_apply, val_main_v165_apply, val_main_v186_apply, e, h185, v160_at hq hk hv hoa hla hob hlb hd fA fB, Ideal.addf_def,
      ← EReal.coe_add, add_neg_cancel, EReal.coe_zero]
  have h188 : ∀ j : S4x32x4x128.Idx, val_main_v188 (F := Ideal) x0 x1 x2 x3 x4 x5 x6 x7 j = 0 := by
    intro j
    simp only [val_main_v188_apply, h187, val_main_cst_34_apply, Ideal.ofBits_def, Ideal.ofBits_zero_f32, zero_add, Finset.sum_const_zero]
  rw [val_main_v191_apply, val_main_v190_apply, val_main_v189_apply, h188]
  exact zero_count _ _ (count_at i)

include hq hk hv hoa hob hd hla hlb fA fB in
/-- The scores' gradient. -/
theorem v193_at (i : S4x32x4x128x256.Idx) : val_main_v193 (F := Ideal) x0 x1 x2 x3 x4 x5 x6 x7 i
    = (dsc Q K V D LA LB OA OB ((i 0).val * 4 + (i 2).val) (i 1).val (i 3).val (i 4).val : EReal) := by
  rw [val_main_v193_apply, mask_at, val_main_v192_apply, v183_at hq hk hv hoa hla hob hlb hd fA fB,
    v191_at hq hk hv hoa hla hob hlb hd fA fB, Ideal.addf_def, add_zero]
  by_cases h : keep (i 1).val (i 3).val (i 4).val
  · rw [if_pos h]; exact if_pos rfl
  · rw [if_neg h]
    refine (if_neg (by decide)).trans ?_
    rw [val_main_call1_v0_apply, val_main_call1_cst_apply, Ideal.ofBits_def, Ideal.ofBits_zero_f32]
    unfold dsc dS P
    rw [if_neg h, zero_mul, EReal.coe_zero]

end

end Cert.Attn

end
-- ==== Proof.RefGrad.lean ====
/- The reference's three results at arguments that hold real arrays: the gradients of the queries, the keys and the values. -/
module

public import proofs.«01_k».proof.Proof.RefBwd

@[expose] public section

set_option maxRecDepth 16384

noncomputable section

namespace Cert.Attn

open Cert.ReferenceIdeal Cert.ReferenceIdeal.Gen Cert.ReferenceIdeal.Read Idealize.ShloMosaic Idealize.ShloMosaic.StableHlo
open Idealize.ShloMosaic.ValueIdx hiding ix1 ix2 ix3 ix4 ix5

/-! ## Key rows folded onto the block and the block before -/

/-- The stage by block and key row holds `f`, by block, key row and head column. -/
def isKey (x : S4x32x256x4x64.Idx → EReal) (f : ℕ → ℕ → ℕ → ℝ) : Prop := ∀ i : S4x32x256x4x64.Idx,
  x i = (f (i 1).val (i 2).val (64 * ((i 0).val * 4 + (i 3).val) + (i 4).val) : EReal)

/-- A block's rows with the next block's share of them. -/
def fold (f : ℕ → ℕ → ℕ → ℝ) : Arr := fun l c => f (l / 128) (128 + l % 128) c + f (l / 128 + 1) (l % 128) c

/-- The next block's rows, zero after the last block. -/
theorem next_at {x : S4x32x256x4x64.Idx → EReal} {f : ℕ → ℕ → ℕ → ℝ} (h : isKey x f) (h32 : ∀ b c, f 32 b c = 0)
    {y : S4x31x128x4x64.Idx → EReal} (hy : ∀ j, y j = x (idx_main_v198 (idx_main_v201 j)))
    {v : S_.Idx → EReal} (hv : ∀ j, v j = 0) (i : S4x32x128x4x64.Idx) :
    pad S4x32x128x4x64 ![0, 0, 0, 0, 0] ![0, 1, 0, 0, 0] ![0, 0, 0, 0, 0] y v pads_S4x31x128x4x64_S4x32x128x4x64_000_010_000_000_000 h_S_ i
      = (f ((i 1).val + 1) (i 2).val (64 * ((i 0).val * 4 + (i 3).val) + (i 4).val) : EReal) := by
  have b := bq i
  by_cases hn : (i 1).val < 31
  · refine (pad_apply_of_inside ![0, 0, 0, 0, 0] ![0, 1, 0, 0, 0] ![0, 0, 0, 0, 0] y v _ _ i
      (fun a => match a with
        | ⟨0, _⟩ => ⟨(i 0).val, b.1⟩ | ⟨1, _⟩ => ⟨(i 1).val, hn⟩ | ⟨2, _⟩ => ⟨(i 2).val, b.2.2.1⟩
        | ⟨3, _⟩ => ⟨(i 3).val, b.2.2.2.1⟩ | ⟨4, _⟩ => ⟨(i 4).val, b.2.2.2.2⟩)
      (fun a => match a with
        | ⟨0, _⟩ => by show (i 0).val = 0 + (i 0).val * (0 + 1); omega
        | ⟨1, _⟩ => by show (i 1).val = 0 + (i 1).val * (0 + 1); omega
        | ⟨2, _⟩ => by show (i 2).val = 0 + (i 2).val * (0 + 1); omega
        | ⟨3, _⟩ => by show (i 3).val = 0 + (i 3).val * (0 + 1); omega
        | ⟨4, _⟩ => by show (i 4).val = 0 + (i 4).val * (0 + 1); omega)).trans ?_
    rw [hy]
    refine (h _).trans (at3 f ?_ ?_ ?_)
    · show 1 + (i 1).val = _; omega
    · rfl
    · rfl
  · refine (pad_apply_of_not_inside ![0, 0, 0, 0, 0] ![0, 1, 0, 0, 0] ![0, 0, 0, 0, 0] y v _ _ i 1 (fun e => hn ?_)).trans ?_
    · have := e.2.2
      have h' : ((i 1).val - 0) / (0 + 1) < 31 := this
      omega
    · rw [hv, show (i 1).val + 1 = 32 by omega, h32, EReal.coe_zero]

/-- The fold is by block. -/
theorem fold_at {x : S4x32x256x4x64.Idx → EReal} {f : ℕ → ℕ → ℕ → ℝ} (h : isKey x f) (h32 : ∀ b c, f 32 b c = 0)
    {y : S4x31x128x4x64.Idx → EReal} (hy : ∀ j, y j = x (idx_main_v198 (idx_main_v201 j)))
    {v : S_.Idx → EReal} (hv : ∀ j, v j = 0) : isBlk (fun i => x (idx_main_v199 i)
      + pad S4x32x128x4x64 ![0, 0, 0, 0, 0] ![0, 1, 0, 0, 0] ![0, 0, 0, 0, 0] y v pads_S4x31x128x4x64_S4x32x128x4x64_000_010_000_000_000 h_S_ i)
      (fold f) := by
  intro i
  have b := bq i
  show x (idx_main_v199 i) + pad _ _ _ _ _ _ _ _ i = _
  rw [next_at h h32 hy hv, h, ← EReal.coe_add]
  unfold fold
  rw [show ((i 1).val * 128 + (i 2).val) / 128 = (i 1).val by omega, show ((i 1).val * 128 + (i 2).val) % 128 = (i 2).val by omega]

/-! ## From tokens to rows and columns -/

theorem cols_at {x : S16384x4x64.Idx → EReal} {A : Arr} (h : isTok3 x A) (i : S4096x1024.Idx) :
    x (idx_main_v219 i) = (A (i 0).val (i 1).val : EReal) := by
  have h0 : (i 0).val < 4096 := (i 0).isLt
  have h1 : (i 1).val < 1024 := (i 1).isLt
  refine (h _).trans (at_eq A ?_ ?_)
  · show ((i 0).val * 1024 + (i 1).val) / 256 / 4 = _
    omega
  · show 64 * (((i 0).val * 1024 + (i 1).val) / 256 % 4 * 4 + ((i 0).val * 1024 + (i 1).val) / 64 % 4) + ((i 0).val * 1024 + (i 1).val) % 64 = _
    omega

section
variable {x0 x1 x2 x3 x5 x7 : (⟨S16384x4x64, .f32⟩ : BufTy).Contents (Elt Ideal)}
variable {x4 x6 : (⟨S16384x4, .f32⟩ : BufTy).Contents (Elt Ideal)} {Q K V D LA LB OA OB : Arr}
variable (hq : isTok3 x0 Q) (hk : isTok3 x1 K) (hv : isTok3 x2 V) (hoa : isTok3 x3 OA) (hla : isTok2 x4 LA)
  (hob : isTok3 x5 OB) (hlb : isTok2 x6 LB) (hd : isTok3 x7 D) (fA : flat LA) (fB : flat LB)

/-- Nothing is kept after the last block. -/
theorem keep_last {a b : ℕ} : ¬ keep 32 a b := fun h => absurd h.2.2 (Nat.lt_irrefl 32)

/-! ## The queries -/

include hq hk hv hoa hob hd hla hlb fA fB in
theorem v197_at : isBlk (val_main_v197 (F := Ideal) x0 x1 x2 x3 x4 x5 x6 x7)
    (dQ Q K V D (joint LA (lse Q K) LB) (hsum D (mix LA (lse Q K) LB OA (og Q K V) OB))) := by
  intro i
  have b := bq i
  simp only [val_main_v197_apply, val_main_v196_apply, v193_at hq hk hv hoa hla hob hlb hd fA fB, v11_at hk, ← EReal.coe_mul, sum_coe]
  unfold dQ
  rw [show (64 * ((i 0).val * 4 + (i 3).val) + (i 4).val) / 64 = (i 0).val * 4 + (i 3).val by omega,
    show ((i 1).val * 128 + (i 2).val) / 128 = (i 1).val by omega, show ((i 1).val * 128 + (i 2).val) % 128 = (i 2).val by omega]
  refine congrArg _ (Finset.sum_congr rfl fun k _ => ?_)
  unfold dsc
  by_cases hkeep : keep (i 1).val (i 2).val k.val
  · rw [KZ_keep K _ hkeep]
  · unfold dS P
    rw [if_neg hkeep, zero_mul, zero_mul, zero_mul]

include hq hk hv hoa hob hd hla hlb fA fB in
/-- The first result is the queries' gradient. -/
theorem v219_at (i : S4096x1024.Idx) : val_main_v219 (F := Ideal) x0 x1 x2 x3 x4 x5 x6 x7 i
    = (dQ Q K V D (joint LA (lse Q K) LB) (hsum D (mix LA (lse Q K) LB OA (og Q K V) OB)) (i 0).val (i 1).val : EReal) := by
  have h : isTok3 (val_main_v218 (F := Ideal) x0 x1 x2 x3 x4 x5 x6 x7)
      (dQ Q K V D (joint LA (lse Q K) LB) (hsum D (mix LA (lse Q K) LB OA (og Q K V) OB))) := by
    intro j
    rw [val_main_v218_apply, val_main_v217_apply, val_main_v216_apply]
    exact tokens_at (v197_at hq hk hv hoa hla hob hlb hd fA fB) j
  rw [val_main_v219_apply]
  exact cols_at h i

/-! ## The keys -/

/-- A key row's gradient from one block of queries. -/
def keyDK (Q K V D LA LB OA OB : Arr) (n b c : ℕ) : ℝ := ∑ a : Fin 128, dsc Q K V D LA LB OA OB (c / 64) n a.val b * Q (n * 128 + a.val) c

include hq hk hv hoa hob hd hla hlb fA fB in
theorem v195_at : isKey (val_main_v195 (F := Ideal) x0 x1 x2 x3 x4 x5 x6 x7) (keyDK Q K V D LA LB OA OB) := by
  intro i
  have b := bk i
  simp only [val_main_v195_apply, val_main_v194_apply, v193_at hq hk hv hoa hla hob hlb hd fA fB, v2_at hq, ← EReal.coe_mul, sum_coe]
  unfold keyDK
  rw [show (64 * ((i 0).val * 4 + (i 3).val) + (i 4).val) / 64 = (i 0).val * 4 + (i 3).val by omega]

include hq hk hv hoa hob hd hla hlb fA fB in
theorem v212_at : isBlk (val_main_v212 (F := Ideal) x0 x1 x2 x3 x4 x5 x6 x7)
    (dK Q K V D (joint LA (lse Q K) LB) (hsum D (mix LA (lse Q K) LB OA (og Q K V) OB))) := by
  have h32 : ∀ b c, keyDK Q K V D LA LB OA OB 32 b c = 0 := fun b c => Finset.sum_eq_zero fun a _ => by
    unfold dsc dS P; rw [if_neg keep_last, zero_mul, zero_mul]
  intro i
  refine Eq.trans ?_ (fold_at (v195_at hq hk hv hoa hla hob hlb hd fA fB) h32
    (y := val_main_v210 (F := Ideal) x0 x1 x2 x3 x4 x5 x6 x7) (v := val_main_cst_36 (F := Ideal)) (fun j => ?_) (fun j => ?_) i)
  · rw [val_main_v212_apply, val_main_v208_apply, Ideal.addf_def]
    rfl
  · rw [val_main_v210_apply, val_main_v207_apply]
  · rw [val_main_cst_36_apply]; exact Ideal.ofBits_zero_f32

include hq hk hv hoa hob hd hla hlb fA fB in
/-- The second result is the keys' gradient. -/
theorem v220_at (i : S4096x1024.Idx) : val_main_v220 (F := Ideal) x0 x1 x2 x3 x4 x5 x6 x7 i
    = (dK Q K V D (joint LA (lse Q K) LB) (hsum D (mix LA (lse Q K) LB OA (og Q K V) OB)) (i 0).val (i 1).val : EReal) := by
  have h : isTok3 (val_main_v215 (F := Ideal) x0 x1 x2 x3 x4 x5 x6 x7)
      (dK Q K V D (joint LA (lse Q K) LB) (hsum D (mix LA (lse Q K) LB OA (og Q K V) OB))) := by
    intro j
    rw [val_main_v215_apply, val_main_v214_apply, val_main_v213_apply]
    exact tokens_at (v212_at hq hk hv hoa hla hob hlb hd fA fB) j
  rw [val_main_v220_apply]
  exact cols_at h i

/-! ## The values -/

/-- A value row's gradient from one block of queries. -/
def keyDV (Q K D LA LB : Arr) (n b c : ℕ) : ℝ := ∑ a : Fin 128, P Q K (joint LA (lse Q K) LB) (c / 64) n a.val b * D (n * 128 + a.val) c

theorem keyDV_last (Q K D LA LB : Arr) (b c : ℕ) : keyDV Q K D LA LB 32 b c = 0 := Finset.sum_eq_zero fun a _ => by
  unfold P; rw [if_neg keep_last, zero_mul]

include hq hk hd hla hlb in
theorem v180_at : isKey (val_main_v180 (F := Ideal) x0 x1 x4 x6 x7) (keyDV Q K D LA LB) := by
  intro i
  have b := bk i
  simp only [val_main_v180_apply, val_main_v179_apply, v177_at hq hk hla hlb hd, v61_at hq hk, ← EReal.coe_mul, sum_coe]
  unfold keyDV
  rw [show (64 * ((i 0).val * 4 + (i 3).val) + (i 4).val) / 64 = (i 0).val * 4 + (i 3).val by omega]
  refine congrArg _ (Finset.sum_congr rfl fun k _ => ?_)
  rw [← wg_pw (LA := LA) (LB := LB) Q K b.2.1 k.isLt]
  ring

include hq hk hd hla hlb in
theorem v203_at : isBlk (val_main_v203 (F := Ideal) x0 x1 x4 x6 x7) (dV Q K D (joint LA (lse Q K) LB)) := by
  intro i
  refine Eq.trans ?_ (fold_at (v180_at hq hk hla hlb hd) (keyDV_last Q K D LA LB)
    (y := val_main_v201 (F := Ideal) x0 x1 x4 x6 x7) (v := val_main_cst_35 (F := Ideal)) (fun j => ?_) (fun j => ?_) i)
  · rw [val_main_v203_apply, val_main_v199_apply, Ideal.addf_def]
    rfl
  · rw [val_main_v201_apply, val_main_v198_apply]
  · rw [val_main_cst_35_apply]; exact Ideal.ofBits_zero_f32

include hq hk hd hla hlb in
/-- The third result is the values' gradient. -/
theorem v222_at (i : S4096x1024.Idx) : val_main_v222 (F := Ideal) x0 x1 x4 x6 x7 i
    = (dV Q K D (joint LA (lse Q K) LB) (i 0).val (i 1).val : EReal) := by
  have h : isTok3 (val_main_v206 (F := Ideal) x0 x1 x4 x6 x7) (dV Q K D (joint LA (lse Q K) LB)) := by
    intro j
    rw [val_main_v206_apply, val_main_v205_apply, val_main_v204_apply]
    exact tokens_at (v203_at hq hk hla hlb hd) j
  rw [val_main_v222_apply, val_main_v221_apply]
  exact cols_at h i

end

end Cert.Attn

end
-- ==== Proof.Finite.lean ====
/- Arguments that meet the precondition hold real arrays: for the kernel's call and for the reference's. -/
module

public import proofs.«01_k».proof.Proof.Host
public import proofs.«01_k».proof.Proof.RefGrad
public import proofs.«01_k».proof.Proof.Gen.Pre_finite
public import Idealize.ShloMosaic.Lib.ReduceAll

@[expose] public section

set_option maxRecDepth 16384

noncomputable section

namespace Cert.Attn

open Idealize.ShloMosaic

/-- A comparison below plus infinity leaves a real number. -/
theorem real_of_lt {x : EReal} (h : Ideal.cmp .olt (max x (-x)) (Ideal.ofBits .f32 0x7F800000#32) = 1#1) : (x.toReal : EReal) = x := by
  have e : Ideal.ofBits .f32 0x7F800000#32 = ⊤ := by simp [Ideal.ofBits, Ideal.ieee]
  rw [e] at h
  have h' : max x (-x) < ⊤ := by
    by_contra hn
    have h0 : BitVec.ofBool (decide (max x (-x) < ⊤)) = 1#1 := h
    rw [decide_eq_false hn] at h0
    exact absurd h0 (by decide)
  refine EReal.coe_toReal (fun e => ?_) (fun e => ?_)
  · rw [e] at h'; exact absurd h' (by simp)
  · rw [e] at h'; exact absurd h' (by simp)

section
variable {x0 x1 x2 x3 x5 x7 : FVec Ideal Cert.Pre_finite.S16384x4x64 .f32} {x4 x6 : FVec Ideal Cert.Pre_finite.S16384x4 .f32}

instance : Subsingleton Cert.Pre_finite.S_.Idx := ⟨fun _ _ => funext fun a => a.elim0⟩

/-- Every entry is real. -/
def reals {s : Shape} (x : s.Idx → EReal) : Prop := ∀ i, ((x i).toReal : EReal) = x i

theorem andi_one {a b : BitVec 1} (h : IntOp.andi a b = 1#1) : a = 1#1 ∧ b = 1#1 := by
  revert h; revert a b; decide

/-- The precondition says that every entry of every argument is real. -/
theorem reals_of_finite (h : Cert.Pre_finite.fn (F := Ideal) x0 x1 x2 x3 x4 x5 x6 x7 = fun _ => 1#1) :
    reals x0 ∧ reals x1 ∧ reals x2 ∧ reals x3 ∧ reals x4 ∧ reals x5 ∧ reals x6 ∧ reals x7 := by
  have h0 := congrFun h (fun a => a.elim0)
  dsimp only [Cert.Pre_finite.fn, Cert.Pre_finite.fn_part1, Cert.Pre_finite.fn_part2] at h0
  obtain ⟨h0, h7⟩ := andi_one h0
  obtain ⟨h0, h6⟩ := andi_one h0
  obtain ⟨h0, h5⟩ := andi_one h0
  obtain ⟨h0, h4⟩ := andi_one h0
  obtain ⟨h0, h3⟩ := andi_one h0
  obtain ⟨h0, h2⟩ := andi_one h0
  obtain ⟨h0, h1⟩ := andi_one h0
  exact ⟨fun i => real_of_lt (Host.reduce_andi_all _ _ _ _ _ h0 i), fun i => real_of_lt (Host.reduce_andi_all _ _ _ _ _ h1 i),
    fun i => real_of_lt (Host.reduce_andi_all _ _ _ _ _ h2 i), fun i => real_of_lt (Host.reduce_andi_all _ _ _ _ _ h3 i),
    fun i => real_of_lt (Host.reduce_andi_all _ _ _ _ _ h4 i), fun i => real_of_lt (Host.reduce_andi_all _ _ _ _ _ h5 i),
    fun i => real_of_lt (Host.reduce_andi_all _ _ _ _ _ h6 i), fun i => real_of_lt (Host.reduce_andi_all _ _ _ _ _ h7 i)⟩

end

/-! ## The real arrays -/

open Cert.ReferenceIdeal in
/-- An argument by token, head and lane as an array of rows and columns. -/
def rows3 (x : S16384x4x64.Idx → EReal) : Arr := fun l k =>
  if p : l * 4 + k / 256 < 16384 then
    (x (Idealize.ShloMosaic.ix3 ⟨l * 4 + k / 256, p⟩ ⟨k / 64 % 4, Nat.mod_lt _ (by decide)⟩ ⟨k % 64, Nat.mod_lt _ (by decide)⟩)).toReal
  else 0

open Cert.ReferenceIdeal in
/-- An argument by token and head as an array of rows and columns. -/
def rows2 (x : S16384x4.Idx → EReal) : Arr := fun l k =>
  if p : l * 4 + k / 256 < 16384 then
    (x (Idealize.ShloMosaic.ix2 ⟨l * 4 + k / 256, p⟩ ⟨k / 64 % 4, Nat.mod_lt _ (by decide)⟩)).toReal
  else 0

section
open Cert.ReferenceIdeal
variable {x : S16384x4x64.Idx → EReal} {y : S16384x4.Idx → EReal}

theorem arg3_rows (h : reals x) : isArg3 x (rows3 x) := fun l k p q r => by
  unfold rows3; rw [dif_pos p]; exact (h _).symm

theorem arg2_rows (h : reals y) : isArg2 y (rows2 y) := fun l k p q => by
  unfold rows2; rw [dif_pos p]; exact (h _).symm

theorem flat_rows (y : S16384x4.Idx → EReal) : flat (rows2 y) := fun l c => by
  unfold rows2
  have e1 : 64 * (c / 64) / 256 = c / 256 := by omega
  have e2 : 64 * (c / 64) / 64 = c / 64 := by omega
  simp only [e1, e2]

theorem tok3_of {A : Arr} {x' : S16384x4x64.Idx → EReal} (e : x' = x) (h : isArg3 x A) : isTok3 x' A := fun i => by
  subst e
  have b := bt3 i
  have e1 : (64 * ((i 0).val % 4 * 4 + (i 1).val) + (i 2).val) / 256 = (i 0).val % 4 := by omega
  have e2 : (64 * ((i 0).val % 4 * 4 + (i 1).val) + (i 2).val) / 64 % 4 = (i 1).val := by omega
  have e3 : (64 * ((i 0).val % 4 * 4 + (i 1).val) + (i 2).val) % 64 = (i 2).val := by omega
  refine Eq.trans (congrArg _ ?_) (h ((i 0).val / 4) (64 * ((i 0).val % 4 * 4 + (i 1).val) + (i 2).val) (by omega) (by omega) (by omega))
  funext a
  match a with
  | ⟨0, _⟩ => refine Fin.ext ?_; show (i 0).val = (i 0).val / 4 * 4 + _; omega
  | ⟨1, _⟩ => exact Fin.ext e2.symm
  | ⟨2, _⟩ => exact Fin.ext e3.symm

theorem tok2_of {A : Arr} {y' : S16384x4.Idx → EReal} (e : y' = y) (h : isArg2 y A) : isTok2 y' A := fun i => by
  subst e
  have b := bt2 i
  have e1 : (64 * ((i 0).val % 4 * 4 + (i 1).val)) / 256 = (i 0).val % 4 := by omega
  have e2 : (64 * ((i 0).val % 4 * 4 + (i 1).val)) / 64 % 4 = (i 1).val := by omega
  refine Eq.trans (congrArg _ ?_) (h ((i 0).val / 4) (64 * ((i 0).val % 4 * 4 + (i 1).val)) (by omega) (by omega))
  funext a
  match a with
  | ⟨0, _⟩ => refine Fin.ext ?_; show (i 0).val = (i 0).val / 4 * 4 + _; omega
  | ⟨1, _⟩ => exact Fin.ext e2.symm

end

end Cert.Attn

end
-- ==== Proof.Dwd.lean ====
module

public import proofs.«01_k».proof.Proof.Gen.Kernel3Ideal.Value
public import Idealize.ShloMosaic.Lib.Pipeline.ValueKit
public import Idealize.ShloMosaic.Lib.StableHlo.ReadAt

/-! The weight gradient of the down projection: the kernel walks the tokens in four strips of 4096, adding each strip's
product of the activation and the cotangent into a carried block of 704 rows and 1024 columns, and writes the block back
after the last strip. -/

@[expose] public section

set_option maxRecDepth 16384

noncomputable section

namespace Cert.Dwd

open Cert.Kernel3Ideal Cert.Kernel3Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- The activation: the gate times its logistic, times the up projection. -/
def act (g u : EReal) : EReal := g * Ideal.div 1 (1 + Ideal.exp (-g)) * u

/-- One strip's product at a row and a column. -/
def strip (g u : Vec Ideal S1x4096x704 .bf16) (y : Vec Ideal S4096x1024 .bf16) (i : S704x1024.Idx) : EReal :=
  ∑ l : Fin 4096, act (g (ix3 (0 : Fin 1) l (i 0))) (u (ix3 (0 : Fin 1) l (i 0))) * y (ix2 l (i 1))

/-- The block after a strip is the block before it plus the strip's product. -/
theorem pay_apply (g u : Vec Ideal S1x4096x704 .bf16) (a : Vec Ideal S704x1024 .f32) (y : Vec Ideal S4096x1024 .bf16)
    (i : S704x1024.Idx) : k0_pay2 g u a y i = a i + strip g u y i := by
  unfold k0_pay2 strip
  rw [shapeCast_id]
  show a i + _ = _
  congr 1
  simp only [matmul]
  rw [Ideal.matmul_constant_zero_apply,
    ← Equiv.sum_comp (contrEquiv1 dot_S4096x704_S4096x1024_S704x1024_0_0_1_1_n_n 4096 rfl rfl).symm]
  refine Finset.sum_congr rfl fun l _ => ?_
  have c := contrEquiv1_symm_val dot_S4096x704_S4096x1024_S704x1024_0_0_1_1_n_n 4096 rfl rfl l
  have d (x : Vec Ideal S1x4096x704 .bf16) (k : S4096x704.Idx) (hk : (k 0).val = l.val) (hi : k 1 = i 0) :
      shapeCast S4096x704 x shapeCasts_S1x4096x704_S4096x704 k = x (ix3 (0 : Fin 1) l (i 0)) := by
    refine (shapeCast_dropUnit_apply _ x _ _).trans ?_
    congr 1
    funext ax
    fin_cases ax
    · rfl
    · exact Fin.ext hk
    · exact hi
  congr 1
  · refine (congrArg₂ act (d g _ c rfl) (d u _ c rfl))
  · rw [shapeCast_id]
    congr 1
    funext ax
    fin_cases ax
    · exact Fin.ext c
    · rfl

theorem zero_apply (i : S704x1024.Idx) : k0_pay1 (F := Ideal) i = 0 := by
  unfold k0_pay1
  rw [shapeCast_id]
  exact Ideal.ofBits_zero_f32

theorem unread_whole (x : Vec Ideal S704x1024 .f32) (h : scM0_0.IsWhole) : View.read (Elt Ideal) (View.whole cc0_scratch0) (h.unread x) = x := by
  exact h.read_unread x

theorem carried (c : Dev nD) (t : Fin cfg0.N) (hr : t.val % 4 = 3) (i : S704x1024.Idx) :
    (outsAt0 m c t.val t.isLt).2 i = 0 + ∑ s : Fin 4, strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩)
      (iblk m c 2 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => strip (iblk m c 0 t) (iblk m c 1 t) (iblk m c 2 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, (win0_0.index t = ![t.val / 4, t.val % 4, 0] ∧ win0_1.index t = ![t.val / 4, t.val % 4, 0])
    ∧ win0_2.index t = ![t.val % 4, 0] ∧ win0_3.index t = ![t.val / 4, 0, 0, 0, 0] := by decide +kernel

theorem iblk0 (c : Dev nD) (t : Fin cfg0.N) (l : Fin 4096) (b : Fin 704) :
    iblk m c 0 t (ix3 (0 : Fin 1) l b) = V m c main_v0 (ix3 (⟨t.val / 4, by have := t.isLt; have : cfg0.N = 16 := N_0; omega⟩ : Fin 4) ⟨t.val % 4 * 4096 + l.val, by omega⟩ b) := by
  have e := (index0 t).1.1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).1.2
  unfold iblk
  blk_ext [e]

theorem iblk2 (c : Dev nD) (t : Fin cfg0.N) (l : Fin 4096) (a : Fin 1024) :
    iblk m c 2 t (ix2 l a) = V m c main_v2 (ix2 ⟨t.val % 4 * 4096 + l.val, by omega⟩ a) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg3) i := by
  show StableHlo.after hostOps0 _ (Proc.devRef .tc main_v2) i = _
  after_reads_at
theorem V_v3 (c : Dev nD) (i) : V m c main_v3 i = m ((c : Thread nD τ).loc main_arg0) i := by
  show StableHlo.after hostOps0 _ (Proc.devRef .tc main_v3) i = _
  after_reads_at
  rfl

/-- The gradient of one layer's and half's weights, by shard, row and column. -/
def grad (g u : S4x16384x704.Idx → EReal) (d : S16384x1024.Idx → EReal) (j : Fin 4) (a : Fin 704) (b : Fin 1024) : EReal :=
  ∑ t : Fin 16384, act (g (ix3 j t a)) (u (ix3 j t a)) * d (ix2 t b)

/-- The gradient written into its place in the buffer of all layers and halves. -/
def into (x : S4x2x2x704x1024.Idx → EReal) (g u : S4x16384x704.Idx → EReal) (d : S16384x1024.Idx → EReal) :
    S4x2x2x704x1024.Idx → EReal :=
  fun i => if (i 1).val = 0 ∧ (i 2).val = 0 then grad g u d (i 0) (i 3) (i 4) else x i

theorem strips (c : Dev nD) (t : Fin cfg0.N) (hr : t.val % 4 = 3) (a : Fin 704) (b : Fin 1024) :
    (outsAt0 m c t.val t.isLt).2 (ix2 a b)
      = grad (m ((c : Thread nD τ).loc main_arg1)) (m ((c : Thread nD τ).loc main_arg2)) (m ((c : Thread nD τ).loc main_arg3))
          ⟨t.val / 4, by have := t.isLt; have : cfg0.N = 16 := N_0; omega⟩ a b := by
  rw [carried m c t hr, zero_add]
  unfold grad strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y)
    (congrArg₂ act ((iblk0 m c _ l a).trans ((V_v0 m c _).trans ?_)) ((iblk1 m c _ l a).trans ((V_v1 m c _).trans ?_)))
    ((iblk2 m c _ l b).trans ((V_v2 m c _).trans ?_))
  · simp only [e, e']
  · simp only [e, e']
  · simp only [e]

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 704 := (y 3).isLt
  have h4 : (y 4).val < 1024 := (y 4).isLt
  rw [Shape.rowMajor_val_two, Shape.rowMajor_val_five]
  show (y 3).val * 1024 + (y 4).val = ((((y 0).val * 1 + (y 1).val) * 1 + (y 2).val) * 704 + (y 3).val) * 1024 + (y 4).val
  omega

theorem final (c : Dev nD) : (dats m 0 c).arrAt 3 cfg0.N
    = into (m ((c : Thread nD τ).loc main_arg0)) (m ((c : Thread nD τ).loc main_arg1)) (m ((c : Thread nD τ).loc main_arg2)) (m ((c : Thread nD τ).loc main_arg3)) := by
  refine ((dats m 0 c).arrAt_eq_of_coversWhere 3
    (fun i => grad (m ((c : Thread nD τ).loc main_arg1)) (m ((c : Thread nD τ).loc main_arg2)) (m ((c : Thread nD τ).loc main_arg3)) (i 0) (i 3) (i 4))
    (P := fun i => (i 1).val = 0 ∧ (i 2).val = 0)
    (fun β => β 1 = 0 ∧ β 2 = 0) (by decide +kernel) (fun t hf y => ?_) (fun j => ?_)).trans (funext fun i => ?_)
  · have hr := (flush0_3 t).mp hf
    have e := (index0 t).2.2
    rw [after0_3]
    refine (out_c m c t hr _).trans ((strips m c t hr _ _).trans ?_)
    have g {j j' : Fin 4} {a a' : Fin 704} {b b' : Fin 1024} (x z v) (hj : j.val = j'.val) (ha : a.val = a'.val) (hb : b.val = b'.val) :
        grad x z v j a b = grad x z v j' a' b' := by rw [Fin.ext hj, Fin.ext ha, Fin.ext hb]
    refine g _ _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v3 m c i)

end Cert.Dwd

end
-- ==== Proof.RefDwd.lean ====
/- The reference of the down projection's weight gradient, and its equality with the kernel's result. -/
module

public import proofs.«01_k».proof.Proof.Dwd
public import proofs.«01_k».proof.Proof.Gen.Reference3Ideal.Run
public import proofs.«01_k».proof.Proof.Gen.Reference3Ideal.Read

@[expose] public section

set_option maxRecDepth 16384

noncomputable section

namespace Cert.Dwd

open Cert.Reference3Ideal Cert.Reference3Ideal.Gen Cert.Reference3Ideal.Read
open Idealize.ShloMosaic hiding ix1 ix2 ix3 ix4 ix5
open Idealize.ShloMosaic.ValueIdx Idealize.ShloMosaic.TcCoe Idealize.SL.Sem

variable (x : S4x2x2x704x1024.Idx → EReal) (g u : S4x16384x704.Idx → EReal) (d : S16384x1024.Idx → EReal)

theorem ref_grad (i : S4x1x1x704x1024.Idx) : val_main_v6 (F := Ideal) g u d i = grad g u d (i 0) (i 3) (i 4) := by
  rw [val_main_v6_apply, val_main_v5_apply, val_main_v4_apply]
  unfold grad
  refine Finset.sum_congr rfl fun t _ => ?_
  rw [val_main_v2_apply, val_main_v1_apply, val_main_call0_v5_apply, val_main_call0_v4_apply, val_main_call0_v3_apply,
    val_main_call0_v2_apply, val_main_call0_v1_apply, val_main_call0_v0_apply, val_main_call0_cst_apply, val_main_call0_cst_0_apply, mul_comm]
  refine congrArg₂ (fun x y : EReal => x * y) ?_ (congrArg d ?_)
  · have e : ridx_main_v4 (idx_main_v5 (idx_main_v6 i)) t = ix3 (i 0) t (i 3) := by funext a; fin_cases a <;> rfl
    rw [e]
    unfold act
    rw [← Ideal.ofBits_one_f32]
    rfl
  · funext a; fin_cases a <;> rfl

theorem ref_into : val_main_v7 (F := Ideal) x g u d = into x g u d := by
  funext i
  unfold val_main_v7
  refine (congrFun (Host.dynamicUpdateSlice_eq_updateSlice x (val_main_v6 (F := Ideal) g u d) _ _ (fun _ => 0)
    (fun a => by fin_cases a <;> rfl) ⟨rfl, by decide⟩) i).trans ?_
  unfold updateSlice into
  have h0 : (i 0).val < 4 := (i 0).isLt
  have h3 : (i 3).val < 704 := (i 3).isLt
  have h4 : (i 4).val < 1024 := (i 4).isLt
  by_cases hi : (i 1).val = 0 ∧ (i 2).val = 0
  · rw [if_pos hi, dif_pos (fun a => by
      fin_cases a
      · exact ⟨Nat.zero_le _, by show (i 0).val < 0 + 4; omega⟩
      · exact ⟨Nat.zero_le _, by show (i 1).val < 0 + 1; omega⟩
      · exact ⟨Nat.zero_le _, by show (i 2).val < 0 + 1; omega⟩
      · exact ⟨Nat.zero_le _, by show (i 3).val < 0 + 704; omega⟩
      · exact ⟨Nat.zero_le _, by show (i 4).val < 0 + 1024; omega⟩)]
    exact ref_grad g u d _
  · rw [if_neg hi, dif_neg]
    intro hin
    have a1 : (i 1).val < 0 + 1 := (hin 1).2
    have a2 : (i 2).val < 0 + 1 := (hin 2).2
    omega

end Cert.Dwd

end
-- ==== Proof.FfnTile.lean ====
/- The forward feed-forward block row by row: the norm with its modulation, the gate and up projections, the activation and the
   down projection, and the kernel's tiles of 256 rows as these functions of the tile's rows. -/
module

public import proofs.«01_k».proof.Proof.Gen.Kernel2Ideal.Value
public import Idealize.ShloMosaic.Lib.Pipeline.ValueKit
public import Idealize.ShloMosaic.Lib.StableHlo.ReadAt

@[expose] public section

set_option maxRecDepth 16384

noncomputable section

namespace Cert.Ffn

open Cert.Kernel2Ideal Cert.Kernel2Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

/-! ## One row -/

/-- The normalised and modulated row. -/
def hid (x g s b : Fin 1024 → EReal) (d : Fin 1024) : EReal :=
  x d * Ideal.rsqrt (Ideal.div (∑ l : Fin 1024, x l * x l) (Ideal.ofBits .f32 0x44800000#32) + Ideal.ofBits .f32 0x358637BD#32) * g d
    * (Ideal.ofBits .f32 0x3F800000#32 + s d) + b d

/-- A row times a weight's column. -/
def up (h : Fin 1024 → EReal) (w : Fin 1024 → Fin 2816 → EReal) (j : Fin 2816) : EReal := ∑ l : Fin 1024, h l * w l j

/-- The activation. -/
def act (g u : EReal) : EReal := g * Ideal.div (Ideal.ofBits .f32 0x3F800000#32) (Ideal.ofBits .f32 0x3F800000#32 + Ideal.exp (-g)) * u

/-- The block's row. -/
def down (h : Fin 1024 → EReal) (wg wu : Fin 1024 → Fin 2816 → EReal) (wd : Fin 2816 → Fin 1024 → EReal) (d : Fin 1024) : EReal :=
  ∑ j : Fin 2816, act (up h wg j) (up h wu j) * wd j d

/-- The half step's row. -/
def step (x c f : Fin 1024 → EReal) (d : Fin 1024) : EReal := x d + Ideal.ofBits .f32 0x3F000000#32 * c d * f d

/-! ## The kernel's tiles -/

theorem act_eq (g u : EReal) : g * Ideal.logistic g * u = act g u := by
  unfold act Ideal.logistic
  rw [Ideal.ofBits_one_f32]

/-- The sums of squares of a tile's rows. -/
def sq (x : FVec Ideal S256x1024 .f32) : FVec Ideal S256x1 .f32 :=
  have y : FVec Ideal S256 .f32 := multiReduction .add [1] S256 (mulf x x) 0x00000000#32 reduces_S256x1024_S256 (.inl rfl) rfl
  shapeCast S256x1 y shapeCasts_S256_S256x1

theorem sq_apply (x : FVec Ideal S256x1024 .f32) (a : Fin 256) :
    sq x (ix2 a 0) = ∑ l : Fin 1024, x (ix2 a l) * x (ix2 a l) := by
  unfold sq
  rw [shapeCast_apply _ shapeCasts_S256_S256x1 (ix2 a 0) (ix1 a) (by
    rw [Shape.rowMajor_val_two]; simp [Shape.rowMajor_val_one])]
  refine (Ideal.multiReduction_add_single _ _ _ _ _ _).trans ?_
  refine Finset.sum_congr rfl fun l _ => ?_
  have e : reduces_S256x1024_S256.lift (ix1 a) l = ix2 a l := by
    funext d; fin_cases d <;> rfl
  exact (congrArg (mulf x x) e)

theorem row_apply (x : FVec Ideal S1x1024 .f32) (a : Fin 256) (d : Fin 1024) :
    broadcastTo S256x1024 x broadcasts_S1x1024_S256x1024 (ix2 a d) = x (ix2 0 d) :=
  broadcastTo_apply _ _ _ _ (fun ax => by fin_cases ax <;> rfl)

theorem hid_tile (x : Vec Ideal S256x1024 .f32) (g s b : Vec Ideal S1x1024 .f32) (a : Fin 256) (d : Fin 1024) :
    k0_pay5 x g s b (ix2 a d)
      = hid (fun l => x (ix2 a l)) (fun l => g (ix2 0 l)) (fun l => s (ix2 0 l)) (fun l => b (ix2 0 l)) d := by
  have hs := sq_apply x a
  unfold k0_pay5 hid
  rw [shapeCast_id]
  show _ * broadcastTo S256x1024 _ broadcasts_S256x1_S256x1024 (ix2 a d) * broadcastTo S256x1024 g broadcasts_S1x1024_S256x1024 (ix2 a d)
    * broadcastTo S256x1024 _ broadcasts_S1x1024_S256x1024 (ix2 a d) + broadcastTo S256x1024 b broadcasts_S1x1024_S256x1024 (ix2 a d) = _
  rw [row_apply, row_apply, row_apply,
    broadcastTo_apply _ broadcasts_S256x1_S256x1024 (ix2 a d) (ix2 a 0) (fun ax => by fin_cases ax <;> rfl)]
  show _ * Ideal.rsqrt (Ideal.div (sq x (ix2 a 0)) _ + _) * _ * (_ + _) + _ = _
  rw [hs]
  rfl

/-- A tile times a shard of a projection's weight. -/
def mm (h : FVec Ideal S256x1024 .bf16) (w : Vec Ideal S1x1x1x1024x704 .bf16) : FVec Ideal S256x704 .f32 :=
  k0_pay7 h w

theorem mm_apply (h : FVec Ideal S256x1024 .bf16) (w : Vec Ideal S1x1x1x1024x704 .bf16) (a : Fin 256) (f : Fin 704) :
    mm h w (ix2 a f) = ∑ l : Fin 1024, h (ix2 a l) * w (ix5 0 0 0 l f) := by
  unfold mm k0_pay7
  simp only [matmul]
  rw [Ideal.matmul_constant_zero_apply,
    ← Equiv.sum_comp (contrEquiv1 dot_S256x1024_S1024x704_S256x704_1_0_0_1_n_n 1024 rfl rfl).symm]
  refine Finset.sum_congr rfl fun l _ => ?_
  have c := contrEquiv1_symm_val dot_S256x1024_S1024x704_S256x704_1_0_0_1_n_n 1024 rfl rfl l
  congr 1
  · congr 1
    funext ax
    fin_cases ax
    · rfl
    · exact Fin.ext c
  · have e : dot_S256x1024_S1024x704_S256x704_1_0_0_1_n_n.rhsIdx (ix2 a f)
        ((contrEquiv1 dot_S256x1024_S1024x704_S256x704_1_0_0_1_n_n 1024 rfl rfl).symm l) = ix2 l f := by
      funext ax
      fin_cases ax
      · exact Fin.ext c
      · rfl
    rw [e]
    refine (shapeCast_apply _ _ _ (ix5 0 0 0 l f) ?_)
    rw [Shape.rowMajor_val_two, Shape.rowMajor_val_five]
    show (((0 * 1 + 0) * 1 + 0) * 1024 + l.val) * 704 + f.val = l.val * 704 + f.val
    omega

/-- The activation of a tile times a shard of the down projection's weight. -/
def part (h : FVec Ideal S256x1024 .bf16) (wg wu : Vec Ideal S1x1x1x1024x704 .bf16) (wd : Vec Ideal S1x1x1x704x1024 .bf16) :
    FVec Ideal S256x1024 .f32 :=
  k0_pay10 h (mm h wg) wu wd

theorem part_apply (h : FVec Ideal S256x1024 .bf16) (wg wu : Vec Ideal S1x1x1x1024x704 .bf16) (wd : Vec Ideal S1x1x1x704x1024 .bf16)
    (a : Fin 256) (d : Fin 1024) :
    part h wg wu wd (ix2 a d) = ∑ f : Fin 704, act (mm h wg (ix2 a f)) (mm h wu (ix2 a f)) * wd (ix5 0 0 0 f d) := by
  unfold part k0_pay10
  simp only [matmul]
  rw [Ideal.matmul_constant_zero_apply,
    ← Equiv.sum_comp (contrEquiv1 dot_S256x704_S704x1024_S256x1024_1_0_0_1_n_n 704 rfl rfl).symm]
  refine Finset.sum_congr rfl fun l _ => ?_
  have c := contrEquiv1_symm_val dot_S256x704_S704x1024_S256x1024_1_0_0_1_n_n 704 rfl rfl l
  congr 1
  · rw [← act_eq]
    have e : dot_S256x704_S704x1024_S256x1024_1_0_0_1_n_n.lhsIdx (ix2 a d)
        ((contrEquiv1 dot_S256x704_S704x1024_S256x1024_1_0_0_1_n_n 704 rfl rfl).symm l) = ix2 a l := by
      funext ax
      fin_cases ax
      · rfl
      · exact Fin.ext c
    rw [e]
    rfl
  · have e : dot_S256x704_S704x1024_S256x1024_1_0_0_1_n_n.rhsIdx (ix2 a d)
        ((contrEquiv1 dot_S256x704_S704x1024_S256x1024_1_0_0_1_n_n 704 rfl rfl).symm l) = ix2 l d := by
      funext ax
      fin_cases ax
      · exact Fin.ext c
      · rfl
    rw [e]
    refine (shapeCast_apply _ _ _ (ix5 0 0 0 l d) ?_)
    rw [Shape.rowMajor_val_two, Shape.rowMajor_val_five]
    show (((0 * 1 + 0) * 1 + 0) * 704 + l.val) * 1024 + d.val = l.val * 1024 + d.val
    omega

/-- The block of a tile: the four shards' parts in order. -/
def tot (h : FVec Ideal S256x1024 .bf16) (wg wu : Fin 4 → Vec Ideal S1x1x1x1024x704 .bf16)
    (wd : Fin 4 → Vec Ideal S1x1x1x704x1024 .bf16) : FVec Ideal S256x1024 .f32 :=
  addf (addf (addf (part h (wg 0) (wu 0) (wd 0)) (part h (wg 1) (wu 1) (wd 1))) (part h (wg 2) (wu 2) (wd 2)))
    (part h (wg 3) (wu 3) (wd 3))

theorem tot_apply (h : FVec Ideal S256x1024 .bf16) (wg wu : Fin 4 → Vec Ideal S1x1x1x1024x704 .bf16)
    (wd : Fin 4 → Vec Ideal S1x1x1x704x1024 .bf16) {G U : Fin 1024 → Fin 2816 → EReal} {W : Fin 2816 → Fin 1024 → EReal}
    (hG : ∀ (k : Fin 4) (l : Fin 1024) (f : Fin 704), wg k (ix5 0 0 0 l f) = G l ⟨k.val * 704 + f.val, by omega⟩)
    (hU : ∀ (k : Fin 4) (l : Fin 1024) (f : Fin 704), wu k (ix5 0 0 0 l f) = U l ⟨k.val * 704 + f.val, by omega⟩)
    (hW : ∀ (k : Fin 4) (f : Fin 704) (d : Fin 1024), wd k (ix5 0 0 0 f d) = W ⟨k.val * 704 + f.val, by omega⟩ d)
    (a : Fin 256) (d : Fin 1024) : tot h wg wu wd (ix2 a d) = down (fun l => h (ix2 a l)) G U W d := by
  have e : tot h wg wu wd (ix2 a d) = ∑ k : Fin 4, part h (wg k) (wu k) (wd k) (ix2 a d) := by
    rw [Fin.sum_univ_four]
    rfl
  rw [e]
  unfold down
  simp only [part_apply, mm_apply]
  refine Fin.sum_mul_add_congr fun k f hl => ?_
  simp only [hG, hU, hW]
  rfl

end Cert.Ffn

end
-- ==== Proof.FfnArr.lean ====
/- The forward block's five result arrays as functions of its argument arrays: the stored tiles put together into blocks, each
   window's block read off its array, and the blocks put together into the arrays. -/
module

public import proofs.«01_k».proof.Proof.FfnTile

@[expose] public section

set_option maxRecDepth 16384
set_option backward.proofsInPublic true

noncomputable section

namespace Cert.Ffn

open Cert.Kernel2Ideal Cert.Kernel2Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

/-! ## The stored tiles -/

section
variable (x0 : Vec Ideal S512x1024 .f32) (x1 x2 x3 x4 : Vec Ideal S1x1024 .f32) (x5 x6 x7 x8 x9 x10 x11 x12 : Vec Ideal S1x1x1x1024x704 .bf16)
  (x13 x14 x15 x16 : Vec Ideal S1x1x1x704x1024 .bf16)

/-- The rows from `o` of a block of 512. -/
abbrev rows (o : ℕ) (h : ∀ a, (![o, 0] : Fin 2 → ℕ) a + S256x1024.size a ≤ S512x1024.size a) : Rect S512x1024 :=
  Rect.unit (s := S512x1024) ![o, 0] S256x1024.size h

/-- One shard's rows from `o`. -/
abbrev chunk (k o : ℕ) (h : ∀ a, (![k, o, 0] : Fin 3 → ℕ) a + S1x256x704.size a ≤ S4x512x704.size a) : Rect S4x512x704 :=
  Rect.unit (s := S4x512x704) ![k, o, 0] S1x256x704.size h

variable (o : ℕ) (ho : o + 256 ≤ 512) (h : ∀ a, (![o, 0] : Fin 2 → ℕ) a + S256x1024.size a ≤ S512x1024.size a)

/-- The hidden tile. -/
def hT : FVec Ideal S256x1024 .bf16 := k0_pay5 (View.ld x0 (rows o h)) (View.ld x1 r0_0) (View.ld x2 r0_0) (View.ld x3 r0_0)

/-- The block's row of hidden values. -/
def hR (r : Fin 512) : Fin 1024 → EReal :=
  hid (fun l => x0 (ix2 r l)) (fun l => x1 (ix2 0 l)) (fun l => x2 (ix2 0 l)) (fun l => x3 (ix2 0 l))

theorem ld_vec (x : Vec Ideal S1x1024 .f32) : View.ld x r0_0 = x := View.ld_unit_zero (funext fun a => by fin_cases a <;> rfl) _ x
theorem ld_in (x : Vec Ideal S1x1x1x1024x704 .bf16) : View.ld x r0_2 = x := View.ld_unit_zero (funext fun a => by fin_cases a <;> rfl) _ x
theorem ld_out (x : Vec Ideal S1x1x1x704x1024 .bf16) : View.ld x r0_4 = x := View.ld_unit_zero (funext fun a => by fin_cases a <;> rfl) _ x

theorem ld_rows (a : Fin 256) (l : Fin 1024) : View.ld x0 (rows o h) (ix2 a l) = x0 (ix2 ⟨o + a.val, by omega⟩ l) :=
  View.ld_unit_apply_of x0 _ _ _ _ _ (fun d => by fin_cases d <;> simp)

theorem hT_apply (a : Fin 256) (d : Fin 1024) : hT x0 x1 x2 x3 o h (ix2 a d) = hR x0 x1 x2 x3 ⟨o + a.val, by omega⟩ d := by
  unfold hT hR
  rw [ld_vec x1, ld_vec x2, ld_vec x3, hid_tile]
  exact congrArg (fun X => hid X _ _ _ d) (funext fun l => ld_rows x0 o ho h a l)

theorem emb_rows (a : Fin 256) (d : Fin 1024) : (rows o h).emb (ix2 a d) = (ix2 ⟨o + a.val, by omega⟩ d : S512x1024.Idx) := by
  funext ax
  fin_cases ax
  · exact Fin.ext (ValueKit.rect_emb_unit_val _ _ _ _ _)
  · exact Fin.ext ((ValueKit.rect_emb_unit_val _ _ _ _ _).trans (Nat.zero_add _))

theorem emb_chunk (k : Fin 4) (hk) (a : Fin 256) (f : Fin 704) :
    (chunk k.val o hk).emb (ix3 (0 : Fin 1) a f) = (ix3 k ⟨o + a.val, by omega⟩ f : S4x512x704.Idx) := by
  funext ax
  fin_cases ax
  · exact Fin.ext (ValueKit.rect_emb_unit_val _ _ _ _ _)
  · exact Fin.ext (ValueKit.rect_emb_unit_val _ _ _ _ _)
  · exact Fin.ext ((ValueKit.rect_emb_unit_val _ _ _ _ _).trans (Nat.zero_add _))

theorem idx_rows (x : S256x1024.Idx) : ∃ (a : Fin 256) (d : Fin 1024), x = ix2 a d := ⟨x 0, x 1, funext fun d => by fin_cases d <;> rfl⟩
theorem idx_chunk (x : S1x256x704.Idx) : ∃ (a : Fin 256) (f : Fin 704), x = ix3 (0 : Fin 1) a f :=
  ⟨x 1, x 2, funext fun d => by
    fin_cases d
    · exact Fin.ext (by have h : (x 0).val < 1 := (x 0).isLt; show (x 0).val = 0; omega)
    · rfl
    · rfl⟩

/-- A projection's tile of one shard, as stored. -/
theorem store_apply (hs : FVec Ideal S256x1024 .bf16) (w : Vec Ideal S1x1x1x1024x704 .bf16) (a : Fin 256) (f : Fin 704) :
    k0_pay9 hs w (ix3 (0 : Fin 1) a f) = mm hs w (ix2 a f) := by
  unfold k0_pay9 mm
  refine (shapeCast_apply _ _ _ (ix2 a f) ?_).trans rfl
  rw [Shape.rowMajor_val_two, Shape.rowMajor_val_three]
  show a.val * 704 + f.val = (0 * 256 + a.val) * 704 + f.val
  omega

theorem pay28_apply (T : FVec Ideal S256x1024 .f32) (i : S256x1024.Idx) : k0_pay28 T i = T i := rfl

/-- The half step's tile. -/
def xT (T : FVec Ideal S256x1024 .f32) : FVec Ideal S256x1024 .f32 :=
  addf (View.ld x0 (rows o h)) (mulf (broadcastTo S256x1024 (k0_pay4 (View.ld x4 r0_0)) broadcasts_S1x1024_S256x1024) T)

theorem xT_apply (T : FVec Ideal S256x1024 .f32) (a : Fin 256) (d : Fin 1024) :
    xT x0 x4 o h T (ix2 a d) = step (fun l => x0 (ix2 ⟨o + a.val, by omega⟩ l)) (fun l => x4 (ix2 0 l)) (fun l => T (ix2 a l)) d := by
  unfold xT step
  show View.ld x0 (rows o h) (ix2 a d) + broadcastTo S256x1024 _ broadcasts_S1x1024_S256x1024 (ix2 a d) * _ = _
  rw [row_apply, ld_rows x0 o ho h, ld_vec]
  rfl

/-- The block's tile. -/
def tT : FVec Ideal S256x1024 .f32 :=
  tot (hT x0 x1 x2 x3 o h) ![View.ld x5 r0_2, View.ld x6 r0_2, View.ld x7 r0_2, View.ld x8 r0_2]
    ![View.ld x9 r0_2, View.ld x10 r0_2, View.ld x11 r0_2, View.ld x12 r0_2]
    ![View.ld x13 r0_4, View.ld x14 r0_4, View.ld x15 r0_4, View.ld x16 r0_4]

variable {G U : Fin 1024 → Fin 2816 → EReal} {W : Fin 2816 → Fin 1024 → EReal}
  (hG : ∀ (k : Fin 4) (l : Fin 1024) (f : Fin 704), ![x5, x6, x7, x8] k (ix5 0 0 0 l f) = G l ⟨k.val * 704 + f.val, by omega⟩)
  (hU : ∀ (k : Fin 4) (l : Fin 1024) (f : Fin 704), ![x9, x10, x11, x12] k (ix5 0 0 0 l f) = U l ⟨k.val * 704 + f.val, by omega⟩)
  (hW : ∀ (k : Fin 4) (f : Fin 704) (d : Fin 1024), ![x13, x14, x15, x16] k (ix5 0 0 0 f d) = W ⟨k.val * 704 + f.val, by omega⟩ d)

include hG hU hW in
theorem tT_apply (a : Fin 256) (d : Fin 1024) :
    tT x0 x1 x2 x3 x5 x6 x7 x8 x9 x10 x11 x12 x13 x14 x15 x16 o h (ix2 a d) = down (hR x0 x1 x2 x3 ⟨o + a.val, by omega⟩) G U W d := by
  unfold tT
  simp only [ld_in, ld_out]
  rw [tot_apply _ _ _ _ hG hU hW]
  refine congrArg (fun H => down H G U W d) (funext fun l => hT_apply x0 x1 x2 x3 o ho h a l)

/-! ## The stored blocks -/

theorem out17 (y : S512x1024.Idx) : out0_17 (F := Ideal) x0 x1 x2 x3 x4 x5 x6 x7 x8 x9 x10 x11 x12 x13 x14 x15 x16 y = hR x0 x1 x2 x3 (y 0) (y 1) := by
  have e : out0_17 (F := Ideal) x0 x1 x2 x3 x4 x5 x6 x7 x8 x9 x10 x11 x12 x13 x14 x15 x16 = View.canon [⟨r0_8, hT x0 x1 x2 x3 256 inb_S512x1024_S256x1024_256_0⟩,
    ⟨r0_1, hT x0 x1 x2 x3 0 inb_S512x1024_S256x1024_0_0⟩] := rfl
  rw [e]
  refine View.canon_apply_of_pieces (Val := Elt Ideal) (S := S512x1024) (e := .bf16) (fun y : S512x1024.Idx =>
    hR x0 x1 x2 x3 (y 0) (y 1)) _ (fun p hp x => ?_) y (cover0_17 _ _ y)
  simp only [List.mem_cons, List.not_mem_nil, or_false] at hp
  rcases hp with rfl | rfl
  · obtain ⟨a, d, rfl⟩ := idx_rows x
    refine (hT_apply x0 x1 x2 x3 256 (by omega) inb_S512x1024_S256x1024_256_0 a d).trans (congrArg (fun y : S512x1024.Idx => hR x0 x1 x2 x3 (y 0) (y 1)) (emb_rows 256 (by omega) inb_S512x1024_S256x1024_256_0 a d).symm)
  · obtain ⟨a, d, rfl⟩ := idx_rows x
    refine (hT_apply x0 x1 x2 x3 0 (by omega) inb_S512x1024_S256x1024_0_0 a d).trans (congrArg (fun y : S512x1024.Idx => hR x0 x1 x2 x3 (y 0) (y 1)) (emb_rows 0 (by omega) inb_S512x1024_S256x1024_0_0 a d).symm)

include ho in
theorem store_up (w : Fin 4 → Vec Ideal S1x1x1x1024x704 .bf16)
    (hw : ∀ (k : Fin 4) (l : Fin 1024) (f : Fin 704), w k (ix5 0 0 0 l f) = G l ⟨k.val * 704 + f.val, by omega⟩)
    (k : Fin 4) (hk) (x : S1x256x704.Idx) : k0_pay9 (hT x0 x1 x2 x3 o h) (w k) x
      = (fun y : S4x512x704.Idx => up (hR x0 x1 x2 x3 (y 1)) G ⟨(y 0).val * 704 + (y 2).val, by
          have h0 : (y 0).val < 4 := (y 0).isLt
          have h2 : (y 2).val < 704 := (y 2).isLt
          omega⟩) ((chunk k.val o hk).emb x) := by
  obtain ⟨a, f, rfl⟩ := idx_chunk x
  rw [emb_chunk o ho, store_apply, mm_apply]
  unfold up
  refine Finset.sum_congr rfl fun l _ => ?_
  rw [hT_apply x0 x1 x2 x3 o ho, hw]

include hG in
theorem out18 (y : S4x512x704.Idx) : out0_18 (F := Ideal) x0 x1 x2 x3 x4 x5 x6 x7 x8 x9 x10 x11 x12 x13 x14 x15 x16 y = up (hR x0 x1 x2 x3 (y 1)) G ⟨(y 0).val * 704 + (y 2).val, by
    have h0 : (y 0).val < 4 := (y 0).isLt
    have h2 : (y 2).val < 704 := (y 2).isLt
    omega⟩ := by
  have e : out0_18 (F := Ideal) x0 x1 x2 x3 x4 x5 x6 x7 x8 x9 x10 x11 x12 x13 x14 x15 x16 = View.canon [
    ⟨r0_12, k0_pay9 (hT x0 x1 x2 x3 256 inb_S512x1024_S256x1024_256_0) (View.ld x8 r0_2)⟩,
    ⟨r0_11, k0_pay9 (hT x0 x1 x2 x3 256 inb_S512x1024_S256x1024_256_0) (View.ld x7 r0_2)⟩,
    ⟨r0_10, k0_pay9 (hT x0 x1 x2 x3 256 inb_S512x1024_S256x1024_256_0) (View.ld x6 r0_2)⟩,
    ⟨r0_9, k0_pay9 (hT x0 x1 x2 x3 256 inb_S512x1024_S256x1024_256_0) (View.ld x5 r0_2)⟩,
    ⟨r0_7, k0_pay9 (hT x0 x1 x2 x3 0 inb_S512x1024_S256x1024_0_0) (View.ld x8 r0_2)⟩,
    ⟨r0_6, k0_pay9 (hT x0 x1 x2 x3 0 inb_S512x1024_S256x1024_0_0) (View.ld x7 r0_2)⟩,
    ⟨r0_5, k0_pay9 (hT x0 x1 x2 x3 0 inb_S512x1024_S256x1024_0_0) (View.ld x6 r0_2)⟩,
    ⟨r0_3, k0_pay9 (hT x0 x1 x2 x3 0 inb_S512x1024_S256x1024_0_0) (View.ld x5 r0_2)⟩] := rfl
  rw [e]
  simp only [ld_in]
  refine View.canon_apply_of_pieces (Val := Elt Ideal) (S := S4x512x704) (e := .bf16) (fun y : S4x512x704.Idx =>
    up (hR x0 x1 x2 x3 (y 1)) G ⟨(y 0).val * 704 + (y 2).val, by
      have h0 : (y 0).val < 4 := (y 0).isLt
      have h2 : (y 2).val < 704 := (y 2).isLt
      omega⟩) _ (fun p hp x => ?_) y (cover0_18 _ _ _ _ _ _ _ _ y)
  simp only [List.mem_cons, List.not_mem_nil, or_false] at hp
  rcases hp with rfl | rfl | rfl | rfl | rfl | rfl | rfl | rfl
  · exact store_up x0 x1 x2 x3 256 (by omega) inb_S512x1024_S256x1024_256_0 ![x5, x6, x7, x8] hG 3 inb_S4x512x704_S1x256x704_3_256_0 x
  · exact store_up x0 x1 x2 x3 256 (by omega) inb_S512x1024_S256x1024_256_0 ![x5, x6, x7, x8] hG 2 inb_S4x512x704_S1x256x704_2_256_0 x
  · exact store_up x0 x1 x2 x3 256 (by omega) inb_S512x1024_S256x1024_256_0 ![x5, x6, x7, x8] hG 1 inb_S4x512x704_S1x256x704_1_256_0 x
  · exact store_up x0 x1 x2 x3 256 (by omega) inb_S512x1024_S256x1024_256_0 ![x5, x6, x7, x8] hG 0 inb_S4x512x704_S1x256x704_0_256_0 x
  · exact store_up x0 x1 x2 x3 0 (by omega) inb_S512x1024_S256x1024_0_0 ![x5, x6, x7, x8] hG 3 inb_S4x512x704_S1x256x704_3_0_0 x
  · exact store_up x0 x1 x2 x3 0 (by omega) inb_S512x1024_S256x1024_0_0 ![x5, x6, x7, x8] hG 2 inb_S4x512x704_S1x256x704_2_0_0 x
  · exact store_up x0 x1 x2 x3 0 (by omega) inb_S512x1024_S256x1024_0_0 ![x5, x6, x7, x8] hG 1 inb_S4x512x704_S1x256x704_1_0_0 x
  · exact store_up x0 x1 x2 x3 0 (by omega) inb_S512x1024_S256x1024_0_0 ![x5, x6, x7, x8] hG 0 inb_S4x512x704_S1x256x704_0_0_0 x

include hU in
theorem out19 (y : S4x512x704.Idx) : out0_19 (F := Ideal) x0 x1 x2 x3 x4 x5 x6 x7 x8 x9 x10 x11 x12 x13 x14 x15 x16 y = up (hR x0 x1 x2 x3 (y 1)) U ⟨(y 0).val * 704 + (y 2).val, by
    have h0 : (y 0).val < 4 := (y 0).isLt
    have h2 : (y 2).val < 704 := (y 2).isLt
    omega⟩ := by
  have e : out0_19 (F := Ideal) x0 x1 x2 x3 x4 x5 x6 x7 x8 x9 x10 x11 x12 x13 x14 x15 x16 = View.canon [
    ⟨r0_12, k0_pay9 (hT x0 x1 x2 x3 256 inb_S512x1024_S256x1024_256_0) (View.ld x12 r0_2)⟩,
    ⟨r0_11, k0_pay9 (hT x0 x1 x2 x3 256 inb_S512x1024_S256x1024_256_0) (View.ld x11 r0_2)⟩,
    ⟨r0_10, k0_pay9 (hT x0 x1 x2 x3 256 inb_S512x1024_S256x1024_256_0) (View.ld x10 r0_2)⟩,
    ⟨r0_9, k0_pay9 (hT x0 x1 x2 x3 256 inb_S512x1024_S256x1024_256_0) (View.ld x9 r0_2)⟩,
    ⟨r0_7, k0_pay9 (hT x0 x1 x2 x3 0 inb_S512x1024_S256x1024_0_0) (View.ld x12 r0_2)⟩,
    ⟨r0_6, k0_pay9 (hT x0 x1 x2 x3 0 inb_S512x1024_S256x1024_0_0) (View.ld x11 r0_2)⟩,
    ⟨r0_5, k0_pay9 (hT x0 x1 x2 x3 0 inb_S512x1024_S256x1024_0_0) (View.ld x10 r0_2)⟩,
    ⟨r0_3, k0_pay9 (hT x0 x1 x2 x3 0 inb_S512x1024_S256x1024_0_0) (View.ld x9 r0_2)⟩] := rfl
  rw [e]
  simp only [ld_in]
  refine View.canon_apply_of_pieces (Val := Elt Ideal) (S := S4x512x704) (e := .bf16) (fun y : S4x512x704.Idx =>
    up (hR x0 x1 x2 x3 (y 1)) U ⟨(y 0).val * 704 + (y 2).val, by
      have h0 : (y 0).val < 4 := (y 0).isLt
      have h2 : (y 2).val < 704 := (y 2).isLt
      omega⟩) _ (fun p hp x => ?_) y (cover0_19 _ _ _ _ _ _ _ _ y)
  simp only [List.mem_cons, List.not_mem_nil, or_false] at hp
  rcases hp with rfl | rfl | rfl | rfl | rfl | rfl | rfl | rfl
  · exact store_up x0 x1 x2 x3 256 (by omega) inb_S512x1024_S256x1024_256_0 ![x9, x10, x11, x12] hU 3 inb_S4x512x704_S1x256x704_3_256_0 x
  · exact store_up x0 x1 x2 x3 256 (by omega) inb_S512x1024_S256x1024_256_0 ![x9, x10, x11, x12] hU 2 inb_S4x512x704_S1x256x704_2_256_0 x
  · exact store_up x0 x1 x2 x3 256 (by omega) inb_S512x1024_S256x1024_256_0 ![x9, x10, x11, x12] hU 1 inb_S4x512x704_S1x256x704_1_256_0 x
  · exact store_up x0 x1 x2 x3 256 (by omega) inb_S512x1024_S256x1024_256_0 ![x9, x10, x11, x12] hU 0 inb_S4x512x704_S1x256x704_0_256_0 x
  · exact store_up x0 x1 x2 x3 0 (by omega) inb_S512x1024_S256x1024_0_0 ![x9, x10, x11, x12] hU 3 inb_S4x512x704_S1x256x704_3_0_0 x
  · exact store_up x0 x1 x2 x3 0 (by omega) inb_S512x1024_S256x1024_0_0 ![x9, x10, x11, x12] hU 2 inb_S4x512x704_S1x256x704_2_0_0 x
  · exact store_up x0 x1 x2 x3 0 (by omega) inb_S512x1024_S256x1024_0_0 ![x9, x10, x11, x12] hU 1 inb_S4x512x704_S1x256x704_1_0_0 x
  · exact store_up x0 x1 x2 x3 0 (by omega) inb_S512x1024_S256x1024_0_0 ![x9, x10, x11, x12] hU 0 inb_S4x512x704_S1x256x704_0_0_0 x

include ho hG hU hW in
theorem fT_block (x : S256x1024.Idx) : k0_pay28 (tT x0 x1 x2 x3 x5 x6 x7 x8 x9 x10 x11 x12 x13 x14 x15 x16 o h) x
    = (fun y : S512x1024.Idx => down (hR x0 x1 x2 x3 (y 0)) G U W (y 1)) ((rows o h).emb x) := by
  obtain ⟨a, d, rfl⟩ := idx_rows x
  rw [emb_rows o ho, pay28_apply, tT_apply x0 x1 x2 x3 x5 x6 x7 x8 x9 x10 x11 x12 x13 x14 x15 x16 o ho h hG hU hW]

include hG hU hW in
theorem out21 (y : S512x1024.Idx) : out0_21 (F := Ideal) x0 x1 x2 x3 x4 x5 x6 x7 x8 x9 x10 x11 x12 x13 x14 x15 x16 y = down (hR x0 x1 x2 x3 (y 0)) G U W (y 1) := by
  have e : out0_21 (F := Ideal) x0 x1 x2 x3 x4 x5 x6 x7 x8 x9 x10 x11 x12 x13 x14 x15 x16 = View.canon [⟨r0_8, k0_pay28 (tT x0 x1 x2 x3 x5 x6 x7 x8 x9 x10 x11 x12 x13 x14 x15 x16 256 inb_S512x1024_S256x1024_256_0)⟩,
    ⟨r0_1, k0_pay28 (tT x0 x1 x2 x3 x5 x6 x7 x8 x9 x10 x11 x12 x13 x14 x15 x16 0 inb_S512x1024_S256x1024_0_0)⟩] := rfl
  rw [e]
  refine View.canon_apply_of_pieces (Val := Elt Ideal) (S := S512x1024) (e := .bf16) (fun y : S512x1024.Idx =>
    down (hR x0 x1 x2 x3 (y 0)) G U W (y 1)) _ (fun p hp x => ?_) y (cover0_21 _ _ y)
  simp only [List.mem_cons, List.not_mem_nil, or_false] at hp
  rcases hp with rfl | rfl
  · exact fT_block x0 x1 x2 x3 x5 x6 x7 x8 x9 x10 x11 x12 x13 x14 x15 x16 256 (by omega) inb_S512x1024_S256x1024_256_0 hG hU hW x
  · exact fT_block x0 x1 x2 x3 x5 x6 x7 x8 x9 x10 x11 x12 x13 x14 x15 x16 0 (by omega) inb_S512x1024_S256x1024_0_0 hG hU hW x

include hG hU hW in
theorem xT_tile (a : Fin 256) (d : Fin 1024) : xT x0 x4 o h (tT x0 x1 x2 x3 x5 x6 x7 x8 x9 x10 x11 x12 x13 x14 x15 x16 o h) (ix2 a d)
    = step (fun l => x0 (ix2 ⟨o + a.val, by omega⟩ l)) (fun l => x4 (ix2 0 l))
        (down (hR x0 x1 x2 x3 ⟨o + a.val, by omega⟩) G U W) d := by
  rw [xT_apply x0 x4 o ho]
  exact congrArg (fun T => step _ _ T d) (funext fun l => tT_apply x0 x1 x2 x3 x5 x6 x7 x8 x9 x10 x11 x12 x13 x14 x15 x16 o ho h hG hU hW a l)

include hG hU hW in
theorem out20 (y : S512x1024.Idx) : out0_20 (F := Ideal) x0 x1 x2 x3 x4 x5 x6 x7 x8 x9 x10 x11 x12 x13 x14 x15 x16 y = step (fun l => x0 (ix2 (y 0) l)) (fun l => x4 (ix2 0 l)) (down (hR x0 x1 x2 x3 (y 0)) G U W) (y 1) := by
  have e : out0_20 (F := Ideal) x0 x1 x2 x3 x4 x5 x6 x7 x8 x9 x10 x11 x12 x13 x14 x15 x16 = View.canon [⟨r0_8, xT x0 x4 256 inb_S512x1024_S256x1024_256_0 (tT x0 x1 x2 x3 x5 x6 x7 x8 x9 x10 x11 x12 x13 x14 x15 x16 256 inb_S512x1024_S256x1024_256_0)⟩,
    ⟨r0_1, xT x0 x4 0 inb_S512x1024_S256x1024_0_0 (tT x0 x1 x2 x3 x5 x6 x7 x8 x9 x10 x11 x12 x13 x14 x15 x16 0 inb_S512x1024_S256x1024_0_0)⟩] := rfl
  rw [e]
  refine View.canon_apply_of_pieces (Val := Elt Ideal) (S := S512x1024) (e := .f32) (fun y : S512x1024.Idx =>
    step (fun l => x0 (ix2 (y 0) l)) (fun l => x4 (ix2 0 l)) (down (hR x0 x1 x2 x3 (y 0)) G U W) (y 1)) _ (fun p hp x => ?_) y (cover0_20 _ _ y)
  simp only [List.mem_cons, List.not_mem_nil, or_false] at hp
  rcases hp with rfl | rfl
  · obtain ⟨a, d, rfl⟩ := idx_rows x
    refine (xT_tile x0 x1 x2 x3 x4 x5 x6 x7 x8 x9 x10 x11 x12 x13 x14 x15 x16 256 (by omega) inb_S512x1024_S256x1024_256_0 hG hU hW a d).trans (congrArg (fun y : S512x1024.Idx => step (fun l => x0 (ix2 (y 0) l)) (fun l => x4 (ix2 0 l)) (down (hR x0 x1 x2 x3 (y 0)) G U W) (y 1)) (emb_rows 256 (by omega) inb_S512x1024_S256x1024_256_0 a d).symm)
  · obtain ⟨a, d, rfl⟩ := idx_rows x
    refine (xT_tile x0 x1 x2 x3 x4 x5 x6 x7 x8 x9 x10 x11 x12 x13 x14 x15 x16 0 (by omega) inb_S512x1024_S256x1024_0_0 hG hU hW a d).trans (congrArg (fun y : S512x1024.Idx => step (fun l => x0 (ix2 (y 0) l)) (fun l => x4 (ix2 0 l)) (down (hR x0 x1 x2 x3 (y 0)) G U W) (y 1)) (emb_rows 0 (by omega) inb_S512x1024_S256x1024_0_0 a d).symm)

end

/-! ## The arrays -/

variable (m : (ℓ : Loc nD τ sig) → Buf (Elt Ideal) ℓ) (ρ : Dev nD → PrngReg)

theorem index0 : ∀ t : Fin grid0.N, (win0_0.index t = ![t.val, 0] ∧ win0_1.index t = ![0, 0] ∧ win0_2.index t = ![0, 0]
      ∧ win0_3.index t = ![0, 0] ∧ win0_4.index t = ![0, 0])
    ∧ (win0_5.index t = ![0, 0, 0, 0, 0] ∧ win0_6.index t = ![1, 0, 0, 0, 0] ∧ win0_7.index t = ![2, 0, 0, 0, 0] ∧ win0_8.index t = ![3, 0, 0, 0, 0])
    ∧ (win0_9.index t = ![0, 0, 0, 0, 0] ∧ win0_10.index t = ![1, 0, 0, 0, 0] ∧ win0_11.index t = ![2, 0, 0, 0, 0] ∧ win0_12.index t = ![3, 0, 0, 0, 0])
    ∧ (win0_13.index t = ![0, 0, 0, 0, 0] ∧ win0_14.index t = ![1, 0, 0, 0, 0] ∧ win0_15.index t = ![2, 0, 0, 0, 0] ∧ win0_16.index t = ![3, 0, 0, 0, 0])
    ∧ (win0_17.index t = ![t.val, 0] ∧ win0_18.index t = ![0, t.val, 0] ∧ win0_19.index t = ![0, t.val, 0]
      ∧ win0_20.index t = ![t.val, 0] ∧ win0_21.index t = ![t.val, 0]) := by decide +kernel

theorem iblk0 (c : Dev nD) (t : Fin cfg0.N) (r : Fin 512) (l : Fin 1024) : iblk m c 0 t (ix2 r l)
    = V m c main_arg0 (ix2 ⟨t.val * 512 + r.val, by have := t.isLt; have : cfg0.N = 32 := N_0; omega⟩ l) := by
  have e := (index0 t).1.1
  unfold iblk
  blk_ext [e]

theorem iblk1 (c : Dev nD) (t : Fin cfg0.N) (l : Fin 1024) : iblk m c 1 t (ix2 (0 : Fin 1) l) = V m c main_v9 (ix2 (0 : Fin 1) l) := by
  have e := (index0 t).1.2.1
  unfold iblk
  blk_ext [e]

theorem iblk2 (c : Dev nD) (t : Fin cfg0.N) (l : Fin 1024) : iblk m c 2 t (ix2 (0 : Fin 1) l) = V m c main_arg3 (ix2 (0 : Fin 1) l) := by
  have e := (index0 t).1.2.2.1
  unfold iblk
  blk_ext [e]

theorem iblk3 (c : Dev nD) (t : Fin cfg0.N) (l : Fin 1024) : iblk m c 3 t (ix2 (0 : Fin 1) l) = V m c main_arg2 (ix2 (0 : Fin 1) l) := by
  have e := (index0 t).1.2.2.2.1
  unfold iblk
  blk_ext [e]

theorem iblk4 (c : Dev nD) (t : Fin cfg0.N) (l : Fin 1024) : iblk m c 4 t (ix2 (0 : Fin 1) l) = V m c main_arg4 (ix2 (0 : Fin 1) l) := by
  have e := (index0 t).1.2.2.2.2
  unfold iblk
  blk_ext [e]

theorem iblk5 (c : Dev nD) (t : Fin cfg0.N) (l : Fin 1024) (f : Fin 704) :
    iblk m c 5 t (ix5 (0 : Fin 1) (0 : Fin 1) (0 : Fin 1) l f) = V m c main_v2 (ix5 (0 : Fin 4) (0 : Fin 2) (0 : Fin 2) l f) := by
  have e := (index0 t).2.1.1
  unfold iblk
  blk_ext [e]

theorem iblk6 (c : Dev nD) (t : Fin cfg0.N) (l : Fin 1024) (f : Fin 704) :
    iblk m c 6 t (ix5 (0 : Fin 1) (0 : Fin 1) (0 : Fin 1) l f) = V m c main_v2 (ix5 (1 : Fin 4) (0 : Fin 2) (0 : Fin 2) l f) := by
  have e := (index0 t).2.1.2.1
  unfold iblk
  blk_ext [e]

theorem iblk7 (c : Dev nD) (t : Fin cfg0.N) (l : Fin 1024) (f : Fin 704) :
    iblk m c 7 t (ix5 (0 : Fin 1) (0 : Fin 1) (0 : Fin 1) l f) = V m c main_v2 (ix5 (2 : Fin 4) (0 : Fin 2) (0 : Fin 2) l f) := by
  have e := (index0 t).2.1.2.2.1
  unfold iblk
  blk_ext [e]
  rfl

theorem iblk8 (c : Dev nD) (t : Fin cfg0.N) (l : Fin 1024) (f : Fin 704) :
    iblk m c 8 t (ix5 (0 : Fin 1) (0 : Fin 1) (0 : Fin 1) l f) = V m c main_v2 (ix5 (3 : Fin 4) (0 : Fin 2) (0 : Fin 2) l f) := by
  have e := (index0 t).2.1.2.2.2
  unfold iblk
  blk_ext [e]
  rfl

theorem iblk9 (c : Dev nD) (t : Fin cfg0.N) (l : Fin 1024) (f : Fin 704) :
    iblk m c 9 t (ix5 (0 : Fin 1) (0 : Fin 1) (0 : Fin 1) l f) = V m c main_v5 (ix5 (0 : Fin 4) (0 : Fin 2) (0 : Fin 2) l f) := by
  have e := (index0 t).2.2.1.1
  unfold iblk
  blk_ext [e]

theorem iblk10 (c : Dev nD) (t : Fin cfg0.N) (l : Fin 1024) (f : Fin 704) :
    iblk m c 10 t (ix5 (0 : Fin 1) (0 : Fin 1) (0 : Fin 1) l f) = V m c main_v5 (ix5 (1 : Fin 4) (0 : Fin 2) (0 : Fin 2) l f) := by
  have e := (index0 t).2.2.1.2.1
  unfold iblk
  blk_ext [e]

theorem iblk11 (c : Dev nD) (t : Fin cfg0.N) (l : Fin 1024) (f : Fin 704) :
    iblk m c 11 t (ix5 (0 : Fin 1) (0 : Fin 1) (0 : Fin 1) l f) = V m c main_v5 (ix5 (2 : Fin 4) (0 : Fin 2) (0 : Fin 2) l f) := by
  have e := (index0 t).2.2.1.2.2.1
  unfold iblk
  blk_ext [e]
  rfl

theorem iblk12 (c : Dev nD) (t : Fin cfg0.N) (l : Fin 1024) (f : Fin 704) :
    iblk m c 12 t (ix5 (0 : Fin 1) (0 : Fin 1) (0 : Fin 1) l f) = V m c main_v5 (ix5 (3 : Fin 4) (0 : Fin 2) (0 : Fin 2) l f) := by
  have e := (index0 t).2.2.1.2.2.2
  unfold iblk
  blk_ext [e]
  rfl

theorem iblk13 (c : Dev nD) (t : Fin cfg0.N) (l : Fin 704) (f : Fin 1024) :
    iblk m c 13 t (ix5 (0 : Fin 1) (0 : Fin 1) (0 : Fin 1) l f) = V m c main_v8 (ix5 (0 : Fin 4) (0 : Fin 2) (0 : Fin 2) l f) := by
  have e := (index0 t).2.2.2.1.1
  unfold iblk
  blk_ext [e]

theorem iblk14 (c : Dev nD) (t : Fin cfg0.N) (l : Fin 704) (f : Fin 1024) :
    iblk m c 14 t (ix5 (0 : Fin 1) (0 : Fin 1) (0 : Fin 1) l f) = V m c main_v8 (ix5 (1 : Fin 4) (0 : Fin 2) (0 : Fin 2) l f) := by
  have e := (index0 t).2.2.2.1.2.1
  unfold iblk
  blk_ext [e]

theorem iblk15 (c : Dev nD) (t : Fin cfg0.N) (l : Fin 704) (f : Fin 1024) :
    iblk m c 15 t (ix5 (0 : Fin 1) (0 : Fin 1) (0 : Fin 1) l f) = V m c main_v8 (ix5 (2 : Fin 4) (0 : Fin 2) (0 : Fin 2) l f) := by
  have e := (index0 t).2.2.2.1.2.2.1
  unfold iblk
  blk_ext [e]
  rfl

theorem iblk16 (c : Dev nD) (t : Fin cfg0.N) (l : Fin 704) (f : Fin 1024) :
    iblk m c 16 t (ix5 (0 : Fin 1) (0 : Fin 1) (0 : Fin 1) l f) = V m c main_v8 (ix5 (3 : Fin 4) (0 : Fin 2) (0 : Fin 2) l f) := by
  have e := (index0 t).2.2.2.1.2.2.2
  unfold iblk
  blk_ext [e]
  rfl

theorem V_v9 (c : Dev nD) (l : Fin 1024) : V m c main_v9 (ix2 (0 : Fin 1) l) = m ((c : Thread nD τ).loc main_arg1) (ix1 l) := by
  show StableHlo.after hostOps0 _ (Proc.devRef .tc main_v9) _ = _
  after_reads_at
  rfl
theorem V_v2 (c : Dev nD) (k : Fin 4) (l : Fin 1024) (f : Fin 704) : V m c main_v2 (ix5 k (0 : Fin 2) (0 : Fin 2) l f)
    = m ((c : Thread nD τ).loc main_arg5) (ix4 (0 : Fin 2) (0 : Fin 2) l ⟨k.val * 704 + f.val, by omega⟩) := by
  show StableHlo.after hostOps0 _ (Proc.devRef .tc main_v2) _ = _
  after_reads_at
  rfl
theorem V_v5 (c : Dev nD) (k : Fin 4) (l : Fin 1024) (f : Fin 704) : V m c main_v5 (ix5 k (0 : Fin 2) (0 : Fin 2) l f)
    = m ((c : Thread nD τ).loc main_arg6) (ix4 (0 : Fin 2) (0 : Fin 2) l ⟨k.val * 704 + f.val, by omega⟩) := by
  show StableHlo.after hostOps0 _ (Proc.devRef .tc main_v5) _ = _
  after_reads_at
  rfl
theorem V_v8 (c : Dev nD) (k : Fin 4) (f : Fin 704) (d : Fin 1024) : V m c main_v8 (ix5 k (0 : Fin 2) (0 : Fin 2) f d)
    = m ((c : Thread nD τ).loc main_arg7) (ix4 (0 : Fin 2) (0 : Fin 2) ⟨k.val * 704 + f.val, by omega⟩ d) := by
  show StableHlo.after hostOps0 _ (Proc.devRef .tc main_v8) _ = _
  after_reads_at
  rfl
theorem V_arg0 (c : Dev nD) : V m c main_arg0 = m ((c : Thread nD τ).loc main_arg0) := by
  show StableHlo.after hostOps0 _ (Proc.devRef .tc main_arg0) = _
  after_reads_at
theorem V_arg2 (c : Dev nD) : V m c main_arg2 = m ((c : Thread nD τ).loc main_arg2) := by
  show StableHlo.after hostOps0 _ (Proc.devRef .tc main_arg2) = _
  after_reads_at
theorem V_arg3 (c : Dev nD) : V m c main_arg3 = m ((c : Thread nD τ).loc main_arg3) := by
  show StableHlo.after hostOps0 _ (Proc.devRef .tc main_arg3) = _
  after_reads_at
theorem V_arg4 (c : Dev nD) : V m c main_arg4 = m ((c : Thread nD τ).loc main_arg4) := by
  show StableHlo.after hostOps0 _ (Proc.devRef .tc main_arg4) = _
  after_reads_at

/-- A token's row of hidden values from the argument arrays. -/
def rowH (x : S16384x1024.Idx → EReal) (g : S1024.Idx → EReal) (b s : S1x1024.Idx → EReal) (t : Fin 16384) : Fin 1024 → EReal :=
  hid (fun l => x (ix2 t l)) (fun l => g (ix1 l)) (fun l => s (ix2 0 l)) (fun l => b (ix2 0 l))

/-- One layer's and half's input weights, and its output weights. -/
def wIn (w : S2x2x1024x2816.Idx → EReal) : Fin 1024 → Fin 2816 → EReal := fun l j => w (ix4 0 0 l j)
def wOut (w : S2x2x2816x1024.Idx → EReal) : Fin 2816 → Fin 1024 → EReal := fun j d => w (ix4 0 0 j d)

/-- A projection's results by shard, token and the shard's feature. -/
def resUp (x : S16384x1024.Idx → EReal) (g : S1024.Idx → EReal) (b s : S1x1024.Idx → EReal) (w : S2x2x1024x2816.Idx → EReal)
    (k : Fin 4) (t : Fin 16384) (f : Fin 704) : EReal := up (rowH x g b s t) (wIn w) ⟨k.val * 704 + f.val, by omega⟩

/-- The block's results by token. -/
def resDown (x : S16384x1024.Idx → EReal) (g : S1024.Idx → EReal) (b s : S1x1024.Idx → EReal) (wg wu : S2x2x1024x2816.Idx → EReal)
    (wd : S2x2x2816x1024.Idx → EReal) (t : Fin 16384) : Fin 1024 → EReal := down (rowH x g b s t) (wIn wg) (wIn wu) (wOut wd)

/-- The half step's results by token. -/
def resStep (x : S16384x1024.Idx → EReal) (g : S1024.Idx → EReal) (b s gate : S1x1024.Idx → EReal) (wg wu : S2x2x1024x2816.Idx → EReal)
    (wd : S2x2x2816x1024.Idx → EReal) (t : Fin 16384) : Fin 1024 → EReal :=
  step (fun l => x (ix2 t l)) (fun l => gate (ix2 0 l)) (resDown x g b s wg wu wd t)

theorem blkX (c : Dev nD) (t : Fin cfg0.N) (r : Fin 512) (t' : Fin 16384) (ht : t'.val = t.val * 512 + r.val) :
    (fun l : Fin 1024 => iblk m c 0 t (ix2 r l)) = fun l => m ((c : Thread nD τ).loc main_arg0) (ix2 t' l) :=
  funext fun l => (iblk0 m c t r l).trans ((congrFun (V_arg0 m c) _).trans
    (congrArg (fun t => m ((c : Thread nD τ).loc main_arg0) (ix2 t l)) (Fin.ext ht.symm)))

theorem blkH (c : Dev nD) (t : Fin cfg0.N) (r : Fin 512) (t' : Fin 16384) (ht : t'.val = t.val * 512 + r.val) :
    hR (iblk m c 0 t) (iblk m c 1 t) (iblk m c 2 t) (iblk m c 3 t) r = rowH (m ((c : Thread nD τ).loc main_arg0)) (m ((c : Thread nD τ).loc main_arg1)) (m ((c : Thread nD τ).loc main_arg2)) (m ((c : Thread nD τ).loc main_arg3)) t' := by
  have h1 : (fun l : Fin 1024 => iblk m c 1 t (ix2 (0 : Fin 1) l)) = fun l => m ((c : Thread nD τ).loc main_arg1) (ix1 l) :=
    funext fun l => (iblk1 m c t l).trans (V_v9 m c l)
  have h2 : (fun l : Fin 1024 => iblk m c 2 t (ix2 (0 : Fin 1) l)) = fun l => m ((c : Thread nD τ).loc main_arg3) (ix2 (0 : Fin 1) l) :=
    funext fun l => (iblk2 m c t l).trans (congrFun (V_arg3 m c) _)
  have h3 : (fun l : Fin 1024 => iblk m c 3 t (ix2 (0 : Fin 1) l)) = fun l => m ((c : Thread nD τ).loc main_arg2) (ix2 (0 : Fin 1) l) :=
    funext fun l => (iblk3 m c t l).trans (congrFun (V_arg2 m c) _)
  unfold hR rowH
  exact congr (congr (congr (congrArg hid (blkX m c t r t' ht)) h1) h2) h3

theorem blkG (c : Dev nD) (t : Fin cfg0.N) (k : Fin 4) (l : Fin 1024) (f : Fin 704) :
    (![iblk m c 5 t, iblk m c 6 t, iblk m c 7 t, iblk m c 8 t] : Fin 4 → Vec Ideal S1x1x1x1024x704 .bf16) k (ix5 0 0 0 l f)
      = wIn (m ((c : Thread nD τ).loc main_arg5)) l ⟨k.val * 704 + f.val, by omega⟩ := by
  fin_cases k
  · exact (iblk5 m c t l f).trans (V_v2 m c 0 l f)
  · exact (iblk6 m c t l f).trans (V_v2 m c 1 l f)
  · exact (iblk7 m c t l f).trans (V_v2 m c 2 l f)
  · exact (iblk8 m c t l f).trans (V_v2 m c 3 l f)

theorem blkU (c : Dev nD) (t : Fin cfg0.N) (k : Fin 4) (l : Fin 1024) (f : Fin 704) :
    (![iblk m c 9 t, iblk m c 10 t, iblk m c 11 t, iblk m c 12 t] : Fin 4 → Vec Ideal S1x1x1x1024x704 .bf16) k (ix5 0 0 0 l f)
      = wIn (m ((c : Thread nD τ).loc main_arg6)) l ⟨k.val * 704 + f.val, by omega⟩ := by
  fin_cases k
  · exact (iblk9 m c t l f).trans (V_v5 m c 0 l f)
  · exact (iblk10 m c t l f).trans (V_v5 m c 1 l f)
  · exact (iblk11 m c t l f).trans (V_v5 m c 2 l f)
  · exact (iblk12 m c t l f).trans (V_v5 m c 3 l f)

theorem blkW (c : Dev nD) (t : Fin cfg0.N) (k : Fin 4) (f : Fin 704) (d : Fin 1024) :
    (![iblk m c 13 t, iblk m c 14 t, iblk m c 15 t, iblk m c 16 t] : Fin 4 → Vec Ideal S1x1x1x704x1024 .bf16) k (ix5 0 0 0 f d)
      = wOut (m ((c : Thread nD τ).loc main_arg7)) ⟨k.val * 704 + f.val, by omega⟩ d := by
  fin_cases k
  · exact (iblk13 m c t f d).trans (V_v8 m c 0 f d)
  · exact (iblk14 m c t f d).trans (V_v8 m c 1 f d)
  · exact (iblk15 m c t f d).trans (V_v8 m c 2 f d)
  · exact (iblk16 m c t f d).trans (V_v8 m c 3 f d)

end Cert.Ffn

end
-- ==== Proof.FfnRes.lean ====
/- The forward block's result arrays. -/
module

public import proofs.«01_k».proof.Proof.FfnArr

@[expose] public section

set_option maxRecDepth 16384

noncomputable section

namespace Cert.Ffn

open Cert.Kernel2Ideal Cert.Kernel2Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

theorem block17 (c : Dev nD) (t : Fin cfg0.N) (y : S512x1024.Idx) (i : S16384x1024.Idx) (h0 : (i 0).val = t.val * 512 + (y 0).val)
    (h1 : (i 1).val = (y 1).val) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = rowH (m ((c : Thread nD τ).loc main_arg0)) (m ((c : Thread nD τ).loc main_arg1)) (m ((c : Thread nD τ).loc main_arg2)) (m ((c : Thread nD τ).loc main_arg3)) (i 0) (i 1) := by
  refine (out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y).trans ?_
  rw [blkH m c t (y 0) (i 0) h0]
  exact congrArg _ (Fin.ext h1.symm)

/-- The saved hidden values. -/
theorem final17 (c : Dev nD) : (dats m 0 c).arrAt 17 cfg0.N = fun i : S16384x1024.Idx => rowH (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 17 _ (by decide +kernel) fun t hf y => ?_
  have e := (index0 t).2.2.2.2.1
  blk_simp [e]
  rw [after0_17]
  refine block17 m c t y ((win0_17.blk t).view.emb y) ?_ ?_
  · blk_simp [e]
  · blk_simp [e]

theorem block18 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (m ((c : Thread nD τ).loc main_arg5)) (i 0) (i 1) (i 2) := by
  refine (out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) y).trans ?_
  unfold resUp
  rw [blkH m c t (y 1) (i 1) h1]
  exact congrArg _ (Fin.ext (by show (y 0).val * 704 + (y 2).val = (i 0).val * 704 + (i 2).val; rw [h0, h2]))

/-- The saved projection's values. -/
theorem final18 (c : Dev nD) : (dats m 0 c).arrAt 18 cfg0.N
    = fun i : S4x16384x704.Idx => resUp (m ((c : Thread nD τ).loc main_arg0)) (m ((c : Thread nD τ).loc main_arg1)) (m ((c : Thread nD τ).loc main_arg2)) (m ((c : Thread nD τ).loc main_arg3)) (m ((c : Thread nD τ).loc main_arg5)) (i 0) (i 1) (i 2) := by
  refine (dats m 0 c).arrAt_eq_of_covers 18 _ (by decide +kernel) fun t hf y => ?_
  have e := (index0 t).2.2.2.2.2.1
  blk_simp [e]
  rw [after0_18]
  refine block18 m c t y ((win0_18.blk t).view.emb y) ?_ ?_ ?_
  · blk_simp [e]
  · blk_simp [e]
  · blk_simp [e]

theorem block19 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (m ((c : Thread nD τ).loc main_arg6)) (i 0) (i 1) (i 2) := by
  refine (out19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkU m c t) y).trans ?_
  unfold resUp
  rw [blkH m c t (y 1) (i 1) h1]
  exact congrArg _ (Fin.ext (by show (y 0).val * 704 + (y 2).val = (i 0).val * 704 + (i 2).val; rw [h0, h2]))

/-- The saved projection's values. -/
theorem final19 (c : Dev nD) : (dats m 0 c).arrAt 19 cfg0.N
    = fun i : S4x16384x704.Idx => resUp (m ((c : Thread nD τ).loc main_arg0)) (m ((c : Thread nD τ).loc main_arg1)) (m ((c : Thread nD τ).loc main_arg2)) (m ((c : Thread nD τ).loc main_arg3)) (m ((c : Thread nD τ).loc main_arg6)) (i 0) (i 1) (i 2) := by
  refine (dats m 0 c).arrAt_eq_of_covers 19 _ (by decide +kernel) fun t hf y => ?_
  have e := (index0 t).2.2.2.2.2.2.1
  blk_simp [e]
  rw [after0_19]
  refine block19 m c t y ((win0_19.blk t).view.emb y) ?_ ?_ ?_
  · blk_simp [e]
  · blk_simp [e]
  · blk_simp [e]

theorem block20 (c : Dev nD) (t : Fin cfg0.N) (y : S512x1024.Idx) (i : S16384x1024.Idx) (h0 : (i 0).val = t.val * 512 + (y 0).val)
    (h1 : (i 1).val = (y 1).val) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resStep (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) := by
  refine (out20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_
  unfold resStep resDown
  rw [blkH m c t (y 0) (i 0) h0, blkX m c t (y 0) (i 0) h0,
    show (fun l : Fin 1024 => iblk m c 4 t (ix2 (0 : Fin 1) l)) = fun l => m ((c : Thread nD τ).loc main_arg4) (ix2 (0 : Fin 1) l) from
      funext fun l => (iblk4 m c t l).trans (congrFun (V_arg4 m c) _)]
  exact congrArg _ (Fin.ext h1.symm)

/-- The half step's array. -/
theorem final20 (c : Dev nD) : (dats m 0 c).arrAt 20 cfg0.N
    = fun i : S16384x1024.Idx => resStep (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) := by
  refine (dats m 0 c).arrAt_eq_of_covers 20 _ (by decide +kernel) fun t hf y => ?_
  have e := (index0 t).2.2.2.2.2.2.2.1
  blk_simp [e]
  rw [after0_20]
  refine block20 m c t y ((win0_20.blk t).view.emb y) ?_ ?_
  · blk_simp [e]
  · blk_simp [e]

theorem block21 (c : Dev nD) (t : Fin cfg0.N) (y : S512x1024.Idx) (i : S16384x1024.Idx) (h0 : (i 0).val = t.val * 512 + (y 0).val)
    (h1 : (i 1).val = (y 1).val) : out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resDown (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (i 0) (i 1) := by
  refine (out21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_
  unfold resDown
  rw [blkH m c t (y 0) (i 0) h0]
  exact congrArg _ (Fin.ext h1.symm)

/-- The block's array. -/
theorem final21 (c : Dev nD) : (dats m 0 c).arrAt 21 cfg0.N
    = fun i : S16384x1024.Idx => resDown (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (i 0) (i 1) := by
  refine (dats m 0 c).arrAt_eq_of_covers 21 _ (by decide +kernel) fun t hf y => ?_
  have e := (index0 t).2.2.2.2.2.2.2.2
  blk_simp [e]
  rw [after0_21]
  refine block21 m c t y ((win0_21.blk t).view.emb y) ?_ ?_
  · blk_simp [e]
  · blk_simp [e]

end Cert.Ffn

end
-- ==== Proof.RefFfn.lean ====
/- The forward block's reference, and its equality with the kernel's results. -/
module

public import proofs.«01_k».proof.Proof.FfnRes
public import proofs.«01_k».proof.Proof.Gen.Reference2Ideal.Run
public import proofs.«01_k».proof.Proof.Gen.Reference2Ideal.Read

@[expose] public section

set_option maxRecDepth 16384

noncomputable section

namespace Cert.Ffn

open Cert.Reference2Ideal Cert.Reference2Ideal.Gen Cert.Reference2Ideal.Read
open Idealize.ShloMosaic hiding ix1 ix2 ix3 ix4 ix5
open Idealize.ShloMosaic.ValueIdx Idealize.ShloMosaic.TcCoe Idealize.SL.Sem

variable (x0 : S16384x1024.Idx → EReal) (x1 : S1024.Idx → EReal) (x2 x3 x4 : S1x1024.Idx → EReal)
  (x5 x6 : S2x2x1024x2816.Idx → EReal) (x7 : S2x2x2816x1024.Idx → EReal)

theorem ref_hid (t : Fin 16384) (d : Fin 1024) : val_main_v22 (F := Ideal) x0 x1 x2 x3 (ix2 t d) = rowH x0 x1 x2 x3 t d := by
  rw [val_main_v22_apply, val_main_v20_apply, val_main_v16_apply, val_main_v13_apply, val_main_v12_apply, val_main_v11_apply,
    val_main_v10_apply, val_main_v8_apply, val_main_v6_apply, val_main_v5_apply, val_main_v7_apply, val_main_v9_apply,
    val_main_v15_apply, val_main_v14_apply, val_main_v19_apply, val_main_v18_apply, val_main_v17_apply, val_main_v21_apply,
    val_main_cst_apply, val_main_cst_0_apply, val_main_cst_1_apply, val_main_cst_2_apply]
  simp only [val_main_v4_apply]
  unfold rowH hid
  have e5 (k : Fin 1024) : idx_main_v5 (idx_main_v6 (idx_main_v12 (ix2 t d))) k = ix2 t k := by funext a; fin_cases a <;> rfl
  have e14 : idx_main_v14 (idx_main_v15 (ix2 t d)) = ix1 d := by funext a; fin_cases a; rfl
  have e19 : idx_main_v19 (ix2 t d) = ix2 (0 : Fin 1) d := by funext a; fin_cases a <;> rfl
  have e21 : idx_main_v21 (ix2 t d) = ix2 (0 : Fin 1) d := by funext a; fin_cases a <;> rfl
  have z : (FloatOps.ofBits (F := Ideal) FTy.f32 0x00000000#32) + (∑ k : Fin 1024, (x0 (ix2 t k) * x0 (ix2 t k) : EReal))
      = ∑ k : Fin 1024, (x0 (ix2 t k) * x0 (ix2 t k) : EReal) :=
    (congrArg (fun y : EReal => y + ∑ k : Fin 1024, (x0 (ix2 t k) * x0 (ix2 t k) : EReal)) Ideal.ofBits_zero_f32).trans (zero_add _)
  simp only [e5]
  rw [e14, e19, e21]
  exact congrArg (fun q : EReal => x0 (ix2 t d) * Ideal.rsqrt (Ideal.div q (Ideal.ofBits FTy.f32 0x44800000#32)
    + Ideal.ofBits FTy.f32 0x358637BD#32) * x1 (ix1 d) * (Ideal.ofBits FTy.f32 0x3F800000#32 + x3 (ix2 (0 : Fin 1) d)) + x2 (ix2 (0 : Fin 1) d)) z

theorem ref_wIn5 (l : Fin 1024) (j : Fin 2816) : val_main_v1 (F := Ideal) x5 (ix2 l j) = wIn x5 l j := by
  rw [val_main_v1_apply, val_main_v0_apply]
  unfold wIn
  refine congrArg x5 (funext fun a => ?_)
  fin_cases a
  · rfl
  · rfl
  · exact Fin.ext (by show (l.val * 2816 + j.val) / 2816 % 1024 = l.val; omega)
  · exact Fin.ext (by show (l.val * 2816 + j.val) % 2816 = j.val; omega)

theorem ref_wIn6 (l : Fin 1024) (j : Fin 2816) : val_main_v3 (F := Ideal) x6 (ix2 l j) = wIn x6 l j := ref_wIn5 x6 l j

theorem ref_wOut (j : Fin 2816) (d : Fin 1024) : val_main_v26 (F := Ideal) x7 (ix2 j d) = wOut x7 j d := by
  rw [val_main_v26_apply, val_main_v25_apply]
  unfold wOut
  refine congrArg x7 (funext fun a => ?_)
  fin_cases a
  · rfl
  · rfl
  · exact Fin.ext (by show (j.val * 1024 + d.val) / 1024 % 2816 = j.val; omega)
  · exact Fin.ext (by show (j.val * 1024 + d.val) % 1024 = d.val; omega)

theorem ref_g (t : Fin 16384) (j : Fin 2816) : val_main_v23 (F := Ideal) x0 x1 x2 x3 x5 (ix2 t j) = up (rowH x0 x1 x2 x3 t) (wIn x5) j := by
  rw [val_main_v23_apply]
  unfold up
  refine Finset.sum_congr rfl fun l _ => congrArg₂ (fun x y : EReal => x * y) ?_ ?_
  · refine (congrArg _ (?_ : _ = ix2 t l)).trans (ref_hid x0 x1 x2 x3 t l)
    funext a; fin_cases a <;> rfl
  · refine (congrArg _ (?_ : _ = ix2 l j)).trans (ref_wIn5 x5 l j)
    funext a; fin_cases a <;> rfl

theorem ref_u (t : Fin 16384) (j : Fin 2816) : val_main_v24 (F := Ideal) x0 x1 x2 x3 x6 (ix2 t j) = up (rowH x0 x1 x2 x3 t) (wIn x6) j :=
  ref_g x0 x1 x2 x3 x6 t j

theorem ref_act (t : Fin 16384) (j : Fin 2816) : val_main_v28 (F := Ideal) x0 x1 x2 x3 x5 x6 (ix2 t j)
    = act (up (rowH x0 x1 x2 x3 t) (wIn x5) j) (up (rowH x0 x1 x2 x3 t) (wIn x6) j) := by
  rw [val_main_v28_apply, val_main_v27_apply, val_main_call0_v5_apply, val_main_call0_v4_apply, val_main_call0_v3_apply,
    val_main_call0_v2_apply, val_main_call0_v1_apply, val_main_call0_v0_apply, val_main_call0_cst_apply, val_main_call0_cst_0_apply,
    ref_g, ref_u]
  unfold act
  rfl

theorem ref_down (t : Fin 16384) (d : Fin 1024) : val_main_v29 (F := Ideal) x0 x1 x2 x3 x5 x6 x7 (ix2 t d)
    = resDown x0 x1 x2 x3 x5 x6 x7 t d := by
  rw [val_main_v29_apply]
  unfold resDown down
  refine Finset.sum_congr rfl fun j _ => congrArg₂ (fun x y : EReal => x * y) ?_ ?_
  · refine (congrArg _ (?_ : _ = ix2 t j)).trans (ref_act x0 x1 x2 x3 x5 x6 t j)
    funext a; fin_cases a <;> rfl
  · refine (congrArg _ (?_ : _ = ix2 j d)).trans (ref_wOut x7 j d)
    funext a; fin_cases a <;> rfl

theorem idx2 (i : S16384x1024.Idx) : i = ix2 (i 0) (i 1) := funext fun a => by fin_cases a <;> rfl

theorem ref17 : val_main_v35 (F := Ideal) x0 x1 x2 x3 = fun i => rowH x0 x1 x2 x3 (i 0) (i 1) := by
  funext i
  rw [val_main_v35_apply]
  exact (congrArg _ (idx2 i)).trans (ref_hid x0 x1 x2 x3 (i 0) (i 1))

theorem ref18 : val_main_v38 (F := Ideal) x0 x1 x2 x3 x5 = fun i => resUp x0 x1 x2 x3 x5 (i 0) (i 1) (i 2) := by
  funext i
  rw [val_main_v38_apply, val_main_v37_apply, val_main_v36_apply]
  unfold resUp
  refine (congrArg _ (?_ : _ = ix2 (i 1) _)).trans (ref_g x0 x1 x2 x3 x5 (i 1) _)
  have h0 : (i 0).val < 4 := (i 0).isLt
  have h1 : (i 1).val < 16384 := (i 1).isLt
  have h2 : (i 2).val < 704 := (i 2).isLt
  funext a
  fin_cases a
  · exact Fin.ext (by show (((i 1).val * 4 + (i 0).val) * 704 + (i 2).val) / 2816 = (i 1).val; omega)
  · exact Fin.ext (by show (((i 1).val * 4 + (i 0).val) * 704 + (i 2).val) % 2816 = (i 0).val * 704 + (i 2).val; omega)

theorem ref19 : val_main_v41 (F := Ideal) x0 x1 x2 x3 x6 = fun i => resUp x0 x1 x2 x3 x6 (i 0) (i 1) (i 2) := ref18 x0 x1 x2 x3 x6

theorem ref21 : val_main_v42 (F := Ideal) x0 x1 x2 x3 x5 x6 x7 = fun i => resDown x0 x1 x2 x3 x5 x6 x7 (i 0) (i 1) := by
  funext i
  rw [val_main_v42_apply]
  exact (congrArg _ (idx2 i)).trans (ref_down x0 x1 x2 x3 x5 x6 x7 (i 0) (i 1))

theorem ref20 : val_main_v34 (F := Ideal) x0 x1 x2 x3 x4 x5 x6 x7 = fun i => resStep x0 x1 x2 x3 x4 x5 x6 x7 (i 0) (i 1) := by
  funext i
  rw [val_main_v34_apply, val_main_v33_apply, val_main_v32_apply, val_main_v31_apply]
  unfold resStep step
  refine congrArg₂ (fun x y : EReal => x + y) (congrArg x0 (idx2 i)) (congrArg₂ (fun x y : EReal => x * y) ?_ ((congrArg _ (idx2 i)).trans (ref_down x0 x1 x2 x3 x5 x6 x7 (i 0) (i 1))))
  rw [val_main_v30_apply, val_main_cst_3_apply]
  exact congrArg (fun a => _ * x4 a) (funext fun a => by fin_cases a <;> rfl)

end Cert.Ffn

end
-- ==== Proof.Dwg.lean ====
module

public import proofs.«01_k».proof.Proof.Gen.Kernel4Ideal.Value
public import Idealize.ShloMosaic.Lib.Pipeline.ValueKit
public import Idealize.ShloMosaic.Lib.StableHlo.ReadAt

/-! The weight gradient of the gate (or up) projection: the kernel walks the tokens in four strips of 4096, adding each
strip's product into a carried block of 1024 rows and 704 columns, and writes the block back after the last strip. -/

@[expose] public section

set_option maxRecDepth 16384

noncomputable section

namespace Cert.Dwg

open Cert.Kernel4Ideal Cert.Kernel4Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- One strip's product at a row and a column. -/
def strip (x : Vec Ideal S4096x1024 .bf16) (y : Vec Ideal S1x4096x704 .bf16) (i : S1024x704.Idx) : EReal :=
  ∑ l : Fin 4096, x (ix2 l (i 0)) * y (ix3 (0 : Fin 1) l (i 1))

/-- The block after a strip is the block before it plus the strip's product. -/
theorem pay_apply (x : Vec Ideal S4096x1024 .bf16) (a : Vec Ideal S1024x704 .f32) (y : Vec Ideal S1x4096x704 .bf16)
    (i : S1024x704.Idx) : k0_pay2 x a y i = a i + strip x y i := by
  unfold k0_pay2 strip
  rw [shapeCast_id]
  show a i + _ = _
  congr 1
  simp only [matmul]
  rw [Ideal.matmul_constant_zero_apply,
    ← Equiv.sum_comp (contrEquiv1 dot_S4096x1024_S4096x704_S1024x704_0_0_1_1_n_n 4096 rfl rfl).symm]
  refine Finset.sum_congr rfl fun l _ => ?_
  have c := contrEquiv1_symm_val dot_S4096x1024_S4096x704_S1024x704_0_0_1_1_n_n 4096 rfl rfl l
  congr 1
  · rw [shapeCast_id]
    congr 1
    funext ax
    fin_cases ax
    · exact Fin.ext c
    · rfl
  · refine (shapeCast_dropUnit_apply _ y _ _).trans ?_
    congr 1
    funext ax
    fin_cases ax
    · rfl
    · exact Fin.ext c
    · rfl

theorem zero_apply (i : S1024x704.Idx) : k0_pay1 (F := Ideal) i = 0 := by
  unfold k0_pay1
  rw [shapeCast_id]
  exact Ideal.ofBits_zero_f32

theorem unread_whole (x : Vec Ideal S1024x704 .f32) (h : scM0_0.IsWhole) : View.read (Elt Ideal) (View.whole cc0_scratch0) (h.unread x) = x := by
  exact h.read_unread x

theorem carried (c : Dev nD) (t : Fin cfg0.N) (hr : t.val % 4 = 3) (i : S1024x704.Idx) :
    (outsAt0 m c t.val t.isLt).2 i = 0 + ∑ s : Fin 4, strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => strip (iblk m c 0 t) (iblk m c 1 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, win0_0.index t = ![t.val % 4, 0] ∧ win0_1.index t = ![t.val / 4, t.val % 4, 0]
    ∧ win0_2.index t = ![t.val / 4, 0, 0, 0, 0] := by decide +kernel

theorem iblk0 (c : Dev nD) (t : Fin cfg0.N) (l : Fin 4096) (a : Fin 1024) :
    iblk m c 0 t (ix2 l a) = V m c main_v0 (ix2 ⟨t.val % 4 * 4096 + l.val, by omega⟩ a) := by
  have e := (index0 t).1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg0) i := by
  show StableHlo.after hostOps0 _ (Proc.devRef .tc main_v2) i = _
  after_reads_at
  rfl
/-- The gradient of one layer's and half's weights, by shard, row and column. -/
def grad (h : S16384x1024.Idx → EReal) (d : S4x16384x704.Idx → EReal) (j : Fin 4) (a : Fin 1024) (b : Fin 704) : EReal :=
  ∑ t : Fin 16384, h (ix2 t a) * d (ix3 j t b)

/-- The gradient written into its place in the buffer of all layers and halves. -/
def into (x : S4x2x2x1024x704.Idx → EReal) (h : S16384x1024.Idx → EReal) (d : S4x16384x704.Idx → EReal) :
    S4x2x2x1024x704.Idx → EReal :=
  fun i => if (i 1).val = 0 ∧ (i 2).val = 0 then grad h d (i 0) (i 3) (i 4) else x i

theorem strips (c : Dev nD) (t : Fin cfg0.N) (hr : t.val % 4 = 3) (a : Fin 1024) (b : Fin 704) :
    (outsAt0 m c t.val t.isLt).2 (ix2 a b)
      = grad (m ((c : Thread nD τ).loc main_arg1)) (m ((c : Thread nD τ).loc main_arg2))
          ⟨t.val / 4, by have := t.isLt; have : cfg0.N = 16 := N_0; omega⟩ a b := by
  rw [carried m c t hr, zero_add]
  unfold grad strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y) ((iblk0 m c _ l a).trans ((V_v0 m c _).trans ?_))
    ((iblk1 m c _ l b).trans ((V_v1 m c _).trans ?_))
  · simp only [e]
  · simp only [e, e']

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 1024 := (y 3).isLt
  have h4 : (y 4).val < 704 := (y 4).isLt
  rw [Shape.rowMajor_val_two, Shape.rowMajor_val_five]
  show (y 3).val * 704 + (y 4).val = ((((y 0).val * 1 + (y 1).val) * 1 + (y 2).val) * 1024 + (y 3).val) * 704 + (y 4).val
  omega

theorem final (c : Dev nD) : (dats m 0 c).arrAt 2 cfg0.N
    = into (m ((c : Thread nD τ).loc main_arg0)) (m ((c : Thread nD τ).loc main_arg1)) (m ((c : Thread nD τ).loc main_arg2)) := by
  refine ((dats m 0 c).arrAt_eq_of_coversWhere 2
    (fun i => grad (m ((c : Thread nD τ).loc main_arg1)) (m ((c : Thread nD τ).loc main_arg2)) (i 0) (i 3) (i 4))
    (P := fun i => (i 1).val = 0 ∧ (i 2).val = 0)
    (fun β => β 1 = 0 ∧ β 2 = 0) (by decide +kernel) (fun t hf y => ?_) (fun j => ?_)).trans (funext fun i => ?_)
  · have hr := (flush0_2 t).mp hf
    have e := (index0 t).2.2
    rw [after0_2]
    refine (out_c m c t hr _).trans ((strips m c t hr _ _).trans ?_)
    have g {j j' : Fin 4} {a a' : Fin 1024} {b b' : Fin 704} (x z) (hj : j.val = j'.val) (ha : a.val = a'.val) (hb : b.val = b'.val) :
        grad x z j a b = grad x z j' a' b' := by rw [Fin.ext hj, Fin.ext ha, Fin.ext hb]
    refine g _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v2 m c i)

end Cert.Dwg

end
-- ==== Proof.RefDwg.lean ====
/- The reference of the gate (or up) weight gradient, and its equality with the kernel's result. -/
module

public import proofs.«01_k».proof.Proof.Dwg
public import proofs.«01_k».proof.Proof.Gen.Reference4Ideal.Run
public import proofs.«01_k».proof.Proof.Gen.Reference4Ideal.Read

@[expose] public section

set_option maxRecDepth 16384

noncomputable section

namespace Cert.Dwg

open Cert.Reference4Ideal Cert.Reference4Ideal.Gen Cert.Reference4Ideal.Read
open Idealize.ShloMosaic hiding ix1 ix2 ix3 ix4 ix5
open Idealize.ShloMosaic.ValueIdx Idealize.ShloMosaic.TcCoe Idealize.SL.Sem

variable (x : S4x2x2x1024x704.Idx → EReal) (h : S16384x1024.Idx → EReal) (d : S4x16384x704.Idx → EReal)

theorem ref_grad (i : S4x1x1x1024x704.Idx) : val_main_v6 (F := Ideal) h d i = grad h d (i 0) (i 3) (i 4) := by
  rw [val_main_v6_apply, val_main_v5_apply, val_main_v4_apply]
  unfold grad
  refine Finset.sum_congr rfl fun t _ => ?_
  rw [val_main_v3_apply, mul_comm]
  refine congrArg₂ (fun x y : EReal => x * y) (congrArg h ?_) (congrArg d ?_)
  · funext a; fin_cases a <;> rfl
  · funext a; fin_cases a <;> rfl

theorem ref_into : val_main_v7 (F := Ideal) x h d = into x h d := by
  funext i
  unfold val_main_v7
  refine (congrFun (Host.dynamicUpdateSlice_eq_updateSlice x (val_main_v6 (F := Ideal) h d) _ _ (fun _ => 0)
    (fun a => by fin_cases a <;> rfl) ⟨rfl, by decide⟩) i).trans ?_
  unfold updateSlice into
  have h0 : (i 0).val < 4 := (i 0).isLt
  have h3 : (i 3).val < 1024 := (i 3).isLt
  have h4 : (i 4).val < 704 := (i 4).isLt
  by_cases hi : (i 1).val = 0 ∧ (i 2).val = 0
  · rw [if_pos hi, dif_pos (fun a => by
      fin_cases a
      · exact ⟨Nat.zero_le _, by show (i 0).val < 0 + 4; omega⟩
      · exact ⟨Nat.zero_le _, by show (i 1).val < 0 + 1; omega⟩
      · exact ⟨Nat.zero_le _, by show (i 2).val < 0 + 1; omega⟩
      · exact ⟨Nat.zero_le _, by show (i 3).val < 0 + 1024; omega⟩
      · exact ⟨Nat.zero_le _, by show (i 4).val < 0 + 704; omega⟩)]
    exact ref_grad h d _
  · rw [if_neg hi, dif_neg]
    intro hin
    have a1 : (i 1).val < 0 + 1 := (hin 1).2
    have a2 : (i 2).val < 0 + 1 := (hin 2).2
    omega

end Cert.Dwg

end
-- ==== Proof.ProjRow.lean ====
/- The backward pass of the norm and its modulation, row by row: the kernel's formulas and the derivative's, equal on real
   rows. -/
module

public import Idealize.ShloMosaic.Lib.Pipeline.ValueKit

@[expose] public section

noncomputable section

namespace Cert.Proj

open Idealize.ShloMosaic

/-! ## The constants -/

/-- The number one, as printed. -/
def one : EReal := Ideal.ofBits .f32 0x3F800000#32
/-- The row width, as printed. -/
def width : EReal := Ideal.ofBits .f32 0x44800000#32
/-- The norm's small constant, as printed. -/
def eps : EReal := Ideal.ofBits .f32 0x358637BD#32
/-- Minus one half, as printed. -/
def mhalf : EReal := Ideal.ofBits .f32 0xBF000000#32

theorem one_eq : one = ((1 : ℝ) : EReal) := Ideal.ofBits_one_f32
theorem width_eq : width = ((1024 : ℝ) : EReal) := by
  unfold width
  simp [Ideal.ofBits, Ideal.ieee]
  rw [← EReal.coe_mul]
  norm_num
theorem mhalf_eq : mhalf = ((-(1 / 2) : ℝ) : EReal) := by
  unfold mhalf
  simp [Ideal.ofBits, Ideal.ieee]
  rw [← EReal.coe_mul]
  norm_num
theorem eps_pos : ∃ e : ℝ, 0 < e ∧ eps = (e : EReal) := by
  unfold eps
  simp only [Ideal.ofBits, Ideal.ieee]
  refine ⟨_, ?_, rfl⟩
  norm_num
  rw [if_neg (by decide)]
  positivity

/-! ## The formulas -/

/-- A row's mean square with the small constant. -/
def var (x : Fin 1024 → EReal) : EReal := Ideal.div (∑ l : Fin 1024, x l * x l) width + eps

/-- One over the root of the row's mean square. -/
def inv (x : Fin 1024 → EReal) : EReal := Ideal.rsqrt (var x)

/-- The gradient of the projection's input at a column. -/
def dHid (z : Fin 6400 → EReal) (w : Fin 1024 → Fin 6400 → EReal) (d : Fin 1024) : EReal := ∑ k : Fin 6400, z k * w d k

/-- The kernel's gradient of a row: the row that comes past the layer, and the norm's part. -/
def dxRow (x e g s h : Fin 1024 → EReal) (d : Fin 1024) : EReal :=
  e d + inv x * (h d * (g d * (one + s d)) - x d * inv x * Ideal.div (∑ l : Fin 1024, h l * (g l * (one + s l)) * (x l * inv x)) width)

/-- The derivative through a row's mean square. -/
def back (x g s h : Fin 1024 → EReal) : EReal :=
  Ideal.div ((∑ l : Fin 1024, x l * (h l * (one + s l) * g l)) * (mhalf * Ideal.div (inv x) (var x))) width

/-- The normed rows times the gradient, summed over the tokens. -/
def acc (x h : Fin 16384 → Fin 1024 → EReal) (d : Fin 1024) : EReal := ∑ t : Fin 16384, h t d * (x t d * inv (x t))

/-! ## On real rows -/

theorem coe_sum {ι : Type} [Fintype ι] (f : ι → ℝ) : (∑ k, (f k : EReal)) = ((∑ k, f k : ℝ) : EReal) :=
  (map_sum (⟨⟨Real.toEReal, EReal.coe_zero⟩, EReal.coe_add⟩ : ℝ →+ EReal) f Finset.univ).symm

variable {x e g s h : Fin 1024 → EReal} {X E G S H : Fin 1024 → ℝ}

theorem var_coe (hx : ∀ l, x l = (X l : EReal)) : ∃ V : ℝ, 0 < V ∧ var x = (V : EReal) := by
  obtain ⟨c, hc, he⟩ := eps_pos
  refine ⟨(∑ l, X l * X l) * (1 / 1024) + c, ?_, ?_⟩
  · have : 0 ≤ ∑ l, X l * X l := Finset.sum_nonneg fun l _ => mul_self_nonneg _
    positivity
  · unfold var
    rw [width_eq, he, Ideal.div_coe (by norm_num)]
    simp only [hx, ← EReal.coe_mul, coe_sum, ← EReal.coe_add]

theorem inv_coe (hx : ∀ l, x l = (X l : EReal)) :
    ∃ V R : ℝ, V ≠ 0 ∧ R * R = 1 / V ∧ var x = (V : EReal) ∧ inv x = (R : EReal) := by
  obtain ⟨V, hV, hv⟩ := var_coe hx
  refine ⟨V, (Real.sqrt V)⁻¹, hV.ne', ?_, hv, ?_⟩
  · rw [← mul_inv, Real.mul_self_sqrt hV.le, one_div]
  · unfold inv
    rw [hv, Ideal.rsqrt_coe, if_neg (by linarith), if_neg hV.ne']

/-- The derivative of the normed and modulated row is the kernel's formula. -/
theorem dx_eq (hx : ∀ l, x l = (X l : EReal)) (he : ∀ l, e l = (E l : EReal)) (hg : ∀ l, g l = (G l : EReal))
    (hs : ∀ l, s l = (S l : EReal)) (hh : ∀ l, h l = (H l : EReal)) (d : Fin 1024) :
    e d + h d * (one + s d) * g d * inv x + x d * back x g s h + back x g s h * x d = dxRow x e g s h d := by
  obtain ⟨V, R, hV, hR, hv, hr⟩ := inv_coe hx
  unfold dxRow back
  rw [hr, hv, width_eq, one_eq, mhalf_eq, Ideal.div_coe hV, Ideal.div_coe (by norm_num), Ideal.div_coe (by norm_num)]
  simp only [hx, he, hg, hs, hh, ← EReal.coe_mul, ← EReal.coe_add, coe_sum, ← EReal.coe_sub]
  congr 1
  have hsum : ∑ l, H l * (G l * (1 + S l)) * (X l * R) = (∑ l, X l * (H l * (1 + S l) * G l)) * R := by
    rw [Finset.sum_mul]
    exact Finset.sum_congr rfl fun l _ => by ring
  rw [hsum]
  generalize ∑ l, X l * (H l * (1 + S l) * G l) = A
  rw [← hR]
  ring

variable {xs hs' : Fin 16384 → Fin 1024 → EReal} {XS HS : Fin 16384 → Fin 1024 → ℝ}

/-- A factor of every token's term comes out of the sum. -/
theorem acc_mul (hx : ∀ t l, xs t l = (XS t l : EReal)) (hh : ∀ t l, hs' t l = (HS t l : EReal)) (d : Fin 1024) (b : ℝ) :
    acc xs hs' d * (b : EReal) = ∑ t : Fin 16384, hs' t d * (xs t d * inv (xs t)) * (b : EReal) := by
  have hi : ∀ t, ∃ R : ℝ, inv (xs t) = (R : EReal) := fun t => by
    obtain ⟨V, R, -, -, -, hr⟩ := inv_coe (hx t)
    exact ⟨R, hr⟩
  choose R hR using hi
  unfold acc
  simp only [hx, hh, hR, ← EReal.coe_mul, coe_sum]
  rw [Finset.sum_mul]

end Cert.Proj

end
-- ==== Proof.ProjTile.lean ====
/- The kernel's tile of 256 rows as the row functions of Proof/ProjRow.lean. -/
module

public import proofs.«01_k».proof.Proof.ProjRow
public import proofs.«01_k».proof.Proof.Gen.Kernel5Ideal.Value
public import Idealize.ShloMosaic.Lib.Pipeline.ValueKit
public import Idealize.ShloMosaic.Lib.StableHlo.ReadAt

@[expose] public section

set_option maxRecDepth 16384

noncomputable section

namespace Cert.Proj

open Cert.Kernel5Ideal Cert.Kernel5Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

/-! ## The product with the three parts of the weight -/

theorem dot1_apply (z : FVec Ideal S256x2304 .bf16) (w : FVec Ideal S1024x2304 .bf16) (a : Fin 256) (d : Fin 1024) :
    matmul dot_S256x2304_S1024x2304_S256x1024_1_1_0_0_n_n none z w (constant S256x1024 .f32 0x00000000#32) (ix2 a d)
      = ∑ k : Fin 2304, z (ix2 a k) * w (ix2 d k) := by
  simp only [matmul]
  rw [Ideal.matmul_constant_zero_apply,
    ← Equiv.sum_comp (contrEquiv1 dot_S256x2304_S1024x2304_S256x1024_1_1_0_0_n_n 2304 rfl rfl).symm]
  refine Finset.sum_congr rfl fun l _ => ?_
  have c := contrEquiv1_symm_val dot_S256x2304_S1024x2304_S256x1024_1_1_0_0_n_n 2304 rfl rfl l
  refine congrArg₂ (fun x y : EReal => x * y) (congrArg z ?_) (congrArg w ?_)
  · funext ax
    fin_cases ax
    · rfl
    · exact Fin.ext c
  · funext ax
    fin_cases ax
    · rfl
    · exact Fin.ext c

theorem dot2_apply (z : FVec Ideal S256x2048 .bf16) (w : FVec Ideal S1024x2048 .bf16) (a : Fin 256) (d : Fin 1024) :
    matmul dot_S256x2048_S1024x2048_S256x1024_1_1_0_0_n_n none z w (constant S256x1024 .f32 0x00000000#32) (ix2 a d)
      = ∑ k : Fin 2048, z (ix2 a k) * w (ix2 d k) := by
  simp only [matmul]
  rw [Ideal.matmul_constant_zero_apply,
    ← Equiv.sum_comp (contrEquiv1 dot_S256x2048_S1024x2048_S256x1024_1_1_0_0_n_n 2048 rfl rfl).symm]
  refine Finset.sum_congr rfl fun l _ => ?_
  have c := contrEquiv1_symm_val dot_S256x2048_S1024x2048_S256x1024_1_1_0_0_n_n 2048 rfl rfl l
  refine congrArg₂ (fun x y : EReal => x * y) (congrArg z ?_) (congrArg w ?_)
  · funext ax
    fin_cases ax
    · rfl
    · exact Fin.ext c
  · funext ax
    fin_cases ax
    · rfl
    · exact Fin.ext c

/-- A sum over the whole width is the sums over its three parts. -/
theorem sum_thirds (f : Fin 6400 → EReal) :
    ∑ k : Fin 6400, f k = ((∑ k : Fin 2304, f ⟨k.val, by omega⟩) + ∑ k : Fin 2048, f ⟨2304 + k.val, by omega⟩)
      + ∑ k : Fin 2048, f ⟨4352 + k.val, by omega⟩ := by
  refine (Fin.sum_univ_add (a := 4352) (b := 2048) f).trans (congrArg₂ (fun x y : EReal => x + y) ?_ rfl)
  exact Fin.sum_univ_add (a := 2304) (b := 2048) (fun k : Fin 4352 => f ⟨k.val, by omega⟩)

/-- The tile's gradient of the projection's input. -/
theorem hid_tile (z1 : Vec Ideal S256x2304 .bf16) (w1 : Vec Ideal S1024x2304 .bf16) (z2 : Vec Ideal S256x2048 .bf16)
    (w2 : Vec Ideal S1024x2048 .bf16) (z3 : Vec Ideal S256x2048 .bf16) (w3 : Vec Ideal S1024x2048 .bf16)
    (a : Fin 256) (z : Fin 6400 → EReal) (w : Fin 1024 → Fin 6400 → EReal)
    (hz1 : ∀ k : Fin 2304, z1 (ix2 a k) = z ⟨k.val, by omega⟩) (hz2 : ∀ k : Fin 2048, z2 (ix2 a k) = z ⟨2304 + k.val, by omega⟩)
    (hz3 : ∀ k : Fin 2048, z3 (ix2 a k) = z ⟨4352 + k.val, by omega⟩)
    (hw1 : ∀ d, ∀ k : Fin 2304, w1 (ix2 d k) = w d ⟨k.val, by omega⟩) (hw2 : ∀ d, ∀ k : Fin 2048, w2 (ix2 d k) = w d ⟨2304 + k.val, by omega⟩)
    (hw3 : ∀ d, ∀ k : Fin 2048, w3 (ix2 d k) = w d ⟨4352 + k.val, by omega⟩) (d : Fin 1024) :
    k0_pay3 z1 w1 z2 w2 z3 w3 (ix2 a d) = dHid z w d := by
  unfold k0_pay3 dHid
  rw [sum_thirds]
  simp only [shapeCast_id]
  refine congrArg₂ (fun x y : EReal => x + y) (congrArg₂ (fun x y : EReal => x + y) ((dot1_apply _ _ a d).trans ?_)
    ((dot2_apply _ _ a d).trans ?_)) ((dot2_apply _ _ a d).trans ?_)
  · exact Finset.sum_congr rfl fun k _ => by rw [hz1, hw1]
  · exact Finset.sum_congr rfl fun k _ => by rw [hz2, hw2]
  · exact Finset.sum_congr rfl fun k _ => by rw [hz3, hw3]

/-! ## The norm's part -/

/-- The sums of a tile's rows. -/
theorem rows_apply (x : FVec Ideal S256x1024 .f32) (a : Fin 256) :
    shapeCast S256x1 (multiReduction .add [1] S256 x 0x00000000#32 reduces_S256x1024_S256 (.inl rfl) rfl : FVec Ideal S256 .f32)
      shapeCasts_S256_S256x1 (ix2 a 0) = ∑ l : Fin 1024, x (ix2 a l) := by
  rw [shapeCast_apply _ shapeCasts_S256_S256x1 (ix2 a 0) (ix1 a) (by
    rw [Shape.rowMajor_val_two]; simp [Shape.rowMajor_val_one])]
  refine (Ideal.multiReduction_add_single _ _ _ _ _ _).trans (Finset.sum_congr rfl fun l _ => congrArg x ?_)
  funext d; fin_cases d <;> rfl

/-- The sums of a tile's columns. -/
theorem cols_apply (x : FVec Ideal S256x1024 .f32) (d : Fin 1024) :
    shapeCast S1x1024 (multiReduction .add [0] S1024 x 0x00000000#32 reduces_S256x1024_S1024 (.inl rfl) rfl : FVec Ideal S1024 .f32)
      shapeCasts_S1024_S1x1024 (ix2 0 d) = ∑ a : Fin 256, x (ix2 a d) := by
  rw [shapeCast_apply _ shapeCasts_S1024_S1x1024 (ix2 0 d) (ix1 d) (by
    rw [Shape.rowMajor_val_two]; simp [Shape.rowMajor_val_one])]
  refine (Ideal.multiReduction_add_single _ _ _ _ _ _).trans (Finset.sum_congr rfl fun l _ => congrArg x ?_)
  funext d; fin_cases d <;> rfl

theorem col_bcast (x : FVec Ideal S256x1 .f32) (a : Fin 256) (d : Fin 1024) :
    broadcastTo S256x1024 x broadcasts_S256x1_S256x1024 (ix2 a d) = x (ix2 a 0) :=
  broadcastTo_apply _ _ _ _ (fun ax => by fin_cases ax <;> rfl)

theorem row_bcast (x : FVec Ideal S1x1024 .f32) (a : Fin 256) (d : Fin 1024) :
    broadcastTo S256x1024 x broadcasts_S1x1024_S256x1024 (ix2 a d) = x (ix2 0 d) :=
  broadcastTo_apply _ _ _ _ (fun ax => by fin_cases ax <;> rfl)

theorem inv_tile (x : Vec Ideal S256x1024 .f32) (a : Fin 256) : k0_pay4 x (ix2 a 0) = inv (fun l => x (ix2 a l)) := by
  unfold k0_pay4 inv var
  exact congrArg (fun q : EReal => Ideal.rsqrt (Ideal.div q width + eps)) (rows_apply (mulf x x) a)

theorem normed_tile (x : Vec Ideal S256x1024 .f32) (a : Fin 256) (d : Fin 1024) :
    k0_pay5 x (ix2 a d) = x (ix2 a d) * inv (fun l => x (ix2 a l)) := by
  unfold k0_pay5
  exact congrArg (fun q : EReal => x (ix2 a d) * q) ((col_bcast _ a d).trans (inv_tile x a))

theorem dx_tile (h : FVec Ideal S256x1024 .f32) (x : Vec Ideal S256x1024 .f32) (g s : Vec Ideal S1x1024 .f32)
    (e : Vec Ideal S256x1024 .f32) (a : Fin 256) (d : Fin 1024) :
    k0_pay7 h (k0_pay4 x) (k0_pay5 x) (k0_pay6 g) s e (ix2 a d)
      = dxRow (fun l => x (ix2 a l)) (fun l => e (ix2 a l)) (fun l => g (ix2 0 l)) (fun l => s (ix2 0 l)) (fun l => h (ix2 a l)) d := by
  unfold k0_pay7 dxRow k0_pay6
  simp only [shapeCast_id]
  have hw : ∀ l : Fin 1024, mulf h (broadcastTo S256x1024 (mulf g (addf (broadcast S1x1024 (Scalar.ofBits .f32 0x3F800000#32 : Ideal .f32)) s))
      broadcasts_S1x1024_S256x1024) (ix2 a l) = h (ix2 a l) * (g (ix2 0 l) * (one + s (ix2 0 l))) := fun l =>
    congrArg (fun q : EReal => h (ix2 a l) * q) (row_bcast _ a l)
  refine congrArg (fun q : EReal => e (ix2 a d) + q) (congrArg₂ (fun p q : EReal => p * q)
    ((col_bcast _ a d).trans (inv_tile x a)) (congrArg₂ (fun p q : EReal => p - q) (hw d)
      (congrArg₂ (fun p q : EReal => p * q) (normed_tile x a d) ((col_bcast _ a d).trans
        (congrArg (fun q : EReal => Ideal.div q width) ((rows_apply _ a).trans (Finset.sum_congr rfl fun l _ =>
          congrArg₂ (fun p q : EReal => p * q) (hw l) (normed_tile x a l))))))))

theorem acc_tile (h : FVec Ideal S256x1024 .f32) (x : Vec Ideal S256x1024 .f32) (p : Vec Ideal S1x1024 .f32) (d : Fin 1024) :
    k0_pay8 h (k0_pay5 x) p (ix2 0 d)
      = p (ix2 0 d) + ∑ a : Fin 256, h (ix2 a d) * (x (ix2 a d) * inv (fun l => x (ix2 a l))) := by
  unfold k0_pay8
  rw [shapeCast_id]
  refine congrArg (fun q : EReal => p (ix2 0 d) + q) ((cols_apply _ d).trans (Finset.sum_congr rfl fun a _ => ?_))
  exact congrArg (fun q : EReal => h (ix2 a d) * q) (normed_tile x a d)

theorem shift_tile (h : FVec Ideal S256x1024 .f32) (p : Vec Ideal S1x1024 .f32) (d : Fin 1024) :
    k0_pay9 h p (ix2 0 d) = p (ix2 0 d) + ∑ a : Fin 256, h (ix2 a d) := by
  unfold k0_pay9
  rw [shapeCast_id]
  exact congrArg (fun q : EReal => p (ix2 0 d) + q) (cols_apply _ d)

theorem gain_tile (p s : Vec Ideal S1x1024 .f32) (d : Fin 1024) : k0_pay11 p s (ix2 0 d) = p (ix2 0 d) * (one + s (ix2 0 d)) := by
  unfold k0_pay11 k0_pay10
  rw [shapeCast_id]
  rfl

theorem scale_tile (p g : Vec Ideal S1x1024 .f32) (d : Fin 1024) : k0_pay12 p g (ix2 0 d) = p (ix2 0 d) * g (ix2 0 d) := by
  unfold k0_pay12 k0_pay10
  simp only [shapeCast_id]
  rfl

theorem zero1_apply (i : S1x1024.Idx) : k0_pay1 (F := Ideal) i = 0 := Ideal.ofBits_zero_f32
theorem zero2_apply (i : S1x1024.Idx) : k0_pay2 (F := Ideal) i = 0 := Ideal.ofBits_zero_f32

end Cert.Proj

end
-- ==== Proof.Proj.lean ====
/- The gradient of the input projection: the kernel's result arrays. Each grid step has 256 tokens; the gradients of the norm's
   gain, of the scale and of the shift are sums over all tokens, carried from one grid step to the next. -/
module

public import proofs.«01_k».proof.Proof.ProjTile

@[expose] public section

set_option maxRecDepth 16384
set_option backward.proofsInPublic true

noncomputable section

namespace Cert.Proj

open Cert.Kernel5Ideal Cert.Kernel5Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

/-! ## The results as functions of the arguments -/

/-- The gradient of the projection's input. -/
def hidA (z : S16384x6400.Idx → EReal) (w : S2x1024x6400.Idx → EReal) (t : Fin 16384) : Fin 1024 → EReal :=
  dHid (fun k => z (ix2 t k)) (fun d k => w (ix3 (0 : Fin 2) d k))

/-- The gradient of the layer's input. -/
def resDx (x0 : S16384x1024.Idx → EReal) (x1 : S1024.Idx → EReal) (x3 : S1x1024.Idx → EReal) (x4 : S2x1024x6400.Idx → EReal)
    (x5 : S16384x1024.Idx → EReal) (x6 : S16384x6400.Idx → EReal) (t : Fin 16384) : Fin 1024 → EReal :=
  dxRow (fun l => x0 (ix2 t l)) (fun l => x5 (ix2 t l)) (fun l => x1 (ix1 l)) (fun l => x3 (ix2 0 l)) (hidA x6 x4 t)

/-- The sum that the gain's and the scale's gradients share. -/
def accA (x0 : S16384x1024.Idx → EReal) (x4 : S2x1024x6400.Idx → EReal) (x6 : S16384x6400.Idx → EReal) : Fin 1024 → EReal :=
  acc (fun t l => x0 (ix2 t l)) (hidA x6 x4)

variable (m : (ℓ : Loc nD τ sig) → Buf (Elt Ideal) ℓ) (ρ : Dev nD → PrngReg)

/-! ## The grid steps' outputs -/

/-- What the tile of point `t` has for the gradient of the projection's input. -/
def tH (c : Dev nD) (t : Fin cfg0.N) : FVec Ideal S256x1024 .f32 :=
  k0_pay3 (iblk m c 0 t) (iblk m c 3 t) (iblk m c 1 t) (iblk m c 4 t) (iblk m c 2 t) (iblk m c 5 t)

theorem o10 (c : Dev nD) (t : Fin cfg0.N) (a : Fin 256) (d : Fin 1024) : (outsAt0 m c t.val t.isLt).1 (ix2 a d)
    = dxRow (fun l => iblk m c 6 t (ix2 a l)) (fun l => iblk m c 7 t (ix2 a l)) (fun l => iblk m c 8 t (ix2 0 l))
      (fun l => iblk m c 9 t (ix2 0 l)) (fun l => tH m c t (ix2 a l)) d := by
  by_cases h0 : t.val % 64 = 0
  · rw [outsAt0_A m c t h0 (by omega)]
    frame_out
    exact dx_tile _ _ _ _ _ a d
  · by_cases h1 : t.val % 64 = 63
    · rw [outsAt0_C m c t h0 h1]
      frame_out
      exact dx_tile _ _ _ _ _ a d
    · rw [outsAt0_B m c t h0 h1]
      frame_out
      exact dx_tile _ _ _ _ _ a d

/-- Point `t`'s rows of the input, and its blocks of the gain and of the scale. -/
def xB (c : Dev nD) (t : Fin cfg0.N) : FVec Ideal S256x1024 .f32 := iblk m c 6 t
def gB (c : Dev nD) (t : Fin cfg0.N) : FVec Ideal S1x1024 .f32 := iblk m c 8 t
def sB (c : Dev nD) (t : Fin cfg0.N) : FVec Ideal S1x1024 .f32 := iblk m c 9 t

/-- A grid step's part of the shared sum. -/
def partA (c : Dev nD) (d : Fin 1024) (n : ℕ) : EReal :=
  if h : n < cfg0.N then ∑ a : Fin 256, tH m c ⟨n, h⟩ (ix2 a d) * (xB m c ⟨n, h⟩ (ix2 a d)
    * inv (fun l => xB m c ⟨n, h⟩ (ix2 a l))) else 0

/-- A grid step's part of the shift's gradient. -/
def partS (c : Dev nD) (d : Fin 1024) (n : ℕ) : EReal :=
  if h : n < cfg0.N then ∑ a : Fin 256, tH m c ⟨n, h⟩ (ix2 a d) else 0

/-- The carried sum before the last grid step. -/
theorem o11_lt (c : Dev nD) (d : Fin 1024) (n : ℕ) : ∀ (h : n < cfg0.N), n < 63 →
    (outsAt0 m c n h).2.1 (ix2 0 d) = ∑ s ∈ Finset.range (n + 1), partA m c d s := by
  induction n with
  | zero =>
    intro h hn
    rw [outsAt0_A m c ⟨0, h⟩ rfl (by show ¬0 % 64 = 63; decide)]
    frame_out
    rw [acc_tile, zero1_apply, zero_add, Finset.sum_range_one, partA, dif_pos h]
    rfl
  | succ n ih =>
    intro h hn
    have := ih (by omega) (by omega)
    rw [outsAt0_B m c ⟨n + 1, h⟩ (by show ¬(n + 1) % 64 = 0; omega) (by show ¬(n + 1) % 64 = 63; omega)]
    frame_out
    rw [acc_tile, Finset.sum_range_succ, ← this, partA, dif_pos h]
    rfl

theorem o11_succ (c : Dev nD) (d : Fin 1024) (n : ℕ) (h : n + 1 < cfg0.N) (hn : n + 1 = 63) : (outsAt0 m c (n + 1) h).2.1 (ix2 0 d)
    = (∑ s ∈ Finset.range (n + 2), partA m c d s) * (one + sB m c ⟨n + 1, h⟩ (ix2 0 d)) := by
  have := o11_lt m c d n (by omega) (by omega)
  rw [outsAt0_C m c ⟨n + 1, h⟩ (by show ¬(n + 1) % 64 = 0; omega) (by show (n + 1) % 64 = 63; omega)]
  frame_out
  rw [gain_tile, acc_tile, Finset.sum_range_succ, ← this, partA, dif_pos h]
  rfl

/-- The gain's gradient at the last grid step. -/
theorem o11 (c : Dev nD) (t : Fin cfg0.N) (ht : t.val = 63) (d : Fin 1024) : (outsAt0 m c t.val t.isLt).2.1 (ix2 0 d)
    = (∑ s ∈ Finset.range 64, partA m c d s) * (one + sB m c t (ix2 0 d)) := by
  obtain ⟨n, hn⟩ := t
  obtain ⟨k, hk⟩ : ∃ k, n = k + 1 := ⟨62, ht⟩
  subst hk
  have h1 : k + 1 = 63 := ht
  have h2 : k + 2 = 64 := by omega
  rw [← h2]
  exact o11_succ m c d k hn h1

theorem o12_succ (c : Dev nD) (d : Fin 1024) (n : ℕ) (h : n + 1 < cfg0.N) (hn : n + 1 = 63) : (outsAt0 m c (n + 1) h).2.2.1 (ix2 0 d)
    = (∑ s ∈ Finset.range (n + 2), partA m c d s) * gB m c ⟨n + 1, h⟩ (ix2 0 d) := by
  have := o11_lt m c d n (by omega) (by omega)
  rw [outsAt0_C m c ⟨n + 1, h⟩ (by show ¬(n + 1) % 64 = 0; omega) (by show (n + 1) % 64 = 63; omega)]
  frame_out
  rw [scale_tile, acc_tile, Finset.sum_range_succ, ← this, partA, dif_pos h]
  rfl

/-- The scale's gradient at the last grid step. -/
theorem o12 (c : Dev nD) (t : Fin cfg0.N) (ht : t.val = 63) (d : Fin 1024) : (outsAt0 m c t.val t.isLt).2.2.1 (ix2 0 d)
    = (∑ s ∈ Finset.range 64, partA m c d s) * gB m c t (ix2 0 d) := by
  obtain ⟨n, hn⟩ := t
  obtain ⟨k, hk⟩ : ∃ k, n = k + 1 := ⟨62, ht⟩
  subst hk
  have h1 : k + 1 = 63 := ht
  have h2 : k + 2 = 64 := by omega
  rw [← h2]
  exact o12_succ m c d k hn h1

/-- The carried sum of the shift's gradient. -/
theorem o13_le (c : Dev nD) (d : Fin 1024) : ∀ (n : ℕ) (h : n < cfg0.N),
    (outsAt0 m c n h).2.2.2 (ix2 0 d) = ∑ s ∈ Finset.range (n + 1), partS m c d s
  | 0, h => by
    rw [outsAt0_A m c ⟨0, h⟩ rfl (by show ¬0 % 64 = 63; decide)]
    frame_out
    rw [shift_tile, zero2_apply, zero_add, Finset.sum_range_one, partS, dif_pos h]
    rfl
  | n + 1, h => by
    have := o13_le c d n (by omega)
    have hN : cfg0.N = 64 := N_0
    by_cases h1 : n + 1 = 63
    · rw [outsAt0_C m c ⟨n + 1, h⟩ (by show ¬(n + 1) % 64 = 0; omega) (by show (n + 1) % 64 = 63; omega)]
      frame_out
      rw [shift_tile, Finset.sum_range_succ, ← this, partS, dif_pos h]
      rfl
    · rw [outsAt0_B m c ⟨n + 1, h⟩ (by show ¬(n + 1) % 64 = 0; omega) (by show ¬(n + 1) % 64 = 63; omega)]
      frame_out
      rw [shift_tile, Finset.sum_range_succ, ← this, partS, dif_pos h]
      rfl

/-! ## The blocks that come in -/

theorem index0 : ∀ t : Fin grid0.N, (win0_0.index t = ![t.val, 0] ∧ win0_1.index t = ![t.val, 0] ∧ win0_2.index t = ![t.val, 0])
    ∧ (win0_3.index t = ![0, 0] ∧ win0_4.index t = ![0, 0] ∧ win0_5.index t = ![0, 0])
    ∧ (win0_6.index t = ![t.val, 0] ∧ win0_7.index t = ![t.val, 0]) ∧ (win0_8.index t = ![0, 0] ∧ win0_9.index t = ![0, 0])
    ∧ win0_10.index t = ![t.val, 0] ∧ (win0_11.index t = ![0, 0] ∧ win0_12.index t = ![0, 0] ∧ win0_13.index t = ![0, 0]) := by
  decide +kernel

theorem lt_rows (t : Fin cfg0.N) (a : Fin 256) : t.val * 256 + a.val < 16384 := by
  have := t.isLt; have : cfg0.N = 64 := N_0; omega

theorem iblk0 (c : Dev nD) (t : Fin cfg0.N) (a : Fin 256) (k : Fin 2304) :
    iblk m c 0 t (ix2 a k) = V m c main_v1 (ix2 ⟨t.val * 256 + a.val, lt_rows t a⟩ k) := by
  have e := (index0 t).1.1
  unfold iblk
  blk_ext [e]
theorem iblk1 (c : Dev nD) (t : Fin cfg0.N) (a : Fin 256) (k : Fin 2048) :
    iblk m c 1 t (ix2 a k) = V m c main_v2 (ix2 ⟨t.val * 256 + a.val, lt_rows t a⟩ k) := by
  have e := (index0 t).1.2.1
  unfold iblk
  blk_ext [e]
theorem iblk2 (c : Dev nD) (t : Fin cfg0.N) (a : Fin 256) (k : Fin 2048) :
    iblk m c 2 t (ix2 a k) = V m c main_v3 (ix2 ⟨t.val * 256 + a.val, lt_rows t a⟩ k) := by
  have e := (index0 t).1.2.2
  unfold iblk
  blk_ext [e]
theorem iblk3 (c : Dev nD) (t : Fin cfg0.N) (d : Fin 1024) (k : Fin 2304) : iblk m c 3 t (ix2 d k) = V m c main_v7 (ix2 d k) := by
  have e := (index0 t).2.1.1
  unfold iblk
  blk_ext [e]
theorem iblk4 (c : Dev nD) (t : Fin cfg0.N) (d : Fin 1024) (k : Fin 2048) : iblk m c 4 t (ix2 d k) = V m c main_v8 (ix2 d k) := by
  have e := (index0 t).2.1.2.1
  unfold iblk
  blk_ext [e]
theorem iblk5 (c : Dev nD) (t : Fin cfg0.N) (d : Fin 1024) (k : Fin 2048) : iblk m c 5 t (ix2 d k) = V m c main_v9 (ix2 d k) := by
  have e := (index0 t).2.1.2.2
  unfold iblk
  blk_ext [e]
theorem iblk6 (c : Dev nD) (t : Fin cfg0.N) (a : Fin 256) (d : Fin 1024) :
    iblk m c 6 t (ix2 a d) = V m c main_arg0 (ix2 ⟨t.val * 256 + a.val, lt_rows t a⟩ d) := by
  have e := (index0 t).2.2.1.1
  unfold iblk
  blk_ext [e]
theorem iblk7 (c : Dev nD) (t : Fin cfg0.N) (a : Fin 256) (d : Fin 1024) :
    iblk m c 7 t (ix2 a d) = V m c main_arg5 (ix2 ⟨t.val * 256 + a.val, lt_rows t a⟩ d) := by
  have e := (index0 t).2.2.1.2
  unfold iblk
  blk_ext [e]
theorem iblk8 (c : Dev nD) (t : Fin cfg0.N) (d : Fin 1024) : iblk m c 8 t (ix2 0 d) = V m c main_v10 (ix2 (0 : Fin 1) d) := by
  have e := (index0 t).2.2.2.1.1
  unfold iblk
  blk_ext [e]
theorem iblk9 (c : Dev nD) (t : Fin cfg0.N) (d : Fin 1024) : iblk m c 9 t (ix2 0 d) = V m c main_arg3 (ix2 (0 : Fin 1) d) := by
  have e := (index0 t).2.2.2.1.2
  unfold iblk
  blk_ext [e]

theorem V_v1 (c : Dev nD) (t : Fin 16384) (k : Fin 2304) :
    V m c main_v1 (ix2 t k) = m ((c : Thread nD τ).loc main_arg6) (ix2 t (⟨k.val, by omega⟩ : Fin 6400)) := by
  show StableHlo.after hostOps0 _ (Proc.devRef .tc main_v1) _ = _
  after_reads_at
  rfl
theorem V_v2 (c : Dev nD) (t : Fin 16384) (k : Fin 2048) :
    V m c main_v2 (ix2 t k) = m ((c : Thread nD τ).loc main_arg6) (ix2 t (⟨2304 + k.val, by omega⟩ : Fin 6400)) := by
  show StableHlo.after hostOps0 _ (Proc.devRef .tc main_v2) _ = _
  after_reads_at
  rfl
theorem V_v3 (c : Dev nD) (t : Fin 16384) (k : Fin 2048) :
    V m c main_v3 (ix2 t k) = m ((c : Thread nD τ).loc main_arg6) (ix2 t (⟨4352 + k.val, by omega⟩ : Fin 6400)) := by
  show StableHlo.after hostOps0 _ (Proc.devRef .tc main_v3) _ = _
  after_reads_at
  rfl

/-- The layer's weight, cut out of the array of both layers. -/
theorem layer_apply (x : S2x1024x6400.Idx → EReal) (d : Fin 1024) (k : Fin 6400) :
    shapeCast S1024x6400 (extractStridedSlice S1x1024x6400 ![0, 0, 0] (x : Vec Ideal S2x1024x6400 .f32) slices_S2x1024x6400_S1x1024x6400_0_0_0)
      shapeCasts_S1x1024x6400_S1024x6400 (ix2 d k) = x (ix3 (0 : Fin 2) d k) := by
  rw [shapeCast_apply _ shapeCasts_S1x1024x6400_S1024x6400 (ix2 d k) (ix3 (0 : Fin 1) d k) (by
    rw [Shape.rowMajor_val_two, Shape.rowMajor_val_three]
    show (0 * 1024 + d.val) * 6400 + k.val = d.val * 6400 + k.val
    omega)]
  refine extractStridedSlice_apply _ _ _ _ _ (fun a => ?_)
  fin_cases a
  · rfl
  · show d.val = 0 + d.val; omega
  · show k.val = 0 + k.val; omega

theorem V_v7 (c : Dev nD) (d : Fin 1024) (k : Fin 2304) :
    V m c main_v7 (ix2 d k) = m ((c : Thread nD τ).loc main_arg4) (ix3 (0 : Fin 2) d (⟨k.val, by omega⟩ : Fin 6400)) := by
  refine Eq.trans ?_ (layer_apply _ d _)
  show StableHlo.after hostOps0 _ (Proc.devRef .tc main_v7) _ = _
  after_reads_at
theorem V_v8 (c : Dev nD) (d : Fin 1024) (k : Fin 2048) :
    V m c main_v8 (ix2 d k) = m ((c : Thread nD τ).loc main_arg4) (ix3 (0 : Fin 2) d (⟨2304 + k.val, by omega⟩ : Fin 6400)) := by
  refine Eq.trans ?_ (layer_apply _ d _)
  show StableHlo.after hostOps0 _ (Proc.devRef .tc main_v8) _ = _
  after_reads_at
theorem V_v9 (c : Dev nD) (d : Fin 1024) (k : Fin 2048) :
    V m c main_v9 (ix2 d k) = m ((c : Thread nD τ).loc main_arg4) (ix3 (0 : Fin 2) d (⟨4352 + k.val, by omega⟩ : Fin 6400)) := by
  refine Eq.trans ?_ (layer_apply _ d _)
  show StableHlo.after hostOps0 _ (Proc.devRef .tc main_v9) _ = _
  after_reads_at
theorem V_v10 (c : Dev nD) (d : Fin 1024) : V m c main_v10 (ix2 (0 : Fin 1) d) = m ((c : Thread nD τ).loc main_arg1) (ix1 d) := by
  show StableHlo.after hostOps0 _ (Proc.devRef .tc main_v10) _ = _
  after_reads_at
  rfl

/-! ## The grid steps' rows -/

/-- A tile's row is the array's row. -/
theorem tH_apply (c : Dev nD) (t : Fin cfg0.N) (a : Fin 256) (d : Fin 1024) :
    tH m c t (ix2 a d) = hidA (m ((c : Thread nD τ).loc main_arg6)) (m ((c : Thread nD τ).loc main_arg4)) ⟨t.val * 256 + a.val, lt_rows t a⟩ d := by
  unfold tH hidA
  exact hid_tile _ _ _ _ _ _ a _ _ (fun k => (iblk0 m c t a k).trans (V_v1 m c _ k)) (fun k => (iblk1 m c t a k).trans (V_v2 m c _ k))
    (fun k => (iblk2 m c t a k).trans (V_v3 m c _ k)) (fun d k => (iblk3 m c t d k).trans (V_v7 m c d k))
    (fun d k => (iblk4 m c t d k).trans (V_v8 m c d k)) (fun d k => (iblk5 m c t d k).trans (V_v9 m c d k)) d

theorem x_apply (c : Dev nD) (t : Fin cfg0.N) (a : Fin 256) (d : Fin 1024) :
    xB m c t (ix2 a d) = m ((c : Thread nD τ).loc main_arg0) (ix2 ⟨t.val * 256 + a.val, lt_rows t a⟩ d) :=
  (iblk6 m c t a d).trans (congrFun (V_main_arg0 m c) _)

theorem e_apply (c : Dev nD) (t : Fin cfg0.N) (a : Fin 256) (d : Fin 1024) :
    iblk m c 7 t (ix2 a d) = m ((c : Thread nD τ).loc main_arg5) (ix2 ⟨t.val * 256 + a.val, lt_rows t a⟩ d) :=
  (iblk7 m c t a d).trans (congrFun (V_main_arg5 m c) _)

theorem g_apply (c : Dev nD) (t : Fin cfg0.N) (d : Fin 1024) :
    gB m c t (ix2 0 d) = m ((c : Thread nD τ).loc main_arg1) (ix1 d) :=
  (iblk8 m c t d).trans (V_v10 m c d)

theorem s_apply (c : Dev nD) (t : Fin cfg0.N) (d : Fin 1024) :
    sB m c t (ix2 0 d) = m ((c : Thread nD τ).loc main_arg3) (ix2 (0 : Fin 1) d) :=
  (iblk9 m c t d).trans (congrFun (V_main_arg3 m c) _)

theorem sumA (c : Dev nD) (d : Fin 1024) : ∑ s ∈ Finset.range 64, partA m c d s
    = accA (m ((c : Thread nD τ).loc main_arg0)) (m ((c : Thread nD τ).loc main_arg4)) (m ((c : Thread nD τ).loc main_arg6)) d := by
  rw [Finset.sum_range]
  have hN : cfg0.N = 64 := N_0
  have e : ∀ s : Fin 64, partA m c d s.val = ∑ a : Fin 256, tH m c ⟨s.val, by omega⟩ (ix2 a d)
      * (xB m c ⟨s.val, by omega⟩ (ix2 a d)
        * inv (fun l => xB m c ⟨s.val, by omega⟩ (ix2 a l))) := fun s => dif_pos (by omega)
  simp only [e]
  unfold accA acc
  refine Fin.sum_mul_add_congr fun s l hl => ?_
  simp only [tH_apply, x_apply]

theorem sumS (c : Dev nD) (d : Fin 1024) : ∑ s ∈ Finset.range 64, partS m c d s
    = ∑ t : Fin 16384, hidA (m ((c : Thread nD τ).loc main_arg6)) (m ((c : Thread nD τ).loc main_arg4)) t d := by
  rw [Finset.sum_range]
  have hN : cfg0.N = 64 := N_0
  have e : ∀ s : Fin 64, partS m c d s.val = ∑ a : Fin 256, tH m c ⟨s.val, by omega⟩ (ix2 a d) := fun s => dif_pos (by omega)
  simp only [e]
  refine Fin.sum_mul_add_congr fun s l hl => ?_
  exact tH_apply m c _ l d

/-! ## The result arrays -/

theorem block10 (c : Dev nD) (t : Fin cfg0.N) (y : S256x1024.Idx) (i : S16384x1024.Idx) (h0 : (i 0).val = t.val * 256 + (y 0).val)
    (h1 : (i 1).val = (y 1).val) : (outsAt0 m c t.val t.isLt).1 y
      = resDx (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (i 0) (i 1) := by
  have ey : y = ix2 (y 0) (y 1) := by funext a; fin_cases a <;> rfl
  have e0 : i 0 = ⟨t.val * 256 + (y 0).val, lt_rows t (y 0)⟩ := Fin.ext h0
  have e1 : i 1 = y 1 := Fin.ext h1
  rw [e0, e1]
  refine (congrArg (outsAt0 m c t.val t.isLt).1 ey).trans ((o10 m c t (y 0) (y 1)).trans ?_)
  unfold resDx
  have ex : (fun l => iblk m c 6 t (ix2 (y 0) l)) = fun l => m ((c : Thread nD τ).loc main_arg0) (ix2 ⟨t.val * 256 + (y 0).val, lt_rows t (y 0)⟩ l) :=
    funext fun l => x_apply m c t (y 0) l
  have ee : (fun l => iblk m c 7 t (ix2 (y 0) l)) = fun l => m ((c : Thread nD τ).loc main_arg5) (ix2 ⟨t.val * 256 + (y 0).val, lt_rows t (y 0)⟩ l) :=
    funext fun l => e_apply m c t (y 0) l
  have eg : (fun l => iblk m c 8 t (ix2 0 l)) = fun l => m ((c : Thread nD τ).loc main_arg1) (ix1 l) := funext fun l => g_apply m c t l
  have es : (fun l => iblk m c 9 t (ix2 0 l)) = fun l => m ((c : Thread nD τ).loc main_arg3) (ix2 (0 : Fin 1) l) := funext fun l => s_apply m c t l
  have eh : (fun l => tH m c t (ix2 (y 0) l)) = hidA (m ((c : Thread nD τ).loc main_arg6)) (m ((c : Thread nD τ).loc main_arg4))
      ⟨t.val * 256 + (y 0).val, lt_rows t (y 0)⟩ := funext fun l => tH_apply m c t (y 0) l
  exact congr (congr (congr (congr (congr (congrArg dxRow ex) ee) eg) es) eh) rfl

/-- The layer input's gradient. -/
theorem final10 (c : Dev nD) : (dats m 0 c).arrAt 10 cfg0.N
    = fun i : S16384x1024.Idx => resDx (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) (i 0) (i 1) := by
  refine (dats m 0 c).arrAt_eq_of_covers 10 _ (by decide +kernel) fun t hf y => ?_
  have e := (index0 t).2.2.2.2.1
  blk_simp [e]
  rw [after0_10]
  refine block10 m c t y ((win0_10.blk t).view.emb y) ?_ ?_
  · blk_simp [e]
  · blk_simp [e]

theorem idx_vec (y : S1x1024.Idx) : y = ix2 (0 : Fin 1) (y 1) := by
  funext a
  fin_cases a
  · exact Fin.ext (by have := (y 0).isLt; show (y 0).val = 0; have h : (y 0).val < 1 := this; omega)
  · rfl

theorem last (t : Fin cfg0.N) (h : t.val % 64 = 63) : t.val = 63 := by
  have := t.isLt; have : cfg0.N = 64 := N_0; omega

theorem block11 (c : Dev nD) (t : Fin cfg0.N) (ht : t.val = 63) (y i : S1x1024.Idx) (h1 : (i 1).val = (y 1).val) :
    (outsAt0 m c t.val t.isLt).2.1 y = accA (m ((c : Thread nD τ).loc main_arg0)) (m ((c : Thread nD τ).loc main_arg4)) (m ((c : Thread nD τ).loc main_arg6)) (i 1)
      * (one + m ((c : Thread nD τ).loc main_arg3) (ix2 (0 : Fin 1) (i 1))) := by
  have e1 : i 1 = y 1 := Fin.ext h1
  rw [e1]
  refine (congrArg (outsAt0 m c t.val t.isLt).2.1 (idx_vec y)).trans ((o11 m c t ht (y 1)).trans ?_)
  exact congrArg₂ (fun p q : EReal => p * (one + q)) (sumA m c (y 1)) (s_apply m c t (y 1))

/-- The gain's gradient. -/
theorem final11 (c : Dev nD) : (dats m 0 c).arrAt 11 cfg0.N
    = fun i : S1x1024.Idx => accA (m ((c : Thread nD τ).loc main_arg0)) (m ((c : Thread nD τ).loc main_arg4)) (m ((c : Thread nD τ).loc main_arg6)) (i 1)
      * (one + m ((c : Thread nD τ).loc main_arg3) (ix2 (0 : Fin 1) (i 1))) := by
  refine (dats m 0 c).arrAt_eq_of_covers 11 _ (by decide +kernel) fun t hf y => ?_
  have e := (index0 t).2.2.2.2.2.1
  blk_simp [e]
  rw [after0_11]
  refine block11 m c t (last t ((flush0_11 t).mp hf)) y ((win0_11.blk t).view.emb y) ?_
  · blk_simp [e]

theorem block12 (c : Dev nD) (t : Fin cfg0.N) (ht : t.val = 63) (y i : S1x1024.Idx) (h1 : (i 1).val = (y 1).val) :
    (outsAt0 m c t.val t.isLt).2.2.1 y = accA (m ((c : Thread nD τ).loc main_arg0)) (m ((c : Thread nD τ).loc main_arg4)) (m ((c : Thread nD τ).loc main_arg6)) (i 1)
      * m ((c : Thread nD τ).loc main_arg1) (ix1 (i 1)) := by
  have e1 : i 1 = y 1 := Fin.ext h1
  rw [e1]
  refine (congrArg (outsAt0 m c t.val t.isLt).2.2.1 (idx_vec y)).trans ((o12 m c t ht (y 1)).trans ?_)
  exact congrArg₂ (fun p q : EReal => p * q) (sumA m c (y 1)) (g_apply m c t (y 1))

/-- The scale's gradient. -/
theorem final12 (c : Dev nD) : (dats m 0 c).arrAt 12 cfg0.N
    = fun i : S1x1024.Idx => accA (m ((c : Thread nD τ).loc main_arg0)) (m ((c : Thread nD τ).loc main_arg4)) (m ((c : Thread nD τ).loc main_arg6)) (i 1)
      * m ((c : Thread nD τ).loc main_arg1) (ix1 (i 1)) := by
  refine (dats m 0 c).arrAt_eq_of_covers 12 _ (by decide +kernel) fun t hf y => ?_
  have e := (index0 t).2.2.2.2.2.2.1
  blk_simp [e]
  rw [after0_12]
  refine block12 m c t (last t ((flush0_12 t).mp hf)) y ((win0_12.blk t).view.emb y) ?_
  · blk_simp [e]

theorem block13 (c : Dev nD) (t : Fin cfg0.N) (ht : t.val = 63) (y i : S1x1024.Idx) (h1 : (i 1).val = (y 1).val) :
    (outsAt0 m c t.val t.isLt).2.2.2 y
      = ∑ q : Fin 16384, hidA (m ((c : Thread nD τ).loc main_arg6)) (m ((c : Thread nD τ).loc main_arg4)) q (i 1) := by
  have e1 : i 1 = y 1 := Fin.ext h1
  rw [e1, ← sumS m c (y 1)]
  refine (congrArg (outsAt0 m c t.val t.isLt).2.2.2 (idx_vec y)).trans ((o13_le m c (y 1) t.val t.isLt).trans ?_)
  rw [ht]

/-- The shift's gradient. -/
theorem final13 (c : Dev nD) : (dats m 0 c).arrAt 13 cfg0.N
    = fun i : S1x1024.Idx => ∑ q : Fin 16384, hidA (m ((c : Thread nD τ).loc main_arg6)) (m ((c : Thread nD τ).loc main_arg4)) q (i 1) := by
  refine (dats m 0 c).arrAt_eq_of_covers 13 _ (by decide +kernel) fun t hf y => ?_
  have e := (index0 t).2.2.2.2.2.2.2
  blk_simp [e]
  rw [after0_13]
  refine block13 m c t (last t ((flush0_13 t).mp hf)) y ((win0_13.blk t).view.emb y) ?_
  · blk_simp [e]

end Cert.Proj

end
-- ==== Proof.RefProj.lean ====
/- The gradient of the input projection: the reference's result arrays on real arguments, equal to the kernel's. -/
module

public import proofs.«01_k».proof.Proof.Proj
public import proofs.«01_k».proof.Proof.Finite
public import proofs.«01_k».proof.Proof.Gen.Pre_finite5
public import proofs.«01_k».proof.Proof.Gen.Reference5Ideal.Run
public import proofs.«01_k».proof.Proof.Gen.Reference5Ideal.Read

@[expose] public section

set_option maxRecDepth 16384

noncomputable section

namespace Cert.Proj

open Cert.Reference5Ideal Cert.Reference5Ideal.Gen Cert.Reference5Ideal.Read
open Idealize.ShloMosaic hiding ix1 ix2 ix3 ix4 ix5
open Idealize.ShloMosaic.ValueIdx Idealize.ShloMosaic.TcCoe Idealize.SL.Sem
open Cert.Attn (reals)

variable (x0 : S16384x1024.Idx → EReal) (x1 : S1024.Idx → EReal) (x3 : S1x1024.Idx → EReal) (x4 : S2x1024x6400.Idx → EReal)
  (x5 : S16384x1024.Idx → EReal) (x6 : S16384x6400.Idx → EReal)

/-! ## The reference's steps, element by element -/

theorem v6_at (i : S16384x1.Idx) : val_main_v6 (F := Ideal) x0 i = var (fun l => x0 (ix2 (i 0) l)) := by
  rw [val_main_v6_apply, val_main_v4_apply, val_main_v2_apply, val_main_v1_apply, val_main_v3_apply, val_main_v5_apply,
    val_main_cst_0_apply, val_main_cst_1_apply, val_main_cst_apply]
  refine congrArg₂ (fun p q : EReal => Ideal.div p width + q) ?_ rfl
  refine (congrArg₂ (fun p q : EReal => p + q) Ideal.ofBits_zero_f32 (Finset.sum_congr rfl fun k _ => ?_)).trans (zero_add _)
  rw [val_main_v0_apply]
  refine congrArg (fun j => x0 j * x0 j) ?_
  funext a; fin_cases a <;> rfl

theorem v7_at (i : S16384x1.Idx) : val_main_v7 (F := Ideal) x0 i = inv (fun l => x0 (ix2 (i 0) l)) := by
  rw [val_main_v7_apply, v6_at]; rfl

theorem v10_at (i : S16384x1.Idx) : val_main_v10 (F := Ideal) x0 i
    = mhalf * Ideal.div (inv fun l => x0 (ix2 (i 0) l)) (var fun l => x0 (ix2 (i 0) l)) := by
  rw [val_main_v10_apply, val_main_v8_apply, val_main_v9_apply, val_main_cst_2_apply, v7_at, v6_at]; rfl

theorem v12_at (t : Fin 16384) (d : Fin 1024) : val_main_v12 (F := Ideal) x0 (ix2 t d) = x0 (ix2 t d) * inv (fun l => x0 (ix2 t l)) := by
  rw [val_main_v12_apply, val_main_v11_apply, v7_at]; rfl

theorem v14_at (t : Fin 16384) (d : Fin 1024) : val_main_v14 (F := Ideal) x1 (ix2 t d) = x1 (ix1 d) := by
  rw [val_main_v14_apply, val_main_v13_apply]
  refine congrArg x1 ?_
  funext a; fin_cases a; rfl

theorem v36_at (t : Fin 16384) (d : Fin 1024) : val_main_v36 (F := Ideal) x1 (ix2 t d) = x1 (ix1 d) := by
  rw [val_main_v36_apply, val_main_v13_apply]
  refine congrArg x1 ?_
  funext a; fin_cases a; rfl

theorem v31_at (t : Fin 16384) (d : Fin 1024) : val_main_v31 (F := Ideal) x3 (ix2 t d) = one + x3 (ix2 (0 : Fin 1) d) := by
  rw [val_main_v31_apply, val_main_v17_apply, val_main_v16_apply, val_main_cst_3_apply]
  refine congrArg (fun j => one + x3 j) ?_
  funext a; fin_cases a <;> rfl

theorem v23_at (d : Fin 1024) (k : Fin 6400) : val_main_v23 (F := Ideal) x4 (ix2 d k) = x4 (ix3 (0 : Fin 2) d k) := by
  rw [val_main_v23_apply, val_main_v22_apply]
  refine congrArg x4 ?_
  funext a
  fin_cases a
  · rfl
  · exact Fin.ext (by show (d.val * 6400 + k.val) / 6400 % 1024 = d.val; omega)
  · exact Fin.ext (by show (d.val * 6400 + k.val) % 6400 = k.val; omega)

theorem v25_at (t : Fin 16384) (d : Fin 1024) : val_main_v25 (F := Ideal) x4 x6 (ix2 t d) = hidA x6 x4 t d := by
  rw [val_main_v25_apply]
  unfold hidA dHid
  refine Finset.sum_congr rfl fun k _ => ?_
  refine congrArg₂ (fun p q : EReal => p * q) (congrArg x6 ?_) ((congrArg (val_main_v23 (F := Ideal) x4) ?_).trans (v23_at x4 d k))
  · funext a; fin_cases a <;> rfl
  · funext a; fin_cases a <;> rfl

theorem v32_at (t : Fin 16384) (d : Fin 1024) : val_main_v32 (F := Ideal) x3 x4 x6 (ix2 t d)
    = hidA x6 x4 t d * (one + x3 (ix2 (0 : Fin 1) d)) := by
  rw [val_main_v32_apply, v25_at, v31_at]; rfl

theorem v37_at (t : Fin 16384) (d : Fin 1024) : val_main_v37 (F := Ideal) x1 x3 x4 x6 (ix2 t d)
    = hidA x6 x4 t d * (one + x3 (ix2 (0 : Fin 1) d)) * x1 (ix1 d) := by
  rw [val_main_v37_apply, v32_at, v36_at]; rfl

theorem v49_at (t : Fin 16384) (d : Fin 1024) : val_main_v49 (F := Ideal) x0 x1 x3 x4 x6 (ix2 t d)
    = back (fun l => x0 (ix2 t l)) (fun l => x1 (ix1 l)) (fun l => x3 (ix2 (0 : Fin 1) l)) (hidA x6 x4 t) := by
  rw [val_main_v49_apply, val_main_v48_apply, val_main_cst_10_apply]
  refine (congrArg₂ (fun p q : EReal => p + q) Ideal.ofBits_zero_f32 (Fin.sum_univ_one _)).trans ((zero_add _).trans ?_)
  rw [val_main_v47_apply, val_main_v46_apply, val_main_cst_9_apply, val_main_v45_apply, v10_at, val_main_v41_apply, val_main_v40_apply,
    val_main_cst_8_apply]
  unfold back
  refine congrArg (fun p : EReal => Ideal.div (p * _) width) ?_
  refine (congrArg₂ (fun p q : EReal => p + q) Ideal.ofBits_zero_f32 (Finset.sum_congr rfl fun k _ => ?_)).trans (zero_add _)
  refine Eq.trans (congrArg (val_main_v39 (F := Ideal) x0 x1 x3 x4 x6) (show _ = ix2 t k from ?_)) ?_
  · funext a
    fin_cases a
    · exact Fin.ext (by show t.val * 1 + 0 = t.val; omega)
    · rfl
  · rw [val_main_v39_apply, v37_at]; rfl

/-- The reference's gradient of the layer's input. -/
theorem v53_at (t : Fin 16384) (d : Fin 1024) : val_main_v53 (F := Ideal) x0 x1 x3 x4 x5 x6 (ix2 t d)
    = x5 (ix2 t d) + hidA x6 x4 t d * (one + x3 (ix2 (0 : Fin 1) d)) * x1 (ix1 d) * inv (fun l => x0 (ix2 t l))
      + x0 (ix2 t d) * back (fun l => x0 (ix2 t l)) (fun l => x1 (ix1 l)) (fun l => x3 (ix2 (0 : Fin 1) l)) (hidA x6 x4 t)
      + back (fun l => x0 (ix2 t l)) (fun l => x1 (ix1 l)) (fun l => x3 (ix2 (0 : Fin 1) l)) (hidA x6 x4 t) * x0 (ix2 t d) := by
  rw [val_main_v53_apply, val_main_v51_apply, val_main_v44_apply, val_main_v43_apply, v37_at, val_main_v42_apply, v7_at,
    val_main_v50_apply, val_main_v52_apply, v49_at]
  rfl

theorem row_of (f : S1024.Idx → EReal) (i : S1x1024.Idx) (j : S1024.Idx) (h : (j 0).val = (i 0).val * 1024 + (i 1).val) :
    f j = f (ix1 (i 1)) := by
  refine congrArg f ?_
  have h0 : (i 0).val < 1 := (i 0).isLt
  funext a
  fin_cases a
  exact Fin.ext (by show (j 0).val = (i 1).val; omega)

theorem v26_at (d : Fin 1024) : val_main_v26 (F := Ideal) x4 x6 (ix1 d) = ∑ t : Fin 16384, hidA x6 x4 t d := by
  rw [val_main_v26_apply, val_main_cst_4_apply]
  refine (congrArg₂ (fun p q : EReal => p + q) Ideal.ofBits_zero_f32 (Finset.sum_congr rfl fun t _ => ?_)).trans (zero_add _)
  refine Eq.trans (congrArg (val_main_v25 (F := Ideal) x4 x6) (show _ = ix2 t d from ?_)) (v25_at x4 x6 t d)
  funext a; fin_cases a <;> rfl

/-- The reference's gradient of the shift. -/
theorem ref27 : val_main_v27 (F := Ideal) x4 x6 = fun i : S1x1024.Idx => ∑ t : Fin 16384, hidA x6 x4 t (i 1) := by
  funext i
  rw [val_main_v27_apply]
  exact (row_of (val_main_v26 (F := Ideal) x4 x6) i _ rfl).trans (v26_at x4 x6 (i 1))

theorem v29_at (d : Fin 1024) : val_main_v29 (F := Ideal) x0 x1 x4 x6 (ix1 d)
    = ∑ t : Fin 16384, x0 (ix2 t d) * inv (fun l => x0 (ix2 t l)) * x1 (ix1 d) * hidA x6 x4 t d := by
  rw [val_main_v29_apply, val_main_cst_5_apply]
  refine (congrArg₂ (fun p q : EReal => p + q) Ideal.ofBits_zero_f32 (Finset.sum_congr rfl fun t _ => ?_)).trans (zero_add _)
  refine Eq.trans (congrArg (val_main_v28 (F := Ideal) x0 x1 x4 x6) (show _ = ix2 t d from ?_)) ?_
  · funext a; fin_cases a <;> rfl
  · rw [val_main_v28_apply, val_main_v15_apply, v12_at, v14_at, v25_at]; rfl

theorem v34_at (d : Fin 1024) : val_main_v34 (F := Ideal) x0 x3 x4 x6 (ix1 d)
    = ∑ t : Fin 16384, x0 (ix2 t d) * inv (fun l => x0 (ix2 t l)) * (hidA x6 x4 t d * (one + x3 (ix2 (0 : Fin 1) d))) := by
  rw [val_main_v34_apply, val_main_cst_6_apply]
  refine (congrArg₂ (fun p q : EReal => p + q) Ideal.ofBits_zero_f32 (Finset.sum_congr rfl fun t _ => ?_)).trans (zero_add _)
  refine Eq.trans (congrArg (val_main_v33 (F := Ideal) x0 x3 x4 x6) (show _ = ix2 t d from ?_)) ?_
  · funext a; fin_cases a <;> rfl
  · rw [val_main_v33_apply, v12_at, v32_at]; rfl

theorem swap (a h b : EReal) : a * (h * b) = h * a * b := by rw [mul_comm h a, mul_assoc]

/-! ## On real arguments -/

section
variable {x0 x1 x3 x4 x5 x6}

theorem hid_real (h4 : reals x4) (h6 : reals x6) (t : Fin 16384) (d : Fin 1024) : ∃ r : ℝ, hidA x6 x4 t d = (r : EReal) := by
  unfold hidA dHid
  refine ⟨∑ k : Fin 6400, (x6 (ix2 t k)).toReal * (x4 (ix3 (0 : Fin 2) d k)).toReal, ?_⟩
  rw [← coe_sum]
  refine Finset.sum_congr rfl fun k _ => ?_
  rw [EReal.coe_mul, h6, h4]

/-- The layer input's gradient. -/
theorem ref53 (h0 : reals x0) (h1 : reals x1) (h3 : reals x3) (h4 : reals x4) (h5 : reals x5) (h6 : reals x6) :
    val_main_v53 (F := Ideal) x0 x1 x3 x4 x5 x6 = fun i : S16384x1024.Idx => resDx x0 x1 x3 x4 x5 x6 (i 0) (i 1) := by
  funext i
  choose H hH using hid_real h4 h6 (i 0)
  have ei : i = ix2 (i 0) (i 1) := by funext a; fin_cases a <;> rfl
  refine (congrArg (val_main_v53 (F := Ideal) x0 x1 x3 x4 x5 x6) ei).trans ((v53_at x0 x1 x3 x4 x5 x6 (i 0) (i 1)).trans ?_)
  exact dx_eq (x := fun l => x0 (ix2 (i 0) l)) (e := fun l => x5 (ix2 (i 0) l)) (g := fun l => x1 (ix1 l)) (s := fun l => x3 (ix2 (0 : Fin 1) l))
    (fun l => (h0 _).symm) (fun l => (h5 _).symm) (fun l => (h1 _).symm) (fun l => (h3 _).symm) hH (i 1)

/-- The gain's gradient. -/
theorem ref54 (h0 : reals x0) (h3 : reals x3) (h4 : reals x4) (h6 : reals x6) :
    val_main_v54 (F := Ideal) x0 x3 x4 x6 = fun i : S1x1024.Idx => accA x0 x4 x6 (i 1) * (one + x3 (ix2 (0 : Fin 1) (i 1))) := by
  funext i
  choose H hH using hid_real h4 h6
  rw [val_main_v54_apply]
  refine (row_of (val_main_v38 (F := Ideal) x0 x3 x4 x6) i _ rfl).trans ?_
  rw [val_main_v38_apply, val_main_cst_7_apply]
  refine (congrArg₂ (fun p q : EReal => p + q) Ideal.ofBits_zero_f32 (Fin.sum_univ_one _)).trans ((zero_add _).trans ?_)
  rw [val_main_v35_apply]
  refine (congrArg (val_main_v34 (F := Ideal) x0 x3 x4 x6) (show _ = ix1 (i 1) from ?_)).trans ((v34_at x0 x3 x4 x6 (i 1)).trans ?_)
  · funext a; fin_cases a; exact Fin.ext (by show 0 * 1024 + (i 1).val = (i 1).val; omega)
  have e : one + x3 (ix2 (0 : Fin 1) (i 1)) = ((1 + (x3 (ix2 (0 : Fin 1) (i 1))).toReal : ℝ) : EReal) := by
    rw [EReal.coe_add, h3, one_eq]
  unfold accA
  rw [e, acc_mul (XS := fun t l => (x0 (ix2 t l)).toReal) (HS := H) (fun t l => (h0 _).symm) hH (i 1)]
  refine Finset.sum_congr rfl fun t _ => ?_
  exact swap _ _ _

/-- The scale's gradient. -/
theorem ref30 (h0 : reals x0) (h1 : reals x1) (h4 : reals x4) (h6 : reals x6) :
    val_main_v30 (F := Ideal) x0 x1 x4 x6 = fun i : S1x1024.Idx => accA x0 x4 x6 (i 1) * x1 (ix1 (i 1)) := by
  funext i
  choose H hH using hid_real h4 h6
  rw [val_main_v30_apply]
  refine (row_of (val_main_v29 (F := Ideal) x0 x1 x4 x6) i _ rfl).trans ((v29_at x0 x1 x4 x6 (i 1)).trans ?_)
  have e : x1 (ix1 (i 1)) = ((x1 (ix1 (i 1))).toReal : EReal) := (h1 _).symm
  unfold accA
  rw [e, acc_mul (XS := fun t l => (x0 (ix2 t l)).toReal) (HS := H) (fun t l => (h0 _).symm) hH (i 1)]
  refine Finset.sum_congr rfl fun t _ => ?_
  rw [mul_comm (hidA x6 x4 t (i 1)), mul_assoc, mul_assoc (x0 _ * _), mul_comm (hidA x6 x4 t (i 1))]

end

/-! ## The precondition -/

section
variable {x0 x5 : FVec Ideal Cert.Pre_finite5.S16384x1024 .f32} {x1 : FVec Ideal Cert.Pre_finite5.S1024 .f32}
  {x2 x3 : FVec Ideal Cert.Pre_finite5.S1x1024 .f32} {x4 : FVec Ideal Cert.Pre_finite5.S2x1024x6400 .f32}
  {x6 : FVec Ideal Cert.Pre_finite5.S16384x6400 .f32}

instance : Subsingleton Cert.Pre_finite5.S_.Idx := ⟨fun _ _ => funext fun a => a.elim0⟩

/-- The precondition says that every entry of every argument is real. -/
theorem reals_of_finite5 (h : Cert.Pre_finite5.fn (F := Ideal) x0 x1 x2 x3 x4 x5 x6 = fun _ => 1#1) :
    reals x0 ∧ reals x1 ∧ reals x2 ∧ reals x3 ∧ reals x4 ∧ reals x5 ∧ reals x6 := by
  have h0 := congrFun h (fun a => a.elim0)
  dsimp only [Cert.Pre_finite5.fn, Cert.Pre_finite5.fn_part1] at h0
  obtain ⟨h0, h6⟩ := Cert.Attn.andi_one h0
  obtain ⟨h0, h5⟩ := Cert.Attn.andi_one h0
  obtain ⟨h0, h4⟩ := Cert.Attn.andi_one h0
  obtain ⟨h0, h3⟩ := Cert.Attn.andi_one h0
  obtain ⟨h0, h2⟩ := Cert.Attn.andi_one h0
  obtain ⟨h0, h1⟩ := Cert.Attn.andi_one h0
  exact ⟨fun i => Cert.Attn.real_of_lt (Host.reduce_andi_all _ _ _ _ _ h0 i), fun i => Cert.Attn.real_of_lt (Host.reduce_andi_all _ _ _ _ _ h1 i),
    fun i => Cert.Attn.real_of_lt (Host.reduce_andi_all _ _ _ _ _ h2 i), fun i => Cert.Attn.real_of_lt (Host.reduce_andi_all _ _ _ _ _ h3 i),
    fun i => Cert.Attn.real_of_lt (Host.reduce_andi_all _ _ _ _ _ h4 i), fun i => Cert.Attn.real_of_lt (Host.reduce_andi_all _ _ _ _ _ h5 i),
    fun i => Cert.Attn.real_of_lt (Host.reduce_andi_all _ _ _ _ _ h6 i)⟩

end

end Cert.Proj

end
-- ==== Proof.Mix6.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.StableHlo.ReadAt

/-! The input projection's weight gradient, the part of the queries, keys and values: the kernel walks the tokens in eight strips of 2048 for each
half of the 2304 columns, adding each strip's product into a carried block of 1024 rows and 1152 columns, and writes the block
back after the last strip. The reference has the product over all tokens at once. -/

@[expose] public section

set_option maxRecDepth 16384

noncomputable section

namespace Cert.Mix6

/-- The weight gradient by row and column. -/
def grad (h : Cert.Kernel6Ideal.S16384x1024.Idx → EReal) (d : Cert.Kernel6Ideal.S16384x2304.Idx → EReal) (a : Fin 1024) (b : Fin 2304) : EReal :=
  ∑ t : Fin 16384, h (Idealize.ShloMosaic.ValueIdx.ix2 t a) * d (Idealize.ShloMosaic.ValueIdx.ix2 t b)

section Kernel

open Cert.Kernel6Ideal Cert.Kernel6Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- One strip's product at a row and a column. -/
def strip (x : Vec Ideal S2048x1024 .bf16) (y : Vec Ideal S2048x1152 .bf16) (i : S1024x1152.Idx) : EReal :=
  ∑ l : Fin 2048, x (ix2 l (i 0)) * y (ix2 l (i 1))

/-- The block after a strip is the block before it plus the strip's product. -/
theorem pay_apply (x : Vec Ideal S2048x1024 .bf16) (a : Vec Ideal S1024x1152 .f32) (y : Vec Ideal S2048x1152 .bf16)
    (i : S1024x1152.Idx) : k0_pay2 x a y i = a i + strip x y i := by
  unfold k0_pay2 strip
  rw [shapeCast_id]
  show a i + _ = _
  congr 1
  simp only [matmul]
  rw [Ideal.matmul_constant_zero_apply,
    ← Equiv.sum_comp (contrEquiv1 dot_S2048x1024_S2048x1152_S1024x1152_0_0_1_1_n_n 2048 rfl rfl).symm]
  refine Finset.sum_congr rfl fun l _ => ?_
  have c := contrEquiv1_symm_val dot_S2048x1024_S2048x1152_S1024x1152_0_0_1_1_n_n 2048 rfl rfl l
  congr 1
  · rw [shapeCast_id]
    congr 1
    funext ax
    fin_cases ax
    · exact Fin.ext c
    · rfl
  · rw [shapeCast_id]
    congr 1
    funext ax
    fin_cases ax
    · exact Fin.ext c
    · rfl

theorem zero_apply (i : S1024x1152.Idx) : k0_pay1 (F := Ideal) i = 0 := by
  unfold k0_pay1
  rw [shapeCast_id]
  exact Ideal.ofBits_zero_f32

theorem unread_whole (x : Vec Ideal S1024x1152 .f32) (h : scM0_0.IsWhole) : View.read (Elt Ideal) (View.whole cc0_scratch0) (h.unread x) = x := by
  exact h.read_unread x

/-- The carried block after the last strip of a half. -/
theorem carried (c : Dev nD) (t : Fin cfg0.N) (hr : t.val % 8 = 7) (i : S1024x1152.Idx) :
    (outsAt0 m c t.val t.isLt).2 i = 0 + ∑ s : Fin 8, strip (iblk m c 0 ⟨8 * (t.val / 8) + s.val, by have := t.isLt; have : cfg0.N = 16 := N_0; omega⟩)
      (iblk m c 1 ⟨8 * (t.val / 8) + s.val, by have := t.isLt; have : cfg0.N = 16 := N_0; omega⟩) i := by
  refine Pipeline.eq_sum_fin_of_reset_step_apply_of_flush (fun n h => (outsAt0 m c n h).2) 8 (fun _ => (0 : EReal))
    (fun t i => strip (iblk m c 0 t) (iblk m c 1 t) i) (fun t h i => ?_) (fun t h i => ?_) t hr i
  · rw [outsAt0_A m c t h (by omega)]
    frame_out
    rw [pay_apply, zero_apply]
  · by_cases h3 : t.val % 8 = 7
    · rw [outsAt0_C m c t h h3]
      frame_out
      rw [pay_apply, unread_whole]
    · rw [outsAt0_B m c t h h3]
      frame_out
      rw [pay_apply, unread_whole]

theorem index0 : ∀ t : Fin grid0.N, win0_0.index t = ![t.val % 8, 0] ∧ win0_1.index t = ![t.val % 8, t.val / 8]
    ∧ win0_2.index t = ![0, t.val / 8] := by decide +kernel

theorem iblk0 (c : Dev nD) (t : Fin cfg0.N) (l : Fin 2048) (a : Fin 1024) :
    iblk m c 0 t (ix2 l a) = V m c main_v0 (ix2 ⟨t.val % 8 * 2048 + l.val, by omega⟩ a) := by
  have e := (index0 t).1
  unfold iblk
  blk_ext [e]

theorem col_lt (t : Fin cfg0.N) (b : Fin 1152) : t.val / 8 * 1152 + b.val < 2304 := by
  have := t.isLt; have : cfg0.N = 16 := N_0; omega

theorem iblk1 (c : Dev nD) (t : Fin cfg0.N) (l : Fin 2048) (b : Fin 1152) :
    iblk m c 1 t (ix2 l b) = V m c main_v1 (ix2 ⟨t.val % 8 * 2048 + l.val, by omega⟩ ⟨t.val / 8 * 1152 + b.val, col_lt t b⟩) := by
  have e := (index0 t).2.1
  unfold iblk
  blk_ext [e]

theorem V_v0 (c : Dev nD) (i) : V m c main_v0 i = m ((c : Thread nD τ).loc main_arg0) i := by
  show StableHlo.after hostOps0 _ (Proc.devRef .tc main_v0) i = _
  after_reads_at
theorem V_v1 (c : Dev nD) (i) : V m c main_v1 i = m ((c : Thread nD τ).loc main_arg1) i := by
  show StableHlo.after hostOps0 _ (Proc.devRef .tc main_v1) i = _
  after_reads_at

theorem strips (c : Dev nD) (t : Fin cfg0.N) (hr : t.val % 8 = 7) (a : Fin 1024) (b : Fin 1152) :
    (outsAt0 m c t.val t.isLt).2 (ix2 a b)
      = grad (m ((c : Thread nD τ).loc main_arg0)) (m ((c : Thread nD τ).loc main_arg1)) a ⟨t.val / 8 * 1152 + b.val, col_lt t b⟩ := by
  rw [carried m c t hr, zero_add]
  unfold grad strip
  refine Fin.sum_mul_add_congr fun s l hl => ?_
  have e : (8 * (t.val / 8) + s.val) % 8 = s.val := by omega
  have e' : (8 * (t.val / 8) + s.val) / 8 = t.val / 8 := by omega
  refine congrArg₂ (fun x y : EReal => x * y) ((iblk0 m c _ l a).trans ((V_v0 m c _).trans ?_))
    ((iblk1 m c _ l b).trans ((V_v1 m c _).trans ?_))
  · simp only [e]
  · simp only [e, e']

theorem out_c (c : Dev nD) (t : Fin cfg0.N) (hr : t.val % 8 = 7) :
    (outsAt0 m c t.val t.isLt).1 = (outsAt0 m c t.val t.isLt).2 := by
  rw [outsAt0_C m c t (by omega) hr]
  frame_out

theorem block (c : Dev nD) (t : Fin cfg0.N) (hr : t.val % 8 = 7) (y : S1024x1152.Idx) (i : S1024x2304.Idx) (h0 : (i 0).val = (y 0).val)
    (h1 : (i 1).val = t.val / 8 * 1152 + (y 1).val) : (outsAt0 m c t.val t.isLt).1 y
      = grad (m ((c : Thread nD τ).loc main_arg0)) (m ((c : Thread nD τ).loc main_arg1)) (i 0) (i 1) := by
  have ey : y = ix2 (y 0) (y 1) := by funext a; fin_cases a <;> rfl
  have e0 : i 0 = y 0 := Fin.ext h0
  have e1 : i 1 = ⟨t.val / 8 * 1152 + (y 1).val, col_lt t (y 1)⟩ := Fin.ext h1
  rw [e0, e1]
  refine (congrFun (out_c m c t hr) y).trans ((congrArg (outsAt0 m c t.val t.isLt).2 ey).trans ?_)
  exact strips m c t hr (y 0) (y 1)

/-- The kernel's result array. -/
theorem final (c : Dev nD) : (dats m 0 c).arrAt 2 cfg0.N
    = fun i : S1024x2304.Idx => grad (m ((c : Thread nD τ).loc main_arg0)) (m ((c : Thread nD τ).loc main_arg1)) (i 0) (i 1) := by
  refine (dats m 0 c).arrAt_eq_of_covers 2 _ (by decide +kernel) fun t hf y => ?_
  have e := (index0 t).2.2
  blk_simp [e]
  rw [after0_2]
  refine block m c t ((flush0_2 t).mp hf) y ((win0_2.blk t).view.emb y) ?_ ?_
  · blk_simp [e]
  · blk_simp [e]

end Kernel

section Reference

open Cert.Reference6Ideal Cert.Reference6Ideal.Gen Cert.Reference6Ideal.Read
open Idealize.ShloMosaic hiding ix1 ix2 ix3 ix4 ix5
open Idealize.ShloMosaic.ValueIdx Idealize.ShloMosaic.TcCoe Idealize.SL.Sem

/-- The reference's result array. -/
theorem ref_grad (h : S16384x1024.Idx → EReal) (d : S16384x2304.Idx → EReal) :
    val_main_v3 (F := Ideal) h d = fun i : S1024x2304.Idx => grad h d (i 0) (i 1) := by
  funext i
  rw [val_main_v3_apply, val_main_v2_apply]
  unfold grad
  refine Finset.sum_congr rfl fun t _ => ?_
  rw [mul_comm]
  refine congrArg₂ (fun x y : EReal => x * y) (congrArg h ?_) (congrArg d ?_)
  · funext a; fin_cases a <;> rfl
  · funext a; fin_cases a <;> rfl

end Reference

end Cert.Mix6

end
-- ==== Proof.Mix7.lean ====
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.StableHlo.ReadAt

/-! The input projection's weight gradient, either of the two gated parts: the kernel walks the tokens in eight strips of 2048 for each
half of the 2048 columns, adding each strip's product into a carried block of 1024 rows and 1024 columns, and writes the block
back after the last strip. The reference has the product over all tokens at once. -/

@[expose] public section

set_option maxRecDepth 16384

noncomputable section

namespace Cert.Mix7

/-- The weight gradient by row and column. -/
def grad (h : Cert.Kernel7Ideal.S16384x1024.Idx → EReal) (d : Cert.Kernel7Ideal.S16384x2048.Idx → EReal) (a : Fin 1024) (b : Fin 2048) : EReal :=
  ∑ t : Fin 16384, h (Idealize.ShloMosaic.ValueIdx.ix2 t a) * d (Idealize.ShloMosaic.ValueIdx.ix2 t b)

section Kernel

open Cert.Kernel7Ideal Cert.Kernel7Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- One strip's product at a row and a column. -/
def strip (x : Vec Ideal S2048x1024 .bf16) (y : Vec Ideal S2048x1024 .bf16) (i : S1024x1024.Idx) : EReal :=
  ∑ l : Fin 2048, x (ix2 l (i 0)) * y (ix2 l (i 1))

/-- The block after a strip is the block before it plus the strip's product. -/
theorem pay_apply (x : Vec Ideal S2048x1024 .bf16) (a : Vec Ideal S1024x1024 .f32) (y : Vec Ideal S2048x1024 .bf16)
    (i : S1024x1024.Idx) : k0_pay2 x a y i = a i + strip x y i := by
  unfold k0_pay2 strip
  rw [shapeCast_id]
  show a i + _ = _
  congr 1
  simp only [matmul]
  rw [Ideal.matmul_constant_zero_apply,
    ← Equiv.sum_comp (contrEquiv1 dot_S2048x1024_S2048x1024_S1024x1024_0_0_1_1_n_n 2048 rfl rfl).symm]
  refine Finset.sum_congr rfl fun l _ => ?_
  have c := contrEquiv1_symm_val dot_S2048x1024_S2048x1024_S1024x1024_0_0_1_1_n_n 2048 rfl rfl l
  congr 1
  · rw [shapeCast_id]
    congr 1
    funext ax
    fin_cases ax
    · exact Fin.ext c
    · rfl
  · rw [shapeCast_id]
    congr 1
    funext ax
    fin_cases ax
    · exact Fin.ext c
    · rfl

theorem zero_apply (i : S1024x1024.Idx) : k0_pay1 (F := Ideal) i = 0 := by
  unfold k0_pay1
  rw [shapeCast_id]
  exact Ideal.ofBits_zero_f32

theorem unread_whole (x : Vec Ideal S1024x1024 .f32) (h : scM0_0.IsWhole) : View.read (Elt Ideal) (View.whole cc0_scratch0) (h.unread x) = x := by
  exact h.read_unread x

/-- The carried block after the last strip of a half. -/
theorem carried (c : Dev nD) (t : Fin cfg0.N) (hr : t.val % 8 = 7) (i : S1024x1024.Idx) :
    (outsAt0 m c t.val t.isLt).2 i = 0 + ∑ s : Fin 8, strip (iblk m c 0 ⟨8 * (t.val / 8) + s.val, by have := t.isLt; have : cfg0.N = 16 := N_0; omega⟩)
      (iblk m c 1 ⟨8 * (t.val / 8) + s.val, by have := t.isLt; have : cfg0.N = 16 := N_0; omega⟩) i := by
  refine Pipeline.eq_sum_fin_of_reset_step_apply_of_flush (fun n h => (outsAt0 m c n h).2) 8 (fun _ => (0 : EReal))
    (fun t i => strip (iblk m c 0 t) (iblk m c 1 t) i) (fun t h i => ?_) (fun t h i => ?_) t hr i
  · rw [outsAt0_A m c t h (by omega)]
    frame_out
    rw [pay_apply, zero_apply]
  · by_cases h3 : t.val % 8 = 7
    · rw [outsAt0_C m c t h h3]
      frame_out
      rw [pay_apply, unread_whole]
    · rw [outsAt0_B m c t h h3]
      frame_out
      rw [pay_apply, unread_whole]

theorem index0 : ∀ t : Fin grid0.N, win0_0.index t = ![t.val % 8, 0] ∧ win0_1.index t = ![t.val % 8, t.val / 8]
    ∧ win0_2.index t = ![0, t.val / 8] := by decide +kernel

theorem iblk0 (c : Dev nD) (t : Fin cfg0.N) (l : Fin 2048) (a : Fin 1024) :
    iblk m c 0 t (ix2 l a) = V m c main_v0 (ix2 ⟨t.val % 8 * 2048 + l.val, by omega⟩ a) := by
  have e := (index0 t).1
  unfold iblk
  blk_ext [e]

theorem col_lt (t : Fin cfg0.N) (b : Fin 1024) : t.val / 8 * 1024 + b.val < 2048 := by
  have := t.isLt; have : cfg0.N = 16 := N_0; omega

theorem iblk1 (c : Dev nD) (t : Fin cfg0.N) (l : Fin 2048) (b : Fin 1024) :
    iblk m c 1 t (ix2 l b) = V m c main_v1 (ix2 ⟨t.val % 8 * 2048 + l.val, by omega⟩ ⟨t.val / 8 * 1024 + b.val, col_lt t b⟩) := by
  have e := (index0 t).2.1
  unfold iblk
  blk_ext [e]

theorem V_v0 (c : Dev nD) (i) : V m c main_v0 i = m ((c : Thread nD τ).loc main_arg0) i := by
  show StableHlo.after hostOps0 _ (Proc.devRef .tc main_v0) i = _
  after_reads_at
theorem V_v1 (c : Dev nD) (i) : V m c main_v1 i = m ((c : Thread nD τ).loc main_arg1) i := by
  show StableHlo.after hostOps0 _ (Proc.devRef .tc main_v1) i = _
  after_reads_at

theorem strips (c : Dev nD) (t : Fin cfg0.N) (hr : t.val % 8 = 7) (a : Fin 1024) (b : Fin 1024) :
    (outsAt0 m c t.val t.isLt).2 (ix2 a b)
      = grad (m ((c : Thread nD τ).loc main_arg0)) (m ((c : Thread nD τ).loc main_arg1)) a ⟨t.val / 8 * 1024 + b.val, col_lt t b⟩ := by
  rw [carried m c t hr, zero_add]
  unfold grad strip
  refine Fin.sum_mul_add_congr fun s l hl => ?_
  have e : (8 * (t.val / 8) + s.val) % 8 = s.val := by omega
  have e' : (8 * (t.val / 8) + s.val) / 8 = t.val / 8 := by omega
  refine congrArg₂ (fun x y : EReal => x * y) ((iblk0 m c _ l a).trans ((V_v0 m c _).trans ?_))
    ((iblk1 m c _ l b).trans ((V_v1 m c _).trans ?_))
  · simp only [e]
  · simp only [e, e']

theorem out_c (c : Dev nD) (t : Fin cfg0.N) (hr : t.val % 8 = 7) :
    (outsAt0 m c t.val t.isLt).1 = (outsAt0 m c t.val t.isLt).2 := by
  rw [outsAt0_C m c t (by omega) hr]
  frame_out

theorem block (c : Dev nD) (t : Fin cfg0.N) (hr : t.val % 8 = 7) (y : S1024x1024.Idx) (i : S1024x2048.Idx) (h0 : (i 0).val = (y 0).val)
    (h1 : (i 1).val = t.val / 8 * 1024 + (y 1).val) : (outsAt0 m c t.val t.isLt).1 y
      = grad (m ((c : Thread nD τ).loc main_arg0)) (m ((c : Thread nD τ).loc main_arg1)) (i 0) (i 1) := by
  have ey : y = ix2 (y 0) (y 1) := by funext a; fin_cases a <;> rfl
  have e0 : i 0 = y 0 := Fin.ext h0
  have e1 : i 1 = ⟨t.val / 8 * 1024 + (y 1).val, col_lt t (y 1)⟩ := Fin.ext h1
  rw [e0, e1]
  refine (congrFun (out_c m c t hr) y).trans ((congrArg (outsAt0 m c t.val t.isLt).2 ey).trans ?_)
  exact strips m c t hr (y 0) (y 1)

/-- The kernel's result array. -/
theorem final (c : Dev nD) : (dats m 0 c).arrAt 2 cfg0.N
    = fun i : S1024x2048.Idx => grad (m ((c : Thread nD τ).loc main_arg0)) (m ((c : Thread nD τ).loc main_arg1)) (i 0) (i 1) := by
  refine (dats m 0 c).arrAt_eq_of_covers 2 _ (by decide +kernel) fun t hf y => ?_
  have e := (index0 t).2.2
  blk_simp [e]
  rw [after0_2]
  refine block m c t ((flush0_2 t).mp hf) y ((win0_2.blk t).view.emb y) ?_ ?_
  · blk_simp [e]
  · blk_simp [e]

end Kernel

section Reference

open Cert.Reference7Ideal Cert.Reference7Ideal.Gen Cert.Reference7Ideal.Read
open Idealize.ShloMosaic hiding ix1 ix2 ix3 ix4 ix5
open Idealize.ShloMosaic.ValueIdx Idealize.ShloMosaic.TcCoe Idealize.SL.Sem

/-- The reference's result array. -/
theorem ref_grad (h : S16384x1024.Idx → EReal) (d : S16384x2048.Idx → EReal) :
    val_main_v3 (F := Ideal) h d = fun i : S1024x2048.Idx => grad h d (i 0) (i 1) := by
  funext i
  rw [val_main_v3_apply, val_main_v2_apply]
  unfold grad
  refine Finset.sum_congr rfl fun t _ => ?_
  rw [mul_comm]
  refine congrArg₂ (fun x y : EReal => x * y) (congrArg h ?_) (congrArg d ?_)
  · funext a; fin_cases a <;> rfl
  · funext a; fin_cases a <;> rfl

end Reference

end Cert.Mix7

end
-- ==== Proof.FfnPlace.lean ====
/- One layer's and half step's weights among those of all layers and half steps: the forward block's other launches are the
   first one's functions on the weights read at their own place. -/
module

public import proofs.«01_k».proof.Proof.FfnRes

@[expose] public section

set_option maxRecDepth 16384

noncomputable section

namespace Cert.Ffn

open Cert.Kernel2Ideal
open Idealize.ShloMosaic.ValueIdx

/-- The input weights with the ones of layer `p`, half step `q` in every place. -/
def inAt (p q : Fin 2) (w : S2x2x1024x2816.Idx → EReal) : S2x2x1024x2816.Idx → EReal := fun i => w (ix4 p q (i 2) (i 3))

/-- The output weights with the ones of layer `p`, half step `q` in every place. -/
def outAt (p q : Fin 2) (w : S2x2x2816x1024.Idx → EReal) : S2x2x2816x1024.Idx → EReal := fun i => w (ix4 p q (i 2) (i 3))

end Cert.Ffn

end
-- ==== Proof.Ffn8.lean ====
/- The forward block's launch for layer 0, second half step: its result arrays, the reference's, and their equality. The stored blocks are
   the first launch's functions of the read blocks; what differs is the place in the weights that the launch reads. -/
module

public import proofs.«01_k».proof.Proof.FfnPlace
public import proofs.«01_k».proof.Proof.RefFfn
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384
set_option backward.proofsInPublic true

noncomputable section

namespace Cert.Ffn8

section Kernel

open Cert.Kernel8Ideal Cert.Kernel8Ideal.Gen
open Cert.Ffn (wIn wOut inAt outAt rowH resUp resDown resStep hid hR)
open Idealize.ShloMosaic hiding ix1 ix2 ix3 ix4 ix5
open Idealize.ShloMosaic.ValueIdx Idealize.ShloMosaic.TcCoe Idealize.SL.Sem
open Idealize.ShloMosaic.WordCmp hiding select_one select_zero

section
variable (x0 : Vec Ideal S512x1024 .f32) (x1 x2 x3 x4 : Vec Ideal S1x1024 .f32)
  (x5 x6 x7 x8 x9 x10 x11 x12 : Vec Ideal S1x1x1x1024x704 .bf16) (x13 x14 x15 x16 : Vec Ideal S1x1x1x704x1024 .bf16)

theorem out17_eq : out0_17 (F := Ideal) x0 x1 x2 x3 x4 x5 x6 x7 x8 x9 x10 x11 x12 x13 x14 x15 x16
    = Cert.Kernel2Ideal.Gen.out0_17 (F := Ideal) x0 x1 x2 x3 x4 x5 x6 x7 x8 x9 x10 x11 x12 x13 x14 x15 x16 := rfl
theorem out18_eq : out0_18 (F := Ideal) x0 x1 x2 x3 x4 x5 x6 x7 x8 x9 x10 x11 x12 x13 x14 x15 x16
    = Cert.Kernel2Ideal.Gen.out0_18 (F := Ideal) x0 x1 x2 x3 x4 x5 x6 x7 x8 x9 x10 x11 x12 x13 x14 x15 x16 := rfl
theorem out19_eq : out0_19 (F := Ideal) x0 x1 x2 x3 x4 x5 x6 x7 x8 x9 x10 x11 x12 x13 x14 x15 x16
    = Cert.Kernel2Ideal.Gen.out0_19 (F := Ideal) x0 x1 x2 x3 x4 x5 x6 x7 x8 x9 x10 x11 x12 x13 x14 x15 x16 := rfl
theorem out20_eq : out0_20 (F := Ideal) x0 x1 x2 x3 x4 x5 x6 x7 x8 x9 x10 x11 x12 x13 x14 x15 x16
    = Cert.Kernel2Ideal.Gen.out0_20 (F := Ideal) x0 x1 x2 x3 x4 x5 x6 x7 x8 x9 x10 x11 x12 x13 x14 x15 x16 := rfl
theorem out21_eq : out0_21 (F := Ideal) x0 x1 x2 x3 x4 x5 x6 x7 x8 x9 x10 x11 x12 x13 x14 x15 x16
    = Cert.Kernel2Ideal.Gen.out0_21 (F := Ideal) x0 x1 x2 x3 x4 x5 x6 x7 x8 x9 x10 x11 x12 x13 x14 x15 x16 := rfl

end

variable (m : (ℓ : Loc nD τ sig) → Buf (Elt Ideal) ℓ) (ρ : Dev nD → PrngReg)

theorem index0 : ∀ t : Fin grid0.N, (win0_0.index t = ![t.val, 0] ∧ win0_1.index t = ![0, 0] ∧ win0_2.index t = ![0, 0]
      ∧ win0_3.index t = ![0, 0] ∧ win0_4.index t = ![0, 0])
    ∧ (win0_5.index t = ![0, 0, 1, 0, 0] ∧ win0_6.index t = ![1, 0, 1, 0, 0] ∧ win0_7.index t = ![2, 0, 1, 0, 0] ∧ win0_8.index t = ![3, 0, 1, 0, 0])
    ∧ (win0_9.index t = ![0, 0, 1, 0, 0] ∧ win0_10.index t = ![1, 0, 1, 0, 0] ∧ win0_11.index t = ![2, 0, 1, 0, 0] ∧ win0_12.index t = ![3, 0, 1, 0, 0])
    ∧ (win0_13.index t = ![0, 0, 1, 0, 0] ∧ win0_14.index t = ![1, 0, 1, 0, 0] ∧ win0_15.index t = ![2, 0, 1, 0, 0] ∧ win0_16.index t = ![3, 0, 1, 0, 0])
    ∧ (win0_17.index t = ![t.val, 0] ∧ win0_18.index t = ![0, t.val, 0] ∧ win0_19.index t = ![0, t.val, 0]
      ∧ win0_20.index t = ![t.val, 0] ∧ win0_21.index t = ![t.val, 0]) := by decide +kernel

theorem iblk0 (c : Dev nD) (t : Fin cfg0.N) (r : Fin 512) (l : Fin 1024) : iblk m c 0 t (ix2 r l)
    = V m c main_arg0 (ix2 ⟨t.val * 512 + r.val, by have := t.isLt; have : cfg0.N = 32 := N_0; omega⟩ l) := by
  have e := (index0 t).1.1
  unfold iblk
  blk_ext [e]
  all_goals rfl

theorem iblk1 (c : Dev nD) (t : Fin cfg0.N) (l : Fin 1024) : iblk m c 1 t (ix2 (0 : Fin 1) l) = V m c main_v9 (ix2 (0 : Fin 1) l) := by
  have e := (index0 t).1.2.1
  unfold iblk
  blk_ext [e]
  all_goals rfl

theorem iblk2 (c : Dev nD) (t : Fin cfg0.N) (l : Fin 1024) : iblk m c 2 t (ix2 (0 : Fin 1) l) = V m c main_arg3 (ix2 (0 : Fin 1) l) := by
  have e := (index0 t).1.2.2.1
  unfold iblk
  blk_ext [e]
  all_goals rfl

theorem iblk3 (c : Dev nD) (t : Fin cfg0.N) (l : Fin 1024) : iblk m c 3 t (ix2 (0 : Fin 1) l) = V m c main_arg2 (ix2 (0 : Fin 1) l) := by
  have e := (index0 t).1.2.2.2.1
  unfold iblk
  blk_ext [e]
  all_goals rfl

theorem iblk4 (c : Dev nD) (t : Fin cfg0.N) (l : Fin 1024) : iblk m c 4 t (ix2 (0 : Fin 1) l) = V m c main_arg4 (ix2 (0 : Fin 1) l) := by
  have e := (index0 t).1.2.2.2.2
  unfold iblk
  blk_ext [e]
  all_goals rfl

theorem iblk5 (c : Dev nD) (t : Fin cfg0.N) (l : Fin 1024) (f : Fin 704) :
    iblk m c 5 t (ix5 (0 : Fin 1) (0 : Fin 1) (0 : Fin 1) l f) = V m c main_v2 (ix5 (0 : Fin 4) (0 : Fin 2) (1 : Fin 2) l f) := by
  have e := (index0 t).2.1.1
  unfold iblk
  blk_ext [e]
  all_goals rfl

theorem iblk6 (c : Dev nD) (t : Fin cfg0.N) (l : Fin 1024) (f : Fin 704) :
    iblk m c 6 t (ix5 (0 : Fin 1) (0 : Fin 1) (0 : Fin 1) l f) = V m c main_v2 (ix5 (1 : Fin 4) (0 : Fin 2) (1 : Fin 2) l f) := by
  have e := (index0 t).2.1.2.1
  unfold iblk
  blk_ext [e]
  all_goals rfl

theorem iblk7 (c : Dev nD) (t : Fin cfg0.N) (l : Fin 1024) (f : Fin 704) :
    iblk m c 7 t (ix5 (0 : Fin 1) (0 : Fin 1) (0 : Fin 1) l f) = V m c main_v2 (ix5 (2 : Fin 4) (0 : Fin 2) (1 : Fin 2) l f) := by
  have e := (index0 t).2.1.2.2.1
  unfold iblk
  blk_ext [e]
  all_goals rfl

theorem iblk8 (c : Dev nD) (t : Fin cfg0.N) (l : Fin 1024) (f : Fin 704) :
    iblk m c 8 t (ix5 (0 : Fin 1) (0 : Fin 1) (0 : Fin 1) l f) = V m c main_v2 (ix5 (3 : Fin 4) (0 : Fin 2) (1 : Fin 2) l f) := by
  have e := (index0 t).2.1.2.2.2
  unfold iblk
  blk_ext [e]
  all_goals rfl

theorem iblk9 (c : Dev nD) (t : Fin cfg0.N) (l : Fin 1024) (f : Fin 704) :
    iblk m c 9 t (ix5 (0 : Fin 1) (0 : Fin 1) (0 : Fin 1) l f) = V m c main_v5 (ix5 (0 : Fin 4) (0 : Fin 2) (1 : Fin 2) l f) := by
  have e := (index0 t).2.2.1.1
  unfold iblk
  blk_ext [e]
  all_goals rfl

theorem iblk10 (c : Dev nD) (t : Fin cfg0.N) (l : Fin 1024) (f : Fin 704) :
    iblk m c 10 t (ix5 (0 : Fin 1) (0 : Fin 1) (0 : Fin 1) l f) = V m c main_v5 (ix5 (1 : Fin 4) (0 : Fin 2) (1 : Fin 2) l f) := by
  have e := (index0 t).2.2.1.2.1
  unfold iblk
  blk_ext [e]
  all_goals rfl

theorem iblk11 (c : Dev nD) (t : Fin cfg0.N) (l : Fin 1024) (f : Fin 704) :
    iblk m c 11 t (ix5 (0 : Fin 1) (0 : Fin 1) (0 : Fin 1) l f) = V m c main_v5 (ix5 (2 : Fin 4) (0 : Fin 2) (1 : Fin 2) l f) := by
  have e := (index0 t).2.2.1.2.2.1
  unfold iblk
  blk_ext [e]
  all_goals rfl

theorem iblk12 (c : Dev nD) (t : Fin cfg0.N) (l : Fin 1024) (f : Fin 704) :
    iblk m c 12 t (ix5 (0 : Fin 1) (0 : Fin 1) (0 : Fin 1) l f) = V m c main_v5 (ix5 (3 : Fin 4) (0 : Fin 2) (1 : Fin 2) l f) := by
  have e := (index0 t).2.2.1.2.2.2
  unfold iblk
  blk_ext [e]
  all_goals rfl

theorem iblk13 (c : Dev nD) (t : Fin cfg0.N) (l : Fin 704) (f : Fin 1024) :
    iblk m c 13 t (ix5 (0 : Fin 1) (0 : Fin 1) (0 : Fin 1) l f) = V m c main_v8 (ix5 (0 : Fin 4) (0 : Fin 2) (1 : Fin 2) l f) := by
  have e := (index0 t).2.2.2.1.1
  unfold iblk
  blk_ext [e]
  all_goals rfl

theorem iblk14 (c : Dev nD) (t : Fin cfg0.N) (l : Fin 704) (f : Fin 1024) :
    iblk m c 14 t (ix5 (0 : Fin 1) (0 : Fin 1) (0 : Fin 1) l f) = V m c main_v8 (ix5 (1 : Fin 4) (0 : Fin 2) (1 : Fin 2) l f) := by
  have e := (index0 t).2.2.2.1.2.1
  unfold iblk
  blk_ext [e]
  all_goals rfl

theorem iblk15 (c : Dev nD) (t : Fin cfg0.N) (l : Fin 704) (f : Fin 1024) :
    iblk m c 15 t (ix5 (0 : Fin 1) (0 : Fin 1) (0 : Fin 1) l f) = V m c main_v8 (ix5 (2 : Fin 4) (0 : Fin 2) (1 : Fin 2) l f) := by
  have e := (index0 t).2.2.2.1.2.2.1
  unfold iblk
  blk_ext [e]
  all_goals rfl

theorem iblk16 (c : Dev nD) (t : Fin cfg0.N) (l : Fin 704) (f : Fin 1024) :
    iblk m c 16 t (ix5 (0 : Fin 1) (0 : Fin 1) (0 : Fin 1) l f) = V m c main_v8 (ix5 (3 : Fin 4) (0 : Fin 2) (1 : Fin 2) l f) := by
  have e := (index0 t).2.2.2.1.2.2.2
  unfold iblk
  blk_ext [e]
  all_goals rfl

theorem V_v9 (c : Dev nD) (l : Fin 1024) : V m c main_v9 (ix2 (0 : Fin 1) l) = m ((c : Thread nD τ).loc main_arg1) (ix1 l) := by
  show StableHlo.after hostOps0 _ (Proc.devRef .tc main_v9) _ = _
  after_reads_at
  rfl
theorem V_v2 (c : Dev nD) (k : Fin 4) (l : Fin 1024) (f : Fin 704) : V m c main_v2 (ix5 k (0 : Fin 2) (1 : Fin 2) l f)
    = m ((c : Thread nD τ).loc main_arg5) (ix4 (0 : Fin 2) (1 : Fin 2) l ⟨k.val * 704 + f.val, by omega⟩) := by
  show StableHlo.after hostOps0 _ (Proc.devRef .tc main_v2) _ = _
  after_reads_at
  rfl
theorem V_v5 (c : Dev nD) (k : Fin 4) (l : Fin 1024) (f : Fin 704) : V m c main_v5 (ix5 k (0 : Fin 2) (1 : Fin 2) l f)
    = m ((c : Thread nD τ).loc main_arg6) (ix4 (0 : Fin 2) (1 : Fin 2) l ⟨k.val * 704 + f.val, by omega⟩) := by
  show StableHlo.after hostOps0 _ (Proc.devRef .tc main_v5) _ = _
  after_reads_at
  rfl
theorem V_v8 (c : Dev nD) (k : Fin 4) (f : Fin 704) (d : Fin 1024) : V m c main_v8 (ix5 k (0 : Fin 2) (1 : Fin 2) f d)
    = m ((c : Thread nD τ).loc main_arg7) (ix4 (0 : Fin 2) (1 : Fin 2) ⟨k.val * 704 + f.val, by omega⟩ d) := by
  show StableHlo.after hostOps0 _ (Proc.devRef .tc main_v8) _ = _
  after_reads_at
  rfl
theorem V_arg0 (c : Dev nD) : V m c main_arg0 = m ((c : Thread nD τ).loc main_arg0) := by
  show StableHlo.after hostOps0 _ (Proc.devRef .tc main_arg0) = _
  after_reads_at
theorem V_arg2 (c : Dev nD) : V m c main_arg2 = m ((c : Thread nD τ).loc main_arg2) := by
  show StableHlo.after hostOps0 _ (Proc.devRef .tc main_arg2) = _
  after_reads_at
theorem V_arg3 (c : Dev nD) : V m c main_arg3 = m ((c : Thread nD τ).loc main_arg3) := by
  show StableHlo.after hostOps0 _ (Proc.devRef .tc main_arg3) = _
  after_reads_at
theorem V_arg4 (c : Dev nD) : V m c main_arg4 = m ((c : Thread nD τ).loc main_arg4) := by
  show StableHlo.after hostOps0 _ (Proc.devRef .tc main_arg4) = _
  after_reads_at

theorem blkX (c : Dev nD) (t : Fin cfg0.N) (r : Fin 512) (t' : Fin 16384) (ht : t'.val = t.val * 512 + r.val) :
    (fun l : Fin 1024 => iblk m c 0 t (ix2 r l)) = fun l => m ((c : Thread nD τ).loc main_arg0) (ix2 t' l) :=
  funext fun l => (iblk0 m c t r l).trans ((congrFun (V_arg0 m c) _).trans
    (congrArg (fun t => m ((c : Thread nD τ).loc main_arg0) (ix2 t l)) (Fin.ext ht.symm)))

theorem blkH (c : Dev nD) (t : Fin cfg0.N) (r : Fin 512) (t' : Fin 16384) (ht : t'.val = t.val * 512 + r.val) :
    hR (iblk m c 0 t) (iblk m c 1 t) (iblk m c 2 t) (iblk m c 3 t) r = rowH (m ((c : Thread nD τ).loc main_arg0)) (m ((c : Thread nD τ).loc main_arg1)) (m ((c : Thread nD τ).loc main_arg2)) (m ((c : Thread nD τ).loc main_arg3)) t' := by
  have h1 : (fun l : Fin 1024 => iblk m c 1 t (ix2 (0 : Fin 1) l)) = fun l => m ((c : Thread nD τ).loc main_arg1) (ix1 l) :=
    funext fun l => (iblk1 m c t l).trans (V_v9 m c l)
  have h2 : (fun l : Fin 1024 => iblk m c 2 t (ix2 (0 : Fin 1) l)) = fun l => m ((c : Thread nD τ).loc main_arg3) (ix2 (0 : Fin 1) l) :=
    funext fun l => (iblk2 m c t l).trans (congrFun (V_arg3 m c) _)
  have h3 : (fun l : Fin 1024 => iblk m c 3 t (ix2 (0 : Fin 1) l)) = fun l => m ((c : Thread nD τ).loc main_arg2) (ix2 (0 : Fin 1) l) :=
    funext fun l => (iblk3 m c t l).trans (congrFun (V_arg2 m c) _)
  unfold hR rowH
  exact congr (congr (congr (congrArg hid (blkX m c t r t' ht)) h1) h2) h3

theorem blkG (c : Dev nD) (t : Fin cfg0.N) (k : Fin 4) (l : Fin 1024) (f : Fin 704) :
    (![iblk m c 5 t, iblk m c 6 t, iblk m c 7 t, iblk m c 8 t] : Fin 4 → Vec Ideal S1x1x1x1024x704 .bf16) k (ix5 0 0 0 l f)
      = wIn (inAt 0 1 (m ((c : Thread nD τ).loc main_arg5))) l ⟨k.val * 704 + f.val, by omega⟩ := by
  fin_cases k
  · exact (iblk5 m c t l f).trans (V_v2 m c 0 l f)
  · exact (iblk6 m c t l f).trans (V_v2 m c 1 l f)
  · exact (iblk7 m c t l f).trans (V_v2 m c 2 l f)
  · exact (iblk8 m c t l f).trans (V_v2 m c 3 l f)

theorem blkU (c : Dev nD) (t : Fin cfg0.N) (k : Fin 4) (l : Fin 1024) (f : Fin 704) :
    (![iblk m c 9 t, iblk m c 10 t, iblk m c 11 t, iblk m c 12 t] : Fin 4 → Vec Ideal S1x1x1x1024x704 .bf16) k (ix5 0 0 0 l f)
      = wIn (inAt 0 1 (m ((c : Thread nD τ).loc main_arg6))) l ⟨k.val * 704 + f.val, by omega⟩ := by
  fin_cases k
  · exact (iblk9 m c t l f).trans (V_v5 m c 0 l f)
  · exact (iblk10 m c t l f).trans (V_v5 m c 1 l f)
  · exact (iblk11 m c t l f).trans (V_v5 m c 2 l f)
  · exact (iblk12 m c t l f).trans (V_v5 m c 3 l f)

theorem blkW (c : Dev nD) (t : Fin cfg0.N) (k : Fin 4) (f : Fin 704) (d : Fin 1024) :
    (![iblk m c 13 t, iblk m c 14 t, iblk m c 15 t, iblk m c 16 t] : Fin 4 → Vec Ideal S1x1x1x704x1024 .bf16) k (ix5 0 0 0 f d)
      = wOut (outAt 0 1 (m ((c : Thread nD τ).loc main_arg7))) ⟨k.val * 704 + f.val, by omega⟩ d := by
  fin_cases k
  · exact (iblk13 m c t f d).trans (V_v8 m c 0 f d)
  · exact (iblk14 m c t f d).trans (V_v8 m c 1 f d)
  · exact (iblk15 m c t f d).trans (V_v8 m c 2 f d)
  · exact (iblk16 m c t f d).trans (V_v8 m c 3 f d)

theorem block17 (c : Dev nD) (t : Fin cfg0.N) (y : S512x1024.Idx) (i : S16384x1024.Idx) (h0 : (i 0).val = t.val * 512 + (y 0).val)
    (h1 : (i 1).val = (y 1).val) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = rowH (m ((c : Thread nD τ).loc main_arg0)) (m ((c : Thread nD τ).loc main_arg1)) (m ((c : Thread nD τ).loc main_arg2)) (m ((c : Thread nD τ).loc main_arg3)) (i 0) (i 1) := by
  refine (congrFun (out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y).trans ?_)
  rw [blkH m c t (y 0) (i 0) h0]
  exact congrArg _ (Fin.ext h1.symm)

/-- The saved hidden values. -/
theorem final17 (c : Dev nD) : (dats m 0 c).arrAt 17 cfg0.N = fun i : S16384x1024.Idx => rowH (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 17 _ (by decide +kernel) fun t hf y => ?_
  have e := (index0 t).2.2.2.2.1
  blk_simp [e]
  rw [after0_17]
  refine block17 m c t y ((win0_17.blk t).view.emb y) ?_ ?_
  · blk_simp [e]
  · blk_simp [e]

theorem block18 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (inAt 0 1 (m ((c : Thread nD τ).loc main_arg5))) (i 0) (i 1) (i 2) := by
  refine (congrFun (out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) y).trans ?_)
  unfold resUp
  rw [blkH m c t (y 1) (i 1) h1]
  exact congrArg _ (Fin.ext (by show (y 0).val * 704 + (y 2).val = (i 0).val * 704 + (i 2).val; rw [h0, h2]))

/-- The saved projection's values. -/
theorem final18 (c : Dev nD) : (dats m 0 c).arrAt 18 cfg0.N
    = fun i : S4x16384x704.Idx => resUp (m ((c : Thread nD τ).loc main_arg0)) (m ((c : Thread nD τ).loc main_arg1)) (m ((c : Thread nD τ).loc main_arg2)) (m ((c : Thread nD τ).loc main_arg3)) (inAt 0 1 (m ((c : Thread nD τ).loc main_arg5))) (i 0) (i 1) (i 2) := by
  refine (dats m 0 c).arrAt_eq_of_covers 18 _ (by decide +kernel) fun t hf y => ?_
  have e := (index0 t).2.2.2.2.2.1
  blk_simp [e]
  rw [after0_18]
  refine block18 m c t y ((win0_18.blk t).view.emb y) ?_ ?_ ?_
  · blk_simp [e]
  · blk_simp [e]
  · blk_simp [e]

theorem block19 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (inAt 0 1 (m ((c : Thread nD τ).loc main_arg6))) (i 0) (i 1) (i 2) := by
  refine (congrFun (out19_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkU m c t) y).trans ?_)
  unfold resUp
  rw [blkH m c t (y 1) (i 1) h1]
  exact congrArg _ (Fin.ext (by show (y 0).val * 704 + (y 2).val = (i 0).val * 704 + (i 2).val; rw [h0, h2]))

/-- The saved projection's values. -/
theorem final19 (c : Dev nD) : (dats m 0 c).arrAt 19 cfg0.N
    = fun i : S4x16384x704.Idx => resUp (m ((c : Thread nD τ).loc main_arg0)) (m ((c : Thread nD τ).loc main_arg1)) (m ((c : Thread nD τ).loc main_arg2)) (m ((c : Thread nD τ).loc main_arg3)) (inAt 0 1 (m ((c : Thread nD τ).loc main_arg6))) (i 0) (i 1) (i 2) := by
  refine (dats m 0 c).arrAt_eq_of_covers 19 _ (by decide +kernel) fun t hf y => ?_
  have e := (index0 t).2.2.2.2.2.2.1
  blk_simp [e]
  rw [after0_19]
  refine block19 m c t y ((win0_19.blk t).view.emb y) ?_ ?_ ?_
  · blk_simp [e]
  · blk_simp [e]
  · blk_simp [e]

theorem block20 (c : Dev nD) (t : Fin cfg0.N) (y : S512x1024.Idx) (i : S16384x1024.Idx) (h0 : (i 0).val = t.val * 512 + (y 0).val)
    (h1 : (i 1).val = (y 1).val) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resStep (m ((c : Thread nD τ).loc main_arg0)) (m ((c : Thread nD τ).loc main_arg1)) (m ((c : Thread nD τ).loc main_arg2)) (m ((c : Thread nD τ).loc main_arg3)) (m ((c : Thread nD τ).loc main_arg4)) (inAt 0 1 (m ((c : Thread nD τ).loc main_arg5))) (inAt 0 1 (m ((c : Thread nD τ).loc main_arg6))) (outAt 0 1 (m ((c : Thread nD τ).loc main_arg7))) (i 0) (i 1) := by
  refine (congrFun (out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_)
  unfold resStep resDown
  rw [blkH m c t (y 0) (i 0) h0, blkX m c t (y 0) (i 0) h0,
    show (fun l : Fin 1024 => iblk m c 4 t (ix2 (0 : Fin 1) l)) = fun l => m ((c : Thread nD τ).loc main_arg4) (ix2 (0 : Fin 1) l) from
      funext fun l => (iblk4 m c t l).trans (congrFun (V_arg4 m c) _)]
  exact congrArg _ (Fin.ext h1.symm)

/-- The half step's array. -/
theorem final20 (c : Dev nD) : (dats m 0 c).arrAt 20 cfg0.N
    = fun i : S16384x1024.Idx => resStep (m ((c : Thread nD τ).loc main_arg0)) (m ((c : Thread nD τ).loc main_arg1)) (m ((c : Thread nD τ).loc main_arg2)) (m ((c : Thread nD τ).loc main_arg3)) (m ((c : Thread nD τ).loc main_arg4)) (inAt 0 1 (m ((c : Thread nD τ).loc main_arg5))) (inAt 0 1 (m ((c : Thread nD τ).loc main_arg6))) (outAt 0 1 (m ((c : Thread nD τ).loc main_arg7))) (i 0) (i 1) := by
  refine (dats m 0 c).arrAt_eq_of_covers 20 _ (by decide +kernel) fun t hf y => ?_
  have e := (index0 t).2.2.2.2.2.2.2.1
  blk_simp [e]
  rw [after0_20]
  refine block20 m c t y ((win0_20.blk t).view.emb y) ?_ ?_
  · blk_simp [e]
  · blk_simp [e]

theorem block21 (c : Dev nD) (t : Fin cfg0.N) (y : S512x1024.Idx) (i : S16384x1024.Idx) (h0 : (i 0).val = t.val * 512 + (y 0).val)
    (h1 : (i 1).val = (y 1).val) : out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resDown (m ((c : Thread nD τ).loc main_arg0)) (m ((c : Thread nD τ).loc main_arg1)) (m ((c : Thread nD τ).loc main_arg2)) (m ((c : Thread nD τ).loc main_arg3)) (inAt 0 1 (m ((c : Thread nD τ).loc main_arg5))) (inAt 0 1 (m ((c : Thread nD τ).loc main_arg6))) (outAt 0 1 (m ((c : Thread nD τ).loc main_arg7))) (i 0) (i 1) := by
  refine (congrFun (out21_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_)
  unfold resDown
  rw [blkH m c t (y 0) (i 0) h0]
  exact congrArg _ (Fin.ext h1.symm)

/-- The block's array. -/
theorem final21 (c : Dev nD) : (dats m 0 c).arrAt 21 cfg0.N
    = fun i : S16384x1024.Idx => resDown (m ((c : Thread nD τ).loc main_arg0)) (m ((c : Thread nD τ).loc main_arg1)) (m ((c : Thread nD τ).loc main_arg2)) (m ((c : Thread nD τ).loc main_arg3)) (inAt 0 1 (m ((c : Thread nD τ).loc main_arg5))) (inAt 0 1 (m ((c : Thread nD τ).loc main_arg6))) (outAt 0 1 (m ((c : Thread nD τ).loc main_arg7))) (i 0) (i 1) := by
  refine (dats m 0 c).arrAt_eq_of_covers 21 _ (by decide +kernel) fun t hf y => ?_
  have e := (index0 t).2.2.2.2.2.2.2.2
  blk_simp [e]
  rw [after0_21]
  refine block21 m c t y ((win0_21.blk t).view.emb y) ?_ ?_
  · blk_simp [e]
  · blk_simp [e]

end Kernel

section Reference

open Cert.Reference8Ideal Cert.Reference8Ideal.Gen Cert.Reference8Ideal.Read
open Cert.Ffn (wIn wOut inAt outAt rowH resUp resDown resStep up act down step idx2)
open Idealize.ShloMosaic hiding ix1 ix2 ix3 ix4 ix5
open Idealize.ShloMosaic.ValueIdx Idealize.ShloMosaic.TcCoe Idealize.SL.Sem

variable (x0 : S16384x1024.Idx → EReal) (x1 : S1024.Idx → EReal) (x2 x3 x4 : S1x1024.Idx → EReal)
  (x5 x6 : S2x2x1024x2816.Idx → EReal) (x7 : S2x2x2816x1024.Idx → EReal)

theorem ref_hid (t : Fin 16384) (d : Fin 1024) : val_main_v22 (F := Ideal) x0 x1 x2 x3 (ix2 t d) = rowH x0 x1 x2 x3 t d := by
  exact Cert.Ffn.ref_hid x0 x1 x2 x3 t d

theorem ref_wIn5 (l : Fin 1024) (j : Fin 2816) : val_main_v1 (F := Ideal) x5 (ix2 l j) = wIn (inAt 0 1 x5) l j := by
  rw [val_main_v1_apply, val_main_v0_apply]
  unfold wIn inAt
  refine congrArg x5 (funext fun a => ?_)
  fin_cases a
  · rfl
  · rfl
  · exact Fin.ext (by show (l.val * 2816 + j.val) / 2816 % 1024 = l.val; omega)
  · exact Fin.ext (by show (l.val * 2816 + j.val) % 2816 = j.val; omega)

theorem ref_wIn6 (l : Fin 1024) (j : Fin 2816) : val_main_v3 (F := Ideal) x6 (ix2 l j) = wIn (inAt 0 1 x6) l j := ref_wIn5 x6 l j

theorem ref_wOut (j : Fin 2816) (d : Fin 1024) : val_main_v26 (F := Ideal) x7 (ix2 j d) = wOut (outAt 0 1 x7) j d := by
  rw [val_main_v26_apply, val_main_v25_apply]
  unfold wOut outAt
  refine congrArg x7 (funext fun a => ?_)
  fin_cases a
  · rfl
  · rfl
  · exact Fin.ext (by show (j.val * 1024 + d.val) / 1024 % 2816 = j.val; omega)
  · exact Fin.ext (by show (j.val * 1024 + d.val) % 1024 = d.val; omega)

theorem ref_g (t : Fin 16384) (j : Fin 2816) : val_main_v23 (F := Ideal) x0 x1 x2 x3 x5 (ix2 t j) = up (rowH x0 x1 x2 x3 t) (wIn (inAt 0 1 x5)) j := by
  rw [val_main_v23_apply]
  unfold up
  refine Finset.sum_congr rfl fun l _ => congrArg₂ (fun x y : EReal => x * y) ?_ ?_
  · refine (congrArg _ (?_ : _ = ix2 t l)).trans (ref_hid x0 x1 x2 x3 t l)
    funext a; fin_cases a <;> rfl
  · refine (congrArg _ (?_ : _ = ix2 l j)).trans (ref_wIn5 x5 l j)
    funext a; fin_cases a <;> rfl

theorem ref_u (t : Fin 16384) (j : Fin 2816) : val_main_v24 (F := Ideal) x0 x1 x2 x3 x6 (ix2 t j) = up (rowH x0 x1 x2 x3 t) (wIn (inAt 0 1 x6)) j :=
  ref_g x0 x1 x2 x3 x6 t j

theorem ref_act (t : Fin 16384) (j : Fin 2816) : val_main_v28 (F := Ideal) x0 x1 x2 x3 x5 x6 (ix2 t j)
    = act (up (rowH x0 x1 x2 x3 t) (wIn (inAt 0 1 x5)) j) (up (rowH x0 x1 x2 x3 t) (wIn (inAt 0 1 x6)) j) := by
  rw [val_main_v28_apply, val_main_v27_apply, val_main_call0_v5_apply, val_main_call0_v4_apply, val_main_call0_v3_apply,
    val_main_call0_v2_apply, val_main_call0_v1_apply, val_main_call0_v0_apply, val_main_call0_cst_apply, val_main_call0_cst_0_apply,
    ref_g, ref_u]
  unfold act
  rfl

theorem ref_down (t : Fin 16384) (d : Fin 1024) : val_main_v29 (F := Ideal) x0 x1 x2 x3 x5 x6 x7 (ix2 t d)
    = resDown x0 x1 x2 x3 (inAt 0 1 x5) (inAt 0 1 x6) (outAt 0 1 x7) t d := by
  rw [val_main_v29_apply]
  unfold resDown down
  refine Finset.sum_congr rfl fun j _ => congrArg₂ (fun x y : EReal => x * y) ?_ ?_
  · refine (congrArg _ (?_ : _ = ix2 t j)).trans (ref_act x0 x1 x2 x3 x5 x6 t j)
    funext a; fin_cases a <;> rfl
  · refine (congrArg _ (?_ : _ = ix2 j d)).trans (ref_wOut x7 j d)
    funext a; fin_cases a <;> rfl

theorem ref17 : val_main_v35 (F := Ideal) x0 x1 x2 x3 = fun i => rowH x0 x1 x2 x3 (i 0) (i 1) := by
  funext i
  rw [val_main_v35_apply]
  exact (congrArg _ (idx2 i)).trans (ref_hid x0 x1 x2 x3 (i 0) (i 1))

theorem ref18 : val_main_v38 (F := Ideal) x0 x1 x2 x3 x5 = fun i => resUp x0 x1 x2 x3 (inAt 0 1 x5) (i 0) (i 1) (i 2) := by
  funext i
  rw [val_main_v38_apply, val_main_v37_apply, val_main_v36_apply]
  unfold resUp
  refine (congrArg _ (?_ : _ = ix2 (i 1) _)).trans (ref_g x0 x1 x2 x3 x5 (i 1) _)
  have h0 : (i 0).val < 4 := (i 0).isLt
  have h1 : (i 1).val < 16384 := (i 1).isLt
  have h2 : (i 2).val < 704 := (i 2).isLt
  funext a
  fin_cases a
  · exact Fin.ext (by show (((i 1).val * 4 + (i 0).val) * 704 + (i 2).val) / 2816 = (i 1).val; omega)
  · exact Fin.ext (by show (((i 1).val * 4 + (i 0).val) * 704 + (i 2).val) % 2816 = (i 0).val * 704 + (i 2).val; omega)

theorem ref19 : val_main_v41 (F := Ideal) x0 x1 x2 x3 x6 = fun i => resUp x0 x1 x2 x3 (inAt 0 1 x6) (i 0) (i 1) (i 2) := ref18 x0 x1 x2 x3 x6

theorem ref21 : val_main_v42 (F := Ideal) x0 x1 x2 x3 x5 x6 x7 = fun i => resDown x0 x1 x2 x3 (inAt 0 1 x5) (inAt 0 1 x6) (outAt 0 1 x7) (i 0) (i 1) := by
  funext i
  rw [val_main_v42_apply]
  exact (congrArg _ (idx2 i)).trans (ref_down x0 x1 x2 x3 x5 x6 x7 (i 0) (i 1))

theorem ref20 : val_main_v34 (F := Ideal) x0 x1 x2 x3 x4 x5 x6 x7 = fun i => resStep x0 x1 x2 x3 x4 (inAt 0 1 x5) (inAt 0 1 x6) (outAt 0 1 x7) (i 0) (i 1) := by
  funext i
  rw [val_main_v34_apply, val_main_v33_apply, val_main_v32_apply, val_main_v31_apply]
  unfold resStep step
  refine congrArg₂ (fun x y : EReal => x + y) (congrArg x0 (idx2 i)) (congrArg₂ (fun x y : EReal => x * y) ?_ ((congrArg _ (idx2 i)).trans (ref_down x0 x1 x2 x3 x5 x6 x7 (i 0) (i 1))))
  rw [val_main_v30_apply, val_main_cst_3_apply]
  exact congrArg (fun a => _ * x4 a) (funext fun a => by fin_cases a <;> rfl)

end Reference

end Cert.Ffn8

end
-- ==== Proof.Ffn9.lean ====
/- The forward block's launch for layer 1, first half step: its result arrays, the reference's, and their equality. The stored blocks are
   the first launch's functions of the read blocks; what differs is the place in the weights that the launch reads. -/
module

public import proofs.«01_k».proof.Proof.FfnPlace
public import proofs.«01_k».proof.Proof.RefFfn
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384
set_option backward.proofsInPublic true

noncomputable section

namespace Cert.Ffn9

section Kernel

open Cert.Kernel9Ideal Cert.Kernel9Ideal.Gen
open Cert.Ffn (wIn wOut inAt outAt rowH resUp resDown resStep hid hR)
open Idealize.ShloMosaic hiding ix1 ix2 ix3 ix4 ix5
open Idealize.ShloMosaic.ValueIdx Idealize.ShloMosaic.TcCoe Idealize.SL.Sem
open Idealize.ShloMosaic.WordCmp hiding select_one select_zero

section
variable (x0 : Vec Ideal S512x1024 .f32) (x1 x2 x3 x4 : Vec Ideal S1x1024 .f32)
  (x5 x6 x7 x8 x9 x10 x11 x12 : Vec Ideal S1x1x1x1024x704 .bf16) (x13 x14 x15 x16 : Vec Ideal S1x1x1x704x1024 .bf16)

theorem out17_eq : out0_17 (F := Ideal) x0 x1 x2 x3 x4 x5 x6 x7 x8 x9 x10 x11 x12 x13 x14 x15 x16
    = Cert.Kernel2Ideal.Gen.out0_17 (F := Ideal) x0 x1 x2 x3 x4 x5 x6 x7 x8 x9 x10 x11 x12 x13 x14 x15 x16 := rfl
theorem out18_eq : out0_18 (F := Ideal) x0 x1 x2 x3 x4 x5 x6 x7 x8 x9 x10 x11 x12 x13 x14 x15 x16
    = Cert.Kernel2Ideal.Gen.out0_18 (F := Ideal) x0 x1 x2 x3 x4 x5 x6 x7 x8 x9 x10 x11 x12 x13 x14 x15 x16 := rfl
theorem out19_eq : out0_19 (F := Ideal) x0 x1 x2 x3 x4 x5 x6 x7 x8 x9 x10 x11 x12 x13 x14 x15 x16
    = Cert.Kernel2Ideal.Gen.out0_19 (F := Ideal) x0 x1 x2 x3 x4 x5 x6 x7 x8 x9 x10 x11 x12 x13 x14 x15 x16 := rfl
theorem out20_eq : out0_20 (F := Ideal) x0 x1 x2 x3 x4 x5 x6 x7 x8 x9 x10 x11 x12 x13 x14 x15 x16
    = Cert.Kernel2Ideal.Gen.out0_20 (F := Ideal) x0 x1 x2 x3 x4 x5 x6 x7 x8 x9 x10 x11 x12 x13 x14 x15 x16 := rfl
theorem out21_eq : out0_21 (F := Ideal) x0 x1 x2 x3 x4 x5 x6 x7 x8 x9 x10 x11 x12 x13 x14 x15 x16
    = Cert.Kernel2Ideal.Gen.out0_21 (F := Ideal) x0 x1 x2 x3 x4 x5 x6 x7 x8 x9 x10 x11 x12 x13 x14 x15 x16 := rfl

end

variable (m : (ℓ : Loc nD τ sig) → Buf (Elt Ideal) ℓ) (ρ : Dev nD → PrngReg)

theorem index0 : ∀ t : Fin grid0.N, (win0_0.index t = ![t.val, 0] ∧ win0_1.index t = ![0, 0] ∧ win0_2.index t = ![0, 0]
      ∧ win0_3.index t = ![0, 0] ∧ win0_4.index t = ![0, 0])
    ∧ (win0_5.index t = ![0, 1, 0, 0, 0] ∧ win0_6.index t = ![1, 1, 0, 0, 0] ∧ win0_7.index t = ![2, 1, 0, 0, 0] ∧ win0_8.index t = ![3, 1, 0, 0, 0])
    ∧ (win0_9.index t = ![0, 1, 0, 0, 0] ∧ win0_10.index t = ![1, 1, 0, 0, 0] ∧ win0_11.index t = ![2, 1, 0, 0, 0] ∧ win0_12.index t = ![3, 1, 0, 0, 0])
    ∧ (win0_13.index t = ![0, 1, 0, 0, 0] ∧ win0_14.index t = ![1, 1, 0, 0, 0] ∧ win0_15.index t = ![2, 1, 0, 0, 0] ∧ win0_16.index t = ![3, 1, 0, 0, 0])
    ∧ (win0_17.index t = ![t.val, 0] ∧ win0_18.index t = ![0, t.val, 0] ∧ win0_19.index t = ![0, t.val, 0]
      ∧ win0_20.index t = ![t.val, 0] ∧ win0_21.index t = ![t.val, 0]) := by decide +kernel

theorem iblk0 (c : Dev nD) (t : Fin cfg0.N) (r : Fin 512) (l : Fin 1024) : iblk m c 0 t (ix2 r l)
    = V m c main_arg0 (ix2 ⟨t.val * 512 + r.val, by have := t.isLt; have : cfg0.N = 32 := N_0; omega⟩ l) := by
  have e := (index0 t).1.1
  unfold iblk
  blk_ext [e]
  all_goals rfl

theorem iblk1 (c : Dev nD) (t : Fin cfg0.N) (l : Fin 1024) : iblk m c 1 t (ix2 (0 : Fin 1) l) = V m c main_v9 (ix2 (0 : Fin 1) l) := by
  have e := (index0 t).1.2.1
  unfold iblk
  blk_ext [e]
  all_goals rfl

theorem iblk2 (c : Dev nD) (t : Fin cfg0.N) (l : Fin 1024) : iblk m c 2 t (ix2 (0 : Fin 1) l) = V m c main_arg3 (ix2 (0 : Fin 1) l) := by
  have e := (index0 t).1.2.2.1
  unfold iblk
  blk_ext [e]
  all_goals rfl

theorem iblk3 (c : Dev nD) (t : Fin cfg0.N) (l : Fin 1024) : iblk m c 3 t (ix2 (0 : Fin 1) l) = V m c main_arg2 (ix2 (0 : Fin 1) l) := by
  have e := (index0 t).1.2.2.2.1
  unfold iblk
  blk_ext [e]
  all_goals rfl

theorem iblk4 (c : Dev nD) (t : Fin cfg0.N) (l : Fin 1024) : iblk m c 4 t (ix2 (0 : Fin 1) l) = V m c main_arg4 (ix2 (0 : Fin 1) l) := by
  have e := (index0 t).1.2.2.2.2
  unfold iblk
  blk_ext [e]
  all_goals rfl

theorem iblk5 (c : Dev nD) (t : Fin cfg0.N) (l : Fin 1024) (f : Fin 704) :
    iblk m c 5 t (ix5 (0 : Fin 1) (0 : Fin 1) (0 : Fin 1) l f) = V m c main_v2 (ix5 (0 : Fin 4) (1 : Fin 2) (0 : Fin 2) l f) := by
  have e := (index0 t).2.1.1
  unfold iblk
  blk_ext [e]
  all_goals rfl

theorem iblk6 (c : Dev nD) (t : Fin cfg0.N) (l : Fin 1024) (f : Fin 704) :
    iblk m c 6 t (ix5 (0 : Fin 1) (0 : Fin 1) (0 : Fin 1) l f) = V m c main_v2 (ix5 (1 : Fin 4) (1 : Fin 2) (0 : Fin 2) l f) := by
  have e := (index0 t).2.1.2.1
  unfold iblk
  blk_ext [e]
  all_goals rfl

theorem iblk7 (c : Dev nD) (t : Fin cfg0.N) (l : Fin 1024) (f : Fin 704) :
    iblk m c 7 t (ix5 (0 : Fin 1) (0 : Fin 1) (0 : Fin 1) l f) = V m c main_v2 (ix5 (2 : Fin 4) (1 : Fin 2) (0 : Fin 2) l f) := by
  have e := (index0 t).2.1.2.2.1
  unfold iblk
  blk_ext [e]
  all_goals rfl

theorem iblk8 (c : Dev nD) (t : Fin cfg0.N) (l : Fin 1024) (f : Fin 704) :
    iblk m c 8 t (ix5 (0 : Fin 1) (0 : Fin 1) (0 : Fin 1) l f) = V m c main_v2 (ix5 (3 : Fin 4) (1 : Fin 2) (0 : Fin 2) l f) := by
  have e := (index0 t).2.1.2.2.2
  unfold iblk
  blk_ext [e]
  all_goals rfl

theorem iblk9 (c : Dev nD) (t : Fin cfg0.N) (l : Fin 1024) (f : Fin 704) :
    iblk m c 9 t (ix5 (0 : Fin 1) (0 : Fin 1) (0 : Fin 1) l f) = V m c main_v5 (ix5 (0 : Fin 4) (1 : Fin 2) (0 : Fin 2) l f) := by
  have e := (index0 t).2.2.1.1
  unfold iblk
  blk_ext [e]
  all_goals rfl

theorem iblk10 (c : Dev nD) (t : Fin cfg0.N) (l : Fin 1024) (f : Fin 704) :
    iblk m c 10 t (ix5 (0 : Fin 1) (0 : Fin 1) (0 : Fin 1) l f) = V m c main_v5 (ix5 (1 : Fin 4) (1 : Fin 2) (0 : Fin 2) l f) := by
  have e := (index0 t).2.2.1.2.1
  unfold iblk
  blk_ext [e]
  all_goals rfl

theorem iblk11 (c : Dev nD) (t : Fin cfg0.N) (l : Fin 1024) (f : Fin 704) :
    iblk m c 11 t (ix5 (0 : Fin 1) (0 : Fin 1) (0 : Fin 1) l f) = V m c main_v5 (ix5 (2 : Fin 4) (1 : Fin 2) (0 : Fin 2) l f) := by
  have e := (index0 t).2.2.1.2.2.1
  unfold iblk
  blk_ext [e]
  all_goals rfl

theorem iblk12 (c : Dev nD) (t : Fin cfg0.N) (l : Fin 1024) (f : Fin 704) :
    iblk m c 12 t (ix5 (0 : Fin 1) (0 : Fin 1) (0 : Fin 1) l f) = V m c main_v5 (ix5 (3 : Fin 4) (1 : Fin 2) (0 : Fin 2) l f) := by
  have e := (index0 t).2.2.1.2.2.2
  unfold iblk
  blk_ext [e]
  all_goals rfl

theorem iblk13 (c : Dev nD) (t : Fin cfg0.N) (l : Fin 704) (f : Fin 1024) :
    iblk m c 13 t (ix5 (0 : Fin 1) (0 : Fin 1) (0 : Fin 1) l f) = V m c main_v8 (ix5 (0 : Fin 4) (1 : Fin 2) (0 : Fin 2) l f) := by
  have e := (index0 t).2.2.2.1.1
  unfold iblk
  blk_ext [e]
  all_goals rfl

theorem iblk14 (c : Dev nD) (t : Fin cfg0.N) (l : Fin 704) (f : Fin 1024) :
    iblk m c 14 t (ix5 (0 : Fin 1) (0 : Fin 1) (0 : Fin 1) l f) = V m c main_v8 (ix5 (1 : Fin 4) (1 : Fin 2) (0 : Fin 2) l f) := by
  have e := (index0 t).2.2.2.1.2.1
  unfold iblk
  blk_ext [e]
  all_goals rfl

theorem iblk15 (c : Dev nD) (t : Fin cfg0.N) (l : Fin 704) (f : Fin 1024) :
    iblk m c 15 t (ix5 (0 : Fin 1) (0 : Fin 1) (0 : Fin 1) l f) = V m c main_v8 (ix5 (2 : Fin 4) (1 : Fin 2) (0 : Fin 2) l f) := by
  have e := (index0 t).2.2.2.1.2.2.1
  unfold iblk
  blk_ext [e]
  all_goals rfl

theorem iblk16 (c : Dev nD) (t : Fin cfg0.N) (l : Fin 704) (f : Fin 1024) :
    iblk m c 16 t (ix5 (0 : Fin 1) (0 : Fin 1) (0 : Fin 1) l f) = V m c main_v8 (ix5 (3 : Fin 4) (1 : Fin 2) (0 : Fin 2) l f) := by
  have e := (index0 t).2.2.2.1.2.2.2
  unfold iblk
  blk_ext [e]
  all_goals rfl

theorem V_v9 (c : Dev nD) (l : Fin 1024) : V m c main_v9 (ix2 (0 : Fin 1) l) = m ((c : Thread nD τ).loc main_arg1) (ix1 l) := by
  show StableHlo.after hostOps0 _ (Proc.devRef .tc main_v9) _ = _
  after_reads_at
  rfl
theorem V_v2 (c : Dev nD) (k : Fin 4) (l : Fin 1024) (f : Fin 704) : V m c main_v2 (ix5 k (1 : Fin 2) (0 : Fin 2) l f)
    = m ((c : Thread nD τ).loc main_arg5) (ix4 (1 : Fin 2) (0 : Fin 2) l ⟨k.val * 704 + f.val, by omega⟩) := by
  show StableHlo.after hostOps0 _ (Proc.devRef .tc main_v2) _ = _
  after_reads_at
  rfl
theorem V_v5 (c : Dev nD) (k : Fin 4) (l : Fin 1024) (f : Fin 704) : V m c main_v5 (ix5 k (1 : Fin 2) (0 : Fin 2) l f)
    = m ((c : Thread nD τ).loc main_arg6) (ix4 (1 : Fin 2) (0 : Fin 2) l ⟨k.val * 704 + f.val, by omega⟩) := by
  show StableHlo.after hostOps0 _ (Proc.devRef .tc main_v5) _ = _
  after_reads_at
  rfl
theorem V_v8 (c : Dev nD) (k : Fin 4) (f : Fin 704) (d : Fin 1024) : V m c main_v8 (ix5 k (1 : Fin 2) (0 : Fin 2) f d)
    = m ((c : Thread nD τ).loc main_arg7) (ix4 (1 : Fin 2) (0 : Fin 2) ⟨k.val * 704 + f.val, by omega⟩ d) := by
  show StableHlo.after hostOps0 _ (Proc.devRef .tc main_v8) _ = _
  after_reads_at
  rfl
theorem V_arg0 (c : Dev nD) : V m c main_arg0 = m ((c : Thread nD τ).loc main_arg0) := by
  show StableHlo.after hostOps0 _ (Proc.devRef .tc main_arg0) = _
  after_reads_at
theorem V_arg2 (c : Dev nD) : V m c main_arg2 = m ((c : Thread nD τ).loc main_arg2) := by
  show StableHlo.after hostOps0 _ (Proc.devRef .tc main_arg2) = _
  after_reads_at
theorem V_arg3 (c : Dev nD) : V m c main_arg3 = m ((c : Thread nD τ).loc main_arg3) := by
  show StableHlo.after hostOps0 _ (Proc.devRef .tc main_arg3) = _
  after_reads_at
theorem V_arg4 (c : Dev nD) : V m c main_arg4 = m ((c : Thread nD τ).loc main_arg4) := by
  show StableHlo.after hostOps0 _ (Proc.devRef .tc main_arg4) = _
  after_reads_at

theorem blkX (c : Dev nD) (t : Fin cfg0.N) (r : Fin 512) (t' : Fin 16384) (ht : t'.val = t.val * 512 + r.val) :
    (fun l : Fin 1024 => iblk m c 0 t (ix2 r l)) = fun l => m ((c : Thread nD τ).loc main_arg0) (ix2 t' l) :=
  funext fun l => (iblk0 m c t r l).trans ((congrFun (V_arg0 m c) _).trans
    (congrArg (fun t => m ((c : Thread nD τ).loc main_arg0) (ix2 t l)) (Fin.ext ht.symm)))

theorem blkH (c : Dev nD) (t : Fin cfg0.N) (r : Fin 512) (t' : Fin 16384) (ht : t'.val = t.val * 512 + r.val) :
    hR (iblk m c 0 t) (iblk m c 1 t) (iblk m c 2 t) (iblk m c 3 t) r = rowH (m ((c : Thread nD τ).loc main_arg0)) (m ((c : Thread nD τ).loc main_arg1)) (m ((c : Thread nD τ).loc main_arg2)) (m ((c : Thread nD τ).loc main_arg3)) t' := by
  have h1 : (fun l : Fin 1024 => iblk m c 1 t (ix2 (0 : Fin 1) l)) = fun l => m ((c : Thread nD τ).loc main_arg1) (ix1 l) :=
    funext fun l => (iblk1 m c t l).trans (V_v9 m c l)
  have h2 : (fun l : Fin 1024 => iblk m c 2 t (ix2 (0 : Fin 1) l)) = fun l => m ((c : Thread nD τ).loc main_arg3) (ix2 (0 : Fin 1) l) :=
    funext fun l => (iblk2 m c t l).trans (congrFun (V_arg3 m c) _)
  have h3 : (fun l : Fin 1024 => iblk m c 3 t (ix2 (0 : Fin 1) l)) = fun l => m ((c : Thread nD τ).loc main_arg2) (ix2 (0 : Fin 1) l) :=
    funext fun l => (iblk3 m c t l).trans (congrFun (V_arg2 m c) _)
  unfold hR rowH
  exact congr (congr (congr (congrArg hid (blkX m c t r t' ht)) h1) h2) h3

theorem blkG (c : Dev nD) (t : Fin cfg0.N) (k : Fin 4) (l : Fin 1024) (f : Fin 704) :
    (![iblk m c 5 t, iblk m c 6 t, iblk m c 7 t, iblk m c 8 t] : Fin 4 → Vec Ideal S1x1x1x1024x704 .bf16) k (ix5 0 0 0 l f)
      = wIn (inAt 1 0 (m ((c : Thread nD τ).loc main_arg5))) l ⟨k.val * 704 + f.val, by omega⟩ := by
  fin_cases k
  · exact (iblk5 m c t l f).trans (V_v2 m c 0 l f)
  · exact (iblk6 m c t l f).trans (V_v2 m c 1 l f)
  · exact (iblk7 m c t l f).trans (V_v2 m c 2 l f)
  · exact (iblk8 m c t l f).trans (V_v2 m c 3 l f)

theorem blkU (c : Dev nD) (t : Fin cfg0.N) (k : Fin 4) (l : Fin 1024) (f : Fin 704) :
    (![iblk m c 9 t, iblk m c 10 t, iblk m c 11 t, iblk m c 12 t] : Fin 4 → Vec Ideal S1x1x1x1024x704 .bf16) k (ix5 0 0 0 l f)
      = wIn (inAt 1 0 (m ((c : Thread nD τ).loc main_arg6))) l ⟨k.val * 704 + f.val, by omega⟩ := by
  fin_cases k
  · exact (iblk9 m c t l f).trans (V_v5 m c 0 l f)
  · exact (iblk10 m c t l f).trans (V_v5 m c 1 l f)
  · exact (iblk11 m c t l f).trans (V_v5 m c 2 l f)
  · exact (iblk12 m c t l f).trans (V_v5 m c 3 l f)

theorem blkW (c : Dev nD) (t : Fin cfg0.N) (k : Fin 4) (f : Fin 704) (d : Fin 1024) :
    (![iblk m c 13 t, iblk m c 14 t, iblk m c 15 t, iblk m c 16 t] : Fin 4 → Vec Ideal S1x1x1x704x1024 .bf16) k (ix5 0 0 0 f d)
      = wOut (outAt 1 0 (m ((c : Thread nD τ).loc main_arg7))) ⟨k.val * 704 + f.val, by omega⟩ d := by
  fin_cases k
  · exact (iblk13 m c t f d).trans (V_v8 m c 0 f d)
  · exact (iblk14 m c t f d).trans (V_v8 m c 1 f d)
  · exact (iblk15 m c t f d).trans (V_v8 m c 2 f d)
  · exact (iblk16 m c t f d).trans (V_v8 m c 3 f d)

theorem block17 (c : Dev nD) (t : Fin cfg0.N) (y : S512x1024.Idx) (i : S16384x1024.Idx) (h0 : (i 0).val = t.val * 512 + (y 0).val)
    (h1 : (i 1).val = (y 1).val) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = rowH (m ((c : Thread nD τ).loc main_arg0)) (m ((c : Thread nD τ).loc main_arg1)) (m ((c : Thread nD τ).loc main_arg2)) (m ((c : Thread nD τ).loc main_arg3)) (i 0) (i 1) := by
  refine (congrFun (out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y).trans ?_)
  rw [blkH m c t (y 0) (i 0) h0]
  exact congrArg _ (Fin.ext h1.symm)

/-- The saved hidden values. -/
theorem final17 (c : Dev nD) : (dats m 0 c).arrAt 17 cfg0.N = fun i : S16384x1024.Idx => rowH (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 17 _ (by decide +kernel) fun t hf y => ?_
  have e := (index0 t).2.2.2.2.1
  blk_simp [e]
  rw [after0_17]
  refine block17 m c t y ((win0_17.blk t).view.emb y) ?_ ?_
  · blk_simp [e]
  · blk_simp [e]

theorem block18 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (inAt 1 0 (m ((c : Thread nD τ).loc main_arg5))) (i 0) (i 1) (i 2) := by
  refine (congrFun (out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) y).trans ?_)
  unfold resUp
  rw [blkH m c t (y 1) (i 1) h1]
  exact congrArg _ (Fin.ext (by show (y 0).val * 704 + (y 2).val = (i 0).val * 704 + (i 2).val; rw [h0, h2]))

/-- The saved projection's values. -/
theorem final18 (c : Dev nD) : (dats m 0 c).arrAt 18 cfg0.N
    = fun i : S4x16384x704.Idx => resUp (m ((c : Thread nD τ).loc main_arg0)) (m ((c : Thread nD τ).loc main_arg1)) (m ((c : Thread nD τ).loc main_arg2)) (m ((c : Thread nD τ).loc main_arg3)) (inAt 1 0 (m ((c : Thread nD τ).loc main_arg5))) (i 0) (i 1) (i 2) := by
  refine (dats m 0 c).arrAt_eq_of_covers 18 _ (by decide +kernel) fun t hf y => ?_
  have e := (index0 t).2.2.2.2.2.1
  blk_simp [e]
  rw [after0_18]
  refine block18 m c t y ((win0_18.blk t).view.emb y) ?_ ?_ ?_
  · blk_simp [e]
  · blk_simp [e]
  · blk_simp [e]

theorem block19 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (inAt 1 0 (m ((c : Thread nD τ).loc main_arg6))) (i 0) (i 1) (i 2) := by
  refine (congrFun (out19_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkU m c t) y).trans ?_)
  unfold resUp
  rw [blkH m c t (y 1) (i 1) h1]
  exact congrArg _ (Fin.ext (by show (y 0).val * 704 + (y 2).val = (i 0).val * 704 + (i 2).val; rw [h0, h2]))

/-- The saved projection's values. -/
theorem final19 (c : Dev nD) : (dats m 0 c).arrAt 19 cfg0.N
    = fun i : S4x16384x704.Idx => resUp (m ((c : Thread nD τ).loc main_arg0)) (m ((c : Thread nD τ).loc main_arg1)) (m ((c : Thread nD τ).loc main_arg2)) (m ((c : Thread nD τ).loc main_arg3)) (inAt 1 0 (m ((c : Thread nD τ).loc main_arg6))) (i 0) (i 1) (i 2) := by
  refine (dats m 0 c).arrAt_eq_of_covers 19 _ (by decide +kernel) fun t hf y => ?_
  have e := (index0 t).2.2.2.2.2.2.1
  blk_simp [e]
  rw [after0_19]
  refine block19 m c t y ((win0_19.blk t).view.emb y) ?_ ?_ ?_
  · blk_simp [e]
  · blk_simp [e]
  · blk_simp [e]

theorem block20 (c : Dev nD) (t : Fin cfg0.N) (y : S512x1024.Idx) (i : S16384x1024.Idx) (h0 : (i 0).val = t.val * 512 + (y 0).val)
    (h1 : (i 1).val = (y 1).val) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resStep (m ((c : Thread nD τ).loc main_arg0)) (m ((c : Thread nD τ).loc main_arg1)) (m ((c : Thread nD τ).loc main_arg2)) (m ((c : Thread nD τ).loc main_arg3)) (m ((c : Thread nD τ).loc main_arg4)) (inAt 1 0 (m ((c : Thread nD τ).loc main_arg5))) (inAt 1 0 (m ((c : Thread nD τ).loc main_arg6))) (outAt 1 0 (m ((c : Thread nD τ).loc main_arg7))) (i 0) (i 1) := by
  refine (congrFun (out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_)
  unfold resStep resDown
  rw [blkH m c t (y 0) (i 0) h0, blkX m c t (y 0) (i 0) h0,
    show (fun l : Fin 1024 => iblk m c 4 t (ix2 (0 : Fin 1) l)) = fun l => m ((c : Thread nD τ).loc main_arg4) (ix2 (0 : Fin 1) l) from
      funext fun l => (iblk4 m c t l).trans (congrFun (V_arg4 m c) _)]
  exact congrArg _ (Fin.ext h1.symm)

/-- The half step's array. -/
theorem final20 (c : Dev nD) : (dats m 0 c).arrAt 20 cfg0.N
    = fun i : S16384x1024.Idx => resStep (m ((c : Thread nD τ).loc main_arg0)) (m ((c : Thread nD τ).loc main_arg1)) (m ((c : Thread nD τ).loc main_arg2)) (m ((c : Thread nD τ).loc main_arg3)) (m ((c : Thread nD τ).loc main_arg4)) (inAt 1 0 (m ((c : Thread nD τ).loc main_arg5))) (inAt 1 0 (m ((c : Thread nD τ).loc main_arg6))) (outAt 1 0 (m ((c : Thread nD τ).loc main_arg7))) (i 0) (i 1) := by
  refine (dats m 0 c).arrAt_eq_of_covers 20 _ (by decide +kernel) fun t hf y => ?_
  have e := (index0 t).2.2.2.2.2.2.2.1
  blk_simp [e]
  rw [after0_20]
  refine block20 m c t y ((win0_20.blk t).view.emb y) ?_ ?_
  · blk_simp [e]
  · blk_simp [e]

theorem block21 (c : Dev nD) (t : Fin cfg0.N) (y : S512x1024.Idx) (i : S16384x1024.Idx) (h0 : (i 0).val = t.val * 512 + (y 0).val)
    (h1 : (i 1).val = (y 1).val) : out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resDown (m ((c : Thread nD τ).loc main_arg0)) (m ((c : Thread nD τ).loc main_arg1)) (m ((c : Thread nD τ).loc main_arg2)) (m ((c : Thread nD τ).loc main_arg3)) (inAt 1 0 (m ((c : Thread nD τ).loc main_arg5))) (inAt 1 0 (m ((c : Thread nD τ).loc main_arg6))) (outAt 1 0 (m ((c : Thread nD τ).loc main_arg7))) (i 0) (i 1) := by
  refine (congrFun (out21_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_)
  unfold resDown
  rw [blkH m c t (y 0) (i 0) h0]
  exact congrArg _ (Fin.ext h1.symm)

/-- The block's array. -/
theorem final21 (c : Dev nD) : (dats m 0 c).arrAt 21 cfg0.N
    = fun i : S16384x1024.Idx => resDown (m ((c : Thread nD τ).loc main_arg0)) (m ((c : Thread nD τ).loc main_arg1)) (m ((c : Thread nD τ).loc main_arg2)) (m ((c : Thread nD τ).loc main_arg3)) (inAt 1 0 (m ((c : Thread nD τ).loc main_arg5))) (inAt 1 0 (m ((c : Thread nD τ).loc main_arg6))) (outAt 1 0 (m ((c : Thread nD τ).loc main_arg7))) (i 0) (i 1) := by
  refine (dats m 0 c).arrAt_eq_of_covers 21 _ (by decide +kernel) fun t hf y => ?_
  have e := (index0 t).2.2.2.2.2.2.2.2
  blk_simp [e]
  rw [after0_21]
  refine block21 m c t y ((win0_21.blk t).view.emb y) ?_ ?_
  · blk_simp [e]
  · blk_simp [e]

end Kernel

section Reference

open Cert.Reference9Ideal Cert.Reference9Ideal.Gen Cert.Reference9Ideal.Read
open Cert.Ffn (wIn wOut inAt outAt rowH resUp resDown resStep up act down step idx2)
open Idealize.ShloMosaic hiding ix1 ix2 ix3 ix4 ix5
open Idealize.ShloMosaic.ValueIdx Idealize.ShloMosaic.TcCoe Idealize.SL.Sem

variable (x0 : S16384x1024.Idx → EReal) (x1 : S1024.Idx → EReal) (x2 x3 x4 : S1x1024.Idx → EReal)
  (x5 x6 : S2x2x1024x2816.Idx → EReal) (x7 : S2x2x2816x1024.Idx → EReal)

theorem ref_hid (t : Fin 16384) (d : Fin 1024) : val_main_v22 (F := Ideal) x0 x1 x2 x3 (ix2 t d) = rowH x0 x1 x2 x3 t d := by
  exact Cert.Ffn.ref_hid x0 x1 x2 x3 t d

theorem ref_wIn5 (l : Fin 1024) (j : Fin 2816) : val_main_v1 (F := Ideal) x5 (ix2 l j) = wIn (inAt 1 0 x5) l j := by
  rw [val_main_v1_apply, val_main_v0_apply]
  unfold wIn inAt
  refine congrArg x5 (funext fun a => ?_)
  fin_cases a
  · rfl
  · rfl
  · exact Fin.ext (by show (l.val * 2816 + j.val) / 2816 % 1024 = l.val; omega)
  · exact Fin.ext (by show (l.val * 2816 + j.val) % 2816 = j.val; omega)

theorem ref_wIn6 (l : Fin 1024) (j : Fin 2816) : val_main_v3 (F := Ideal) x6 (ix2 l j) = wIn (inAt 1 0 x6) l j := ref_wIn5 x6 l j

theorem ref_wOut (j : Fin 2816) (d : Fin 1024) : val_main_v26 (F := Ideal) x7 (ix2 j d) = wOut (outAt 1 0 x7) j d := by
  rw [val_main_v26_apply, val_main_v25_apply]
  unfold wOut outAt
  refine congrArg x7 (funext fun a => ?_)
  fin_cases a
  · rfl
  · rfl
  · exact Fin.ext (by show (j.val * 1024 + d.val) / 1024 % 2816 = j.val; omega)
  · exact Fin.ext (by show (j.val * 1024 + d.val) % 1024 = d.val; omega)

theorem ref_g (t : Fin 16384) (j : Fin 2816) : val_main_v23 (F := Ideal) x0 x1 x2 x3 x5 (ix2 t j) = up (rowH x0 x1 x2 x3 t) (wIn (inAt 1 0 x5)) j := by
  rw [val_main_v23_apply]
  unfold up
  refine Finset.sum_congr rfl fun l _ => congrArg₂ (fun x y : EReal => x * y) ?_ ?_
  · refine (congrArg _ (?_ : _ = ix2 t l)).trans (ref_hid x0 x1 x2 x3 t l)
    funext a; fin_cases a <;> rfl
  · refine (congrArg _ (?_ : _ = ix2 l j)).trans (ref_wIn5 x5 l j)
    funext a; fin_cases a <;> rfl

theorem ref_u (t : Fin 16384) (j : Fin 2816) : val_main_v24 (F := Ideal) x0 x1 x2 x3 x6 (ix2 t j) = up (rowH x0 x1 x2 x3 t) (wIn (inAt 1 0 x6)) j :=
  ref_g x0 x1 x2 x3 x6 t j

theorem ref_act (t : Fin 16384) (j : Fin 2816) : val_main_v28 (F := Ideal) x0 x1 x2 x3 x5 x6 (ix2 t j)
    = act (up (rowH x0 x1 x2 x3 t) (wIn (inAt 1 0 x5)) j) (up (rowH x0 x1 x2 x3 t) (wIn (inAt 1 0 x6)) j) := by
  rw [val_main_v28_apply, val_main_v27_apply, val_main_call0_v5_apply, val_main_call0_v4_apply, val_main_call0_v3_apply,
    val_main_call0_v2_apply, val_main_call0_v1_apply, val_main_call0_v0_apply, val_main_call0_cst_apply, val_main_call0_cst_0_apply,
    ref_g, ref_u]
  unfold act
  rfl

theorem ref_down (t : Fin 16384) (d : Fin 1024) : val_main_v29 (F := Ideal) x0 x1 x2 x3 x5 x6 x7 (ix2 t d)
    = resDown x0 x1 x2 x3 (inAt 1 0 x5) (inAt 1 0 x6) (outAt 1 0 x7) t d := by
  rw [val_main_v29_apply]
  unfold resDown down
  refine Finset.sum_congr rfl fun j _ => congrArg₂ (fun x y : EReal => x * y) ?_ ?_
  · refine (congrArg _ (?_ : _ = ix2 t j)).trans (ref_act x0 x1 x2 x3 x5 x6 t j)
    funext a; fin_cases a <;> rfl
  · refine (congrArg _ (?_ : _ = ix2 j d)).trans (ref_wOut x7 j d)
    funext a; fin_cases a <;> rfl

theorem ref17 : val_main_v35 (F := Ideal) x0 x1 x2 x3 = fun i => rowH x0 x1 x2 x3 (i 0) (i 1) := by
  funext i
  rw [val_main_v35_apply]
  exact (congrArg _ (idx2 i)).trans (ref_hid x0 x1 x2 x3 (i 0) (i 1))

theorem ref18 : val_main_v38 (F := Ideal) x0 x1 x2 x3 x5 = fun i => resUp x0 x1 x2 x3 (inAt 1 0 x5) (i 0) (i 1) (i 2) := by
  funext i
  rw [val_main_v38_apply, val_main_v37_apply, val_main_v36_apply]
  unfold resUp
  refine (congrArg _ (?_ : _ = ix2 (i 1) _)).trans (ref_g x0 x1 x2 x3 x5 (i 1) _)
  have h0 : (i 0).val < 4 := (i 0).isLt
  have h1 : (i 1).val < 16384 := (i 1).isLt
  have h2 : (i 2).val < 704 := (i 2).isLt
  funext a
  fin_cases a
  · exact Fin.ext (by show (((i 1).val * 4 + (i 0).val) * 704 + (i 2).val) / 2816 = (i 1).val; omega)
  · exact Fin.ext (by show (((i 1).val * 4 + (i 0).val) * 704 + (i 2).val) % 2816 = (i 0).val * 704 + (i 2).val; omega)

theorem ref19 : val_main_v41 (F := Ideal) x0 x1 x2 x3 x6 = fun i => resUp x0 x1 x2 x3 (inAt 1 0 x6) (i 0) (i 1) (i 2) := ref18 x0 x1 x2 x3 x6

theorem ref21 : val_main_v42 (F := Ideal) x0 x1 x2 x3 x5 x6 x7 = fun i => resDown x0 x1 x2 x3 (inAt 1 0 x5) (inAt 1 0 x6) (outAt 1 0 x7) (i 0) (i 1) := by
  funext i
  rw [val_main_v42_apply]
  exact (congrArg _ (idx2 i)).trans (ref_down x0 x1 x2 x3 x5 x6 x7 (i 0) (i 1))

theorem ref20 : val_main_v34 (F := Ideal) x0 x1 x2 x3 x4 x5 x6 x7 = fun i => resStep x0 x1 x2 x3 x4 (inAt 1 0 x5) (inAt 1 0 x6) (outAt 1 0 x7) (i 0) (i 1) := by
  funext i
  rw [val_main_v34_apply, val_main_v33_apply, val_main_v32_apply, val_main_v31_apply]
  unfold resStep step
  refine congrArg₂ (fun x y : EReal => x + y) (congrArg x0 (idx2 i)) (congrArg₂ (fun x y : EReal => x * y) ?_ ((congrArg _ (idx2 i)).trans (ref_down x0 x1 x2 x3 x5 x6 x7 (i 0) (i 1))))
  rw [val_main_v30_apply, val_main_cst_3_apply]
  exact congrArg (fun a => _ * x4 a) (funext fun a => by fin_cases a <;> rfl)

end Reference

end Cert.Ffn9

end
-- ==== Proof.Ffn10.lean ====
/- The forward block's launch for layer 1, second half step: its result arrays, the reference's, and their equality. The stored blocks are
   the first launch's functions of the read blocks; what differs is the place in the weights that the launch reads. -/
module

public import proofs.«01_k».proof.Proof.FfnPlace
public import proofs.«01_k».proof.Proof.RefFfn
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384
set_option backward.proofsInPublic true

noncomputable section

namespace Cert.Ffn10

section Kernel

open Cert.Kernel10Ideal Cert.Kernel10Ideal.Gen
open Cert.Ffn (wIn wOut inAt outAt rowH resUp resDown resStep hid hR)
open Idealize.ShloMosaic hiding ix1 ix2 ix3 ix4 ix5
open Idealize.ShloMosaic.ValueIdx Idealize.ShloMosaic.TcCoe Idealize.SL.Sem
open Idealize.ShloMosaic.WordCmp hiding select_one select_zero

section
variable (x0 : Vec Ideal S512x1024 .f32) (x1 x2 x3 x4 : Vec Ideal S1x1024 .f32)
  (x5 x6 x7 x8 x9 x10 x11 x12 : Vec Ideal S1x1x1x1024x704 .bf16) (x13 x14 x15 x16 : Vec Ideal S1x1x1x704x1024 .bf16)

theorem out17_eq : out0_17 (F := Ideal) x0 x1 x2 x3 x4 x5 x6 x7 x8 x9 x10 x11 x12 x13 x14 x15 x16
    = Cert.Kernel2Ideal.Gen.out0_17 (F := Ideal) x0 x1 x2 x3 x4 x5 x6 x7 x8 x9 x10 x11 x12 x13 x14 x15 x16 := rfl
theorem out18_eq : out0_18 (F := Ideal) x0 x1 x2 x3 x4 x5 x6 x7 x8 x9 x10 x11 x12 x13 x14 x15 x16
    = Cert.Kernel2Ideal.Gen.out0_18 (F := Ideal) x0 x1 x2 x3 x4 x5 x6 x7 x8 x9 x10 x11 x12 x13 x14 x15 x16 := rfl
theorem out19_eq : out0_19 (F := Ideal) x0 x1 x2 x3 x4 x5 x6 x7 x8 x9 x10 x11 x12 x13 x14 x15 x16
    = Cert.Kernel2Ideal.Gen.out0_19 (F := Ideal) x0 x1 x2 x3 x4 x5 x6 x7 x8 x9 x10 x11 x12 x13 x14 x15 x16 := rfl
theorem out20_eq : out0_20 (F := Ideal) x0 x1 x2 x3 x4 x5 x6 x7 x8 x9 x10 x11 x12 x13 x14 x15 x16
    = Cert.Kernel2Ideal.Gen.out0_20 (F := Ideal) x0 x1 x2 x3 x4 x5 x6 x7 x8 x9 x10 x11 x12 x13 x14 x15 x16 := rfl
theorem out21_eq : out0_21 (F := Ideal) x0 x1 x2 x3 x4 x5 x6 x7 x8 x9 x10 x11 x12 x13 x14 x15 x16
    = Cert.Kernel2Ideal.Gen.out0_21 (F := Ideal) x0 x1 x2 x3 x4 x5 x6 x7 x8 x9 x10 x11 x12 x13 x14 x15 x16 := rfl

end

variable (m : (ℓ : Loc nD τ sig) → Buf (Elt Ideal) ℓ) (ρ : Dev nD → PrngReg)

theorem index0 : ∀ t : Fin grid0.N, (win0_0.index t = ![t.val, 0] ∧ win0_1.index t = ![0, 0] ∧ win0_2.index t = ![0, 0]
      ∧ win0_3.index t = ![0, 0] ∧ win0_4.index t = ![0, 0])
    ∧ (win0_5.index t = ![0, 1, 1, 0, 0] ∧ win0_6.index t = ![1, 1, 1, 0, 0] ∧ win0_7.index t = ![2, 1, 1, 0, 0] ∧ win0_8.index t = ![3, 1, 1, 0, 0])
    ∧ (win0_9.index t = ![0, 1, 1, 0, 0] ∧ win0_10.index t = ![1, 1, 1, 0, 0] ∧ win0_11.index t = ![2, 1, 1, 0, 0] ∧ win0_12.index t = ![3, 1, 1, 0, 0])
    ∧ (win0_13.index t = ![0, 1, 1, 0, 0] ∧ win0_14.index t = ![1, 1, 1, 0, 0] ∧ win0_15.index t = ![2, 1, 1, 0, 0] ∧ win0_16.index t = ![3, 1, 1, 0, 0])
    ∧ (win0_17.index t = ![t.val, 0] ∧ win0_18.index t = ![0, t.val, 0] ∧ win0_19.index t = ![0, t.val, 0]
      ∧ win0_20.index t = ![t.val, 0] ∧ win0_21.index t = ![t.val, 0]) := by decide +kernel

theorem iblk0 (c : Dev nD) (t : Fin cfg0.N) (r : Fin 512) (l : Fin 1024) : iblk m c 0 t (ix2 r l)
    = V m c main_arg0 (ix2 ⟨t.val * 512 + r.val, by have := t.isLt; have : cfg0.N = 32 := N_0; omega⟩ l) := by
  have e := (index0 t).1.1
  unfold iblk
  blk_ext [e]
  all_goals rfl

theorem iblk1 (c : Dev nD) (t : Fin cfg0.N) (l : Fin 1024) : iblk m c 1 t (ix2 (0 : Fin 1) l) = V m c main_v9 (ix2 (0 : Fin 1) l) := by
  have e := (index0 t).1.2.1
  unfold iblk
  blk_ext [e]
  all_goals rfl

theorem iblk2 (c : Dev nD) (t : Fin cfg0.N) (l : Fin 1024) : iblk m c 2 t (ix2 (0 : Fin 1) l) = V m c main_arg3 (ix2 (0 : Fin 1) l) := by
  have e := (index0 t).1.2.2.1
  unfold iblk
  blk_ext [e]
  all_goals rfl

theorem iblk3 (c : Dev nD) (t : Fin cfg0.N) (l : Fin 1024) : iblk m c 3 t (ix2 (0 : Fin 1) l) = V m c main_arg2 (ix2 (0 : Fin 1) l) := by
  have e := (index0 t).1.2.2.2.1
  unfold iblk
  blk_ext [e]
  all_goals rfl

theorem iblk4 (c : Dev nD) (t : Fin cfg0.N) (l : Fin 1024) : iblk m c 4 t (ix2 (0 : Fin 1) l) = V m c main_arg4 (ix2 (0 : Fin 1) l) := by
  have e := (index0 t).1.2.2.2.2
  unfold iblk
  blk_ext [e]
  all_goals rfl

theorem iblk5 (c : Dev nD) (t : Fin cfg0.N) (l : Fin 1024) (f : Fin 704) :
    iblk m c 5 t (ix5 (0 : Fin 1) (0 : Fin 1) (0 : Fin 1) l f) = V m c main_v2 (ix5 (0 : Fin 4) (1 : Fin 2) (1 : Fin 2) l f) := by
  have e := (index0 t).2.1.1
  unfold iblk
  blk_ext [e]
  all_goals rfl

theorem iblk6 (c : Dev nD) (t : Fin cfg0.N) (l : Fin 1024) (f : Fin 704) :
    iblk m c 6 t (ix5 (0 : Fin 1) (0 : Fin 1) (0 : Fin 1) l f) = V m c main_v2 (ix5 (1 : Fin 4) (1 : Fin 2) (1 : Fin 2) l f) := by
  have e := (index0 t).2.1.2.1
  unfold iblk
  blk_ext [e]
  all_goals rfl

theorem iblk7 (c : Dev nD) (t : Fin cfg0.N) (l : Fin 1024) (f : Fin 704) :
    iblk m c 7 t (ix5 (0 : Fin 1) (0 : Fin 1) (0 : Fin 1) l f) = V m c main_v2 (ix5 (2 : Fin 4) (1 : Fin 2) (1 : Fin 2) l f) := by
  have e := (index0 t).2.1.2.2.1
  unfold iblk
  blk_ext [e]
  all_goals rfl

theorem iblk8 (c : Dev nD) (t : Fin cfg0.N) (l : Fin 1024) (f : Fin 704) :
    iblk m c 8 t (ix5 (0 : Fin 1) (0 : Fin 1) (0 : Fin 1) l f) = V m c main_v2 (ix5 (3 : Fin 4) (1 : Fin 2) (1 : Fin 2) l f) := by
  have e := (index0 t).2.1.2.2.2
  unfold iblk
  blk_ext [e]
  all_goals rfl

theorem iblk9 (c : Dev nD) (t : Fin cfg0.N) (l : Fin 1024) (f : Fin 704) :
    iblk m c 9 t (ix5 (0 : Fin 1) (0 : Fin 1) (0 : Fin 1) l f) = V m c main_v5 (ix5 (0 : Fin 4) (1 : Fin 2) (1 : Fin 2) l f) := by
  have e := (index0 t).2.2.1.1
  unfold iblk
  blk_ext [e]
  all_goals rfl

theorem iblk10 (c : Dev nD) (t : Fin cfg0.N) (l : Fin 1024) (f : Fin 704) :
    iblk m c 10 t (ix5 (0 : Fin 1) (0 : Fin 1) (0 : Fin 1) l f) = V m c main_v5 (ix5 (1 : Fin 4) (1 : Fin 2) (1 : Fin 2) l f) := by
  have e := (index0 t).2.2.1.2.1
  unfold iblk
  blk_ext [e]
  all_goals rfl

theorem iblk11 (c : Dev nD) (t : Fin cfg0.N) (l : Fin 1024) (f : Fin 704) :
    iblk m c 11 t (ix5 (0 : Fin 1) (0 : Fin 1) (0 : Fin 1) l f) = V m c main_v5 (ix5 (2 : Fin 4) (1 : Fin 2) (1 : Fin 2) l f) := by
  have e := (index0 t).2.2.1.2.2.1
  unfold iblk
  blk_ext [e]
  all_goals rfl

theorem iblk12 (c : Dev nD) (t : Fin cfg0.N) (l : Fin 1024) (f : Fin 704) :
    iblk m c 12 t (ix5 (0 : Fin 1) (0 : Fin 1) (0 : Fin 1) l f) = V m c main_v5 (ix5 (3 : Fin 4) (1 : Fin 2) (1 : Fin 2) l f) := by
  have e := (index0 t).2.2.1.2.2.2
  unfold iblk
  blk_ext [e]
  all_goals rfl

theorem iblk13 (c : Dev nD) (t : Fin cfg0.N) (l : Fin 704) (f : Fin 1024) :
    iblk m c 13 t (ix5 (0 : Fin 1) (0 : Fin 1) (0 : Fin 1) l f) = V m c main_v8 (ix5 (0 : Fin 4) (1 : Fin 2) (1 : Fin 2) l f) := by
  have e := (index0 t).2.2.2.1.1
  unfold iblk
  blk_ext [e]
  all_goals rfl

theorem iblk14 (c : Dev nD) (t : Fin cfg0.N) (l : Fin 704) (f : Fin 1024) :
    iblk m c 14 t (ix5 (0 : Fin 1) (0 : Fin 1) (0 : Fin 1) l f) = V m c main_v8 (ix5 (1 : Fin 4) (1 : Fin 2) (1 : Fin 2) l f) := by
  have e := (index0 t).2.2.2.1.2.1
  unfold iblk
  blk_ext [e]
  all_goals rfl

theorem iblk15 (c : Dev nD) (t : Fin cfg0.N) (l : Fin 704) (f : Fin 1024) :
    iblk m c 15 t (ix5 (0 : Fin 1) (0 : Fin 1) (0 : Fin 1) l f) = V m c main_v8 (ix5 (2 : Fin 4) (1 : Fin 2) (1 : Fin 2) l f) := by
  have e := (index0 t).2.2.2.1.2.2.1
  unfold iblk
  blk_ext [e]
  all_goals rfl

theorem iblk16 (c : Dev nD) (t : Fin cfg0.N) (l : Fin 704) (f : Fin 1024) :
    iblk m c 16 t (ix5 (0 : Fin 1) (0 : Fin 1) (0 : Fin 1) l f) = V m c main_v8 (ix5 (3 : Fin 4) (1 : Fin 2) (1 : Fin 2) l f) := by
  have e := (index0 t).2.2.2.1.2.2.2
  unfold iblk
  blk_ext [e]
  all_goals rfl

theorem V_v9 (c : Dev nD) (l : Fin 1024) : V m c main_v9 (ix2 (0 : Fin 1) l) = m ((c : Thread nD τ).loc main_arg1) (ix1 l) := by
  show StableHlo.after hostOps0 _ (Proc.devRef .tc main_v9) _ = _
  after_reads_at
  rfl
theorem V_v2 (c : Dev nD) (k : Fin 4) (l : Fin 1024) (f : Fin 704) : V m c main_v2 (ix5 k (1 : Fin 2) (1 : Fin 2) l f)
    = m ((c : Thread nD τ).loc main_arg5) (ix4 (1 : Fin 2) (1 : Fin 2) l ⟨k.val * 704 + f.val, by omega⟩) := by
  show StableHlo.after hostOps0 _ (Proc.devRef .tc main_v2) _ = _
  after_reads_at
  rfl
theorem V_v5 (c : Dev nD) (k : Fin 4) (l : Fin 1024) (f : Fin 704) : V m c main_v5 (ix5 k (1 : Fin 2) (1 : Fin 2) l f)
    = m ((c : Thread nD τ).loc main_arg6) (ix4 (1 : Fin 2) (1 : Fin 2) l ⟨k.val * 704 + f.val, by omega⟩) := by
  show StableHlo.after hostOps0 _ (Proc.devRef .tc main_v5) _ = _
  after_reads_at
  rfl
theorem V_v8 (c : Dev nD) (k : Fin 4) (f : Fin 704) (d : Fin 1024) : V m c main_v8 (ix5 k (1 : Fin 2) (1 : Fin 2) f d)
    = m ((c : Thread nD τ).loc main_arg7) (ix4 (1 : Fin 2) (1 : Fin 2) ⟨k.val * 704 + f.val, by omega⟩ d) := by
  show StableHlo.after hostOps0 _ (Proc.devRef .tc main_v8) _ = _
  after_reads_at
  rfl
theorem V_arg0 (c : Dev nD) : V m c main_arg0 = m ((c : Thread nD τ).loc main_arg0) := by
  show StableHlo.after hostOps0 _ (Proc.devRef .tc main_arg0) = _
  after_reads_at
theorem V_arg2 (c : Dev nD) : V m c main_arg2 = m ((c : Thread nD τ).loc main_arg2) := by
  show StableHlo.after hostOps0 _ (Proc.devRef .tc main_arg2) = _
  after_reads_at
theorem V_arg3 (c : Dev nD) : V m c main_arg3 = m ((c : Thread nD τ).loc main_arg3) := by
  show StableHlo.after hostOps0 _ (Proc.devRef .tc main_arg3) = _
  after_reads_at
theorem V_arg4 (c : Dev nD) : V m c main_arg4 = m ((c : Thread nD τ).loc main_arg4) := by
  show StableHlo.after hostOps0 _ (Proc.devRef .tc main_arg4) = _
  after_reads_at

theorem blkX (c : Dev nD) (t : Fin cfg0.N) (r : Fin 512) (t' : Fin 16384) (ht : t'.val = t.val * 512 + r.val) :
    (fun l : Fin 1024 => iblk m c 0 t (ix2 r l)) = fun l => m ((c : Thread nD τ).loc main_arg0) (ix2 t' l) :=
  funext fun l => (iblk0 m c t r l).trans ((congrFun (V_arg0 m c) _).trans
    (congrArg (fun t => m ((c : Thread nD τ).loc main_arg0) (ix2 t l)) (Fin.ext ht.symm)))

theorem blkH (c : Dev nD) (t : Fin cfg0.N) (r : Fin 512) (t' : Fin 16384) (ht : t'.val = t.val * 512 + r.val) :
    hR (iblk m c 0 t) (iblk m c 1 t) (iblk m c 2 t) (iblk m c 3 t) r = rowH (m ((c : Thread nD τ).loc main_arg0)) (m ((c : Thread nD τ).loc main_arg1)) (m ((c : Thread nD τ).loc main_arg2)) (m ((c : Thread nD τ).loc main_arg3)) t' := by
  have h1 : (fun l : Fin 1024 => iblk m c 1 t (ix2 (0 : Fin 1) l)) = fun l => m ((c : Thread nD τ).loc main_arg1) (ix1 l) :=
    funext fun l => (iblk1 m c t l).trans (V_v9 m c l)
  have h2 : (fun l : Fin 1024 => iblk m c 2 t (ix2 (0 : Fin 1) l)) = fun l => m ((c : Thread nD τ).loc main_arg3) (ix2 (0 : Fin 1) l) :=
    funext fun l => (iblk2 m c t l).trans (congrFun (V_arg3 m c) _)
  have h3 : (fun l : Fin 1024 => iblk m c 3 t (ix2 (0 : Fin 1) l)) = fun l => m ((c : Thread nD τ).loc main_arg2) (ix2 (0 : Fin 1) l) :=
    funext fun l => (iblk3 m c t l).trans (congrFun (V_arg2 m c) _)
  unfold hR rowH
  exact congr (congr (congr (congrArg hid (blkX m c t r t' ht)) h1) h2) h3

theorem blkG (c : Dev nD) (t : Fin cfg0.N) (k : Fin 4) (l : Fin 1024) (f : Fin 704) :
    (![iblk m c 5 t, iblk m c 6 t, iblk m c 7 t, iblk m c 8 t] : Fin 4 → Vec Ideal S1x1x1x1024x704 .bf16) k (ix5 0 0 0 l f)
      = wIn (inAt 1 1 (m ((c : Thread nD τ).loc main_arg5))) l ⟨k.val * 704 + f.val, by omega⟩ := by
  fin_cases k
  · exact (iblk5 m c t l f).trans (V_v2 m c 0 l f)
  · exact (iblk6 m c t l f).trans (V_v2 m c 1 l f)
  · exact (iblk7 m c t l f).trans (V_v2 m c 2 l f)
  · exact (iblk8 m c t l f).trans (V_v2 m c 3 l f)

theorem blkU (c : Dev nD) (t : Fin cfg0.N) (k : Fin 4) (l : Fin 1024) (f : Fin 704) :
    (![iblk m c 9 t, iblk m c 10 t, iblk m c 11 t, iblk m c 12 t] : Fin 4 → Vec Ideal S1x1x1x1024x704 .bf16) k (ix5 0 0 0 l f)
      = wIn (inAt 1 1 (m ((c : Thread nD τ).loc main_arg6))) l ⟨k.val * 704 + f.val, by omega⟩ := by
  fin_cases k
  · exact (iblk9 m c t l f).trans (V_v5 m c 0 l f)
  · exact (iblk10 m c t l f).trans (V_v5 m c 1 l f)
  · exact (iblk11 m c t l f).trans (V_v5 m c 2 l f)
  · exact (iblk12 m c t l f).trans (V_v5 m c 3 l f)

theorem blkW (c : Dev nD) (t : Fin cfg0.N) (k : Fin 4) (f : Fin 704) (d : Fin 1024) :
    (![iblk m c 13 t, iblk m c 14 t, iblk m c 15 t, iblk m c 16 t] : Fin 4 → Vec Ideal S1x1x1x704x1024 .bf16) k (ix5 0 0 0 f d)
      = wOut (outAt 1 1 (m ((c : Thread nD τ).loc main_arg7))) ⟨k.val * 704 + f.val, by omega⟩ d := by
  fin_cases k
  · exact (iblk13 m c t f d).trans (V_v8 m c 0 f d)
  · exact (iblk14 m c t f d).trans (V_v8 m c 1 f d)
  · exact (iblk15 m c t f d).trans (V_v8 m c 2 f d)
  · exact (iblk16 m c t f d).trans (V_v8 m c 3 f d)

theorem block17 (c : Dev nD) (t : Fin cfg0.N) (y : S512x1024.Idx) (i : S16384x1024.Idx) (h0 : (i 0).val = t.val * 512 + (y 0).val)
    (h1 : (i 1).val = (y 1).val) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = rowH (m ((c : Thread nD τ).loc main_arg0)) (m ((c : Thread nD τ).loc main_arg1)) (m ((c : Thread nD τ).loc main_arg2)) (m ((c : Thread nD τ).loc main_arg3)) (i 0) (i 1) := by
  refine (congrFun (out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y).trans ?_)
  rw [blkH m c t (y 0) (i 0) h0]
  exact congrArg _ (Fin.ext h1.symm)

/-- The saved hidden values. -/
theorem final17 (c : Dev nD) : (dats m 0 c).arrAt 17 cfg0.N = fun i : S16384x1024.Idx => rowH (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 17 _ (by decide +kernel) fun t hf y => ?_
  have e := (index0 t).2.2.2.2.1
  blk_simp [e]
  rw [after0_17]
  refine block17 m c t y ((win0_17.blk t).view.emb y) ?_ ?_
  · blk_simp [e]
  · blk_simp [e]

theorem block18 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (inAt 1 1 (m ((c : Thread nD τ).loc main_arg5))) (i 0) (i 1) (i 2) := by
  refine (congrFun (out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) y).trans ?_)
  unfold resUp
  rw [blkH m c t (y 1) (i 1) h1]
  exact congrArg _ (Fin.ext (by show (y 0).val * 704 + (y 2).val = (i 0).val * 704 + (i 2).val; rw [h0, h2]))

/-- The saved projection's values. -/
theorem final18 (c : Dev nD) : (dats m 0 c).arrAt 18 cfg0.N
    = fun i : S4x16384x704.Idx => resUp (m ((c : Thread nD τ).loc main_arg0)) (m ((c : Thread nD τ).loc main_arg1)) (m ((c : Thread nD τ).loc main_arg2)) (m ((c : Thread nD τ).loc main_arg3)) (inAt 1 1 (m ((c : Thread nD τ).loc main_arg5))) (i 0) (i 1) (i 2) := by
  refine (dats m 0 c).arrAt_eq_of_covers 18 _ (by decide +kernel) fun t hf y => ?_
  have e := (index0 t).2.2.2.2.2.1
  blk_simp [e]
  rw [after0_18]
  refine block18 m c t y ((win0_18.blk t).view.emb y) ?_ ?_ ?_
  · blk_simp [e]
  · blk_simp [e]
  · blk_simp [e]

theorem block19 (c : Dev nD) (t : Fin cfg0.N) (y : S4x512x704.Idx) (i : S4x16384x704.Idx) (h0 : (i 0).val = (y 0).val)
    (h1 : (i 1).val = t.val * 512 + (y 1).val) (h2 : (i 2).val = (y 2).val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resUp (m ((c : Thread nD τ).loc main_arg0)) (m ((c : Thread nD τ).loc main_arg1)) (m ((c : Thread nD τ).loc main_arg2)) (m ((c : Thread nD τ).loc main_arg3)) (inAt 1 1 (m ((c : Thread nD τ).loc main_arg6))) (i 0) (i 1) (i 2) := by
  refine (congrFun (out19_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkU m c t) y).trans ?_)
  unfold resUp
  rw [blkH m c t (y 1) (i 1) h1]
  exact congrArg _ (Fin.ext (by show (y 0).val * 704 + (y 2).val = (i 0).val * 704 + (i 2).val; rw [h0, h2]))

/-- The saved projection's values. -/
theorem final19 (c : Dev nD) : (dats m 0 c).arrAt 19 cfg0.N
    = fun i : S4x16384x704.Idx => resUp (m ((c : Thread nD τ).loc main_arg0)) (m ((c : Thread nD τ).loc main_arg1)) (m ((c : Thread nD τ).loc main_arg2)) (m ((c : Thread nD τ).loc main_arg3)) (inAt 1 1 (m ((c : Thread nD τ).loc main_arg6))) (i 0) (i 1) (i 2) := by
  refine (dats m 0 c).arrAt_eq_of_covers 19 _ (by decide +kernel) fun t hf y => ?_
  have e := (index0 t).2.2.2.2.2.2.1
  blk_simp [e]
  rw [after0_19]
  refine block19 m c t y ((win0_19.blk t).view.emb y) ?_ ?_ ?_
  · blk_simp [e]
  · blk_simp [e]
  · blk_simp [e]

theorem block20 (c : Dev nD) (t : Fin cfg0.N) (y : S512x1024.Idx) (i : S16384x1024.Idx) (h0 : (i 0).val = t.val * 512 + (y 0).val)
    (h1 : (i 1).val = (y 1).val) : out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resStep (m ((c : Thread nD τ).loc main_arg0)) (m ((c : Thread nD τ).loc main_arg1)) (m ((c : Thread nD τ).loc main_arg2)) (m ((c : Thread nD τ).loc main_arg3)) (m ((c : Thread nD τ).loc main_arg4)) (inAt 1 1 (m ((c : Thread nD τ).loc main_arg5))) (inAt 1 1 (m ((c : Thread nD τ).loc main_arg6))) (outAt 1 1 (m ((c : Thread nD τ).loc main_arg7))) (i 0) (i 1) := by
  refine (congrFun (out20_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_)
  unfold resStep resDown
  rw [blkH m c t (y 0) (i 0) h0, blkX m c t (y 0) (i 0) h0,
    show (fun l : Fin 1024 => iblk m c 4 t (ix2 (0 : Fin 1) l)) = fun l => m ((c : Thread nD τ).loc main_arg4) (ix2 (0 : Fin 1) l) from
      funext fun l => (iblk4 m c t l).trans (congrFun (V_arg4 m c) _)]
  exact congrArg _ (Fin.ext h1.symm)

/-- The half step's array. -/
theorem final20 (c : Dev nD) : (dats m 0 c).arrAt 20 cfg0.N
    = fun i : S16384x1024.Idx => resStep (m ((c : Thread nD τ).loc main_arg0)) (m ((c : Thread nD τ).loc main_arg1)) (m ((c : Thread nD τ).loc main_arg2)) (m ((c : Thread nD τ).loc main_arg3)) (m ((c : Thread nD τ).loc main_arg4)) (inAt 1 1 (m ((c : Thread nD τ).loc main_arg5))) (inAt 1 1 (m ((c : Thread nD τ).loc main_arg6))) (outAt 1 1 (m ((c : Thread nD τ).loc main_arg7))) (i 0) (i 1) := by
  refine (dats m 0 c).arrAt_eq_of_covers 20 _ (by decide +kernel) fun t hf y => ?_
  have e := (index0 t).2.2.2.2.2.2.2.1
  blk_simp [e]
  rw [after0_20]
  refine block20 m c t y ((win0_20.blk t).view.emb y) ?_ ?_
  · blk_simp [e]
  · blk_simp [e]

theorem block21 (c : Dev nD) (t : Fin cfg0.N) (y : S512x1024.Idx) (i : S16384x1024.Idx) (h0 : (i 0).val = t.val * 512 + (y 0).val)
    (h1 : (i 1).val = (y 1).val) : out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y
      = resDown (m ((c : Thread nD τ).loc main_arg0)) (m ((c : Thread nD τ).loc main_arg1)) (m ((c : Thread nD τ).loc main_arg2)) (m ((c : Thread nD τ).loc main_arg3)) (inAt 1 1 (m ((c : Thread nD τ).loc main_arg5))) (inAt 1 1 (m ((c : Thread nD τ).loc main_arg6))) (outAt 1 1 (m ((c : Thread nD τ).loc main_arg7))) (i 0) (i 1) := by
  refine (congrFun (out21_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ((Cert.Ffn.out21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) 0 (blkG m c t) (blkU m c t) (blkW m c t) y).trans ?_)
  unfold resDown
  rw [blkH m c t (y 0) (i 0) h0]
  exact congrArg _ (Fin.ext h1.symm)

/-- The block's array. -/
theorem final21 (c : Dev nD) : (dats m 0 c).arrAt 21 cfg0.N
    = fun i : S16384x1024.Idx => resDown (m ((c : Thread nD τ).loc main_arg0)) (m ((c : Thread nD τ).loc main_arg1)) (m ((c : Thread nD τ).loc main_arg2)) (m ((c : Thread nD τ).loc main_arg3)) (inAt 1 1 (m ((c : Thread nD τ).loc main_arg5))) (inAt 1 1 (m ((c : Thread nD τ).loc main_arg6))) (outAt 1 1 (m ((c : Thread nD τ).loc main_arg7))) (i 0) (i 1) := by
  refine (dats m 0 c).arrAt_eq_of_covers 21 _ (by decide +kernel) fun t hf y => ?_
  have e := (index0 t).2.2.2.2.2.2.2.2
  blk_simp [e]
  rw [after0_21]
  refine block21 m c t y ((win0_21.blk t).view.emb y) ?_ ?_
  · blk_simp [e]
  · blk_simp [e]

end Kernel

section Reference

open Cert.Reference10Ideal Cert.Reference10Ideal.Gen Cert.Reference10Ideal.Read
open Cert.Ffn (wIn wOut inAt outAt rowH resUp resDown resStep up act down step idx2)
open Idealize.ShloMosaic hiding ix1 ix2 ix3 ix4 ix5
open Idealize.ShloMosaic.ValueIdx Idealize.ShloMosaic.TcCoe Idealize.SL.Sem

variable (x0 : S16384x1024.Idx → EReal) (x1 : S1024.Idx → EReal) (x2 x3 x4 : S1x1024.Idx → EReal)
  (x5 x6 : S2x2x1024x2816.Idx → EReal) (x7 : S2x2x2816x1024.Idx → EReal)

theorem ref_hid (t : Fin 16384) (d : Fin 1024) : val_main_v22 (F := Ideal) x0 x1 x2 x3 (ix2 t d) = rowH x0 x1 x2 x3 t d := by
  exact Cert.Ffn.ref_hid x0 x1 x2 x3 t d

theorem ref_wIn5 (l : Fin 1024) (j : Fin 2816) : val_main_v1 (F := Ideal) x5 (ix2 l j) = wIn (inAt 1 1 x5) l j := by
  rw [val_main_v1_apply, val_main_v0_apply]
  unfold wIn inAt
  refine congrArg x5 (funext fun a => ?_)
  fin_cases a
  · rfl
  · rfl
  · exact Fin.ext (by show (l.val * 2816 + j.val) / 2816 % 1024 = l.val; omega)
  · exact Fin.ext (by show (l.val * 2816 + j.val) % 2816 = j.val; omega)

theorem ref_wIn6 (l : Fin 1024) (j : Fin 2816) : val_main_v3 (F := Ideal) x6 (ix2 l j) = wIn (inAt 1 1 x6) l j := ref_wIn5 x6 l j

theorem ref_wOut (j : Fin 2816) (d : Fin 1024) : val_main_v26 (F := Ideal) x7 (ix2 j d) = wOut (outAt 1 1 x7) j d := by
  rw [val_main_v26_apply, val_main_v25_apply]
  unfold wOut outAt
  refine congrArg x7 (funext fun a => ?_)
  fin_cases a
  · rfl
  · rfl
  · exact Fin.ext (by show (j.val * 1024 + d.val) / 1024 % 2816 = j.val; omega)
  · exact Fin.ext (by show (j.val * 1024 + d.val) % 1024 = d.val; omega)

theorem ref_g (t : Fin 16384) (j : Fin 2816) : val_main_v23 (F := Ideal) x0 x1 x2 x3 x5 (ix2 t j) = up (rowH x0 x1 x2 x3 t) (wIn (inAt 1 1 x5)) j := by
  rw [val_main_v23_apply]
  unfold up
  refine Finset.sum_congr rfl fun l _ => congrArg₂ (fun x y : EReal => x * y) ?_ ?_
  · refine (congrArg _ (?_ : _ = ix2 t l)).trans (ref_hid x0 x1 x2 x3 t l)
    funext a; fin_cases a <;> rfl
  · refine (congrArg _ (?_ : _ = ix2 l j)).trans (ref_wIn5 x5 l j)
    funext a; fin_cases a <;> rfl

theorem ref_u (t : Fin 16384) (j : Fin 2816) : val_main_v24 (F := Ideal) x0 x1 x2 x3 x6 (ix2 t j) = up (rowH x0 x1 x2 x3 t) (wIn (inAt 1 1 x6)) j :=
  ref_g x0 x1 x2 x3 x6 t j

theorem ref_act (t : Fin 16384) (j : Fin 2816) : val_main_v28 (F := Ideal) x0 x1 x2 x3 x5 x6 (ix2 t j)
    = act (up (rowH x0 x1 x2 x3 t) (wIn (inAt 1 1 x5)) j) (up (rowH x0 x1 x2 x3 t) (wIn (inAt 1 1 x6)) j) := by
  rw [val_main_v28_apply, val_main_v27_apply, val_main_call0_v5_apply, val_main_call0_v4_apply, val_main_call0_v3_apply,
    val_main_call0_v2_apply, val_main_call0_v1_apply, val_main_call0_v0_apply, val_main_call0_cst_apply, val_main_call0_cst_0_apply,
    ref_g, ref_u]
  unfold act
  rfl

theorem ref_down (t : Fin 16384) (d : Fin 1024) : val_main_v29 (F := Ideal) x0 x1 x2 x3 x5 x6 x7 (ix2 t d)
    = resDown x0 x1 x2 x3 (inAt 1 1 x5) (inAt 1 1 x6) (outAt 1 1 x7) t d := by
  rw [val_main_v29_apply]
  unfold resDown down
  refine Finset.sum_congr rfl fun j _ => congrArg₂ (fun x y : EReal => x * y) ?_ ?_
  · refine (congrArg _ (?_ : _ = ix2 t j)).trans (ref_act x0 x1 x2 x3 x5 x6 t j)
    funext a; fin_cases a <;> rfl
  · refine (congrArg _ (?_ : _ = ix2 j d)).trans (ref_wOut x7 j d)
    funext a; fin_cases a <;> rfl

theorem ref17 : val_main_v35 (F := Ideal) x0 x1 x2 x3 = fun i => rowH x0 x1 x2 x3 (i 0) (i 1) := by
  funext i
  rw [val_main_v35_apply]
  exact (congrArg _ (idx2 i)).trans (ref_hid x0 x1 x2 x3 (i 0) (i 1))

theorem ref18 : val_main_v38 (F := Ideal) x0 x1 x2 x3 x5 = fun i => resUp x0 x1 x2 x3 (inAt 1 1 x5) (i 0) (i 1) (i 2) := by
  funext i
  rw [val_main_v38_apply, val_main_v37_apply, val_main_v36_apply]
  unfold resUp
  refine (congrArg _ (?_ : _ = ix2 (i 1) _)).trans (ref_g x0 x1 x2 x3 x5 (i 1) _)
  have h0 : (i 0).val < 4 := (i 0).isLt
  have h1 : (i 1).val < 16384 := (i 1).isLt
  have h2 : (i 2).val < 704 := (i 2).isLt
  funext a
  fin_cases a
  · exact Fin.ext (by show (((i 1).val * 4 + (i 0).val) * 704 + (i 2).val) / 2816 = (i 1).val; omega)
  · exact Fin.ext (by show (((i 1).val * 4 + (i 0).val) * 704 + (i 2).val) % 2816 = (i 0).val * 704 + (i 2).val; omega)

theorem ref19 : val_main_v41 (F := Ideal) x0 x1 x2 x3 x6 = fun i => resUp x0 x1 x2 x3 (inAt 1 1 x6) (i 0) (i 1) (i 2) := ref18 x0 x1 x2 x3 x6

theorem ref21 : val_main_v42 (F := Ideal) x0 x1 x2 x3 x5 x6 x7 = fun i => resDown x0 x1 x2 x3 (inAt 1 1 x5) (inAt 1 1 x6) (outAt 1 1 x7) (i 0) (i 1) := by
  funext i
  rw [val_main_v42_apply]
  exact (congrArg _ (idx2 i)).trans (ref_down x0 x1 x2 x3 x5 x6 x7 (i 0) (i 1))

theorem ref20 : val_main_v34 (F := Ideal) x0 x1 x2 x3 x4 x5 x6 x7 = fun i => resStep x0 x1 x2 x3 x4 (inAt 1 1 x5) (inAt 1 1 x6) (outAt 1 1 x7) (i 0) (i 1) := by
  funext i
  rw [val_main_v34_apply, val_main_v33_apply, val_main_v32_apply, val_main_v31_apply]
  unfold resStep step
  refine congrArg₂ (fun x y : EReal => x + y) (congrArg x0 (idx2 i)) (congrArg₂ (fun x y : EReal => x * y) ?_ ((congrArg _ (idx2 i)).trans (ref_down x0 x1 x2 x3 x5 x6 x7 (i 0) (i 1))))
  rw [val_main_v30_apply, val_main_cst_3_apply]
  exact congrArg (fun a => _ * x4 a) (funext fun a => by fin_cases a <;> rfl)

end Reference

end Cert.Ffn10

end
-- ==== Proof.Dwd11.lean ====
/- The weight gradient of the down projection, the launch for layer 0, second half step: the strips' products are the first launch's (Proof/Dwd.lean); the block goes to
   this launch's own place in the array of all layers and half steps, and every other place is kept. -/
module

public import proofs.«01_k».proof.Proof.Dwd
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Dwd11

open Cert.Dwd (grad)

section Kernel

open Cert.Kernel11Ideal Cert.Kernel11Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- The block after a strip: the first launch's. -/
theorem pay_apply (g u : Vec Ideal S1x4096x704 .bf16) (a : Vec Ideal S704x1024 .f32) (y : Vec Ideal S4096x1024 .bf16)
    (i : S704x1024.Idx) : k0_pay2 g u a y i = a i + Cert.Dwd.strip g u y i := Cert.Dwd.pay_apply g u a y i

theorem zero_apply (i : S704x1024.Idx) : k0_pay1 (F := Ideal) i = 0 := Cert.Dwd.zero_apply i

theorem unread_whole (x : Vec Ideal S704x1024 .f32) (h : scM0_0.IsWhole) : View.read (Elt Ideal) (View.whole cc0_scratch0) (h.unread x) = x := by
  exact h.read_unread x

theorem carried (c : Dev nD) (t : Fin cfg0.N) (hr : t.val % 4 = 3) (i : S704x1024.Idx) :
    (outsAt0 m c t.val t.isLt).2 i = 0 + ∑ s : Fin 4, Cert.Dwd.strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩)
      (iblk m c 2 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => Cert.Dwd.strip (iblk m c 0 t) (iblk m c 1 t) (iblk m c 2 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, (win0_0.index t = ![t.val / 4, t.val % 4, 0] ∧ win0_1.index t = ![t.val / 4, t.val % 4, 0])
    ∧ win0_2.index t = ![t.val % 4, 0] ∧ win0_3.index t = ![t.val / 4, 0, 1, 0, 0] := by decide +kernel

theorem iblk0 (c : Dev nD) (t : Fin cfg0.N) (l : Fin 4096) (b : Fin 704) :
    iblk m c 0 t (ix3 (0 : Fin 1) l b) = V m c main_v0 (ix3 (⟨t.val / 4, by have := t.isLt; have : cfg0.N = 16 := N_0; omega⟩ : Fin 4) ⟨t.val % 4 * 4096 + l.val, by omega⟩ b) := by
  have e := (index0 t).1.1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).1.2
  unfold iblk
  blk_ext [e]

theorem iblk2 (c : Dev nD) (t : Fin cfg0.N) (l : Fin 4096) (a : Fin 1024) :
    iblk m c 2 t (ix2 l a) = V m c main_v2 (ix2 ⟨t.val % 4 * 4096 + l.val, by omega⟩ a) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg3) i := by
  show StableHlo.after hostOps0 _ (Proc.devRef .tc main_v2) i = _
  after_reads_at
theorem V_v3 (c : Dev nD) (i) : V m c main_v3 i = m ((c : Thread nD τ).loc main_arg0) i := by
  show StableHlo.after hostOps0 _ (Proc.devRef .tc main_v3) i = _
  after_reads_at
  rfl

/-- The gradient written into its place in the buffer of all layers and halves. -/
def into (x : S4x2x2x704x1024.Idx → EReal) (g u : S4x16384x704.Idx → EReal) (d : S16384x1024.Idx → EReal) :
    S4x2x2x704x1024.Idx → EReal :=
  fun i => if (i 1).val = 0 ∧ (i 2).val = 1 then grad g u d (i 0) (i 3) (i 4) else x i

theorem strips (c : Dev nD) (t : Fin cfg0.N) (hr : t.val % 4 = 3) (a : Fin 704) (b : Fin 1024) :
    (outsAt0 m c t.val t.isLt).2 (ix2 a b)
      = grad (m ((c : Thread nD τ).loc main_arg1)) (m ((c : Thread nD τ).loc main_arg2)) (m ((c : Thread nD τ).loc main_arg3))
          ⟨t.val / 4, by have := t.isLt; have : cfg0.N = 16 := N_0; omega⟩ a b := by
  rw [carried m c t hr, zero_add]
  unfold grad Cert.Dwd.strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y)
    (congrArg₂ Cert.Dwd.act ((iblk0 m c _ l a).trans ((V_v0 m c _).trans ?_)) ((iblk1 m c _ l a).trans ((V_v1 m c _).trans ?_)))
    ((iblk2 m c _ l b).trans ((V_v2 m c _).trans ?_))
  · simp only [e, e']
  · simp only [e, e']
  · simp only [e]

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 704 := (y 3).isLt
  have h4 : (y 4).val < 1024 := (y 4).isLt
  rw [Shape.rowMajor_val_two, Shape.rowMajor_val_five]
  show (y 3).val * 1024 + (y 4).val = ((((y 0).val * 1 + (y 1).val) * 1 + (y 2).val) * 704 + (y 3).val) * 1024 + (y 4).val
  omega

theorem final (c : Dev nD) : (dats m 0 c).arrAt 3 cfg0.N
    = into (m ((c : Thread nD τ).loc main_arg0)) (m ((c : Thread nD τ).loc main_arg1)) (m ((c : Thread nD τ).loc main_arg2)) (m ((c : Thread nD τ).loc main_arg3)) := by
  refine ((dats m 0 c).arrAt_eq_of_coversWhere 3
    (fun i => grad (m ((c : Thread nD τ).loc main_arg1)) (m ((c : Thread nD τ).loc main_arg2)) (m ((c : Thread nD τ).loc main_arg3)) (i 0) (i 3) (i 4))
    (P := fun i => (i 1).val = 0 ∧ (i 2).val = 1)
    (fun β => β 1 = 0 ∧ β 2 = 1) (by decide +kernel) (fun t hf y => ?_) (fun j => ?_)).trans (funext fun i => ?_)
  · have hr := (flush0_3 t).mp hf
    have e := (index0 t).2.2
    rw [after0_3]
    refine (out_c m c t hr _).trans ((strips m c t hr _ _).trans ?_)
    have g {j j' : Fin 4} {a a' : Fin 704} {b b' : Fin 1024} (x z v) (hj : j.val = j'.val) (ha : a.val = a'.val) (hb : b.val = b'.val) :
        grad x z v j a b = grad x z v j' a' b' := by rw [Fin.ext hj, Fin.ext ha, Fin.ext hb]
    refine g _ _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v3 m c i)

end Kernel

section Reference

open Cert.Reference11Ideal Cert.Reference11Ideal.Gen Cert.Reference11Ideal.Read
open Idealize.ShloMosaic hiding ix1 ix2 ix3 ix4 ix5
open Idealize.ShloMosaic.ValueIdx Idealize.ShloMosaic.TcCoe Idealize.SL.Sem

variable (x : S4x2x2x704x1024.Idx → EReal) (g u : S4x16384x704.Idx → EReal) (d : S16384x1024.Idx → EReal)

theorem ref_grad (i : S4x1x1x704x1024.Idx) : val_main_v6 (F := Ideal) g u d i = grad g u d (i 0) (i 3) (i 4) := by
  rw [val_main_v6_apply, val_main_v5_apply, val_main_v4_apply]
  unfold grad
  refine Finset.sum_congr rfl fun t _ => ?_
  rw [val_main_v2_apply, val_main_v1_apply, val_main_call0_v5_apply, val_main_call0_v4_apply, val_main_call0_v3_apply,
    val_main_call0_v2_apply, val_main_call0_v1_apply, val_main_call0_v0_apply, val_main_call0_cst_apply, val_main_call0_cst_0_apply, mul_comm]
  refine congrArg₂ (fun x y : EReal => x * y) ?_ (congrArg d ?_)
  · have e : ridx_main_v4 (idx_main_v5 (idx_main_v6 i)) t = ix3 (i 0) t (i 3) := by funext a; fin_cases a <;> rfl
    rw [e]
    unfold Cert.Dwd.act
    rw [← Ideal.ofBits_one_f32]
    rfl
  · funext a; fin_cases a <;> rfl

theorem ref_into : val_main_v7 (F := Ideal) x g u d = into x g u d := by
  funext i
  unfold val_main_v7
  refine (congrFun (Host.dynamicUpdateSlice_eq_updateSlice x (val_main_v6 (F := Ideal) g u d) _ _ ![0, 0, 1, 0, 0]
    (fun a => by fin_cases a <;> rfl) ⟨rfl, by decide⟩) i).trans ?_
  unfold updateSlice into
  have h0 : (i 0).val < 4 := (i 0).isLt
  have h3 : (i 3).val < 704 := (i 3).isLt
  have h4 : (i 4).val < 1024 := (i 4).isLt
  by_cases hi : (i 1).val = 0 ∧ (i 2).val = 1
  · rw [if_pos hi, dif_pos (fun a => by
      fin_cases a
      · exact ⟨Nat.zero_le _, by show (i 0).val < 0 + 4; omega⟩
      · exact ⟨by show 0 ≤ (i 1).val; omega, by show (i 1).val < 0 + 1; omega⟩
      · exact ⟨by show 1 ≤ (i 2).val; omega, by show (i 2).val < 1 + 1; omega⟩
      · exact ⟨Nat.zero_le _, by show (i 3).val < 0 + 704; omega⟩
      · exact ⟨Nat.zero_le _, by show (i 4).val < 0 + 1024; omega⟩)]
    exact ref_grad g u d _
  · rw [if_neg hi, dif_neg]
    intro hin
    have a1 : (i 1).val < 0 + 1 := (hin 1).2
    have a2 : (i 2).val < 1 + 1 := (hin 2).2
    have b1 : 0 ≤ (i 1).val := (hin 1).1
    have b2 : 1 ≤ (i 2).val := (hin 2).1
    omega

end Reference

end Cert.Dwd11

end
-- ==== Proof.Dwd12.lean ====
/- The weight gradient of the down projection, the launch for layer 1, first half step: the strips' products are the first launch's (Proof/Dwd.lean); the block goes to
   this launch's own place in the array of all layers and half steps, and every other place is kept. -/
module

public import proofs.«01_k».proof.Proof.Dwd
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Dwd12

open Cert.Dwd (grad)

section Kernel

open Cert.Kernel12Ideal Cert.Kernel12Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- The block after a strip: the first launch's. -/
theorem pay_apply (g u : Vec Ideal S1x4096x704 .bf16) (a : Vec Ideal S704x1024 .f32) (y : Vec Ideal S4096x1024 .bf16)
    (i : S704x1024.Idx) : k0_pay2 g u a y i = a i + Cert.Dwd.strip g u y i := Cert.Dwd.pay_apply g u a y i

theorem zero_apply (i : S704x1024.Idx) : k0_pay1 (F := Ideal) i = 0 := Cert.Dwd.zero_apply i

theorem unread_whole (x : Vec Ideal S704x1024 .f32) (h : scM0_0.IsWhole) : View.read (Elt Ideal) (View.whole cc0_scratch0) (h.unread x) = x := by
  exact h.read_unread x

theorem carried (c : Dev nD) (t : Fin cfg0.N) (hr : t.val % 4 = 3) (i : S704x1024.Idx) :
    (outsAt0 m c t.val t.isLt).2 i = 0 + ∑ s : Fin 4, Cert.Dwd.strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩)
      (iblk m c 2 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => Cert.Dwd.strip (iblk m c 0 t) (iblk m c 1 t) (iblk m c 2 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, (win0_0.index t = ![t.val / 4, t.val % 4, 0] ∧ win0_1.index t = ![t.val / 4, t.val % 4, 0])
    ∧ win0_2.index t = ![t.val % 4, 0] ∧ win0_3.index t = ![t.val / 4, 1, 0, 0, 0] := by decide +kernel

theorem iblk0 (c : Dev nD) (t : Fin cfg0.N) (l : Fin 4096) (b : Fin 704) :
    iblk m c 0 t (ix3 (0 : Fin 1) l b) = V m c main_v0 (ix3 (⟨t.val / 4, by have := t.isLt; have : cfg0.N = 16 := N_0; omega⟩ : Fin 4) ⟨t.val % 4 * 4096 + l.val, by omega⟩ b) := by
  have e := (index0 t).1.1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).1.2
  unfold iblk
  blk_ext [e]

theorem iblk2 (c : Dev nD) (t : Fin cfg0.N) (l : Fin 4096) (a : Fin 1024) :
    iblk m c 2 t (ix2 l a) = V m c main_v2 (ix2 ⟨t.val % 4 * 4096 + l.val, by omega⟩ a) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg3) i := by
  show StableHlo.after hostOps0 _ (Proc.devRef .tc main_v2) i = _
  after_reads_at
theorem V_v3 (c : Dev nD) (i) : V m c main_v3 i = m ((c : Thread nD τ).loc main_arg0) i := by
  show StableHlo.after hostOps0 _ (Proc.devRef .tc main_v3) i = _
  after_reads_at
  rfl

/-- The gradient written into its place in the buffer of all layers and halves. -/
def into (x : S4x2x2x704x1024.Idx → EReal) (g u : S4x16384x704.Idx → EReal) (d : S16384x1024.Idx → EReal) :
    S4x2x2x704x1024.Idx → EReal :=
  fun i => if (i 1).val = 1 ∧ (i 2).val = 0 then grad g u d (i 0) (i 3) (i 4) else x i

theorem strips (c : Dev nD) (t : Fin cfg0.N) (hr : t.val % 4 = 3) (a : Fin 704) (b : Fin 1024) :
    (outsAt0 m c t.val t.isLt).2 (ix2 a b)
      = grad (m ((c : Thread nD τ).loc main_arg1)) (m ((c : Thread nD τ).loc main_arg2)) (m ((c : Thread nD τ).loc main_arg3))
          ⟨t.val / 4, by have := t.isLt; have : cfg0.N = 16 := N_0; omega⟩ a b := by
  rw [carried m c t hr, zero_add]
  unfold grad Cert.Dwd.strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y)
    (congrArg₂ Cert.Dwd.act ((iblk0 m c _ l a).trans ((V_v0 m c _).trans ?_)) ((iblk1 m c _ l a).trans ((V_v1 m c _).trans ?_)))
    ((iblk2 m c _ l b).trans ((V_v2 m c _).trans ?_))
  · simp only [e, e']
  · simp only [e, e']
  · simp only [e]

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 704 := (y 3).isLt
  have h4 : (y 4).val < 1024 := (y 4).isLt
  rw [Shape.rowMajor_val_two, Shape.rowMajor_val_five]
  show (y 3).val * 1024 + (y 4).val = ((((y 0).val * 1 + (y 1).val) * 1 + (y 2).val) * 704 + (y 3).val) * 1024 + (y 4).val
  omega

theorem final (c : Dev nD) : (dats m 0 c).arrAt 3 cfg0.N
    = into (m ((c : Thread nD τ).loc main_arg0)) (m ((c : Thread nD τ).loc main_arg1)) (m ((c : Thread nD τ).loc main_arg2)) (m ((c : Thread nD τ).loc main_arg3)) := by
  refine ((dats m 0 c).arrAt_eq_of_coversWhere 3
    (fun i => grad (m ((c : Thread nD τ).loc main_arg1)) (m ((c : Thread nD τ).loc main_arg2)) (m ((c : Thread nD τ).loc main_arg3)) (i 0) (i 3) (i 4))
    (P := fun i => (i 1).val = 1 ∧ (i 2).val = 0)
    (fun β => β 1 = 1 ∧ β 2 = 0) (by decide +kernel) (fun t hf y => ?_) (fun j => ?_)).trans (funext fun i => ?_)
  · have hr := (flush0_3 t).mp hf
    have e := (index0 t).2.2
    rw [after0_3]
    refine (out_c m c t hr _).trans ((strips m c t hr _ _).trans ?_)
    have g {j j' : Fin 4} {a a' : Fin 704} {b b' : Fin 1024} (x z v) (hj : j.val = j'.val) (ha : a.val = a'.val) (hb : b.val = b'.val) :
        grad x z v j a b = grad x z v j' a' b' := by rw [Fin.ext hj, Fin.ext ha, Fin.ext hb]
    refine g _ _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v3 m c i)

end Kernel

section Reference

open Cert.Reference12Ideal Cert.Reference12Ideal.Gen Cert.Reference12Ideal.Read
open Idealize.ShloMosaic hiding ix1 ix2 ix3 ix4 ix5
open Idealize.ShloMosaic.ValueIdx Idealize.ShloMosaic.TcCoe Idealize.SL.Sem

variable (x : S4x2x2x704x1024.Idx → EReal) (g u : S4x16384x704.Idx → EReal) (d : S16384x1024.Idx → EReal)

theorem ref_grad (i : S4x1x1x704x1024.Idx) : val_main_v6 (F := Ideal) g u d i = grad g u d (i 0) (i 3) (i 4) := by
  rw [val_main_v6_apply, val_main_v5_apply, val_main_v4_apply]
  unfold grad
  refine Finset.sum_congr rfl fun t _ => ?_
  rw [val_main_v2_apply, val_main_v1_apply, val_main_call0_v5_apply, val_main_call0_v4_apply, val_main_call0_v3_apply,
    val_main_call0_v2_apply, val_main_call0_v1_apply, val_main_call0_v0_apply, val_main_call0_cst_apply, val_main_call0_cst_0_apply, mul_comm]
  refine congrArg₂ (fun x y : EReal => x * y) ?_ (congrArg d ?_)
  · have e : ridx_main_v4 (idx_main_v5 (idx_main_v6 i)) t = ix3 (i 0) t (i 3) := by funext a; fin_cases a <;> rfl
    rw [e]
    unfold Cert.Dwd.act
    rw [← Ideal.ofBits_one_f32]
    rfl
  · funext a; fin_cases a <;> rfl

theorem ref_into : val_main_v7 (F := Ideal) x g u d = into x g u d := by
  funext i
  unfold val_main_v7
  refine (congrFun (Host.dynamicUpdateSlice_eq_updateSlice x (val_main_v6 (F := Ideal) g u d) _ _ ![0, 1, 0, 0, 0]
    (fun a => by fin_cases a <;> rfl) ⟨rfl, by decide⟩) i).trans ?_
  unfold updateSlice into
  have h0 : (i 0).val < 4 := (i 0).isLt
  have h3 : (i 3).val < 704 := (i 3).isLt
  have h4 : (i 4).val < 1024 := (i 4).isLt
  by_cases hi : (i 1).val = 1 ∧ (i 2).val = 0
  · rw [if_pos hi, dif_pos (fun a => by
      fin_cases a
      · exact ⟨Nat.zero_le _, by show (i 0).val < 0 + 4; omega⟩
      · exact ⟨by show 1 ≤ (i 1).val; omega, by show (i 1).val < 1 + 1; omega⟩
      · exact ⟨by show 0 ≤ (i 2).val; omega, by show (i 2).val < 0 + 1; omega⟩
      · exact ⟨Nat.zero_le _, by show (i 3).val < 0 + 704; omega⟩
      · exact ⟨Nat.zero_le _, by show (i 4).val < 0 + 1024; omega⟩)]
    exact ref_grad g u d _
  · rw [if_neg hi, dif_neg]
    intro hin
    have a1 : (i 1).val < 1 + 1 := (hin 1).2
    have a2 : (i 2).val < 0 + 1 := (hin 2).2
    have b1 : 1 ≤ (i 1).val := (hin 1).1
    have b2 : 0 ≤ (i 2).val := (hin 2).1
    omega

end Reference

end Cert.Dwd12

end
-- ==== Proof.Dwd13.lean ====
/- The weight gradient of the down projection, the launch for layer 1, second half step: the strips' products are the first launch's (Proof/Dwd.lean); the block goes to
   this launch's own place in the array of all layers and half steps, and every other place is kept. -/
module

public import proofs.«01_k».proof.Proof.Dwd
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Dwd13

open Cert.Dwd (grad)

section Kernel

open Cert.Kernel13Ideal Cert.Kernel13Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- The block after a strip: the first launch's. -/
theorem pay_apply (g u : Vec Ideal S1x4096x704 .bf16) (a : Vec Ideal S704x1024 .f32) (y : Vec Ideal S4096x1024 .bf16)
    (i : S704x1024.Idx) : k0_pay2 g u a y i = a i + Cert.Dwd.strip g u y i := Cert.Dwd.pay_apply g u a y i

theorem zero_apply (i : S704x1024.Idx) : k0_pay1 (F := Ideal) i = 0 := Cert.Dwd.zero_apply i

theorem unread_whole (x : Vec Ideal S704x1024 .f32) (h : scM0_0.IsWhole) : View.read (Elt Ideal) (View.whole cc0_scratch0) (h.unread x) = x := by
  exact h.read_unread x

theorem carried (c : Dev nD) (t : Fin cfg0.N) (hr : t.val % 4 = 3) (i : S704x1024.Idx) :
    (outsAt0 m c t.val t.isLt).2 i = 0 + ∑ s : Fin 4, Cert.Dwd.strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩)
      (iblk m c 2 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => Cert.Dwd.strip (iblk m c 0 t) (iblk m c 1 t) (iblk m c 2 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, (win0_0.index t = ![t.val / 4, t.val % 4, 0] ∧ win0_1.index t = ![t.val / 4, t.val % 4, 0])
    ∧ win0_2.index t = ![t.val % 4, 0] ∧ win0_3.index t = ![t.val / 4, 1, 1, 0, 0] := by decide +kernel

theorem iblk0 (c : Dev nD) (t : Fin cfg0.N) (l : Fin 4096) (b : Fin 704) :
    iblk m c 0 t (ix3 (0 : Fin 1) l b) = V m c main_v0 (ix3 (⟨t.val / 4, by have := t.isLt; have : cfg0.N = 16 := N_0; omega⟩ : Fin 4) ⟨t.val % 4 * 4096 + l.val, by omega⟩ b) := by
  have e := (index0 t).1.1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).1.2
  unfold iblk
  blk_ext [e]

theorem iblk2 (c : Dev nD) (t : Fin cfg0.N) (l : Fin 4096) (a : Fin 1024) :
    iblk m c 2 t (ix2 l a) = V m c main_v2 (ix2 ⟨t.val % 4 * 4096 + l.val, by omega⟩ a) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg3) i := by
  show StableHlo.after hostOps0 _ (Proc.devRef .tc main_v2) i = _
  after_reads_at
theorem V_v3 (c : Dev nD) (i) : V m c main_v3 i = m ((c : Thread nD τ).loc main_arg0) i := by
  show StableHlo.after hostOps0 _ (Proc.devRef .tc main_v3) i = _
  after_reads_at
  rfl

/-- The gradient written into its place in the buffer of all layers and halves. -/
def into (x : S4x2x2x704x1024.Idx → EReal) (g u : S4x16384x704.Idx → EReal) (d : S16384x1024.Idx → EReal) :
    S4x2x2x704x1024.Idx → EReal :=
  fun i => if (i 1).val = 1 ∧ (i 2).val = 1 then grad g u d (i 0) (i 3) (i 4) else x i

theorem strips (c : Dev nD) (t : Fin cfg0.N) (hr : t.val % 4 = 3) (a : Fin 704) (b : Fin 1024) :
    (outsAt0 m c t.val t.isLt).2 (ix2 a b)
      = grad (m ((c : Thread nD τ).loc main_arg1)) (m ((c : Thread nD τ).loc main_arg2)) (m ((c : Thread nD τ).loc main_arg3))
          ⟨t.val / 4, by have := t.isLt; have : cfg0.N = 16 := N_0; omega⟩ a b := by
  rw [carried m c t hr, zero_add]
  unfold grad Cert.Dwd.strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y)
    (congrArg₂ Cert.Dwd.act ((iblk0 m c _ l a).trans ((V_v0 m c _).trans ?_)) ((iblk1 m c _ l a).trans ((V_v1 m c _).trans ?_)))
    ((iblk2 m c _ l b).trans ((V_v2 m c _).trans ?_))
  · simp only [e, e']
  · simp only [e, e']
  · simp only [e]

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 704 := (y 3).isLt
  have h4 : (y 4).val < 1024 := (y 4).isLt
  rw [Shape.rowMajor_val_two, Shape.rowMajor_val_five]
  show (y 3).val * 1024 + (y 4).val = ((((y 0).val * 1 + (y 1).val) * 1 + (y 2).val) * 704 + (y 3).val) * 1024 + (y 4).val
  omega

theorem final (c : Dev nD) : (dats m 0 c).arrAt 3 cfg0.N
    = into (m ((c : Thread nD τ).loc main_arg0)) (m ((c : Thread nD τ).loc main_arg1)) (m ((c : Thread nD τ).loc main_arg2)) (m ((c : Thread nD τ).loc main_arg3)) := by
  refine ((dats m 0 c).arrAt_eq_of_coversWhere 3
    (fun i => grad (m ((c : Thread nD τ).loc main_arg1)) (m ((c : Thread nD τ).loc main_arg2)) (m ((c : Thread nD τ).loc main_arg3)) (i 0) (i 3) (i 4))
    (P := fun i => (i 1).val = 1 ∧ (i 2).val = 1)
    (fun β => β 1 = 1 ∧ β 2 = 1) (by decide +kernel) (fun t hf y => ?_) (fun j => ?_)).trans (funext fun i => ?_)
  · have hr := (flush0_3 t).mp hf
    have e := (index0 t).2.2
    rw [after0_3]
    refine (out_c m c t hr _).trans ((strips m c t hr _ _).trans ?_)
    have g {j j' : Fin 4} {a a' : Fin 704} {b b' : Fin 1024} (x z v) (hj : j.val = j'.val) (ha : a.val = a'.val) (hb : b.val = b'.val) :
        grad x z v j a b = grad x z v j' a' b' := by rw [Fin.ext hj, Fin.ext ha, Fin.ext hb]
    refine g _ _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v3 m c i)

end Kernel

section Reference

open Cert.Reference13Ideal Cert.Reference13Ideal.Gen Cert.Reference13Ideal.Read
open Idealize.ShloMosaic hiding ix1 ix2 ix3 ix4 ix5
open Idealize.ShloMosaic.ValueIdx Idealize.ShloMosaic.TcCoe Idealize.SL.Sem

variable (x : S4x2x2x704x1024.Idx → EReal) (g u : S4x16384x704.Idx → EReal) (d : S16384x1024.Idx → EReal)

theorem ref_grad (i : S4x1x1x704x1024.Idx) : val_main_v6 (F := Ideal) g u d i = grad g u d (i 0) (i 3) (i 4) := by
  rw [val_main_v6_apply, val_main_v5_apply, val_main_v4_apply]
  unfold grad
  refine Finset.sum_congr rfl fun t _ => ?_
  rw [val_main_v2_apply, val_main_v1_apply, val_main_call0_v5_apply, val_main_call0_v4_apply, val_main_call0_v3_apply,
    val_main_call0_v2_apply, val_main_call0_v1_apply, val_main_call0_v0_apply, val_main_call0_cst_apply, val_main_call0_cst_0_apply, mul_comm]
  refine congrArg₂ (fun x y : EReal => x * y) ?_ (congrArg d ?_)
  · have e : ridx_main_v4 (idx_main_v5 (idx_main_v6 i)) t = ix3 (i 0) t (i 3) := by funext a; fin_cases a <;> rfl
    rw [e]
    unfold Cert.Dwd.act
    rw [← Ideal.ofBits_one_f32]
    rfl
  · funext a; fin_cases a <;> rfl

theorem ref_into : val_main_v7 (F := Ideal) x g u d = into x g u d := by
  funext i
  unfold val_main_v7
  refine (congrFun (Host.dynamicUpdateSlice_eq_updateSlice x (val_main_v6 (F := Ideal) g u d) _ _ ![0, 1, 1, 0, 0]
    (fun a => by fin_cases a <;> rfl) ⟨rfl, by decide⟩) i).trans ?_
  unfold updateSlice into
  have h0 : (i 0).val < 4 := (i 0).isLt
  have h3 : (i 3).val < 704 := (i 3).isLt
  have h4 : (i 4).val < 1024 := (i 4).isLt
  by_cases hi : (i 1).val = 1 ∧ (i 2).val = 1
  · rw [if_pos hi, dif_pos (fun a => by
      fin_cases a
      · exact ⟨Nat.zero_le _, by show (i 0).val < 0 + 4; omega⟩
      · exact ⟨by show 1 ≤ (i 1).val; omega, by show (i 1).val < 1 + 1; omega⟩
      · exact ⟨by show 1 ≤ (i 2).val; omega, by show (i 2).val < 1 + 1; omega⟩
      · exact ⟨Nat.zero_le _, by show (i 3).val < 0 + 704; omega⟩
      · exact ⟨Nat.zero_le _, by show (i 4).val < 0 + 1024; omega⟩)]
    exact ref_grad g u d _
  · rw [if_neg hi, dif_neg]
    intro hin
    have a1 : (i 1).val < 1 + 1 := (hin 1).2
    have a2 : (i 2).val < 1 + 1 := (hin 2).2
    have b1 : 1 ≤ (i 1).val := (hin 1).1
    have b2 : 1 ≤ (i 2).val := (hin 2).1
    omega

end Reference

end Cert.Dwd13

end
-- ==== Proof.Dwg14.lean ====
/- The weight gradient of the gate (or up) projection, the launch for layer 0, second half step: the strips' products are the first launch's (Proof/Dwg.lean); the block goes to
   this launch's own place in the array of all layers and half steps, and every other place is kept. -/
module

public import proofs.«01_k».proof.Proof.Dwg
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Dwg14

open Cert.Dwg (grad)

section Kernel

open Cert.Kernel14Ideal Cert.Kernel14Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- The block after a strip: the first launch's. -/
theorem pay_apply (x : Vec Ideal S4096x1024 .bf16) (a : Vec Ideal S1024x704 .f32) (y : Vec Ideal S1x4096x704 .bf16)
    (i : S1024x704.Idx) : k0_pay2 x a y i = a i + Cert.Dwg.strip x y i := Cert.Dwg.pay_apply x a y i

theorem zero_apply (i : S1024x704.Idx) : k0_pay1 (F := Ideal) i = 0 := Cert.Dwg.zero_apply i

theorem unread_whole (x : Vec Ideal S1024x704 .f32) (h : scM0_0.IsWhole) : View.read (Elt Ideal) (View.whole cc0_scratch0) (h.unread x) = x := by
  exact h.read_unread x

theorem carried (c : Dev nD) (t : Fin cfg0.N) (hr : t.val % 4 = 3) (i : S1024x704.Idx) :
    (outsAt0 m c t.val t.isLt).2 i = 0 + ∑ s : Fin 4, Cert.Dwg.strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => Cert.Dwg.strip (iblk m c 0 t) (iblk m c 1 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, win0_0.index t = ![t.val % 4, 0] ∧ win0_1.index t = ![t.val / 4, t.val % 4, 0]
    ∧ win0_2.index t = ![t.val / 4, 0, 1, 0, 0] := by decide +kernel

theorem iblk0 (c : Dev nD) (t : Fin cfg0.N) (l : Fin 4096) (a : Fin 1024) :
    iblk m c 0 t (ix2 l a) = V m c main_v0 (ix2 ⟨t.val % 4 * 4096 + l.val, by omega⟩ a) := by
  have e := (index0 t).1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg0) i := by
  show StableHlo.after hostOps0 _ (Proc.devRef .tc main_v2) i = _
  after_reads_at
  rfl
/-- The gradient written into its place in the buffer of all layers and halves. -/
def into (x : S4x2x2x1024x704.Idx → EReal) (h : S16384x1024.Idx → EReal) (d : S4x16384x704.Idx → EReal) :
    S4x2x2x1024x704.Idx → EReal :=
  fun i => if (i 1).val = 0 ∧ (i 2).val = 1 then grad h d (i 0) (i 3) (i 4) else x i

theorem strips (c : Dev nD) (t : Fin cfg0.N) (hr : t.val % 4 = 3) (a : Fin 1024) (b : Fin 704) :
    (outsAt0 m c t.val t.isLt).2 (ix2 a b)
      = grad (m ((c : Thread nD τ).loc main_arg1)) (m ((c : Thread nD τ).loc main_arg2))
          ⟨t.val / 4, by have := t.isLt; have : cfg0.N = 16 := N_0; omega⟩ a b := by
  rw [carried m c t hr, zero_add]
  unfold grad Cert.Dwg.strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y) ((iblk0 m c _ l a).trans ((V_v0 m c _).trans ?_))
    ((iblk1 m c _ l b).trans ((V_v1 m c _).trans ?_))
  · simp only [e]
  · simp only [e, e']

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 1024 := (y 3).isLt
  have h4 : (y 4).val < 704 := (y 4).isLt
  rw [Shape.rowMajor_val_two, Shape.rowMajor_val_five]
  show (y 3).val * 704 + (y 4).val = ((((y 0).val * 1 + (y 1).val) * 1 + (y 2).val) * 1024 + (y 3).val) * 704 + (y 4).val
  omega

theorem final (c : Dev nD) : (dats m 0 c).arrAt 2 cfg0.N
    = into (m ((c : Thread nD τ).loc main_arg0)) (m ((c : Thread nD τ).loc main_arg1)) (m ((c : Thread nD τ).loc main_arg2)) := by
  refine ((dats m 0 c).arrAt_eq_of_coversWhere 2
    (fun i => grad (m ((c : Thread nD τ).loc main_arg1)) (m ((c : Thread nD τ).loc main_arg2)) (i 0) (i 3) (i 4))
    (P := fun i => (i 1).val = 0 ∧ (i 2).val = 1)
    (fun β => β 1 = 0 ∧ β 2 = 1) (by decide +kernel) (fun t hf y => ?_) (fun j => ?_)).trans (funext fun i => ?_)
  · have hr := (flush0_2 t).mp hf
    have e := (index0 t).2.2
    rw [after0_2]
    refine (out_c m c t hr _).trans ((strips m c t hr _ _).trans ?_)
    have g {j j' : Fin 4} {a a' : Fin 1024} {b b' : Fin 704} (x z) (hj : j.val = j'.val) (ha : a.val = a'.val) (hb : b.val = b'.val) :
        grad x z j a b = grad x z j' a' b' := by rw [Fin.ext hj, Fin.ext ha, Fin.ext hb]
    refine g _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v2 m c i)

end Kernel

section Reference

open Cert.Reference14Ideal Cert.Reference14Ideal.Gen Cert.Reference14Ideal.Read
open Idealize.ShloMosaic hiding ix1 ix2 ix3 ix4 ix5
open Idealize.ShloMosaic.ValueIdx Idealize.ShloMosaic.TcCoe Idealize.SL.Sem

variable (x : S4x2x2x1024x704.Idx → EReal) (h : S16384x1024.Idx → EReal) (d : S4x16384x704.Idx → EReal)

theorem ref_grad (i : S4x1x1x1024x704.Idx) : val_main_v6 (F := Ideal) h d i = grad h d (i 0) (i 3) (i 4) := by
  rw [val_main_v6_apply, val_main_v5_apply, val_main_v4_apply]
  unfold grad
  refine Finset.sum_congr rfl fun t _ => ?_
  rw [val_main_v3_apply, mul_comm]
  refine congrArg₂ (fun x y : EReal => x * y) (congrArg h ?_) (congrArg d ?_)
  · funext a; fin_cases a <;> rfl
  · funext a; fin_cases a <;> rfl

theorem ref_into : val_main_v7 (F := Ideal) x h d = into x h d := by
  funext i
  unfold val_main_v7
  refine (congrFun (Host.dynamicUpdateSlice_eq_updateSlice x (val_main_v6 (F := Ideal) h d) _ _ ![0, 0, 1, 0, 0]
    (fun a => by fin_cases a <;> rfl) ⟨rfl, by decide⟩) i).trans ?_
  unfold updateSlice into
  have h0 : (i 0).val < 4 := (i 0).isLt
  have h3 : (i 3).val < 1024 := (i 3).isLt
  have h4 : (i 4).val < 704 := (i 4).isLt
  by_cases hi : (i 1).val = 0 ∧ (i 2).val = 1
  · rw [if_pos hi, dif_pos (fun a => by
      fin_cases a
      · exact ⟨Nat.zero_le _, by show (i 0).val < 0 + 4; omega⟩
      · exact ⟨by show 0 ≤ (i 1).val; omega, by show (i 1).val < 0 + 1; omega⟩
      · exact ⟨by show 1 ≤ (i 2).val; omega, by show (i 2).val < 1 + 1; omega⟩
      · exact ⟨Nat.zero_le _, by show (i 3).val < 0 + 1024; omega⟩
      · exact ⟨Nat.zero_le _, by show (i 4).val < 0 + 704; omega⟩)]
    exact ref_grad h d _
  · rw [if_neg hi, dif_neg]
    intro hin
    have a1 : (i 1).val < 0 + 1 := (hin 1).2
    have a2 : (i 2).val < 1 + 1 := (hin 2).2
    have b1 : 0 ≤ (i 1).val := (hin 1).1
    have b2 : 1 ≤ (i 2).val := (hin 2).1
    omega

end Reference

end Cert.Dwg14

end
-- ==== Proof.Dwg15.lean ====
/- The weight gradient of the gate (or up) projection, the launch for layer 1, first half step: the strips' products are the first launch's (Proof/Dwg.lean); the block goes to
   this launch's own place in the array of all layers and half steps, and every other place is kept. -/
module

public import proofs.«01_k».proof.Proof.Dwg
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Dwg15

open Cert.Dwg (grad)

section Kernel

open Cert.Kernel15Ideal Cert.Kernel15Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- The block after a strip: the first launch's. -/
theorem pay_apply (x : Vec Ideal S4096x1024 .bf16) (a : Vec Ideal S1024x704 .f32) (y : Vec Ideal S1x4096x704 .bf16)
    (i : S1024x704.Idx) : k0_pay2 x a y i = a i + Cert.Dwg.strip x y i := Cert.Dwg.pay_apply x a y i

theorem zero_apply (i : S1024x704.Idx) : k0_pay1 (F := Ideal) i = 0 := Cert.Dwg.zero_apply i

theorem unread_whole (x : Vec Ideal S1024x704 .f32) (h : scM0_0.IsWhole) : View.read (Elt Ideal) (View.whole cc0_scratch0) (h.unread x) = x := by
  exact h.read_unread x

theorem carried (c : Dev nD) (t : Fin cfg0.N) (hr : t.val % 4 = 3) (i : S1024x704.Idx) :
    (outsAt0 m c t.val t.isLt).2 i = 0 + ∑ s : Fin 4, Cert.Dwg.strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => Cert.Dwg.strip (iblk m c 0 t) (iblk m c 1 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, win0_0.index t = ![t.val % 4, 0] ∧ win0_1.index t = ![t.val / 4, t.val % 4, 0]
    ∧ win0_2.index t = ![t.val / 4, 1, 0, 0, 0] := by decide +kernel

theorem iblk0 (c : Dev nD) (t : Fin cfg0.N) (l : Fin 4096) (a : Fin 1024) :
    iblk m c 0 t (ix2 l a) = V m c main_v0 (ix2 ⟨t.val % 4 * 4096 + l.val, by omega⟩ a) := by
  have e := (index0 t).1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg0) i := by
  show StableHlo.after hostOps0 _ (Proc.devRef .tc main_v2) i = _
  after_reads_at
  rfl
/-- The gradient written into its place in the buffer of all layers and halves. -/
def into (x : S4x2x2x1024x704.Idx → EReal) (h : S16384x1024.Idx → EReal) (d : S4x16384x704.Idx → EReal) :
    S4x2x2x1024x704.Idx → EReal :=
  fun i => if (i 1).val = 1 ∧ (i 2).val = 0 then grad h d (i 0) (i 3) (i 4) else x i

theorem strips (c : Dev nD) (t : Fin cfg0.N) (hr : t.val % 4 = 3) (a : Fin 1024) (b : Fin 704) :
    (outsAt0 m c t.val t.isLt).2 (ix2 a b)
      = grad (m ((c : Thread nD τ).loc main_arg1)) (m ((c : Thread nD τ).loc main_arg2))
          ⟨t.val / 4, by have := t.isLt; have : cfg0.N = 16 := N_0; omega⟩ a b := by
  rw [carried m c t hr, zero_add]
  unfold grad Cert.Dwg.strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y) ((iblk0 m c _ l a).trans ((V_v0 m c _).trans ?_))
    ((iblk1 m c _ l b).trans ((V_v1 m c _).trans ?_))
  · simp only [e]
  · simp only [e, e']

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 1024 := (y 3).isLt
  have h4 : (y 4).val < 704 := (y 4).isLt
  rw [Shape.rowMajor_val_two, Shape.rowMajor_val_five]
  show (y 3).val * 704 + (y 4).val = ((((y 0).val * 1 + (y 1).val) * 1 + (y 2).val) * 1024 + (y 3).val) * 704 + (y 4).val
  omega

theorem final (c : Dev nD) : (dats m 0 c).arrAt 2 cfg0.N
    = into (m ((c : Thread nD τ).loc main_arg0)) (m ((c : Thread nD τ).loc main_arg1)) (m ((c : Thread nD τ).loc main_arg2)) := by
  refine ((dats m 0 c).arrAt_eq_of_coversWhere 2
    (fun i => grad (m ((c : Thread nD τ).loc main_arg1)) (m ((c : Thread nD τ).loc main_arg2)) (i 0) (i 3) (i 4))
    (P := fun i => (i 1).val = 1 ∧ (i 2).val = 0)
    (fun β => β 1 = 1 ∧ β 2 = 0) (by decide +kernel) (fun t hf y => ?_) (fun j => ?_)).trans (funext fun i => ?_)
  · have hr := (flush0_2 t).mp hf
    have e := (index0 t).2.2
    rw [after0_2]
    refine (out_c m c t hr _).trans ((strips m c t hr _ _).trans ?_)
    have g {j j' : Fin 4} {a a' : Fin 1024} {b b' : Fin 704} (x z) (hj : j.val = j'.val) (ha : a.val = a'.val) (hb : b.val = b'.val) :
        grad x z j a b = grad x z j' a' b' := by rw [Fin.ext hj, Fin.ext ha, Fin.ext hb]
    refine g _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v2 m c i)

end Kernel

section Reference

open Cert.Reference15Ideal Cert.Reference15Ideal.Gen Cert.Reference15Ideal.Read
open Idealize.ShloMosaic hiding ix1 ix2 ix3 ix4 ix5
open Idealize.ShloMosaic.ValueIdx Idealize.ShloMosaic.TcCoe Idealize.SL.Sem

variable (x : S4x2x2x1024x704.Idx → EReal) (h : S16384x1024.Idx → EReal) (d : S4x16384x704.Idx → EReal)

theorem ref_grad (i : S4x1x1x1024x704.Idx) : val_main_v6 (F := Ideal) h d i = grad h d (i 0) (i 3) (i 4) := by
  rw [val_main_v6_apply, val_main_v5_apply, val_main_v4_apply]
  unfold grad
  refine Finset.sum_congr rfl fun t _ => ?_
  rw [val_main_v3_apply, mul_comm]
  refine congrArg₂ (fun x y : EReal => x * y) (congrArg h ?_) (congrArg d ?_)
  · funext a; fin_cases a <;> rfl
  · funext a; fin_cases a <;> rfl

theorem ref_into : val_main_v7 (F := Ideal) x h d = into x h d := by
  funext i
  unfold val_main_v7
  refine (congrFun (Host.dynamicUpdateSlice_eq_updateSlice x (val_main_v6 (F := Ideal) h d) _ _ ![0, 1, 0, 0, 0]
    (fun a => by fin_cases a <;> rfl) ⟨rfl, by decide⟩) i).trans ?_
  unfold updateSlice into
  have h0 : (i 0).val < 4 := (i 0).isLt
  have h3 : (i 3).val < 1024 := (i 3).isLt
  have h4 : (i 4).val < 704 := (i 4).isLt
  by_cases hi : (i 1).val = 1 ∧ (i 2).val = 0
  · rw [if_pos hi, dif_pos (fun a => by
      fin_cases a
      · exact ⟨Nat.zero_le _, by show (i 0).val < 0 + 4; omega⟩
      · exact ⟨by show 1 ≤ (i 1).val; omega, by show (i 1).val < 1 + 1; omega⟩
      · exact ⟨by show 0 ≤ (i 2).val; omega, by show (i 2).val < 0 + 1; omega⟩
      · exact ⟨Nat.zero_le _, by show (i 3).val < 0 + 1024; omega⟩
      · exact ⟨Nat.zero_le _, by show (i 4).val < 0 + 704; omega⟩)]
    exact ref_grad h d _
  · rw [if_neg hi, dif_neg]
    intro hin
    have a1 : (i 1).val < 1 + 1 := (hin 1).2
    have a2 : (i 2).val < 0 + 1 := (hin 2).2
    have b1 : 1 ≤ (i 1).val := (hin 1).1
    have b2 : 0 ≤ (i 2).val := (hin 2).1
    omega

end Reference

end Cert.Dwg15

end
-- ==== Proof.Dwg16.lean ====
/- The weight gradient of the gate (or up) projection, the launch for layer 1, second half step: the strips' products are the first launch's (Proof/Dwg.lean); the block goes to
   this launch's own place in the array of all layers and half steps, and every other place is kept. -/
module

public import proofs.«01_k».proof.Proof.Dwg
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

namespace Cert.Dwg16

open Cert.Dwg (grad)

section Kernel

open Cert.Kernel16Ideal Cert.Kernel16Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- The block after a strip: the first launch's. -/
theorem pay_apply (x : Vec Ideal S4096x1024 .bf16) (a : Vec Ideal S1024x704 .f32) (y : Vec Ideal S1x4096x704 .bf16)
    (i : S1024x704.Idx) : k0_pay2 x a y i = a i + Cert.Dwg.strip x y i := Cert.Dwg.pay_apply x a y i

theorem zero_apply (i : S1024x704.Idx) : k0_pay1 (F := Ideal) i = 0 := Cert.Dwg.zero_apply i

theorem unread_whole (x : Vec Ideal S1024x704 .f32) (h : scM0_0.IsWhole) : View.read (Elt Ideal) (View.whole cc0_scratch0) (h.unread x) = x := by
  exact h.read_unread x

theorem carried (c : Dev nD) (t : Fin cfg0.N) (hr : t.val % 4 = 3) (i : S1024x704.Idx) :
    (outsAt0 m c t.val t.isLt).2 i = 0 + ∑ s : Fin 4, Cert.Dwg.strip (iblk m c 0 ⟨4 * (t.val / 4) + s.val, by have := t.isLt; have : cfg0.N = 16 := N_0; omega⟩)
      (iblk m c 1 ⟨4 * (t.val / 4) + s.val, by have := t.isLt; have : cfg0.N = 16 := N_0; omega⟩) i := by
  refine Pipeline.eq_sum_fin_of_reset_step_apply_of_flush (fun n h => (outsAt0 m c n h).2) 4 (fun _ => (0 : EReal))
    (fun t i => Cert.Dwg.strip (iblk m c 0 t) (iblk m c 1 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, win0_0.index t = ![t.val % 4, 0] ∧ win0_1.index t = ![t.val / 4, t.val % 4, 0]
    ∧ win0_2.index t = ![t.val / 4, 1, 1, 0, 0] := by decide +kernel

theorem iblk0 (c : Dev nD) (t : Fin cfg0.N) (l : Fin 4096) (a : Fin 1024) :
    iblk m c 0 t (ix2 l a) = V m c main_v0 (ix2 ⟨t.val % 4 * 4096 + l.val, by omega⟩ a) := by
  have e := (index0 t).1
  unfold iblk
  blk_ext [e]

theorem iblk1 (c : Dev nD) (t : Fin cfg0.N) (l : Fin 4096) (b : Fin 704) :
    iblk m c 1 t (ix3 (0 : Fin 1) l b) = V m c main_v1 (ix3 (⟨t.val / 4, by have := t.isLt; have : cfg0.N = 16 := N_0; omega⟩ : Fin 4) ⟨t.val % 4 * 4096 + l.val, by omega⟩ b) := by
  have e := (index0 t).2.1
  unfold iblk
  blk_ext [e]

theorem V_v0 (c : Dev nD) (i) : V m c main_v0 i = m ((c : Thread nD τ).loc main_arg1) i := by
  show StableHlo.after hostOps0 _ (Proc.devRef .tc main_v0) i = _
  after_reads_at
theorem V_v1 (c : Dev nD) (i) : V m c main_v1 i = m ((c : Thread nD τ).loc main_arg2) i := by
  show StableHlo.after hostOps0 _ (Proc.devRef .tc main_v1) i = _
  after_reads_at
theorem V_v2 (c : Dev nD) (i) : V m c main_v2 i = m ((c : Thread nD τ).loc main_arg0) i := by
  show StableHlo.after hostOps0 _ (Proc.devRef .tc main_v2) i = _
  after_reads_at
  rfl
/-- The gradient written into its place in the buffer of all layers and halves. -/
def into (x : S4x2x2x1024x704.Idx → EReal) (h : S16384x1024.Idx → EReal) (d : S4x16384x704.Idx → EReal) :
    S4x2x2x1024x704.Idx → EReal :=
  fun i => if (i 1).val = 1 ∧ (i 2).val = 1 then grad h d (i 0) (i 3) (i 4) else x i

theorem strips (c : Dev nD) (t : Fin cfg0.N) (hr : t.val % 4 = 3) (a : Fin 1024) (b : Fin 704) :
    (outsAt0 m c t.val t.isLt).2 (ix2 a b)
      = grad (m ((c : Thread nD τ).loc main_arg1)) (m ((c : Thread nD τ).loc main_arg2))
          ⟨t.val / 4, by have := t.isLt; have : cfg0.N = 16 := N_0; omega⟩ a b := by
  rw [carried m c t hr, zero_add]
  unfold grad Cert.Dwg.strip
  refine Fin.sum_mul_add_congr fun s l hl => ?_
  have e : (4 * (t.val / 4) + s.val) % 4 = s.val := by omega
  have e' : (4 * (t.val / 4) + s.val) / 4 = t.val / 4 := by omega
  refine congrArg₂ (fun x y : EReal => x * y) ((iblk0 m c _ l a).trans ((V_v0 m c _).trans ?_))
    ((iblk1 m c _ l b).trans ((V_v1 m c _).trans ?_))
  · simp only [e]
  · simp only [e, e']

theorem out_c (c : Dev nD) (t : Fin cfg0.N) (hr : t.val % 4 = 3) (y) :
    (outsAt0 m c t.val t.isLt).1 y = (outsAt0 m c t.val t.isLt).2 (ix2 (y 3) (y 4)) := by
  rw [outsAt0_C m c t (by omega) hr]
  frame_out
  unfold k0_pay3
  refine shapeCast_apply _ _ _ _ ?_
  have h0 : (y 0).val < 1 := (y 0).isLt
  have h1 : (y 1).val < 1 := (y 1).isLt
  have h2 : (y 2).val < 1 := (y 2).isLt
  have h3 : (y 3).val < 1024 := (y 3).isLt
  have h4 : (y 4).val < 704 := (y 4).isLt
  rw [Shape.rowMajor_val_two, Shape.rowMajor_val_five]
  show (y 3).val * 704 + (y 4).val = ((((y 0).val * 1 + (y 1).val) * 1 + (y 2).val) * 1024 + (y 3).val) * 704 + (y 4).val
  omega

theorem final (c : Dev nD) : (dats m 0 c).arrAt 2 cfg0.N
    = into (m ((c : Thread nD τ).loc main_arg0)) (m ((c : Thread nD τ).loc main_arg1)) (m ((c : Thread nD τ).loc main_arg2)) := by
  refine ((dats m 0 c).arrAt_eq_of_coversWhere 2
    (fun i => grad (m ((c : Thread nD τ).loc main_arg1)) (m ((c : Thread nD τ).loc main_arg2)) (i 0) (i 3) (i 4))
    (P := fun i => (i 1).val = 1 ∧ (i 2).val = 1)
    (fun β => β 1 = 1 ∧ β 2 = 1) (by decide +kernel) (fun t hf y => ?_) (fun j => ?_)).trans (funext fun i => ?_)
  · have hr := (flush0_2 t).mp hf
    have e := (index0 t).2.2
    rw [after0_2]
    refine (out_c m c t hr _).trans ((strips m c t hr _ _).trans ?_)
    have g {j j' : Fin 4} {a a' : Fin 1024} {b b' : Fin 704} (x z) (hj : j.val = j'.val) (ha : a.val = a'.val) (hb : b.val = b'.val) :
        grad x z j a b = grad x z j' a' b' := by rw [Fin.ext hj, Fin.ext ha, Fin.ext hb]
    refine g _ _ ?_ ?_ ?_
    · blk_simp [e]
    · blk_simp [e]
    · blk_simp [e]
  · blk_simp [Pipeline.Window.cell_apply]
    simp only [Nat.div_one]
  · unfold into
    rw [A_eq]
    exact if_congr Iff.rfl rfl (V_v2 m c i)

end Kernel

section Reference

open Cert.Reference16Ideal Cert.Reference16Ideal.Gen Cert.Reference16Ideal.Read
open Idealize.ShloMosaic hiding ix1 ix2 ix3 ix4 ix5
open Idealize.ShloMosaic.ValueIdx Idealize.ShloMosaic.TcCoe Idealize.SL.Sem

variable (x : S4x2x2x1024x704.Idx → EReal) (h : S16384x1024.Idx → EReal) (d : S4x16384x704.Idx → EReal)

theorem ref_grad (i : S4x1x1x1024x704.Idx) : val_main_v6 (F := Ideal) h d i = grad h d (i 0) (i 3) (i 4) := by
  rw [val_main_v6_apply, val_main_v5_apply, val_main_v4_apply]
  unfold grad
  refine Finset.sum_congr rfl fun t _ => ?_
  rw [val_main_v3_apply, mul_comm]
  refine congrArg₂ (fun x y : EReal => x * y) (congrArg h ?_) (congrArg d ?_)
  · funext a; fin_cases a <;> rfl
  · funext a; fin_cases a <;> rfl

theorem ref_into : val_main_v7 (F := Ideal) x h d = into x h d := by
  funext i
  unfold val_main_v7
  refine (congrFun (Host.dynamicUpdateSlice_eq_updateSlice x (val_main_v6 (F := Ideal) h d) _ _ ![0, 1, 1, 0, 0]
    (fun a => by fin_cases a <;> rfl) ⟨rfl, by decide⟩) i).trans ?_
  unfold updateSlice into
  have h0 : (i 0).val < 4 := (i 0).isLt
  have h3 : (i 3).val < 1024 := (i 3).isLt
  have h4 : (i 4).val < 704 := (i 4).isLt
  by_cases hi : (i 1).val = 1 ∧ (i 2).val = 1
  · rw [if_pos hi, dif_pos (fun a => by
      fin_cases a
      · exact ⟨Nat.zero_le _, by show (i 0).val < 0 + 4; omega⟩
      · exact ⟨by show 1 ≤ (i 1).val; omega, by show (i 1).val < 1 + 1; omega⟩
      · exact ⟨by show 1 ≤ (i 2).val; omega, by show (i 2).val < 1 + 1; omega⟩
      · exact ⟨Nat.zero_le _, by show (i 3).val < 0 + 1024; omega⟩
      · exact ⟨Nat.zero_le _, by show (i 4).val < 0 + 704; omega⟩)]
    exact ref_grad h d _
  · rw [if_neg hi, dif_neg]
    intro hin
    have a1 : (i 1).val < 1 + 1 := (hin 1).2
    have a2 : (i 2).val < 1 + 1 := (hin 2).2
    have b1 : 1 ≤ (i 1).val := (hin 1).1
    have b2 : 1 ≤ (i 2).val := (hin 2).1
    omega

end Reference

end Cert.Dwg16

end
-- ==== Proof.Out17.lean ====
module

public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.StableHlo.ReadAt

/-! The weight gradient of the output projection (or the convolution's): the kernel walks the tokens in four strips of 4096, adding each strip's product into a
carried block of 1024 rows and 1024 columns, and writes the block out after the last strip. The reference has the product over all
tokens at once. -/

@[expose] public section

set_option maxRecDepth 16384

noncomputable section

namespace Cert.Out17

/-- The weight gradient by row and column. -/
def grad (h : Cert.Kernel17Ideal.S16384x1024.Idx → EReal) (d : Cert.Kernel17Ideal.S16384x1024.Idx → EReal) (a : Fin 1024) (b : Fin 1024) : EReal :=
  ∑ t : Fin 16384, h (Idealize.ShloMosaic.ValueIdx.ix2 t a) * d (Idealize.ShloMosaic.ValueIdx.ix2 t b)

section Kernel

open Cert.Kernel17Ideal Cert.Kernel17Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- One strip's product at a row and a column. -/
def strip (x : Vec Ideal S4096x1024 .bf16) (y : Vec Ideal S4096x1024 .bf16) (i : S1024x1024.Idx) : EReal :=
  ∑ l : Fin 4096, x (ix2 l (i 0)) * y (ix2 l (i 1))

/-- The block after a strip is the block before it plus the strip's product. -/
theorem pay_apply (x : Vec Ideal S4096x1024 .bf16) (a : Vec Ideal S1024x1024 .f32) (y : Vec Ideal S4096x1024 .bf16)
    (i : S1024x1024.Idx) : k0_pay2 x a y i = a i + strip x y i := by
  unfold k0_pay2 strip
  rw [shapeCast_id]
  show a i + _ = _
  congr 1
  simp only [matmul]
  rw [Ideal.matmul_constant_zero_apply,
    ← Equiv.sum_comp (contrEquiv1 dot_S4096x1024_S4096x1024_S1024x1024_0_0_1_1_n_n 4096 rfl rfl).symm]
  refine Finset.sum_congr rfl fun l _ => ?_
  have c := contrEquiv1_symm_val dot_S4096x1024_S4096x1024_S1024x1024_0_0_1_1_n_n 4096 rfl rfl l
  congr 1
  · rw [shapeCast_id]
    congr 1
    funext ax
    fin_cases ax
    · exact Fin.ext c
    · rfl
  · rw [shapeCast_id]
    congr 1
    funext ax
    fin_cases ax
    · exact Fin.ext c
    · rfl

theorem zero_apply (i : S1024x1024.Idx) : k0_pay1 (F := Ideal) i = 0 := by
  unfold k0_pay1
  rw [shapeCast_id]
  exact Ideal.ofBits_zero_f32

theorem unread_whole (x : Vec Ideal S1024x1024 .f32) (h : scM0_0.IsWhole) : View.read (Elt Ideal) (View.whole cc0_scratch0) (h.unread x) = x := by
  exact h.read_unread x

/-- The carried block after the last strip. -/
theorem carried (c : Dev nD) (t : Fin cfg0.N) (hr : t.val % 4 = 3) (i : S1024x1024.Idx) :
    (outsAt0 m c t.val t.isLt).2 i = 0 + ∑ s : Fin 4, strip (iblk m c 0 ⟨4 * (t.val / 4) + s.val, by have := t.isLt; have : cfg0.N = 4 := N_0; omega⟩)
      (iblk m c 1 ⟨4 * (t.val / 4) + s.val, by have := t.isLt; have : cfg0.N = 4 := N_0; omega⟩) i := by
  refine Pipeline.eq_sum_fin_of_reset_step_apply_of_flush (fun n h => (outsAt0 m c n h).2) 4 (fun _ => (0 : EReal))
    (fun t i => strip (iblk m c 0 t) (iblk m c 1 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, win0_0.index t = ![t.val % 4, 0] ∧ win0_1.index t = ![t.val % 4, 0]
    ∧ win0_2.index t = ![0, 0] := by decide +kernel

theorem iblk0 (c : Dev nD) (t : Fin cfg0.N) (l : Fin 4096) (a : Fin 1024) :
    iblk m c 0 t (ix2 l a) = V m c main_v0 (ix2 ⟨t.val % 4 * 4096 + l.val, by omega⟩ a) := by
  have e := (index0 t).1
  unfold iblk
  blk_ext [e]

theorem iblk1 (c : Dev nD) (t : Fin cfg0.N) (l : Fin 4096) (b : Fin 1024) :
    iblk m c 1 t (ix2 l b) = V m c main_v1 (ix2 ⟨t.val % 4 * 4096 + l.val, by omega⟩ b) := by
  have e := (index0 t).2.1
  unfold iblk
  blk_ext [e]

theorem V_v0 (c : Dev nD) (i) : V m c main_v0 i = m ((c : Thread nD τ).loc main_arg0) i := by
  show StableHlo.after hostOps0 _ (Proc.devRef .tc main_v0) i = _
  after_reads_at
theorem V_v1 (c : Dev nD) (i) : V m c main_v1 i = m ((c : Thread nD τ).loc main_arg1) i := by
  show StableHlo.after hostOps0 _ (Proc.devRef .tc main_v1) i = _
  after_reads_at

theorem strips (c : Dev nD) (t : Fin cfg0.N) (hr : t.val % 4 = 3) (a : Fin 1024) (b : Fin 1024) :
    (outsAt0 m c t.val t.isLt).2 (ix2 a b)
      = grad (m ((c : Thread nD τ).loc main_arg0)) (m ((c : Thread nD τ).loc main_arg1)) a b := by
  rw [carried m c t hr, zero_add]
  unfold grad strip
  refine Fin.sum_mul_add_congr fun s l hl => ?_
  have e : (4 * (t.val / 4) + s.val) % 4 = s.val := by omega
  refine congrArg₂ (fun x y : EReal => x * y) ((iblk0 m c _ l a).trans ((V_v0 m c _).trans ?_))
    ((iblk1 m c _ l b).trans ((V_v1 m c _).trans ?_))
  · simp only [e]
  · simp only [e]

theorem out_c (c : Dev nD) (t : Fin cfg0.N) (hr : t.val % 4 = 3) :
    (outsAt0 m c t.val t.isLt).1 = (outsAt0 m c t.val t.isLt).2 := by
  rw [outsAt0_C m c t (by omega) hr]
  frame_out

theorem block (c : Dev nD) (t : Fin cfg0.N) (hr : t.val % 4 = 3) (y : S1024x1024.Idx) (i : S1024x1024.Idx) (h0 : (i 0).val = (y 0).val)
    (h1 : (i 1).val = (y 1).val) : (outsAt0 m c t.val t.isLt).1 y
      = grad (m ((c : Thread nD τ).loc main_arg0)) (m ((c : Thread nD τ).loc main_arg1)) (i 0) (i 1) := by
  have ey : y = ix2 (y 0) (y 1) := by funext a; fin_cases a <;> rfl
  have e0 : i 0 = y 0 := Fin.ext h0
  have e1 : i 1 = y 1 := Fin.ext h1
  rw [e0, e1]
  refine (congrFun (out_c m c t hr) y).trans ((congrArg (outsAt0 m c t.val t.isLt).2 ey).trans ?_)
  exact strips m c t hr (y 0) (y 1)

/-- The kernel's result array. -/
theorem final (c : Dev nD) : (dats m 0 c).arrAt 2 cfg0.N
    = fun i : S1024x1024.Idx => grad (m ((c : Thread nD τ).loc main_arg0)) (m ((c : Thread nD τ).loc main_arg1)) (i 0) (i 1) := by
  refine (dats m 0 c).arrAt_eq_of_covers 2 _ (by decide +kernel) fun t hf y => ?_
  have e := (index0 t).2.2
  blk_simp [e]
  rw [after0_2]
  refine block m c t ((flush0_2 t).mp hf) y ((win0_2.blk t).view.emb y) ?_ ?_
  · blk_simp [e]
  · blk_simp [e]

end Kernel

section Reference

open Cert.Reference17Ideal Cert.Reference17Ideal.Gen Cert.Reference17Ideal.Read
open Idealize.ShloMosaic hiding ix1 ix2 ix3 ix4 ix5
open Idealize.ShloMosaic.ValueIdx Idealize.ShloMosaic.TcCoe Idealize.SL.Sem

/-- The reference's result array. -/
theorem ref_grad (h : S16384x1024.Idx → EReal) (d : S16384x1024.Idx → EReal) :
    val_main_v3 (F := Ideal) h d = fun i : S1024x1024.Idx => grad h d (i 0) (i 1) := by
  funext i
  rw [val_main_v3_apply, val_main_v2_apply]
  unfold grad
  refine Finset.sum_congr rfl fun t _ => ?_
  rw [mul_comm]
  refine congrArg₂ (fun x y : EReal => x * y) (congrArg h ?_) (congrArg d ?_)
  · funext a; fin_cases a <;> rfl
  · funext a; fin_cases a <;> rfl

end Reference

end Cert.Out17

end
-- ==== Proof.Out18.lean ====
module

public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.StableHlo.ReadAt

/-! The weight gradient of the attention group's output projection: the kernel walks the tokens in four strips of 4096, adding each strip's product into a
carried block of 256 rows and 1024 columns, and writes the block out after the last strip. The reference has the product over all
tokens at once. -/

@[expose] public section

set_option maxRecDepth 16384

noncomputable section

namespace Cert.Out18

/-- The weight gradient by row and column. -/
def grad (h : Cert.Kernel18Ideal.S16384x256.Idx → EReal) (d : Cert.Kernel18Ideal.S16384x1024.Idx → EReal) (a : Fin 256) (b : Fin 1024) : EReal :=
  ∑ t : Fin 16384, h (Idealize.ShloMosaic.ValueIdx.ix2 t a) * d (Idealize.ShloMosaic.ValueIdx.ix2 t b)

section Kernel

open Cert.Kernel18Ideal Cert.Kernel18Ideal.Gen
open Idealize.ShloMosaic hiding ix1 ix2 ix3 ix4 ix5
open Idealize.ShloMosaic.ValueIdx Idealize.ShloMosaic.TcCoe Idealize.SL.Sem
open Idealize.ShloMosaic.WordCmp hiding select_one select_zero

variable (m : (ℓ : Loc nD τ sig) → Buf (Elt Ideal) ℓ) (ρ : Dev nD → PrngReg)

/-- One strip's product at a row and a column. -/
def strip (x : Vec Ideal S4096x256 .bf16) (y : Vec Ideal S4096x1024 .bf16) (i : S256x1024.Idx) : EReal :=
  ∑ l : Fin 4096, x (ix2 l (i 0)) * y (ix2 l (i 1))

/-- The block after a strip is the block before it plus the strip's product. -/
theorem pay_apply (x : Vec Ideal S4096x256 .bf16) (a : Vec Ideal S256x1024 .f32) (y : Vec Ideal S4096x1024 .bf16)
    (i : S256x1024.Idx) : k0_pay2 x a y i = a i + strip x y i := by
  unfold k0_pay2 strip
  rw [shapeCast_id]
  show a i + _ = _
  congr 1
  simp only [matmul]
  rw [Ideal.matmul_constant_zero_apply,
    ← Equiv.sum_comp (contrEquiv1 dot_S4096x256_S4096x1024_S256x1024_0_0_1_1_n_n 4096 rfl rfl).symm]
  refine Finset.sum_congr rfl fun l _ => ?_
  have c := contrEquiv1_symm_val dot_S4096x256_S4096x1024_S256x1024_0_0_1_1_n_n 4096 rfl rfl l
  congr 1
  · rw [shapeCast_id]
    congr 1
    funext ax
    fin_cases ax
    · exact Fin.ext c
    · rfl
  · rw [shapeCast_id]
    congr 1
    funext ax
    fin_cases ax
    · exact Fin.ext c
    · rfl

theorem zero_apply (i : S256x1024.Idx) : k0_pay1 (F := Ideal) i = 0 := by
  unfold k0_pay1
  rw [shapeCast_id]
  exact Ideal.ofBits_zero_f32

theorem unread_whole (x : Vec Ideal S256x1024 .f32) (h : scM0_0.IsWhole) : View.read (Elt Ideal) (View.whole cc0_scratch0) (h.unread x) = x := by
  exact h.read_unread x

/-- The carried block after the last strip. -/
theorem carried (c : Dev nD) (t : Fin cfg0.N) (hr : t.val % 4 = 3) (i : S256x1024.Idx) :
    (outsAt0 m c t.val t.isLt).2 i = 0 + ∑ s : Fin 4, strip (iblk m c 0 ⟨4 * (t.val / 4) + s.val, by have := t.isLt; have : cfg0.N = 4 := N_0; omega⟩)
      (iblk m c 1 ⟨4 * (t.val / 4) + s.val, by have := t.isLt; have : cfg0.N = 4 := N_0; omega⟩) i := by
  refine Pipeline.eq_sum_fin_of_reset_step_apply_of_flush (fun n h => (outsAt0 m c n h).2) 4 (fun _ => (0 : EReal))
    (fun t i => strip (iblk m c 0 t) (iblk m c 1 t) i) (fun t h i => ?_) (fun t h i => ?_) t hr i
  · rw [outsAt0_A m c t h (by omega)]
    frame_out
    rw [pay_apply, zero_apply]
  · by_cases h3 : t.val % 4 = 3
    · rw [outsAt0_C m c t h h3]
      frame_out
      rw [pay_apply, unread_whole]
    · rw [outsAt0_B m c t h h3]
      frame_out
      rw [pay_apply, unread_whole]

theorem index0 : ∀ t : Fin grid0.N, win0_0.index t = ![t.val % 4, 0] ∧ win0_1.index t = ![t.val % 4, 0]
    ∧ win0_2.index t = ![0, 0] := by decide +kernel

theorem iblk0 (c : Dev nD) (t : Fin cfg0.N) (l : Fin 4096) (a : Fin 256) :
    iblk m c 0 t (ix2 l a) = V m c main_v0 (ix2 ⟨t.val % 4 * 4096 + l.val, by omega⟩ a) := by
  have e := (index0 t).1
  unfold iblk
  blk_ext [e]

theorem iblk1 (c : Dev nD) (t : Fin cfg0.N) (l : Fin 4096) (b : Fin 1024) :
    iblk m c 1 t (ix2 l b) = V m c main_v1 (ix2 ⟨t.val % 4 * 4096 + l.val, by omega⟩ b) := by
  have e := (index0 t).2.1
  unfold iblk
  blk_ext [e]

theorem V_v0 (c : Dev nD) (i) : V m c main_v0 i = m ((c : Thread nD τ).loc main_arg0) i := by
  show StableHlo.after hostOps0 _ (Proc.devRef .tc main_v0) i = _
  after_reads_at
theorem V_v1 (c : Dev nD) (i) : V m c main_v1 i = m ((c : Thread nD τ).loc main_arg1) i := by
  show StableHlo.after hostOps0 _ (Proc.devRef .tc main_v1) i = _
  after_reads_at

theorem strips (c : Dev nD) (t : Fin cfg0.N) (hr : t.val % 4 = 3) (a : Fin 256) (b : Fin 1024) :
    (outsAt0 m c t.val t.isLt).2 (ix2 a b)
      = grad (m ((c : Thread nD τ).loc main_arg0)) (m ((c : Thread nD τ).loc main_arg1)) a b := by
  rw [carried m c t hr, zero_add]
  unfold grad strip
  refine Fin.sum_mul_add_congr fun s l hl => ?_
  have e : (4 * (t.val / 4) + s.val) % 4 = s.val := by omega
  refine congrArg₂ (fun x y : EReal => x * y) ((iblk0 m c _ l a).trans ((V_v0 m c _).trans ?_))
    ((iblk1 m c _ l b).trans ((V_v1 m c _).trans ?_))
  · simp only [e]
  · simp only [e]

theorem out_c (c : Dev nD) (t : Fin cfg0.N) (hr : t.val % 4 = 3) :
    (outsAt0 m c t.val t.isLt).1 = (outsAt0 m c t.val t.isLt).2 := by
  rw [outsAt0_C m c t (by omega) hr]
  frame_out

theorem block (c : Dev nD) (t : Fin cfg0.N) (hr : t.val % 4 = 3) (y : S256x1024.Idx) (i : S256x1024.Idx) (h0 : (i 0).val = (y 0).val)
    (h1 : (i 1).val = (y 1).val) : (outsAt0 m c t.val t.isLt).1 y
      = grad (m ((c : Thread nD τ).loc main_arg0)) (m ((c : Thread nD τ).loc main_arg1)) (i 0) (i 1) := by
  have ey : y = ix2 (y 0) (y 1) := by funext a; fin_cases a <;> rfl
  have e0 : i 0 = y 0 := Fin.ext h0
  have e1 : i 1 = y 1 := Fin.ext h1
  rw [e0, e1]
  refine (congrFun (out_c m c t hr) y).trans ((congrArg (outsAt0 m c t.val t.isLt).2 ey).trans ?_)
  exact strips m c t hr (y 0) (y 1)

/-- The kernel's result array. -/
theorem final (c : Dev nD) : (dats m 0 c).arrAt 2 cfg0.N
    = fun i : S256x1024.Idx => grad (m ((c : Thread nD τ).loc main_arg0)) (m ((c : Thread nD τ).loc main_arg1)) (i 0) (i 1) := by
  refine (dats m 0 c).arrAt_eq_of_covers 2 _ (by decide +kernel) fun t hf y => ?_
  have e := (index0 t).2.2
  blk_simp [e]
  rw [after0_2]
  refine block m c t ((flush0_2 t).mp hf) y ((win0_2.blk t).view.emb y) ?_ ?_
  · blk_simp [e]
  · blk_simp [e]

end Kernel

section Reference

open Cert.Reference18Ideal Cert.Reference18Ideal.Gen Cert.Reference18Ideal.Read
open Idealize.ShloMosaic hiding ix1 ix2 ix3 ix4 ix5
open Idealize.ShloMosaic.ValueIdx Idealize.ShloMosaic.TcCoe Idealize.SL.Sem

/-- The reference's result array. -/
theorem ref_grad (h : S16384x256.Idx → EReal) (d : S16384x1024.Idx → EReal) :
    val_main_v3 (F := Ideal) h d = fun i : S256x1024.Idx => grad h d (i 0) (i 1) := by
  funext i
  rw [val_main_v3_apply, val_main_v2_apply]
  unfold grad
  refine Finset.sum_congr rfl fun t _ => ?_
  rw [mul_comm]
  refine congrArg₂ (fun x y : EReal => x * y) (congrArg h ?_) (congrArg d ?_)
  · funext a; fin_cases a <;> rfl
  · funext a; fin_cases a <;> rfl

end Reference

end Cert.Out18

end
-- ==== Proof.Adam.lean ====
/- One step of the optimiser on a number: the new first and second moment and the weight's change, as functions of the weight, its
   gradient and its moments. The kernel's blocks and the reference's arrays are these, entry by entry. -/
module

public import Idealize.ShloMosaic.PureOps.Ideal

@[expose] public section

noncomputable section

namespace Cert.Adam

open Idealize.ShloMosaic

/-- The number that a constant of the two programs stands for. -/
def num (b : BitVec 32) : EReal := FloatOps.ofBits (F := Ideal) .f32 b

/-- The new first moment: 0.9 of the old one and 0.1 of the gradient. -/
def first (g m : EReal) : EReal := num 0x3F666666#32 * m + num 0x3DCCCCCD#32 * g

/-- The new second moment: 0.999 of the old one and 0.001 of the gradient's square. -/
def second (g v : EReal) : EReal := num 0x3F7FBE77#32 * v + num 0x3A83126F#32 * (g * g)

/-- The quotient and the root of the two programs. -/
def quot (a b : EReal) : EReal := FloatOps.divf (F := Ideal) (φ := .f32) a b
def root (a : EReal) : EReal := FloatOps.sqrt (F := Ideal) (φ := .f32) a

/-- The weight's change: the corrected first moment over the root of the corrected second one, and the decay, times -0.001. -/
def change (w g m v : EReal) : EReal :=
  num 0xBA83126F#32 * (quot (quot (first g m) (num 0x3F26BD02#32)) (root (quot (second g v) (num 0x3C231ACC#32)) + num 0x322BCC77#32)
    + num 0x3C23D70A#32 * w)

end Cert.Adam

end
-- ==== Proof.AdamBig.lean ====
/- The optimiser's step on the large matrices: the kernel's four arrays and the reference's. Every window's block at a grid step is the same rows of its array,
   so a stored entry is the step on the four entries at its own place. -/
module

public import proofs.«01_k».proof.Proof.Adam
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit

@[expose] public section

set_option maxRecDepth 16384

noncomputable section

/-! ## The feed-forward blocks' gate and up weights -/

namespace Cert.Adam19

open Cert.Adam Idealize.ShloMosaic

section Kernel

open Cert.Kernel19Ideal Cert.Kernel19Ideal.Gen Idealize.ShloMosaic.TcCoe

theorem out (x0 x1 x2 x3 : Vec Ideal S512x704 .f32) (y : S512x704.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S4096x704.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S4096x704.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S4096x704.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference19Ideal Cert.Reference19Ideal.Read

variable (w g m v : S4096x704.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam19

/-! ## The feed-forward blocks' down weights -/

namespace Cert.Adam20

open Cert.Adam Idealize.ShloMosaic

section Kernel

open Cert.Kernel20Ideal Cert.Kernel20Ideal.Gen Idealize.ShloMosaic.TcCoe

theorem out (x0 x1 x2 x3 : Vec Ideal S256x1024 .f32) (y : S256x1024.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S2816x1024.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S2816x1024.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S2816x1024.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference20Ideal Cert.Reference20Ideal.Read

variable (w g m v : S2816x1024.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam20

/-! ## The input projection's weights -/

namespace Cert.Adam21

open Cert.Adam Idealize.ShloMosaic

section Kernel

open Cert.Kernel21Ideal Cert.Kernel21Ideal.Gen Idealize.ShloMosaic.TcCoe

theorem out (x0 x1 x2 x3 : Vec Ideal S256x1600 .f32) (y : S256x1600.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S2048x1600.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S2048x1600.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S2048x1600.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference21Ideal Cert.Reference21Ideal.Read

variable (w g m v : S2048x1600.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam21

/-! ## The output projections' weights -/

namespace Cert.Adam22

open Cert.Adam Idealize.ShloMosaic

section Kernel

open Cert.Kernel22Ideal Cert.Kernel22Ideal.Gen Idealize.ShloMosaic.TcCoe

theorem out (x0 x1 x2 x3 : Vec Ideal S512x1024 .f32) (y : S512x1024.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S512x1024.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S512x1024.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S512x1024.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference22Ideal Cert.Reference22Ideal.Read

variable (w g m v : S512x1024.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam22

/-! ## The modulation's weights -/

namespace Cert.Adam23

open Cert.Adam Idealize.ShloMosaic

section Kernel

open Cert.Kernel23Ideal Cert.Kernel23Ideal.Gen Idealize.ShloMosaic.TcCoe

theorem out (x0 x1 x2 x3 : Vec Ideal S128x2304 .f32) (y : S128x2304.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S2048x2304.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S2048x2304.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S2048x2304.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference23Ideal Cert.Reference23Ideal.Read

variable (w g m v : S2048x2304.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam23

end
-- ==== Proof.AdamSmall.lean ====
/- The optimiser's step on the small weights: the kernel's four arrays and the reference's. Every window's block at a grid step is the same rows of its array,
   so a stored entry is the step on the four entries at its own place. -/
module

public import proofs.«01_k».proof.Proof.Adam
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pipeline.ValueKit

@[expose] public section

set_option maxRecDepth 16384

noncomputable section

/-! ## The attention's output projection -/

namespace Cert.Adam24

open Cert.Adam Idealize.ShloMosaic

section Kernel

open Cert.Kernel24Ideal Cert.Kernel24Ideal.Gen Idealize.ShloMosaic.TcCoe

theorem out (x0 x1 x2 x3 : Vec Ideal S512x256 .f32) (y : S512x256.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S512x256.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S512x256.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S512x256.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference24Ideal Cert.Reference24Ideal.Read

variable (w g m v : S512x256.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam24

/-! ## The convolution's weights -/

namespace Cert.Adam25

open Cert.Adam Idealize.ShloMosaic

section Kernel

open Cert.Kernel25Ideal Cert.Kernel25Ideal.Gen Idealize.ShloMosaic.TcCoe

theorem out (x0 x1 x2 x3 : Vec Ideal S62x256 .f32) (y : S62x256.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S62x256.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S62x256.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S62x256.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference25Ideal Cert.Reference25Ideal.Read

variable (w g m v : S62x256.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam25

/-! ## The convolution's bias, gain and shift -/

namespace Cert.Adam26

open Cert.Adam Idealize.ShloMosaic

section Kernel

open Cert.Kernel26Ideal Cert.Kernel26Ideal.Gen Idealize.ShloMosaic.TcCoe

theorem out (x0 x1 x2 x3 : Vec Ideal S2x1024 .f32) (y : S2x1024.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S2x1024.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S2x1024.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S2x1024.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference26Ideal Cert.Reference26Ideal.Read

variable (w g m v : S2x1024.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam26

/-! ## The norms' gains -/

namespace Cert.Adam27

open Cert.Adam Idealize.ShloMosaic

section Kernel

open Cert.Kernel27Ideal Cert.Kernel27Ideal.Gen Idealize.ShloMosaic.TcCoe

theorem out (x0 x1 x2 x3 : Vec Ideal S6x256 .f32) (y : S6x256.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S6x256.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S6x256.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S6x256.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference27Ideal Cert.Reference27Ideal.Read

variable (w g m v : S6x256.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam27

/-! ## The last norm's gain -/

namespace Cert.Adam28

open Cert.Adam Idealize.ShloMosaic

section Kernel

open Cert.Kernel28Ideal Cert.Kernel28Ideal.Gen Idealize.ShloMosaic.TcCoe

theorem out (x0 x1 x2 x3 : Vec Ideal S1x1024 .f32) (y : S1x1024.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S1x1024.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S1x1024.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S1x1024.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference28Ideal Cert.Reference28Ideal.Read

variable (w g m v : S1x1024.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam28

/-! ## The modulation's bias -/

namespace Cert.Adam29

open Cert.Adam Idealize.ShloMosaic

section Kernel

open Cert.Kernel29Ideal Cert.Kernel29Ideal.Gen Idealize.ShloMosaic.TcCoe

theorem out (x0 x1 x2 x3 : Vec Ideal S2x9216 .f32) (y : S2x9216.Idx) : out0_4 x0 x1 x2 x3 y = x1 y
    ∧ out0_5 x0 x1 x2 x3 y = change (x0 y) (x1 y) (x2 y) (x3 y)
    ∧ out0_6 x0 x1 x2 x3 y = first (x1 y) (x2 y) ∧ out0_7 x0 x1 x2 x3 y = second (x1 y) (x3 y) := by
  unfold out0_4 out0_5 out0_6 out0_7
  frame_out
  exact ⟨trivial, rfl, rfl, rfl⟩

variable (m : (ℓ : Loc nD τ sig) → Buf (Elt Ideal) ℓ) (c : Dev nD)

theorem index0 : ∀ t : Fin grid0.N, win0_4.index t = ![t.val, 0] ∧ win0_5.index t = ![t.val, 0]
    ∧ win0_6.index t = ![t.val, 0] ∧ win0_7.index t = ![t.val, 0] := by decide +kernel

theorem final4 : (dats m 0 c).arrAt 4 cfg0.N = m ((c : Thread nD τ).loc main_arg1) := by
  refine (dats m 0 c).arrAt_eq_of_covers 4 _ (by decide +kernel) fun t _ y => ?_
  have e := (index0 t).1
  blk_simp [e]
  rw [after0_4]
  exact (out (iblk m c 0 t) (iblk m c 1 t) (iblk m c 2 t) (iblk m c 3 t) y).1.trans rfl
theorem final5 : (dats m 0 c).arrAt 5 cfg0.N = fun i : S2x9216.Idx => change (m ((c : Thread nD τ).loc main_arg0) i) (m ((c : Thread nD τ).loc main_arg1) i)
    (m ((c : Thread nD τ).loc main_arg2) i) (m ((c : Thread nD τ).loc main_arg3) i) := by
  refine (dats m 0 c).arrAt_eq_of_covers 5 _ (by decide +kernel) fun t _ y => ?_
  have e := (index0 t).2.1
  blk_simp [e]
  rw [after0_5]
  exact (out (iblk m c 0 t) (iblk m c 1 t) (iblk m c 2 t) (iblk m c 3 t) y).2.1.trans rfl
theorem final6 : (dats m 0 c).arrAt 6 cfg0.N = fun i : S2x9216.Idx => first (m ((c : Thread nD τ).loc main_arg1) i) (m ((c : Thread nD τ).loc main_arg2) i) := by
  refine (dats m 0 c).arrAt_eq_of_covers 6 _ (by decide +kernel) fun t _ y => ?_
  have e := (index0 t).2.2.1
  blk_simp [e]
  rw [after0_6]
  exact (out (iblk m c 0 t) (iblk m c 1 t) (iblk m c 2 t) (iblk m c 3 t) y).2.2.1.trans rfl
theorem final7 : (dats m 0 c).arrAt 7 cfg0.N = fun i : S2x9216.Idx => second (m ((c : Thread nD τ).loc main_arg1) i) (m ((c : Thread nD τ).loc main_arg3) i) := by
  refine (dats m 0 c).arrAt_eq_of_covers 7 _ (by decide +kernel) fun t _ y => ?_
  have e := (index0 t).2.2.2
  blk_simp [e]
  rw [after0_7]
  exact (out (iblk m c 0 t) (iblk m c 1 t) (iblk m c 2 t) (iblk m c 3 t) y).2.2.2.trans rfl

end Kernel

section Reference

open Cert.Reference29Ideal Cert.Reference29Ideal.Read

variable (w g m v : S2x9216.Idx → EReal)

theorem ref_change : val_main_v23 (F := Ideal) w g m v = fun i => change (w i) (g i) (m i) (v i) := rfl
theorem ref_first : val_main_v4 (F := Ideal) g m = fun i => first (g i) (m i) := rfl
theorem ref_second : val_main_v10 (F := Ideal) g v = fun i => second (g i) (v i) := rfl

end Reference

end Cert.Adam29

end
-- ==== Proof.Mod.lean ====
/- The conditioning's three small calls: the weights' gradient of the modulation, the bias's gradient and the modulation itself.
   Each stored entry is a sum over the batch's rows or over the conditioning's columns. -/
module

public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pipeline.ValueKit
public import Idealize.ShloMosaic.Lib.StableHlo.ReadAt

@[expose] public section

set_option maxRecDepth 16384

noncomputable section

namespace Cert.Mod

open Idealize.ShloMosaic

/-- The activation: a value times its logistic. -/
def silu (x : EReal) : EReal := x * Ideal.logistic x

theorem silu_eq (x : EReal) : x * Ideal.div (Ideal.ofBits .f32 0x3F800000#32) (Ideal.ofBits .f32 0x3F800000#32 + Ideal.exp (-x)) = silu x := by
  unfold silu Ideal.logistic
  rw [Ideal.ofBits_one_f32]

end Cert.Mod

/-! ## The gradient of the modulation's weights -/

namespace Cert.Mod30

open Cert.Mod

/-- An entry of the gradient: the activated conditioning's column times the modulation's gradient's, over the batch. -/
def grad (c : Cert.Kernel30Ideal.S8x1024.Idx → EReal) (d : Cert.Kernel30Ideal.S2x8x2304.Idx → EReal) (l : Fin 2) (a : Fin 1024) (b : Fin 2304) : EReal :=
  ∑ k : Fin 8, silu (c (Idealize.ShloMosaic.ValueIdx.ix2 k a)) * d (Idealize.ShloMosaic.ValueIdx.ix3 l k b)

section Kernel

open Cert.Kernel30Ideal Cert.Kernel30Ideal.Gen
open Idealize.ShloMosaic hiding ix1 ix2 ix3 ix4 ix5
open Idealize.ShloMosaic.ValueIdx Idealize.ShloMosaic.TcCoe Idealize.SL.Sem

theorem act_apply (x0 : Vec Ideal S256x8 .f32) (i : S256x8.Idx) : k0_pay2 x0 i = silu (x0 i) := by
  unfold k0_pay2
  rw [shapeCast_id]
  rfl

/-- One row of the batch's part: a column of the one operand times a row of the other. -/
theorem part_apply (x0 : Vec Ideal S256x8 .f32) (x1 : Vec Ideal S1x8x2304 .f32) (j : Fin 8) (h : S256x8.Slices ![0, j.val] S256x1)
    (inb : ∀ a, (![0, j.val, 0] : Fin 3 → ℕ) a + S1x1x2304.size a ≤ S1x8x2304.size a) (a : Fin 256) (b : Fin 2304) :
    broadcastTo S256x2304 (extractStridedSlice S256x1 ![0, j.val] (k0_pay2 x0) h) broadcasts_S256x1_S256x2304 (ix2 a b)
      * broadcastTo S256x2304 (shapeCast S1x2304 (View.ld (Val := Elt Ideal) (e' := .f32) x1 (Rect.unit (s := S1x8x2304) ![0, j.val, 0] S1x1x2304.size inb))
          shapeCasts_S1x1x2304_S1x2304) broadcasts_S1x2304_S256x2304 (ix2 a b) = silu (x0 (ix2 a j)) * x1 (ix3 0 j b) := by
  refine congrArg₂ (fun x y : EReal => x * y) ((broadcastTo_apply _ _ _ (ix2 a 0) (fun ax => by fin_cases ax <;> rfl)).trans
    ((extractStridedSlice_apply _ _ h _ (ix2 a j) (fun ax => by fin_cases ax <;> simp)).trans (act_apply x0 _)))
    ((broadcastTo_apply _ _ _ (ix2 0 b) (fun ax => by fin_cases ax <;> rfl)).trans
    ((shapeCast_apply _ _ _ (ix3 0 0 b) (by rw [Shape.rowMajor_val_two, Shape.rowMajor_val_three]; rfl)).trans
      (View.ld_unit_apply_of x1 _ _ inb _ (ix3 0 j b) (fun ax => by fin_cases ax <;> simp))))

theorem out (x0 : Vec Ideal S256x8 .f32) (x1 : Vec Ideal S1x8x2304 .f32) (y : S1x256x2304.Idx) :
    out0_2 x0 x1 y = ∑ k : Fin 8, silu (x0 (ix2 (y 1) k)) * x1 (ix3 0 k (y 2)) := by
  unfold out0_2
  frame_out
  rw [Fin.sum_univ_eight]
  unfold k0_pay1 k0_pay3 k0_pay4
  refine (shapeCast_apply _ shapeCasts_S256x2304_S1x256x2304 y (ix2 (y 1) (y 2)) ?_).trans ?_
  · rw [Shape.rowMajor_val_two, Shape.rowMajor_val_three]
    have h0 : (y 0).val < 1 := (y 0).isLt
    show (y 1).val * 2304 + (y 2).val = ((y 0).val * 256 + (y 1).val) * 2304 + (y 2).val
    omega
  have p := fun (j : Fin 8) h inb => part_apply x0 x1 j h inb (y 1) (y 2)
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (congrArg₂ (fun x y : EReal => x + y) (p 0 _ _) (p 1 _ _)) (p 2 _ _)) (p 3 _ _)) (p 4 _ _)) (p 5 _ _)) (p 6 _ _)) (p 7 _ _)

variable (m : (ℓ : Loc nD τ sig) → Buf (Elt Ideal) ℓ) (c : Dev nD)

theorem index0 : ∀ t : Fin grid0.N, win0_0.index t = ![t.val % 4, 0] ∧ win0_1.index t = ![t.val / 4, 0, 0]
    ∧ win0_2.index t = ![t.val / 4, t.val % 4, 0] := by decide +kernel

theorem V_v0 (i : S1024x8.Idx) : V m c main_v0 i = m ((c : Thread nD τ).loc main_arg0) (ix2 (i 1) (i 0)) := by
  show StableHlo.after hostOps0 _ (Proc.devRef .tc main_v0) i = _
  after_reads_at
  rfl

theorem iblk0 (t : Fin cfg0.N) (a : Fin 256) (k : Fin 8) :
    iblk m c 0 t (ix2 a k) = V m c main_v0 (ix2 ⟨t.val % 4 * 256 + a.val, by omega⟩ k) := by
  have e := (index0 t).1
  unfold iblk
  blk_ext [e]

theorem iblk1 (t : Fin cfg0.N) (k : Fin 8) (b : Fin 2304) :
    iblk m c 1 t (ix3 0 k b) = V m c main_arg1 (ix3 ⟨t.val / 4, by have := t.isLt; have : cfg0.N = 8 := N_0; omega⟩ k b) := by
  have e := (index0 t).2.1
  unfold iblk
  blk_ext [e]

theorem block (t : Fin cfg0.N) (y : S1x256x2304.Idx) (i : S2x1024x2304.Idx) (h0 : (i 0).val = t.val / 4)
    (h1 : (i 1).val = t.val % 4 * 256 + (y 1).val) (h2 : (i 2).val = (y 2).val) : out0_2 (iblk m c 0 t) (iblk m c 1 t) y
      = grad (m ((c : Thread nD τ).loc main_arg0)) (m ((c : Thread nD τ).loc main_arg1)) (i 0) (i 1) (i 2) := by
  refine (out (iblk m c 0 t) (iblk m c 1 t) y).trans ?_
  unfold grad
  refine Finset.sum_congr rfl fun k _ => congrArg₂ (fun x y : EReal => silu x * y) ((iblk0 m c t (y 1) k).trans ((V_v0 m c _).trans ?_))
    ((iblk1 m c t k (y 2)).trans ((congrFun (V_main_arg1 m c) _).trans ?_))
  · exact congrArg _ (congrArg (ix2 k) (Fin.ext h1.symm))
  · exact congrArg _ (congrArg₂ (fun l b => ix3 l k b) (Fin.ext h0.symm) (Fin.ext h2.symm))

/-- The kernel's result array. -/
theorem final : (dats m 0 c).arrAt 2 cfg0.N = fun i : S2x1024x2304.Idx =>
    grad (m ((c : Thread nD τ).loc main_arg0)) (m ((c : Thread nD τ).loc main_arg1)) (i 0) (i 1) (i 2) := by
  refine (dats m 0 c).arrAt_eq_of_covers 2 _ (by decide +kernel) fun t _ y => ?_
  have e := (index0 t).2.2
  blk_simp [e]
  rw [after0_2]
  refine block m c t y ((win0_2.blk t).view.emb y) ?_ ?_ ?_
  · blk_simp [e]
  · blk_simp [e]
  · blk_simp [e]

end Kernel

section Reference

open Cert.Reference30Ideal Cert.Reference30Ideal.Gen Cert.Reference30Ideal.Read
open Idealize.ShloMosaic hiding ix1 ix2 ix3 ix4 ix5
open Idealize.ShloMosaic.ValueIdx Idealize.ShloMosaic.TcCoe Idealize.SL.Sem

theorem ref_act (c : S8x1024.Idx → EReal) (i : S8x1024.Idx) : val_main_v1 (F := Ideal) c i = silu (c i) :=
  (show _ = _ from by
    rw [val_main_v1_apply, val_main_call0_v5_apply, val_main_call0_v4_apply, val_main_call0_v3_apply, val_main_call0_v2_apply,
      val_main_call0_cst_apply, val_main_call0_cst_0_apply, val_main_call0_v1_apply, val_main_call0_v0_apply]; rfl).trans (silu_eq (c i))

theorem ref (c : S8x1024.Idx → EReal) (d : S2x8x2304.Idx → EReal) :
    val_main_v6 (F := Ideal) c d = fun i : S2x1024x2304.Idx => grad c d (i 0) (i 1) (i 2) := by
  funext i
  rw [val_main_v6_apply, val_main_v5_apply]
  unfold grad
  refine Finset.sum_congr rfl fun k _ => ?_
  rw [val_main_v4_apply, ref_act, mul_comm]
  congr 2 <;> (try congr 1) <;> funext a <;> fin_cases a <;> rfl

end Reference

end Cert.Mod30

/-! ## The gradient of the modulation's bias -/

namespace Cert.Mod31

/-- An entry of the gradient: the sum of the modulation's gradient over the batch. -/
def grad (d : Cert.Kernel31Ideal.S8x18432.Idx → EReal) (b : Fin 18432) : EReal := ∑ k : Fin 8, d (Idealize.ShloMosaic.ValueIdx.ix2 k b)

section Kernel

open Cert.Kernel31Ideal Cert.Kernel31Ideal.Gen
open Idealize.ShloMosaic hiding ix1 ix2 ix3 ix4 ix5
open Idealize.ShloMosaic.ValueIdx Idealize.ShloMosaic.TcCoe Idealize.SL.Sem

theorem out (x0 : Vec Ideal S8x18432 .f32) (y : S1x18432.Idx) : out0_1 x0 y = grad x0 (y 1) := by
  unfold out0_1 grad
  frame_out
  rw [Fin.sum_univ_eight]
  unfold k0_pay1
  have p := fun (k : Fin 8) inb => View.ld_unit_apply_of (S := S8x18432) (e := .f32) (Val := Elt Ideal) x0 ![k.val, 0] S1x18432.size inb y (ix2 k (y 1)) (fun ax => by
    have h0 : (y 0).val < 1 := (y 0).isLt
    fin_cases ax
    · show k.val = k.val + (y 0).val
      omega
    · exact (Nat.zero_add _).symm)
  exact congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y)
    (congrArg₂ (fun x y : EReal => x + y) (p 0 _) (p 1 _)) (p 2 _)) (p 3 _)) (p 4 _)) (p 5 _)) (p 6 _)) (p 7 _)

variable (m : (ℓ : Loc nD τ sig) → Buf (Elt Ideal) ℓ) (c : Dev nD)

/-- The kernel's result array. -/
theorem final : (dats m 0 c).arrAt 1 cfg0.N = fun i : S1x18432.Idx => grad (m ((c : Thread nD τ).loc main_arg0)) (i 1) :=
  (Cert.Kernel31Ideal.Value.final1 m c).trans (funext fun i =>
    (congrFun (Cert.Kernel31Ideal.Value.out1_eq _).symm i).trans (out _ i))

end Kernel

section Reference

open Cert.Reference31Ideal Cert.Reference31Ideal.Gen Cert.Reference31Ideal.Read
open Idealize.ShloMosaic hiding ix1 ix2 ix3 ix4 ix5
open Idealize.ShloMosaic.ValueIdx Idealize.ShloMosaic.TcCoe Idealize.SL.Sem

theorem ref (d : S8x18432.Idx → EReal) : val_main_v5 (F := Ideal) d = fun i : S1x18432.Idx => grad d (i 1) := by
  funext i
  rw [val_main_v5_apply, val_main_v4_apply, val_main_cst_1_apply]
  refine (congrArg (· + _) Ideal.ofBits_zero_f32).trans ((zero_add _).trans ?_)
  unfold grad
  refine Finset.sum_congr rfl fun k _ => congrArg d ?_
  funext a
  fin_cases a
  · rfl
  · refine Fin.ext ?_
    show (i 0).val * 18432 + (i 1).val = (i 1).val
    have : (i 0).val < 1 := (i 0).isLt
    omega

end Reference

end Cert.Mod31

/-! ## The modulation -/

namespace Cert.Mod32

open Cert.Mod

/-- An entry of the modulation: the activated conditioning's row times a layer's weight's column. -/
def rows (c : Cert.Kernel32Ideal.S8x1024.Idx → EReal) (w : Cert.Kernel32Ideal.S2x1024x2304.Idx → EReal) (r : Fin 8) (l : Fin 2) (b : Fin 2304) : EReal :=
  ∑ k : Fin 1024, silu (c (Idealize.ShloMosaic.ValueIdx.ix2 r k)) * w (Idealize.ShloMosaic.ValueIdx.ix3 l k b)

/-- The two layers' modulations side by side. -/
def both (c : Cert.Kernel32Ideal.S8x1024.Idx → EReal) (w : Cert.Kernel32Ideal.S2x1024x2304.Idx → EReal) (i : Cert.Kernel32Ideal.S8x4608.Idx) : EReal :=
  rows c w (i 0) ⟨(i 1).val / 2304, by have : (i 1).val < 4608 := (i 1).isLt; omega⟩ ⟨(i 1).val % 2304, by omega⟩

section Kernel

open Cert.Kernel32Ideal Cert.Kernel32Ideal.Gen
open Idealize.ShloMosaic hiding ix1 ix2 ix3 ix4 ix5
open Idealize.ShloMosaic.ValueIdx Idealize.ShloMosaic.TcCoe Idealize.SL.Sem

theorem out (x0 : Vec Ideal S8x1024 .f32) (x1 : Vec Ideal S1x1024x2304 .bf16) (y : S8x2304.Idx) :
    out0_2 x0 x1 y = ∑ k : Fin 1024, silu (x0 (ix2 (y 0) k)) * x1 (ix3 0 k (y 1)) := by
  unfold out0_2
  frame_out
  unfold k0_pay1
  simp only [matmul]
  rw [Ideal.matmul_constant_zero_apply,
    ← Equiv.sum_comp (contrEquiv1 dot_S8x1024_S1024x2304_S8x2304_1_0_0_1_n_n 1024 rfl rfl).symm]
  refine Finset.sum_congr rfl fun k _ => ?_
  have c := contrEquiv1_symm_val dot_S8x1024_S1024x2304_S8x2304_1_0_0_1_n_n 1024 rfl rfl k
  refine congrArg₂ (fun x y : EReal => silu x * y) (congrArg x0 ?_)
    ((shapeCast_apply _ shapeCasts_S1x1024x2304_S1024x2304 _ (ix3 0 k (y 1)) ?_).trans ?_)
  · funext ax
    fin_cases ax
    · rfl
    · exact Fin.ext c
  · rw [Shape.rowMajor_val_two, Shape.rowMajor_val_three]
    show (0 * 1024 + k.val) * 2304 + (y 1).val = _ * 2304 + (y 1).val
    rw [Nat.zero_mul, Nat.zero_add]
    exact congrArg (· * 2304 + (y 1).val) c.symm
  · rfl

variable (m : (ℓ : Loc nD τ sig) → Buf (Elt Ideal) ℓ) (c : Dev nD)

theorem index0 : ∀ t : Fin grid0.N, win0_0.index t = ![0, 0] ∧ win0_1.index t = ![t.val, 0, 0]
    ∧ win0_2.index t = ![0, t.val] := by decide +kernel

theorem V_v0 (i : S2x1024x2304.Idx) : V m c main_v0 i = m ((c : Thread nD τ).loc main_arg1) i := by
  show StableHlo.after hostOps0 _ (Proc.devRef .tc main_v0) i = _
  after_reads_at

theorem iblk0 (t : Fin cfg0.N) (r : Fin 8) (k : Fin 1024) : iblk m c 0 t (ix2 r k) = V m c main_arg0 (ix2 r k) := by
  have e := (index0 t).1
  unfold iblk
  blk_ext [e]

theorem iblk1 (t : Fin cfg0.N) (k : Fin 1024) (b : Fin 2304) :
    iblk m c 1 t (ix3 0 k b) = V m c main_v0 (ix3 ⟨t.val, by have := t.isLt; have : cfg0.N = 2 := N_0; omega⟩ k b) := by
  have e := (index0 t).2.1
  unfold iblk
  blk_ext [e]

theorem block (t : Fin cfg0.N) (y : S8x2304.Idx) (i : S8x4608.Idx) (h0 : (i 0).val = (y 0).val)
    (h1 : (i 1).val = t.val * 2304 + (y 1).val) : out0_2 (iblk m c 0 t) (iblk m c 1 t) y
      = both (m ((c : Thread nD τ).loc main_arg0)) (m ((c : Thread nD τ).loc main_arg1)) i := by
  refine (out (iblk m c 0 t) (iblk m c 1 t) y).trans ?_
  have hy : (y 1).val < 2304 := (y 1).isLt
  unfold both rows
  refine Finset.sum_congr rfl fun k _ => congrArg₂ (fun x y : EReal => silu x * y) ((iblk0 m c t (y 0) k).trans ((congrFun (V_main_arg0 m c) _).trans ?_))
    ((iblk1 m c t k (y 1)).trans ((V_v0 m c _).trans ?_))
  · exact congrArg _ (congrArg (fun r => ix2 r k) (Fin.ext h0.symm))
  · refine congrArg _ (congrArg₂ (fun l b => ix3 l k b) (Fin.ext ?_) (Fin.ext ?_))
    · show t.val = (i 1).val / 2304
      omega
    · show (y 1).val = (i 1).val % 2304
      omega

/-- The kernel's result array. -/
theorem final : (dats m 0 c).arrAt 2 cfg0.N = both (m ((c : Thread nD τ).loc main_arg0)) (m ((c : Thread nD τ).loc main_arg1)) := by
  refine (dats m 0 c).arrAt_eq_of_covers 2 _ (by decide +kernel) fun t _ y => ?_
  have e := (index0 t).2.2
  blk_simp [e]
  rw [after0_2]
  refine block m c t y ((win0_2.blk t).view.emb y) ?_ ?_
  · blk_simp [e]
  · blk_simp [e]

end Kernel

section Reference

open Cert.Reference32Ideal Cert.Reference32Ideal.Gen Cert.Reference32Ideal.Read
open Idealize.ShloMosaic hiding ix1 ix2 ix3 ix4 ix5
open Idealize.ShloMosaic.ValueIdx Idealize.ShloMosaic.TcCoe Idealize.SL.Sem

theorem ref_act (c : S8x1024.Idx → EReal) (i : S8x1024.Idx) : val_main_v0 (F := Ideal) c i = silu (c i) :=
  (show _ = _ from by
    rw [val_main_v0_apply, val_main_call0_v5_apply, val_main_call0_v4_apply, val_main_call0_v3_apply, val_main_call0_v2_apply,
      val_main_call0_cst_apply, val_main_call0_cst_0_apply, val_main_call0_v1_apply, val_main_call0_v0_apply]; rfl).trans (silu_eq (c i))

theorem ref_act' (c : S8x1024.Idx → EReal) (i : S8x1024.Idx) : val_main_v4 (F := Ideal) c i = silu (c i) := ref_act c i

theorem ref_first (c : S8x1024.Idx → EReal) (w : S2x1024x2304.Idx → EReal) (i : S8x2304.Idx) :
    val_main_v3 (F := Ideal) c w i = rows c w (i 0) 0 (i 1) := by
  rw [val_main_v3_apply]
  unfold rows
  refine Finset.sum_congr rfl fun k _ => ?_
  rw [ref_act, val_main_v2_apply, val_main_v1_apply]
  have h0 : k.val < 1024 := k.isLt
  have h1 : (i 1).val < 2304 := (i 1).isLt
  refine congrArg₂ (fun x y : EReal => silu x * y) (congrArg c ?_) (congrArg w ?_)
  · funext a; fin_cases a <;> rfl
  · funext a
    fin_cases a
    · rfl
    · refine Fin.ext ?_
      show (k.val * 2304 + (i 1).val) / 2304 % 1024 = k.val
      omega
    · refine Fin.ext ?_
      show (k.val * 2304 + (i 1).val) % 2304 = (i 1).val
      omega

theorem ref_second (c : S8x1024.Idx → EReal) (w : S2x1024x2304.Idx → EReal) (i : S8x2304.Idx) :
    val_main_v7 (F := Ideal) c w i = rows c w (i 0) 1 (i 1) := by
  rw [val_main_v7_apply]
  unfold rows
  refine Finset.sum_congr rfl fun k _ => ?_
  rw [ref_act', val_main_v6_apply, val_main_v5_apply]
  have h0 : k.val < 1024 := k.isLt
  have h1 : (i 1).val < 2304 := (i 1).isLt
  refine congrArg₂ (fun x y : EReal => silu x * y) (congrArg c ?_) (congrArg w ?_)
  · funext a; fin_cases a <;> rfl
  · funext a
    fin_cases a
    · rfl
    · refine Fin.ext ?_
      show (k.val * 2304 + (i 1).val) / 2304 % 1024 = k.val
      omega
    · refine Fin.ext ?_
      show (k.val * 2304 + (i 1).val) % 2304 = (i 1).val
      omega

theorem ref (c : S8x1024.Idx → EReal) (w : S2x1024x2304.Idx → EReal) : val_main_v8 (F := Ideal) c w = both c w := by
  funext i
  have h1 : (i 1).val < 4608 := (i 1).isLt
  unfold val_main_v8 both
  by_cases h : (i 1).val < 2304
  · refine (concatenate_pair_apply_left (s₁ := S8x2304) (s₂ := S8x2304) 1 _ _ _ i rfl (ix2 (i 0) ⟨(i 1).val, h⟩)
      (fun a => by fin_cases a <;> rfl)).trans ((ref_first c w _).trans ?_)
    refine congrArg₂ (rows c w (i 0)) (Fin.ext ?_) (Fin.ext ?_)
    · show 0 = (i 1).val / 2304
      omega
    · show (i 1).val = (i 1).val % 2304
      omega
  · refine (concatenate_pair_apply_right (s₁ := S8x2304) (s₂ := S8x2304) 1 _ _ _ i rfl rfl (ix2 (i 0) ⟨(i 1).val - 2304, by omega⟩)
      (fun a ha => by fin_cases a <;> first | rfl | exact absurd rfl ha)
      (by show (i 1).val - 2304 + 2304 = (i 1).val; omega)).trans ((ref_second c w _).trans ?_)
    refine congrArg₂ (rows c w (i 0)) (Fin.ext ?_) (Fin.ext ?_)
    · show 1 = (i 1).val / 2304
      omega
    · show (i 1).val - 2304 = (i 1).val % 2304
      omega

end Reference

end Cert.Mod32

end
-- ==== Proof.LossRow.lean ====
/- The final norm with the loss, row by row: the kernel's formulas and the derivative's, equal on all rows. -/
module

public import proofs.«01_k».proof.Proof.ProjRow

@[expose] public section

noncomputable section

namespace Cert.Loss

open Idealize.ShloMosaic hiding inv
open Cert.Proj

/-! ## The constants -/

/-- One over the row width, as printed. -/
def perWidth : EReal := Ideal.ofBits .f32 0x3A800000#32
/-- One half over the row width, as printed. -/
def halfPerWidth : EReal := Ideal.ofBits .f32 0x3A000000#32
/-- One half, as printed. -/
def half : EReal := Ideal.ofBits .f32 0x3F000000#32
/-- The number two, as printed. -/
def two : EReal := Ideal.ofBits .f32 0x40000000#32

theorem perWidth_eq : perWidth = ((1 / 1024 : ℝ) : EReal) := by
  unfold perWidth
  simp [Ideal.ofBits, Ideal.ieee]
  rw [← EReal.coe_mul]
  norm_num
theorem halfPerWidth_eq : halfPerWidth = ((1 / 2048 : ℝ) : EReal) := by
  unfold halfPerWidth
  simp [Ideal.ofBits, Ideal.ieee]
  rw [← EReal.coe_mul]
  norm_num
theorem half_eq : half = ((1 / 2 : ℝ) : EReal) := by
  unfold half
  simp [Ideal.ofBits, Ideal.ieee]
  rw [← EReal.coe_mul]
  norm_num
theorem two_eq : two = ((2 : ℝ) : EReal) := by
  unfold two
  simp [Ideal.ofBits, Ideal.ieee]
  rw [← EReal.coe_mul]
  norm_num

/-! ## The formulas -/

/-- The normed row minus the target. -/
def err (x g t : Fin 1024 → EReal) (d : Fin 1024) : EReal := x d * inv x * g d - t d

/-- The gradient of the normed row. -/
def dOut (x g t : Fin 1024 → EReal) (d : Fin 1024) : EReal := err x g t d * perWidth

/-- The kernel's gradient of the row. -/
def dRow (x g t : Fin 1024 → EReal) (d : Fin 1024) : EReal :=
  inv x * (dOut x g t d * g d - x d * inv x * Ideal.div (∑ l : Fin 1024, dOut x g t l * g l * (x l * inv x)) width)

/-- The derivative through a row's mean square. -/
def through (x g h : Fin 1024 → EReal) : EReal :=
  Ideal.div ((∑ l : Fin 1024, x l * (h l * g l)) * (mhalf * Ideal.div (inv x) (var x))) width

/-! ## The formulas are the same -/

/-- A factor that is a real number of at least zero goes into a sum. -/
theorem sum_mul_coe {n : ℕ} (f : Fin n → EReal) {c : ℝ} (hc : 0 ≤ c) : (∑ a : Fin n, f a) * (c : EReal) = ∑ a : Fin n, f a * (c : EReal) := by
  induction n with
  | zero => simp
  | succ n ih =>
    rw [Fin.sum_univ_succ, Fin.sum_univ_succ, ← ih (fun a => f a.succ), mul_comm, EReal.left_distrib_of_nonneg_of_ne_top (by exact_mod_cast hc)
      (EReal.coe_ne_top c), mul_comm (c : EReal), mul_comm (c : EReal)]

theorem square_nonneg (a : EReal) : 0 ≤ a * a := by
  induction a with
  | bot => simp
  | top => simp
  | coe r => rw [← EReal.coe_mul]; exact_mod_cast mul_self_nonneg r

/-- A row's mean square with the small constant is infinite or a positive number. -/
theorem var_cases (x : Fin 1024 → EReal) : var x = ⊤ ∨ ∃ V : ℝ, 0 < V ∧ var x = (V : EReal) := by
  obtain ⟨e, he, hE⟩ := eps_pos
  unfold var
  rw [width_eq, Ideal.div_coe (by norm_num), hE]
  have h0 : 0 ≤ ∑ l : Fin 1024, x l * x l := Finset.sum_nonneg fun l _ => square_nonneg _
  generalize ∑ l : Fin 1024, x l * x l = s at h0
  induction s with
  | bot => exact absurd h0 (by simp)
  | top => exact .inl (by rw [EReal.top_mul_coe_of_pos (by norm_num), EReal.top_add_coe])
  | coe r =>
    have hr : 0 ≤ r := by exact_mod_cast h0
    exact .inr ⟨r * (1 / 1024) + e, by positivity, by rw [EReal.coe_add, EReal.coe_mul]⟩

/-- The derivative of the mean square of the error. -/
theorem dOut_eq (x g t : Fin 1024 → EReal) (d : Fin 1024) :
    Ideal.div (half * one) width * (two * err x g t d) = dOut x g t d := by
  unfold dOut
  rw [half_eq, one_eq, two_eq, perWidth_eq, width_eq, Ideal.div_coe (by norm_num), ← mul_assoc, ← EReal.coe_mul, ← EReal.coe_mul, ← EReal.coe_mul,
    mul_comm]
  congr 2
  norm_num

/-- The derivative of the normed row is the kernel's formula. -/
theorem dRow_eq (x g t : Fin 1024 → EReal) (d : Fin 1024) :
    dOut x g t d * g d * inv x + x d * through x g (dOut x g t) + through x g (dOut x g t) * x d = dRow x g t d := by
  unfold dRow through
  generalize dOut x g t = h
  rcases var_cases x with hv | ⟨V, hV, hv⟩
  · have hi : inv x = 0 := by unfold inv; rw [hv]; rfl
    have hd : Ideal.div 0 (⊤ : EReal) = 0 := by simp [Ideal.div]
    rw [hi, hv, hd, width_eq, Ideal.div_coe (by norm_num)]
    simp
  · have hi : ∃ R : ℝ, 0 ≤ R ∧ R * R = 1 / V ∧ inv x = (R : EReal) := by
      refine ⟨(Real.sqrt V)⁻¹, by positivity, ?_, ?_⟩
      · rw [← mul_inv, Real.mul_self_sqrt hV.le, one_div]
      · unfold inv
        rw [hv, Ideal.rsqrt_coe, if_neg (by linarith), if_neg hV.ne']
    obtain ⟨R, hR, hRR, hi⟩ := hi
    have hsum : ∑ l : Fin 1024, h l * g l * (x l * (R : EReal)) = (∑ l : Fin 1024, x l * (h l * g l)) * (R : EReal) := by
      rw [sum_mul_coe _ hR]
      exact Finset.sum_congr rfl fun l _ => by ac_rfl
    rw [hi, hv, hsum, width_eq, mhalf_eq, Ideal.div_coe hV.ne', Ideal.div_coe (by norm_num), Ideal.div_coe (by norm_num)]
    generalize ∑ l : Fin 1024, x l * (h l * g l) = S
    generalize h d * g d = y
    generalize x d = u
    have hk : ∀ k : ℝ, u * (S * (k : EReal)) + u * (S * (k : EReal)) = u * S * ((2 * k : ℝ) : EReal) := fun k => by
      have h2 : ((2 : ℝ) : EReal) = 1 + 1 := by norm_cast
      rw [EReal.coe_mul, h2, mul_left_comm (u * S), EReal.right_distrib_of_nonneg (by norm_num) (by norm_num), one_mul, mul_assoc]
    have e1 : S * (((-(1 / 2) : ℝ) : EReal) * ((R : EReal) * ((1 / V : ℝ) : EReal))) * ((1 / 1024 : ℝ) : EReal)
        = S * ((-(1 / 2) * (R * (1 / V)) * (1 / 1024) : ℝ) : EReal) := by
      simp only [EReal.coe_mul, mul_assoc]
    have e2 : u * (R : EReal) * (S * (R : EReal) * ((1 / 1024 : ℝ) : EReal)) = u * S * ((R * R * (1 / 1024) : ℝ) : EReal) := by
      simp only [EReal.coe_mul]
      ac_rfl
    rw [e1, e2, add_assoc, mul_comm (S * _) u, hk, sub_eq_add_neg, EReal.left_distrib_of_nonneg_of_ne_top (by exact_mod_cast hR) (EReal.coe_ne_top R),
      mul_comm y, ← mul_neg, ← EReal.coe_neg, mul_left_comm (R : EReal) (u * S), ← EReal.coe_mul]
    congr 3
    rw [← hRR]
    ring

/-- A column of the loss: the factor is inside the kernel's sums and outside the loss's. -/
theorem column_eq (f : Fin 16384 → EReal) : Ideal.div (half * ∑ t : Fin 16384, f t) width = ∑ t : Fin 16384, f t * halfPerWidth := by
  rw [halfPerWidth_eq, ← sum_mul_coe f (by norm_num), half_eq, width_eq, Ideal.div_coe (by norm_num), mul_comm (_ : EReal) (∑ t : Fin 16384, f t),
    mul_assoc, ← EReal.coe_mul]
  congr 2
  norm_num

/-- A block's part of a column of the loss. -/
theorem part_eq {n : ℕ} (f : Fin n → EReal) : (∑ a : Fin n, f a) * halfPerWidth = ∑ a : Fin n, f a * halfPerWidth := by
  rw [halfPerWidth_eq, sum_mul_coe f (by norm_num)]

end Cert.Loss

end
-- ==== Proof.Loss.lean ====
/- The final norm with the loss: the kernel's result arrays. Each grid step has 256 tokens; the gain's gradient and the columns of the
   loss are sums over all tokens, carried from one grid step to the next. -/
module

public import proofs.«01_k».proof.Proof.LossRow
public import proofs.«01_k».proof.Proof.ProjTile
public import proofs.«01_k».proof.Proof.Gen.Kernel33Ideal.Value
public import Idealize.ShloMosaic.Lib.Pipeline.ValueKit
public import Idealize.ShloMosaic.Lib.StableHlo.ReadAt

@[expose] public section

set_option maxRecDepth 16384
set_option backward.proofsInPublic true

noncomputable section

namespace Cert.Loss

open Cert.Kernel33Ideal Cert.Kernel33Ideal.Gen
open Idealize.ShloMosaic hiding ix1 ix2 ix3 ix4 ix5 inv
open Idealize.ShloMosaic.ValueIdx Idealize.ShloMosaic.TcCoe Idealize.SL.Sem
open Idealize.ShloMosaic.WordCmp hiding select_one select_zero
open Cert.Proj (one width inv)

/-! ## A tile of 256 rows -/

theorem inv_tile (x : Vec Ideal S256x1024 .f32) (a : Fin 256) : k0_pay5 x (ix2 a 0) = inv (fun l => x (ix2 a l)) :=
  Cert.Proj.inv_tile x a

theorem normed_tile (x : Vec Ideal S256x1024 .f32) (a : Fin 256) (d : Fin 1024) :
    k0_pay6 x (ix2 a d) = x (ix2 a d) * inv (fun l => x (ix2 a l)) :=
  Cert.Proj.normed_tile x a d

/-- A tile's row of the error. -/
theorem err_tile (x : Vec Ideal S256x1024 .f32) (g : Vec Ideal S1x1024 .f32) (t : Vec Ideal S256x1024 .f32) (a : Fin 256) (d : Fin 1024) :
    k0_pay7 x g t (ix2 a d) = err (fun l => x (ix2 a l)) (fun l => g (ix2 0 l)) (fun l => t (ix2 a l)) d := by
  unfold k0_pay7 err
  rw [shapeCast_id]
  exact congrArg₂ (fun p q : EReal => p * q - t (ix2 a d)) (normed_tile x a d) (Cert.Proj.row_bcast g a d)

theorem dOut_tile (x : Vec Ideal S256x1024 .f32) (g : Vec Ideal S1x1024 .f32) (t : Vec Ideal S256x1024 .f32) (a : Fin 256) (d : Fin 1024) :
    k0_pay8 x g t (ix2 a d) = dOut (fun l => x (ix2 a l)) (fun l => g (ix2 0 l)) (fun l => t (ix2 a l)) d := by
  unfold k0_pay8 dOut
  exact congrArg (fun p : EReal => p * perWidth) (err_tile x g t a d)

/-- A tile's row of the input's gradient. -/
theorem dx_tile (x : Vec Ideal S256x1024 .f32) (g : Vec Ideal S1x1024 .f32) (t : Vec Ideal S256x1024 .f32) (a : Fin 256) (d : Fin 1024) :
    k0_pay9 x g t g (ix2 a d) = dRow (fun l => x (ix2 a l)) (fun l => g (ix2 0 l)) (fun l => t (ix2 a l)) d := by
  unfold k0_pay9 dRow
  simp only [shapeCast_id]
  have hw : ∀ l : Fin 1024, mulf (k0_pay8 x g t) (broadcastTo S256x1024 g broadcasts_S1x1024_S256x1024) (ix2 a l)
      = dOut (fun l => x (ix2 a l)) (fun l => g (ix2 0 l)) (fun l => t (ix2 a l)) l * g (ix2 0 l) := fun l =>
    congrArg₂ (fun p q : EReal => p * q) (dOut_tile x g t a l) (Cert.Proj.row_bcast g a l)
  refine congrArg₂ (fun p q : EReal => p * q)
    ((Cert.Proj.col_bcast _ a d).trans (inv_tile x a)) (congrArg₂ (fun p q : EReal => p - q) (hw d)
      (congrArg₂ (fun p q : EReal => p * q) (normed_tile x a d) ((Cert.Proj.col_bcast _ a d).trans
        (congrArg (fun q : EReal => Ideal.div q width) ((Cert.Proj.rows_apply _ a).trans (Finset.sum_congr rfl fun l _ =>
          congrArg₂ (fun p q : EReal => p * q) (hw l) (normed_tile x a l)))))))

/-- A tile's part of the gain's gradient. -/
theorem gain_tile (x : Vec Ideal S256x1024 .f32) (g : Vec Ideal S1x1024 .f32) (t : Vec Ideal S256x1024 .f32) (p : Vec Ideal S1x1024 .f32)
    (d : Fin 1024) : k0_pay1 (k0_pay6 x) (k0_pay8 x g t) p (ix2 0 d)
      = p (ix2 0 d) + ∑ a : Fin 256, dOut (fun l => x (ix2 a l)) (fun l => g (ix2 0 l)) (fun l => t (ix2 a l)) d
        * (x (ix2 a d) * inv (fun l => x (ix2 a l))) := by
  unfold k0_pay1
  rw [shapeCast_id]
  refine congrArg (fun q : EReal => p (ix2 0 d) + q) ((Cert.Proj.cols_apply _ d).trans (Finset.sum_congr rfl fun a _ => ?_))
  exact congrArg₂ (fun p q : EReal => p * q) (dOut_tile x g t a d) (normed_tile x a d)

/-- A tile's part of a column of the loss. -/
theorem loss_tile (x : Vec Ideal S256x1024 .f32) (g : Vec Ideal S1x1024 .f32) (t : Vec Ideal S256x1024 .f32) (p : Vec Ideal S1x1024 .f32)
    (d : Fin 1024) : k0_pay2 (k0_pay7 x g t) p (ix2 0 d)
      = p (ix2 0 d) + ∑ a : Fin 256, err (fun l => x (ix2 a l)) (fun l => g (ix2 0 l)) (fun l => t (ix2 a l)) d
        * err (fun l => x (ix2 a l)) (fun l => g (ix2 0 l)) (fun l => t (ix2 a l)) d * halfPerWidth := by
  unfold k0_pay2
  rw [shapeCast_id, ← part_eq]
  refine congrArg (fun q : EReal => p (ix2 0 d) + q * halfPerWidth) ((Cert.Proj.cols_apply _ d).trans (Finset.sum_congr rfl fun a _ => ?_))
  exact congrArg₂ (fun p q : EReal => p * q) (err_tile x g t a d) (err_tile x g t a d)

theorem zero3_apply (d : Fin 1024) : k0_pay3 (F := Ideal) (ix2 0 d) = 0 := Ideal.ofBits_zero_f32
theorem zero4_apply (d : Fin 1024) : k0_pay4 (F := Ideal) (ix2 0 d) = 0 := Ideal.ofBits_zero_f32

/-! ## The results as functions of the arguments -/

/-- A token's row of an array. -/
def row (x : S16384x1024.Idx → EReal) (t : Fin 16384) (l : Fin 1024) : EReal := x (ix2 t l)
/-- The gain as a row. -/
def gain (g : S1024.Idx → EReal) (l : Fin 1024) : EReal := g (ix1 l)

/-- The gradient of the norm's input. -/
def resDx (x0 : S16384x1024.Idx → EReal) (x1 : S1024.Idx → EReal) (x2 : S16384x1024.Idx → EReal) (i : S16384x1024.Idx) : EReal :=
  dRow (row x0 (i 0)) (gain x1) (row x2 (i 0)) (i 1)
/-- A token's part of the gain's gradient. -/
def termG (x0 : S16384x1024.Idx → EReal) (x1 : S1024.Idx → EReal) (x2 : S16384x1024.Idx → EReal) (d : Fin 1024) (t : Fin 16384) : EReal :=
  dOut (row x0 t) (gain x1) (row x2 t) d * (row x0 t d * inv (row x0 t))
/-- A token's part of a column of the loss. -/
def termL (x0 : S16384x1024.Idx → EReal) (x1 : S1024.Idx → EReal) (x2 : S16384x1024.Idx → EReal) (d : Fin 1024) (t : Fin 16384) : EReal :=
  err (row x0 t) (gain x1) (row x2 t) d * err (row x0 t) (gain x1) (row x2 t) d * halfPerWidth
/-- The gain's gradient. -/
def resG (x0 : S16384x1024.Idx → EReal) (x1 : S1024.Idx → EReal) (x2 : S16384x1024.Idx → EReal) (i : S1x1024.Idx) : EReal :=
  ∑ t : Fin 16384, termG x0 x1 x2 (i 1) t
/-- The columns of the loss. -/
def resL (x0 : S16384x1024.Idx → EReal) (x1 : S1024.Idx → EReal) (x2 : S16384x1024.Idx → EReal) (i : S1x1024.Idx) : EReal :=
  ∑ t : Fin 16384, termL x0 x1 x2 (i 1) t

variable (m : (ℓ : Loc nD τ sig) → Buf (Elt Ideal) ℓ)

/-! ## The blocks that come in -/

theorem index0 : ∀ t : Fin grid0.N, (win0_0.index t = ![t.val, 0] ∧ win0_1.index t = ![t.val, 0] ∧ win0_2.index t = ![0, 0])
    ∧ win0_3.index t = ![t.val, 0] ∧ win0_4.index t = ![0, 0] ∧ win0_5.index t = ![0, 0] := by
  decide +kernel

theorem lt_rows (t : Fin cfg0.N) (a : Fin 256) : t.val * 256 + a.val < 16384 := by
  have := t.isLt; have : cfg0.N = 64 := N_0; omega

/-- The token of a grid step's row. -/
def tok (t : Fin cfg0.N) (a : Fin 256) : Fin 16384 := ⟨t.val * 256 + a.val, lt_rows t a⟩

/-- Point `t`'s blocks. -/
def xB (c : Dev nD) (t : Fin cfg0.N) : FVec Ideal S256x1024 .f32 := iblk m c 0 t
def tB (c : Dev nD) (t : Fin cfg0.N) : FVec Ideal S256x1024 .f32 := iblk m c 1 t
def gB (c : Dev nD) (t : Fin cfg0.N) : FVec Ideal S1x1024 .f32 := iblk m c 2 t

theorem iblk0 (c : Dev nD) (t : Fin cfg0.N) (a : Fin 256) (d : Fin 1024) : iblk m c 0 t (ix2 a d) = V m c main_arg0 (ix2 (tok t a) d) := by
  have e := (index0 t).1.1
  unfold iblk tok
  blk_ext [e]
theorem iblk1 (c : Dev nD) (t : Fin cfg0.N) (a : Fin 256) (d : Fin 1024) : iblk m c 1 t (ix2 a d) = V m c main_arg2 (ix2 (tok t a) d) := by
  have e := (index0 t).1.2.1
  unfold iblk tok
  blk_ext [e]
theorem iblk2 (c : Dev nD) (t : Fin cfg0.N) (d : Fin 1024) : iblk m c 2 t (ix2 0 d) = V m c main_v0 (ix2 (0 : Fin 1) d) := by
  have e := (index0 t).1.2.2
  unfold iblk
  blk_ext [e]

theorem V_v0 (c : Dev nD) (d : Fin 1024) : V m c main_v0 (ix2 (0 : Fin 1) d) = m ((c : Thread nD τ).loc main_arg1) (ix1 d) := by
  show StableHlo.after hostOps0 _ (Proc.devRef .tc main_v0) _ = _
  after_reads_at
  rfl

theorem x_row (c : Dev nD) (t : Fin cfg0.N) (a : Fin 256) : (fun l => xB m c t (ix2 a l)) = row (m ((c : Thread nD τ).loc main_arg0)) (tok t a) :=
  funext fun l => (iblk0 m c t a l).trans (congrFun (V_main_arg0 m c) _)
theorem t_row (c : Dev nD) (t : Fin cfg0.N) (a : Fin 256) : (fun l => tB m c t (ix2 a l)) = row (m ((c : Thread nD τ).loc main_arg2)) (tok t a) :=
  funext fun l => (iblk1 m c t a l).trans (congrFun (V_main_arg2 m c) _)
theorem g_row (c : Dev nD) (t : Fin cfg0.N) : (fun l => gB m c t (ix2 0 l)) = gain (m ((c : Thread nD τ).loc main_arg1)) :=
  funext fun l => (iblk2 m c t l).trans (V_v0 m c l)

/-! ## The grid steps' outputs -/

theorem o3 (c : Dev nD) (t : Fin cfg0.N) (a : Fin 256) (d : Fin 1024) : (outsAt0 m c t.val t.isLt).1 (ix2 a d)
    = resDx (m ((c : Thread nD τ).loc main_arg0)) (m ((c : Thread nD τ).loc main_arg1)) (m ((c : Thread nD τ).loc main_arg2)) (ix2 (tok t a) d) := by
  unfold resDx
  show _ = dRow (row _ (tok t a)) _ (row _ (tok t a)) d
  rw [← x_row, ← t_row, ← g_row m c t]
  by_cases h0 : t.val % 64 = 0
  · rw [outsAt0_A m c t h0]
    frame_out
    exact dx_tile _ _ _ a d
  · rw [outsAt0_B m c t h0]
    frame_out
    exact dx_tile _ _ _ a d

/-- A grid step's part of a sum over the tokens. -/
def part (f : Fin 16384 → EReal) (n : ℕ) : EReal := if h : n < cfg0.N then ∑ a : Fin 256, f (tok ⟨n, h⟩ a) else 0

theorem part_sum (f : Fin 16384 → EReal) : ∑ s ∈ Finset.range 64, part f s = ∑ t : Fin 16384, f t := by
  rw [Finset.sum_range]
  have hN : cfg0.N = 64 := N_0
  have e : ∀ s : Fin 64, part f s.val = ∑ a : Fin 256, f (tok ⟨s.val, by omega⟩ a) := fun s => dif_pos (by omega)
  simp only [e]
  exact Fin.sum_mul_add_congr fun s l hl => rfl

theorem part_gain (c : Dev nD) (d : Fin 1024) (t : Fin cfg0.N) :
    ∑ a : Fin 256, dOut (fun l => xB m c t (ix2 a l)) (fun l => gB m c t (ix2 0 l)) (fun l => tB m c t (ix2 a l)) d
        * (xB m c t (ix2 a d) * inv (fun l => xB m c t (ix2 a l)))
      = part (termG (m ((c : Thread nD τ).loc main_arg0)) (m ((c : Thread nD τ).loc main_arg1)) (m ((c : Thread nD τ).loc main_arg2)) d) t.val := by
  rw [part, dif_pos t.isLt]
  refine Finset.sum_congr rfl fun a _ => ?_
  have e := congrFun (x_row m c t a) d
  rw [x_row, t_row, g_row]
  exact congrArg (fun q : EReal => _ * (q * _)) e

theorem part_loss (c : Dev nD) (d : Fin 1024) (t : Fin cfg0.N) :
    ∑ a : Fin 256, err (fun l => xB m c t (ix2 a l)) (fun l => gB m c t (ix2 0 l)) (fun l => tB m c t (ix2 a l)) d
        * err (fun l => xB m c t (ix2 a l)) (fun l => gB m c t (ix2 0 l)) (fun l => tB m c t (ix2 a l)) d * halfPerWidth
      = part (termL (m ((c : Thread nD τ).loc main_arg0)) (m ((c : Thread nD τ).loc main_arg1)) (m ((c : Thread nD τ).loc main_arg2)) d) t.val := by
  rw [part, dif_pos t.isLt]
  refine Finset.sum_congr rfl fun a _ => ?_
  rw [x_row, t_row, g_row]
  rfl

/-- The carried sum of the gain's gradient. -/
theorem o4 (c : Dev nD) (d : Fin 1024) : ∀ (n : ℕ) (h : n < cfg0.N), (outsAt0 m c n h).2.1 (ix2 0 d)
    = ∑ s ∈ Finset.range (n + 1),
      part (termG (m ((c : Thread nD τ).loc main_arg0)) (m ((c : Thread nD τ).loc main_arg1)) (m ((c : Thread nD τ).loc main_arg2)) d) s
  | 0, h => by
    rw [outsAt0_A m c ⟨0, h⟩ rfl]
    frame_out
    rw [Finset.sum_range_one, ← part_gain m c d ⟨0, h⟩, gain_tile, zero3_apply, zero_add]
    rfl
  | n + 1, h => by
    have := o4 c d n (by omega)
    have hN : cfg0.N = 64 := N_0
    rw [outsAt0_B m c ⟨n + 1, h⟩ (by show ¬(n + 1) % 64 = 0; omega)]
    frame_out
    rw [Finset.sum_range_succ, ← this, ← part_gain m c d ⟨n + 1, h⟩, gain_tile]
    rfl

/-- The carried sum of the loss's columns. -/
theorem o5 (c : Dev nD) (d : Fin 1024) : ∀ (n : ℕ) (h : n < cfg0.N), (outsAt0 m c n h).2.2 (ix2 0 d)
    = ∑ s ∈ Finset.range (n + 1),
      part (termL (m ((c : Thread nD τ).loc main_arg0)) (m ((c : Thread nD τ).loc main_arg1)) (m ((c : Thread nD τ).loc main_arg2)) d) s
  | 0, h => by
    rw [outsAt0_A m c ⟨0, h⟩ rfl]
    frame_out
    rw [Finset.sum_range_one, ← part_loss m c d ⟨0, h⟩, loss_tile, zero4_apply, zero_add]
    rfl
  | n + 1, h => by
    have := o5 c d n (by omega)
    have hN : cfg0.N = 64 := N_0
    rw [outsAt0_B m c ⟨n + 1, h⟩ (by show ¬(n + 1) % 64 = 0; omega)]
    frame_out
    rw [Finset.sum_range_succ, ← this, ← part_loss m c d ⟨n + 1, h⟩, loss_tile]
    rfl

/-! ## The result arrays -/

theorem block3 (c : Dev nD) (t : Fin cfg0.N) (y : S256x1024.Idx) (i : S16384x1024.Idx) (h0 : (i 0).val = t.val * 256 + (y 0).val)
    (h1 : (i 1).val = (y 1).val) : (outsAt0 m c t.val t.isLt).1 y
      = resDx (m ((c : Thread nD τ).loc main_arg0)) (m ((c : Thread nD τ).loc main_arg1)) (m ((c : Thread nD τ).loc main_arg2)) i := by
  have ey : y = ix2 (y 0) (y 1) := by funext a; fin_cases a <;> rfl
  have ei : ix2 (tok t (y 0)) (y 1) = i := by
    funext a
    fin_cases a
    · exact Fin.ext h0.symm
    · exact Fin.ext h1.symm
  exact (congrArg (outsAt0 m c t.val t.isLt).1 ey).trans ((o3 m c t (y 0) (y 1)).trans (congrArg _ ei))

/-- The gradient of the norm's input. -/
theorem final3 (c : Dev nD) : (dats m 0 c).arrAt 3 cfg0.N
    = resDx (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := (index0 t).2.1
  blk_simp [e]
  rw [after0_3]
  refine block3 m c t y ((win0_3.blk t).view.emb y) ?_ ?_
  · blk_simp [e]
  · blk_simp [e]

theorem last (t : Fin cfg0.N) (h : t.val % 64 = 63) : t.val = 63 := by
  have := t.isLt; have : cfg0.N = 64 := N_0; omega

theorem idx_vec (y : S1x1024.Idx) : y = ix2 (0 : Fin 1) (y 1) := by
  funext a
  fin_cases a
  · exact Fin.ext (by have h : (y 0).val < 1 := (y 0).isLt; show (y 0).val = 0; omega)
  · rfl

theorem block4 (c : Dev nD) (t : Fin cfg0.N) (ht : t.val = 63) (y i : S1x1024.Idx) (h1 : (i 1).val = (y 1).val) :
    (outsAt0 m c t.val t.isLt).2.1 y
      = resG (m ((c : Thread nD τ).loc main_arg0)) (m ((c : Thread nD τ).loc main_arg1)) (m ((c : Thread nD τ).loc main_arg2)) i := by
  have e1 : i 1 = y 1 := Fin.ext h1
  unfold resG
  rw [e1, ← part_sum]
  refine (congrArg (outsAt0 m c t.val t.isLt).2.1 (idx_vec y)).trans ((o4 m c (y 1) t.val t.isLt).trans ?_)
  rw [ht]

theorem block5 (c : Dev nD) (t : Fin cfg0.N) (ht : t.val = 63) (y i : S1x1024.Idx) (h1 : (i 1).val = (y 1).val) :
    (outsAt0 m c t.val t.isLt).2.2 y
      = resL (m ((c : Thread nD τ).loc main_arg0)) (m ((c : Thread nD τ).loc main_arg1)) (m ((c : Thread nD τ).loc main_arg2)) i := by
  have e1 : i 1 = y 1 := Fin.ext h1
  unfold resL
  rw [e1, ← part_sum]
  refine (congrArg (outsAt0 m c t.val t.isLt).2.2 (idx_vec y)).trans ((o5 m c (y 1) t.val t.isLt).trans ?_)
  rw [ht]

/-- The gain's gradient. -/
theorem final4 (c : Dev nD) : (dats m 0 c).arrAt 4 cfg0.N
    = resG (m ((c : Thread nD τ).loc main_arg0)) (m ((c : Thread nD τ).loc main_arg1)) (m ((c : Thread nD τ).loc main_arg2)) := by
  refine (dats m 0 c).arrAt_eq_of_covers 4 _ (by decide +kernel) fun t hf y => ?_
  have e := (index0 t).2.2.1
  blk_simp [e]
  rw [after0_4]
  refine block4 m c t (last t ((flush0_4 t).mp hf)) y ((win0_4.blk t).view.emb y) ?_
  · blk_simp [e]

/-- The loss's columns. -/
theorem final5 (c : Dev nD) : (dats m 0 c).arrAt 5 cfg0.N
    = resL (m ((c : Thread nD τ).loc main_arg0)) (m ((c : Thread nD τ).loc main_arg1)) (m ((c : Thread nD τ).loc main_arg2)) := by
  refine (dats m 0 c).arrAt_eq_of_covers 5 _ (by decide +kernel) fun t hf y => ?_
  have e := (index0 t).2.2.2
  blk_simp [e]
  rw [after0_5]
  refine block5 m c t (last t ((flush0_5 t).mp hf)) y ((win0_5.blk t).view.emb y) ?_
  · blk_simp [e]

end Cert.Loss

end
-- ==== Proof.RefLoss.lean ====
/- The final norm with the loss: the reference's result arrays, equal to the kernel's on all arguments. -/
module

public import proofs.«01_k».proof.Proof.Loss
public import proofs.«01_k».proof.Proof.RefProj
public import proofs.«01_k».proof.Proof.Gen.Reference33Ideal.Run
public import proofs.«01_k».proof.Proof.Gen.Reference33Ideal.Read

@[expose] public section

set_option maxRecDepth 16384

noncomputable section

namespace Cert.Loss

open Cert.Reference33Ideal Cert.Reference33Ideal.Gen Cert.Reference33Ideal.Read
open Idealize.ShloMosaic hiding ix1 ix2 ix3 ix4 ix5 inv
open Idealize.ShloMosaic.ValueIdx Idealize.ShloMosaic.TcCoe Idealize.SL.Sem
open Cert.Proj (one width eps mhalf inv var)

variable (x0 : S16384x1024.Idx → EReal) (x1 : S1024.Idx → EReal) (x2 : S16384x1024.Idx → EReal)

/-! ## The reference's steps, element by element -/

theorem v6_at (i : S16384x1.Idx) : val_main_v6 (F := Ideal) x0 i = var (row x0 (i 0)) := by
  rw [val_main_v6_apply, val_main_v4_apply, val_main_v2_apply, val_main_v1_apply, val_main_v3_apply, val_main_v5_apply,
    val_main_cst_0_apply, val_main_cst_1_apply, val_main_cst_apply]
  refine congrArg₂ (fun p q : EReal => Ideal.div p width + q) ?_ rfl
  refine (congrArg₂ (fun p q : EReal => p + q) Ideal.ofBits_zero_f32 (Finset.sum_congr rfl fun k _ => ?_)).trans (zero_add _)
  rw [val_main_v0_apply]
  refine congrArg (fun j => x0 j * x0 j) ?_
  funext a; fin_cases a <;> rfl

theorem v7_at (i : S16384x1.Idx) : val_main_v7 (F := Ideal) x0 i = inv (row x0 (i 0)) := by
  rw [val_main_v7_apply, v6_at]; rfl

theorem v10_at (i : S16384x1.Idx) : val_main_v10 (F := Ideal) x0 i = mhalf * Ideal.div (inv (row x0 (i 0))) (var (row x0 (i 0))) := by
  rw [val_main_v10_apply, val_main_v8_apply, val_main_v9_apply, val_main_cst_2_apply, v7_at, v6_at]; rfl

theorem v12_at (t : Fin 16384) (d : Fin 1024) : val_main_v12 (F := Ideal) x0 (ix2 t d) = row x0 t d * inv (row x0 t) := by
  rw [val_main_v12_apply, val_main_v11_apply, v7_at]; rfl

theorem v14_at (t : Fin 16384) (d : Fin 1024) : val_main_v14 (F := Ideal) x1 (ix2 t d) = gain x1 d := by
  rw [val_main_v14_apply, val_main_v13_apply]
  refine congrArg x1 ?_
  funext a; fin_cases a; rfl

theorem v34_at (t : Fin 16384) (d : Fin 1024) : val_main_v34 (F := Ideal) x1 (ix2 t d) = gain x1 d := by
  rw [val_main_v34_apply, val_main_v13_apply]
  refine congrArg x1 ?_
  funext a; fin_cases a; rfl

theorem v16_at (t : Fin 16384) (d : Fin 1024) : val_main_v16 (F := Ideal) x0 x1 x2 (ix2 t d) = err (row x0 t) (gain x1) (row x2 t) d := by
  rw [val_main_v16_apply, val_main_v15_apply, v12_at, v14_at]; rfl

theorem v30_at (t : Fin 16384) (d : Fin 1024) : val_main_v30 (F := Ideal) x0 x1 x2 (ix2 t d) = dOut (row x0 t) (gain x1) (row x2 t) d := by
  rw [val_main_v30_apply, val_main_v29_apply, val_main_v28_apply, val_main_v26_apply, val_main_v25_apply, val_main_cst_8_apply,
    val_main_cst_9_apply, val_main_v27_apply, val_main_cst_10_apply, val_main_v19_apply, val_main_v18_apply, val_main_cst_3_apply, v16_at]
  exact dOut_eq (row x0 t) (gain x1) (row x2 t) d

theorem v35_at (t : Fin 16384) (d : Fin 1024) : val_main_v35 (F := Ideal) x0 x1 x2 (ix2 t d)
    = dOut (row x0 t) (gain x1) (row x2 t) d * gain x1 d := by
  rw [val_main_v35_apply, v30_at, v34_at]; rfl

theorem v46_at (t : Fin 16384) (d : Fin 1024) : val_main_v46 (F := Ideal) x0 x1 x2 (ix2 t d)
    = through (row x0 t) (gain x1) (dOut (row x0 t) (gain x1) (row x2 t)) := by
  rw [val_main_v46_apply, val_main_v45_apply, val_main_cst_15_apply]
  refine (congrArg₂ (fun p q : EReal => p + q) Ideal.ofBits_zero_f32 (Fin.sum_univ_one _)).trans ((zero_add _).trans ?_)
  rw [val_main_v44_apply, val_main_v43_apply, val_main_cst_14_apply, val_main_v42_apply, v10_at, val_main_v39_apply, val_main_v38_apply,
    val_main_cst_13_apply]
  unfold through
  refine congrArg (fun p : EReal => Ideal.div (p * _) width) ?_
  refine (congrArg₂ (fun p q : EReal => p + q) Ideal.ofBits_zero_f32 (Finset.sum_congr rfl fun k _ => ?_)).trans (zero_add _)
  refine Eq.trans (congrArg (val_main_v37 (F := Ideal) x0 x1 x2) (show _ = ix2 t k from ?_)) ?_
  · funext a
    fin_cases a
    · exact Fin.ext (by show t.val * 1 + 0 = t.val; omega)
    · rfl
  · rw [val_main_v37_apply, v35_at]; rfl

theorem v50_at (t : Fin 16384) (d : Fin 1024) : val_main_v50 (F := Ideal) x0 x1 x2 (ix2 t d) = resDx x0 x1 x2 (ix2 t d) := by
  rw [val_main_v50_apply, val_main_v48_apply, val_main_v41_apply, v35_at, val_main_v40_apply, v7_at, val_main_v47_apply,
    val_main_v49_apply, v46_at]
  exact dRow_eq (row x0 t) (gain x1) (row x2 t) d

/-- The gradient of the norm's input. -/
theorem ref50 : val_main_v50 (F := Ideal) x0 x1 x2 = resDx x0 x1 x2 := by
  funext i
  have ei : i = ix2 (i 0) (i 1) := by funext a; fin_cases a <;> rfl
  exact (congrArg (val_main_v50 (F := Ideal) x0 x1 x2) ei).trans ((v50_at x0 x1 x2 (i 0) (i 1)).trans (congrArg (resDx x0 x1 x2) ei.symm))

theorem v32_at (d : Fin 1024) : val_main_v32 (F := Ideal) x0 x1 x2 (ix1 d) = ∑ t : Fin 16384, termG x0 x1 x2 d t := by
  rw [val_main_v32_apply, val_main_cst_11_apply]
  refine (congrArg₂ (fun p q : EReal => p + q) Ideal.ofBits_zero_f32 (Finset.sum_congr rfl fun t _ => ?_)).trans (zero_add _)
  refine Eq.trans (congrArg (val_main_v31 (F := Ideal) x0 x1 x2) (show _ = ix2 t d from ?_)) ?_
  · funext a; fin_cases a <;> rfl
  · rw [val_main_v31_apply, v12_at, v30_at]
    exact mul_comm (_ : EReal) _

/-- The gain's gradient. -/
theorem ref51 : val_main_v51 (F := Ideal) x0 x1 x2 = resG x0 x1 x2 := by
  funext i
  rw [val_main_v51_apply]
  refine (Cert.Proj.row_of (val_main_v36 (F := Ideal) x0 x1 x2) i _ rfl).trans ?_
  rw [val_main_v36_apply, val_main_cst_12_apply]
  refine (congrArg₂ (fun p q : EReal => p + q) Ideal.ofBits_zero_f32 (Fin.sum_univ_one _)).trans ((zero_add _).trans ?_)
  rw [val_main_v33_apply]
  refine (congrArg (val_main_v32 (F := Ideal) x0 x1 x2) (show _ = ix1 (i 1) from ?_)).trans (v32_at x0 x1 x2 (i 1))
  funext a; fin_cases a; exact Fin.ext (by show 0 * 1024 + (i 1).val = (i 1).val; omega)

theorem v67_at (d : Fin 1024) : val_main_v67 (F := Ideal) x0 x1 x2 (ix1 d)
    = ∑ t : Fin 16384, err (row x0 t) (gain x1) (row x2 t) d * err (row x0 t) (gain x1) (row x2 t) d := by
  rw [val_main_v67_apply, val_main_cst_19_apply]
  refine (congrArg₂ (fun p q : EReal => p + q) Ideal.ofBits_zero_f32 (Finset.sum_congr rfl fun t _ => ?_)).trans (zero_add _)
  refine Eq.trans (congrArg (val_main_v66 (F := Ideal) x0 x1 x2) (show _ = ix2 t d from ?_)) ?_
  · funext a; fin_cases a <;> rfl
  · rw [val_main_v66_apply, show val_main_v65 (F := Ideal) x0 x1 x2 = val_main_v16 (F := Ideal) x0 x1 x2 from rfl, v16_at]; rfl

/-- The columns of the loss. -/
theorem ref72 : val_main_v72 (F := Ideal) x0 x1 x2 = resL x0 x1 x2 := by
  funext i
  rw [val_main_v72_apply, val_main_v71_apply, val_main_cst_21_apply, val_main_v70_apply, val_main_v69_apply, val_main_cst_20_apply,
    val_main_v68_apply]
  have e := (congrArg (val_main_v67 (F := Ideal) x0 x1 x2) (show idx_main_v68 i = ix1 (i 1) from by funext a; fin_cases a; rfl)).trans
    (v67_at x0 x1 x2 (i 1))
  rw [e]
  exact column_eq fun t => err (row x0 t) (gain x1) (row x2 t) (i 1) * err (row x0 t) (gain x1) (row x2 t) (i 1)

end Cert.Loss

end
-- ==== Proof.lean ====
module

public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Pre_finite5
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4Ideal.Value
public import proofs.«01_k».proof.Proof.Gen.Kernel4.Frame
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Read
public import proofs.«01_k».proof.Proof.Gen.ReferenceIdeal.Run
public import proofs.«01_k».proof.Proof.KernelRun
public import proofs.«01_k».proof.Proof.Finite
public import proofs.«01_k».proof.Proof.RefDwd
public import proofs.«01_k».proof.Proof.RefFfn
public import proofs.«01_k».proof.Proof.RefDwg
public import proofs.«01_k».proof.Proof.RefProj
public import proofs.«01_k».proof.Proof.Mix6
public import proofs.«01_k».proof.Proof.Mix7
public import proofs.«01_k».proof.Proof.Ffn8
public import proofs.«01_k».proof.Proof.Ffn9
public import proofs.«01_k».proof.Proof.Ffn10
public import proofs.«01_k».proof.Proof.Dwd11
public import proofs.«01_k».proof.Proof.Dwd12
public import proofs.«01_k».proof.Proof.Dwd13
public import proofs.«01_k».proof.Proof.Dwg14
public import proofs.«01_k».proof.Proof.Dwg15
public import proofs.«01_k».proof.Proof.Dwg16
public import proofs.«01_k».proof.Proof.Out17
public import proofs.«01_k».proof.Proof.Out18
public import Idealize.ShloMosaic.Adequacy
public import Idealize.ShloMosaic.Init
public import proofs.«01_k».proof.Proof.AdamBig
public import proofs.«01_k».proof.Proof.AdamSmall
public import proofs.«01_k».proof.Proof.Mod
public import proofs.«01_k».proof.Proof.RefLoss
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Reference33Ideal.Read

@[expose] public section

noncomputable section

namespace Cert.Proof

open Idealize.ShloMosaic Idealize.ShloMosaic.TcCoe Idealize.SL.Sem Cert.Attn

/-- The kernel's frame. -/
theorem frame_p : Cert.quiescent_Kernel := fun m ρ _ => Cert.Kernel.Gen.frame m ρ

/-- The ideal kernel's frame. -/
theorem frame_pi : Cert.quiescent_KernelIdeal := fun m ρ _ => Cert.KernelIdeal.Gen.frame m ρ

/-- The ideal kernel's frame under the precondition. -/
theorem frame_pi_finite : Cert.quiescent_KernelIdeal_pre_finite := fun m ρ _ => Cert.KernelIdeal.Gen.frame m ρ

/-- The reference leaves its arguments as they were; it has no semaphores. -/
theorem frame_r : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same under the precondition. -/
theorem frame_r_finite : Cert.quiescent_ReferenceIdeal_pre_finite := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The mask's named constant. -/
theorem preserves : Cert.preserves_Kernel_KernelIdeal := IdealRules.named_const.statement _ _ _ _ _ rfl

/-- The kernel's results are the reference's. -/
theorem algebraic : Cert.algebraic_KernelIdeal_ReferenceIdeal_pre_finite := by
  intro m ρ m' ρ' hpre hargs
  refine ⟨fun c => Cert.KernelIdeal.Gen.W4 m ρ c (Proc.devRef .tc Cert.KernelIdeal.main_v44_0),
    fun c => Cert.KernelIdeal.Gen.W4 m ρ c (Proc.devRef .tc Cert.KernelIdeal.main_v44_1),
    fun c => Cert.KernelIdeal.Gen.W4 m ρ c (Proc.devRef .tc Cert.KernelIdeal.main_v44_2), ?_, ?_⟩
  · refine (θ_run Cert.KernelIdeal.defs _ _).mono (fun r h c => ?_) (kernel_run m ρ)
    obtain ⟨h0, h1, h2, ha⟩ := h c
    exact ⟨h0, h1, h2, ha _ (by decide), ha _ (by decide), ha _ (by decide), ha _ (by decide), ha _ (by decide), ha _ (by decide),
      ha _ (by decide), ha _ (by decide)⟩
  · refine (θ_run Cert.ReferenceIdeal.defs _ _).mono (fun r h c => ?_) (Cert.ReferenceIdeal.Value.run (F := Ideal) m' ρ')
    obtain ⟨r0, r1, r2, r3, r4, r5, r6, r7⟩ := reals_of_finite (hpre c)
    obtain ⟨a0, a1, a2, a3, a4, a5, a6, a7⟩ := hargs c
    obtain ⟨h0, h1, h2, ha⟩ := h c
    have H : Args m c _ _ _ _ _ _ _ _ := ⟨arg3_rows r0, arg3_rows r1, arg3_rows r2, arg3_rows r3, arg2_rows r4, arg3_rows r5, arg2_rows r6,
      arg3_rows r7⟩
    have t0 := tok3_of a0 H.q
    have t1 := tok3_of a1 H.k
    have t2 := tok3_of a2 H.v
    have t3 := tok3_of a3 H.oa
    have t4 := tok2_of a4 H.la
    have t5 := tok3_of a5 H.ob
    have t6 := tok2_of a6 H.lb
    have t7 := tok3_of a7 H.d
    refine ⟨h0.trans ?_, h1.trans ?_, h2.trans ?_, ha⟩
    · refine (Cert.ReferenceIdeal.Read.val_main_v219_eq (F := Ideal) _).trans (funext fun i => ?_)
      exact (v219_at t0 t1 t2 t3 t4 t5 t6 t7 (flat_rows _) (flat_rows _) i).trans (w4_dq ρ H i).symm
    · refine (Cert.ReferenceIdeal.Read.val_main_v220_eq (F := Ideal) _).trans (funext fun i => ?_)
      exact (v220_at t0 t1 t2 t3 t4 t5 t6 t7 (flat_rows _) (flat_rows _) i).trans (w4_dk ρ H i).symm
    · refine (Cert.ReferenceIdeal.Read.val_main_v222_eq (F := Ideal) _).trans (funext fun i => ?_)
      exact (v222_at t0 t1 t4 t6 t7 i).trans (w4_dv ρ H i).symm

/-- The frames of the down projection's weight gradient. -/
theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The down projection's weight gradient is the reference's. -/
theorem algebraic3 : Cert.algebraic_Kernel3Ideal_Reference3Ideal := by
  intro m ρ m' ρ' _ hargs
  refine ⟨fun c => (Cert.Kernel3Ideal.Gen.dats m 0 c).arrAt 3 Cert.Kernel3Ideal.cfg0.N,
    Cert.Kernel3Ideal.Value.run_blocks m ρ, ?_⟩
  refine (θ_run Cert.Reference3Ideal.defs _ _).mono (fun r h c => ?_) (Cert.Reference3Ideal.Value.run (F := Ideal) m' ρ')
  obtain ⟨h0, ha⟩ := h c
  obtain ⟨a0, a1, a2, a3⟩ := hargs c
  refine ⟨h0.trans ?_, ha⟩
  refine (Cert.Reference3Ideal.Read.val_main_v7_eq (F := Ideal) _ _ _ _).trans ((Cert.Dwd.ref_into _ _ _ _).trans ?_)
  exact (congr (congr (congr (congrArg Cert.Dwd.into a0) a1) a2) a3).trans (Cert.Dwd.final m c).symm

/-- The frames of the gate projection's weight gradient. -/
theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gate projection's weight gradient is the reference's. -/
theorem algebraic4 : Cert.algebraic_Kernel4Ideal_Reference4Ideal := by
  intro m ρ m' ρ' _ hargs
  refine ⟨fun c => (Cert.Kernel4Ideal.Gen.dats m 0 c).arrAt 2 Cert.Kernel4Ideal.cfg0.N,
    Cert.Kernel4Ideal.Value.run_blocks m ρ, ?_⟩
  refine (θ_run Cert.Reference4Ideal.defs _ _).mono (fun r h c => ?_) (Cert.Reference4Ideal.Value.run (F := Ideal) m' ρ')
  obtain ⟨h0, ha⟩ := h c
  obtain ⟨a0, a1, a2⟩ := hargs c
  refine ⟨h0.trans ?_, ha⟩
  refine (Cert.Reference4Ideal.Read.val_main_v7_eq (F := Ideal) _ _ _).trans ((Cert.Dwg.ref_into _ _ _).trans ?_)
  exact (congr (congr (congrArg Cert.Dwg.into a0) a1) a2).trans (Cert.Dwg.final m c).symm

/-- The frames of the forward block. -/
theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_r2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The forward block's five results are the same functions of the arguments as the reference's. -/
theorem algebraic2 : Cert.algebraic_Kernel2Ideal_Reference2Ideal := by
  intro m ρ m' ρ' _ hargs
  refine ⟨fun c => (Cert.Kernel2Ideal.Gen.dats m 0 c).arrAt 20 Cert.Kernel2Ideal.cfg0.N,
    fun c => (Cert.Kernel2Ideal.Gen.dats m 0 c).arrAt 17 Cert.Kernel2Ideal.cfg0.N,
    fun c => (Cert.Kernel2Ideal.Gen.dats m 0 c).arrAt 18 Cert.Kernel2Ideal.cfg0.N,
    fun c => (Cert.Kernel2Ideal.Gen.dats m 0 c).arrAt 19 Cert.Kernel2Ideal.cfg0.N,
    fun c => (Cert.Kernel2Ideal.Gen.dats m 0 c).arrAt 21 Cert.Kernel2Ideal.cfg0.N, ?_, ?_⟩
  · refine (θ_run Cert.Kernel2Ideal.defs _ _).mono (fun r h c => ?_) (Cert.Kernel2Ideal.Value.run_blocks m ρ)
    obtain ⟨h17, h18, h19, h20, h21, ha⟩ := h c
    exact ⟨h20, h17, h18, h19, h21, ha⟩
  · refine (θ_run Cert.Reference2Ideal.defs _ _).mono (fun r h c => ?_) (Cert.Reference2Ideal.Value.run (F := Ideal) m' ρ')
    obtain ⟨h34, h35, h38, h41, h42, ha⟩ := h c
    obtain ⟨a0, a1, a2, a3, a4, a5, a6, a7⟩ := hargs c
    refine ⟨h34.trans ?_, h35.trans ?_, h38.trans ?_, h41.trans ?_, h42.trans ?_, ha⟩
    · refine (Cert.Reference2Ideal.Read.val_main_v34_eq (F := Ideal) m' c).trans ((Cert.Ffn.ref20 _ _ _ _ _ _ _ _).trans ?_)
      refine Eq.trans ?_ (Cert.Ffn.final20 m c).symm
      exact congrArg (fun (R : Fin 16384 → Fin 1024 → EReal) (i : Cert.Kernel2Ideal.S16384x1024.Idx) => R (i 0) (i 1)) (congr (congr (congr (congr (congr (congr (congr (congrArg Cert.Ffn.resStep a0) a1) a2) a3) a4) a5) a6) a7)
    · refine (Cert.Reference2Ideal.Read.val_main_v35_eq (F := Ideal) _ _ _ _).trans ((Cert.Ffn.ref17 _ _ _ _).trans ?_)
      refine Eq.trans ?_ (Cert.Ffn.final17 m c).symm
      exact congrArg (fun (R : Fin 16384 → Fin 1024 → EReal) (i : Cert.Kernel2Ideal.S16384x1024.Idx) => R (i 0) (i 1)) (congr (congr (congr (congrArg Cert.Ffn.rowH a0) a1) a2) a3)
    · refine (Cert.Reference2Ideal.Read.val_main_v38_eq (F := Ideal) _ _ _ _ _).trans ((Cert.Ffn.ref18 _ _ _ _ _).trans ?_)
      refine Eq.trans ?_ (Cert.Ffn.final18 m c).symm
      exact congrArg (fun (R : Fin 4 → Fin 16384 → Fin 704 → EReal) (i : Cert.Kernel2Ideal.S4x16384x704.Idx) => R (i 0) (i 1) (i 2)) (congr (congr (congr (congr (congrArg Cert.Ffn.resUp a0) a1) a2) a3) a5)
    · refine (Cert.Reference2Ideal.Read.val_main_v41_eq (F := Ideal) _ _ _ _ _).trans ((Cert.Ffn.ref19 _ _ _ _ _).trans ?_)
      refine Eq.trans ?_ (Cert.Ffn.final19 m c).symm
      exact congrArg (fun (R : Fin 4 → Fin 16384 → Fin 704 → EReal) (i : Cert.Kernel2Ideal.S4x16384x704.Idx) => R (i 0) (i 1) (i 2)) (congr (congr (congr (congr (congrArg Cert.Ffn.resUp a0) a1) a2) a3) a6)
    · refine (Cert.Reference2Ideal.Read.val_main_v42_eq (F := Ideal) m' c).trans ((Cert.Ffn.ref21 _ _ _ _ _ _ _).trans ?_)
      refine Eq.trans ?_ (Cert.Ffn.final21 m c).symm
      exact congrArg (fun (R : Fin 16384 → Fin 1024 → EReal) (i : Cert.Kernel2Ideal.S16384x1024.Idx) => R (i 0) (i 1)) (congr (congr (congr (congr (congr (congr (congrArg Cert.Ffn.resDown a0) a1) a2) a3) a5) a6) a7)

/-- The frames of the input projection's backward pass. -/
theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_pi5_finite : Cert.quiescent_Kernel5Ideal_pre_finite5 := fun m ρ _ => Cert.Kernel5Ideal.Gen.frame m ρ
theorem frame_r5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)
theorem frame_r5_finite : Cert.quiescent_Reference5Ideal_pre_finite5 := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The four gradients of the input projection's backward pass are the reference's. -/
theorem algebraic5 : Cert.algebraic_Kernel5Ideal_Reference5Ideal_pre_finite5 := by
  intro m ρ m' ρ' hpre hargs
  refine ⟨fun c => (Cert.Kernel5Ideal.Gen.dats m 0 c).arrAt 10 Cert.Kernel5Ideal.cfg0.N,
    fun c => (Cert.Kernel5Ideal.Gen.dats m 0 c).arrAt 11 Cert.Kernel5Ideal.cfg0.N,
    fun c => (Cert.Kernel5Ideal.Gen.dats m 0 c).arrAt 12 Cert.Kernel5Ideal.cfg0.N,
    fun c => (Cert.Kernel5Ideal.Gen.dats m 0 c).arrAt 13 Cert.Kernel5Ideal.cfg0.N, Cert.Kernel5Ideal.Value.run_blocks m ρ, ?_⟩
  refine (θ_run Cert.Reference5Ideal.defs _ _).mono (fun r h c => ?_) (Cert.Reference5Ideal.Value.run (F := Ideal) m' ρ')
  obtain ⟨r0, r1, r2, r3, r4, r5, r6⟩ := Cert.Proj.reals_of_finite5 (hpre c)
  obtain ⟨a0, a1, a2, a3, a4, a5, a6⟩ := hargs c
  obtain ⟨h53, h54, h30, h27, ha⟩ := h c
  have q0 := a0.symm ▸ r0
  have q1 := a1.symm ▸ r1
  have q3 := a3.symm ▸ r3
  have q4 := a4.symm ▸ r4
  have q5 := a5.symm ▸ r5
  have q6 := a6.symm ▸ r6
  refine ⟨h53.trans ?_, h54.trans ?_, h30.trans ?_, h27.trans ?_, ha⟩
  · refine (Cert.Reference5Ideal.Read.val_main_v53_eq (F := Ideal) m' c).trans ((Cert.Proj.ref53 q0 q1 q3 q4 q5 q6).trans ?_)
    refine Eq.trans ?_ (Cert.Proj.final10 m c).symm
    exact congrArg (fun (R : Fin 16384 → Fin 1024 → EReal) (i : Cert.Kernel5Ideal.S16384x1024.Idx) => R (i 0) (i 1)) (congr (congr (congr (congr (congr (congrArg Cert.Proj.resDx a0) a1) a3) a4) a5) a6)
  · refine (Cert.Reference5Ideal.Read.val_main_v54_eq (F := Ideal) _ _ _ _).trans ((Cert.Proj.ref54 q0 q3 q4 q6).trans ?_)
    refine Eq.trans ?_ (Cert.Proj.final11 m c).symm
    exact congrArg₂ (fun (R : Fin 1024 → EReal) (s : Cert.Kernel5Ideal.S1x1024.Idx → EReal) (i : Cert.Kernel5Ideal.S1x1024.Idx) => R (i 1) * (Cert.Proj.one + s (Idealize.ShloMosaic.ValueIdx.ix2 (0 : Fin 1) (i 1))))
      (congr (congr (congrArg Cert.Proj.accA a0) a4) a6) a3
  · refine (Cert.Reference5Ideal.Read.val_main_v30_eq (F := Ideal) _ _ _ _).trans ((Cert.Proj.ref30 q0 q1 q4 q6).trans ?_)
    refine Eq.trans ?_ (Cert.Proj.final12 m c).symm
    exact congrArg₂ (fun (R : Fin 1024 → EReal) (g : Cert.Kernel5Ideal.S1024.Idx → EReal) (i : Cert.Kernel5Ideal.S1x1024.Idx) => R (i 1) * g (Idealize.ShloMosaic.ValueIdx.ix1 (i 1)))
      (congr (congr (congrArg Cert.Proj.accA a0) a4) a6) a1
  · refine (Cert.Reference5Ideal.Read.val_main_v27_eq (F := Ideal) _ _).trans ((Cert.Proj.ref27 _ _).trans ?_)
    refine Eq.trans ?_ (Cert.Proj.final13 m c).symm
    exact congrArg (fun (R : Fin 16384 → Fin 1024 → EReal) (i : Cert.Kernel5Ideal.S1x1024.Idx) => ∑ t : Fin 16384, R t (i 1)) (congr (congrArg Cert.Proj.hidA a6) a4)

/-- The frames of the first part of the input projection's weight gradient. -/
theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_r6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The weight gradient is the reference's. -/
theorem algebraic6 : Cert.algebraic_Kernel6Ideal_Reference6Ideal := by
  intro m ρ m' ρ' _ hargs
  refine ⟨fun c => (Cert.Kernel6Ideal.Gen.dats m 0 c).arrAt 2 Cert.Kernel6Ideal.cfg0.N,
    Cert.Kernel6Ideal.Value.run_blocks m ρ, ?_⟩
  refine (θ_run Cert.Reference6Ideal.defs _ _).mono (fun r h c => ?_) (Cert.Reference6Ideal.Value.run (F := Ideal) m' ρ')
  obtain ⟨h0, ha⟩ := h c
  obtain ⟨a0, a1⟩ := hargs c
  refine ⟨h0.trans ?_, ha⟩
  refine (Cert.Reference6Ideal.Read.val_main_v3_eq (F := Ideal) _ _).trans ((Cert.Mix6.ref_grad _ _).trans ?_)
  refine Eq.trans ?_ (Cert.Mix6.final m c).symm
  exact congrArg (fun (R : Fin 1024 → Fin 2304 → EReal) (i : Cert.Kernel6Ideal.S1024x2304.Idx) => R (i 0) (i 1)) (congr (congrArg Cert.Mix6.grad a0) a1)

/-- The frames of the other parts of the input projection's weight gradient. -/
theorem frame_p7 : Cert.quiescent_Kernel7 := fun m ρ _ => Cert.Kernel7.Gen.frame m ρ
theorem frame_pi7 : Cert.quiescent_Kernel7Ideal := fun m ρ _ => Cert.Kernel7Ideal.Gen.frame m ρ
theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The weight gradient is the reference's. -/
theorem algebraic7 : Cert.algebraic_Kernel7Ideal_Reference7Ideal := by
  intro m ρ m' ρ' _ hargs
  refine ⟨fun c => (Cert.Kernel7Ideal.Gen.dats m 0 c).arrAt 2 Cert.Kernel7Ideal.cfg0.N,
    Cert.Kernel7Ideal.Value.run_blocks m ρ, ?_⟩
  refine (θ_run Cert.Reference7Ideal.defs _ _).mono (fun r h c => ?_) (Cert.Reference7Ideal.Value.run (F := Ideal) m' ρ')
  obtain ⟨h0, ha⟩ := h c
  obtain ⟨a0, a1⟩ := hargs c
  refine ⟨h0.trans ?_, ha⟩
  refine (Cert.Reference7Ideal.Read.val_main_v3_eq (F := Ideal) _ _).trans ((Cert.Mix7.ref_grad _ _).trans ?_)
  refine Eq.trans ?_ (Cert.Mix7.final m c).symm
  exact congrArg (fun (R : Fin 1024 → Fin 2048 → EReal) (i : Cert.Kernel7Ideal.S1024x2048.Idx) => R (i 0) (i 1)) (congr (congrArg Cert.Mix7.grad a0) a1)

/-- The frames of the forward block, layer 0, second half step. -/
theorem frame_p8 : Cert.quiescent_Kernel8 := fun m ρ _ => Cert.Kernel8.Gen.frame m ρ
theorem frame_pi8 : Cert.quiescent_Kernel8Ideal := fun m ρ _ => Cert.Kernel8Ideal.Gen.frame m ρ
theorem frame_r8 : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

/-- The forward block's five results are the same functions of the arguments as the reference's, layer 0, second half step. -/
theorem algebraic8 : Cert.algebraic_Kernel8Ideal_Reference8Ideal := by
  intro m ρ m' ρ' _ hargs
  refine ⟨fun c => (Cert.Kernel8Ideal.Gen.dats m 0 c).arrAt 20 Cert.Kernel8Ideal.cfg0.N,
    fun c => (Cert.Kernel8Ideal.Gen.dats m 0 c).arrAt 17 Cert.Kernel8Ideal.cfg0.N,
    fun c => (Cert.Kernel8Ideal.Gen.dats m 0 c).arrAt 18 Cert.Kernel8Ideal.cfg0.N,
    fun c => (Cert.Kernel8Ideal.Gen.dats m 0 c).arrAt 19 Cert.Kernel8Ideal.cfg0.N,
    fun c => (Cert.Kernel8Ideal.Gen.dats m 0 c).arrAt 21 Cert.Kernel8Ideal.cfg0.N, ?_, ?_⟩
  · refine (θ_run Cert.Kernel8Ideal.defs _ _).mono (fun r h c => ?_) (Cert.Kernel8Ideal.Value.run_blocks m ρ)
    obtain ⟨h17, h18, h19, h20, h21, ha⟩ := h c
    exact ⟨h20, h17, h18, h19, h21, ha⟩
  · refine (θ_run Cert.Reference8Ideal.defs _ _).mono (fun r h c => ?_) (Cert.Reference8Ideal.Value.run (F := Ideal) m' ρ')
    obtain ⟨h34, h35, h38, h41, h42, ha⟩ := h c
    obtain ⟨a0, a1, a2, a3, a4, a5, a6, a7⟩ := hargs c
    refine ⟨h34.trans ?_, h35.trans ?_, h38.trans ?_, h41.trans ?_, h42.trans ?_, ha⟩
    · refine (Cert.Reference8Ideal.Read.val_main_v34_eq (F := Ideal) m' c).trans ((Cert.Ffn8.ref20 _ _ _ _ _ _ _ _).trans ?_)
      refine Eq.trans ?_ (Cert.Ffn8.final20 m c).symm
      exact congrArg (fun (R : Fin 16384 → Fin 1024 → EReal) (i : Cert.Kernel8Ideal.S16384x1024.Idx) => R (i 0) (i 1)) (congr (congr (congr (congr (congr (congr (congr (congrArg Cert.Ffn.resStep a0) a1) a2) a3) a4) (congrArg (Cert.Ffn.inAt 0 1) a5)) (congrArg (Cert.Ffn.inAt 0 1) a6)) (congrArg (Cert.Ffn.outAt 0 1) a7))
    · refine (Cert.Reference8Ideal.Read.val_main_v35_eq (F := Ideal) _ _ _ _).trans ((Cert.Ffn8.ref17 _ _ _ _).trans ?_)
      refine Eq.trans ?_ (Cert.Ffn8.final17 m c).symm
      exact congrArg (fun (R : Fin 16384 → Fin 1024 → EReal) (i : Cert.Kernel8Ideal.S16384x1024.Idx) => R (i 0) (i 1)) (congr (congr (congr (congrArg Cert.Ffn.rowH a0) a1) a2) a3)
    · refine (Cert.Reference8Ideal.Read.val_main_v38_eq (F := Ideal) _ _ _ _ _).trans ((Cert.Ffn8.ref18 _ _ _ _ _).trans ?_)
      refine Eq.trans ?_ (Cert.Ffn8.final18 m c).symm
      exact congrArg (fun (R : Fin 4 → Fin 16384 → Fin 704 → EReal) (i : Cert.Kernel8Ideal.S4x16384x704.Idx) => R (i 0) (i 1) (i 2)) (congr (congr (congr (congr (congrArg Cert.Ffn.resUp a0) a1) a2) a3) (congrArg (Cert.Ffn.inAt 0 1) a5))
    · refine (Cert.Reference8Ideal.Read.val_main_v41_eq (F := Ideal) _ _ _ _ _).trans ((Cert.Ffn8.ref19 _ _ _ _ _).trans ?_)
      refine Eq.trans ?_ (Cert.Ffn8.final19 m c).symm
      exact congrArg (fun (R : Fin 4 → Fin 16384 → Fin 704 → EReal) (i : Cert.Kernel8Ideal.S4x16384x704.Idx) => R (i 0) (i 1) (i 2)) (congr (congr (congr (congr (congrArg Cert.Ffn.resUp a0) a1) a2) a3) (congrArg (Cert.Ffn.inAt 0 1) a6))
    · refine (Cert.Reference8Ideal.Read.val_main_v42_eq (F := Ideal) m' c).trans ((Cert.Ffn8.ref21 _ _ _ _ _ _ _).trans ?_)
      refine Eq.trans ?_ (Cert.Ffn8.final21 m c).symm
      exact congrArg (fun (R : Fin 16384 → Fin 1024 → EReal) (i : Cert.Kernel8Ideal.S16384x1024.Idx) => R (i 0) (i 1)) (congr (congr (congr (congr (congr (congr (congrArg Cert.Ffn.resDown a0) a1) a2) a3) (congrArg (Cert.Ffn.inAt 0 1) a5)) (congrArg (Cert.Ffn.inAt 0 1) a6)) (congrArg (Cert.Ffn.outAt 0 1) a7))

/-- The frames of the forward block, layer 1, first half step. -/
theorem frame_p9 : Cert.quiescent_Kernel9 := fun m ρ _ => Cert.Kernel9.Gen.frame m ρ
theorem frame_pi9 : Cert.quiescent_Kernel9Ideal := fun m ρ _ => Cert.Kernel9Ideal.Gen.frame m ρ
theorem frame_r9 : Cert.quiescent_Reference9Ideal := fun m ρ _ =>
  (θ_run Cert.Reference9Ideal.defs _ _).mono (fun r h => ⟨fun c => (h c).2.2.2.2.2, sem_eq_zero_of_no_sems (by decide) r.2⟩)
    (Cert.Reference9Ideal.Value.run (F := Ideal) m ρ)

/-- The forward block's five results are the same functions of the arguments as the reference's, layer 1, first half step. -/
theorem algebraic9 : Cert.algebraic_Kernel9Ideal_Reference9Ideal := by
  intro m ρ m' ρ' _ hargs
  refine ⟨fun c => (Cert.Kernel9Ideal.Gen.dats m 0 c).arrAt 20 Cert.Kernel9Ideal.cfg0.N,
    fun c => (Cert.Kernel9Ideal.Gen.dats m 0 c).arrAt 17 Cert.Kernel9Ideal.cfg0.N,
    fun c => (Cert.Kernel9Ideal.Gen.dats m 0 c).arrAt 18 Cert.Kernel9Ideal.cfg0.N,
    fun c => (Cert.Kernel9Ideal.Gen.dats m 0 c).arrAt 19 Cert.Kernel9Ideal.cfg0.N,
    fun c => (Cert.Kernel9Ideal.Gen.dats m 0 c).arrAt 21 Cert.Kernel9Ideal.cfg0.N, ?_, ?_⟩
  · refine (θ_run Cert.Kernel9Ideal.defs _ _).mono (fun r h c => ?_) (Cert.Kernel9Ideal.Value.run_blocks m ρ)
    obtain ⟨h17, h18, h19, h20, h21, ha⟩ := h c
    exact ⟨h20, h17, h18, h19, h21, ha⟩
  · refine (θ_run Cert.Reference9Ideal.defs _ _).mono (fun r h c => ?_) (Cert.Reference9Ideal.Value.run (F := Ideal) m' ρ')
    obtain ⟨h34, h35, h38, h41, h42, ha⟩ := h c
    obtain ⟨a0, a1, a2, a3, a4, a5, a6, a7⟩ := hargs c
    refine ⟨h34.trans ?_, h35.trans ?_, h38.trans ?_, h41.trans ?_, h42.trans ?_, ha⟩
    · refine (Cert.Reference9Ideal.Read.val_main_v34_eq (F := Ideal) m' c).trans ((Cert.Ffn9.ref20 _ _ _ _ _ _ _ _).trans ?_)
      refine Eq.trans ?_ (Cert.Ffn9.final20 m c).symm
      exact congrArg (fun (R : Fin 16384 → Fin 1024 → EReal) (i : Cert.Kernel9Ideal.S16384x1024.Idx) => R (i 0) (i 1)) (congr (congr (congr (congr (congr (congr (congr (congrArg Cert.Ffn.resStep a0) a1) a2) a3) a4) (congrArg (Cert.Ffn.inAt 1 0) a5)) (congrArg (Cert.Ffn.inAt 1 0) a6)) (congrArg (Cert.Ffn.outAt 1 0) a7))
    · refine (Cert.Reference9Ideal.Read.val_main_v35_eq (F := Ideal) _ _ _ _).trans ((Cert.Ffn9.ref17 _ _ _ _).trans ?_)
      refine Eq.trans ?_ (Cert.Ffn9.final17 m c).symm
      exact congrArg (fun (R : Fin 16384 → Fin 1024 → EReal) (i : Cert.Kernel9Ideal.S16384x1024.Idx) => R (i 0) (i 1)) (congr (congr (congr (congrArg Cert.Ffn.rowH a0) a1) a2) a3)
    · refine (Cert.Reference9Ideal.Read.val_main_v38_eq (F := Ideal) _ _ _ _ _).trans ((Cert.Ffn9.ref18 _ _ _ _ _).trans ?_)
      refine Eq.trans ?_ (Cert.Ffn9.final18 m c).symm
      exact congrArg (fun (R : Fin 4 → Fin 16384 → Fin 704 → EReal) (i : Cert.Kernel9Ideal.S4x16384x704.Idx) => R (i 0) (i 1) (i 2)) (congr (congr (congr (congr (congrArg Cert.Ffn.resUp a0) a1) a2) a3) (congrArg (Cert.Ffn.inAt 1 0) a5))
    · refine (Cert.Reference9Ideal.Read.val_main_v41_eq (F := Ideal) _ _ _ _ _).trans ((Cert.Ffn9.ref19 _ _ _ _ _).trans ?_)
      refine Eq.trans ?_ (Cert.Ffn9.final19 m c).symm
      exact congrArg (fun (R : Fin 4 → Fin 16384 → Fin 704 → EReal) (i : Cert.Kernel9Ideal.S4x16384x704.Idx) => R (i 0) (i 1) (i 2)) (congr (congr (congr (congr (congrArg Cert.Ffn.resUp a0) a1) a2) a3) (congrArg (Cert.Ffn.inAt 1 0) a6))
    · refine (Cert.Reference9Ideal.Read.val_main_v42_eq (F := Ideal) m' c).trans ((Cert.Ffn9.ref21 _ _ _ _ _ _ _).trans ?_)
      refine Eq.trans ?_ (Cert.Ffn9.final21 m c).symm
      exact congrArg (fun (R : Fin 16384 → Fin 1024 → EReal) (i : Cert.Kernel9Ideal.S16384x1024.Idx) => R (i 0) (i 1)) (congr (congr (congr (congr (congr (congr (congrArg Cert.Ffn.resDown a0) a1) a2) a3) (congrArg (Cert.Ffn.inAt 1 0) a5)) (congrArg (Cert.Ffn.inAt 1 0) a6)) (congrArg (Cert.Ffn.outAt 1 0) a7))

/-- The frames of the forward block, layer 1, second half step. -/
theorem frame_p10 : Cert.quiescent_Kernel10 := fun m ρ _ => Cert.Kernel10.Gen.frame m ρ
theorem frame_pi10 : Cert.quiescent_Kernel10Ideal := fun m ρ _ => Cert.Kernel10Ideal.Gen.frame m ρ
theorem frame_r10 : Cert.quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

/-- The forward block's five results are the same functions of the arguments as the reference's, layer 1, second half step. -/
theorem algebraic10 : Cert.algebraic_Kernel10Ideal_Reference10Ideal := by
  intro m ρ m' ρ' _ hargs
  refine ⟨fun c => (Cert.Kernel10Ideal.Gen.dats m 0 c).arrAt 20 Cert.Kernel10Ideal.cfg0.N,
    fun c => (Cert.Kernel10Ideal.Gen.dats m 0 c).arrAt 17 Cert.Kernel10Ideal.cfg0.N,
    fun c => (Cert.Kernel10Ideal.Gen.dats m 0 c).arrAt 18 Cert.Kernel10Ideal.cfg0.N,
    fun c => (Cert.Kernel10Ideal.Gen.dats m 0 c).arrAt 19 Cert.Kernel10Ideal.cfg0.N,
    fun c => (Cert.Kernel10Ideal.Gen.dats m 0 c).arrAt 21 Cert.Kernel10Ideal.cfg0.N, ?_, ?_⟩
  · refine (θ_run Cert.Kernel10Ideal.defs _ _).mono (fun r h c => ?_) (Cert.Kernel10Ideal.Value.run_blocks m ρ)
    obtain ⟨h17, h18, h19, h20, h21, ha⟩ := h c
    exact ⟨h20, h17, h18, h19, h21, ha⟩
  · refine (θ_run Cert.Reference10Ideal.defs _ _).mono (fun r h c => ?_) (Cert.Reference10Ideal.Value.run (F := Ideal) m' ρ')
    obtain ⟨h34, h35, h38, h41, h42, ha⟩ := h c
    obtain ⟨a0, a1, a2, a3, a4, a5, a6, a7⟩ := hargs c
    refine ⟨h34.trans ?_, h35.trans ?_, h38.trans ?_, h41.trans ?_, h42.trans ?_, ha⟩
    · refine (Cert.Reference10Ideal.Read.val_main_v34_eq (F := Ideal) m' c).trans ((Cert.Ffn10.ref20 _ _ _ _ _ _ _ _).trans ?_)
      refine Eq.trans ?_ (Cert.Ffn10.final20 m c).symm
      exact congrArg (fun (R : Fin 16384 → Fin 1024 → EReal) (i : Cert.Kernel10Ideal.S16384x1024.Idx) => R (i 0) (i 1)) (congr (congr (congr (congr (congr (congr (congr (congrArg Cert.Ffn.resStep a0) a1) a2) a3) a4) (congrArg (Cert.Ffn.inAt 1 1) a5)) (congrArg (Cert.Ffn.inAt 1 1) a6)) (congrArg (Cert.Ffn.outAt 1 1) a7))
    · refine (Cert.Reference10Ideal.Read.val_main_v35_eq (F := Ideal) _ _ _ _).trans ((Cert.Ffn10.ref17 _ _ _ _).trans ?_)
      refine Eq.trans ?_ (Cert.Ffn10.final17 m c).symm
      exact congrArg (fun (R : Fin 16384 → Fin 1024 → EReal) (i : Cert.Kernel10Ideal.S16384x1024.Idx) => R (i 0) (i 1)) (congr (congr (congr (congrArg Cert.Ffn.rowH a0) a1) a2) a3)
    · refine (Cert.Reference10Ideal.Read.val_main_v38_eq (F := Ideal) _ _ _ _ _).trans ((Cert.Ffn10.ref18 _ _ _ _ _).trans ?_)
      refine Eq.trans ?_ (Cert.Ffn10.final18 m c).symm
      exact congrArg (fun (R : Fin 4 → Fin 16384 → Fin 704 → EReal) (i : Cert.Kernel10Ideal.S4x16384x704.Idx) => R (i 0) (i 1) (i 2)) (congr (congr (congr (congr (congrArg Cert.Ffn.resUp a0) a1) a2) a3) (congrArg (Cert.Ffn.inAt 1 1) a5))
    · refine (Cert.Reference10Ideal.Read.val_main_v41_eq (F := Ideal) _ _ _ _ _).trans ((Cert.Ffn10.ref19 _ _ _ _ _).trans ?_)
      refine Eq.trans ?_ (Cert.Ffn10.final19 m c).symm
      exact congrArg (fun (R : Fin 4 → Fin 16384 → Fin 704 → EReal) (i : Cert.Kernel10Ideal.S4x16384x704.Idx) => R (i 0) (i 1) (i 2)) (congr (congr (congr (congr (congrArg Cert.Ffn.resUp a0) a1) a2) a3) (congrArg (Cert.Ffn.inAt 1 1) a6))
    · refine (Cert.Reference10Ideal.Read.val_main_v42_eq (F := Ideal) m' c).trans ((Cert.Ffn10.ref21 _ _ _ _ _ _ _).trans ?_)
      refine Eq.trans ?_ (Cert.Ffn10.final21 m c).symm
      exact congrArg (fun (R : Fin 16384 → Fin 1024 → EReal) (i : Cert.Kernel10Ideal.S16384x1024.Idx) => R (i 0) (i 1)) (congr (congr (congr (congr (congr (congr (congrArg Cert.Ffn.resDown a0) a1) a2) a3) (congrArg (Cert.Ffn.inAt 1 1) a5)) (congrArg (Cert.Ffn.inAt 1 1) a6)) (congrArg (Cert.Ffn.outAt 1 1) a7))

/-- The frames of the down projection's weight gradient, layer 0, second half step. -/
theorem frame_p11 : Cert.quiescent_Kernel11 := fun m ρ _ => Cert.Kernel11.Gen.frame m ρ
theorem frame_pi11 : Cert.quiescent_Kernel11Ideal := fun m ρ _ => Cert.Kernel11Ideal.Gen.frame m ρ
theorem frame_r11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The down projection's weight gradient is the reference's, layer 0, second half step. -/
theorem algebraic11 : Cert.algebraic_Kernel11Ideal_Reference11Ideal := by
  intro m ρ m' ρ' _ hargs
  refine ⟨fun c => (Cert.Kernel11Ideal.Gen.dats m 0 c).arrAt 3 Cert.Kernel11Ideal.cfg0.N,
    Cert.Kernel11Ideal.Value.run_blocks m ρ, ?_⟩
  refine (θ_run Cert.Reference11Ideal.defs _ _).mono (fun r h c => ?_) (Cert.Reference11Ideal.Value.run (F := Ideal) m' ρ')
  obtain ⟨h0, ha⟩ := h c
  obtain ⟨a0, a1, a2, a3⟩ := hargs c
  refine ⟨h0.trans ?_, ha⟩
  refine (Cert.Reference11Ideal.Read.val_main_v7_eq (F := Ideal) _ _ _ _).trans ((Cert.Dwd11.ref_into _ _ _ _).trans ?_)
  exact (congr (congr (congr (congrArg Cert.Dwd11.into a0) a1) a2) a3).trans (Cert.Dwd11.final m c).symm

/-- The frames of the down projection's weight gradient, layer 1, first half step. -/
theorem frame_p12 : Cert.quiescent_Kernel12 := fun m ρ _ => Cert.Kernel12.Gen.frame m ρ
theorem frame_pi12 : Cert.quiescent_Kernel12Ideal := fun m ρ _ => Cert.Kernel12Ideal.Gen.frame m ρ
theorem frame_r12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The down projection's weight gradient is the reference's, layer 1, first half step. -/
theorem algebraic12 : Cert.algebraic_Kernel12Ideal_Reference12Ideal := by
  intro m ρ m' ρ' _ hargs
  refine ⟨fun c => (Cert.Kernel12Ideal.Gen.dats m 0 c).arrAt 3 Cert.Kernel12Ideal.cfg0.N,
    Cert.Kernel12Ideal.Value.run_blocks m ρ, ?_⟩
  refine (θ_run Cert.Reference12Ideal.defs _ _).mono (fun r h c => ?_) (Cert.Reference12Ideal.Value.run (F := Ideal) m' ρ')
  obtain ⟨h0, ha⟩ := h c
  obtain ⟨a0, a1, a2, a3⟩ := hargs c
  refine ⟨h0.trans ?_, ha⟩
  refine (Cert.Reference12Ideal.Read.val_main_v7_eq (F := Ideal) _ _ _ _).trans ((Cert.Dwd12.ref_into _ _ _ _).trans ?_)
  exact (congr (congr (congr (congrArg Cert.Dwd12.into a0) a1) a2) a3).trans (Cert.Dwd12.final m c).symm

/-- The frames of the down projection's weight gradient, layer 1, second half step. -/
theorem frame_p13 : Cert.quiescent_Kernel13 := fun m ρ _ => Cert.Kernel13.Gen.frame m ρ
theorem frame_pi13 : Cert.quiescent_Kernel13Ideal := fun m ρ _ => Cert.Kernel13Ideal.Gen.frame m ρ
theorem frame_r13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The down projection's weight gradient is the reference's, layer 1, second half step. -/
theorem algebraic13 : Cert.algebraic_Kernel13Ideal_Reference13Ideal := by
  intro m ρ m' ρ' _ hargs
  refine ⟨fun c => (Cert.Kernel13Ideal.Gen.dats m 0 c).arrAt 3 Cert.Kernel13Ideal.cfg0.N,
    Cert.Kernel13Ideal.Value.run_blocks m ρ, ?_⟩
  refine (θ_run Cert.Reference13Ideal.defs _ _).mono (fun r h c => ?_) (Cert.Reference13Ideal.Value.run (F := Ideal) m' ρ')
  obtain ⟨h0, ha⟩ := h c
  obtain ⟨a0, a1, a2, a3⟩ := hargs c
  refine ⟨h0.trans ?_, ha⟩
  refine (Cert.Reference13Ideal.Read.val_main_v7_eq (F := Ideal) _ _ _ _).trans ((Cert.Dwd13.ref_into _ _ _ _).trans ?_)
  exact (congr (congr (congr (congrArg Cert.Dwd13.into a0) a1) a2) a3).trans (Cert.Dwd13.final m c).symm

/-- The frames of the gate projection's weight gradient, layer 0, second half step. -/
theorem frame_p14 : Cert.quiescent_Kernel14 := fun m ρ _ => Cert.Kernel14.Gen.frame m ρ
theorem frame_pi14 : Cert.quiescent_Kernel14Ideal := fun m ρ _ => Cert.Kernel14Ideal.Gen.frame m ρ
theorem frame_r14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The gate projection's weight gradient is the reference's, layer 0, second half step. -/
theorem algebraic14 : Cert.algebraic_Kernel14Ideal_Reference14Ideal := by
  intro m ρ m' ρ' _ hargs
  refine ⟨fun c => (Cert.Kernel14Ideal.Gen.dats m 0 c).arrAt 2 Cert.Kernel14Ideal.cfg0.N,
    Cert.Kernel14Ideal.Value.run_blocks m ρ, ?_⟩
  refine (θ_run Cert.Reference14Ideal.defs _ _).mono (fun r h c => ?_) (Cert.Reference14Ideal.Value.run (F := Ideal) m' ρ')
  obtain ⟨h0, ha⟩ := h c
  obtain ⟨a0, a1, a2⟩ := hargs c
  refine ⟨h0.trans ?_, ha⟩
  refine (Cert.Reference14Ideal.Read.val_main_v7_eq (F := Ideal) _ _ _).trans ((Cert.Dwg14.ref_into _ _ _).trans ?_)
  exact (congr (congr (congrArg Cert.Dwg14.into a0) a1) a2).trans (Cert.Dwg14.final m c).symm

/-- The frames of the gate projection's weight gradient, layer 1, first half step. -/
theorem frame_p15 : Cert.quiescent_Kernel15 := fun m ρ _ => Cert.Kernel15.Gen.frame m ρ
theorem frame_pi15 : Cert.quiescent_Kernel15Ideal := fun m ρ _ => Cert.Kernel15Ideal.Gen.frame m ρ
theorem frame_r15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The gate projection's weight gradient is the reference's, layer 1, first half step. -/
theorem algebraic15 : Cert.algebraic_Kernel15Ideal_Reference15Ideal := by
  intro m ρ m' ρ' _ hargs
  refine ⟨fun c => (Cert.Kernel15Ideal.Gen.dats m 0 c).arrAt 2 Cert.Kernel15Ideal.cfg0.N,
    Cert.Kernel15Ideal.Value.run_blocks m ρ, ?_⟩
  refine (θ_run Cert.Reference15Ideal.defs _ _).mono (fun r h c => ?_) (Cert.Reference15Ideal.Value.run (F := Ideal) m' ρ')
  obtain ⟨h0, ha⟩ := h c
  obtain ⟨a0, a1, a2⟩ := hargs c
  refine ⟨h0.trans ?_, ha⟩
  refine (Cert.Reference15Ideal.Read.val_main_v7_eq (F := Ideal) _ _ _).trans ((Cert.Dwg15.ref_into _ _ _).trans ?_)
  exact (congr (congr (congrArg Cert.Dwg15.into a0) a1) a2).trans (Cert.Dwg15.final m c).symm

/-- The frames of the gate projection's weight gradient, layer 1, second half step. -/
theorem frame_p16 : Cert.quiescent_Kernel16 := fun m ρ _ => Cert.Kernel16.Gen.frame m ρ
theorem frame_pi16 : Cert.quiescent_Kernel16Ideal := fun m ρ _ => Cert.Kernel16Ideal.Gen.frame m ρ
theorem frame_r16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The gate projection's weight gradient is the reference's, layer 1, second half step. -/
theorem algebraic16 : Cert.algebraic_Kernel16Ideal_Reference16Ideal := by
  intro m ρ m' ρ' _ hargs
  refine ⟨fun c => (Cert.Kernel16Ideal.Gen.dats m 0 c).arrAt 2 Cert.Kernel16Ideal.cfg0.N,
    Cert.Kernel16Ideal.Value.run_blocks m ρ, ?_⟩
  refine (θ_run Cert.Reference16Ideal.defs _ _).mono (fun r h c => ?_) (Cert.Reference16Ideal.Value.run (F := Ideal) m' ρ')
  obtain ⟨h0, ha⟩ := h c
  obtain ⟨a0, a1, a2⟩ := hargs c
  refine ⟨h0.trans ?_, ha⟩
  refine (Cert.Reference16Ideal.Read.val_main_v7_eq (F := Ideal) _ _ _).trans ((Cert.Dwg16.ref_into _ _ _).trans ?_)
  exact (congr (congr (congrArg Cert.Dwg16.into a0) a1) a2).trans (Cert.Dwg16.final m c).symm

/-- The frames of the output projection's weight gradient. -/
theorem frame_p17 : Cert.quiescent_Kernel17 := fun m ρ _ => Cert.Kernel17.Gen.frame m ρ
theorem frame_pi17 : Cert.quiescent_Kernel17Ideal := fun m ρ _ => Cert.Kernel17Ideal.Gen.frame m ρ
theorem frame_r17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- That weight gradient is the reference's. -/
theorem algebraic17 : Cert.algebraic_Kernel17Ideal_Reference17Ideal := by
  intro m ρ m' ρ' _ hargs
  refine ⟨fun c => (Cert.Kernel17Ideal.Gen.dats m 0 c).arrAt 2 Cert.Kernel17Ideal.cfg0.N,
    Cert.Kernel17Ideal.Value.run_blocks m ρ, ?_⟩
  refine (θ_run Cert.Reference17Ideal.defs _ _).mono (fun r h c => ?_) (Cert.Reference17Ideal.Value.run (F := Ideal) m' ρ')
  obtain ⟨h0, ha⟩ := h c
  obtain ⟨a0, a1⟩ := hargs c
  refine ⟨h0.trans ?_, ha⟩
  refine (Cert.Reference17Ideal.Read.val_main_v3_eq (F := Ideal) _ _).trans ((Cert.Out17.ref_grad _ _).trans ?_)
  refine Eq.trans ?_ (Cert.Out17.final m c).symm
  exact congrArg (fun (R : Fin 1024 → Fin 1024 → EReal) (i : Cert.Kernel17Ideal.S1024x1024.Idx) => R (i 0) (i 1)) (congr (congrArg Cert.Out17.grad a0) a1)

/-- The frames of the attention group's output projection's weight gradient. -/
theorem frame_p18 : Cert.quiescent_Kernel18 := fun m ρ _ => Cert.Kernel18.Gen.frame m ρ
theorem frame_pi18 : Cert.quiescent_Kernel18Ideal := fun m ρ _ => Cert.Kernel18Ideal.Gen.frame m ρ
theorem frame_r18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- That weight gradient is the reference's. -/
theorem algebraic18 : Cert.algebraic_Kernel18Ideal_Reference18Ideal := by
  intro m ρ m' ρ' _ hargs
  refine ⟨fun c => (Cert.Kernel18Ideal.Gen.dats m 0 c).arrAt 2 Cert.Kernel18Ideal.cfg0.N,
    Cert.Kernel18Ideal.Value.run_blocks m ρ, ?_⟩
  refine (θ_run Cert.Reference18Ideal.defs _ _).mono (fun r h c => ?_) (Cert.Reference18Ideal.Value.run (F := Ideal) m' ρ')
  obtain ⟨h0, ha⟩ := h c
  obtain ⟨a0, a1⟩ := hargs c
  refine ⟨h0.trans ?_, ha⟩
  refine (Cert.Reference18Ideal.Read.val_main_v3_eq (F := Ideal) _ _).trans ((Cert.Out18.ref_grad _ _).trans ?_)
  refine Eq.trans ?_ (Cert.Out18.final m c).symm
  exact congrArg (fun (R : Fin 256 → Fin 1024 → EReal) (i : Cert.Kernel18Ideal.S256x1024.Idx) => R (i 0) (i 1)) (congr (congrArg Cert.Out18.grad a0) a1)

/-- The frames of the optimiser's step on the feed-forward blocks' gate and up weights. -/
theorem frame_p19 : Cert.quiescent_Kernel19 := fun m ρ _ => Cert.Kernel19.Gen.frame m ρ
theorem frame_pi19 : Cert.quiescent_Kernel19Ideal := fun m ρ _ => Cert.Kernel19Ideal.Gen.frame m ρ
theorem frame_r19 : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem algebraic19 : Cert.algebraic_Kernel19Ideal_Reference19Ideal := by
  intro m ρ m' ρ' _ hargs
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N,
    fun c => (Cert.Kernel19Ideal.Gen.dats m 0 c).arrAt 6 Cert.Kernel19Ideal.cfg0.N, fun c => (Cert.Kernel19Ideal.Gen.dats m 0 c).arrAt 7 Cert.Kernel19Ideal.cfg0.N,
    Cert.Kernel19Ideal.Value.run_blocks m ρ, ?_⟩
  refine (θ_run Cert.Reference19Ideal.defs _ _).mono (fun r h c => ?_) (Cert.Reference19Ideal.Value.run (F := Ideal) m' ρ')
  obtain ⟨h4, h5, h6, h7, ha⟩ := h c
  obtain ⟨a0, a1, a2, a3⟩ := hargs c
  refine ⟨h4.trans (a1.trans (Cert.Adam19.final4 m c).symm), h5.trans (((Cert.Adam19.ref_change _ _ _ _).trans ?_).trans (Cert.Adam19.final5 m c).symm),
    h6.trans (((Cert.Adam19.ref_first _ _).trans ?_).trans (Cert.Adam19.final6 m c).symm),
    h7.trans (((Cert.Adam19.ref_second _ _).trans ?_).trans (Cert.Adam19.final7 m c).symm), ha⟩
  · exact congr (congr (congr (congrArg (fun (w g p q : Cert.Kernel19Ideal.S4096x704.Idx → EReal) (i : Cert.Kernel19Ideal.S4096x704.Idx) => Cert.Adam.change (w i) (g i) (p i) (q i)) a0) a1) a2) a3
  · exact congr (congrArg (fun (g p : Cert.Kernel19Ideal.S4096x704.Idx → EReal) (i : Cert.Kernel19Ideal.S4096x704.Idx) => Cert.Adam.first (g i) (p i)) a1) a2
  · exact congr (congrArg (fun (g q : Cert.Kernel19Ideal.S4096x704.Idx → EReal) (i : Cert.Kernel19Ideal.S4096x704.Idx) => Cert.Adam.second (g i) (q i)) a1) a3

/-- The frames of the optimiser's step on the feed-forward blocks' down weights. -/
theorem frame_p20 : Cert.quiescent_Kernel20 := fun m ρ _ => Cert.Kernel20.Gen.frame m ρ
theorem frame_pi20 : Cert.quiescent_Kernel20Ideal := fun m ρ _ => Cert.Kernel20Ideal.Gen.frame m ρ
theorem frame_r20 : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem algebraic20 : Cert.algebraic_Kernel20Ideal_Reference20Ideal := by
  intro m ρ m' ρ' _ hargs
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N,
    fun c => (Cert.Kernel20Ideal.Gen.dats m 0 c).arrAt 6 Cert.Kernel20Ideal.cfg0.N, fun c => (Cert.Kernel20Ideal.Gen.dats m 0 c).arrAt 7 Cert.Kernel20Ideal.cfg0.N,
    Cert.Kernel20Ideal.Value.run_blocks m ρ, ?_⟩
  refine (θ_run Cert.Reference20Ideal.defs _ _).mono (fun r h c => ?_) (Cert.Reference20Ideal.Value.run (F := Ideal) m' ρ')
  obtain ⟨h4, h5, h6, h7, ha⟩ := h c
  obtain ⟨a0, a1, a2, a3⟩ := hargs c
  refine ⟨h4.trans (a1.trans (Cert.Adam20.final4 m c).symm), h5.trans (((Cert.Adam20.ref_change _ _ _ _).trans ?_).trans (Cert.Adam20.final5 m c).symm),
    h6.trans (((Cert.Adam20.ref_first _ _).trans ?_).trans (Cert.Adam20.final6 m c).symm),
    h7.trans (((Cert.Adam20.ref_second _ _).trans ?_).trans (Cert.Adam20.final7 m c).symm), ha⟩
  · exact congr (congr (congr (congrArg (fun (w g p q : Cert.Kernel20Ideal.S2816x1024.Idx → EReal) (i : Cert.Kernel20Ideal.S2816x1024.Idx) => Cert.Adam.change (w i) (g i) (p i) (q i)) a0) a1) a2) a3
  · exact congr (congrArg (fun (g p : Cert.Kernel20Ideal.S2816x1024.Idx → EReal) (i : Cert.Kernel20Ideal.S2816x1024.Idx) => Cert.Adam.first (g i) (p i)) a1) a2
  · exact congr (congrArg (fun (g q : Cert.Kernel20Ideal.S2816x1024.Idx → EReal) (i : Cert.Kernel20Ideal.S2816x1024.Idx) => Cert.Adam.second (g i) (q i)) a1) a3

/-- The frames of the optimiser's step on the input projection's weights. -/
theorem frame_p21 : Cert.quiescent_Kernel21 := fun m ρ _ => Cert.Kernel21.Gen.frame m ρ
theorem frame_pi21 : Cert.quiescent_Kernel21Ideal := fun m ρ _ => Cert.Kernel21Ideal.Gen.frame m ρ
theorem frame_r21 : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem algebraic21 : Cert.algebraic_Kernel21Ideal_Reference21Ideal := by
  intro m ρ m' ρ' _ hargs
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N,
    fun c => (Cert.Kernel21Ideal.Gen.dats m 0 c).arrAt 6 Cert.Kernel21Ideal.cfg0.N, fun c => (Cert.Kernel21Ideal.Gen.dats m 0 c).arrAt 7 Cert.Kernel21Ideal.cfg0.N,
    Cert.Kernel21Ideal.Value.run_blocks m ρ, ?_⟩
  refine (θ_run Cert.Reference21Ideal.defs _ _).mono (fun r h c => ?_) (Cert.Reference21Ideal.Value.run (F := Ideal) m' ρ')
  obtain ⟨h4, h5, h6, h7, ha⟩ := h c
  obtain ⟨a0, a1, a2, a3⟩ := hargs c
  refine ⟨h4.trans (a1.trans (Cert.Adam21.final4 m c).symm), h5.trans (((Cert.Adam21.ref_change _ _ _ _).trans ?_).trans (Cert.Adam21.final5 m c).symm),
    h6.trans (((Cert.Adam21.ref_first _ _).trans ?_).trans (Cert.Adam21.final6 m c).symm),
    h7.trans (((Cert.Adam21.ref_second _ _).trans ?_).trans (Cert.Adam21.final7 m c).symm), ha⟩
  · exact congr (congr (congr (congrArg (fun (w g p q : Cert.Kernel21Ideal.S2048x1600.Idx → EReal) (i : Cert.Kernel21Ideal.S2048x1600.Idx) => Cert.Adam.change (w i) (g i) (p i) (q i)) a0) a1) a2) a3
  · exact congr (congrArg (fun (g p : Cert.Kernel21Ideal.S2048x1600.Idx → EReal) (i : Cert.Kernel21Ideal.S2048x1600.Idx) => Cert.Adam.first (g i) (p i)) a1) a2
  · exact congr (congrArg (fun (g q : Cert.Kernel21Ideal.S2048x1600.Idx → EReal) (i : Cert.Kernel21Ideal.S2048x1600.Idx) => Cert.Adam.second (g i) (q i)) a1) a3

/-- The frames of the optimiser's step on the output projections' weights. -/
theorem frame_p22 : Cert.quiescent_Kernel22 := fun m ρ _ => Cert.Kernel22.Gen.frame m ρ
theorem frame_pi22 : Cert.quiescent_Kernel22Ideal := fun m ρ _ => Cert.Kernel22Ideal.Gen.frame m ρ
theorem frame_r22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem algebraic22 : Cert.algebraic_Kernel22Ideal_Reference22Ideal := by
  intro m ρ m' ρ' _ hargs
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N,
    fun c => (Cert.Kernel22Ideal.Gen.dats m 0 c).arrAt 6 Cert.Kernel22Ideal.cfg0.N, fun c => (Cert.Kernel22Ideal.Gen.dats m 0 c).arrAt 7 Cert.Kernel22Ideal.cfg0.N,
    Cert.Kernel22Ideal.Value.run_blocks m ρ, ?_⟩
  refine (θ_run Cert.Reference22Ideal.defs _ _).mono (fun r h c => ?_) (Cert.Reference22Ideal.Value.run (F := Ideal) m' ρ')
  obtain ⟨h4, h5, h6, h7, ha⟩ := h c
  obtain ⟨a0, a1, a2, a3⟩ := hargs c
  refine ⟨h4.trans (a1.trans (Cert.Adam22.final4 m c).symm), h5.trans (((Cert.Adam22.ref_change _ _ _ _).trans ?_).trans (Cert.Adam22.final5 m c).symm),
    h6.trans (((Cert.Adam22.ref_first _ _).trans ?_).trans (Cert.Adam22.final6 m c).symm),
    h7.trans (((Cert.Adam22.ref_second _ _).trans ?_).trans (Cert.Adam22.final7 m c).symm), ha⟩
  · exact congr (congr (congr (congrArg (fun (w g p q : Cert.Kernel22Ideal.S512x1024.Idx → EReal) (i : Cert.Kernel22Ideal.S512x1024.Idx) => Cert.Adam.change (w i) (g i) (p i) (q i)) a0) a1) a2) a3
  · exact congr (congrArg (fun (g p : Cert.Kernel22Ideal.S512x1024.Idx → EReal) (i : Cert.Kernel22Ideal.S512x1024.Idx) => Cert.Adam.first (g i) (p i)) a1) a2
  · exact congr (congrArg (fun (g q : Cert.Kernel22Ideal.S512x1024.Idx → EReal) (i : Cert.Kernel22Ideal.S512x1024.Idx) => Cert.Adam.second (g i) (q i)) a1) a3

/-- The frames of the optimiser's step on the modulation's weights. -/
theorem frame_p23 : Cert.quiescent_Kernel23 := fun m ρ _ => Cert.Kernel23.Gen.frame m ρ
theorem frame_pi23 : Cert.quiescent_Kernel23Ideal := fun m ρ _ => Cert.Kernel23Ideal.Gen.frame m ρ
theorem frame_r23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem algebraic23 : Cert.algebraic_Kernel23Ideal_Reference23Ideal := by
  intro m ρ m' ρ' _ hargs
  refine ⟨fun c => (Cert.Kernel23Ideal.Gen.dats m 0 c).arrAt 4 Cert.Kernel23Ideal.cfg0.N, fun c => (Cert.Kernel23Ideal.Gen.dats m 0 c).arrAt 5 Cert.Kernel23Ideal.cfg0.N,
    fun c => (Cert.Kernel23Ideal.Gen.dats m 0 c).arrAt 6 Cert.Kernel23Ideal.cfg0.N, fun c => (Cert.Kernel23Ideal.Gen.dats m 0 c).arrAt 7 Cert.Kernel23Ideal.cfg0.N,
    Cert.Kernel23Ideal.Value.run_blocks m ρ, ?_⟩
  refine (θ_run Cert.Reference23Ideal.defs _ _).mono (fun r h c => ?_) (Cert.Reference23Ideal.Value.run (F := Ideal) m' ρ')
  obtain ⟨h4, h5, h6, h7, ha⟩ := h c
  obtain ⟨a0, a1, a2, a3⟩ := hargs c
  refine ⟨h4.trans (a1.trans (Cert.Adam23.final4 m c).symm), h5.trans (((Cert.Adam23.ref_change _ _ _ _).trans ?_).trans (Cert.Adam23.final5 m c).symm),
    h6.trans (((Cert.Adam23.ref_first _ _).trans ?_).trans (Cert.Adam23.final6 m c).symm),
    h7.trans (((Cert.Adam23.ref_second _ _).trans ?_).trans (Cert.Adam23.final7 m c).symm), ha⟩
  · exact congr (congr (congr (congrArg (fun (w g p q : Cert.Kernel23Ideal.S2048x2304.Idx → EReal) (i : Cert.Kernel23Ideal.S2048x2304.Idx) => Cert.Adam.change (w i) (g i) (p i) (q i)) a0) a1) a2) a3
  · exact congr (congrArg (fun (g p : Cert.Kernel23Ideal.S2048x2304.Idx → EReal) (i : Cert.Kernel23Ideal.S2048x2304.Idx) => Cert.Adam.first (g i) (p i)) a1) a2
  · exact congr (congrArg (fun (g q : Cert.Kernel23Ideal.S2048x2304.Idx → EReal) (i : Cert.Kernel23Ideal.S2048x2304.Idx) => Cert.Adam.second (g i) (q i)) a1) a3

/-- The frames of the optimiser's step on the attention's output projection. -/
theorem frame_p24 : Cert.quiescent_Kernel24 := fun m ρ _ => Cert.Kernel24.Gen.frame m ρ
theorem frame_pi24 : Cert.quiescent_Kernel24Ideal := fun m ρ _ => Cert.Kernel24Ideal.Gen.frame m ρ
theorem frame_r24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem algebraic24 : Cert.algebraic_Kernel24Ideal_Reference24Ideal := by
  intro m ρ m' ρ' _ hargs
  refine ⟨fun c => (Cert.Kernel24Ideal.Gen.dats m 0 c).arrAt 4 Cert.Kernel24Ideal.cfg0.N, fun c => (Cert.Kernel24Ideal.Gen.dats m 0 c).arrAt 5 Cert.Kernel24Ideal.cfg0.N,
    fun c => (Cert.Kernel24Ideal.Gen.dats m 0 c).arrAt 6 Cert.Kernel24Ideal.cfg0.N, fun c => (Cert.Kernel24Ideal.Gen.dats m 0 c).arrAt 7 Cert.Kernel24Ideal.cfg0.N,
    Cert.Kernel24Ideal.Value.run_blocks m ρ, ?_⟩
  refine (θ_run Cert.Reference24Ideal.defs _ _).mono (fun r h c => ?_) (Cert.Reference24Ideal.Value.run (F := Ideal) m' ρ')
  obtain ⟨h4, h5, h6, h7, ha⟩ := h c
  obtain ⟨a0, a1, a2, a3⟩ := hargs c
  refine ⟨h4.trans (a1.trans (Cert.Adam24.final4 m c).symm), h5.trans (((Cert.Adam24.ref_change _ _ _ _).trans ?_).trans (Cert.Adam24.final5 m c).symm),
    h6.trans (((Cert.Adam24.ref_first _ _).trans ?_).trans (Cert.Adam24.final6 m c).symm),
    h7.trans (((Cert.Adam24.ref_second _ _).trans ?_).trans (Cert.Adam24.final7 m c).symm), ha⟩
  · exact congr (congr (congr (congrArg (fun (w g p q : Cert.Kernel24Ideal.S512x256.Idx → EReal) (i : Cert.Kernel24Ideal.S512x256.Idx) => Cert.Adam.change (w i) (g i) (p i) (q i)) a0) a1) a2) a3
  · exact congr (congrArg (fun (g p : Cert.Kernel24Ideal.S512x256.Idx → EReal) (i : Cert.Kernel24Ideal.S512x256.Idx) => Cert.Adam.first (g i) (p i)) a1) a2
  · exact congr (congrArg (fun (g q : Cert.Kernel24Ideal.S512x256.Idx → EReal) (i : Cert.Kernel24Ideal.S512x256.Idx) => Cert.Adam.second (g i) (q i)) a1) a3

/-- The frames of the optimiser's step on the convolution's weights. -/
theorem frame_p25 : Cert.quiescent_Kernel25 := fun m ρ _ => Cert.Kernel25.Gen.frame m ρ
theorem frame_pi25 : Cert.quiescent_Kernel25Ideal := fun m ρ _ => Cert.Kernel25Ideal.Gen.frame m ρ
theorem frame_r25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem algebraic25 : Cert.algebraic_Kernel25Ideal_Reference25Ideal := by
  intro m ρ m' ρ' _ hargs
  refine ⟨fun c => (Cert.Kernel25Ideal.Gen.dats m 0 c).arrAt 4 Cert.Kernel25Ideal.cfg0.N, fun c => (Cert.Kernel25Ideal.Gen.dats m 0 c).arrAt 5 Cert.Kernel25Ideal.cfg0.N,
    fun c => (Cert.Kernel25Ideal.Gen.dats m 0 c).arrAt 6 Cert.Kernel25Ideal.cfg0.N, fun c => (Cert.Kernel25Ideal.Gen.dats m 0 c).arrAt 7 Cert.Kernel25Ideal.cfg0.N,
    Cert.Kernel25Ideal.Value.run_blocks m ρ, ?_⟩
  refine (θ_run Cert.Reference25Ideal.defs _ _).mono (fun r h c => ?_) (Cert.Reference25Ideal.Value.run (F := Ideal) m' ρ')
  obtain ⟨h4, h5, h6, h7, ha⟩ := h c
  obtain ⟨a0, a1, a2, a3⟩ := hargs c
  refine ⟨h4.trans (a1.trans (Cert.Adam25.final4 m c).symm), h5.trans (((Cert.Adam25.ref_change _ _ _ _).trans ?_).trans (Cert.Adam25.final5 m c).symm),
    h6.trans (((Cert.Adam25.ref_first _ _).trans ?_).trans (Cert.Adam25.final6 m c).symm),
    h7.trans (((Cert.Adam25.ref_second _ _).trans ?_).trans (Cert.Adam25.final7 m c).symm), ha⟩
  · exact congr (congr (congr (congrArg (fun (w g p q : Cert.Kernel25Ideal.S62x256.Idx → EReal) (i : Cert.Kernel25Ideal.S62x256.Idx) => Cert.Adam.change (w i) (g i) (p i) (q i)) a0) a1) a2) a3
  · exact congr (congrArg (fun (g p : Cert.Kernel25Ideal.S62x256.Idx → EReal) (i : Cert.Kernel25Ideal.S62x256.Idx) => Cert.Adam.first (g i) (p i)) a1) a2
  · exact congr (congrArg (fun (g q : Cert.Kernel25Ideal.S62x256.Idx → EReal) (i : Cert.Kernel25Ideal.S62x256.Idx) => Cert.Adam.second (g i) (q i)) a1) a3

/-- The frames of the optimiser's step on the convolution's bias, gain and shift. -/
theorem frame_p26 : Cert.quiescent_Kernel26 := fun m ρ _ => Cert.Kernel26.Gen.frame m ρ
theorem frame_pi26 : Cert.quiescent_Kernel26Ideal := fun m ρ _ => Cert.Kernel26Ideal.Gen.frame m ρ
theorem frame_r26 : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem algebraic26 : Cert.algebraic_Kernel26Ideal_Reference26Ideal := by
  intro m ρ m' ρ' _ hargs
  refine ⟨fun c => (Cert.Kernel26Ideal.Gen.dats m 0 c).arrAt 4 Cert.Kernel26Ideal.cfg0.N, fun c => (Cert.Kernel26Ideal.Gen.dats m 0 c).arrAt 5 Cert.Kernel26Ideal.cfg0.N,
    fun c => (Cert.Kernel26Ideal.Gen.dats m 0 c).arrAt 6 Cert.Kernel26Ideal.cfg0.N, fun c => (Cert.Kernel26Ideal.Gen.dats m 0 c).arrAt 7 Cert.Kernel26Ideal.cfg0.N,
    Cert.Kernel26Ideal.Value.run_blocks m ρ, ?_⟩
  refine (θ_run Cert.Reference26Ideal.defs _ _).mono (fun r h c => ?_) (Cert.Reference26Ideal.Value.run (F := Ideal) m' ρ')
  obtain ⟨h4, h5, h6, h7, ha⟩ := h c
  obtain ⟨a0, a1, a2, a3⟩ := hargs c
  refine ⟨h4.trans (a1.trans (Cert.Adam26.final4 m c).symm), h5.trans (((Cert.Adam26.ref_change _ _ _ _).trans ?_).trans (Cert.Adam26.final5 m c).symm),
    h6.trans (((Cert.Adam26.ref_first _ _).trans ?_).trans (Cert.Adam26.final6 m c).symm),
    h7.trans (((Cert.Adam26.ref_second _ _).trans ?_).trans (Cert.Adam26.final7 m c).symm), ha⟩
  · exact congr (congr (congr (congrArg (fun (w g p q : Cert.Kernel26Ideal.S2x1024.Idx → EReal) (i : Cert.Kernel26Ideal.S2x1024.Idx) => Cert.Adam.change (w i) (g i) (p i) (q i)) a0) a1) a2) a3
  · exact congr (congrArg (fun (g p : Cert.Kernel26Ideal.S2x1024.Idx → EReal) (i : Cert.Kernel26Ideal.S2x1024.Idx) => Cert.Adam.first (g i) (p i)) a1) a2
  · exact congr (congrArg (fun (g q : Cert.Kernel26Ideal.S2x1024.Idx → EReal) (i : Cert.Kernel26Ideal.S2x1024.Idx) => Cert.Adam.second (g i) (q i)) a1) a3

/-- The frames of the optimiser's step on the norms' gains. -/
theorem frame_p27 : Cert.quiescent_Kernel27 := fun m ρ _ => Cert.Kernel27.Gen.frame m ρ
theorem frame_pi27 : Cert.quiescent_Kernel27Ideal := fun m ρ _ => Cert.Kernel27Ideal.Gen.frame m ρ
theorem frame_r27 : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem algebraic27 : Cert.algebraic_Kernel27Ideal_Reference27Ideal := by
  intro m ρ m' ρ' _ hargs
  refine ⟨fun c => (Cert.Kernel27Ideal.Gen.dats m 0 c).arrAt 4 Cert.Kernel27Ideal.cfg0.N, fun c => (Cert.Kernel27Ideal.Gen.dats m 0 c).arrAt 5 Cert.Kernel27Ideal.cfg0.N,
    fun c => (Cert.Kernel27Ideal.Gen.dats m 0 c).arrAt 6 Cert.Kernel27Ideal.cfg0.N, fun c => (Cert.Kernel27Ideal.Gen.dats m 0 c).arrAt 7 Cert.Kernel27Ideal.cfg0.N,
    Cert.Kernel27Ideal.Value.run_blocks m ρ, ?_⟩
  refine (θ_run Cert.Reference27Ideal.defs _ _).mono (fun r h c => ?_) (Cert.Reference27Ideal.Value.run (F := Ideal) m' ρ')
  obtain ⟨h4, h5, h6, h7, ha⟩ := h c
  obtain ⟨a0, a1, a2, a3⟩ := hargs c
  refine ⟨h4.trans (a1.trans (Cert.Adam27.final4 m c).symm), h5.trans (((Cert.Adam27.ref_change _ _ _ _).trans ?_).trans (Cert.Adam27.final5 m c).symm),
    h6.trans (((Cert.Adam27.ref_first _ _).trans ?_).trans (Cert.Adam27.final6 m c).symm),
    h7.trans (((Cert.Adam27.ref_second _ _).trans ?_).trans (Cert.Adam27.final7 m c).symm), ha⟩
  · exact congr (congr (congr (congrArg (fun (w g p q : Cert.Kernel27Ideal.S6x256.Idx → EReal) (i : Cert.Kernel27Ideal.S6x256.Idx) => Cert.Adam.change (w i) (g i) (p i) (q i)) a0) a1) a2) a3
  · exact congr (congrArg (fun (g p : Cert.Kernel27Ideal.S6x256.Idx → EReal) (i : Cert.Kernel27Ideal.S6x256.Idx) => Cert.Adam.first (g i) (p i)) a1) a2
  · exact congr (congrArg (fun (g q : Cert.Kernel27Ideal.S6x256.Idx → EReal) (i : Cert.Kernel27Ideal.S6x256.Idx) => Cert.Adam.second (g i) (q i)) a1) a3

/-- The frames of the optimiser's step on the last norm's gain. -/
theorem frame_p28 : Cert.quiescent_Kernel28 := fun m ρ _ => Cert.Kernel28.Gen.frame m ρ
theorem frame_pi28 : Cert.quiescent_Kernel28Ideal := fun m ρ _ => Cert.Kernel28Ideal.Gen.frame m ρ
theorem frame_r28 : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

theorem algebraic28 : Cert.algebraic_Kernel28Ideal_Reference28Ideal := by
  intro m ρ m' ρ' _ hargs
  refine ⟨fun c => (Cert.Kernel28Ideal.Gen.dats m 0 c).arrAt 4 Cert.Kernel28Ideal.cfg0.N, fun c => (Cert.Kernel28Ideal.Gen.dats m 0 c).arrAt 5 Cert.Kernel28Ideal.cfg0.N,
    fun c => (Cert.Kernel28Ideal.Gen.dats m 0 c).arrAt 6 Cert.Kernel28Ideal.cfg0.N, fun c => (Cert.Kernel28Ideal.Gen.dats m 0 c).arrAt 7 Cert.Kernel28Ideal.cfg0.N,
    Cert.Kernel28Ideal.Value.run_blocks m ρ, ?_⟩
  refine (θ_run Cert.Reference28Ideal.defs _ _).mono (fun r h c => ?_) (Cert.Reference28Ideal.Value.run (F := Ideal) m' ρ')
  obtain ⟨h4, h5, h6, h7, ha⟩ := h c
  obtain ⟨a0, a1, a2, a3⟩ := hargs c
  refine ⟨h4.trans (a1.trans (Cert.Adam28.final4 m c).symm), h5.trans (((Cert.Adam28.ref_change _ _ _ _).trans ?_).trans (Cert.Adam28.final5 m c).symm),
    h6.trans (((Cert.Adam28.ref_first _ _).trans ?_).trans (Cert.Adam28.final6 m c).symm),
    h7.trans (((Cert.Adam28.ref_second _ _).trans ?_).trans (Cert.Adam28.final7 m c).symm), ha⟩
  · exact congr (congr (congr (congrArg (fun (w g p q : Cert.Kernel28Ideal.S1x1024.Idx → EReal) (i : Cert.Kernel28Ideal.S1x1024.Idx) => Cert.Adam.change (w i) (g i) (p i) (q i)) a0) a1) a2) a3
  · exact congr (congrArg (fun (g p : Cert.Kernel28Ideal.S1x1024.Idx → EReal) (i : Cert.Kernel28Ideal.S1x1024.Idx) => Cert.Adam.first (g i) (p i)) a1) a2
  · exact congr (congrArg (fun (g q : Cert.Kernel28Ideal.S1x1024.Idx → EReal) (i : Cert.Kernel28Ideal.S1x1024.Idx) => Cert.Adam.second (g i) (q i)) a1) a3

/-- The frames of the optimiser's step on the modulation's bias. -/
theorem frame_p29 : Cert.quiescent_Kernel29 := fun m ρ _ => Cert.Kernel29.Gen.frame m ρ
theorem frame_pi29 : Cert.quiescent_Kernel29Ideal := fun m ρ _ => Cert.Kernel29Ideal.Gen.frame m ρ
theorem frame_r29 : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

theorem algebraic29 : Cert.algebraic_Kernel29Ideal_Reference29Ideal := by
  intro m ρ m' ρ' _ hargs
  refine ⟨fun c => (Cert.Kernel29Ideal.Gen.dats m 0 c).arrAt 4 Cert.Kernel29Ideal.cfg0.N, fun c => (Cert.Kernel29Ideal.Gen.dats m 0 c).arrAt 5 Cert.Kernel29Ideal.cfg0.N,
    fun c => (Cert.Kernel29Ideal.Gen.dats m 0 c).arrAt 6 Cert.Kernel29Ideal.cfg0.N, fun c => (Cert.Kernel29Ideal.Gen.dats m 0 c).arrAt 7 Cert.Kernel29Ideal.cfg0.N,
    Cert.Kernel29Ideal.Value.run_blocks m ρ, ?_⟩
  refine (θ_run Cert.Reference29Ideal.defs _ _).mono (fun r h c => ?_) (Cert.Reference29Ideal.Value.run (F := Ideal) m' ρ')
  obtain ⟨h4, h5, h6, h7, ha⟩ := h c
  obtain ⟨a0, a1, a2, a3⟩ := hargs c
  refine ⟨h4.trans (a1.trans (Cert.Adam29.final4 m c).symm), h5.trans (((Cert.Adam29.ref_change _ _ _ _).trans ?_).trans (Cert.Adam29.final5 m c).symm),
    h6.trans (((Cert.Adam29.ref_first _ _).trans ?_).trans (Cert.Adam29.final6 m c).symm),
    h7.trans (((Cert.Adam29.ref_second _ _).trans ?_).trans (Cert.Adam29.final7 m c).symm), ha⟩
  · exact congr (congr (congr (congrArg (fun (w g p q : Cert.Kernel29Ideal.S2x9216.Idx → EReal) (i : Cert.Kernel29Ideal.S2x9216.Idx) => Cert.Adam.change (w i) (g i) (p i) (q i)) a0) a1) a2) a3
  · exact congr (congrArg (fun (g p : Cert.Kernel29Ideal.S2x9216.Idx → EReal) (i : Cert.Kernel29Ideal.S2x9216.Idx) => Cert.Adam.first (g i) (p i)) a1) a2
  · exact congr (congrArg (fun (g q : Cert.Kernel29Ideal.S2x9216.Idx → EReal) (i : Cert.Kernel29Ideal.S2x9216.Idx) => Cert.Adam.second (g i) (q i)) a1) a3

/-- The frames of the gradient of the modulation's weights. -/
theorem frame_p30 : Cert.quiescent_Kernel30 := fun m ρ _ => Cert.Kernel30.Gen.frame m ρ
theorem frame_pi30 : Cert.quiescent_Kernel30Ideal := fun m ρ _ => Cert.Kernel30Ideal.Gen.frame m ρ
theorem frame_r30 : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

theorem algebraic30 : Cert.algebraic_Kernel30Ideal_Reference30Ideal := by
  intro m ρ m' ρ' _ hargs
  refine ⟨fun c => (Cert.Kernel30Ideal.Gen.dats m 0 c).arrAt 2 Cert.Kernel30Ideal.cfg0.N, Cert.Kernel30Ideal.Value.run_blocks m ρ, ?_⟩
  refine (θ_run Cert.Reference30Ideal.defs _ _).mono (fun r h c => ?_) (Cert.Reference30Ideal.Value.run (F := Ideal) m' ρ')
  obtain ⟨hr, ha⟩ := h c
  obtain ⟨a0, a1⟩ := hargs c
  refine ⟨hr.trans ((Cert.Reference30Ideal.Read.val_main_v6_eq (F := Ideal) _ _).trans ((Cert.Mod30.ref _ _).trans (Eq.trans ?_ (Cert.Mod30.final m c).symm))), ha⟩
  exact congr (congrArg (fun (x : Cert.Kernel30Ideal.S8x1024.Idx → EReal) (d : Cert.Kernel30Ideal.S2x8x2304.Idx → EReal) (i : Cert.Kernel30Ideal.S2x1024x2304.Idx) => Cert.Mod30.grad x d (i 0) (i 1) (i 2)) a0) a1

/-- The frames of the gradient of the modulation's bias. -/
theorem frame_p31 : Cert.quiescent_Kernel31 := fun m ρ _ => Cert.Kernel31.Gen.frame m ρ
theorem frame_pi31 : Cert.quiescent_Kernel31Ideal := fun m ρ _ => Cert.Kernel31Ideal.Gen.frame m ρ
theorem frame_r31 : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

theorem algebraic31 : Cert.algebraic_Kernel31Ideal_Reference31Ideal := by
  intro m ρ m' ρ' _ hargs
  refine ⟨fun c => (Cert.Kernel31Ideal.Gen.dats m 0 c).arrAt 1 Cert.Kernel31Ideal.cfg0.N, Cert.Kernel31Ideal.Value.run_blocks m ρ, ?_⟩
  refine (θ_run Cert.Reference31Ideal.defs _ _).mono (fun r h c => ?_) (Cert.Reference31Ideal.Value.run (F := Ideal) m' ρ')
  obtain ⟨hr, ha⟩ := h c
  have a0 := hargs c
  refine ⟨hr.trans ((Cert.Reference31Ideal.Read.val_main_v5_eq (F := Ideal) _).trans ((Cert.Mod31.ref _).trans (Eq.trans ?_ (Cert.Mod31.final m c).symm))), ha⟩
  exact congrArg (fun (d : Cert.Kernel31Ideal.S8x18432.Idx → EReal) (i : Cert.Kernel31Ideal.S1x18432.Idx) => Cert.Mod31.grad d (i 1)) a0

/-- The frames of the modulation. -/
theorem frame_p32 : Cert.quiescent_Kernel32 := fun m ρ _ => Cert.Kernel32.Gen.frame m ρ
theorem frame_pi32 : Cert.quiescent_Kernel32Ideal := fun m ρ _ => Cert.Kernel32Ideal.Gen.frame m ρ
theorem frame_r32 : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

theorem algebraic32 : Cert.algebraic_Kernel32Ideal_Reference32Ideal := by
  intro m ρ m' ρ' _ hargs
  refine ⟨fun c => (Cert.Kernel32Ideal.Gen.dats m 0 c).arrAt 2 Cert.Kernel32Ideal.cfg0.N, Cert.Kernel32Ideal.Value.run_blocks m ρ, ?_⟩
  refine (θ_run Cert.Reference32Ideal.defs _ _).mono (fun r h c => ?_) (Cert.Reference32Ideal.Value.run (F := Ideal) m' ρ')
  obtain ⟨hr, ha⟩ := h c
  obtain ⟨a0, a1⟩ := hargs c
  refine ⟨hr.trans ((Cert.Reference32Ideal.Read.val_main_v8_eq (F := Ideal) _ _).trans ((Cert.Mod32.ref _ _).trans (Eq.trans ?_ (Cert.Mod32.final m c).symm))), ha⟩
  exact congr (congrArg (Cert.Mod32.both) a0) a1

/-! ## The final norm with the loss -/

theorem frame_p33 : Cert.quiescent_Kernel33 := fun m ρ _ => Cert.Kernel33.Gen.frame m ρ
theorem frame_pi33 : Cert.quiescent_Kernel33Ideal := fun m ρ _ => Cert.Kernel33Ideal.Gen.frame m ρ
theorem frame_r33 : Cert.quiescent_Reference33Ideal := fun m ρ _ =>
  (θ_run Cert.Reference33Ideal.defs _ _).mono (fun r h => ⟨fun c => (h c).2.2.2, sem_eq_zero_of_no_sems (by decide) r.2⟩)
    (Cert.Reference33Ideal.Value.run (F := Ideal) m ρ)

theorem algebraic33 : Cert.algebraic_Kernel33Ideal_Reference33Ideal := by
  intro m ρ m' ρ' _ hargs
  refine ⟨fun c => (Cert.Kernel33Ideal.Gen.dats m 0 c).arrAt 3 Cert.Kernel33Ideal.cfg0.N,
    fun c => (Cert.Kernel33Ideal.Gen.dats m 0 c).arrAt 4 Cert.Kernel33Ideal.cfg0.N,
    fun c => (Cert.Kernel33Ideal.Gen.dats m 0 c).arrAt 5 Cert.Kernel33Ideal.cfg0.N, Cert.Kernel33Ideal.Value.run_blocks m ρ, ?_⟩
  refine (θ_run Cert.Reference33Ideal.defs _ _).mono (fun r h c => ?_) (Cert.Reference33Ideal.Value.run (F := Ideal) m' ρ')
  obtain ⟨h50, h51, h72, ha⟩ := h c
  obtain ⟨a0, a1, a2⟩ := hargs c
  refine ⟨h50.trans ?_, h51.trans ?_, h72.trans ?_, ha⟩
  · refine (Cert.Reference33Ideal.Read.val_main_v50_eq (F := Ideal) m' c).trans ((Cert.Loss.ref50 _ _ _).trans ?_)
    exact (congr (congr (congrArg Cert.Loss.resDx a0) a1) a2).trans (Cert.Loss.final3 m c).symm
  · refine (Cert.Reference33Ideal.Read.val_main_v51_eq (F := Ideal) _ _ _).trans ((Cert.Loss.ref51 _ _ _).trans ?_)
    exact (congr (congr (congrArg Cert.Loss.resG a0) a1) a2).trans (Cert.Loss.final4 m c).symm
  · refine (Cert.Reference33Ideal.Read.val_main_v72_eq (F := Ideal) _ _ _).trans ((Cert.Loss.ref72 _ _ _).trans ?_)
    exact (congr (congr (congrArg Cert.Loss.resL a0) a1) a2).trans (Cert.Loss.final5 m c).symm

theorem claim : Cert.Claim := ⟨Cert.Kernel.Gen.facts, Cert.KernelIdeal.Gen.facts, Cert.ReferenceIdeal.Gen.facts,
  Cert.Kernel5.Gen.facts, Cert.Kernel5Ideal.Gen.facts, Cert.Reference5Ideal.Gen.facts, Cert.Kernel2.Gen.facts,
  Cert.Kernel2Ideal.Gen.facts, Cert.Reference2Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel3.Gen.facts,
  Cert.Kernel3Ideal.Gen.facts, Cert.Reference3Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel4.Gen.facts,
  Cert.Kernel4Ideal.Gen.facts, Cert.Reference4Ideal.Gen.facts, Cert.Kernel14.Gen.facts, Cert.Kernel14Ideal.Gen.facts,
  Cert.Reference14Ideal.Gen.facts, Cert.Kernel15.Gen.facts, Cert.Kernel15Ideal.Gen.facts, Cert.Reference15Ideal.Gen.facts,
  Cert.Kernel16.Gen.facts, Cert.Kernel16Ideal.Gen.facts, Cert.Reference16Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts, Cert.Kernel19.Gen.facts,
  Cert.Kernel19Ideal.Gen.facts, Cert.Reference19Ideal.Gen.facts, Cert.Kernel20.Gen.facts, Cert.Kernel20Ideal.Gen.facts,
  Cert.Reference20Ideal.Gen.facts, Cert.Kernel21.Gen.facts, Cert.Kernel21Ideal.Gen.facts, Cert.Reference21Ideal.Gen.facts,
  Cert.Kernel22.Gen.facts, Cert.Kernel22Ideal.Gen.facts, Cert.Reference22Ideal.Gen.facts, Cert.Kernel23.Gen.facts,
  Cert.Kernel23Ideal.Gen.facts, Cert.Reference23Ideal.Gen.facts, Cert.Kernel24.Gen.facts, Cert.Kernel24Ideal.Gen.facts,
  Cert.Reference24Ideal.Gen.facts, Cert.Kernel25.Gen.facts, Cert.Kernel25Ideal.Gen.facts, Cert.Reference25Ideal.Gen.facts,
  Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts,
  Cert.Kernel30.Gen.facts, Cert.Kernel30Ideal.Gen.facts, Cert.Reference30Ideal.Gen.facts, Cert.Kernel31.Gen.facts,
  Cert.Kernel31Ideal.Gen.facts, Cert.Reference31Ideal.Gen.facts, Cert.Kernel32.Gen.facts, Cert.Kernel32Ideal.Gen.facts,
  Cert.Reference32Ideal.Gen.facts, Cert.Kernel33.Gen.facts, Cert.Kernel33Ideal.Gen.facts, Cert.Reference33Ideal.Gen.facts,
  Cert.Pre_finite.Gen.facts, Cert.Pre_finite5.Gen.facts, frame_p, frame_pi, frame_pi_finite, frame_r, frame_r_finite, frame_p5,
  frame_pi5, frame_pi5_finite, frame_r5, frame_r5_finite, frame_p2, frame_pi2, frame_r2, frame_p8, frame_pi8, frame_r8,
  frame_p9, frame_pi9, frame_r9, frame_p10, frame_pi10, frame_r10, frame_p3, frame_pi3, frame_r3, frame_p11, frame_pi11,
  frame_r11, frame_p12, frame_pi12, frame_r12, frame_p13, frame_pi13, frame_r13, frame_p4, frame_pi4, frame_r4, frame_p14,
  frame_pi14, frame_r14, frame_p15, frame_pi15, frame_r15, frame_p16, frame_pi16, frame_r16, frame_p6, frame_pi6, frame_r6,
  frame_p7, frame_pi7, frame_r7, frame_p17, frame_pi17, frame_r17, frame_p18, frame_pi18, frame_r18, frame_p19, frame_pi19,
  frame_r19, frame_p20, frame_pi20, frame_r20, frame_p21, frame_pi21, frame_r21, frame_p22, frame_pi22, frame_r22, frame_p23,
  frame_pi23, frame_r23, frame_p24, frame_pi24, frame_r24, frame_p25, frame_pi25, frame_r25, frame_p26, frame_pi26, frame_r26,
  frame_p27, frame_pi27, frame_r27, frame_p28, frame_pi28, frame_r28, frame_p29, frame_pi29, frame_r29, frame_p30, frame_pi30,
  frame_r30, frame_p31, frame_pi31, frame_r31, frame_p32, frame_pi32, frame_r32, frame_p33, frame_pi33, frame_r33, preserves,
  algebraic, trivial, algebraic5, trivial, algebraic2, trivial, algebraic8, trivial, algebraic9, trivial, algebraic10, trivial,
  algebraic3, trivial, algebraic11, trivial, algebraic12, trivial, algebraic13, trivial, algebraic4, trivial, algebraic14,
  trivial, algebraic15, trivial, algebraic16, trivial, algebraic6, trivial, algebraic7, trivial, algebraic17, trivial,
  algebraic18, trivial, algebraic19, trivial, algebraic20, trivial, algebraic21, trivial, algebraic22, trivial, algebraic23,
  trivial, algebraic24, trivial, algebraic25, trivial, algebraic26, trivial, algebraic27, trivial, algebraic28, trivial,
  algebraic29, trivial, algebraic30, trivial, algebraic31, trivial, algebraic32, trivial, algebraic33⟩

end Cert.Proof

end
